-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_all [hPre_finite_all : Cert.Pre_finite_all.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_all.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_all [hPre_finite_all : Cert.Pre_finite_all.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_all.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      True)
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      True)
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      True)
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_finite_all [hKernel8Ideal : Cert.Kernel8Ideal.Facts] [hPre_finite_all : Cert.Pre_finite_all.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_all m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_finite_all [hReference8Ideal : Cert.Reference8Ideal.Facts] [hPre_finite_all : Cert.Pre_finite_all.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_all m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  IdealRules.named_const.Statement Cert.KernelIdeal.κ "c2" .f32 0x3DD53B95#32 (((Real.sqrt 192)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v11)) (v1 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_v10) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v65) = v0 c
          ∧ r.2.mem ((c.tc : Thread Cert.Reference4Ideal.nD Cert.Reference4Ideal.τ).loc Cert.Reference4Ideal.main_v67) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_v13) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v31_0)) (v1 : (c : Dev Cert.Kernel6Ideal.nD) → Buf (Elt Ideal) ((c.tc : Thread Cert.Kernel6Ideal.nD Cert.Kernel6Ideal.τ).loc Cert.Kernel6Ideal.main_v31_1)) (v2 : (c : Dev Cert.Kernel6Ideal.nD) → Buf (Elt Ideal) ((c.tc : Thread Cert.Kernel6Ideal.nD Cert.Kernel6Ideal.τ).loc Cert.Kernel6Ideal.main_v31_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v31_0) = v0 c
          ∧ r.2.mem ((c.tc : Thread Cert.Kernel6Ideal.nD Cert.Kernel6Ideal.τ).loc Cert.Kernel6Ideal.main_v31_1) = v1 c
          ∧ r.2.mem ((c.tc : Thread Cert.Kernel6Ideal.nD Cert.Kernel6Ideal.τ).loc Cert.Kernel6Ideal.main_v31_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v87) = v0 c
          ∧ r.2.mem ((c.tc : Thread Cert.Reference6Ideal.nD Cert.Reference6Ideal.τ).loc Cert.Reference6Ideal.main_v88) = v1 c
          ∧ r.2.mem ((c.tc : Thread Cert.Reference6Ideal.nD Cert.Reference6Ideal.τ).loc Cert.Reference6Ideal.main_v90) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  IdealRules.named_const.Statement Cert.Kernel7Ideal.κ "rate" .f32 0xBE935D8E#32 ((-((Real.log 10000) * 32⁻¹) : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      True) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c)
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_v19) = v1 c)

def preserves_Kernel8_Kernel8Ideal : Prop :=
  IdealRules.named_const.Statement Cert.Kernel8Ideal.κ "scale" .f32 0x3D93CD3A#32 (((Real.sqrt 192)⁻¹ : ℝ) : EReal)

def algebraic_Kernel8Ideal_Reference8Ideal_pre_finite_all [hKernel8Ideal : Cert.Kernel8Ideal.Facts] [hReference8Ideal : Cert.Reference8Ideal.Facts] [hPre_finite_all : Cert.Pre_finite_all.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_all m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite_all : Cert.Pre_finite_all.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_all (hKernel8Ideal := hKernel8Ideal) (hPre_finite_all := hPre_finite_all)
    ∧ quiescent_Reference8Ideal (hReference8Ideal := hReference8Ideal)
    ∧ quiescent_Reference8Ideal_pre_finite_all (hReference8Ideal := hReference8Ideal) (hPre_finite_all := hPre_finite_all)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_all (hKernel8Ideal := hKernel8Ideal) (hReference8Ideal := hReference8Ideal) (hPre_finite_all := hPre_finite_all)
-- ==== Pre_finite.lean ====
abbrev S4x2048x16x128 : Shape := ⟨4, ![4, 2048, 16, 128]⟩
abbrev S4x2048x16x64 : Shape := ⟨4, ![4, 2048, 16, 64]⟩
abbrev S4x2048x64 : Shape := ⟨3, ![4, 2048, 64]⟩
abbrev S2x2048x11264 : Shape := ⟨3, ![2, 2048, 11264]⟩
abbrev S1x2048x2048 : Shape := ⟨3, ![1, 2048, 2048]⟩
abbrev S_ : Shape := ⟨0, ![]⟩

class Facts : Prop where
  bcast_S_S4x2048x16x128 : S_.BroadcastsInDim S4x2048x16x128 (![] : Fin 0 → Fin S4x2048x16x128.rank)
  reducesTo_S4x2048x16x128_S_d0_1_2_3 : S4x2048x16x128.ReducesTo [0, 1, 2, 3] S_
  h_S_ : 0 < S_.numel
  bcast_S_S4x2048x16x64 : S_.BroadcastsInDim S4x2048x16x64 (![] : Fin 0 → Fin S4x2048x16x64.rank)
  reducesTo_S4x2048x16x64_S_d0_1_2_3 : S4x2048x16x64.ReducesTo [0, 1, 2, 3] S_
  bcast_S_S4x2048x64 : S_.BroadcastsInDim S4x2048x64 (![] : Fin 0 → Fin S4x2048x64.rank)
  reducesTo_S4x2048x64_S_d0_1_2 : S4x2048x64.ReducesTo [0, 1, 2] S_

variable [Facts]

def fn_part1 {F : FTy → Type} [FloatOps F] (main_v13 : IVec S_ 1) (main_v16 : IVec S4x2048x64 1) : IVec S_ 1 :=
  let main_c_5 : IVec S_ 1 := constantI S_ 1 1#1
  let main_v17 : IVec S_ 1 := (fun x v => Host.reduce IntOp.andi x v reducesTo_S4x2048x64_S_d0_1_2 h_S_) main_v16 main_c_5
  let main_v18 : IVec S_ 1 := andi main_v13 main_v17
  main_v18

def fn {F : FTy → Type} [FloatOps F] (main_arg0 : FVec F S4x2048x16x128 .f32) (main_arg1 : FVec F S4x2048x16x64 .f32) (main_arg2 : FVec F S4x2048x16x128 .f32) (main_arg3 : FVec F S4x2048x64 .f32) (main_arg4 : FVec F S4x2048x16x128 .f32) (main_arg5 : FVec F S2x2048x11264 .f32) (main_arg6 : FVec F S1x2048x2048 .f32) : IVec S_ 1 :=
  let main_v0 : FVec F S4x2048x16x128 .f32 := Host.absf main_arg0
  let main_cst : FVec F S_ .f32 := constant S_ .f32 0x7F800000#32
  let main_v1 : FVec F S4x2048x16x128 .f32 := broadcastInDim S4x2048x16x128 ![] bcast_S_S4x2048x16x128 main_cst
  let main_v2 : IVec S4x2048x16x128 1 := cmpf .olt main_v0 main_v1
  let main_c : IVec S_ 1 := constantI S_ 1 1#1
  let main_v3 : IVec S_ 1 := (fun x v => Host.reduce IntOp.andi x v reducesTo_S4x2048x16x128_S_d0_1_2_3 h_S_) main_v2 main_c
  let main_v4 : FVec F S4x2048x16x64 .f32 := Host.absf main_arg1
  let main_cst_0 : FVec F S_ .f32 := constant S_ .f32 0x7F800000#32
  let main_v5 : FVec F S4x2048x16x64 .f32 := broadcastInDim S4x2048x16x64 ![] bcast_S_S4x2048x16x64 main_cst_0
  let main_v6 : IVec S4x2048x16x64 1 := cmpf .olt main_v4 main_v5
  let main_c_1 : IVec S_ 1 := constantI S_ 1 1#1
  let main_v7 : IVec S_ 1 := (fun x v => Host.reduce IntOp.andi x v reducesTo_S4x2048x16x64_S_d0_1_2_3 h_S_) main_v6 main_c_1
  let main_v8 : IVec S_ 1 := andi main_v3 main_v7
  let main_v9 : FVec F S4x2048x16x128 .f32 := Host.absf main_arg2
  let main_cst_2 : FVec F S_ .f32 := constant S_ .f32 0x7F800000#32
  let main_v10 : FVec F S4x2048x16x128 .f32 := broadcastInDim S4x2048x16x128 ![] bcast_S_S4x2048x16x128 main_cst_2
  let main_v11 : IVec S4x2048x16x128 1 := cmpf .olt main_v9 main_v10
  let main_c_3 : IVec S_ 1 := constantI S_ 1 1#1
  let main_v12 : IVec S_ 1 := (fun x v => Host.reduce IntOp.andi x v reducesTo_S4x2048x16x128_S_d0_1_2_3 h_S_) main_v11 main_c_3
  let main_v13 : IVec S_ 1 := andi main_v8 main_v12
  let main_v14 : FVec F S4x2048x64 .f32 := Host.absf main_arg3
  let main_cst_4 : FVec F S_ .f32 := constant S_ .f32 0x7F800000#32
  let main_v15 : FVec F S4x2048x64 .f32 := broadcastInDim S4x2048x64 ![] bcast_S_S4x2048x64 main_cst_4
  let main_v16 : IVec S4x2048x64 1 := cmpf .olt main_v14 main_v15
  fn_part1 (F := F) main_v13 main_v16
-- ==== Pre_finite_all.lean ====
abbrev S8x32x16x128 : Shape := ⟨4, ![8, 32, 16, 128]⟩
abbrev S8x32x16x64 : Shape := ⟨4, ![8, 32, 16, 64]⟩
abbrev S8x1024x512 : Shape := ⟨3, ![8, 1024, 512]⟩
abbrev S8x1024x64 : Shape := ⟨3, ![8, 1024, 64]⟩
abbrev S8x32x512 : Shape := ⟨3, ![8, 32, 512]⟩
abbrev S8x32x64 : Shape := ⟨3, ![8, 32, 64]⟩
abbrev S512x4096 : Shape := ⟨2, ![512, 4096]⟩
abbrev S_ : Shape := ⟨0, ![]⟩

class Facts : Prop where
  bcast_S_S8x32x16x128 : S_.BroadcastsInDim S8x32x16x128 (![] : Fin 0 → Fin S8x32x16x128.rank)
  reducesTo_S8x32x16x128_S_d0_1_2_3 : S8x32x16x128.ReducesTo [0, 1, 2, 3] S_
  h_S_ : 0 < S_.numel
  bcast_S_S8x32x16x64 : S_.BroadcastsInDim S8x32x16x64 (![] : Fin 0 → Fin S8x32x16x64.rank)
  reducesTo_S8x32x16x64_S_d0_1_2_3 : S8x32x16x64.ReducesTo [0, 1, 2, 3] S_
  bcast_S_S8x1024x512 : S_.BroadcastsInDim S8x1024x512 (![] : Fin 0 → Fin S8x1024x512.rank)
  reducesTo_S8x1024x512_S_d0_1_2 : S8x1024x512.ReducesTo [0, 1, 2] S_
  bcast_S_S8x1024x64 : S_.BroadcastsInDim S8x1024x64 (![] : Fin 0 → Fin S8x1024x64.rank)
  reducesTo_S8x1024x64_S_d0_1_2 : S8x1024x64.ReducesTo [0, 1, 2] S_
  bcast_S_S8x32x512 : S_.BroadcastsInDim S8x32x512 (![] : Fin 0 → Fin S8x32x512.rank)
  reducesTo_S8x32x512_S_d0_1_2 : S8x32x512.ReducesTo [0, 1, 2] S_
  bcast_S_S8x32x64 : S_.BroadcastsInDim S8x32x64 (![] : Fin 0 → Fin S8x32x64.rank)
  reducesTo_S8x32x64_S_d0_1_2 : S8x32x64.ReducesTo [0, 1, 2] S_
  bcast_S_S512x4096 : S_.BroadcastsInDim S512x4096 (![] : Fin 0 → Fin S512x4096.rank)
  reducesTo_S512x4096_S_d0_1 : S512x4096.ReducesTo [0, 1] S_

variable [Facts]

def fn_part1 {F : FTy → Type} [FloatOps F] (main_arg4 : FVec F S8x32x512 .f32) (main_arg5 : FVec F S8x32x64 .f32) (main_arg6 : FVec F S512x4096 .f32) (main_v13 : IVec S_ 1) (main_v16 : IVec S8x1024x64 1) : IVec S_ 1 :=
  let main_c_5 : IVec S_ 1 := constantI S_ 1 1#1
  let main_v17 : IVec S_ 1 := (fun x v => Host.reduce IntOp.andi x v reducesTo_S8x1024x64_S_d0_1_2 h_S_) main_v16 main_c_5
  let main_v18 : IVec S_ 1 := andi main_v13 main_v17
  let main_v19 : FVec F S8x32x512 .f32 := Host.absf main_arg4
  let main_cst_6 : FVec F S_ .f32 := constant S_ .f32 0x7F800000#32
  let main_v20 : FVec F S8x32x512 .f32 := broadcastInDim S8x32x512 ![] bcast_S_S8x32x512 main_cst_6
  let main_v21 : IVec S8x32x512 1 := cmpf .olt main_v19 main_v20
  let main_c_7 : IVec S_ 1 := constantI S_ 1 1#1
  let main_v22 : IVec S_ 1 := (fun x v => Host.reduce IntOp.andi x v reducesTo_S8x32x512_S_d0_1_2 h_S_) main_v21 main_c_7
  let main_v23 : IVec S_ 1 := andi main_v18 main_v22
  let main_v24 : FVec F S8x32x64 .f32 := Host.absf main_arg5
  let main_cst_8 : FVec F S_ .f32 := constant S_ .f32 0x7F800000#32
  let main_v25 : FVec F S8x32x64 .f32 := broadcastInDim S8x32x64 ![] bcast_S_S8x32x64 main_cst_8
  let main_v26 : IVec S8x32x64 1 := cmpf .olt main_v24 main_v25
  let main_c_9 : IVec S_ 1 := constantI S_ 1 1#1
  let main_v27 : IVec S_ 1 := (fun x v => Host.reduce IntOp.andi x v reducesTo_S8x32x64_S_d0_1_2 h_S_) main_v26 main_c_9
  let main_v28 : IVec S_ 1 := andi main_v23 main_v27
  let main_v29 : FVec F S512x4096 .f32 := Host.absf main_arg6
  let main_cst_10 : FVec F S_ .f32 := constant S_ .f32 0x7F800000#32
  let main_v30 : FVec F S512x4096 .f32 := broadcastInDim S512x4096 ![] bcast_S_S512x4096 main_cst_10
  let main_v31 : IVec S512x4096 1 := cmpf .olt main_v29 main_v30
  let main_c_11 : IVec S_ 1 := constantI S_ 1 1#1
  let main_v32 : IVec S_ 1 := (fun x v => Host.reduce IntOp.andi x v reducesTo_S512x4096_S_d0_1 h_S_) main_v31 main_c_11
  let main_v33 : IVec S_ 1 := andi main_v28 main_v32
  main_v33

def fn {F : FTy → Type} [FloatOps F] (main_arg0 : FVec F S8x32x16x128 .f32) (main_arg1 : FVec F S8x32x16x64 .f32) (main_arg2 : FVec F S8x1024x512 .f32) (main_arg3 : FVec F S8x1024x64 .f32) (main_arg4 : FVec F S8x32x512 .f32) (main_arg5 : FVec F S8x32x64 .f32) (main_arg6 : FVec F S512x4096 .f32) : IVec S_ 1 :=
  let main_v0 : FVec F S8x32x16x128 .f32 := Host.absf main_arg0
  let main_cst : FVec F S_ .f32 := constant S_ .f32 0x7F800000#32
  let main_v1 : FVec F S8x32x16x128 .f32 := broadcastInDim S8x32x16x128 ![] bcast_S_S8x32x16x128 main_cst
  let main_v2 : IVec S8x32x16x128 1 := cmpf .olt main_v0 main_v1
  let main_c : IVec S_ 1 := constantI S_ 1 1#1
  let main_v3 : IVec S_ 1 := (fun x v => Host.reduce IntOp.andi x v reducesTo_S8x32x16x128_S_d0_1_2_3 h_S_) main_v2 main_c
  let main_v4 : FVec F S8x32x16x64 .f32 := Host.absf main_arg1
  let main_cst_0 : FVec F S_ .f32 := constant S_ .f32 0x7F800000#32
  let main_v5 : FVec F S8x32x16x64 .f32 := broadcastInDim S8x32x16x64 ![] bcast_S_S8x32x16x64 main_cst_0
  let main_v6 : IVec S8x32x16x64 1 := cmpf .olt main_v4 main_v5
  let main_c_1 : IVec S_ 1 := constantI S_ 1 1#1
  let main_v7 : IVec S_ 1 := (fun x v => Host.reduce IntOp.andi x v reducesTo_S8x32x16x64_S_d0_1_2_3 h_S_) main_v6 main_c_1
  let main_v8 : IVec S_ 1 := andi main_v3 main_v7
  let main_v9 : FVec F S8x1024x512 .f32 := Host.absf main_arg2
  let main_cst_2 : FVec F S_ .f32 := constant S_ .f32 0x7F800000#32
  let main_v10 : FVec F S8x1024x512 .f32 := broadcastInDim S8x1024x512 ![] bcast_S_S8x1024x512 main_cst_2
  let main_v11 : IVec S8x1024x512 1 := cmpf .olt main_v9 main_v10
  let main_c_3 : IVec S_ 1 := constantI S_ 1 1#1
  let main_v12 : IVec S_ 1 := (fun x v => Host.reduce IntOp.andi x v reducesTo_S8x1024x512_S_d0_1_2 h_S_) main_v11 main_c_3
  let main_v13 : IVec S_ 1 := andi main_v8 main_v12
  let main_v14 : FVec F S8x1024x64 .f32 := Host.absf main_arg3
  let main_cst_4 : FVec F S_ .f32 := constant S_ .f32 0x7F800000#32
  let main_v15 : FVec F S8x1024x64 .f32 := broadcastInDim S8x1024x64 ![] bcast_S_S8x1024x64 main_cst_4
  let main_v16 : IVec S8x1024x64 1 := cmpf .olt main_v14 main_v15
  fn_part1 (F := F) main_arg4 main_arg5 main_arg6 main_v13 main_v16
-- ==== Kernel.lean ====
abbrev S4x2048x16x128 : Shape := ⟨4, ![4, 2048, 16, 128]⟩
abbrev S4x2048x16x64 : Shape := ⟨4, ![4, 2048, 16, 64]⟩
abbrev S4x2048x64 : Shape := ⟨3, ![4, 2048, 64]⟩
abbrev S2x2048x11264 : Shape := ⟨3, ![2, 2048, 11264]⟩
abbrev S1x2048x2048 : Shape := ⟨3, ![1, 2048, 2048]⟩
abbrev S4x2048x1x64 : Shape := ⟨4, ![4, 2048, 1, 64]⟩
abbrev S_ : Shape := ⟨0, ![]⟩
abbrev S4x2048x16x256 : Shape := ⟨4, ![4, 2048, 16, 256]⟩
abbrev S16x4x2048x256 : Shape := ⟨4, ![16, 4, 2048, 256]⟩
abbrev S16x8192x256 : Shape := ⟨3, ![16, 8192, 256]⟩
abbrev S16x4x2048x128 : Shape := ⟨4, ![16, 4, 2048, 128]⟩
abbrev S16x8192x128 : Shape := ⟨3, ![16, 8192, 128]⟩
abbrev S8192x2048 : Shape := ⟨2, ![8192, 2048]⟩
abbrev S2048x11264 : Shape := ⟨2, ![2048, 11264]⟩
abbrev S2048x2048 : Shape := ⟨2, ![2048, 2048]⟩
abbrev S1x2048x256 : Shape := ⟨3, ![1, 2048, 256]⟩
abbrev S1x2048x128 : Shape := ⟨3, ![1, 2048, 128]⟩
abbrev S1x32x11264 : Shape := ⟨3, ![1, 32, 11264]⟩
abbrev S1x32x2048 : Shape := ⟨3, ![1, 32, 2048]⟩
abbrev S2048x128 : Shape := ⟨2, ![2048, 128]⟩
abbrev S32x11264 : Shape := ⟨2, ![32, 11264]⟩
abbrev S32x2048 : Shape := ⟨2, ![32, 2048]⟩
abbrev S256x256 : Shape := ⟨2, ![256, 256]⟩
abbrev S1x256x256 : Shape := ⟨3, ![1, 256, 256]⟩
abbrev S1x512x256 : Shape := ⟨3, ![1, 512, 256]⟩
abbrev S512x256 : Shape := ⟨2, ![512, 256]⟩
abbrev S256x512 : Shape := ⟨2, ![256, 512]⟩
abbrev S256 : Shape := ⟨1, ![256]⟩
abbrev S256x1 : Shape := ⟨2, ![256, 1]⟩
abbrev S1x256x128 : Shape := ⟨3, ![1, 256, 128]⟩
abbrev S256x128 : Shape := ⟨2, ![256, 128]⟩
abbrev S1x768x256 : Shape := ⟨3, ![1, 768, 256]⟩
abbrev S768x256 : Shape := ⟨2, ![768, 256]⟩
abbrev S256x768 : Shape := ⟨2, ![256, 768]⟩
abbrev S1x1024x256 : Shape := ⟨3, ![1, 1024, 256]⟩
abbrev S1024x256 : Shape := ⟨2, ![1024, 256]⟩
abbrev S256x1024 : Shape := ⟨2, ![256, 1024]⟩
abbrev S1x512x128 : Shape := ⟨3, ![1, 512, 128]⟩
abbrev S512x128 : Shape := ⟨2, ![512, 128]⟩
abbrev S1x1280x256 : Shape := ⟨3, ![1, 1280, 256]⟩
abbrev S1280x256 : Shape := ⟨2, ![1280, 256]⟩
abbrev S256x1280 : Shape := ⟨2, ![256, 1280]⟩
abbrev S1x768x128 : Shape := ⟨3, ![1, 768, 128]⟩
abbrev S768x128 : Shape := ⟨2, ![768, 128]⟩
abbrev S1x1536x256 : Shape := ⟨3, ![1, 1536, 256]⟩
abbrev S1536x256 : Shape := ⟨2, ![1536, 256]⟩
abbrev S256x1536 : Shape := ⟨2, ![256, 1536]⟩
abbrev S1x1024x128 : Shape := ⟨3, ![1, 1024, 128]⟩
abbrev S1024x128 : Shape := ⟨2, ![1024, 128]⟩
abbrev S1x1792x256 : Shape := ⟨3, ![1, 1792, 256]⟩
abbrev S1792x256 : Shape := ⟨2, ![1792, 256]⟩
abbrev S256x1792 : Shape := ⟨2, ![256, 1792]⟩
abbrev S1x1280x128 : Shape := ⟨3, ![1, 1280, 128]⟩
abbrev S1280x128 : Shape := ⟨2, ![1280, 128]⟩
abbrev S1x1536x128 : Shape := ⟨3, ![1, 1536, 128]⟩
abbrev S1536x128 : Shape := ⟨2, ![1536, 128]⟩
abbrev S1x1792x128 : Shape := ⟨3, ![1, 1792, 128]⟩
abbrev S1792x128 : Shape := ⟨2, ![1792, 128]⟩

abbrev nBuf : Space → Nat
  | .hbm => 29
  | .vmem => 16
  | .smem => 0
  | _ => 0

abbrev bufTy : (tb : Table) → Fin (tcTables nBuf tb) → BufTy
  | .hbm, ⟨0, _⟩ => ⟨S4x2048x16x128, .f32⟩
  | .hbm, ⟨1, _⟩ => ⟨S4x2048x16x64, .f32⟩
  | .hbm, ⟨2, _⟩ => ⟨S4x2048x16x128, .f32⟩
  | .hbm, ⟨3, _⟩ => ⟨S4x2048x64, .f32⟩
  | .hbm, ⟨4, _⟩ => ⟨S4x2048x16x128, .f32⟩
  | .hbm, ⟨5, _⟩ => ⟨S2x2048x11264, .f32⟩
  | .hbm, ⟨6, _⟩ => ⟨S1x2048x2048, .f32⟩
  | .hbm, ⟨7, _⟩ => ⟨S4x2048x1x64, .f32⟩
  | .hbm, ⟨8, _⟩ => ⟨S4x2048x16x64, .f32⟩
  | .hbm, ⟨9, _⟩ => ⟨S_, .i32⟩
  | .hbm, ⟨10, _⟩ => ⟨S_, .f32⟩
  | .hbm, ⟨11, _⟩ => ⟨S4x2048x16x128, .f32⟩
  | .hbm, ⟨12, _⟩ => ⟨S4x2048x16x256, .f32⟩
  | .hbm, ⟨13, _⟩ => ⟨S16x4x2048x256, .f32⟩
  | .hbm, ⟨14, _⟩ => ⟨S16x8192x256, .f32⟩
  | .hbm, ⟨15, _⟩ => ⟨S16x8192x256, .bf16⟩
  | .hbm, ⟨16, _⟩ => ⟨S_, .i32⟩
  | .hbm, ⟨17, _⟩ => ⟨S_, .f32⟩
  | .hbm, ⟨18, _⟩ => ⟨S4x2048x16x128, .f32⟩
  | .hbm, ⟨19, _⟩ => ⟨S4x2048x16x256, .f32⟩
  | .hbm, ⟨20, _⟩ => ⟨S16x4x2048x256, .f32⟩
  | .hbm, ⟨21, _⟩ => ⟨S16x8192x256, .f32⟩
  | .hbm, ⟨22, _⟩ => ⟨S16x8192x256, .bf16⟩
  | .hbm, ⟨23, _⟩ => ⟨S16x4x2048x128, .f32⟩
  | .hbm, ⟨24, _⟩ => ⟨S16x8192x128, .f32⟩
  | .hbm, ⟨25, _⟩ => ⟨S16x8192x128, .bf16⟩
  | .hbm, ⟨26, _⟩ => ⟨S8192x2048, .bf16⟩
  | .hbm, ⟨27, _⟩ => ⟨S2048x11264, .bf16⟩
  | .hbm, ⟨28, _⟩ => ⟨S2048x2048, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x32x11264, .f32⟩
  | .local _ .vmem, ⟨7, _⟩ => ⟨S1x32x11264, .f32⟩
  | .local _ .vmem, ⟨8, _⟩ => ⟨S1x32x2048, .f32⟩
  | .local _ .vmem, ⟨9, _⟩ => ⟨S1x32x2048, .f32⟩
  | .local _ .vmem, ⟨10, _⟩ => ⟨S2048x128, .bf16⟩
  | .local _ .vmem, ⟨11, _⟩ => ⟨S2048x128, .bf16⟩
  | .local _ .vmem, ⟨12, _⟩ => ⟨S32x11264, .bf16⟩
  | .local _ .vmem, ⟨13, _⟩ => ⟨S32x11264, .bf16⟩
  | .local _ .vmem, ⟨14, _⟩ => ⟨S32x2048, .bf16⟩
  | .local _ .vmem, ⟨15, _⟩ => ⟨S32x2048, .bf16⟩
  | _, _ => ⟨S4x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let c0_i32 : BitVec 32 := 0#32
  let v2 : BitVec 1 := Scalar.cmpi .eq c1_i32 c0_i32
  let c1_i32_0 : BitVec 32 := 1#32
  let v3 : BitVec 32 := Scalar.select v2 c1_i32_0 c1_i32
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let v13 : BitVec 32 := Scalar.extui v12
  let c0_i32_5 : BitVec 32 := 0#32
  let v14 : BitVec 1 := Scalar.cmpi .ne v13 c0_i32_5
  v14

def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_6 : BitVec 32 := 1#32
  let c0_i32_7 : BitVec 32 := 0#32
  let v15 : BitVec 1 := Scalar.cmpi .eq c1_i32_6 c0_i32_7
  let c1_i32_8 : BitVec 32 := 1#32
  let v16 : BitVec 32 := Scalar.select v15 c1_i32_8 c1_i32_6
  let v17 : BitVec 32 := Scalar.remsi v1 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c0_i32_12 : BitVec 32 := 0#32
  let v25 : BitVec 1 := Scalar.cmpi .eq v24 c0_i32_12
  let v26 : BitVec 32 := Scalar.extui v25
  let c0_i32_13 : BitVec 32 := 0#32
  let v27 : BitVec 1 := Scalar.cmpi .ne v26 c0_i32_13
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let c0_i32_7 : BitVec 32 := 0#32
  ![c1_i32_5.toNat, v18.toNat, c0_i32_6.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![c0_i32_5.toNat, v18.toNat, c0_i32_6.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x11264 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x11264 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "c2" => some (((Real.sqrt 192)⁻¹ * (Real.log 2)⁻¹ : ℝ) : EReal)
  | _ => none
-- ==== ReferenceIdeal.lean ====
abbrev S4x2048x16x128 : Shape := ⟨4, ![4, 2048, 16, 128]⟩
abbrev S4x2048x16x64 : Shape := ⟨4, ![4, 2048, 16, 64]⟩
abbrev S4x2048x64 : Shape := ⟨3, ![4, 2048, 64]⟩
abbrev S2x2048x11264 : Shape := ⟨3, ![2, 2048, 11264]⟩
abbrev S1x2048x2048 : Shape := ⟨3, ![1, 2048, 2048]⟩
abbrev S2048 : Shape := ⟨1, ![2048]⟩
abbrev S_ : Shape := ⟨0, ![]⟩
abbrev S4x16x2048x2048 : Shape := ⟨4, ![4, 16, 2048, 2048]⟩
abbrev S4x2048x2048x16 : Shape := ⟨4, ![4, 2048, 2048, 16]⟩
abbrev S1x2048 : Shape := ⟨2, ![1, 2048]⟩
abbrev S2048x1 : Shape := ⟨2, ![2048, 1]⟩
abbrev S2048x2048 : Shape := ⟨2, ![2048, 2048]⟩
abbrev S4x16x2048 : Shape := ⟨3, ![4, 16, 2048]⟩
abbrev S4x16x2048x1 : Shape := ⟨4, ![4, 16, 2048, 1]⟩
abbrev S4x16x128x2048 : Shape := ⟨4, ![4, 16, 128, 2048]⟩
abbrev S8192x2048 : Shape := ⟨2, ![8192, 2048]⟩
abbrev S1x2048x11264 : Shape := ⟨3, ![1, 2048, 11264]⟩
abbrev S2048x11264 : Shape := ⟨2, ![2048, 11264]⟩

abbrev nBuf : Space → Nat
  | .hbm => 67
  | .vmem => 0
  | .smem => 0
  | _ => 0

abbrev bufTy : (tb : Table) → Fin (tcTables nBuf tb) → BufTy
  | .hbm, ⟨0, _⟩ => ⟨S4x2048x16x128, .f32⟩
  | .hbm, ⟨1, _⟩ => ⟨S4x2048x16x64, .f32⟩
  | .hbm, ⟨2, _⟩ => ⟨S4x2048x16x128, .f32⟩
  | .hbm, ⟨3, _⟩ => ⟨S4x2048x64, .f32⟩
  | .hbm, ⟨4, _⟩ => ⟨S4x2048x16x128, .f32⟩
  | .hbm, ⟨5, _⟩ => ⟨S2x2048x11264, .f32⟩
  | .hbm, ⟨6, _⟩ => ⟨S1x2048x2048, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S4x16x2048x2048, .f32⟩
  | .hbm, ⟨27, _⟩ => ⟨S4x2048x2048x16, .f32⟩
  | .hbm, ⟨28, _⟩ => ⟨S4x16x2048x2048, .f32⟩
  | .hbm, ⟨29, _⟩ => ⟨S4x16x2048x2048, .f32⟩
  | .hbm, ⟨30, _⟩ => ⟨S_, .f32⟩
  | .hbm, ⟨31, _⟩ => ⟨S_, .f32⟩
  | .hbm, ⟨32, _⟩ => ⟨S4x16x2048x2048, .f32⟩
  | .hbm, ⟨33, _⟩ => ⟨S4x16x2048x2048, .f32⟩
  | .hbm, ⟨34, _⟩ => ⟨S1x2048, .i32⟩
  | .hbm, ⟨35, _⟩ => ⟨S2048x1, .i32⟩
  | .hbm, ⟨36, _⟩ => ⟨S2048x2048, .i32⟩
  | .hbm, ⟨37, _⟩ => ⟨S2048x2048, .i32⟩
  | .hbm, ⟨38, _⟩ => ⟨S2048x2048, .i1⟩
  | .hbm, ⟨39, _⟩ => ⟨S_, .f32⟩
  | .hbm, ⟨40, _⟩ => ⟨S_, .f32⟩
  | .hbm, ⟨41, _⟩ => ⟨S4x16x2048x2048, .i1⟩
  | .hbm, ⟨42, _⟩ => ⟨S4x16x2048x2048, .f32⟩
  | .hbm, ⟨43, _⟩ => ⟨S4x16x2048x2048, .f32⟩
  | .hbm, ⟨44, _⟩ => ⟨S_, .f32⟩
  | .hbm, ⟨45, _⟩ => ⟨S4x16x2048, .f32⟩
  | .hbm, ⟨46, _⟩ => ⟨S_, .f32⟩
  | .hbm, ⟨47, _⟩ => ⟨S4x16x2048, .f32⟩
  | .hbm, ⟨48, _⟩ => ⟨S4x16x2048, .f32⟩
  | .hbm, ⟨49, _⟩ => ⟨S4x16x2048x1, .f32⟩
  | .hbm, ⟨50, _⟩ => ⟨S4x16x2048x2048, .f32⟩
  | .hbm, ⟨51, _⟩ => ⟨S4x16x2048x2048, .f32⟩
  | .hbm, ⟨52, _⟩ => ⟨S4x16x2048x2048, .f32⟩
  | .hbm, ⟨53, _⟩ => ⟨S_, .f32⟩
  | .hbm, ⟨54, _⟩ => ⟨S4x16x2048, .f32⟩
  | .hbm, ⟨55, _⟩ => ⟨S4x16x2048x1, .f32⟩
  | .hbm, ⟨56, _⟩ => ⟨S4x16x2048x2048, .f32⟩
  | .hbm, ⟨57, _⟩ => ⟨S4x16x2048x2048, .f32⟩
  | .hbm, ⟨58, _⟩ => ⟨S4x16x128x2048, .f32⟩
  | .hbm, ⟨59, _⟩ => ⟨S4x2048x16x128, .f32⟩
  | .hbm, ⟨60, _⟩ => ⟨S8192x2048, .f32⟩
  | .hbm, ⟨61, _⟩ => ⟨S1x2048x11264, .f32⟩
  | .hbm, ⟨62, _⟩ => ⟨S2048x11264, .f32⟩
  | .hbm, ⟨63, _⟩ => ⟨S2048x2048, .f32⟩
  | .hbm, ⟨64, _⟩ => ⟨S8192x2048, .bf16⟩
  | .hbm, ⟨65, _⟩ => ⟨S2048x11264, .bf16⟩
  | .hbm, ⟨66, _⟩ => ⟨S2048x2048, .bf16⟩
  | _, _ => ⟨S4x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v14 : Ref sig .tc := ⟨.hbm, 43, rfl⟩
abbrev main_cst_1 : Ref sig .tc := ⟨.hbm, 44, rfl⟩
abbrev main_v15 : Ref sig .tc := ⟨.hbm, 45, rfl⟩
abbrev main_cst_2 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_3 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩

abbrev nD : Nat := 1
abbrev τ : Topo := Topo.v7x

variable {F : FTy → Type} [FloatOps F]
-- ==== Kernel2.lean ====
abbrev S4x2048x2048 : Shape := ⟨3, ![4, 2048, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S8192x2048 : Shape := ⟨2, ![8192, 2048]⟩
abbrev S1x2048 : Shape := ⟨2, ![1, 2048]⟩
abbrev S1x11264 : Shape := ⟨2, ![1, 11264]⟩
abbrev S8x2x5632 : Shape := ⟨3, ![8, 2, 5632]⟩
abbrev S1024x2048 : Shape := ⟨2, ![1024, 2048]⟩
abbrev S2048x512 : Shape := ⟨2, ![2048, 512]⟩
abbrev S3x512 : Shape := ⟨2, ![3, 512]⟩
abbrev S1x512 : Shape := ⟨2, ![1, 512]⟩
abbrev S512x2048 : Shape := ⟨2, ![512, 2048]⟩
abbrev S1x2x512 : Shape := ⟨3, ![1, 2, 512]⟩
abbrev S2x1x1032x512 : Shape := ⟨4, ![2, 1, 1032, 512]⟩
abbrev S11x2x1x2x512 : Shape := ⟨5, ![11, 2, 1, 2, 512]⟩
abbrev S2x1024x512 : Shape := ⟨3, ![2, 1024, 512]⟩
abbrev S1024 : Shape := ⟨1, ![1024]⟩
abbrev S1024x1 : Shape := ⟨2, ![1024, 1]⟩
abbrev S1024x512 : Shape := ⟨2, ![1024, 512]⟩
abbrev S1x1024x512 : Shape := ⟨3, ![1, 1024, 512]⟩
abbrev S1x1x1024x512 : Shape := ⟨4, ![1, 1, 1024, 512]⟩
abbrev S1x1x1x2x512 : Shape := ⟨5, ![1, 1, 1, 2, 512]⟩
abbrev S1x1x2x512 : Shape := ⟨4, ![1, 1, 2, 512]⟩
abbrev S1x1x512 : Shape := ⟨3, ![1, 1, 512]⟩
abbrev S8x2x11264 : Shape := ⟨3, ![8, 2, 11264]⟩
abbrev S4x2x2x11264 : Shape := ⟨4, ![4, 2, 2, 11264]⟩
abbrev S4x1x2x11264 : Shape := ⟨4, ![4, 1, 2, 11264]⟩
abbrev S4x2x11264 : Shape := ⟨3, ![4, 2, 11264]⟩

abbrev nBuf : Space → Nat
  | .hbm => 21
  | .vmem => 27
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S5632x2048, .f32⟩
  | .hbm, ⟨6, _⟩ => ⟨S2048, .f32⟩
  | .hbm, ⟨7, _⟩ => ⟨S8192x2048, .f32⟩
  | .hbm, ⟨8, _⟩ => ⟨S1x2048, .f32⟩
  | .hbm, ⟨9, _⟩ => ⟨S2048x11264, .bf16⟩
  | .hbm, ⟨10, _⟩ => ⟨S5632x2048, .bf16⟩
  | .hbm, ⟨11, _⟩ => ⟨S1x2048, .f32⟩
  | .hbm, ⟨12, _⟩ => ⟨S1x11264, .f32⟩
  | .hbm, ⟨13, _⟩ => ⟨S8192x2048, .f32⟩
  | .hbm, ⟨14, _⟩ => ⟨S8x2x5632, .f32⟩
  | .hbm, ⟨15, _⟩ => ⟨S8x2x5632, .f32⟩
  | .hbm, ⟨16, _⟩ => ⟨S8x2x11264, .f32⟩
  | .hbm, ⟨17, _⟩ => ⟨S4x2x2x11264, .f32⟩
  | .hbm, ⟨18, _⟩ => ⟨S4x1x2x11264, .f32⟩
  | .hbm, ⟨19, _⟩ => ⟨S4x2x11264, .f32⟩
  | .hbm, ⟨20, _⟩ => ⟨S4x2048x2048, .f32⟩
  | .local _ .vmem, ⟨0, _⟩ => ⟨S1x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x2048, .bf16⟩
  | .local _ .vmem, ⟨16, _⟩ => ⟨S512x2048, .bf16⟩
  | .local _ .vmem, ⟨17, _⟩ => ⟨S1024x2048, .f32⟩
  | .local _ .vmem, ⟨18, _⟩ => ⟨S1024x2048, .f32⟩
  | .local _ .vmem, ⟨19, _⟩ => ⟨S1x2x512, .f32⟩
  | .local _ .vmem, ⟨20, _⟩ => ⟨S1x2x512, .f32⟩
  | .local _ .vmem, ⟨21, _⟩ => ⟨S1x2x512, .f32⟩
  | .local _ .vmem, ⟨22, _⟩ => ⟨S1x2x512, .f32⟩
  | .local _ .vmem, ⟨23, _⟩ => ⟨S1024x2048, .bf16⟩
  | .local _ .vmem, ⟨24, _⟩ => ⟨S2x1x1032x512, .f32⟩
  | .local _ .vmem, ⟨25, _⟩ => ⟨S11x2x1x2x512, .f32⟩
  | .local _ .vmem, ⟨26, _⟩ => ⟨S2x1024x512, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![8, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 5 → Nat :=
  let arg1 : BitVec 32 := BitVec.ofNat 32 (i 1).val
  let v82 : Index := Scalar.indexCast arg1
  let c0_46 : Index := 0#32
  let c0_47 : Index := 0#32
  let c0_48 : Index := 0#32
  let c0_49 : Index := 0#32
  ![v82.toNat, 0, 0, 0, 0]
def k0_off2 (i : grid0.Coords) : Fin 5 → Nat :=
  let arg1 : BitVec 32 := BitVec.ofNat 32 (i 1).val
  let v140 : Index := Scalar.indexCast arg1
  let c1_87 : Index := 1#32
  let c0_88 : Index := 0#32
  let c0_89 : Index := 0#32
  let c0_90 : Index := 0#32
  ![v140.toNat, 1, 0, 0, 0]
def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c11_i32 : BitVec 32 := 11#32
  let v4 : BitVec 1 := Scalar.cmpi .slt arg1 c11_i32
  let v5 : BitVec 1 := Scalar.andi v3 v4
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg1 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_off3 (i : grid0.Coords) : Fin 5 → Nat :=
  let arg1 : BitVec 32 := BitVec.ofNat 32 (i 1).val
  let v69 : Index := Scalar.indexCast arg1
  let c0_43 : Index := 0#32
  let c0_44 : Index := 0#32
  let c0_45 : Index := 0#32
  let c0_46 : Index := 0#32
  ![v69.toNat, 0, 0, 0, 0]
def k0_off4 (i : grid0.Coords) : Fin 5 → Nat :=
  let arg1 : BitVec 32 := BitVec.ofNat 32 (i 1).val
  let v127 : Index := Scalar.indexCast arg1
  let c1_85 : Index := 1#32
  let c0_86 : Index := 0#32
  let c0_87 : Index := 0#32
  let c0_88 : Index := 0#32
  ![v127.toNat, 1, 0, 0, 0]
def k0_cond3 (i : grid0.Coords) : BitVec 1 :=
  let arg1 : BitVec 32 := BitVec.ofNat 32 (i 1).val
  let c0_i32_8 : BitVec 32 := 0#32
  let v20 : BitVec 1 := Scalar.cmpi .sgt arg1 c0_i32_8
  let c11_i32_9 : BitVec 32 := 11#32
  let v21 : BitVec 1 := Scalar.cmpi .slt arg1 c11_i32_9
  let v22 : BitVec 1 := Scalar.andi v20 v21
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi arg1 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_16 : BitVec 32 := 1#32
  let v33 : BitVec 1 := Scalar.cmpi .eq v32 c1_i32_16
  let v34 : BitVec 1 := Scalar.andi v22 v33
  let v35 : BitVec 32 := Scalar.extui v34
  let c0_i32_17 : BitVec 32 := 0#32
  let v36 : BitVec 1 := Scalar.cmpi .ne v35 c0_i32_17
  v36

def k0_off5 (i : grid0.Coords) : Fin 5 → Nat :=
  let arg1 : BitVec 32 := BitVec.ofNat 32 (i 1).val
  let v69 : Index := Scalar.indexCast arg1
  let c0_44 : Index := 0#32
  let c0_45 : Index := 0#32
  let c0_46 : Index := 0#32
  let c0_47 : Index := 0#32
  ![v69.toNat, 0, 0, 0, 0]
def k0_off6 (i : grid0.Coords) : Fin 5 → Nat :=
  let arg1 : BitVec 32 := BitVec.ofNat 32 (i 1).val
  let v127 : Index := Scalar.indexCast arg1
  let c1_85 : Index := 1#32
  let c0_86 : Index := 0#32
  let c0_87 : Index := 0#32
  let c0_88 : Index := 0#32
  ![v127.toNat, 1, 0, 0, 0]
def k0_cond4 (i : grid0.Coords) : BitVec 1 :=
  let arg1 : BitVec 32 := BitVec.ofNat 32 (i 1).val
  let c11_i32_18 : BitVec 32 := 11#32
  let v37 : BitVec 1 := Scalar.cmpi .eq arg1 c11_i32_18
  let v38 : BitVec 32 := Scalar.extui v37
  let c0_i32_19 : BitVec 32 := 0#32
  let v39 : BitVec 1 := Scalar.cmpi .ne v38 c0_i32_19
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c11_i32 : BitVec 32 := 11#32
  let v1 : BitVec 32 := Scalar.addi c11_i32 v0
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c11_i32 : BitVec 32 := 11#32
  let v1 : BitVec 32 := Scalar.addi c11_i32 v0
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c11_i32 : BitVec 32 := 11#32
  let v1 : BitVec 32 := Scalar.addi c11_i32 v0
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![arg0.toNat, c0_i32.toNat, v0.toNat]

def cc0_transform_12 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![arg0.toNat, c0_i32.toNat, v0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S4x2048x2048 : Shape := ⟨3, ![4, 2048, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2x11264 : Shape := ⟨3, ![4, 2, 11264]⟩
abbrev S4x2048x11264 : Shape := ⟨3, ![4, 2048, 11264]⟩
abbrev S4x2050x11264 : Shape := ⟨3, ![4, 2050, 11264]⟩
abbrev S1x11264 : Shape := ⟨2, ![1, 11264]⟩
abbrev S1x1x11264 : Shape := ⟨3, ![1, 1, 11264]⟩
abbrev S4x2048x5632 : Shape := ⟨3, ![4, 2048, 5632]⟩

abbrev nBuf : Space → Nat
  | .hbm => 81
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S5632x2048, .f32⟩
  | .hbm, ⟨6, _⟩ => ⟨S2048, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2x11264, .f32⟩
  | .hbm, ⟨25, _⟩ => ⟨S4x2048x11264, .f32⟩
  | .hbm, ⟨26, _⟩ => ⟨S4x2050x11264, .f32⟩
  | .hbm, ⟨27, _⟩ => ⟨S1x11264, .f32⟩
  | .hbm, ⟨28, _⟩ => ⟨S11264, .f32⟩
  | .hbm, ⟨29, _⟩ => ⟨S4x2048x11264, .f32⟩
  | .hbm, ⟨30, _⟩ => ⟨S1x1x11264, .f32⟩
  | .hbm, ⟨31, _⟩ => ⟨S4x2048x11264, .f32⟩
  | .hbm, ⟨32, _⟩ => ⟨S4x2048x11264, .f32⟩
  | .hbm, ⟨33, _⟩ => ⟨S1x1x11264, .f32⟩
  | .hbm, ⟨34, _⟩ => ⟨S4x2048x11264, .f32⟩
  | .hbm, ⟨35, _⟩ => ⟨S4x2048x11264, .f32⟩
  | .hbm, ⟨36, _⟩ => ⟨S1x11264, .f32⟩
  | .hbm, ⟨37, _⟩ => ⟨S11264, .f32⟩
  | .hbm, ⟨38, _⟩ => ⟨S4x2048x11264, .f32⟩
  | .hbm, ⟨39, _⟩ => ⟨S1x1x11264, .f32⟩
  | .hbm, ⟨40, _⟩ => ⟨S4x2048x11264, .f32⟩
  | .hbm, ⟨41, _⟩ => ⟨S4x2048x11264, .f32⟩
  | .hbm, ⟨42, _⟩ => ⟨S4x2048x11264, .f32⟩
  | .hbm, ⟨43, _⟩ => ⟨S1x11264, .f32⟩
  | .hbm, ⟨44, _⟩ => ⟨S11264, .f32⟩
  | .hbm, ⟨45, _⟩ => ⟨S4x2048x11264, .f32⟩
  | .hbm, ⟨46, _⟩ => ⟨S1x1x11264, .f32⟩
  | .hbm, ⟨47, _⟩ => ⟨S4x2048x11264, .f32⟩
  | .hbm, ⟨48, _⟩ => ⟨S4x2048x11264, .f32⟩
  | .hbm, ⟨49, _⟩ => ⟨S4x2048x11264, .f32⟩
  | .hbm, ⟨50, _⟩ => ⟨S4x2048x5632, .f32⟩
  | .hbm, ⟨51, _⟩ => ⟨S4x2048x5632, .f32⟩
  | .hbm, ⟨52, _⟩ => ⟨S4x2048x5632, .f32⟩
  | .hbm, ⟨53, _⟩ => ⟨S4x2048x5632, .f32⟩
  | .hbm, ⟨54, _⟩ => ⟨S_, .f32⟩
  | .hbm, ⟨55, _⟩ => ⟨S4x2048x5632, .f32⟩
  | .hbm, ⟨56, _⟩ => ⟨S4x2048x5632, .f32⟩
  | .hbm, ⟨57, _⟩ => ⟨S_, .f32⟩
  | .hbm, ⟨58, _⟩ => ⟨S4x2048x5632, .f32⟩
  | .hbm, ⟨59, _⟩ => ⟨S4x2048x5632, .f32⟩
  | .hbm, ⟨60, _⟩ => ⟨S4x2048x5632, .f32⟩
  | .hbm, ⟨61, _⟩ => ⟨S4x2048x5632, .f32⟩
  | .hbm, ⟨62, _⟩ => ⟨S4x2048x2048, .f32⟩
  | .hbm, ⟨63, _⟩ => ⟨S4x2048x2048, .f32⟩
  | .hbm, ⟨64, _⟩ => ⟨S_, .f32⟩
  | .hbm, ⟨65, _⟩ => ⟨S4x2048, .f32⟩
  | .hbm, ⟨66, _⟩ => ⟨S4x2048x1, .f32⟩
  | .hbm, ⟨67, _⟩ => ⟨S_, .f32⟩
  | .hbm, ⟨68, _⟩ => ⟨S4x2048x1, .f32⟩
  | .hbm, ⟨69, _⟩ => ⟨S4x2048x1, .f32⟩
  | .hbm, ⟨70, _⟩ => ⟨S_, .f32⟩
  | .hbm, ⟨71, _⟩ => ⟨S4x2048x1, .f32⟩
  | .hbm, ⟨72, _⟩ => ⟨S4x2048x1, .f32⟩
  | .hbm, ⟨73, _⟩ => ⟨S4x2048x1, .f32⟩
  | .hbm, ⟨74, _⟩ => ⟨S4x2048x2048, .f32⟩
  | .hbm, ⟨75, _⟩ => ⟨S4x2048x2048, .f32⟩
  | .hbm, ⟨76, _⟩ => ⟨S1x1x2048, .f32⟩
  | .hbm, ⟨77, _⟩ => ⟨S4x2048x2048, .f32⟩
  | .hbm, ⟨78, _⟩ => ⟨S4x2048x2048, .f32⟩
  | .hbm, ⟨79, _⟩ => ⟨S4x2048x2048, .f32⟩
  | .hbm, ⟨80, _⟩ => ⟨S4x2x11264, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_3 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel3.lean ====
abbrev S4x2048x16x128 : Shape := ⟨4, ![4, 2048, 16, 128]⟩
abbrev S2048x2048 : Shape := ⟨2, ![2048, 2048]⟩
abbrev S4x2048x2048 : Shape := ⟨3, ![4, 2048, 2048]⟩
abbrev S2048 : Shape := ⟨1, ![2048]⟩
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x2048x16x128, .f32⟩
  | .hbm, ⟨1, _⟩ => ⟨S2048x2048, .f32⟩
  | .hbm, ⟨2, _⟩ => ⟨S4x2048x2048, .f32⟩
  | .hbm, ⟨3, _⟩ => ⟨S2048, .f32⟩
  | .hbm, ⟨4, _⟩ => ⟨S8192x2048, .f32⟩
  | .hbm, ⟨5, _⟩ => ⟨S8192x2048, .bf16⟩
  | .hbm, ⟨6, _⟩ => ⟨S2048x2048, .bf16⟩
  | .hbm, ⟨7, _⟩ => ⟨S8192x2048, .f32⟩
  | .hbm, ⟨8, _⟩ => ⟨S1x2048, .f32⟩
  | .hbm, ⟨9, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S4x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4x2048x16x128 : Shape := ⟨4, ![4, 2048, 16, 128]⟩
abbrev S2048x2048 : Shape := ⟨2, ![2048, 2048]⟩
abbrev S4x2048x2048 : Shape := ⟨3, ![4, 2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x16x128, .f32⟩
  | .hbm, ⟨1, _⟩ => ⟨S2048x2048, .f32⟩
  | .hbm, ⟨2, _⟩ => ⟨S4x2048x2048, .f32⟩
  | .hbm, ⟨3, _⟩ => ⟨S2048, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S8192x2048, .f32⟩
  | _, _ => ⟨S4x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel4.lean ====
abbrev S4x2048x2048 : Shape := ⟨3, ![4, 2048, 2048]⟩
abbrev S2048 : Shape := ⟨1, ![2048]⟩
abbrev S3x2048 : Shape := ⟨2, ![3, 2048]⟩
abbrev S2048x8192 : Shape := ⟨2, ![2048, 8192]⟩
abbrev S1x2048x2048 : Shape := ⟨3, ![1, 2048, 2048]⟩
abbrev S8192x2048 : Shape := ⟨2, ![8192, 2048]⟩
abbrev S1x2048 : Shape := ⟨2, ![1, 2048]⟩
abbrev S64x8192x128 : Shape := ⟨3, ![64, 8192, 128]⟩
abbrev S2048x2048 : Shape := ⟨2, ![2048, 2048]⟩
abbrev S512x2048 : Shape := ⟨2, ![512, 2048]⟩
abbrev S1x32x2048 : Shape := ⟨3, ![1, 32, 2048]⟩
abbrev S16x512x128 : Shape := ⟨3, ![16, 512, 128]⟩
abbrev S32x2048 : Shape := ⟨2, ![32, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1x1024 : Shape := ⟨2, ![1, 1024]⟩
abbrev S512x128 : Shape := ⟨2, ![512, 128]⟩
abbrev S1x512x128 : Shape := ⟨3, ![1, 512, 128]⟩

abbrev nBuf : Space → Nat
  | .hbm => 10
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S3x2048, .f32⟩
  | .hbm, ⟨3, _⟩ => ⟨S2048x8192, .f32⟩
  | .hbm, ⟨4, _⟩ => ⟨S1x2048x2048, .f32⟩
  | .hbm, ⟨5, _⟩ => ⟨S8192x2048, .f32⟩
  | .hbm, ⟨6, _⟩ => ⟨S1x2048, .f32⟩
  | .hbm, ⟨7, _⟩ => ⟨S2048x8192, .bf16⟩
  | .hbm, ⟨8, _⟩ => ⟨S64x8192x128, .f32⟩
  | .hbm, ⟨9, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S3x2048, .f32⟩
  | .local _ .vmem, ⟨6, _⟩ => ⟨S1x32x2048, .f32⟩
  | .local _ .vmem, ⟨7, _⟩ => ⟨S1x32x2048, .f32⟩
  | .local _ .vmem, ⟨8, _⟩ => ⟨S16x512x128, .f32⟩
  | .local _ .vmem, ⟨9, _⟩ => ⟨S16x512x128, .f32⟩
  | .local _ .vmem, ⟨10, _⟩ => ⟨S32x2048, .bf16⟩
  | .local _ .vmem, ⟨11, _⟩ => ⟨S32x2048, .bf16⟩
  | .local _ .vmem, ⟨12, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let c0_i32 : BitVec 32 := 0#32
  let v2 : BitVec 1 := Scalar.cmpi .eq c1_i32 c0_i32
  let c1_i32_0 : BitVec 32 := 1#32
  let v3 : BitVec 32 := Scalar.select v2 c1_i32_0 c1_i32
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![c0_i32_5.toNat, v18.toNat, c0_i32_6.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S4x2048x2048 : Shape := ⟨3, ![4, 2048, 2048]⟩
abbrev S2048 : Shape := ⟨1, ![2048]⟩
abbrev S3x2048 : Shape := ⟨2, ![3, 2048]⟩
abbrev S2048x8192 : Shape := ⟨2, ![2048, 8192]⟩
abbrev S1x2048x2048 : Shape := ⟨3, ![1, 2048, 2048]⟩
abbrev S_ : Shape := ⟨0, ![]⟩
abbrev S1x2048 : Shape := ⟨2, ![1, 2048]⟩
abbrev S4x2048 : Shape := ⟨2, ![4, 2048]⟩
abbrev S4x2048x1 : Shape := ⟨3, ![4, 2048, 1]⟩
abbrev S1x1x2048 : Shape := ⟨3, ![1, 1, 2048]⟩
abbrev S4x2048x8192 : Shape := ⟨3, ![4, 2048, 8192]⟩
abbrev S4x2048x16x128 : Shape := ⟨4, ![4, 2048, 16, 128]⟩
abbrev S4x16x2048x128 : Shape := ⟨4, ![4, 16, 2048, 128]⟩
abbrev S16x1x128 : Shape := ⟨3, ![16, 1, 128]⟩
abbrev S1x16x1x128 : Shape := ⟨4, ![1, 16, 1, 128]⟩
abbrev S16x4x2048x128 : Shape := ⟨4, ![16, 4, 2048, 128]⟩
abbrev S16x8192x128 : Shape := ⟨3, ![16, 8192, 128]⟩
abbrev S64x8192x128 : Shape := ⟨3, ![64, 8192, 128]⟩
abbrev S2048x2048 : Shape := ⟨2, ![2048, 2048]⟩

abbrev nBuf : Space → Nat
  | .hbm => 100
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S3x2048, .f32⟩
  | .hbm, ⟨3, _⟩ => ⟨S2048x8192, .f32⟩
  | .hbm, ⟨4, _⟩ => ⟨S1x2048x2048, .f32⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S1x2048, .f32⟩
  | .hbm, ⟨11, _⟩ => ⟨S3x2048, .f32⟩
  | .hbm, ⟨12, _⟩ => ⟨S3x2048, .f32⟩
  | .hbm, ⟨13, _⟩ => ⟨S3x2048, .f32⟩
  | .hbm, ⟨14, _⟩ => ⟨S_, .f32⟩
  | .hbm, ⟨15, _⟩ => ⟨S2048, .f32⟩
  | .hbm, ⟨16, _⟩ => ⟨S1x2048, .f32⟩
  | .hbm, ⟨17, _⟩ => ⟨S3x2048, .f32⟩
  | .hbm, ⟨18, _⟩ => ⟨S3x2048, .f32⟩
  | .hbm, ⟨19, _⟩ => ⟨S_, .f32⟩
  | .hbm, ⟨20, _⟩ => ⟨S_, .f32⟩
  | .hbm, ⟨21, _⟩ => ⟨S3x2048, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S4x2048x1, .f32⟩
  | .hbm, ⟨33, _⟩ => ⟨S4x2048x2048, .f32⟩
  | .hbm, ⟨34, _⟩ => ⟨S4x2048x2048, .f32⟩
  | .hbm, ⟨35, _⟩ => ⟨S1x1x2048, .f32⟩
  | .hbm, ⟨36, _⟩ => ⟨S4x2048x2048, .f32⟩
  | .hbm, ⟨37, _⟩ => ⟨S4x2048x2048, .f32⟩
  | .hbm, ⟨38, _⟩ => ⟨S4x2048x8192, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S4x2048x16x128, .f32⟩
  | .hbm, ⟨44, _⟩ => ⟨S4x16x2048x128, .f32⟩
  | .hbm, ⟨45, _⟩ => ⟨S4x16x2048x128, .f32⟩
  | .hbm, ⟨46, _⟩ => ⟨S4x16x2048x128, .f32⟩
  | .hbm, ⟨47, _⟩ => ⟨S_, .f32⟩
  | .hbm, ⟨48, _⟩ => ⟨S4x16x2048x128, .f32⟩
  | .hbm, ⟨49, _⟩ => ⟨S4x16x2048x128, .f32⟩
  | .hbm, ⟨50, _⟩ => ⟨S_, .f32⟩
  | .hbm, ⟨51, _⟩ => ⟨S4x16x2048x128, .f32⟩
  | .hbm, ⟨52, _⟩ => ⟨S4x16x2048x128, .f32⟩
  | .hbm, ⟨53, _⟩ => ⟨S4x16x2048x128, .f32⟩
  | .hbm, ⟨54, _⟩ => ⟨S1x2048, .f32⟩
  | .hbm, ⟨55, _⟩ => ⟨S2048, .f32⟩
  | .hbm, ⟨56, _⟩ => ⟨S16x1x128, .f32⟩
  | .hbm, ⟨57, _⟩ => ⟨S_, .f32⟩
  | .hbm, ⟨58, _⟩ => ⟨S16x1x128, .f32⟩
  | .hbm, ⟨59, _⟩ => ⟨S16x1x128, .f32⟩
  | .hbm, ⟨60, _⟩ => ⟨S4x2048x16x128, .f32⟩
  | .hbm, ⟨61, _⟩ => ⟨S4x16x2048x128, .f32⟩
  | .hbm, ⟨62, _⟩ => ⟨S4x16x2048x128, .f32⟩
  | .hbm, ⟨63, _⟩ => ⟨S4x16x2048x128, .f32⟩
  | .hbm, ⟨64, _⟩ => ⟨S_, .f32⟩
  | .hbm, ⟨65, _⟩ => ⟨S4x16x2048x128, .f32⟩
  | .hbm, ⟨66, _⟩ => ⟨S4x16x2048x128, .f32⟩
  | .hbm, ⟨67, _⟩ => ⟨S_, .f32⟩
  | .hbm, ⟨68, _⟩ => ⟨S4x16x2048x128, .f32⟩
  | .hbm, ⟨69, _⟩ => ⟨S4x16x2048x128, .f32⟩
  | .hbm, ⟨70, _⟩ => ⟨S1x16x1x128, .f32⟩
  | .hbm, ⟨71, _⟩ => ⟨S4x16x2048x128, .f32⟩
  | .hbm, ⟨72, _⟩ => ⟨S4x16x2048x128, .f32⟩
  | .hbm, ⟨73, _⟩ => ⟨S1x16x1x128, .f32⟩
  | .hbm, ⟨74, _⟩ => ⟨S4x16x2048x128, .f32⟩
  | .hbm, ⟨75, _⟩ => ⟨S4x16x2048x128, .f32⟩
  | .hbm, ⟨76, _⟩ => ⟨S4x2048x16x128, .f32⟩
  | .hbm, ⟨77, _⟩ => ⟨S4x16x2048x128, .f32⟩
  | .hbm, ⟨78, _⟩ => ⟨S4x2048x16x128, .f32⟩
  | .hbm, ⟨79, _⟩ => ⟨S4x16x2048x128, .f32⟩
  | .hbm, ⟨80, _⟩ => ⟨S4x16x2048x128, .f32⟩
  | .hbm, ⟨81, _⟩ => ⟨S4x16x2048x128, .f32⟩
  | .hbm, ⟨82, _⟩ => ⟨S_, .f32⟩
  | .hbm, ⟨83, _⟩ => ⟨S4x16x2048x128, .f32⟩
  | .hbm, ⟨84, _⟩ => ⟨S4x16x2048x128, .f32⟩
  | .hbm, ⟨85, _⟩ => ⟨S_, .f32⟩
  | .hbm, ⟨86, _⟩ => ⟨S4x16x2048x128, .f32⟩
  | .hbm, ⟨87, _⟩ => ⟨S4x16x2048x128, .f32⟩
  | .hbm, ⟨88, _⟩ => ⟨S4x16x2048x128, .f32⟩
  | .hbm, ⟨89, _⟩ => ⟨S16x4x2048x128, .f32⟩
  | .hbm, ⟨90, _⟩ => ⟨S16x8192x128, .f32⟩
  | .hbm, ⟨91, _⟩ => ⟨S16x4x2048x128, .f32⟩
  | .hbm, ⟨92, _⟩ => ⟨S16x8192x128, .f32⟩
  | .hbm, ⟨93, _⟩ => ⟨S16x4x2048x128, .f32⟩
  | .hbm, ⟨94, _⟩ => ⟨S16x8192x128, .f32⟩
  | .hbm, ⟨95, _⟩ => ⟨S16x4x2048x128, .f32⟩
  | .hbm, ⟨96, _⟩ => ⟨S16x8192x128, .f32⟩
  | .hbm, ⟨97, _⟩ => ⟨S64x8192x128, .f32⟩
  | .hbm, ⟨98, _⟩ => ⟨S2048x2048, .f32⟩
  | .hbm, ⟨99, _⟩ => ⟨S2048x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_call0_cst : Ref sig .tc := ⟨.hbm, 19, rfl⟩
abbrev main_call0_call0_v0 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call2_v0 : Ref sig .tc := ⟨.hbm, 80, rfl⟩
abbrev main_call2_v1 : Ref sig .tc := ⟨.hbm, 81, rfl⟩
abbrev main_call2_cst : Ref sig .tc := ⟨.hbm, 82, rfl⟩
abbrev main_call2_v2 : Ref sig .tc := ⟨.hbm, 83, rfl⟩
abbrev main_call2_v3 : Ref sig .tc := ⟨.hbm, 84, rfl⟩
abbrev main_call2_cst_0 : Ref sig .tc := ⟨.hbm, 85, rfl⟩
abbrev main_call2_v4 : Ref sig .tc := ⟨.hbm, 86, rfl⟩
abbrev main_call2_v5 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩

abbrev nD : Nat := 1
abbrev τ : Topo := Topo.v7x

variable {F : FTy → Type} [FloatOps F]
-- ==== Kernel5.lean ====
abbrev S4x2048x512 : Shape := ⟨3, ![4, 2048, 512]⟩
abbrev S4x2048x64 : Shape := ⟨3, ![4, 2048, 64]⟩
abbrev S512x4096 : Shape := ⟨2, ![512, 4096]⟩
abbrev S8192x512 : Shape := ⟨2, ![8192, 512]⟩
abbrev S8192x64 : Shape := ⟨2, ![8192, 64]⟩
abbrev S_ : Shape := ⟨0, ![]⟩
abbrev S8192x128 : Shape := ⟨2, ![8192, 128]⟩
abbrev S16x8192x256 : Shape := ⟨3, ![16, 8192, 256]⟩
abbrev S16x8192x128 : Shape := ⟨3, ![16, 8192, 128]⟩
abbrev S256x512 : Shape := ⟨2, ![256, 512]⟩
abbrev S256x128 : Shape := ⟨2, ![256, 128]⟩
abbrev S16x256x256 : Shape := ⟨3, ![16, 256, 256]⟩
abbrev S16x256x128 : Shape := ⟨3, ![16, 256, 128]⟩
abbrev S256x4096 : Shape := ⟨2, ![256, 4096]⟩
abbrev S1x256x128 : Shape := ⟨3, ![1, 256, 128]⟩

abbrev nBuf : Space → Nat
  | .hbm => 11
  | .vmem => 9
  | .smem => 0
  | _ => 0

abbrev bufTy : (tb : Table) → Fin (tcTables nBuf tb) → BufTy
  | .hbm, ⟨0, _⟩ => ⟨S4x2048x512, .f32⟩
  | .hbm, ⟨1, _⟩ => ⟨S4x2048x64, .f32⟩
  | .hbm, ⟨2, _⟩ => ⟨S512x4096, .f32⟩
  | .hbm, ⟨3, _⟩ => ⟨S8192x512, .f32⟩
  | .hbm, ⟨4, _⟩ => ⟨S8192x64, .f32⟩
  | .hbm, ⟨5, _⟩ => ⟨S_, .i32⟩
  | .hbm, ⟨6, _⟩ => ⟨S_, .f32⟩
  | .hbm, ⟨7, _⟩ => ⟨S8192x128, .f32⟩
  | .hbm, ⟨8, _⟩ => ⟨S512x4096, .bf16⟩
  | .hbm, ⟨9, _⟩ => ⟨S16x8192x256, .bf16⟩
  | .hbm, ⟨10, _⟩ => ⟨S16x8192x128, .bf16⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S512x4096, .bf16⟩
  | .local _ .vmem, ⟨5, _⟩ => ⟨S16x256x256, .bf16⟩
  | .local _ .vmem, ⟨6, _⟩ => ⟨S16x256x256, .bf16⟩
  | .local _ .vmem, ⟨7, _⟩ => ⟨S16x256x128, .bf16⟩
  | .local _ .vmem, ⟨8, _⟩ => ⟨S16x256x128, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S4x2048x512 : Shape := ⟨3, ![4, 2048, 512]⟩
abbrev S4x2048x64 : Shape := ⟨3, ![4, 2048, 64]⟩
abbrev S512x4096 : Shape := ⟨2, ![512, 4096]⟩
abbrev S4x2048x4096 : Shape := ⟨3, ![4, 2048, 4096]⟩
abbrev S4x2048x16x256 : Shape := ⟨4, ![4, 2048, 16, 256]⟩
abbrev S4x2048x16x128 : Shape := ⟨4, ![4, 2048, 16, 128]⟩
abbrev S_ : Shape := ⟨0, ![]⟩
abbrev S4x2048x128 : Shape := ⟨3, ![4, 2048, 128]⟩
abbrev S4x2048x1x128 : Shape := ⟨4, ![4, 2048, 1, 128]⟩
abbrev S16x4x2048x256 : Shape := ⟨4, ![16, 4, 2048, 256]⟩
abbrev S16x8192x256 : Shape := ⟨3, ![16, 8192, 256]⟩
abbrev S16x4x2048x128 : Shape := ⟨4, ![16, 4, 2048, 128]⟩
abbrev S16x8192x128 : Shape := ⟨3, ![16, 8192, 128]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x64, .f32⟩
  | .hbm, ⟨2, _⟩ => ⟨S512x4096, .f32⟩
  | .hbm, ⟨3, _⟩ => ⟨S4x2048x4096, .f32⟩
  | .hbm, ⟨4, _⟩ => ⟨S4x2048x16x256, .f32⟩
  | .hbm, ⟨5, _⟩ => ⟨S4x2048x16x128, .f32⟩
  | .hbm, ⟨6, _⟩ => ⟨S4x2048x16x128, .f32⟩
  | .hbm, ⟨7, _⟩ => ⟨S_, .i32⟩
  | .hbm, ⟨8, _⟩ => ⟨S_, .f32⟩
  | .hbm, ⟨9, _⟩ => ⟨S4x2048x128, .f32⟩
  | .hbm, ⟨10, _⟩ => ⟨S4x2048x1x128, .f32⟩
  | .hbm, ⟨11, _⟩ => ⟨S4x2048x16x128, .f32⟩
  | .hbm, ⟨12, _⟩ => ⟨S4x2048x16x256, .f32⟩
  | .hbm, ⟨13, _⟩ => ⟨S16x4x2048x256, .f32⟩
  | .hbm, ⟨14, _⟩ => ⟨S16x8192x256, .f32⟩
  | .hbm, ⟨15, _⟩ => ⟨S16x8192x256, .bf16⟩
  | .hbm, ⟨16, _⟩ => ⟨S16x4x2048x128, .f32⟩
  | .hbm, ⟨17, _⟩ => ⟨S16x8192x128, .f32⟩
  | .hbm, ⟨18, _⟩ => ⟨S16x8192x128, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S4x2048x2048 : Shape := ⟨3, ![4, 2048, 2048]⟩
abbrev S2048 : Shape := ⟨1, ![2048]⟩
abbrev S2048x1088 : Shape := ⟨2, ![2048, 1088]⟩
abbrev S512 : Shape := ⟨1, ![512]⟩
abbrev S512x3072 : Shape := ⟨2, ![512, 3072]⟩
abbrev S2048x32 : Shape := ⟨2, ![2048, 32]⟩
abbrev S2048x64 : Shape := ⟨2, ![2048, 64]⟩
abbrev S_ : Shape := ⟨0, ![]⟩
abbrev S2048x128 : Shape := ⟨2, ![2048, 128]⟩
abbrev S2048x1024 : Shape := ⟨2, ![2048, 1024]⟩
abbrev S2048x1280 : Shape := ⟨2, ![2048, 1280]⟩
abbrev S512x16x192 : Shape := ⟨3, ![512, 16, 192]⟩
abbrev S512x16x128 : Shape := ⟨3, ![512, 16, 128]⟩
abbrev S512x2048 : Shape := ⟨2, ![512, 2048]⟩
abbrev S512x16x64 : Shape := ⟨3, ![512, 16, 64]⟩
abbrev S512x16x32 : Shape := ⟨3, ![512, 16, 32]⟩
abbrev S512x6144 : Shape := ⟨2, ![512, 6144]⟩
abbrev S8192x2048 : Shape := ⟨2, ![8192, 2048]⟩
abbrev S1x2048 : Shape := ⟨2, ![1, 2048]⟩
abbrev S1x512 : Shape := ⟨2, ![1, 512]⟩
abbrev S16x8192x256 : Shape := ⟨3, ![16, 8192, 256]⟩
abbrev S8192x512 : Shape := ⟨2, ![8192, 512]⟩
abbrev S8192x128 : Shape := ⟨2, ![8192, 128]⟩
abbrev S256x2048 : Shape := ⟨2, ![256, 2048]⟩
abbrev S256x128 : Shape := ⟨2, ![256, 128]⟩
abbrev S16x256x256 : Shape := ⟨3, ![16, 256, 256]⟩
abbrev S256x512 : Shape := ⟨2, ![256, 512]⟩
abbrev S256 : Shape := ⟨1, ![256]⟩
abbrev S256x1 : Shape := ⟨2, ![256, 1]⟩
abbrev S256x1280 : Shape := ⟨2, ![256, 1280]⟩
abbrev S1x256x128 : Shape := ⟨3, ![1, 256, 128]⟩

abbrev nBuf : Space → Nat
  | .hbm => 54
  | .vmem => 17
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x1088, .f32⟩
  | .hbm, ⟨3, _⟩ => ⟨S512, .f32⟩
  | .hbm, ⟨4, _⟩ => ⟨S512, .f32⟩
  | .hbm, ⟨5, _⟩ => ⟨S512x3072, .f32⟩
  | .hbm, ⟨6, _⟩ => ⟨S2048x32, .f32⟩
  | .hbm, ⟨7, _⟩ => ⟨S2048x32, .f32⟩
  | .hbm, ⟨8, _⟩ => ⟨S2048x64, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x32, .f32⟩
  | .hbm, ⟨13, _⟩ => ⟨S2048x64, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S2048x64, .f32⟩
  | .hbm, ⟨18, _⟩ => ⟨S2048x1024, .f32⟩
  | .hbm, ⟨19, _⟩ => ⟨S_, .i32⟩
  | .hbm, ⟨20, _⟩ => ⟨S_, .f32⟩
  | .hbm, ⟨21, _⟩ => ⟨S2048x128, .f32⟩
  | .hbm, ⟨22, _⟩ => ⟨S2048x32, .f32⟩
  | .hbm, ⟨23, _⟩ => ⟨S2048x32, .f32⟩
  | .hbm, ⟨24, _⟩ => ⟨S2048x64, .f32⟩
  | .hbm, ⟨25, _⟩ => ⟨S_, .i32⟩
  | .hbm, ⟨26, _⟩ => ⟨S_, .f32⟩
  | .hbm, ⟨27, _⟩ => ⟨S2048x128, .f32⟩
  | .hbm, ⟨28, _⟩ => ⟨S2048x1280, .f32⟩
  | .hbm, ⟨29, _⟩ => ⟨S512x16x192, .f32⟩
  | .hbm, ⟨30, _⟩ => ⟨S512x16x128, .f32⟩
  | .hbm, ⟨31, _⟩ => ⟨S512x2048, .f32⟩
  | .hbm, ⟨32, _⟩ => ⟨S512x16x64, .f32⟩
  | .hbm, ⟨33, _⟩ => ⟨S_, .i32⟩
  | .hbm, ⟨34, _⟩ => ⟨S_, .f32⟩
  | .hbm, ⟨35, _⟩ => ⟨S512x16x128, .f32⟩
  | .hbm, ⟨36, _⟩ => ⟨S512x2048, .f32⟩
  | .hbm, ⟨37, _⟩ => ⟨S512x16x32, .f32⟩
  | .hbm, ⟨38, _⟩ => ⟨S512x16x32, .f32⟩
  | .hbm, ⟨39, _⟩ => ⟨S512x16x64, .f32⟩
  | .hbm, ⟨40, _⟩ => ⟨S_, .i32⟩
  | .hbm, ⟨41, _⟩ => ⟨S_, .f32⟩
  | .hbm, ⟨42, _⟩ => ⟨S512x16x128, .f32⟩
  | .hbm, ⟨43, _⟩ => ⟨S512x2048, .f32⟩
  | .hbm, ⟨44, _⟩ => ⟨S512x6144, .f32⟩
  | .hbm, ⟨45, _⟩ => ⟨S2048x1280, .bf16⟩
  | .hbm, ⟨46, _⟩ => ⟨S512x6144, .bf16⟩
  | .hbm, ⟨47, _⟩ => ⟨S8192x2048, .f32⟩
  | .hbm, ⟨48, _⟩ => ⟨S1x2048, .f32⟩
  | .hbm, ⟨49, _⟩ => ⟨S1x512, .f32⟩
  | .hbm, ⟨50, _⟩ => ⟨S1x512, .f32⟩
  | .hbm, ⟨51, _⟩ => ⟨S16x8192x256, .bf16⟩
  | .hbm, ⟨52, _⟩ => ⟨S8192x512, .f32⟩
  | .hbm, ⟨53, _⟩ => ⟨S8192x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x1280, .bf16⟩
  | .local _ .vmem, ⟨4, _⟩ => ⟨S1x512, .f32⟩
  | .local _ .vmem, ⟨5, _⟩ => ⟨S1x512, .f32⟩
  | .local _ .vmem, ⟨6, _⟩ => ⟨S512x6144, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S16x256x256, .bf16⟩
  | .local _ .vmem, ⟨12, _⟩ => ⟨S16x256x256, .bf16⟩
  | .local _ .vmem, ⟨13, _⟩ => ⟨S256x512, .f32⟩
  | .local _ .vmem, ⟨14, _⟩ => ⟨S256x512, .f32⟩
  | .local _ .vmem, ⟨15, _⟩ => ⟨S256x128, .f32⟩
  | .local _ .vmem, ⟨16, _⟩ => ⟨S256x128, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_call2_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_call3_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_call4_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_call5_v0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31_0 : Ref sig .tc := ⟨.hbm, 51, rfl⟩
abbrev main_v31_1 : Ref sig .tc := ⟨.hbm, 52, rfl⟩
abbrev main_v31_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S4x2048x2048 : Shape := ⟨3, ![4, 2048, 2048]⟩
abbrev S2048 : Shape := ⟨1, ![2048]⟩
abbrev S2048x1088 : Shape := ⟨2, ![2048, 1088]⟩
abbrev S512 : Shape := ⟨1, ![512]⟩
abbrev S512x3072 : Shape := ⟨2, ![512, 3072]⟩
abbrev S2048x32 : Shape := ⟨2, ![2048, 32]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x1088 : Shape := ⟨3, ![4, 2048, 1088]⟩
abbrev S4x2048x512 : Shape := ⟨3, ![4, 2048, 512]⟩
abbrev S1x1x512 : Shape := ⟨3, ![1, 1, 512]⟩
abbrev S4x2048x64 : Shape := ⟨3, ![4, 2048, 64]⟩
abbrev S4x2048x32 : Shape := ⟨3, ![4, 2048, 32]⟩
abbrev S1x2048x32 : Shape := ⟨3, ![1, 2048, 32]⟩
abbrev S4x2048x3072 : Shape := ⟨3, ![4, 2048, 3072]⟩
abbrev S4x2048x16x192 : Shape := ⟨4, ![4, 2048, 16, 192]⟩
abbrev S4x2048x16x128 : Shape := ⟨4, ![4, 2048, 16, 128]⟩
abbrev S4x2048x16x64 : Shape := ⟨4, ![4, 2048, 16, 64]⟩
abbrev S2048x1x32 : Shape := ⟨3, ![2048, 1, 32]⟩
abbrev S4x2048x16x32 : Shape := ⟨4, ![4, 2048, 16, 32]⟩
abbrev S1x2048x1x32 : Shape := ⟨4, ![1, 2048, 1, 32]⟩
abbrev S4x2048x16x256 : Shape := ⟨4, ![4, 2048, 16, 256]⟩
abbrev S16x4x2048x256 : Shape := ⟨4, ![16, 4, 2048, 256]⟩
abbrev S16x8192x256 : Shape := ⟨3, ![16, 8192, 256]⟩
abbrev S8192x512 : Shape := ⟨2, ![8192, 512]⟩
abbrev S4x2048x128 : Shape := ⟨3, ![4, 2048, 128]⟩
abbrev S8192x128 : Shape := ⟨2, ![8192, 128]⟩

abbrev nBuf : Space → Nat
  | .hbm => 112
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x1088, .f32⟩
  | .hbm, ⟨3, _⟩ => ⟨S512, .f32⟩
  | .hbm, ⟨4, _⟩ => ⟨S512, .f32⟩
  | .hbm, ⟨5, _⟩ => ⟨S512x3072, .f32⟩
  | .hbm, ⟨6, _⟩ => ⟨S2048x32, .f32⟩
  | .hbm, ⟨7, _⟩ => ⟨S2048x32, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S4x2048x1088, .f32⟩
  | .hbm, ⟨25, _⟩ => ⟨S4x2048x512, .f32⟩
  | .hbm, ⟨26, _⟩ => ⟨S4x2048x512, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1, .f32⟩
  | .hbm, ⟨37, _⟩ => ⟨S4x2048x512, .f32⟩
  | .hbm, ⟨38, _⟩ => ⟨S4x2048x512, .f32⟩
  | .hbm, ⟨39, _⟩ => ⟨S1x1x512, .f32⟩
  | .hbm, ⟨40, _⟩ => ⟨S4x2048x512, .f32⟩
  | .hbm, ⟨41, _⟩ => ⟨S4x2048x512, .f32⟩
  | .hbm, ⟨42, _⟩ => ⟨S4x2048x512, .f32⟩
  | .hbm, ⟨43, _⟩ => ⟨S4x2048x512, .f32⟩
  | .hbm, ⟨44, _⟩ => ⟨S_, .f32⟩
  | .hbm, ⟨45, _⟩ => ⟨S4x2048, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S_, .f32⟩
  | .hbm, ⟨51, _⟩ => ⟨S4x2048x1, .f32⟩
  | .hbm, ⟨52, _⟩ => ⟨S4x2048x1, .f32⟩
  | .hbm, ⟨53, _⟩ => ⟨S4x2048x1, .f32⟩
  | .hbm, ⟨54, _⟩ => ⟨S4x2048x512, .f32⟩
  | .hbm, ⟨55, _⟩ => ⟨S4x2048x512, .f32⟩
  | .hbm, ⟨56, _⟩ => ⟨S1x1x512, .f32⟩
  | .hbm, ⟨57, _⟩ => ⟨S4x2048x512, .f32⟩
  | .hbm, ⟨58, _⟩ => ⟨S4x2048x512, .f32⟩
  | .hbm, ⟨59, _⟩ => ⟨S4x2048x64, .f32⟩
  | .hbm, ⟨60, _⟩ => ⟨S4x2048x32, .f32⟩
  | .hbm, ⟨61, _⟩ => ⟨S4x2048x32, .f32⟩
  | .hbm, ⟨62, _⟩ => ⟨S1x2048x32, .f32⟩
  | .hbm, ⟨63, _⟩ => ⟨S4x2048x32, .f32⟩
  | .hbm, ⟨64, _⟩ => ⟨S4x2048x32, .f32⟩
  | .hbm, ⟨65, _⟩ => ⟨S1x2048x32, .f32⟩
  | .hbm, ⟨66, _⟩ => ⟨S4x2048x32, .f32⟩
  | .hbm, ⟨67, _⟩ => ⟨S4x2048x32, .f32⟩
  | .hbm, ⟨68, _⟩ => ⟨S4x2048x32, .f32⟩
  | .hbm, ⟨69, _⟩ => ⟨S1x2048x32, .f32⟩
  | .hbm, ⟨70, _⟩ => ⟨S4x2048x32, .f32⟩
  | .hbm, ⟨71, _⟩ => ⟨S4x2048x32, .f32⟩
  | .hbm, ⟨72, _⟩ => ⟨S1x2048x32, .f32⟩
  | .hbm, ⟨73, _⟩ => ⟨S4x2048x32, .f32⟩
  | .hbm, ⟨74, _⟩ => ⟨S4x2048x32, .f32⟩
  | .hbm, ⟨75, _⟩ => ⟨S4x2048x32, .f32⟩
  | .hbm, ⟨76, _⟩ => ⟨S4x2048x64, .f32⟩
  | .hbm, ⟨77, _⟩ => ⟨S4x2048x3072, .f32⟩
  | .hbm, ⟨78, _⟩ => ⟨S4x2048x16x192, .f32⟩
  | .hbm, ⟨79, _⟩ => ⟨S4x2048x16x128, .f32⟩
  | .hbm, ⟨80, _⟩ => ⟨S4x2048x16x64, .f32⟩
  | .hbm, ⟨81, _⟩ => ⟨S2048x1x32, .f32⟩
  | .hbm, ⟨82, _⟩ => ⟨S2048x1x32, .f32⟩
  | .hbm, ⟨83, _⟩ => ⟨S4x2048x16x32, .f32⟩
  | .hbm, ⟨84, _⟩ => ⟨S4x2048x16x32, .f32⟩
  | .hbm, ⟨85, _⟩ => ⟨S1x2048x1x32, .f32⟩
  | .hbm, ⟨86, _⟩ => ⟨S4x2048x16x32, .f32⟩
  | .hbm, ⟨87, _⟩ => ⟨S4x2048x16x32, .f32⟩
  | .hbm, ⟨88, _⟩ => ⟨S1x2048x1x32, .f32⟩
  | .hbm, ⟨89, _⟩ => ⟨S4x2048x16x32, .f32⟩
  | .hbm, ⟨90, _⟩ => ⟨S4x2048x16x32, .f32⟩
  | .hbm, ⟨91, _⟩ => ⟨S4x2048x16x32, .f32⟩
  | .hbm, ⟨92, _⟩ => ⟨S1x2048x1x32, .f32⟩
  | .hbm, ⟨93, _⟩ => ⟨S4x2048x16x32, .f32⟩
  | .hbm, ⟨94, _⟩ => ⟨S4x2048x16x32, .f32⟩
  | .hbm, ⟨95, _⟩ => ⟨S1x2048x1x32, .f32⟩
  | .hbm, ⟨96, _⟩ => ⟨S4x2048x16x32, .f32⟩
  | .hbm, ⟨97, _⟩ => ⟨S4x2048x16x32, .f32⟩
  | .hbm, ⟨98, _⟩ => ⟨S4x2048x16x32, .f32⟩
  | .hbm, ⟨99, _⟩ => ⟨S4x2048x16x64, .f32⟩
  | .hbm, ⟨100, _⟩ => ⟨S_, .i32⟩
  | .hbm, ⟨101, _⟩ => ⟨S_, .f32⟩
  | .hbm, ⟨102, _⟩ => ⟨S4x2048x16x128, .f32⟩
  | .hbm, ⟨103, _⟩ => ⟨S4x2048x16x256, .f32⟩
  | .hbm, ⟨104, _⟩ => ⟨S16x4x2048x256, .f32⟩
  | .hbm, ⟨105, _⟩ => ⟨S16x8192x256, .f32⟩
  | .hbm, ⟨106, _⟩ => ⟨S16x8192x256, .bf16⟩
  | .hbm, ⟨107, _⟩ => ⟨S8192x512, .f32⟩
  | .hbm, ⟨108, _⟩ => ⟨S_, .i32⟩
  | .hbm, ⟨109, _⟩ => ⟨S_, .f32⟩
  | .hbm, ⟨110, _⟩ => ⟨S4x2048x128, .f32⟩
  | .hbm, ⟨111, _⟩ => ⟨S8192x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_c : Ref sig .tc := ⟨.hbm, 100, rfl⟩
abbrev main_call0_v0 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_c_8 : Ref sig .tc := ⟨.hbm, 108, rfl⟩
abbrev main_call1_v0 : Ref sig .tc := ⟨.hbm, 109, rfl⟩
abbrev main_v89 : Ref sig .tc := ⟨.hbm, 110, rfl⟩
abbrev main_v90 : Ref sig .tc := ⟨.hbm, 111, rfl⟩

abbrev nD : Nat := 1
abbrev τ : Topo := Topo.v7x

variable {F : FTy → Type} [FloatOps F]
-- ==== Kernel7.lean ====
abbrev S2048x128 : Shape := ⟨2, ![2048, 128]⟩

abbrev nBuf : Space → Nat
  | .hbm => 2
  | .vmem => 2
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .local _ .vmem, ⟨0, _⟩ => ⟨S2048x128, .f32⟩
  | .local _ .vmem, ⟨1, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_v0_0 : Ref sig .tc := ⟨.hbm, 0, rfl⟩
abbrev main_v0_1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Kernel7Ideal.lean ====
variable {F : FTy → Type} [FloatOps F] [Named F]
def κ : String → Option EReal := fun
  | "rate" => some ((-((Real.log 10000) * 32⁻¹) : ℝ) : EReal)
  | _ => none
-- ==== Reference7Ideal.lean ====
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩

abbrev nBuf : Space → Nat
  | .hbm => 26
  | .vmem => 0
  | .smem => 0
  | _ => 0

abbrev bufTy : (tb : Table) → Fin (tcTables nBuf tb) → BufTy
  | .hbm, ⟨0, _⟩ => ⟨S32, .f32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S2048, .i32⟩
  | .hbm, ⟨9, _⟩ => ⟨S2048, .f32⟩
  | .hbm, ⟨10, _⟩ => ⟨S2048x1, .f32⟩
  | .hbm, ⟨11, _⟩ => ⟨S1x32, .f32⟩
  | .hbm, ⟨12, _⟩ => ⟨S2048x32, .f32⟩
  | .hbm, ⟨13, _⟩ => ⟨S2048x32, .f32⟩
  | .hbm, ⟨14, _⟩ => ⟨S2048x32, .f32⟩
  | .hbm, ⟨15, _⟩ => ⟨S2048x32, .f32⟩
  | .hbm, ⟨16, _⟩ => ⟨S2048x32, .f32⟩
  | .hbm, ⟨17, _⟩ => ⟨S2048x64, .f32⟩
  | .hbm, ⟨18, _⟩ => ⟨S_, .i32⟩
  | .hbm, ⟨19, _⟩ => ⟨S_, .f32⟩
  | .hbm, ⟨20, _⟩ => ⟨S2048x128, .f32⟩
  | .hbm, ⟨21, _⟩ => ⟨S2048x32, .f32⟩
  | .hbm, ⟨22, _⟩ => ⟨S2048x64, .f32⟩
  | .hbm, ⟨23, _⟩ => ⟨S_, .i32⟩
  | .hbm, ⟨24, _⟩ => ⟨S_, .f32⟩
  | .hbm, ⟨25, _⟩ => ⟨S2048x128, .f32⟩
  | _, _ => ⟨S32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_v0 : Ref sig .tc := ⟨.hbm, 0, rfl⟩
abbrev main_v1 : Ref sig .tc := ⟨.hbm, 1, rfl⟩
abbrev main_cst : Ref sig .tc := ⟨.hbm, 2, rfl⟩
abbrev main_v2 : Ref sig .tc := ⟨.hbm, 3, rfl⟩
abbrev main_v3 : Ref sig .tc := ⟨.hbm, 4, rfl⟩
abbrev main_cst_0 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_call0_v0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_1 : Ref sig .tc := ⟨.hbm, 23, rfl⟩
abbrev main_call1_v0 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel8.lean ====
abbrev S8x32x16x128 : Shape := ⟨4, ![8, 32, 16, 128]⟩
abbrev S8x32x16x64 : Shape := ⟨4, ![8, 32, 16, 64]⟩
abbrev S8x1024x512 : Shape := ⟨3, ![8, 1024, 512]⟩
abbrev S8x1024x64 : Shape := ⟨3, ![8, 1024, 64]⟩
abbrev S8x32x512 : Shape := ⟨3, ![8, 32, 512]⟩
abbrev S8x32x64 : Shape := ⟨3, ![8, 32, 64]⟩
abbrev S512x4096 : Shape := ⟨2, ![512, 4096]⟩
abbrev S_ : Shape := ⟨0, ![]⟩
abbrev S8x32x16x256 : Shape := ⟨4, ![8, 32, 16, 256]⟩
abbrev S16x8x32x256 : Shape := ⟨4, ![16, 8, 32, 256]⟩
abbrev S16x256x256 : Shape := ⟨3, ![16, 256, 256]⟩
abbrev S256x512 : Shape := ⟨2, ![256, 512]⟩
abbrev S256x64 : Shape := ⟨2, ![256, 64]⟩
abbrev S256x128 : Shape := ⟨2, ![256, 128]⟩
abbrev S256x2048 : Shape := ⟨2, ![256, 2048]⟩
abbrev S16x32x256 : Shape := ⟨3, ![16, 32, 256]⟩
abbrev S1x1024x512 : Shape := ⟨3, ![1, 1024, 512]⟩
abbrev S1x1024x64 : Shape := ⟨3, ![1, 1024, 64]⟩
abbrev S32x512 : Shape := ⟨2, ![32, 512]⟩
abbrev S32x128 : Shape := ⟨2, ![32, 128]⟩
abbrev S32x2048 : Shape := ⟨2, ![32, 2048]⟩
abbrev S512x128 : Shape := ⟨2, ![512, 128]⟩
abbrev S1x32x128 : Shape := ⟨3, ![1, 32, 128]⟩
abbrev S1x32x64 : Shape := ⟨3, ![1, 32, 64]⟩
abbrev S32x64 : Shape := ⟨2, ![32, 64]⟩
abbrev S512x512 : Shape := ⟨2, ![512, 512]⟩
abbrev S512x64 : Shape := ⟨2, ![512, 64]⟩
abbrev S1024x512 : Shape := ⟨2, ![1024, 512]⟩
abbrev S512x1024 : Shape := ⟨2, ![512, 1024]⟩
abbrev S1024x64 : Shape := ⟨2, ![1024, 64]⟩
abbrev S512x32 : Shape := ⟨2, ![512, 32]⟩
abbrev S16x32x1024 : Shape := ⟨3, ![16, 32, 1024]⟩
abbrev S16x32x32 : Shape := ⟨3, ![16, 32, 32]⟩
abbrev S512 : Shape := ⟨1, ![512]⟩
abbrev S512x1 : Shape := ⟨2, ![512, 1]⟩

abbrev nBuf : Space → Nat
  | .hbm => 21
  | .vmem => 13
  | .smem => 0
  | _ => 0

abbrev bufTy : (tb : Table) → Fin (tcTables nBuf tb) → BufTy
  | .hbm, ⟨0, _⟩ => ⟨S8x32x16x128, .f32⟩
  | .hbm, ⟨1, _⟩ => ⟨S8x32x16x64, .f32⟩
  | .hbm, ⟨2, _⟩ => ⟨S8x1024x512, .f32⟩
  | .hbm, ⟨3, _⟩ => ⟨S8x1024x64, .f32⟩
  | .hbm, ⟨4, _⟩ => ⟨S8x32x512, .f32⟩
  | .hbm, ⟨5, _⟩ => ⟨S8x32x64, .f32⟩
  | .hbm, ⟨6, _⟩ => ⟨S512x4096, .f32⟩
  | .hbm, ⟨7, _⟩ => ⟨S_, .i32⟩
  | .hbm, ⟨8, _⟩ => ⟨S_, .f32⟩
  | .hbm, ⟨9, _⟩ => ⟨S8x32x16x128, .f32⟩
  | .hbm, ⟨10, _⟩ => ⟨S8x32x16x256, .f32⟩
  | .hbm, ⟨11, _⟩ => ⟨S16x8x32x256, .f32⟩
  | .hbm, ⟨12, _⟩ => ⟨S16x256x256, .f32⟩
  | .hbm, ⟨13, _⟩ => ⟨S16x256x256, .bf16⟩
  | .hbm, ⟨14, _⟩ => ⟨S256x512, .f32⟩
  | .hbm, ⟨15, _⟩ => ⟨S256x64, .f32⟩
  | .hbm, ⟨16, _⟩ => ⟨S_, .i32⟩
  | .hbm, ⟨17, _⟩ => ⟨S_, .f32⟩
  | .hbm, ⟨18, _⟩ => ⟨S256x128, .f32⟩
  | .hbm, ⟨19, _⟩ => ⟨S512x4096, .bf16⟩
  | .hbm, ⟨20, _⟩ => ⟨S256x2048, .bf16⟩
  | .local _ .vmem, ⟨0, _⟩ => ⟨S16x32x256, .bf16⟩
  | .local _ .vmem, ⟨1, _⟩ => ⟨S16x32x256, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x64, .f32⟩
  | .local _ .vmem, ⟨5, _⟩ => ⟨S1x1024x64, .f32⟩
  | .local _ .vmem, ⟨6, _⟩ => ⟨S32x512, .f32⟩
  | .local _ .vmem, ⟨7, _⟩ => ⟨S32x512, .f32⟩
  | .local _ .vmem, ⟨8, _⟩ => ⟨S32x128, .f32⟩
  | .local _ .vmem, ⟨9, _⟩ => ⟨S32x128, .f32⟩
  | .local _ .vmem, ⟨10, _⟩ => ⟨S512x4096, .bf16⟩
  | .local _ .vmem, ⟨11, _⟩ => ⟨S32x2048, .bf16⟩
  | .local _ .vmem, ⟨12, _⟩ => ⟨S32x2048, .bf16⟩
  | _, _ => ⟨S8x32x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel8Ideal.lean ====
variable {F : FTy → Type} [FloatOps F] [Named F]
def κ : String → Option EReal := fun
  | "scale" => some (((Real.sqrt 192)⁻¹ : ℝ) : EReal)
  | _ => none
-- ==== Reference8Ideal.lean ====
abbrev S8x32x16x128 : Shape := ⟨4, ![8, 32, 16, 128]⟩
abbrev S8x32x16x64 : Shape := ⟨4, ![8, 32, 16, 64]⟩
abbrev S8x1024x512 : Shape := ⟨3, ![8, 1024, 512]⟩
abbrev S8x1024x64 : Shape := ⟨3, ![8, 1024, 64]⟩
abbrev S8x32x512 : Shape := ⟨3, ![8, 32, 512]⟩
abbrev S8x32x64 : Shape := ⟨3, ![8, 32, 64]⟩
abbrev S512x4096 : Shape := ⟨2, ![512, 4096]⟩
abbrev S8x1056x512 : Shape := ⟨3, ![8, 1056, 512]⟩
abbrev S8x1056x64 : Shape := ⟨3, ![8, 1056, 64]⟩
abbrev S8x1056x4096 : Shape := ⟨3, ![8, 1056, 4096]⟩
abbrev S8x1056x16x256 : Shape := ⟨4, ![8, 1056, 16, 256]⟩
abbrev S8x1056x16x128 : Shape := ⟨4, ![8, 1056, 16, 128]⟩
abbrev S32 : Shape := ⟨1, ![32]⟩
abbrev S_ : Shape := ⟨0, ![]⟩
abbrev S1056 : Shape := ⟨1, ![1056]⟩
abbrev S8x16x32x1056 : Shape := ⟨4, ![8, 16, 32, 1056]⟩
abbrev S8x1056x32x16 : Shape := ⟨4, ![8, 1056, 32, 16]⟩
abbrev S1x1056 : Shape := ⟨2, ![1, 1056]⟩
abbrev S32x1 : Shape := ⟨2, ![32, 1]⟩
abbrev S32x1056 : Shape := ⟨2, ![32, 1056]⟩
abbrev S8x16x32 : Shape := ⟨3, ![8, 16, 32]⟩
abbrev S8x16x32x1 : Shape := ⟨4, ![8, 16, 32, 1]⟩
abbrev S8x16x128x32 : Shape := ⟨4, ![8, 16, 128, 32]⟩
abbrev S256x2048 : Shape := ⟨2, ![256, 2048]⟩

abbrev nBuf : Space → Nat
  | .hbm => 90
  | .vmem => 0
  | .smem => 0
  | _ => 0

abbrev bufTy : (tb : Table) → Fin (tcTables nBuf tb) → BufTy
  | .hbm, ⟨0, _⟩ => ⟨S8x32x16x128, .f32⟩
  | .hbm, ⟨1, _⟩ => ⟨S8x32x16x64, .f32⟩
  | .hbm, ⟨2, _⟩ => ⟨S8x1024x512, .f32⟩
  | .hbm, ⟨3, _⟩ => ⟨S8x1024x64, .f32⟩
  | .hbm, ⟨4, _⟩ => ⟨S8x32x512, .f32⟩
  | .hbm, ⟨5, _⟩ => ⟨S8x32x64, .f32⟩
  | .hbm, ⟨6, _⟩ => ⟨S512x4096, .f32⟩
  | .hbm, ⟨7, _⟩ => ⟨S8x1056x512, .f32⟩
  | .hbm, ⟨8, _⟩ => ⟨S8x1056x64, .f32⟩
  | .hbm, ⟨9, _⟩ => ⟨S8x1056x4096, .f32⟩
  | .hbm, ⟨10, _⟩ => ⟨S8x1056x16x256, .f32⟩
  | .hbm, ⟨11, _⟩ => ⟨S8x1056x16x128, .f32⟩
  | .hbm, ⟨12, _⟩ => ⟨S8x1056x16x128, .f32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S_, .i32⟩
  | .hbm, ⟨19, _⟩ => ⟨S32, .i32⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i32⟩
  | .hbm, ⟨26, _⟩ => ⟨S32, .i32⟩
  | .hbm, ⟨27, _⟩ => ⟨S_, .i32⟩
  | .hbm, ⟨28, _⟩ => ⟨S32, .i32⟩
  | .hbm, ⟨29, _⟩ => ⟨S32, .i1⟩
  | .hbm, ⟨30, _⟩ => ⟨S32, .i1⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S32, .i32⟩
  | .hbm, ⟨35, _⟩ => ⟨S1056, .i32⟩
  | .hbm, ⟨36, _⟩ => ⟨S_, .i32⟩
  | .hbm, ⟨37, _⟩ => ⟨S_, .i32⟩
  | .hbm, ⟨38, _⟩ => ⟨S1056, .i32⟩
  | .hbm, ⟨39, _⟩ => ⟨S1056, .i32⟩
  | .hbm, ⟨40, _⟩ => ⟨S1056, .i32⟩
  | .hbm, ⟨41, _⟩ => ⟨S_, .i32⟩
  | .hbm, ⟨42, _⟩ => ⟨S1056, .i32⟩
  | .hbm, ⟨43, _⟩ => ⟨S1056, .i1⟩
  | .hbm, ⟨44, _⟩ => ⟨S1056, .i32⟩
  | .hbm, ⟨45, _⟩ => ⟨S1056, .i32⟩
  | .hbm, ⟨46, _⟩ => ⟨S_, .i32⟩
  | .hbm, ⟨47, _⟩ => ⟨S1056, .i32⟩
  | .hbm, ⟨48, _⟩ => ⟨S1056, .i1⟩
  | .hbm, ⟨49, _⟩ => ⟨S1056, .i1⟩
  | .hbm, ⟨50, _⟩ => ⟨S_, .i32⟩
  | .hbm, ⟨51, _⟩ => ⟨S1056, .i32⟩
  | .hbm, ⟨52, _⟩ => ⟨S1056, .i32⟩
  | .hbm, ⟨53, _⟩ => ⟨S1056, .i32⟩
  | .hbm, ⟨54, _⟩ => ⟨S8x16x32x1056, .f32⟩
  | .hbm, ⟨55, _⟩ => ⟨S8x1056x32x16, .f32⟩
  | .hbm, ⟨56, _⟩ => ⟨S8x16x32x1056, .f32⟩
  | .hbm, ⟨57, _⟩ => ⟨S8x16x32x1056, .f32⟩
  | .hbm, ⟨58, _⟩ => ⟨S_, .f32⟩
  | .hbm, ⟨59, _⟩ => ⟨S_, .f32⟩
  | .hbm, ⟨60, _⟩ => ⟨S8x16x32x1056, .f32⟩
  | .hbm, ⟨61, _⟩ => ⟨S8x16x32x1056, .f32⟩
  | .hbm, ⟨62, _⟩ => ⟨S1x1056, .i32⟩
  | .hbm, ⟨63, _⟩ => ⟨S32x1, .i32⟩
  | .hbm, ⟨64, _⟩ => ⟨S32x1056, .i32⟩
  | .hbm, ⟨65, _⟩ => ⟨S32x1056, .i32⟩
  | .hbm, ⟨66, _⟩ => ⟨S32x1056, .i1⟩
  | .hbm, ⟨67, _⟩ => ⟨S_, .f32⟩
  | .hbm, ⟨68, _⟩ => ⟨S_, .f32⟩
  | .hbm, ⟨69, _⟩ => ⟨S8x16x32x1056, .i1⟩
  | .hbm, ⟨70, _⟩ => ⟨S8x16x32x1056, .f32⟩
  | .hbm, ⟨71, _⟩ => ⟨S8x16x32x1056, .f32⟩
  | .hbm, ⟨72, _⟩ => ⟨S_, .f32⟩
  | .hbm, ⟨73, _⟩ => ⟨S8x16x32, .f32⟩
  | .hbm, ⟨74, _⟩ => ⟨S_, .f32⟩
  | .hbm, ⟨75, _⟩ => ⟨S8x16x32, .f32⟩
  | .hbm, ⟨76, _⟩ => ⟨S8x16x32, .f32⟩
  | .hbm, ⟨77, _⟩ => ⟨S8x16x32x1, .f32⟩
  | .hbm, ⟨78, _⟩ => ⟨S8x16x32x1056, .f32⟩
  | .hbm, ⟨79, _⟩ => ⟨S8x16x32x1056, .f32⟩
  | .hbm, ⟨80, _⟩ => ⟨S8x16x32x1056, .f32⟩
  | .hbm, ⟨81, _⟩ => ⟨S_, .f32⟩
  | .hbm, ⟨82, _⟩ => ⟨S8x16x32, .f32⟩
  | .hbm, ⟨83, _⟩ => ⟨S8x16x32x1, .f32⟩
  | .hbm, ⟨84, _⟩ => ⟨S8x16x32x1056, .f32⟩
  | .hbm, ⟨85, _⟩ => ⟨S8x16x32x1056, .f32⟩
  | .hbm, ⟨86, _⟩ => ⟨S8x16x128x32, .f32⟩
  | .hbm, ⟨87, _⟩ => ⟨S8x32x16x128, .f32⟩
  | .hbm, ⟨88, _⟩ => ⟨S256x2048, .f32⟩
  | .hbm, ⟨89, _⟩ => ⟨S256x2048, .bf16⟩
  | _, _ => ⟨S8x32x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v9 : Ref sig .tc := ⟨.hbm, 34, rfl⟩
abbrev main_v10 : Ref sig .tc := ⟨.hbm, 35, rfl⟩
abbrev main_c_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_cst_2 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v24 : Ref sig .tc := ⟨.hbm, 71, rfl⟩
abbrev main_cst_3 : Ref sig .tc := ⟨.hbm, 72, rfl⟩
abbrev main_v25 : Ref sig .tc := ⟨.hbm, 73, rfl⟩
abbrev main_cst_4 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_cst_5 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩

abbrev nD : Nat := 1
abbrev τ : Topo := Topo.v7x

variable {F : FTy → Type} [FloatOps F]
-- ==== Proof.Softmax.lean ====
/- The softmax-weighted sum over the extended reals: the kernel divides the weighted sum by the sum of its weights,
   with powers of two; the reference divides each weight, with the exponential. The two are equal where every score is
   a real number or masked (`⊥`) and at least one is a real number. -/
module

public import Idealize.ShloMosaic.PureOps.Ideal

@[expose] public section

noncomputable section

namespace Cert.Softmax

open Idealize.ShloMosaic

/-- A sum times a nonnegative real is the sum of the products, whatever the summands. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A finite sum of reals, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a family whose members are real or `⊥`, one of them real, is real. -/
theorem exists_sup_coe {ι : Type*} (s : Finset ι) (y : ι → EReal) (hy : ∀ i ∈ s, y i ≠ ⊤) (i₀ : ι) (h₀ : i₀ ∈ s)
    (hb : y i₀ ≠ ⊥) : ∃ m : ℝ, s.sup y = (m : EReal) := by
  have hne : s.Nonempty := ⟨i₀, h₀⟩
  obtain ⟨j, hj, he⟩ := Finset.exists_mem_eq_sup s hne y
  have hbot : s.sup y ≠ ⊥ := fun h => hb (le_bot_iff.mp (h ▸ Finset.le_sup (f := y) h₀))
  have htop : s.sup y ≠ ⊤ := he ▸ hy j hj
  exact ⟨(s.sup y).toReal, (EReal.coe_toReal htop hbot).symm⟩

/-- Multiplying by a positive real commutes with the maximum. -/
theorem sup_mul_coe {ι : Type*} (s : Finset ι) (y : ι → EReal) (k : ℝ) (hk : 0 < k) :
    (s.sup fun i => y i * (k : EReal)) = s.sup y * (k : EReal) := by
  classical
  have hbot : (⊥ : EReal) * (k : EReal) = ⊥ := EReal.bot_mul_coe_of_pos hk
  have hmono : Monotone fun x : EReal => x * (k : EReal) := fun a b h =>
    mul_le_mul_of_nonneg_right h (by exact_mod_cast hk.le)
  induction s using Finset.induction_on with
  | empty => simp [hbot]
  | insert a s ha ih =>
    rw [Finset.sup_insert, Finset.sup_insert, ih]
    exact (hmono.map_sup _ _).symm

/-- `2 ^ ((y − m) c / ln 2) = e ^ (y c − m c)` for a score that is real or masked. -/
theorem exp2_eq_exp (y : EReal) (hy : y ≠ ⊤) (m k : ℝ) (hk : 0 < k) :
    Ideal.exp2 ((y - (m : EReal)) * ((k * (Real.log 2)⁻¹ : ℝ) : EReal))
      = Ideal.exp (y * (k : EReal) - ((m * k : ℝ) : EReal)) := by
  have hl : (0 : ℝ) < Real.log 2 := Real.log_pos one_lt_two
  induction y using EReal.rec with
  | bot =>
    rw [EReal.bot_sub, EReal.bot_mul_coe_of_pos hk, EReal.bot_sub,
      EReal.bot_mul_coe_of_pos (mul_pos hk (inv_pos.mpr hl))]
    rfl
  | coe r =>
    have e1 : ((r : EReal) - (m : EReal)) * ((k * (Real.log 2)⁻¹ : ℝ) : EReal)
        = (((r - m) * (k * (Real.log 2)⁻¹) : ℝ) : EReal) := by
      rw [← EReal.coe_sub, ← EReal.coe_mul]
    have e2 : (r : EReal) * (k : EReal) - ((m * k : ℝ) : EReal) = ((r * k - m * k : ℝ) : EReal) := by
      rw [← EReal.coe_mul, ← EReal.coe_sub]
    rw [e1, e2, Ideal.exp2_coe, Ideal.exp_coe]
    congr 1
    change (2 : ℝ) ^ ((r - m) * (k * (Real.log 2)⁻¹)) = Real.exp (r * k - m * k)
    rw [Real.rpow_def_of_pos two_pos]
    congr 1
    field_simp
  | top => exact absurd rfl hy

/-- The exponential of a score that is real or masked, less a real, is a nonnegative real. -/
theorem exists_exp (y : EReal) (hy : y ≠ ⊤) (k b : ℝ) (hk : 0 < k) :
    ∃ r : ℝ, 0 ≤ r ∧ Ideal.exp (y * (k : EReal) - (b : EReal)) = (r : EReal) ∧ (y ≠ ⊥ → 0 < r) := by
  induction y using EReal.rec with
  | bot =>
    refine ⟨0, le_rfl, ?_, fun h => absurd rfl h⟩
    rw [EReal.bot_mul_coe_of_pos hk, EReal.bot_sub]
    rfl
  | coe r =>
    refine ⟨Real.exp (r * k - b), (Real.exp_pos _).le, ?_, fun _ => Real.exp_pos _⟩
    rw [← EReal.coe_mul, ← EReal.coe_sub, Ideal.exp_coe]
  | top => exact absurd rfl hy

/-- A row of attention: the weighted sum over the sum of the weights, with powers of two and the scale after the
    maximum is taken off, is the sum of the values weighted by the softmax of the scaled scores. -/
theorem row_eq {ι : Type*} [Fintype ι] (y v : ι → EReal) (k : ℝ) (hk : 0 < k) (hy : ∀ i, y i ≠ ⊤) (i₀ : ι)
    (h₀ : y i₀ ≠ ⊥) :
    Ideal.div (∑ i, Ideal.exp2 ((y i - Finset.univ.sup y) * ((k * (Real.log 2)⁻¹ : ℝ) : EReal)) * v i)
        (∑ i, Ideal.exp2 ((y i - Finset.univ.sup y) * ((k * (Real.log 2)⁻¹ : ℝ) : EReal)))
      = ∑ i, v i * Ideal.div (Ideal.exp (y i * (k : EReal) - Finset.univ.sup fun i => y i * (k : EReal)))
          (∑ i, Ideal.exp (y i * (k : EReal) - Finset.univ.sup fun i => y i * (k : EReal))) := by
  obtain ⟨m, hm⟩ := exists_sup_coe Finset.univ y (fun i _ => hy i) i₀ (Finset.mem_univ _) h₀
  rw [sup_mul_coe _ _ _ hk, hm, ← EReal.coe_mul]
  simp only [exp2_eq_exp _ (hy _) m k hk]
  choose p hp0 hp hpos using fun i => exists_exp (y i) (hy i) k (m * k) hk
  simp only [hp]
  rw [← coe_sum]
  have hl : (0 : ℝ) < ∑ i, p i :=
    Finset.sum_pos' (fun i _ => hp0 i) ⟨i₀, Finset.mem_univ _, hpos i₀ h₀⟩
  rw [Ideal.div_coe hl.ne', sum_mul_coe _ _ _ (by positivity)]
  refine Finset.sum_congr rfl fun i _ => ?_
  rw [Ideal.div_coe hl.ne', mul_comm ((p i : EReal)) (v i), mul_assoc]

/-- The first block of a sum whose terms beyond two blocks are zero, and the second. -/
theorem sum_split (N n d : ℕ) (h : n + d ≤ N) (f : ℕ → EReal) (hz : ∀ i, n + d ≤ i → i < N → f i = 0) :
    ∑ i : Fin N, f i = (∑ j : Fin d, f (n + j)) + ∑ j : Fin n, f j := by
  obtain ⟨r, rfl⟩ := Nat.exists_eq_add_of_le h
  rw [Finset.sum_range f |>.symm, Finset.sum_range (fun j => f (n + j)) |>.symm, Finset.sum_range f |>.symm,
    Finset.sum_range_add, Finset.sum_range_add, Finset.sum_eq_zero (s := Finset.range r), add_zero, add_comm]
  intro i hi
  exact hz _ (Nat.le_add_right _ _) (Nat.add_lt_add_left (Finset.mem_range.mp hi) _)

/-- The same of a maximum whose members beyond two blocks are `⊥`. -/
theorem sup_split (N n d : ℕ) (h : n + d ≤ N) (f : ℕ → EReal) (hz : ∀ i, n + d ≤ i → i < N → f i = ⊥) :
    (Finset.univ.sup fun i : Fin N => f i)
      = max (Finset.univ.sup fun j : Fin d => f (n + j)) (Finset.univ.sup fun j : Fin n => f j) := by
  apply le_antisymm
  · refine Finset.sup_le fun i _ => ?_
    by_cases h1 : i.val < n
    · exact le_max_of_le_right (Finset.le_sup (f := fun j : Fin n => f j) (Finset.mem_univ ⟨i.val, h1⟩))
    · by_cases h2 : i.val < n + d
      · refine le_max_of_le_left ?_
        have := Finset.le_sup (f := fun j : Fin d => f (n + j)) (Finset.mem_univ ⟨i.val - n, by omega⟩)
        simpa [Nat.add_sub_cancel' (Nat.le_of_not_lt h1)] using this
      · rw [hz i.val (Nat.le_of_not_lt h2) i.isLt]; exact bot_le
  · refine max_le (Finset.sup_le fun j _ => ?_) (Finset.sup_le fun j _ => ?_)
    · exact Finset.le_sup (f := fun i : Fin N => f i) (Finset.mem_univ ⟨n + j.val, by omega⟩)
    · exact Finset.le_sup (f := fun i : Fin N => f i) (Finset.mem_univ ⟨j.val, by omega⟩)

/-- The fold a reduction takes from `⊥` is the maximum. -/
theorem fold_max_eq_sup {ι : Type*} (s : Finset ι) (f : ι → EReal) : s.fold max ⊥ f = s.sup f := rfl

end Cert.Softmax

end
-- ==== Proof.Tile.lean ====
/- One tile of 256 queries of the attention kernel, at any number `n` of earlier keys: the two score products, the
   maximum, the weights and the quotient, as vectors, and what they are at an index over the extended reals. -/
module

public import proofs.«01_k».proof.Proof.Gen.KernelIdeal.Skeleton
public import proofs.«01_k».proof.Proof.Softmax
public import Idealize.ShloMosaic.Lib.MatmulPlain
public import Idealize.ShloMosaic.Lib.ValueIdx
public import Idealize.ShloMosaic.Lib.Pipeline.Value
public import Idealize.ShloMosaic.PureOps.Ideal.Laws
public import Idealize.ShloMosaic.PureOps.IdealRules

@[expose] public section

set_option maxRecDepth 16384

noncomputable section

namespace Cert.Tile

open Cert.KernelIdeal Cert.KernelIdeal.Gen Idealize.ShloMosaic Idealize.ShloMosaic.ValueIdx

/-- The factor of the exponents: the scale over the logarithm of 2. -/
abbrev c2 : ℝ := (Real.sqrt 192)⁻¹ * (Real.log 2)⁻¹

/-- The kernel's named constant is that factor. -/
theorem named_c2 : Named.named (F := Ideal) Cert.KernelIdeal.κ "c2" (φ := .f32) 0x3DD53B95#32 = ((c2 : ℝ) : EReal) :=
  IdealRules.named_const.ideal_named_scalar _ _ _ _ rfl

/-- The literal the reductions to a maximum start from. -/
theorem ofBits_ninf : (FloatOps.ofBits .f32 0xFF800000#32 : Ideal .f32) = ⊥ := by
  show Ideal.ieee 8 23 0xFF800000#32 = ⊥
  unfold Ideal.ieee
  rw [if_pos (by decide), if_pos (by decide), if_pos (by decide)]

/-! ## The layout operations at an index -/

/-- A column spread along the rows. -/
theorem bcol {n : ℕ} (x : FVec Ideal (⟨2, ![256, 1]⟩ : Shape) .f32)
    (h : (⟨2, ![256, 1]⟩ : Shape).Broadcasts ⟨2, ![256, n]⟩) (r : Fin 256) (j : Fin n) :
    broadcastTo ⟨2, ![256, n]⟩ x h (ix2 r j) = x (ix2 r 0) :=
  broadcastTo_apply x h (ix2 r j) (ix2 r 0) fun a => match a with
    | ⟨0, _⟩ => by
        show r.val = if (256 : ℕ) = 1 then 0 else _
        rw [if_neg (by decide)]; rfl
    | ⟨1, _⟩ => by
        show (0 : ℕ) = if (1 : ℕ) = 1 then 0 else _
        rw [if_pos rfl]

/-- A vector of 256 seen as a column. -/
theorem col (x : FVec Ideal (⟨1, ![256]⟩ : Shape) .f32) (h : (⟨1, ![256]⟩ : Shape).ShapeCasts ⟨2, ![256, 1]⟩) (r : Fin 256) :
    shapeCast ⟨2, ![256, 1]⟩ x h (ix2 r 0) = x (ix1 r) :=
  shapeCast_apply x h (ix2 r 0) (ix1 r) (by
    rw [Shape.rowMajor_val_one, Shape.rowMajor_val_two]
    show r.val = r.val * 1 + 0
    omega)

/-- A block with its leading unit axis dropped. -/
theorem drop1 {a b : ℕ} (x : FVec Ideal (⟨3, ![1, a, b]⟩ : Shape) .bf16)
    (h : (⟨3, ![1, a, b]⟩ : Shape).ShapeCasts ⟨2, ![a, b]⟩) (r : Fin a) (c : Fin b) :
    shapeCast ⟨2, ![a, b]⟩ x h (ix2 r c) = x (ix3 0 r c) := by
  refine (shapeCast_dropUnit_apply (![a, b]) x h (ix2 r c)).trans (congrArg x (funext fun d => ?_))
  match d with
  | ⟨0, _⟩ => rfl
  | ⟨1, _⟩ => rfl
  | ⟨2, _⟩ => rfl

/-- The sum along a row. -/
theorem rowSum {n : ℕ} (x : FVec Ideal (⟨2, ![256, n]⟩ : Shape) .f32) (h : (⟨2, ![256, n]⟩ : Shape).Reduces [1] ⟨1, ![256]⟩)
    (hφ : FKind.Formats .f32) (hacc : (0x00000000#32 : BitVec 32) = FKind.add.neutral .f32 hφ) (r : Fin 256) :
    multiReduction .add [1] ⟨1, ![256]⟩ x 0x00000000#32 h hφ hacc (ix1 r) = ∑ j : Fin n, x (ix2 r j) := by
  refine (Ideal.multiReduction_add_single x _ h hφ hacc (ix1 r)).trans (Finset.sum_congr rfl fun j _ => congrArg x ?_)
  funext d
  match d with
  | ⟨0, _⟩ => rfl
  | ⟨1, _⟩ => rfl

/-- The maximum along a row. -/
theorem rowMax {n : ℕ} (x : FVec Ideal (⟨2, ![256, n]⟩ : Shape) .f32) (h : (⟨2, ![256, n]⟩ : Shape).Reduces [1] ⟨1, ![256]⟩)
    (hφ : FKind.Formats .f32) (hacc : (0xFF800000#32 : BitVec 32) = FKind.maximumf.neutral .f32 hφ) (r : Fin 256) :
    multiReduction .maximumf [1] ⟨1, ![256]⟩ x 0xFF800000#32 h hφ hacc (ix1 r)
      = Finset.univ.sup fun j : Fin n => x (ix2 r j) := by
  refine (Ideal.multiReduction_maximumf_single x _ h hφ hacc (ix1 r)).trans ?_
  rw [ofBits_ninf, Softmax.fold_max_eq_sup]
  refine Finset.sup_congr rfl fun j _ => congrArg x ?_
  funext d
  match d with
  | ⟨0, _⟩ => rfl
  | ⟨1, _⟩ => rfl

/-! ## Scores -/

/-- The scores of 256 queries against `n` keys. -/
def score (n : ℕ) (q : FVec Ideal (⟨3, ![1, 256, 256]⟩ : Shape) .bf16) (k : FVec Ideal (⟨3, ![1, n, 256]⟩ : Shape) .bf16)
    (hk : (⟨3, ![1, n, 256]⟩ : Shape).ShapeCasts ⟨2, ![n, 256]⟩) : FVec Ideal (⟨2, ![256, n]⟩ : Shape) .f32 :=
  matmul (DotDims.transposedRhs 256 256 n) none (shapeCast S256x256 q shapeCasts_S1x256x256_S256x256)
    (shapeCast ⟨2, ![n, 256]⟩ k hk) (constant ⟨2, ![256, n]⟩ .f32 0x00000000#32)

theorem score_apply (n : ℕ) (q : FVec Ideal (⟨3, ![1, 256, 256]⟩ : Shape) .bf16)
    (k : FVec Ideal (⟨3, ![1, n, 256]⟩ : Shape) .bf16)
    (hk : (⟨3, ![1, n, 256]⟩ : Shape).ShapeCasts ⟨2, ![n, 256]⟩) (r : Fin 256) (j : Fin n) :
    score n q k hk (ix2 r j) = ∑ c : Fin 256, q (ix3 0 r c) * k (ix3 0 j c) := by
  refine (Ideal.matmul_transposedRhs_apply none _ _ _ r j).trans ?_
  rw [constant_apply, Ideal.ofBits_zero_f32, zero_add]
  refine Finset.sum_congr rfl fun c _ => ?_
  rw [drop1, drop1]

/-- The scores of the keys of the queries' own tile: masked where the key's chunk of 64 is later. -/
def dscore (q k : FVec Ideal (⟨3, ![1, 256, 256]⟩ : Shape) .bf16) : FVec Ideal (⟨2, ![256, 256]⟩ : Shape) .f32 :=
  select k0_pay3 (score 256 q k shapeCasts_S1x256x256_S256x256)
    (broadcast S256x256 (Scalar.ofBits (F := Ideal) .f32 0xFF800000#32))

theorem shr6 (n : ℕ) (hn : n < 256) : IntOp.shrsi .vector (BitVec.ofNat 32 n) 6#32 = BitVec.ofNat 32 (n / 64) := by
  revert n
  decide +kernel

theorem mask_apply (r j : Fin 256) : k0_pay3 (ix2 r j) = if j.val / 64 ≤ r.val / 64 then 1#1 else 0#1 := by
  show IntOp.cmpi .sge (IntOp.shrsi .vector (iota .tc S256x256 32 [0] iota_S256x256_d0_w32 (ix2 r j)) 6#32)
    (IntOp.shrsi .vector (iota .tc S256x256 32 [1] iota_S256x256_d1_w32 (ix2 r j)) 6#32) = _
  rw [iota_single_apply, iota_single_apply]
  show IntOp.cmpi .sge (IntOp.shrsi .vector (BitVec.ofNat 32 r.val) 6#32) (IntOp.shrsi .vector (BitVec.ofNat 32 j.val) 6#32) = _
  rw [shr6 _ r.isLt, shr6 _ j.isLt]
  have h : ∀ a b : Fin 4, IntOp.cmpi .sge (BitVec.ofNat 32 a.val) (BitVec.ofNat 32 b.val) = if b.val ≤ a.val then 1#1 else 0#1 := by
    decide +kernel
  exact h ⟨r.val / 64, by omega⟩ ⟨j.val / 64, by omega⟩

theorem dscore_apply (q k : FVec Ideal (⟨3, ![1, 256, 256]⟩ : Shape) .bf16) (r j : Fin 256) :
    dscore q k (ix2 r j)
      = if j.val / 64 ≤ r.val / 64 then ∑ c : Fin 256, q (ix3 0 r c) * k (ix3 0 j c) else ⊥ := by
  show Scalar.select (k0_pay3 (ix2 r j)) (score 256 q k shapeCasts_S1x256x256_S256x256 (ix2 r j))
    (FloatOps.ofBits .f32 0xFF800000#32 : Ideal .f32) = _
  rw [mask_apply, score_apply, ofBits_ninf]
  by_cases h : j.val / 64 ≤ r.val / 64
  · rw [if_pos h, if_pos h]; rfl
  · rw [if_neg h, if_neg h]; rfl

/-! ## The tile -/

section
variable (n : ℕ) (hb : (⟨2, ![256, 1]⟩ : Shape).Broadcasts ⟨2, ![256, n]⟩)
  (hr : (⟨2, ![256, n]⟩ : Shape).Reduces [1] ⟨1, ![256]⟩)

/-- The row maxima as a column. -/
def cmax (s : FVec Ideal (⟨2, ![256, n]⟩ : Shape) .f32) : FVec Ideal (⟨2, ![256, 1]⟩ : Shape) .f32 :=
  shapeCast S256x1 (multiReduction .maximumf [1] S256 s 0xFF800000#32 hr (.inl rfl) rfl) shapeCasts_S256_S256x1
/-- The row sums as a column. -/
def csum (s : FVec Ideal (⟨2, ![256, n]⟩ : Shape) .f32) : FVec Ideal (⟨2, ![256, 1]⟩ : Shape) .f32 :=
  shapeCast S256x1 (multiReduction .add [1] S256 s 0x00000000#32 hr (.inl rfl) rfl) shapeCasts_S256_S256x1
/-- The weights of scores under a column of maxima. -/
def weight (s : FVec Ideal (⟨2, ![256, n]⟩ : Shape) .f32) (m : FVec Ideal (⟨2, ![256, 1]⟩ : Shape) .f32) :
    FVec Ideal (⟨2, ![256, n]⟩ : Shape) .f32 :=
  exp2 (mulf (subf s (broadcastTo ⟨2, ![256, n]⟩ m hb))
    (broadcast ⟨2, ![256, n]⟩ (Named.named Cert.KernelIdeal.κ "c2" (φ := .f32) 0x3DD53B95#32)))
/-- The weighted sum of the values. -/
def wsum (p : FVec Ideal (⟨2, ![256, n]⟩ : Shape) .f32) (v : FVec Ideal (⟨3, ![1, n, 128]⟩ : Shape) .bf16)
    (hv : (⟨3, ![1, n, 128]⟩ : Shape).ShapeCasts ⟨2, ![n, 128]⟩) : FVec Ideal (⟨2, ![256, 128]⟩ : Shape) .f32 :=
  matmul (φ₁ := .bf16) (φ₂ := .bf16) (DotDims.plain 256 n 128) none (truncf .bf16 p bitsLt_bf16_f32) (shapeCast ⟨2, ![n, 128]⟩ v hv)
    (constant S256x128 .f32 0x00000000#32)

theorem cmax_apply (s : FVec Ideal (⟨2, ![256, n]⟩ : Shape) .f32) (r : Fin 256) :
    cmax n hr s (ix2 r 0) = Finset.univ.sup fun j : Fin n => s (ix2 r j) :=
  (col _ _ r).trans (rowMax s hr _ _ r)
theorem csum_apply (s : FVec Ideal (⟨2, ![256, n]⟩ : Shape) .f32) (r : Fin 256) :
    csum n hr s (ix2 r 0) = ∑ j : Fin n, s (ix2 r j) :=
  (col _ _ r).trans (rowSum s hr _ _ r)
theorem weight_apply (s : FVec Ideal (⟨2, ![256, n]⟩ : Shape) .f32) (m : FVec Ideal (⟨2, ![256, 1]⟩ : Shape) .f32)
    (r : Fin 256) (j : Fin n) :
    weight n hb s m (ix2 r j) = Ideal.exp2 ((s (ix2 r j) - m (ix2 r 0)) * ((c2 : ℝ) : EReal)) := by
  show Ideal.exp2 ((s (ix2 r j) - broadcastTo ⟨2, ![256, n]⟩ m hb (ix2 r j)) * Named.named (F := Ideal) Cert.KernelIdeal.κ "c2" (φ := .f32) 0x3DD53B95#32) = _
  rw [bcol, named_c2]
theorem wsum_apply (p : FVec Ideal (⟨2, ![256, n]⟩ : Shape) .f32) (v : FVec Ideal (⟨3, ![1, n, 128]⟩ : Shape) .bf16)
    (hv : (⟨3, ![1, n, 128]⟩ : Shape).ShapeCasts ⟨2, ![n, 128]⟩) (r : Fin 256) (e : Fin 128) :
    wsum n p v hv (ix2 r e) = ∑ j : Fin n, p (ix2 r j) * v (ix3 0 j e) := by
  refine (Ideal.matmul_plain_apply none _ _ _ r e).trans ?_
  rw [constant_apply, Ideal.ofBits_zero_f32, zero_add]
  refine Finset.sum_congr rfl fun c _ => ?_
  rw [drop1]
  rfl

end

/-- A tile with earlier keys. -/
def tile (n : ℕ) (hb : (⟨2, ![256, 1]⟩ : Shape).Broadcasts ⟨2, ![256, n]⟩)
    (hr : (⟨2, ![256, n]⟩ : Shape).Reduces [1] ⟨1, ![256]⟩)
    (hk : (⟨3, ![1, n, 256]⟩ : Shape).ShapeCasts ⟨2, ![n, 256]⟩) (hv : (⟨3, ![1, n, 128]⟩ : Shape).ShapeCasts ⟨2, ![n, 128]⟩)
    (q kd : FVec Ideal (⟨3, ![1, 256, 256]⟩ : Shape) .bf16) (kp : FVec Ideal (⟨3, ![1, n, 256]⟩ : Shape) .bf16)
    (vd : FVec Ideal (⟨3, ![1, 256, 128]⟩ : Shape) .bf16) (vp : FVec Ideal (⟨3, ![1, n, 128]⟩ : Shape) .bf16) :
    FVec Ideal (⟨2, ![256, 128]⟩ : Shape) .bf16 :=
  have sd := dscore q kd
  have sp := score n q kp hk
  have m := maximumf (cmax 256 reduces_S256x256_S256 sd) (cmax n hr sp)
  have pd := weight 256 broadcasts_S256x1_S256x256 sd m
  have pp := weight n hb sp m
  truncf .bf16 (divf (addf (wsum 256 pd vd shapeCasts_S1x256x128_S256x128) (wsum n pp vp hv))
    (broadcastTo S256x128 (addf (csum 256 reduces_S256x256_S256 pd) (csum n hr pp)) broadcasts_S256x1_S256x128)) bitsLt_bf16_f32

/-- The first tile, with none. -/
def tile0 (q kd : FVec Ideal (⟨3, ![1, 256, 256]⟩ : Shape) .bf16) (vd : FVec Ideal (⟨3, ![1, 256, 128]⟩ : Shape) .bf16) :
    FVec Ideal (⟨2, ![256, 128]⟩ : Shape) .bf16 :=
  have sd := dscore q kd
  have pd := weight 256 broadcasts_S256x1_S256x256 sd (cmax 256 reduces_S256x256_S256 sd)
  truncf .bf16 (divf (wsum 256 pd vd shapeCasts_S1x256x128_S256x128)
    (broadcastTo S256x128 (csum 256 reduces_S256x256_S256 pd) broadcasts_S256x1_S256x128)) bitsLt_bf16_f32

/-! ## A tile as rows of the attention over all keys -/

/-- The score of query `R` against key `k` in a block of 2048: masked where the key's chunk is later. -/
def rowScore (x0 x1 : FVec Ideal S1x2048x256 .bf16) (R : Fin 2048) (k : ℕ) : EReal :=
  if h : k < 2048 then
    if k / 64 ≤ R.val / 64 then ∑ c : Fin 256, x0 (ix3 0 R c) * x1 (ix3 0 ⟨k, h⟩ c) else ⊥
  else ⊥

/-- The value of key `k` in column `e`. -/
def rowVal (x2 : FVec Ideal S1x2048x128 .bf16) (e : Fin 128) (k : ℕ) : EReal :=
  if h : k < 2048 then x2 (ix3 0 ⟨k, h⟩ e) else 0

/-- The weight of a score under a maximum. -/
def wt (y m : EReal) : EReal := Ideal.exp2 ((y - m) * ((c2 : ℝ) : EReal))

theorem c2_pos : 0 < c2 := mul_pos (inv_pos.mpr (Real.sqrt_pos.mpr (by norm_num))) (inv_pos.mpr (Real.log_pos one_lt_two))

theorem wt_bot (m : EReal) : wt ⊥ m = 0 := by
  unfold wt
  rw [EReal.bot_sub, EReal.bot_mul_coe_of_pos c2_pos]
  rfl

/-- What the kernel computes of a block: query `R`, column `e`. -/
def rowOut (x0 x1 : FVec Ideal S1x2048x256 .bf16) (x2 : FVec Ideal S1x2048x128 .bf16) (R : Fin 2048) (e : Fin 128) : EReal :=
  Ideal.div
    (∑ k : Fin 2048, wt (rowScore x0 x1 R k) (Finset.univ.sup fun k : Fin 2048 => rowScore x0 x1 R k) * rowVal x2 e k)
    (∑ k : Fin 2048, wt (rowScore x0 x1 R k) (Finset.univ.sup fun k : Fin 2048 => rowScore x0 x1 R k))

theorem tile_apply (n : ℕ) (hb hr hk hv q kd kp vd vp) (x0 x1 : FVec Ideal S1x2048x256 .bf16) (x2 : FVec Ideal S1x2048x128 .bf16)
    (t : ℕ) (hn : n = 256 * t) (hn' : n + 256 ≤ 2048)
    (hq : ∀ (r : Fin 256) (c : Fin 256), q (ix3 0 r c) = x0 (ix3 0 ⟨n + r.val, by omega⟩ c))
    (hkd : ∀ (r : Fin 256) (c : Fin 256), kd (ix3 0 r c) = x1 (ix3 0 ⟨n + r.val, by omega⟩ c))
    (hkp : ∀ (r : Fin n) (c : Fin 256), kp (ix3 0 r c) = x1 (ix3 0 ⟨r.val, by omega⟩ c))
    (hvd : ∀ (r : Fin 256) (c : Fin 128), vd (ix3 0 r c) = x2 (ix3 0 ⟨n + r.val, by omega⟩ c))
    (hvp : ∀ (r : Fin n) (c : Fin 128), vp (ix3 0 r c) = x2 (ix3 0 ⟨r.val, by omega⟩ c))
    (r : Fin 256) (e : Fin 128) :
    tile n hb hr hk hv q kd kp vd vp (ix2 r e) = rowOut x0 x1 x2 ⟨n + r.val, by omega⟩ e := by
  have hsd : ∀ j : Fin 256, dscore q kd (ix2 r j) = rowScore x0 x1 ⟨n + r.val, by omega⟩ (n + j.val) := fun j => by
    rw [dscore_apply, rowScore, dif_pos (by omega)]
    have e1 : (n + j.val) / 64 ≤ (n + r.val) / 64 ↔ j.val / 64 ≤ r.val / 64 := by omega
    simp only [hq, hkd, e1]
  have hsp : ∀ j : Fin n, score n q kp hk (ix2 r j) = rowScore x0 x1 ⟨n + r.val, by omega⟩ j.val := fun j => by
    rw [score_apply, rowScore, dif_pos (by omega), if_pos (by show j.val / 64 ≤ (n + r.val) / 64; omega)]
    simp only [hq, hkp]
  have hbot : ∀ k, n + 256 ≤ k → k < 2048 → rowScore x0 x1 ⟨n + r.val, by omega⟩ k = ⊥ := fun k h1 h2 => by
    rw [rowScore, dif_pos h2, if_neg (by show ¬ k / 64 ≤ (n + r.val) / 64; omega)]
  have hvd' : ∀ j : Fin 256, vd (ix3 0 j e) = rowVal x2 e (n + j.val) := fun j => by
    rw [hvd, rowVal, dif_pos (by omega)]
  have hvp' : ∀ j : Fin n, vp (ix3 0 j e) = rowVal x2 e j.val := fun j => by
    rw [hvp, rowVal, dif_pos (by omega)]
  unfold rowOut
  rw [Softmax.sup_split 2048 n 256 hn' (fun k => rowScore x0 x1 ⟨n + r.val, by omega⟩ k) hbot,
    Softmax.sum_split 2048 n 256 hn' (fun k => wt (rowScore x0 x1 ⟨n + r.val, by omega⟩ k) _ * rowVal x2 e k)
      (fun k h1 h2 => by show wt (rowScore _ _ _ k) _ * _ = 0; rw [hbot k h1 h2, wt_bot, zero_mul]),
    Softmax.sum_split 2048 n 256 hn' (fun k => wt (rowScore x0 x1 ⟨n + r.val, by omega⟩ k) _)
      (fun k h1 h2 => by show wt (rowScore _ _ _ k) _ = 0; rw [hbot k h1 h2, wt_bot])]
  show Ideal.div (wsum 256 _ vd _ (ix2 r e) + wsum n _ vp _ (ix2 r e)) (broadcastTo S256x128 _ _ (ix2 r e)) = _
  rw [wsum_apply, wsum_apply, bcol]
  show Ideal.div _ (csum 256 _ _ (ix2 r 0) + csum n _ _ (ix2 r 0)) = _
  rw [csum_apply, csum_apply]
  simp only [weight_apply, maximumf_apply, cmax_apply, hsd, hsp, hvd', hvp']
  rfl

theorem tile0_apply (q kd vd) (x0 x1 : FVec Ideal S1x2048x256 .bf16) (x2 : FVec Ideal S1x2048x128 .bf16)
    (hq : ∀ (r : Fin 256) (c : Fin 256), q (ix3 0 r c) = x0 (ix3 0 ⟨r.val, by omega⟩ c))
    (hkd : ∀ (r : Fin 256) (c : Fin 256), kd (ix3 0 r c) = x1 (ix3 0 ⟨r.val, by omega⟩ c))
    (hvd : ∀ (r : Fin 256) (c : Fin 128), vd (ix3 0 r c) = x2 (ix3 0 ⟨r.val, by omega⟩ c))
    (r : Fin 256) (e : Fin 128) :
    tile0 q kd vd (ix2 r e) = rowOut x0 x1 x2 ⟨r.val, by omega⟩ e := by
  have hsd : ∀ j : Fin 256, dscore q kd (ix2 r j) = rowScore x0 x1 ⟨r.val, by omega⟩ (0 + j.val) := fun j => by
    rw [dscore_apply, rowScore, dif_pos (by omega)]
    simp only [hq, hkd, Nat.zero_add]
  have hbot : ∀ k, 0 + 256 ≤ k → k < 2048 → rowScore x0 x1 ⟨r.val, by omega⟩ k = ⊥ := fun k h1 h2 => by
    rw [rowScore, dif_pos h2, if_neg (by show ¬ k / 64 ≤ r.val / 64; omega)]
  have hvd' : ∀ j : Fin 256, vd (ix3 0 j e) = rowVal x2 e (0 + j.val) := fun j => by
    rw [hvd, rowVal, dif_pos (by omega)]
    simp only [Nat.zero_add]
  unfold rowOut
  rw [Softmax.sup_split 2048 0 256 (by decide) (fun k => rowScore x0 x1 ⟨r.val, by omega⟩ k) hbot,
    Softmax.sum_split 2048 0 256 (by decide) (fun k => wt (rowScore x0 x1 ⟨r.val, by omega⟩ k) _ * rowVal x2 e k)
      (fun k h1 h2 => by show wt (rowScore _ _ _ k) _ * _ = 0; rw [hbot k h1 h2, wt_bot, zero_mul]),
    Softmax.sum_split 2048 0 256 (by decide) (fun k => wt (rowScore x0 x1 ⟨r.val, by omega⟩ k) _)
      (fun k h1 h2 => by show wt (rowScore _ _ _ k) _ = 0; rw [hbot k h1 h2, wt_bot])]
  show Ideal.div (wsum 256 _ vd _ (ix2 r e)) (broadcastTo S256x128 _ _ (ix2 r e)) = _
  rw [wsum_apply, bcol, csum_apply]
  simp only [weight_apply, cmax_apply, hsd, hvd', Finset.univ_eq_empty, Finset.sum_empty, Finset.sup_empty, add_zero, max_bot_right]
  rfl

end Cert.Tile

end
-- ==== Proof.Blocks.lean ====
/- What one grid point of the attention kernel leaves in its three output blocks. -/
module

public import proofs.«01_k».proof.Proof.Gen.KernelIdeal.Value
public import proofs.«01_k».proof.Proof.Tile
public import Idealize.ShloMosaic.Lib.Pipeline.ValueKit.Tiles

@[expose] public section

set_option maxRecDepth 16384

noncomputable section

namespace Cert.Blocks

open Cert.KernelIdeal Cert.KernelIdeal.Gen Cert.Tile Idealize.ShloMosaic Idealize.ShloMosaic.ValueIdx Idealize.ShloMosaic.Tactic

/-- The attention block of a point. -/
def attn (x0 x1 : FVec Ideal S1x2048x256 .bf16) (x2 : FVec Ideal S1x2048x128 .bf16) : FVec Ideal S2048x128 .bf16 :=
  fun i => rowOut x0 x1 x2 (i 0) (i 1)

theorem emb_val (off size : Fin 2 → ℕ) (inb) (x : (Rect.unit (s := S2048x128) off size inb).shape.Idx) (a : Fin 2) :
    ((Rect.unit (s := S2048x128) off size inb).emb x a : ℕ) = off a + x a :=
  Rect.idx_unit_val (s := S2048x128) (off := off) (size := size) (inb := inb) x a

/-- The tile of the queries from row `n` on, stored at that row of the block. -/
theorem rows_from (x0 x1 : FVec Ideal S1x2048x256 .bf16) (x2 : FVec Ideal S1x2048x128 .bf16) (n t : ℕ) (hn : n = 256 * t) (hn' : n + 256 ≤ 2048)
    (hb hr hk hv) (i1 i2 i3 i4 i5 i6 : _) (x : S256x128.Idx) :
    tile n hb hr hk hv (View.ld (Val := Elt Ideal) (e' := .bf16) x0 (Rect.unit (s := S1x2048x256) ![0, n, 0] ![1, 256, 256] i1))
        (View.ld (Val := Elt Ideal) (e' := .bf16) x1 (Rect.unit (s := S1x2048x256) ![0, n, 0] ![1, 256, 256] i2))
        (View.ld (Val := Elt Ideal) (e' := .bf16) x1 (Rect.unit (s := S1x2048x256) ![0, 0, 0] ![1, n, 256] i3))
        (View.ld (Val := Elt Ideal) (e' := .bf16) x2 (Rect.unit (s := S1x2048x128) ![0, n, 0] ![1, 256, 128] i4))
        (View.ld (Val := Elt Ideal) (e' := .bf16) x2 (Rect.unit (s := S1x2048x128) ![0, 0, 0] ![1, n, 128] i5)) x
      = attn x0 x1 x2 ((Rect.unit (s := S2048x128) ![n, 0] ![256, 128] i6).emb x) := by
  obtain ⟨r, e, rfl⟩ : ∃ r e, x = ix2 r e := ⟨x 0, x 1, eq_ix2 x⟩
  refine (tile_apply n hb hr hk hv _ _ _ _ _ x0 x1 x2 t hn hn' ?_ ?_ ?_ ?_ ?_ r e).trans ?_
  iterate 5
    intro r c
    exact View.ld_unit_apply_of _ _ _ _ _ _ fun a => match a with
      | ⟨0, _⟩ => rfl
      | ⟨1, _⟩ => by first | rfl | exact (Nat.zero_add _).symm
      | ⟨2, _⟩ => (Nat.zero_add _).symm
  show rowOut x0 x1 x2 _ _ = rowOut x0 x1 x2 _ _
  congr 1 <;> apply Fin.ext
  · exact (emb_val ![n, 0] ![256, 128] i6 (ix2 r e) 0).symm
  · exact ((emb_val ![n, 0] ![256, 128] i6 (ix2 r e) 1).trans (Nat.zero_add _)).symm

/-- The first tile, at row 0. -/
theorem rows_first (x0 x1 : FVec Ideal S1x2048x256 .bf16) (x2 : FVec Ideal S1x2048x128 .bf16) (i1 i2 i3 i4 : _) (x : S256x128.Idx) :
    tile0 (View.ld (Val := Elt Ideal) (e' := .bf16) x0 (Rect.unit (s := S1x2048x256) ![0, 0, 0] ![1, 256, 256] i1))
        (View.ld (Val := Elt Ideal) (e' := .bf16) x1 (Rect.unit (s := S1x2048x256) ![0, 0, 0] ![1, 256, 256] i2))
        (View.ld (Val := Elt Ideal) (e' := .bf16) x2 (Rect.unit (s := S1x2048x128) ![0, 0, 0] ![1, 256, 128] i3)) x
      = attn x0 x1 x2 ((Rect.unit (s := S2048x128) ![0, 0] ![256, 128] i4).emb x) := by
  obtain ⟨r, e, rfl⟩ : ∃ r e, x = ix2 r e := ⟨x 0, x 1, eq_ix2 x⟩
  refine (tile0_apply _ _ _ x0 x1 x2 ?_ ?_ ?_ r e).trans ?_
  iterate 3
    intro r c
    exact View.ld_unit_apply_of _ _ _ _ _ _ fun a => match a with
      | ⟨0, _⟩ => rfl
      | ⟨1, _⟩ => (Nat.zero_add _).symm
      | ⟨2, _⟩ => (Nat.zero_add _).symm
  show rowOut x0 x1 x2 _ _ = rowOut x0 x1 x2 _ _
  congr 1 <;> apply Fin.ext
  · exact ((emb_val ![0, 0] ![256, 128] i4 (ix2 r e) 0).trans (Nat.zero_add _)).symm
  · exact ((emb_val ![0, 0] ![256, 128] i4 (ix2 r e) 1).trans (Nat.zero_add _)).symm

theorem zero2 : (![0, 0] : Fin 2 → Nat) = fun _ => 0 := funext fun a => by fin_cases a <;> rfl
theorem zero3 : (![0, 0, 0] : Fin 3 → Nat) = fun _ => 0 := funext fun a => by fin_cases a <;> rfl

/-- A block with its leading unit axis dropped, cast to the output's format: over the reals the block itself. -/
def castd {a b : ℕ} (x : FVec Ideal (⟨3, ![1, a, b]⟩ : Shape) .f32) : FVec Ideal (⟨2, ![a, b]⟩ : Shape) .bf16 :=
  fun i => x (ix3 0 (i 0) (i 1))

theorem drop_lead {a b : ℕ} (x : FVec Ideal (⟨3, ![1, a, b]⟩ : Shape) .f32)
    (h : (⟨3, ![1, a, b]⟩ : Shape).ShapeCasts ⟨2, ![a, b]⟩) (r : Fin a) (c : Fin b) :
    shapeCast ⟨2, ![a, b]⟩ x h (ix2 r c) = x (ix3 0 r c) := by
  refine (shapeCast_dropUnit_apply (![a, b]) x h (ix2 r c)).trans (congrArg x (funext fun d => ?_))
  match d with
  | ⟨0, _⟩ => rfl
  | ⟨1, _⟩ => rfl
  | ⟨2, _⟩ => rfl

section
variable (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x128 .bf16) (harg4 : arg4.IsWhole) (arg5 : Memref sig .tc .vmem S1x32x11264 .f32) (harg5 : arg5.IsWhole) (arg6 : Memref sig .tc .vmem S1x32x2048 .f32) (harg6 : arg6.IsWhole) (arg7 : Memref sig .tc .vmem S2048x128 .bf16) (harg7 : arg7.IsWhole) (arg8 : Memref sig .tc .vmem S32x11264 .bf16) (harg8 : arg8.IsWhole) (arg9 : Memref sig .tc .vmem S32x2048 .bf16) (harg9 : arg9.IsWhole) (hc0 : cond0_0 i) (hc1 : cond0_1 i)
    (x0 : Vec Ideal S1x2048x256 .bf16) (x1 : Vec Ideal S1x2048x256 .bf16) (x2 : Vec Ideal S1x2048x128 .bf16) (x3 : Vec Ideal S1x32x11264 .f32) (x4 : Vec Ideal S1x32x2048 .f32)

theorem out5_eq : out0_A_5 (F := Ideal) c i arg2 harg2 arg3 harg3 arg4 harg4 arg5 harg5 arg6 harg6 arg7 harg7 arg8 harg8 arg9 harg9 hc0 hc1 x0 x1 x2 x3 x4 = attn x0 x1 x2 := by
  have hcov := cover0_A_5 (F := Ideal) c i arg2 harg2 arg3 harg3 arg4 harg4 arg5 harg5 arg6 harg6 arg7 harg7 arg8 harg8 arg9 harg9 hc0 hc1 x0 x1 x2 x3 x4
  funext y
  unfold out0_A_5
  rw [View.read_writes_eq_canon _ _ _ hcov]
  refine View.canon_apply_of_pieces _ _ ?_ y (hcov y)
  unfold kernelRun0_A
  dsimp only
  sl_unfold_words
  simp only [View.readAt_eq_ld, harg2.read_unread, harg3.read_unread, harg4.read_unread]
  intro p hp
  simp only [List.mem_cons, List.not_mem_nil, or_false] at hp
  rcases hp with rfl | rfl | rfl | rfl | rfl | rfl | rfl | rfl
  · exact fun x => rows_from x0 x1 x2 1792 7 rfl (by decide) broadcasts_S256x1_S256x1792 reduces_S256x1792_S256 shapeCasts_S1x1792x256_S1792x256 shapeCasts_S1x1792x128_S1792x128 _ _ _ _ _ inb_S2048x128_S256x128_1792_0 x
  · exact fun x => rows_from x0 x1 x2 1536 6 rfl (by decide) broadcasts_S256x1_S256x1536 reduces_S256x1536_S256 shapeCasts_S1x1536x256_S1536x256 shapeCasts_S1x1536x128_S1536x128 _ _ _ _ _ inb_S2048x128_S256x128_1536_0 x
  · exact fun x => rows_from x0 x1 x2 1280 5 rfl (by decide) broadcasts_S256x1_S256x1280 reduces_S256x1280_S256 shapeCasts_S1x1280x256_S1280x256 shapeCasts_S1x1280x128_S1280x128 _ _ _ _ _ inb_S2048x128_S256x128_1280_0 x
  · exact fun x => rows_from x0 x1 x2 1024 4 rfl (by decide) broadcasts_S256x1_S256x1024 reduces_S256x1024_S256 shapeCasts_S1x1024x256_S1024x256 shapeCasts_S1x1024x128_S1024x128 _ _ _ _ _ inb_S2048x128_S256x128_1024_0 x
  · exact fun x => rows_from x0 x1 x2 768 3 rfl (by decide) broadcasts_S256x1_S256x768 reduces_S256x768_S256 shapeCasts_S1x768x256_S768x256 shapeCasts_S1x768x128_S768x128 _ _ _ _ _ inb_S2048x128_S256x128_768_0 x
  · exact fun x => rows_from x0 x1 x2 512 2 rfl (by decide) broadcasts_S256x1_S256x512 reduces_S256x512_S256 shapeCasts_S1x512x256_S512x256 shapeCasts_S1x512x128_S512x128 _ _ _ _ _ inb_S2048x128_S256x128_512_0 x
  · exact fun x => rows_from x0 x1 x2 256 1 rfl (by decide) broadcasts_S256x1_S256x256 reduces_S256x256_S256 shapeCasts_S1x256x256_S256x256 shapeCasts_S1x256x128_S256x128 _ _ _ _ _ inb_S2048x128_S256x128_256_0 x
  · exact fun x => rows_first x0 x1 x2 _ _ _ inb_S2048x128_S256x128_0_0 x

theorem out6_eq : out0_A_6 (F := Ideal) c i arg2 harg2 arg3 harg3 arg4 harg4 arg5 harg5 arg6 harg6 arg7 harg7 arg8 harg8 arg9 harg9 hc0 hc1 x0 x1 x2 x3 x4 = castd x3 := by
  have hcov := cover0_A_6 (F := Ideal) c i arg2 harg2 arg3 harg3 arg4 harg4 arg5 harg5 arg6 harg6 arg7 harg7 arg8 harg8 arg9 harg9 hc0 hc1 x0 x1 x2 x3 x4
  unfold out0_A_6
  rw [View.read_writes_eq_canon _ _ _ hcov]
  unfold kernelRun0_A
  dsimp only
  sl_unfold_words
  simp only [View.readAt_eq_ld, harg5.read_unread]
  rw [View.canon_unit_zero zero2, View.ld_unit_zero zero3]
  funext y
  obtain ⟨r, e, rfl⟩ : ∃ r e, y = ix2 r e := ⟨y 0, y 1, eq_ix2 y⟩
  exact drop_lead x3 shapeCasts_S1x32x11264_S32x11264 r e

theorem out7_eq : out0_A_7 (F := Ideal) c i arg2 harg2 arg3 harg3 arg4 harg4 arg5 harg5 arg6 harg6 arg7 harg7 arg8 harg8 arg9 harg9 hc0 hc1 x0 x1 x2 x3 x4 = castd x4 := by
  have hcov := cover0_A_7 (F := Ideal) c i arg2 harg2 arg3 harg3 arg4 harg4 arg5 harg5 arg6 harg6 arg7 harg7 arg8 harg8 arg9 harg9 hc0 hc1 x0 x1 x2 x3 x4
  unfold out0_A_7
  rw [View.read_writes_eq_canon _ _ _ hcov]
  unfold kernelRun0_A
  dsimp only
  sl_unfold_words
  simp only [View.readAt_eq_ld, harg6.read_unread]
  rw [View.canon_unit_zero zero2, View.ld_unit_zero zero3]
  funext y
  obtain ⟨r, e, rfl⟩ : ∃ r e, y = ix2 r e := ⟨y 0, y 1, eq_ix2 y⟩
  exact drop_lead x4 shapeCasts_S1x32x2048_S32x2048 r e
end
end Cert.Blocks
end
-- ==== Proof.Arrays.lean ====
/- The arrays the attention kernel is launched on, at an index: the host lines before it lay the queries and keys out heads
   first, 128 lanes of content, 64 of position, 64 of zeros. -/
module

public import proofs.«01_k».proof.Proof.Gen.KernelIdeal.Frame
public import Idealize.ShloMosaic.Lib.ValueIdx
public import Idealize.ShloMosaic.Lib.KernelVsHost
public import Idealize.ShloMosaic.Lib.StableHlo.RunRead
public import Idealize.ShloMosaic.Lib.Pipeline.Value

@[expose] public section

set_option maxRecDepth 16384

noncomputable section

namespace Cert.Arrays

open Cert.KernelIdeal Cert.KernelIdeal.Gen Idealize.ShloMosaic Idealize.ShloMosaic.ValueIdx Idealize.ShloMosaic.TcCoe

/-- The 256 lanes of a row: content, position, zeros. -/
def lanes (a : FVec Ideal S4x2048x16x128 .f32) (p : FVec Ideal S4x2048x16x64 .f32) (b : Fin 4) (l : Fin 2048) (h : Fin 16)
    (c : Fin 256) : EReal :=
  if h1 : c.val < 128 then a (ix4 b l h ⟨c.val, h1⟩)
  else if h2 : c.val < 192 then p (ix4 b l h ⟨c.val - 128, by omega⟩)
  else 0

/-- The padding value. -/
abbrev zeroS : FVec Ideal S_ .f32 := sitofp .f32 (constantI S_ 32 0#32)

/-- A row array heads first. -/
def headsFirst {n : ℕ} (x : FVec Ideal (⟨4, ![4, 2048, 16, n]⟩ : Shape) .f32)
    (ht : (⟨4, ![4, 2048, 16, n]⟩ : Shape).Transposes [2, 0, 1, 3] ⟨4, ![16, 4, 2048, n]⟩)
    (hs : (⟨4, ![16, 4, 2048, n]⟩ : Shape).ShapeCasts ⟨3, ![16, 8192, n]⟩) : FVec Ideal (⟨3, ![16, 8192, n]⟩ : Shape) .f32 :=
  shapeCast ⟨3, ![16, 8192, n]⟩ (transpose ⟨4, ![16, 4, 2048, n]⟩ [2, 0, 1, 3] x ht) hs

theorem headsFirst_apply {n : ℕ} (x : FVec Ideal (⟨4, ![4, 2048, 16, n]⟩ : Shape) .f32) (ht) (hs) (b : Fin 4) (l : Fin 2048)
    (h : Fin 16) (c : Fin n) (R : Fin 8192) (hR : R.val = 2048 * b.val + l.val) :
    headsFirst x ht hs (ix3 h R c) = x (ix4 b l h c) := by
  refine (shapeCast_apply _ hs (ix3 h R c) (ix4 h b l c) ?_).trans
    (transpose_apply _ x ht (ix4 h b l c) (ix4 b l h c) fun a => match a with
      | ⟨0, _⟩ => rfl
      | ⟨1, _⟩ => rfl
      | ⟨2, _⟩ => rfl
      | ⟨3, _⟩ => rfl)
  rw [Shape.rowMajor_val_four, Shape.rowMajor_val_three]
  show ((h.val * 4 + b.val) * 2048 + l.val) * n + c.val = (h.val * 8192 + R.val) * n + c.val
  rw [hR]
  have : (h.val * 4 + b.val) * 2048 + l.val = h.val * 8192 + (2048 * b.val + l.val) := by ring
  rw [this]

/-- The content and position lanes side by side. -/
def cat (a : FVec Ideal S4x2048x16x128 .f32) (p : FVec Ideal S4x2048x16x64 .f32) : FVec Ideal S4x2048x16x256 .f32 :=
  concatenate S4x2048x16x256 3
    [⟨S4x2048x16x128, a⟩,
      ⟨S4x2048x16x128, pad S4x2048x16x128 ![0, 0, 0, 0] ![0, 0, 0, 64] ![0, 0, 0, 0] p zeroS
        pads_S4x2048x16x64_S4x2048x16x128_000_000_000_0640 h_S_⟩]
    concatenates_S4x2048x16x128_S4x2048x16x128_S4x2048x16x256_d3

theorem cat_apply (a : FVec Ideal S4x2048x16x128 .f32) (p : FVec Ideal S4x2048x16x64 .f32) (b : Fin 4) (l : Fin 2048) (h : Fin 16)
    (c : Fin 256) : cat a p (ix4 b l h c) = lanes a p b l h c := by
  unfold lanes
  by_cases h1 : c.val < 128
  · rw [dif_pos h1]
    exact concatenate_pair_apply_left _ a _ _ (ix4 b l h c) rfl (ix4 b l h ⟨c.val, h1⟩) fun d => match d with
      | ⟨0, _⟩ => rfl
      | ⟨1, _⟩ => rfl
      | ⟨2, _⟩ => rfl
      | ⟨3, _⟩ => rfl
  · rw [dif_neg h1]
    refine (concatenate_pair_apply_right (s₂ := S4x2048x16x128) _ a _ _ (ix4 b l h c) rfl rfl (ix4 b l h (⟨c.val - 128, by omega⟩ : Fin 128)) (fun d hd => ?_) ?_).trans ?_
    · match d with
      | ⟨0, _⟩ => rfl
      | ⟨1, _⟩ => rfl
      | ⟨2, _⟩ => rfl
      | ⟨3, _⟩ => exact absurd rfl hd
    · show c.val - 128 + 128 = c.val
      omega
    by_cases h2 : c.val < 192
    · rw [dif_pos h2]
      exact pad_apply_of_inside _ _ _ p zeroS _ _ _ (ix4 b l h ⟨c.val - 128, by omega⟩) fun d => match d with
        | ⟨0, _⟩ => by show b.val = 0 + b.val * 1; omega
        | ⟨1, _⟩ => by show l.val = 0 + l.val * 1; omega
        | ⟨2, _⟩ => by show h.val = 0 + h.val * 1; omega
        | ⟨3, _⟩ => by show c.val - 128 = 0 + (c.val - 128) * 1; omega
    · rw [dif_neg h2]
      refine (pad_apply_of_not_inside _ _ _ p zeroS _ _ _ (3 : Fin 4) ?_).trans ?_
      · show ¬(0 ≤ c.val - 128 ∧ (c.val - 128 - 0) % 1 = 0 ∧ (c.val - 128 - 0) / 1 < 64)
        omega
      · show (((0#32 : BitVec 32).toInt : ℝ) : EReal) = 0
        simp

variable (m : (ℓ : Loc nD τ sig) → Buf (Elt Ideal) ℓ)

/-- The position part of the keys, one copy for every head. -/
def keyPos (x : FVec Ideal S4x2048x64 .f32) : FVec Ideal S4x2048x16x64 .f32 :=
  broadcastInDim S4x2048x16x64 ![0, 1, 2, 3] bcast_S4x2048x1x64_S4x2048x16x64_0_1_2_3
    (broadcastInDim S4x2048x1x64 ![0, 1, 3] bcast_S4x2048x64_S4x2048x1x64_0_1_3 x)

theorem keyPos_apply (x : FVec Ideal S4x2048x64 .f32) (b : Fin 4) (l : Fin 2048) (h : Fin 16) (c : Fin 64) :
    keyPos x (ix4 b l h c) = x (ix3 b l c) := by
  refine (broadcastInDim_apply _ _ _ (ix4 b l h c) (ix4 b l 0 c) fun d => ?_).trans
    (broadcastInDim_apply _ _ x (ix4 b l 0 c) (ix3 b l c) fun d => ?_)
  · match d with
    | ⟨0, _⟩ => rfl
    | ⟨1, _⟩ => rfl
    | ⟨2, _⟩ => rfl
    | ⟨3, _⟩ => rfl
  · match d with
    | ⟨0, _⟩ => rfl
    | ⟨1, _⟩ => rfl
    | ⟨2, _⟩ => rfl

theorem V_q (c : Dev nD) : V m c main_v6
    = truncf .bf16 (headsFirst (cat (m ((c : Thread nD τ).loc main_arg0)) (m ((c : Thread nD τ).loc main_arg1)))
        transposes_S4x2048x16x256_S16x4x2048x256_2_0_1_3 shapeCasts_S16x4x2048x256_S16x8192x256) bitsLt_bf16_f32 := by
  unfold V
  after_reads_simp
  rfl

theorem V_k (c : Dev nD) : V m c main_v11
    = truncf .bf16 (headsFirst (cat (m ((c : Thread nD τ).loc main_arg2)) (keyPos (m ((c : Thread nD τ).loc main_arg3))))
        transposes_S4x2048x16x256_S16x4x2048x256_2_0_1_3 shapeCasts_S16x4x2048x256_S16x8192x256) bitsLt_bf16_f32 := by
  unfold V
  after_reads_simp
  rfl

theorem V_v (c : Dev nD) : V m c main_v14
    = truncf .bf16 (headsFirst (n := 128) (m ((c : Thread nD τ).loc main_arg4))
        transposes_S4x2048x16x128_S16x4x2048x128_2_0_1_3 shapeCasts_S16x4x2048x128_S16x8192x128) bitsLt_bf16_f32 := by
  unfold V
  after_reads_simp
  rfl

/-! ## The blocks of a point: batch `t / 16`, head `t % 16` -/

theorem N64 : cfg0.N = 64 := N_0

/-- The batch of a point. -/
def bat (t : Fin cfg0.N) : Fin 4 := ⟨t.val / 16, by have h : t.val < 64 := t.isLt.trans_eq N64; omega⟩
/-- The head of a point. -/
def head (t : Fin cfg0.N) : Fin 16 := ⟨t.val % 16, by omega⟩

theorem index0 : ∀ t : Fin grid0.N, win0_0.index t 0 = t.val % 16 ∧ win0_0.index t 1 = t.val / 16 ∧ win0_0.index t 2 = 0 := by decide +kernel
theorem index1 : ∀ t : Fin grid0.N, win0_1.index t 0 = t.val % 16 ∧ win0_1.index t 1 = t.val / 16 ∧ win0_1.index t 2 = 0 := by decide +kernel
theorem index2 : ∀ t : Fin grid0.N, win0_2.index t 0 = t.val % 16 ∧ win0_2.index t 1 = t.val / 16 ∧ win0_2.index t 2 = 0 := by decide +kernel
theorem index3 : ∀ t : Fin grid0.N, win0_3.index t 0 = 1 ∧ win0_3.index t 1 = t.val ∧ win0_3.index t 2 = 0 := by decide +kernel
theorem index4 : ∀ t : Fin grid0.N, win0_4.index t 0 = 0 ∧ win0_4.index t 1 = t.val ∧ win0_4.index t 2 = 0 := by decide +kernel
theorem index5 : ∀ t : Fin grid0.N, win0_5.index t 0 = t.val / 16 ∧ win0_5.index t 1 = t.val % 16 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel

/-- A point's block of q, in any array. -/
theorem read_q (X : FVec Ideal S16x8192x256 .bf16) (t : Fin cfg0.N) (l : Fin 2048) (d : Fin 256) (R : Fin 8192) (hR : R.val = 2048 * (bat t).val + l.val) :
    (((cfg0.win 0).blk t).view.read (Elt Ideal) X : FVec Ideal S1x2048x256 .bf16) (ix3 0 l d) = X (ix3 (head t) R d) := by
  show X ((win0_0.rect t).emb (ix3 0 l d)) = _
  refine congrArg X (funext fun a => Fin.ext ?_)
  refine (win0_0.rect_emb_val t _ a).trans ?_
  match a with
  | ⟨0, _⟩ => show win0_0.index t 0 * 1 + 0 = t.val % 16; rw [(index0 t).1]; omega
  | ⟨1, _⟩ => show win0_0.index t 1 * 2048 + l.val = R.val; rw [(index0 t).2.1, hR]; show t.val / 16 * 2048 + l.val = 2048 * (t.val / 16) + l.val; omega
  | ⟨2, _⟩ => show win0_0.index t 2 * 256 + d.val = d.val; rw [(index0 t).2.2]; omega

/-- A point's block of k, in any array. -/
theorem read_k (X : FVec Ideal S16x8192x256 .bf16) (t : Fin cfg0.N) (l : Fin 2048) (d : Fin 256) (R : Fin 8192) (hR : R.val = 2048 * (bat t).val + l.val) :
    (((cfg0.win 1).blk t).view.read (Elt Ideal) X : FVec Ideal S1x2048x256 .bf16) (ix3 0 l d) = X (ix3 (head t) R d) := by
  show X ((win0_1.rect t).emb (ix3 0 l d)) = _
  refine congrArg X (funext fun a => Fin.ext ?_)
  refine (win0_1.rect_emb_val t _ a).trans ?_
  match a with
  | ⟨0, _⟩ => show win0_1.index t 0 * 1 + 0 = t.val % 16; rw [(index1 t).1]; omega
  | ⟨1, _⟩ => show win0_1.index t 1 * 2048 + l.val = R.val; rw [(index1 t).2.1, hR]; show t.val / 16 * 2048 + l.val = 2048 * (t.val / 16) + l.val; omega
  | ⟨2, _⟩ => show win0_1.index t 2 * 256 + d.val = d.val; rw [(index1 t).2.2]; omega

/-- A point's block of v, in any array. -/
theorem read_v (X : FVec Ideal S16x8192x128 .bf16) (t : Fin cfg0.N) (l : Fin 2048) (d : Fin 128) (R : Fin 8192) (hR : R.val = 2048 * (bat t).val + l.val) :
    (((cfg0.win 2).blk t).view.read (Elt Ideal) X : FVec Ideal S1x2048x128 .bf16) (ix3 0 l d) = X (ix3 (head t) R d) := by
  show X ((win0_2.rect t).emb (ix3 0 l d)) = _
  refine congrArg X (funext fun a => Fin.ext ?_)
  refine (win0_2.rect_emb_val t _ a).trans ?_
  match a with
  | ⟨0, _⟩ => show win0_2.index t 0 * 1 + 0 = t.val % 16; rw [(index2 t).1]; omega
  | ⟨1, _⟩ => show win0_2.index t 1 * 2048 + l.val = R.val; rw [(index2 t).2.1, hR]; show t.val / 16 * 2048 + l.val = 2048 * (t.val / 16) + l.val; omega
  | ⟨2, _⟩ => show win0_2.index t 2 * 128 + d.val = d.val; rw [(index2 t).2.2]; omega

theorem q_apply (c : Dev nD) (t : Fin cfg0.N) (l : Fin 2048) (d : Fin 256) :
    (iblk m c 0 t : FVec Ideal S1x2048x256 .bf16) (ix3 0 l d)
      = lanes (m ((c : Thread nD τ).loc main_arg0)) (m ((c : Thread nD τ).loc main_arg1)) (bat t) l (head t) d := by
  have hR : (2048 * (bat t).val + l.val) < 8192 := by have := (bat t).isLt; omega
  refine (read_q (V m c main_v6) t l d ⟨_, hR⟩ rfl).trans ?_
  refine (congrFun (V_q m c) _).trans ?_
  rw [truncf_apply, headsFirst_apply _ _ _ (bat t) l (head t) d _ rfl, cat_apply]

theorem k_apply (c : Dev nD) (t : Fin cfg0.N) (l : Fin 2048) (d : Fin 256) :
    (iblk m c 1 t : FVec Ideal S1x2048x256 .bf16) (ix3 0 l d)
      = lanes (m ((c : Thread nD τ).loc main_arg2)) (keyPos (m ((c : Thread nD τ).loc main_arg3))) (bat t) l (head t) d := by
  have hR : (2048 * (bat t).val + l.val) < 8192 := by have := (bat t).isLt; omega
  refine (read_k (V m c main_v11) t l d ⟨_, hR⟩ rfl).trans ?_
  refine (congrFun (V_k m c) _).trans ?_
  rw [truncf_apply, headsFirst_apply _ _ _ (bat t) l (head t) d _ rfl, cat_apply]

theorem v_apply (c : Dev nD) (t : Fin cfg0.N) (l : Fin 2048) (d : Fin 128) :
    (iblk m c 2 t : FVec Ideal S1x2048x128 .bf16) (ix3 0 l d)
      = (m ((c : Thread nD τ).loc main_arg4) : FVec Ideal S4x2048x16x128 .f32) (ix4 (bat t) l (head t) d) := by
  have hR : (2048 * (bat t).val + l.val) < 8192 := by have := (bat t).isLt; omega
  refine (read_v (V m c main_v14) t l d ⟨_, hR⟩ rfl).trans ?_
  refine (congrFun (V_v m c) _).trans ?_
  rw [truncf_apply, headsFirst_apply _ _ _ (bat t) l (head t) d _ rfl]

theorem w1_apply (c : Dev nD) (t : Fin cfg0.N) (r : Fin 32) (d : Fin 11264) (R : Fin 2048) (hR : R.val = 32 * t.val + r.val) :
    (iblk m c 3 t : FVec Ideal S1x32x11264 .f32) (ix3 0 r d)
      = (m ((c : Thread nD τ).loc main_arg5) : FVec Ideal S2x2048x11264 .f32) (ix3 1 R d) := by
  refine Eq.trans ?_ (congrFun (V_main_arg5 m c) _)
  show (V m c main_arg5 : FVec Ideal S2x2048x11264 .f32) ((win0_3.rect t).emb (ix3 0 r d)) = _
  refine congrArg _ (funext fun a => Fin.ext ?_)
  refine (win0_3.rect_emb_val t _ a).trans ?_
  match a with
  | ⟨0, _⟩ => show win0_3.index t 0 * 1 + 0 = _; rw [(index3 t).1]; rfl
  | ⟨1, _⟩ => show win0_3.index t 1 * 32 + r.val = R.val; rw [(index3 t).2.1, hR]; omega
  | ⟨2, _⟩ => show win0_3.index t 2 * 11264 + d.val = _; rw [(index3 t).2.2]; show 0 * 11264 + d.val = d.val; omega

theorem w2_apply (c : Dev nD) (t : Fin cfg0.N) (r : Fin 32) (d : Fin 2048) (R : Fin 2048) (hR : R.val = 32 * t.val + r.val) :
    (iblk m c 4 t : FVec Ideal S1x32x2048 .f32) (ix3 0 r d)
      = (m ((c : Thread nD τ).loc main_arg6) : FVec Ideal S1x2048x2048 .f32) (ix3 0 R d) := by
  refine Eq.trans ?_ (congrFun (V_main_arg6 m c) _)
  show (V m c main_arg6 : FVec Ideal S1x2048x2048 .f32) ((win0_4.rect t).emb (ix3 0 r d)) = _
  refine congrArg _ (funext fun a => Fin.ext ?_)
  refine (win0_4.rect_emb_val t _ a).trans ?_
  match a with
  | ⟨0, _⟩ => show win0_4.index t 0 * 1 + 0 = _; rw [(index4 t).1]; rfl
  | ⟨1, _⟩ => show win0_4.index t 1 * 32 + r.val = R.val; rw [(index4 t).2.1, hR]; omega
  | ⟨2, _⟩ => show win0_4.index t 2 * 2048 + d.val = _; rw [(index4 t).2.2]; show 0 * 2048 + d.val = d.val; omega

end Cert.Arrays

end
-- ==== Proof.KernelValue.lean ====
/- What the attention kernel's run leaves in its three result arrays, at an index. -/
module

public import proofs.«01_k».proof.Proof.Blocks
public import proofs.«01_k».proof.Proof.Arrays

@[expose] public section

set_option maxRecDepth 16384

noncomputable section

namespace Cert.KernelValue

open Cert.KernelIdeal Cert.KernelIdeal.Gen Cert.Tile Cert.Blocks Cert.Arrays
open Idealize.ShloMosaic Idealize.ShloMosaic.ValueIdx Idealize.ShloMosaic.TcCoe Idealize.SL.Sem

/-- The queries or keys of one batch and head. -/
def rowsOf (a : FVec Ideal S4x2048x16x128 .f32) (p : FVec Ideal S4x2048x16x64 .f32) (b : Fin 4) (h : Fin 16) :
    FVec Ideal S1x2048x256 .bf16 := fun j => lanes a p b (j 1) h (j 2)
/-- The values of one batch and head. -/
def valsOf (v : FVec Ideal S4x2048x16x128 .f32) (b : Fin 4) (h : Fin 16) : FVec Ideal S1x2048x128 .bf16 :=
  fun j => v (ix4 b (j 1) h (j 2))

/-- The attention's result: row `2048 b + l`, column `128 h + e`. -/
def outArr (a0 : FVec Ideal S4x2048x16x128 .f32) (a1 : FVec Ideal S4x2048x16x64 .f32) (a2 : FVec Ideal S4x2048x16x128 .f32)
    (a3 : FVec Ideal S4x2048x64 .f32) (a4 : FVec Ideal S4x2048x16x128 .f32) (b : Fin 4) (l : Fin 2048) (h : Fin 16) (e : Fin 128) : EReal :=
  rowOut (rowsOf a0 a1 b h) (rowsOf a2 (keyPos a3) b h) (valsOf a4 b h) l e

theorem lt0 (i : S8192x2048.Idx) : (i 0 : ℕ) < 8192 := (i 0).isLt
theorem lt1 (i : S8192x2048.Idx) : (i 1 : ℕ) < 2048 := (i 1).isLt

/-- The batch, position, head and lane of an index of the result. -/
def ib (i : S8192x2048.Idx) : Fin 4 := ⟨(i 0).val / 2048, by have := lt0 i; omega⟩
def il (i : S8192x2048.Idx) : Fin 2048 := ⟨(i 0).val % 2048, by omega⟩
def ih (i : S8192x2048.Idx) : Fin 16 := ⟨(i 1).val / 128, by have := lt1 i; omega⟩
def ie (i : S8192x2048.Idx) : Fin 128 := ⟨(i 1).val % 128, by omega⟩

def outBuf (a0 : FVec Ideal S4x2048x16x128 .f32) (a1 : FVec Ideal S4x2048x16x64 .f32) (a2 : FVec Ideal S4x2048x16x128 .f32)
    (a3 : FVec Ideal S4x2048x64 .f32) (a4 : FVec Ideal S4x2048x16x128 .f32) : FVec Ideal S8192x2048 .bf16 :=
  fun i => outArr a0 a1 a2 a3 a4 (ib i) (il i) (ih i) (ie i)

/-- Layer 1 of a stack of weights. -/
def layer1 (w : FVec Ideal S2x2048x11264 .f32) : FVec Ideal S2048x11264 .bf16 := fun i => w (ix3 1 (i 0) (i 1))
/-- Layer 0 of a stack of one. -/
def layer0 (w : FVec Ideal S1x2048x2048 .f32) : FVec Ideal S2048x2048 .bf16 := fun i => w (ix3 0 (i 0) (i 1))

theorem unit3 {a b : ℕ} (j : (⟨3, ![1, a, b]⟩ : Shape).Idx) : j = ix3 0 (j 1) (j 2) := by
  funext d
  match d with
  | ⟨0, _⟩ => exact Subsingleton.elim (α := Fin 1) _ _
  | ⟨1, _⟩ => rfl
  | ⟨2, _⟩ => rfl

variable (m : (ℓ : Loc nD τ sig) → Buf (Elt Ideal) ℓ) (ρ : Dev nD → PrngReg)

theorem q_rows (c : Dev nD) (t : Fin cfg0.N) : (iblk m c 0 t : FVec Ideal S1x2048x256 .bf16)
    = rowsOf (m ((c : Thread nD τ).loc main_arg0)) (m ((c : Thread nD τ).loc main_arg1)) (bat t) (head t) :=
  funext fun j => (congrArg (iblk m c 0 t : FVec Ideal S1x2048x256 .bf16) (unit3 j)).trans (q_apply m c t (j 1) (j 2))
theorem k_rows (c : Dev nD) (t : Fin cfg0.N) : (iblk m c 1 t : FVec Ideal S1x2048x256 .bf16)
    = rowsOf (m ((c : Thread nD τ).loc main_arg2)) (keyPos (m ((c : Thread nD τ).loc main_arg3))) (bat t) (head t) :=
  funext fun j => (congrArg (iblk m c 1 t : FVec Ideal S1x2048x256 .bf16) (unit3 j)).trans (k_apply m c t (j 1) (j 2))
theorem v_rows (c : Dev nD) (t : Fin cfg0.N) : (iblk m c 2 t : FVec Ideal S1x2048x128 .bf16)
    = valsOf (m ((c : Thread nD τ).loc main_arg4)) (bat t) (head t) :=
  funext fun j => (congrArg (iblk m c 2 t : FVec Ideal S1x2048x128 .bf16) (unit3 j)).trans (v_apply m c t (j 1) (j 2))

/-- Reading block `t` of the result. -/
theorem read_out (X : FVec Ideal S8192x2048 .bf16) (t : Fin cfg0.N) (r : Fin 2048) (e : Fin 128) (R : Fin 8192) (C : Fin 2048)
    (hR : R.val = 2048 * (bat t).val + r.val) (hC : C.val = 128 * (head t).val + e.val) :
    (((cfg0.win 5).blk t).view.read (Elt Ideal) X : FVec Ideal S2048x128 .bf16) (ix2 r e) = X (ix2 R C) := by
  show X ((win0_5.rect t).emb (ix2 r e)) = _
  refine congrArg X (funext fun a => Fin.ext ?_)
  refine (win0_5.rect_emb_val t _ a).trans ?_
  match a with
  | ⟨0, _⟩ => show win0_5.index t 0 * 2048 + r.val = R.val; rw [(index5 t).1, hR]; show t.val / 16 * 2048 + r.val = 2048 * (t.val / 16) + r.val; omega
  | ⟨1, _⟩ => show win0_5.index t 1 * 128 + e.val = C.val; rw [(index5 t).2, hC]; show t.val % 16 * 128 + e.val = 128 * (t.val % 16) + e.val; omega

theorem flushed5_eq (c : Dev nD) (t : Fin cfg0.N) : (dats m 0 c).flushed 5 t = ((cfg0.win 5).blk t).view.read (Elt Ideal)
    (outBuf (m ((c : Thread nD τ).loc main_arg0)) (m ((c : Thread nD τ).loc main_arg1)) (m ((c : Thread nD τ).loc main_arg2))
      (m ((c : Thread nD τ).loc main_arg3)) (m ((c : Thread nD τ).loc main_arg4))) := by
  rw [Value.flushed5_A, out5_eq, q_rows, k_rows, v_rows]
  funext y
  obtain ⟨r, e, rfl⟩ : ∃ (r : Fin 2048) (e : Fin 128), y = ix2 r e := ⟨y 0, y 1, eq_ix2 (n0 := 2048) (n1 := 128) y⟩
  have hR : 2048 * (bat t).val + r.val < 8192 := by have := (bat t).isLt; omega
  have hC : 128 * (head t).val + e.val < 2048 := by have := (head t).isLt; omega
  refine Eq.trans ?_ (read_out _ t r e ⟨_, hR⟩ ⟨_, hC⟩ rfl rfl).symm
  have e1 : ib (ix2 ⟨_, hR⟩ ⟨_, hC⟩) = bat t := Fin.ext (by show (2048 * (bat t).val + r.val) / 2048 = (bat t).val; omega)
  have e2 : il (ix2 ⟨_, hR⟩ ⟨_, hC⟩) = r := Fin.ext (by show (2048 * (bat t).val + r.val) % 2048 = r.val; omega)
  have e3 : ih (ix2 ⟨_, hR⟩ ⟨_, hC⟩) = head t := Fin.ext (by show (128 * (head t).val + e.val) / 128 = (head t).val; omega)
  have e4 : ie (ix2 ⟨_, hR⟩ ⟨_, hC⟩) = e := Fin.ext (by show (128 * (head t).val + e.val) % 128 = e.val; omega)
  show rowOut _ _ _ r e = outArr _ _ _ _ _ (ib _) (il _) (ih _) (ie _)
  rw [e1, e2, e3, e4]
  rfl

theorem cover5 (i : S8192x2048.Idx) : ∃ t : Fin cfg0.N, (cfg0.win 5).flush t = true ∧ i ∈ ((cfg0.win 5).blk t).view.set := by
  have h0 := lt0 i
  have h1 := lt1 i
  have ht : (i 0).val / 2048 * 16 + (i 1).val / 128 < cfg0.N := by rw [N64]; omega
  refine ⟨⟨_, ht⟩, flush0_5 _, ?_⟩
  show i ∈ ((View.whole main_v15_0).slice (win0_5.rect ⟨_, ht⟩)).set
  rw [View.set_slice_whole, Rect.mem_set_unit]
  have e := index5 ⟨_, ht⟩
  have x : ∀ t : Fin grid0.N, win0_5.xsize (grid0.coords t) 0 = 2048 ∧ win0_5.xsize (grid0.coords t) 1 = 128 := by decide +kernel
  intro a
  match a with
  | ⟨0, _⟩ =>
    show win0_5.index ⟨_, ht⟩ 0 * 2048 ≤ (i 0 : Nat) ∧ (i 0 : Nat) < win0_5.index ⟨_, ht⟩ 0 * 2048 + win0_5.xsize (grid0.coords ⟨_, ht⟩) 0
    rw [e.1, (x _).1]
    show ((i 0).val / 2048 * 16 + (i 1).val / 128) / 16 * 2048 ≤ _ ∧ _ < ((i 0).val / 2048 * 16 + (i 1).val / 128) / 16 * 2048 + 2048
    omega
  | ⟨1, _⟩ =>
    show win0_5.index ⟨_, ht⟩ 1 * 128 ≤ (i 1 : Nat) ∧ (i 1 : Nat) < win0_5.index ⟨_, ht⟩ 1 * 128 + win0_5.xsize (grid0.coords ⟨_, ht⟩) 1
    rw [e.2, (x _).2]
    show ((i 0).val / 2048 * 16 + (i 1).val / 128) % 16 * 128 ≤ _ ∧ _ < ((i 0).val / 2048 * 16 + (i 1).val / 128) % 16 * 128 + 128
    omega

theorem final5 (c : Dev nD) : (dats m 0 c).arrAt 5 cfg0.N
    = outBuf (m ((c : Thread nD τ).loc main_arg0)) (m ((c : Thread nD τ).loc main_arg1)) (m ((c : Thread nD τ).loc main_arg2))
      (m ((c : Thread nD τ).loc main_arg3)) (m ((c : Thread nD τ).loc main_arg4)) :=
  (dats m 0 c).arrAt_eq_of_cover 5 _ (fun t _ => flushed5_eq m c t) cover5

theorem flushed6_eq (c : Dev nD) (t : Fin cfg0.N) : (dats m 0 c).flushed 6 t
    = ((cfg0.win 6).blk t).view.read (Elt Ideal) (layer1 (m ((c : Thread nD τ).loc main_arg5))) := by
  rw [Value.flushed6_A, out6_eq]
  funext y
  obtain ⟨r, e, rfl⟩ : ∃ (r : Fin 32) (e : Fin 11264), y = ix2 r e := ⟨y 0, y 1, eq_ix2 (n0 := 32) (n1 := 11264) y⟩
  have hN : t.val < 64 := t.isLt.trans_eq N64
  refine (w1_apply m c t r e ⟨32 * t.val + r.val, by omega⟩ rfl).trans ?_
  show layer1 _ (ix2 ⟨32 * t.val + r.val, _⟩ e) = layer1 _ ((win0_6.rect t).emb (ix2 r e))
  refine congrArg _ (funext fun a => Fin.ext ?_)
  refine Eq.trans ?_ (win0_6.rect_emb_val t _ a).symm
  match a with
  | ⟨0, _⟩ => show 32 * t.val + r.val = win0_6.index t 0 * 32 + r.val; rw [(index6 t).1]; omega
  | ⟨1, _⟩ => show e.val = win0_6.index t 1 * 11264 + e.val; rw [(index6 t).2]; omega

theorem cover6 (i : S2048x11264.Idx) : ∃ t : Fin cfg0.N, (cfg0.win 6).flush t = true ∧ i ∈ ((cfg0.win 6).blk t).view.set := by
  have h0 : (i 0 : ℕ) < 2048 := (i 0).isLt
  have h1 : (i 1 : ℕ) < 11264 := (i 1).isLt
  have ht : (i 0).val / 32 < cfg0.N := by rw [N64]; omega
  refine ⟨⟨_, ht⟩, flush0_6 _, ?_⟩
  show i ∈ ((View.whole main_v15_1).slice (win0_6.rect ⟨_, ht⟩)).set
  rw [View.set_slice_whole, Rect.mem_set_unit]
  have e := index6 ⟨_, ht⟩
  have x : ∀ t : Fin grid0.N, win0_6.xsize (grid0.coords t) 0 = 32 ∧ win0_6.xsize (grid0.coords t) 1 = 11264 := by decide +kernel
  intro a
  match a with
  | ⟨0, _⟩ =>
    show win0_6.index ⟨_, ht⟩ 0 * 32 ≤ (i 0 : Nat) ∧ (i 0 : Nat) < win0_6.index ⟨_, ht⟩ 0 * 32 + win0_6.xsize (grid0.coords ⟨_, ht⟩) 0
    rw [e.1, (x _).1]
    show (i 0).val / 32 * 32 ≤ _ ∧ _ < (i 0).val / 32 * 32 + 32
    omega
  | ⟨1, _⟩ =>
    show win0_6.index ⟨_, ht⟩ 1 * 11264 ≤ (i 1 : Nat) ∧ (i 1 : Nat) < win0_6.index ⟨_, ht⟩ 1 * 11264 + win0_6.xsize (grid0.coords ⟨_, ht⟩) 1
    rw [e.2, (x _).2]
    omega

theorem final6 (c : Dev nD) : (dats m 0 c).arrAt 6 cfg0.N = layer1 (m ((c : Thread nD τ).loc main_arg5)) :=
  (dats m 0 c).arrAt_eq_of_cover 6 _ (fun t _ => flushed6_eq m c t) cover6

theorem flushed7_eq (c : Dev nD) (t : Fin cfg0.N) : (dats m 0 c).flushed 7 t
    = ((cfg0.win 7).blk t).view.read (Elt Ideal) (layer0 (m ((c : Thread nD τ).loc main_arg6))) := by
  rw [Value.flushed7_A, out7_eq]
  funext y
  obtain ⟨r, e, rfl⟩ : ∃ (r : Fin 32) (e : Fin 2048), y = ix2 r e := ⟨y 0, y 1, eq_ix2 (n0 := 32) (n1 := 2048) y⟩
  have hN : t.val < 64 := t.isLt.trans_eq N64
  refine (w2_apply m c t r e ⟨32 * t.val + r.val, by omega⟩ rfl).trans ?_
  show layer0 _ (ix2 ⟨32 * t.val + r.val, _⟩ e) = layer0 _ ((win0_7.rect t).emb (ix2 r e))
  refine congrArg _ (funext fun a => Fin.ext ?_)
  refine Eq.trans ?_ (win0_7.rect_emb_val t _ a).symm
  match a with
  | ⟨0, _⟩ => show 32 * t.val + r.val = win0_7.index t 0 * 32 + r.val; rw [(index7 t).1]; omega
  | ⟨1, _⟩ => show e.val = win0_7.index t 1 * 2048 + e.val; rw [(index7 t).2]; omega

theorem cover7 (i : S2048x2048.Idx) : ∃ t : Fin cfg0.N, (cfg0.win 7).flush t = true ∧ i ∈ ((cfg0.win 7).blk t).view.set := by
  have h0 : (i 0 : ℕ) < 2048 := (i 0).isLt
  have h1 : (i 1 : ℕ) < 2048 := (i 1).isLt
  have ht : (i 0).val / 32 < cfg0.N := by rw [N64]; omega
  refine ⟨⟨_, ht⟩, flush0_7 _, ?_⟩
  show i ∈ ((View.whole main_v15_2).slice (win0_7.rect ⟨_, ht⟩)).set
  rw [View.set_slice_whole, Rect.mem_set_unit]
  have e := index7 ⟨_, ht⟩
  have x : ∀ t : Fin grid0.N, win0_7.xsize (grid0.coords t) 0 = 32 ∧ win0_7.xsize (grid0.coords t) 1 = 2048 := by decide +kernel
  intro a
  match a with
  | ⟨0, _⟩ =>
    show win0_7.index ⟨_, ht⟩ 0 * 32 ≤ (i 0 : Nat) ∧ (i 0 : Nat) < win0_7.index ⟨_, ht⟩ 0 * 32 + win0_7.xsize (grid0.coords ⟨_, ht⟩) 0
    rw [e.1, (x _).1]
    show (i 0).val / 32 * 32 ≤ _ ∧ _ < (i 0).val / 32 * 32 + 32
    omega
  | ⟨1, _⟩ =>
    show win0_7.index ⟨_, ht⟩ 1 * 2048 ≤ (i 1 : Nat) ∧ (i 1 : Nat) < win0_7.index ⟨_, ht⟩ 1 * 2048 + win0_7.xsize (grid0.coords ⟨_, ht⟩) 1
    rw [e.2, (x _).2]
    omega

theorem final7 (c : Dev nD) : (dats m 0 c).arrAt 7 cfg0.N = layer0 (m ((c : Thread nD τ).loc main_arg6)) :=
  (dats m 0 c).arrAt_eq_of_cover 7 _ (fun t _ => flushed7_eq m c t) cover7

end Cert.KernelValue

end
-- ==== Proof.RefValue.lean ====
/- The reference at an index: row `l` of batch `b` and head `h` is the softmax of the scaled, masked scores of its query,
   applied to the values; and so it is what the kernel computes of that row, where queries and keys are real numbers. -/
module

public import proofs.«01_k».proof.Proof.KernelValue
public import proofs.«01_k».proof.Proof.Softmax
public import proofs.«01_k».proof.Proof.Gen.ReferenceIdeal.Read
public import Idealize.ShloMosaic.Lib.ValueIdx

@[expose] public section

set_option maxRecDepth 16384

noncomputable section

namespace Cert.RefValue

open Cert.ReferenceIdeal Cert.ReferenceIdeal.Gen Cert.ReferenceIdeal.Read
open Idealize.ShloMosaic Idealize.ShloMosaic.ValueIdx
open Cert.Tile (rowScore rowVal rowOut wt)
open Cert.Arrays (lanes keyPos keyPos_apply)
open Cert.KernelValue (rowsOf valsOf outArr outBuf ib il ih ie layer0 layer1)

/-- The scale of the scores. -/
abbrev scale : ℝ := (Real.sqrt 192)⁻¹

theorem scale_pos : 0 < scale := inv_pos.mpr (Real.sqrt_pos.mpr (by norm_num))

/-! ## The mask -/

/-- A position's chunk, as the reference's floor division gives it. -/
def chunkWord (x : BitVec 32) : BitVec 32 :=
  Scalar.select
    (IntOp.andi
      (IntOp.cmpi .ne (signi (s := S_) (fun _ => x) (fun a => a.elim0)) (signi (s := S_) (fun _ => 64#32) (fun a => a.elim0)))
      (IntOp.cmpi .ne (IntOp.remsi .host x 64#32) 0#32))
    (IntOp.subi (IntOp.divsi .host x 64#32) 1#32) (IntOp.divsi .host x 64#32)

theorem chunkWord_eq : ∀ n : Fin 2048, chunkWord (BitVec.ofNat 32 n.val) = BitVec.ofNat 32 (n.val / 64) := by
  decide +kernel

theorem chunk_apply (i : S2048.Idx) : val_main_v1 (F := Ideal) i = BitVec.ofNat 32 ((i 0).val / 64) := by
  have h : val_main_v1 (F := Ideal) i = chunkWord (BitVec.ofNat 32 (i 0).val) := by
    rw [val_main_v1_apply, val_main_call0_v11_apply, val_main_call0_v6_apply, val_main_call0_v10_apply,
      val_main_call0_v13_apply, val_main_call0_v2_apply, val_main_call0_v8_apply, val_main_call0_v1_apply,
      val_main_call0_v5_apply, val_main_call0_v7_apply, val_main_call0_v9_apply, val_main_call0_v12_apply]
    have e3 : val_main_call0_v3 (F := Ideal) i = signi (s := S_) (fun _ => BitVec.ofNat 32 (i 0).val) (fun a => a.elim0) := by
      unfold val_main_call0_v3 signi
      rw [val_main_v0_apply]
    have e4 : ∀ j, val_main_call0_v4 (F := Ideal) j = signi (s := S_) (fun _ => 64#32) (fun a => a.elim0) := fun j => by
      unfold val_main_call0_v4 signi
      rw [show val_main_call0_v0 (F := Ideal) j = 64#32 from rfl]
    have e0 : ∀ j, val_main_call0_v0 (F := Ideal) j = 64#32 := fun _ => rfl
    have ec : ∀ j, val_main_call0_c (F := Ideal) j = 0#32 := fun _ => rfl
    have ec0 : ∀ j, val_main_call0_c_0 (F := Ideal) j = 1#32 := fun _ => rfl
    rw [e3, e4, e0, ec, ec0, val_main_v0_apply]
    rfl
  rw [h]
  exact chunkWord_eq (i 0)

theorem mask_apply (i : S4x16x2048x2048.Idx) :
    val_main_call1_v1 (F := Ideal) i = if (i 3).val / 64 ≤ (i 2).val / 64 then 1#1 else 0#1 := by
  rw [val_main_call1_v1_apply, val_main_v13_apply, val_main_v11_apply, val_main_v12_apply, val_main_v9_apply,
    val_main_v10_apply, chunk_apply, chunk_apply]
  have h : ∀ a b : Fin 32, IntOp.cmpi .sle (BitVec.ofNat 32 a.val) (BitVec.ofNat 32 b.val) = if a.val ≤ b.val then 1#1 else 0#1 := by
    decide +kernel
  have h3 : (i 3).val < 2048 := (i 3).isLt
  have h2 : (i 2).val < 2048 := (i 2).isLt
  exact h ⟨(i 3).val / 64, by omega⟩ ⟨(i 2).val / 64, by omega⟩

/-! ## The scores -/

/-- The 256 lanes' products: the content's, the position's, and zeros. -/
theorem lanes_dot (a0 a2 : FVec Ideal S4x2048x16x128 .f32) (a1 p : FVec Ideal S4x2048x16x64 .f32) (b : Fin 4) (h : Fin 16)
    (q k : Fin 2048) :
    ∑ c : Fin 256, lanes a0 a1 b q h c * lanes a2 p b k h c
      = (∑ c : Fin 128, a0 (ix4 b q h c) * a2 (ix4 b k h c)) + ∑ c : Fin 64, a1 (ix4 b q h c) * p (ix4 b k h c) := by
  let f : ℕ → EReal := fun c => if hc : c < 256 then lanes a0 a1 b q h ⟨c, hc⟩ * lanes a2 p b k h ⟨c, hc⟩ else 0
  have e : ∑ c : Fin 256, lanes a0 a1 b q h c * lanes a2 p b k h c = ∑ c : Fin 256, f c :=
    Finset.sum_congr rfl fun c _ => by show _ = (if hc : c.val < 256 then _ else _); rw [dif_pos c.isLt]
  have hz : ∀ i, 128 + 64 ≤ i → i < 256 → f i = 0 := fun i h1 h2 => by
    have : lanes a0 a1 b q h ⟨i, h2⟩ = 0 := (dif_neg (by show ¬ i < 128; omega)).trans (dif_neg (by show ¬ i < 192; omega))
    show (if hc : i < 256 then _ else _) = _
    rw [dif_pos h2, this, zero_mul]
  rw [e, Softmax.sum_split 256 128 64 (by norm_num) f hz, add_comm]
  refine congrArg₂ (· + ·) ?_ ?_
  · refine Finset.sum_congr rfl fun c _ => ?_
    have hc : c.val < 256 := by omega
    have l : ∀ x y l, lanes x y b l h ⟨c.val, hc⟩ = x (ix4 b l h c) := fun x y l => dif_pos c.isLt
    show (if hc : c.val < 256 then _ else _) = _
    rw [dif_pos hc, l, l]
  · refine Finset.sum_congr rfl fun c _ => ?_
    have hc : 128 + c.val < 256 := by omega
    have l : ∀ (x : FVec Ideal S4x2048x16x128 .f32) (y : FVec Ideal S4x2048x16x64 .f32) l, lanes x y b l h ⟨128 + c.val, hc⟩ = y (ix4 b l h c) := fun x y l => by
      unfold lanes
      rw [dif_neg (by show ¬ 128 + c.val < 128; omega), dif_pos (by show 128 + c.val < 192; omega)]
      refine congrArg y (congrArg (ix4 b l h) (Fin.ext ?_))
      show 128 + c.val - 128 = c.val
      omega
    show (if hc : 128 + c.val < 256 then _ else _) = _
    rw [dif_pos hc, l, l]

theorem ofBits_192 : (FloatOps.ofBits .f32 0x43400000#32 : Ideal .f32) = ((192 : ℝ) : EReal) := by
  show Ideal.ofBits .f32 0x43400000#32 = _
  simp [Ideal.ofBits, Ideal.ieee]
  norm_num [← EReal.coe_mul]

theorem divisor_apply (i : S4x16x2048x2048.Idx) : val_main_v7 (F := Ideal) i = ((Real.sqrt 192 : ℝ) : EReal) := by
  rw [val_main_v7_apply, val_main_v6_apply, val_main_cst_apply, ofBits_192, Ideal.hostUnary_sqrt_def, Ideal.sqrt_coe,
    if_neg (by norm_num)]

theorem div_sqrt (x : EReal) : Ideal.div x ((Real.sqrt 192 : ℝ) : EReal) = x * ((scale : ℝ) : EReal) := by
  rw [Ideal.div_coe (Real.sqrt_pos.mpr (by norm_num)).ne', one_div]

section

variable (x0 : FVec Ideal S4x2048x16x128 .f32) (x1 : FVec Ideal S4x2048x16x64 .f32) (x2 : FVec Ideal S4x2048x16x128 .f32)
  (x3 : FVec Ideal S4x2048x64 .f32) (x4 : FVec Ideal S4x2048x16x128 .f32)

/-- The kernel's score of query `q` against key `k`, before the scale. -/
abbrev sc (b : Fin 4) (h : Fin 16) (q k : Fin 2048) : EReal := rowScore (rowsOf x0 x1 b h) (rowsOf x2 (keyPos x3) b h) q k

theorem sc_eq (b : Fin 4) (h : Fin 16) (q k : Fin 2048) : sc x0 x1 x2 x3 b h q k
    = if k.val / 64 ≤ q.val / 64 then
        (∑ c : Fin 128, x0 (ix4 b q h c) * x2 (ix4 b k h c)) + ∑ c : Fin 64, x3 (ix3 b k c) * x1 (ix4 b q h c)
      else ⊥ := by
  unfold sc rowScore
  rw [dif_pos k.isLt]
  refine if_congr Iff.rfl ?_ rfl
  refine (lanes_dot x0 x2 x1 (keyPos x3) b h q k).trans ?_
  congr 1
  refine Finset.sum_congr rfl fun c _ => ?_
  rw [keyPos_apply, mul_comm]

/-- The reference's scaled and masked score. -/
theorem score_apply (b : Fin 4) (h : Fin 16) (q k : Fin 2048) :
    val_main_v14 (F := Ideal) x0 x1 x2 x3 (ix4 b h q k) = sc x0 x1 x2 x3 b h q k * ((scale : ℝ) : EReal) := by
  rw [val_main_v14_apply, sc_eq]
  by_cases hc : k.val / 64 ≤ q.val / 64
  · have hm : val_main_call1_v1 (F := Ideal) (ix4 b h q k) = 1#1 := (mask_apply _).trans (if_pos hc)
    rw [if_pos hc, hm]
    show val_main_v8 (F := Ideal) x0 x1 x2 x3 (ix4 b h q k) = _
    rw [val_main_v8_apply, divisor_apply, Ideal.hostDivf_def, div_sqrt, val_main_v5_apply, val_main_v2_apply,
      val_main_v4_apply, val_main_v3_apply]
    have l2 : ∀ c, lidx_main_v2 (ix4 b h q k) c = ix4 b q h c := fun c => funext fun a => by
      match a with
      | ⟨0, _⟩ => rfl
      | ⟨1, _⟩ => rfl
      | ⟨2, _⟩ => rfl
      | ⟨3, _⟩ => rfl
    have r2 : ∀ c, ridx_main_v2 (ix4 b h q k) c = ix4 b k h c := fun c => funext fun a => by
      match a with
      | ⟨0, _⟩ => rfl
      | ⟨1, _⟩ => rfl
      | ⟨2, _⟩ => rfl
      | ⟨3, _⟩ => rfl
    have l3 : ∀ c, lidx_main_v3 (idx_main_v4 (ix4 b h q k)) c = ix3 b k c := fun c => funext fun a => by
      match a with
      | ⟨0, _⟩ => rfl
      | ⟨1, _⟩ => rfl
      | ⟨2, _⟩ => rfl
    have r3 : ∀ c, ridx_main_v3 (idx_main_v4 (ix4 b h q k)) c = ix4 b q h c := fun c => funext fun a => by
      match a with
      | ⟨0, _⟩ => rfl
      | ⟨1, _⟩ => rfl
      | ⟨2, _⟩ => rfl
      | ⟨3, _⟩ => rfl
    simp only [l2, r2, l3, r3]
    rfl
  · have hm : val_main_call1_v1 (F := Ideal) (ix4 b h q k) = 0#1 := (mask_apply _).trans (if_neg hc)
    rw [if_neg hc, hm, EReal.bot_mul_coe_of_pos scale_pos]
    show val_main_call1_v2 (F := Ideal) (ix4 b h q k) = _
    rw [val_main_call1_v2_apply]
    exact Tile.ofBits_ninf

/-! ## The softmax -/

theorem max_apply (b : Fin 4) (h : Fin 16) (q : Fin 2048) :
    val_main_v15 (F := Ideal) x0 x1 x2 x3 (ix3 b h q)
      = Finset.univ.sup fun k : Fin 2048 => sc x0 x1 x2 x3 b h q k * ((scale : ℝ) : EReal) := by
  unfold val_main_v15
  have hr : S4x16x2048x2048.Reduces [3] S4x16x2048 := by decide
  rw [Host.reduce_eq_fold_single FloatOps.maximumf _ _ _ hr h_S_]
  have e : val_main_cst_1 (F := Ideal) (Shape.Idx.first h_S_) = (⊥ : EReal) := Tile.ofBits_ninf
  rw [e]
  refine Eq.trans ?_ (congrArg (Finset.fold max (⊥ : EReal) · (Finset.univ : Finset (Fin 2048)))
    (funext fun k => score_apply x0 x1 x2 x3 b h q k))
  refine congrArg (Finset.fold max (⊥ : EReal) · (Finset.univ : Finset (Fin 2048))) (funext fun k => ?_)
  refine congrArg (val_main_v14 (F := Ideal) x0 x1 x2 x3) ?_
  funext a
  match a with
  | ⟨0, _⟩ => rfl
  | ⟨1, _⟩ => rfl
  | ⟨2, _⟩ => rfl
  | ⟨3, _⟩ => rfl

/-- The reference's exponential of a score under its row's maximum. -/
theorem exp_apply (b : Fin 4) (h : Fin 16) (q k : Fin 2048) :
    val_main_v21 (F := Ideal) x0 x1 x2 x3 (ix4 b h q k)
      = Ideal.exp (sc x0 x1 x2 x3 b h q k * ((scale : ℝ) : EReal)
          - Finset.univ.sup fun k : Fin 2048 => sc x0 x1 x2 x3 b h q k * ((scale : ℝ) : EReal)) := by
  rw [val_main_v21_apply, Ideal.hostUnary_exp_def, val_main_v20_apply, score_apply, val_main_v19_apply, val_main_v18_apply,
    val_main_v17_apply]
  have i3 : (idx_main_v18 (idx_main_v19 (ix4 b h q k))) = ix3 b h q := by
    funext a
    match a with
    | ⟨0, _⟩ => rfl
    | ⟨1, _⟩ => rfl
    | ⟨2, _⟩ => rfl
  have e : val_main_v16 (F := Ideal) (ix3 b h q) = (⊥ : EReal) := (val_main_v16_apply (F := Ideal) _).trans Tile.ofBits_ninf
  rw [i3, max_apply, e, Ideal.maximumf_def, max_eq_right bot_le]
  rfl

theorem weight_apply (b : Fin 4) (h : Fin 16) (q k : Fin 2048) :
    val_main_v25 (F := Ideal) x0 x1 x2 x3 (ix4 b h q k)
      = Ideal.div (Ideal.exp (sc x0 x1 x2 x3 b h q k * ((scale : ℝ) : EReal)
          - Finset.univ.sup fun k : Fin 2048 => sc x0 x1 x2 x3 b h q k * ((scale : ℝ) : EReal)))
        (∑ k : Fin 2048, Ideal.exp (sc x0 x1 x2 x3 b h q k * ((scale : ℝ) : EReal)
          - Finset.univ.sup fun k : Fin 2048 => sc x0 x1 x2 x3 b h q k * ((scale : ℝ) : EReal))) := by
  rw [val_main_v25_apply, Ideal.hostDivf_def, exp_apply, val_main_v24_apply, val_main_v23_apply, val_main_v22_apply]
  have e : val_main_cst_3 (F := Ideal) (Shape.Idx.first h_S_) = (0 : EReal) := Ideal.ofBits_zero_f32
  rw [e, zero_add]
  congr 1
  refine Finset.sum_congr rfl fun j _ => Eq.trans ?_ (exp_apply x0 x1 x2 x3 b h q j)
  refine congrArg (val_main_v21 (F := Ideal) x0 x1 x2 x3) ?_
  funext a
  match a with
  | ⟨0, _⟩ => rfl
  | ⟨1, _⟩ => rfl
  | ⟨2, _⟩ => rfl
  | ⟨3, _⟩ => rfl

theorem out_apply (b : Fin 4) (h : Fin 16) (q : Fin 2048) (e : Fin 128) :
    val_main_v26 (F := Ideal) x0 x1 x2 x3 x4 (ix4 b h e q)
      = ∑ k : Fin 2048, rowVal (valsOf x4 b h) e k
          * val_main_v25 (F := Ideal) x0 x1 x2 x3 (ix4 b h q k) := by
  rw [val_main_v26_apply]
  refine Finset.sum_congr rfl fun k _ => ?_
  unfold rowVal
  rw [dif_pos k.isLt]
  refine congrArg₂ (· * ·) (congrArg x4 ?_) (congrArg (val_main_v25 (F := Ideal) x0 x1 x2 x3) ?_)
  all_goals
    funext a
    match a with
    | ⟨0, _⟩ => rfl
    | ⟨1, _⟩ => rfl
    | ⟨2, _⟩ => rfl
    | ⟨3, _⟩ => rfl

/-! ## The kernel's row is the reference's -/

/-- A sum of products of reals is real. -/
theorem dot_real {n : ℕ} (f g : Fin n → EReal) (hf : ∀ c, f c ≠ ⊤ ∧ f c ≠ ⊥) (hg : ∀ c, g c ≠ ⊤ ∧ g c ≠ ⊥) :
    ∃ r : ℝ, ∑ c, f c * g c = (r : EReal) := by
  refine ⟨∑ c, (f c).toReal * (g c).toReal, ?_⟩
  rw [Softmax.coe_sum]
  refine Finset.sum_congr rfl fun c _ => ?_
  rw [EReal.coe_mul, EReal.coe_toReal (hf c).1 (hf c).2, EReal.coe_toReal (hg c).1 (hg c).2]

theorem sc_real (h0 : ∀ i, x0 i ≠ ⊤ ∧ x0 i ≠ ⊥) (h1 : ∀ i, x1 i ≠ ⊤ ∧ x1 i ≠ ⊥) (h2 : ∀ i, x2 i ≠ ⊤ ∧ x2 i ≠ ⊥)
    (h3 : ∀ i, x3 i ≠ ⊤ ∧ x3 i ≠ ⊥) (b : Fin 4) (h : Fin 16) (q k : Fin 2048) (hc : k.val / 64 ≤ q.val / 64) :
    ∃ r : ℝ, sc x0 x1 x2 x3 b h q k = (r : EReal) := by
  obtain ⟨r, hr⟩ := dot_real (fun c : Fin 128 => x0 (ix4 b q h c)) (fun c => x2 (ix4 b k h c)) (fun c => h0 _) (fun c => h2 _)
  obtain ⟨s, hs⟩ := dot_real (fun c : Fin 64 => x3 (ix3 b k c)) (fun c => x1 (ix4 b q h c)) (fun c => h3 _) (fun c => h1 _)
  exact ⟨r + s, by rw [sc_eq, if_pos hc, hr, hs, EReal.coe_add]⟩

theorem row_eq (h0 : ∀ i, x0 i ≠ ⊤ ∧ x0 i ≠ ⊥) (h1 : ∀ i, x1 i ≠ ⊤ ∧ x1 i ≠ ⊥) (h2 : ∀ i, x2 i ≠ ⊤ ∧ x2 i ≠ ⊥)
    (h3 : ∀ i, x3 i ≠ ⊤ ∧ x3 i ≠ ⊥) (b : Fin 4) (h : Fin 16) (q : Fin 2048) (e : Fin 128) :
    outArr x0 x1 x2 x3 x4 b q h e = val_main_v26 (F := Ideal) x0 x1 x2 x3 x4 (ix4 b h e q) := by
  have ht : ∀ k : Fin 2048, sc x0 x1 x2 x3 b h q k ≠ ⊤ := fun k => by
    by_cases hc : k.val / 64 ≤ q.val / 64
    · obtain ⟨r, hr⟩ := sc_real x0 x1 x2 x3 h0 h1 h2 h3 b h q k hc
      rw [hr]; exact EReal.coe_ne_top r
    · rw [sc_eq, if_neg hc]; exact bot_ne_top
  have hb : sc x0 x1 x2 x3 b h q q ≠ ⊥ := by
    obtain ⟨r, hr⟩ := sc_real x0 x1 x2 x3 h0 h1 h2 h3 b h q q le_rfl
    rw [hr]; exact EReal.coe_ne_bot r
  refine Eq.trans (Softmax.row_eq (fun k : Fin 2048 => sc x0 x1 x2 x3 b h q k) (fun k => rowVal (valsOf x4 b h) e k) scale
    scale_pos ht q hb) ?_
  rw [out_apply]
  exact Finset.sum_congr rfl fun k _ => by rw [weight_apply]

/-- The attention's result. -/
theorem attn_eq (h0 : ∀ i, x0 i ≠ ⊤ ∧ x0 i ≠ ⊥) (h1 : ∀ i, x1 i ≠ ⊤ ∧ x1 i ≠ ⊥) (h2 : ∀ i, x2 i ≠ ⊤ ∧ x2 i ≠ ⊥)
    (h3 : ∀ i, x3 i ≠ ⊤ ∧ x3 i ≠ ⊥) :
    outBuf x0 x1 x2 x3 x4 = val_main_v32 (F := Ideal) x0 x1 x2 x3 x4 := by
  funext i
  refine (row_eq x0 x1 x2 x3 x4 h0 h1 h2 h3 (ib i) (ih i) (il i) (ie i)).trans ?_
  rw [val_main_v32_apply]
  show _ = val_main_v28 (F := Ideal) x0 x1 x2 x3 x4 i
  rw [val_main_v28_apply, val_main_v27_apply]
  refine congrArg (val_main_v26 (F := Ideal) x0 x1 x2 x3 x4) ?_
  have i0 : (i 0).val < 8192 := (i 0).isLt
  have i1 : (i 1).val < 2048 := (i 1).isLt
  funext a
  match a with
  | ⟨0, _⟩ => exact Fin.ext (by show (i 0).val / 2048 = ((i 0).val * 2048 + (i 1).val) / 4194304; omega)
  | ⟨1, _⟩ => exact Fin.ext (by show (i 1).val / 128 = ((i 0).val * 2048 + (i 1).val) / 128 % 16; omega)
  | ⟨2, _⟩ => exact Fin.ext (by show (i 1).val % 128 = ((i 0).val * 2048 + (i 1).val) % 128; omega)
  | ⟨3, _⟩ => exact Fin.ext (by show (i 0).val % 2048 = ((i 0).val * 2048 + (i 1).val) / 2048 % 2048; omega)

end

/-! ## The weights handed on -/

theorem layer1_eq (w : FVec Ideal S2x2048x11264 .f32) : layer1 w = val_main_v33 (F := Ideal) w := by
  funext i
  rw [val_main_v33_apply]
  show w _ = val_main_v30 (F := Ideal) w i
  rw [val_main_v30_apply, val_main_v29_apply]
  have i0 : (i 0).val < 2048 := (i 0).isLt
  have i1 : (i 1).val < 11264 := (i 1).isLt
  refine congrArg w (funext fun a => ?_)
  match a with
  | ⟨0, _⟩ => rfl
  | ⟨1, _⟩ => exact Fin.ext (by show (i 0).val = ((i 0).val * 11264 + (i 1).val) / 11264 % 2048; omega)
  | ⟨2, _⟩ => exact Fin.ext (by show (i 1).val = ((i 0).val * 11264 + (i 1).val) % 11264; omega)

theorem layer0_eq (w : FVec Ideal S1x2048x2048 .f32) : layer0 w = val_main_v34 (F := Ideal) w := by
  funext i
  rw [val_main_v34_apply]
  show w _ = val_main_v31 (F := Ideal) w i
  rw [val_main_v31_apply]
  have i0 : (i 0).val < 2048 := (i 0).isLt
  have i1 : (i 1).val < 2048 := (i 1).isLt
  refine congrArg w (funext fun a => ?_)
  match a with
  | ⟨0, _⟩ => rfl
  | ⟨1, _⟩ => exact Fin.ext (by show (i 0).val = ((i 0).val * 2048 + (i 1).val) / 2048 % 2048; omega)
  | ⟨2, _⟩ => exact Fin.ext (by show (i 1).val = ((i 0).val * 2048 + (i 1).val) % 2048; omega)

end Cert.RefValue

end
-- ==== Proof.Attention.lean ====
/- The claims about the attention call and its reference. -/
module

public import proofs.«01_k».proof.Defs
public import proofs.«01_k».proof.Proof.RefValue
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_finite
public import Idealize.ShloMosaic.Adequacy
public import Idealize.ShloMosaic.Init
public import Idealize.ShloMosaic.Lib.ReduceAll

@[expose] public section

set_option maxRecDepth 16384

noncomputable section

namespace Cert.Attention

open Idealize.ShloMosaic Idealize.SL.Sem

/-! ## What the precondition says -/

theorem finite_of_lt (x : Ideal .f32)
    (h : FloatOps.cmpf .olt (FloatOps.hostAbsf x) (FloatOps.ofBits (F := Ideal) .f32 0x7F800000#32) = 1#1) :
    (x : EReal) ≠ ⊤ ∧ (x : EReal) ≠ ⊥ := by
  rw [← Ideal.xori_weird_eq_hostAbsf_olt_inf] at h
  by_contra hc
  have hx : (x : EReal) = ⊤ ∨ (x : EReal) = ⊥ := by
    by_cases ht : (x : EReal) = ⊤
    · exact .inl ht
    · exact .inr (by by_contra hb; exact hc ⟨ht, hb⟩)
  have e : FloatOps.weird x = 1#1 := by
    show BitVec.ofBool (decide ((x : EReal) = ⊤ ∨ (x : EReal) = ⊥)) = _
    rw [decide_eq_true hx]; rfl
  rw [e] at h
  exact absurd h (by decide)

theorem and_one : ∀ a b : BitVec 1, IntOp.andi a b = 1#1 → a = 1#1 ∧ b = 1#1 := by decide

open Cert.Pre_finite in
/-- Queries and keys are real numbers. -/
theorem finite_of_pre (a0 : FVec Ideal S4x2048x16x128 .f32) (a1 : FVec Ideal S4x2048x16x64 .f32) (a2 : FVec Ideal S4x2048x16x128 .f32)
    (a3 : FVec Ideal S4x2048x64 .f32) (a4 : FVec Ideal S4x2048x16x128 .f32) (a5 : FVec Ideal S2x2048x11264 .f32)
    (a6 : FVec Ideal S1x2048x2048 .f32) (h : Cert.Pre_finite.fn (F := Ideal) a0 a1 a2 a3 a4 a5 a6 (fun a => a.elim0) = 1#1) :
    (∀ i, (a0 i : EReal) ≠ ⊤ ∧ (a0 i : EReal) ≠ ⊥) ∧ (∀ i, (a1 i : EReal) ≠ ⊤ ∧ (a1 i : EReal) ≠ ⊥)
      ∧ (∀ i, (a2 i : EReal) ≠ ⊤ ∧ (a2 i : EReal) ≠ ⊥) ∧ (∀ i, (a3 i : EReal) ≠ ⊤ ∧ (a3 i : EReal) ≠ ⊥) := by
  haveI : Subsingleton S_.Idx := ⟨fun x y => funext fun a => a.elim0⟩
  obtain ⟨h, e3⟩ := and_one _ _ h
  obtain ⟨h, e2⟩ := and_one _ _ h
  obtain ⟨e0, e1⟩ := and_one _ _ h
  exact ⟨fun i => finite_of_lt _ (Host.reduce_andi_all _ _ _ _ _ e0 i), fun i => finite_of_lt _ (Host.reduce_andi_all _ _ _ _ _ e1 i),
    fun i => finite_of_lt _ (Host.reduce_andi_all _ _ _ _ _ e2 i), fun i => finite_of_lt _ (Host.reduce_andi_all _ _ _ _ _ e3 i)⟩

/-! ## The claims -/

theorem frame_p : Cert.quiescent_Kernel := fun m ρ _ => Cert.Kernel.Gen.frame m ρ

theorem frame_pi : Cert.quiescent_KernelIdeal := fun m ρ _ => Cert.KernelIdeal.Gen.frame m ρ

theorem frame_pi_finite : Cert.quiescent_KernelIdeal_pre_finite := fun m ρ _ => Cert.KernelIdeal.Gen.frame m ρ

theorem frame_ri : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

theorem frame_ri_finite : Cert.quiescent_ReferenceIdeal_pre_finite := fun m ρ _ => frame_ri m ρ trivial

/-- The one constant named: `(1 / √192) (1 / ln 2)`. -/
theorem preserves : Cert.preserves_Kernel_KernelIdeal :=
  IdealRules.named_const.statement Cert.KernelIdeal.κ "c2" .f32 0x3DD53B95#32
    (((Real.sqrt 192)⁻¹ * (Real.log 2)⁻¹ : ℝ) : EReal) rfl

theorem algebraic : Cert.algebraic_KernelIdeal_ReferenceIdeal_pre_finite := by
  intro m ρ m' ρ' hpre hagree
  refine ⟨_, _, _, Cert.KernelIdeal.Value.run_blocks (F := Ideal) m ρ, ?_⟩
  refine (θ_run Cert.ReferenceIdeal.defs _ _).mono (fun _ h c => ?_) (Cert.ReferenceIdeal.Value.run (F := Ideal) m' ρ')
  obtain ⟨g0, g1, g2, g3, g4, g5, g6⟩ := hagree c
  obtain ⟨f0, f1, f2, f3⟩ := finite_of_pre _ _ _ _ _ _ _ (congrFun (hpre c) (fun a => a.elim0))
  refine ⟨(h c).1.trans ?_, (h c).2.1.trans ?_, (h c).2.2.1.trans ?_, (h c).2.2.2⟩
  · rw [Cert.ReferenceIdeal.Read.val_main_v32_eq, g0, g1, g2, g3, g4]
    exact (RefValue.attn_eq _ _ _ _ _ f0 f1 f2 f3).symm.trans (KernelValue.final5 m c).symm
  · rw [g5, Cert.ReferenceIdeal.Read.val_main_v33_eq]
    exact (RefValue.layer1_eq _).symm.trans (KernelValue.final6 m c).symm
  · rw [g6, Cert.ReferenceIdeal.Read.val_main_v34_eq]
    exact (RefValue.layer0_eq _).symm.trans (KernelValue.final7 m c).symm

end Cert.Attention

end
-- ==== Proof.FfnRunA.lean ====
module

public import proofs.«01_k».proof.Proof.Gen.Kernel2Ideal.Frame
public import proofs.«01_k».proof.Proof.Gen.Kernel2Ideal.Skeleton
public import Idealize.ShloMosaic.Lib.Pipeline.FrameBody
public import Idealize.ShloMosaic.Lib.Tactic
public import Idealize.ShloMosaic.Lib.WordCmp

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

set_option maxHeartbeats 4000000 in
/-- The feed-forward body at the first tile of a block of rows: the normed rows are computed and the accumulator is cleared, on whole buffers, the four scratch buffers at any contents: the
    pieces its stores leave in each buffer, with the proof that it runs to a continuation that holds them. -/
noncomputable def runA (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x2048 .bf16) (harg11 : arg11.IsWhole) (arg12 : Memref sig .tc .vmem S1024x2048 .f32) (harg12 : arg12.IsWhole) (arg13 : Memref sig .tc .vmem S1x2x512 .f32) (harg13 : arg13.IsWhole) (arg14 : Memref sig .tc .vmem S1x2x512 .f32) (harg14 : arg14.IsWhole) (arg15 : Memref sig .tc .vmem S1024x2048 .bf16) (harg15 : arg15.IsWhole) (arg16 : Memref sig .tc .vmem S2x1x1032x512 .f32) (harg16 : arg16.IsWhole) (arg17 : Memref sig .tc .vmem S11x2x1x2x512 .f32) (harg17 : arg17.IsWhole) (arg18 : Memref sig .tc .vmem S2x1024x512 .bf16) (harg18 : arg18.IsWhole)
    (hc1 : k0_cond1 i = 1#1) (hc2 : ¬ k0_cond2 i = 1#1) (hc3 : ¬ k0_cond3 i = 1#1) (hc4 : ¬ k0_cond4 i = 1#1)
    (x2 : Vec F S1x2048 .f32) (x3 : Vec F S1024x2048 .f32) (x4 : Vec F S1x2048 .f32) (x5 : Vec F S2048x512 .bf16) (x6 : Vec F S2048x512 .bf16) (x7 : Vec F S3x512 .f32) (x8 : Vec F S3x512 .f32) (x9 : Vec F S1x512 .f32) (x10 : Vec F S1x512 .f32) (x11 : Vec F S512x2048 .bf16)
    (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) :
    Σ' (L12 : List (View.Piece (Elt F) S1024x2048 .f32)), Σ' (L13 : List (View.Piece (Elt F) S1x2x512 .f32)), Σ' (L14 : List (View.Piece (Elt F) S1x2x512 .f32)), Σ' (L15 : List (View.Piece (Elt F) S1024x2048 .bf16)), Σ' (L16 : List (View.Piece (Elt F) S2x1x1032x512 .f32)), Σ' (L17 : List (View.Piece (Elt F) S11x2x1x2x512 .f32)), { L18 : List (View.Piece (Elt F) S2x1024x512 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, (arg12.view.loc (c : Thread nD τ) ↦[arg12.view.set]{fullShare} arg12.view.writes (Elt F) f L12)) ∗ (∃ f, (arg13.view.loc (c : Thread nD τ) ↦[arg13.view.set]{fullShare} arg13.view.writes (Elt F) f L13)) ∗ (∃ f, (arg14.view.loc (c : Thread nD τ) ↦[arg14.view.set]{fullShare} arg14.view.writes (Elt F) f L14)) ∗ (arg15.view.loc (c : Thread nD τ) ↦[arg15.view.set]{fullShare} arg15.view.writes (Elt F) f15 L15) ∗ (arg16.view.loc (c : Thread nD τ) ↦[arg16.view.set]{fullShare} arg16.view.writes (Elt F) f16 L16) ∗ (arg17.view.loc (c : Thread nD τ) ↦[arg17.view.set]{fullShare} arg17.view.writes (Elt F) f17 L17) ∗ (arg18.view.loc (c : Thread nD τ) ↦[arg18.view.set]{fullShare} arg18.view.writes (Elt F) f18 L18)) -∗ K ⟨⟩))
          ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun E K => ?run⟩
  case run =>
    simp only [cc0_conv_ffn_eq_skeleton]; unfold cc0_conv_ffn_skel
    simp only [k0_part1_eq_skeleton, k0_part2_eq_skeleton, k0_part3_eq_skeleton, k0_part4_eq_skeleton, k0_part13_eq_skeleton]
    unfold owns
    iintro ⟨⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%g11, %hg11, H11⟩, ⟨%d12, %g12, -, H12⟩, ⟨%d13, %g13, -, H13⟩, ⟨%d14, %g14, -, H14⟩, H15, H16, H17, H18, Hk⟩
    obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg9.eq_unread hg9; obtain rfl := harg10.eq_unread hg10; obtain rfl := harg11.eq_unread hg11
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; iexact H12
    isplitl [H13]
    · iexists _; iexact H13
    isplitl [H14]
    · iexists _; iexact H14
    isplitl [H15]
    · iexact H15
    isplitl [H16]
    · iexact H16
    isplitl [H17]
    · iexact H17
    iexact H18

end Cert.Ffn

end
-- ==== Proof.FfnRunB.lean ====
module

public import proofs.«01_k».proof.Proof.FfnRunA

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

set_option maxHeartbeats 4000000 in
/-- The feed-forward body at an even tile after the first, on whole buffers, the four scratch buffers at any contents: the
    pieces its stores leave in each buffer, with the proof that it runs to a continuation that holds them. -/
noncomputable def runB (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x2048 .bf16) (harg11 : arg11.IsWhole) (arg12 : Memref sig .tc .vmem S1024x2048 .f32) (harg12 : arg12.IsWhole) (arg13 : Memref sig .tc .vmem S1x2x512 .f32) (harg13 : arg13.IsWhole) (arg14 : Memref sig .tc .vmem S1x2x512 .f32) (harg14 : arg14.IsWhole) (arg15 : Memref sig .tc .vmem S1024x2048 .bf16) (harg15 : arg15.IsWhole) (arg16 : Memref sig .tc .vmem S2x1x1032x512 .f32) (harg16 : arg16.IsWhole) (arg17 : Memref sig .tc .vmem S11x2x1x2x512 .f32) (harg17 : arg17.IsWhole) (arg18 : Memref sig .tc .vmem S2x1024x512 .bf16) (harg18 : arg18.IsWhole)
    (hc1 : ¬ k0_cond1 i = 1#1) (hc2 : k0_cond2 i = 1#1) (hc3 : ¬ k0_cond3 i = 1#1) (hc4 : ¬ k0_cond4 i = 1#1)
    (x2 : Vec F S1x2048 .f32) (x3 : Vec F S1024x2048 .f32) (x4 : Vec F S1x2048 .f32) (x5 : Vec F S2048x512 .bf16) (x6 : Vec F S2048x512 .bf16) (x7 : Vec F S3x512 .f32) (x8 : Vec F S3x512 .f32) (x9 : Vec F S1x512 .f32) (x10 : Vec F S1x512 .f32) (x11 : Vec F S512x2048 .bf16) (x12 : Vec F S1024x2048 .f32)
    (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) :
    Σ' (L12 : List (View.Piece (Elt F) S1024x2048 .f32)), Σ' (L13 : List (View.Piece (Elt F) S1x2x512 .f32)), Σ' (L14 : List (View.Piece (Elt F) S1x2x512 .f32)), Σ' (L16 : List (View.Piece (Elt F) S2x1x1032x512 .f32)), Σ' (L17 : List (View.Piece (Elt F) S11x2x1x2x512 .f32)), { L18 : List (View.Piece (Elt F) S2x1024x512 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, (arg12.view.loc (c : Thread nD τ) ↦[arg12.view.set]{fullShare} arg12.view.writes (Elt F) f L12)) ∗ (∃ f, (arg13.view.loc (c : Thread nD τ) ↦[arg13.view.set]{fullShare} arg13.view.writes (Elt F) f L13)) ∗ (∃ f, (arg14.view.loc (c : Thread nD τ) ↦[arg14.view.set]{fullShare} arg14.view.writes (Elt F) f L14)) ∗ (arg15.view.loc (c : Thread nD τ) ↦[arg15.view.set]{fullShare} f15) ∗ (arg16.view.loc (c : Thread nD τ) ↦[arg16.view.set]{fullShare} arg16.view.writes (Elt F) f16 L16) ∗ (arg17.view.loc (c : Thread nD τ) ↦[arg17.view.set]{fullShare} arg17.view.writes (Elt F) f17 L17) ∗ (arg18.view.loc (c : Thread nD τ) ↦[arg18.view.set]{fullShare} arg18.view.writes (Elt F) f18 L18)) -∗ K ⟨⟩))
          ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, fun E K => ?run⟩
  case run =>
    simp only [cc0_conv_ffn_eq_skeleton]; unfold cc0_conv_ffn_skel
    simp only [k0_part5_eq_skeleton, k0_part6_eq_skeleton, k0_part7_eq_skeleton, k0_part8_eq_skeleton, k0_part13_eq_skeleton]
    unfold owns
    iintro ⟨⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%g11, %hg11, H11⟩, ⟨%g12, %hg12, H12⟩, ⟨%d13, %g13, -, H13⟩, ⟨%d14, %g14, -, H14⟩, H15, H16, H17, H18, Hk⟩
    obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg9.eq_unread hg9; obtain rfl := harg10.eq_unread hg10; obtain rfl := harg11.eq_unread hg11; obtain rfl := harg12.eq_unread hg12
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; iexact H12
    isplitl [H13]
    · iexists _; iexact H13
    isplitl [H14]
    · iexists _; iexact H14
    isplitl [H15]
    · iexact H15
    isplitl [H16]
    · iexact H16
    isplitl [H17]
    · iexact H17
    iexact H18

end Cert.Ffn

end
-- ==== Proof.FfnRunC.lean ====
module

public import proofs.«01_k».proof.Proof.FfnRunB

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

set_option maxHeartbeats 4000000 in
/-- The feed-forward body at an odd tile, on whole buffers, the four scratch buffers at any contents: the
    pieces its stores leave in each buffer, with the proof that it runs to a continuation that holds them. -/
noncomputable def runC (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x2048 .bf16) (harg11 : arg11.IsWhole) (arg12 : Memref sig .tc .vmem S1024x2048 .f32) (harg12 : arg12.IsWhole) (arg13 : Memref sig .tc .vmem S1x2x512 .f32) (harg13 : arg13.IsWhole) (arg14 : Memref sig .tc .vmem S1x2x512 .f32) (harg14 : arg14.IsWhole) (arg15 : Memref sig .tc .vmem S1024x2048 .bf16) (harg15 : arg15.IsWhole) (arg16 : Memref sig .tc .vmem S2x1x1032x512 .f32) (harg16 : arg16.IsWhole) (arg17 : Memref sig .tc .vmem S11x2x1x2x512 .f32) (harg17 : arg17.IsWhole) (arg18 : Memref sig .tc .vmem S2x1024x512 .bf16) (harg18 : arg18.IsWhole)
    (hc1 : ¬ k0_cond1 i = 1#1) (hc2 : ¬ k0_cond2 i = 1#1) (hc3 : k0_cond3 i = 1#1) (hc4 : ¬ k0_cond4 i = 1#1)
    (x2 : Vec F S1x2048 .f32) (x3 : Vec F S1024x2048 .f32) (x4 : Vec F S1x2048 .f32) (x5 : Vec F S2048x512 .bf16) (x6 : Vec F S2048x512 .bf16) (x7 : Vec F S3x512 .f32) (x8 : Vec F S3x512 .f32) (x9 : Vec F S1x512 .f32) (x10 : Vec F S1x512 .f32) (x11 : Vec F S512x2048 .bf16) (x12 : Vec F S1024x2048 .f32)
    (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) :
    Σ' (L12 : List (View.Piece (Elt F) S1024x2048 .f32)), Σ' (L13 : List (View.Piece (Elt F) S1x2x512 .f32)), Σ' (L14 : List (View.Piece (Elt F) S1x2x512 .f32)), Σ' (L16 : List (View.Piece (Elt F) S2x1x1032x512 .f32)), Σ' (L17 : List (View.Piece (Elt F) S11x2x1x2x512 .f32)), { L18 : List (View.Piece (Elt F) S2x1024x512 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, (arg12.view.loc (c : Thread nD τ) ↦[arg12.view.set]{fullShare} arg12.view.writes (Elt F) f L12)) ∗ (∃ f, (arg13.view.loc (c : Thread nD τ) ↦[arg13.view.set]{fullShare} arg13.view.writes (Elt F) f L13)) ∗ (∃ f, (arg14.view.loc (c : Thread nD τ) ↦[arg14.view.set]{fullShare} arg14.view.writes (Elt F) f L14)) ∗ (arg15.view.loc (c : Thread nD τ) ↦[arg15.view.set]{fullShare} f15) ∗ (arg16.view.loc (c : Thread nD τ) ↦[arg16.view.set]{fullShare} arg16.view.writes (Elt F) f16 L16) ∗ (arg17.view.loc (c : Thread nD τ) ↦[arg17.view.set]{fullShare} arg17.view.writes (Elt F) f17 L17) ∗ (arg18.view.loc (c : Thread nD τ) ↦[arg18.view.set]{fullShare} arg18.view.writes (Elt F) f18 L18)) -∗ K ⟨⟩))
          ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, fun E K => ?run⟩
  case run =>
    simp only [cc0_conv_ffn_eq_skeleton]; unfold cc0_conv_ffn_skel
    simp only [k0_part9_eq_skeleton, k0_part10_eq_skeleton, k0_part11_eq_skeleton, k0_part12_eq_skeleton, k0_part13_eq_skeleton]
    unfold owns
    iintro ⟨⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%g11, %hg11, H11⟩, ⟨%g12, %hg12, H12⟩, ⟨%d13, %g13, -, H13⟩, ⟨%d14, %g14, -, H14⟩, H15, H16, H17, H18, Hk⟩
    obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg9.eq_unread hg9; obtain rfl := harg10.eq_unread hg10; obtain rfl := harg11.eq_unread hg11; obtain rfl := harg12.eq_unread hg12
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; iexact H12
    isplitl [H13]
    · iexists _; iexact H13
    isplitl [H14]
    · iexists _; iexact H14
    isplitl [H15]
    · iexact H15
    isplitl [H16]
    · iexact H16
    isplitl [H17]
    · iexact H17
    iexact H18

end Cert.Ffn

end
-- ==== Proof.FfnRunD.lean ====
module

public import proofs.«01_k».proof.Proof.FfnRunC

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

set_option maxHeartbeats 4000000 in
/-- The feed-forward body at the last point of a block of rows: the residual sum is stored, on whole buffers, the four scratch buffers at any contents: the
    pieces its stores leave in each buffer, with the proof that it runs to a continuation that holds them. -/
noncomputable def runD (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x2048 .bf16) (harg11 : arg11.IsWhole) (arg12 : Memref sig .tc .vmem S1024x2048 .f32) (harg12 : arg12.IsWhole) (arg13 : Memref sig .tc .vmem S1x2x512 .f32) (harg13 : arg13.IsWhole) (arg14 : Memref sig .tc .vmem S1x2x512 .f32) (harg14 : arg14.IsWhole) (arg15 : Memref sig .tc .vmem S1024x2048 .bf16) (harg15 : arg15.IsWhole) (arg16 : Memref sig .tc .vmem S2x1x1032x512 .f32) (harg16 : arg16.IsWhole) (arg17 : Memref sig .tc .vmem S11x2x1x2x512 .f32) (harg17 : arg17.IsWhole) (arg18 : Memref sig .tc .vmem S2x1024x512 .bf16) (harg18 : arg18.IsWhole)
    (hc1 : ¬ k0_cond1 i = 1#1) (hc2 : ¬ k0_cond2 i = 1#1) (hc3 : ¬ k0_cond3 i = 1#1) (hc4 : k0_cond4 i = 1#1)
    (x2 : Vec F S1x2048 .f32) (x3 : Vec F S1024x2048 .f32) (x4 : Vec F S1x2048 .f32) (x5 : Vec F S2048x512 .bf16) (x6 : Vec F S2048x512 .bf16) (x7 : Vec F S3x512 .f32) (x8 : Vec F S3x512 .f32) (x9 : Vec F S1x512 .f32) (x10 : Vec F S1x512 .f32) (x11 : Vec F S512x2048 .bf16) (x12 : Vec F S1024x2048 .f32) (x13 : Vec F S1x2x512 .f32) (x14 : Vec F S1x2x512 .f32)
    (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) :
    { L12 : List (View.Piece (Elt F) S1024x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, (arg12.view.loc (c : Thread nD τ) ↦[arg12.view.set]{fullShare} arg12.view.writes (Elt F) f L12)) ∗ owns (c : Thread nD τ) arg13 fullShare x13 ∗ owns (c : Thread nD τ) arg14 fullShare x14 ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)) -∗ K ⟨⟩))
          ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_conv_ffn_eq_skeleton]; unfold cc0_conv_ffn_skel
    simp only [k0_part13_eq_skeleton]
    unfold owns
    iintro ⟨⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%g11, %hg11, H11⟩, ⟨%g12, %hg12, H12⟩, ⟨%g13, %hg13, H13⟩, ⟨%g14, %hg14, H14⟩, H15, H16, H17, H18, Hk⟩
    obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg9.eq_unread hg9; obtain rfl := harg10.eq_unread hg10; obtain rfl := harg11.eq_unread hg11; obtain rfl := harg12.eq_unread hg12; obtain rfl := harg13.eq_unread hg13; obtain rfl := harg14.eq_unread hg14
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; iexact H12
    isplitl [H13]
    · iexists _; isplitr; · ipureintro; exact harg13.read_unread _
      iexact H13
    isplitl [H14]
    · iexists _; isplitr; · ipureintro; exact harg14.read_unread _
      iexact H14
    isplitl [H15]
    · iexact H15
    isplitl [H16]
    · iexact H16
    isplitl [H17]
    · iexact H17
    iexact H18

end Cert.Ffn

end
-- ==== Proof.FfnTile.lean ====
module

public import proofs.«01_k».proof.Proof.FfnRunD
public import Idealize.ShloMosaic.Lib.VecWindow

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-! ## Loads of whole buffers, at the extents written out -/

section
variable {κ : Kind} {sp : Space} {e : EltTy}

theorem load_S1024x2048 (v : View sig κ sp S1024x2048 e) (f : v.ty.Contents (Elt F)) (inb) :
    v.readAt (Elt F) (Rect.unit (s := S1024x2048) ![0, 0] ![1024, 2048] inb).toLoadRect f = v.read (Elt F) f := View.readAt_full v f inb

theorem load_S1x2048 (v : View sig κ sp S1x2048 e) (f : v.ty.Contents (Elt F)) (inb) :
    v.readAt (Elt F) (Rect.unit (s := S1x2048) ![0, 0] ![1, 2048] inb).toLoadRect f = v.read (Elt F) f := View.readAt_full v f inb

theorem load_S2048x512 (v : View sig κ sp S2048x512 e) (f : v.ty.Contents (Elt F)) (inb) :
    v.readAt (Elt F) (Rect.unit (s := S2048x512) ![0, 0] ![2048, 512] inb).toLoadRect f = v.read (Elt F) f := View.readAt_full v f inb

theorem load_S3x512 (v : View sig κ sp S3x512 e) (f : v.ty.Contents (Elt F)) (inb) :
    v.readAt (Elt F) (Rect.unit (s := S3x512) ![0, 0] ![3, 512] inb).toLoadRect f = v.read (Elt F) f := View.readAt_full v f inb

theorem load_S1x512 (v : View sig κ sp S1x512 e) (f : v.ty.Contents (Elt F)) (inb) :
    v.readAt (Elt F) (Rect.unit (s := S1x512) ![0, 0] ![1, 512] inb).toLoadRect f = v.read (Elt F) f := View.readAt_full v f inb

theorem load_S512x2048 (v : View sig κ sp S512x2048 e) (f : v.ty.Contents (Elt F)) (inb) :
    v.readAt (Elt F) (Rect.unit (s := S512x2048) ![0, 0] ![512, 2048] inb).toLoadRect f = v.read (Elt F) f := View.readAt_full v f inb

theorem loadCov (v : View sig κ sp S1024x2048 e) (inb inb') (w : S1024x2048.Idx → Elt F e) (L) :
    v.readCov (⟨Rect.unit (s := S1024x2048) ![0, 0] ![1024, 2048] inb', w⟩ :: L) (Rect.unit (s := S1024x2048) ![0, 0] ![1024, 2048] inb).toLoadRect = w :=
  View.readCov_full v inb inb' w L
end

/-! ## One tile of the feed-forward, as a function of what its loads read -/

/-- The normed rows. -/
def normed (x : Vec F S1024x2048 .f32) (nw : Vec F S1x2048 .f32) : Vec F S1024x2048 .bf16 := k0_pay3 x nw

/-- One half's product of the normed rows with a tile of the weights. -/
def up (h : Vec F S1024x2048 .bf16) (w : Vec F S2048x512 .bf16) : FVec F S1x1024x512 .f32 := k0_pay37 h w

/-- The two rows before a block: what the carried buffer holds, or zeros at the first block of a sequence. -/
def prev (i0 : BitVec 32) (s : Vec F S1x1x1x2x512 .f32) : FVec F S1x1x2x512 .f32 := k0_pay47 i0 s

/-- The last two rows of a half's product. -/
def tail (u : FVec F S1x1024x512 .f32) : FVec F S1x2x512 .f32 := k0_pay42 u

/-- The same, as the carried buffer stores them. -/
def tail5 (u : FVec F S1x1024x512 .f32) : FVec F S1x1x1x2x512 .f32 := k0_pay49 u

/-- What the first half's rows of the staging buffer hold: the product at row 8 on, the two rows before it at row 6. -/
def work1 (h : Vec F S1024x2048 .bf16) (w1 : Vec F S2048x512 .bf16) (p1 : FVec F S1x1x2x512 .f32) : List (View.Piece (Elt F) S2x1x1032x512 .f32) :=
  [⟨Rect.unit (s := S2x1x1032x512) ![0, 0, 6, 0] S1x1x2x512.size inb_S2x1x1032x512_S1x1x2x512_0_0_6_0, p1⟩,
   ⟨Rect.unit (s := S2x1x1032x512) ![0, 0, 8, 0] S1x1x1024x512.size inb_S2x1x1032x512_S1x1x1024x512_0_0_8_0, k0_pay38 h w1⟩]

/-- And the second half's. -/
def work2 (h : Vec F S1024x2048 .bf16) (w1 w2 : Vec F S2048x512 .bf16) (p1 p2 : FVec F S1x1x2x512 .f32) : List (View.Piece (Elt F) S2x1x1032x512 .f32) :=
  ⟨Rect.unit (s := S2x1x1032x512) ![1, 0, 6, 0] S1x1x2x512.size inb_S2x1x1032x512_S1x1x2x512_1_0_6_0, p2⟩ ::
  ⟨Rect.unit (s := S2x1x1032x512) ![1, 0, 8, 0] S1x1x1024x512.size inb_S2x1x1032x512_S1x1x1024x512_1_0_8_0, k0_pay46 h w2⟩ :: work1 h w1 p1

/-- The first half's product shifted down by one row, and by two. -/
def sh1 (h : Vec F S1024x2048 .bf16) (w1 : Vec F S2048x512 .bf16) (p1 : FVec F S1x1x2x512 .f32) : Vec F S1x1x1024x512 .f32 :=
  fun j => View.canon (work1 h w1 p1) ((Rect.unit (s := S2x1x1032x512) ![0, 0, 7, 0] S1x1x1024x512.size inb_S2x1x1032x512_S1x1x1024x512_0_0_7_0).toLoadRect.idx j)
def sh2 (h : Vec F S1024x2048 .bf16) (w1 : Vec F S2048x512 .bf16) (p1 : FVec F S1x1x2x512 .f32) : Vec F S1x1x1024x512 .f32 :=
  fun j => View.canon (work1 h w1 p1) ((Rect.unit (s := S2x1x1032x512) ![0, 0, 6, 0] S1x1x1024x512.size inb_S2x1x1032x512_S1x1x1024x512_0_0_6_0).toLoadRect.idx j)
/-- And the second half's. -/
def sh1' (h : Vec F S1024x2048 .bf16) (w1 w2 : Vec F S2048x512 .bf16) (p1 p2 : FVec F S1x1x2x512 .f32) : Vec F S1x1x1024x512 .f32 :=
  fun j => View.canon (work2 h w1 w2 p1 p2) ((Rect.unit (s := S2x1x1032x512) ![1, 0, 7, 0] S1x1x1024x512.size inb_S2x1x1032x512_S1x1x1024x512_1_0_7_0).toLoadRect.idx j)
def sh2' (h : Vec F S1024x2048 .bf16) (w1 w2 : Vec F S2048x512 .bf16) (p1 p2 : FVec F S1x1x2x512 .f32) : Vec F S1x1x1024x512 .f32 :=
  fun j => View.canon (work2 h w1 w2 p1 p2) ((Rect.unit (s := S2x1x1032x512) ![1, 0, 6, 0] S1x1x1024x512.size inb_S2x1x1032x512_S1x1x1024x512_1_0_6_0).toLoadRect.idx j)

/-- The gate half after the convolution. -/
def gate (h : Vec F S1024x2048 .bf16) (w1 : Vec F S2048x512 .bf16) (p1 : FVec F S1x1x2x512 .f32) (cw1 : Vec F S3x512 .f32) (cb1 : Vec F S1x512 .f32) : FVec F S1024x512 .f32 :=
  k0_pay44 (k0_pay41 (up h w1) (sh1 h w1 p1) (sh2 h w1 p1) cw1 cb1)

/-- The activated tile. -/
def act (h : Vec F S1024x2048 .bf16) (w1 w2 : Vec F S2048x512 .bf16) (p1 p2 : FVec F S1x1x2x512 .f32) (cw1 cw2 : Vec F S3x512 .f32) (cb1 cb2 : Vec F S1x512 .f32) :
    FVec F S1x1024x512 .bf16 :=
  k0_pay1 (gate h w1 p1 cw1 cb1) (k0_pay50 (up h w2) (sh1' h w1 w2 p1 p2) (sh2' h w1 w2 p1 p2) cw2 cb2)
    (k0_pay51 (gate h w1 p1 cw1 cb1)) (Scalar.ofBits .f32 0x3F000000#32)

/-- The accumulator after one more tile. -/
def accum (o : Vec F S1024x2048 .f32) (a : Vec F S1x1024x512 .bf16) (w : Vec F S512x2048 .bf16) : FVec F S1024x2048 .f32 := k0_pay36 o a w

/-- The residual sum stored at the last point. -/
def final (o : Vec F S1024x2048 .f32) (a : Vec F S1x1024x512 .bf16) (w : Vec F S512x2048 .bf16) (x : Vec F S1024x2048 .f32) (nw2 : Vec F S1x2048 .f32) :
    FVec F S1024x2048 .f32 := k0_pay2 o a w x nw2

/-! What each kind of point leaves in the buffers, for the same arguments throughout. -/

section Runs

variable (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x2048 .bf16) (harg11 : arg11.IsWhole) (arg12 : Memref sig .tc .vmem S1024x2048 .f32) (harg12 : arg12.IsWhole) (arg13 : Memref sig .tc .vmem S1x2x512 .f32) (harg13 : arg13.IsWhole) (arg14 : Memref sig .tc .vmem S1x2x512 .f32) (harg14 : arg14.IsWhole) (arg15 : Memref sig .tc .vmem S1024x2048 .bf16) (harg15 : arg15.IsWhole) (arg16 : Memref sig .tc .vmem S2x1x1032x512 .f32) (harg16 : arg16.IsWhole) (arg17 : Memref sig .tc .vmem S11x2x1x2x512 .f32) (harg17 : arg17.IsWhole) (arg18 : Memref sig .tc .vmem S2x1024x512 .bf16) (harg18 : arg18.IsWhole)

section RunA

variable
    (hc1 : k0_cond1 i = 1#1) (hc2 : ¬ k0_cond2 i = 1#1) (hc3 : ¬ k0_cond3 i = 1#1) (hc4 : ¬ k0_cond4 i = 1#1)
    (x2 : Vec F S1x2048 .f32) (x3 : Vec F S1024x2048 .f32) (x4 : Vec F S1x2048 .f32) (x5 : Vec F S2048x512 .bf16) (x6 : Vec F S2048x512 .bf16) (x7 : Vec F S3x512 .f32) (x8 : Vec F S3x512 .f32) (x9 : Vec F S1x512 .f32) (x10 : Vec F S1x512 .f32) (x11 : Vec F S512x2048 .bf16)
    (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ)))

/-- The accumulator after the first point. -/
theorem runA_o :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 x3 x4 x5 x6 x7 x8 x9 x10 x11 f15 f16 f17 f18).1 = [⟨Rect.unit (s := S1024x2048) ![0, 0] S1024x2048.size inb_S1024x2048_S1024x2048_0_0, k0_pay4 (F := F)⟩] := by
  unfold runA; dsimp only
  (try sl_unfold_words)
  (try simp only [load_S1024x2048, load_S1x2048, load_S2048x512, load_S3x512, load_S1x512, load_S512x2048, loadCov, Memref.IsWhole.read_unread])
  (try simp only [View.readCov_eq_canon'])
  (try rfl)

/-- The normed rows after the first point. -/
theorem runA_h :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 x3 x4 x5 x6 x7 x8 x9 x10 x11 f15 f16 f17 f18).2.2.2.1 = [⟨Rect.unit (s := S1024x2048) ![0, 0] S1024x2048.size inb_S1024x2048_S1024x2048_0_0, normed x3 x2⟩] := by
  unfold runA; dsimp only
  (try sl_unfold_words)
  (try simp only [load_S1024x2048, load_S1x2048, load_S2048x512, load_S3x512, load_S1x512, load_S512x2048, loadCov, Memref.IsWhole.read_unread])
  (try simp only [View.readCov_eq_canon'])
  (try rfl)

/-- The first half's last rows. -/
theorem runA_t1 :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 x3 x4 x5 x6 x7 x8 x9 x10 x11 f15 f16 f17 f18).2.1 = [⟨Rect.unit (s := S1x2x512) ![0, 0, 0] S1x2x512.size inb_S1x2x512_S1x2x512_0_0_0, tail (up (normed x3 x2) x5)⟩] := by
  unfold runA; dsimp only
  (try sl_unfold_words)
  (try simp only [load_S1024x2048, load_S1x2048, load_S2048x512, load_S3x512, load_S1x512, load_S512x2048, loadCov, Memref.IsWhole.read_unread])
  (try simp only [View.readCov_eq_canon'])
  (try rfl)

/-- The second half's last rows. -/
theorem runA_t2 :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 x3 x4 x5 x6 x7 x8 x9 x10 x11 f15 f16 f17 f18).2.2.1 = [⟨Rect.unit (s := S1x2x512) ![0, 0, 0] S1x2x512.size inb_S1x2x512_S1x2x512_0_0_0, tail (up (normed x3 x2) x6)⟩] := by
  unfold runA; dsimp only
  (try sl_unfold_words)
  (try simp only [load_S1024x2048, load_S1x2048, load_S2048x512, load_S3x512, load_S1x512, load_S512x2048, loadCov, Memref.IsWhole.read_unread])
  (try simp only [View.readCov_eq_canon'])
  (try rfl)

/-- The carried rows. -/
theorem runA_c :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 x3 x4 x5 x6 x7 x8 x9 x10 x11 f15 f16 f17 f18).2.2.2.2.2.1 = [⟨Rect.unit (s := S11x2x1x2x512) (k0_off2 i) S1x1x1x2x512.size (k0_off2_inb i hc1), tail5 (up (normed x3 x2) x6)⟩,
      ⟨Rect.unit (s := S11x2x1x2x512) (k0_off1 i) S1x1x1x2x512.size (k0_off1_inb i hc1), tail5 (up (normed x3 x2) x5)⟩] := by
  unfold runA; dsimp only
  (try sl_unfold_words)
  (try simp only [load_S1024x2048, load_S1x2048, load_S2048x512, load_S3x512, load_S1x512, load_S512x2048, loadCov, Memref.IsWhole.read_unread])
  (try simp only [View.readCov_eq_canon'])
  (try rfl)

/-- The activated tile. -/
theorem runA_a :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 x3 x4 x5 x6 x7 x8 x9 x10 x11 f15 f16 f17 f18).2.2.2.2.2.2.val = [⟨Rect.unit (s := S2x1024x512) ![0, 0, 0] S1x1024x512.size inb_S2x1024x512_S1x1024x512_0_0_0,
      act (normed x3 x2) x5 x6 (prev (BitVec.ofNat 32 (i 0).val) (arg17.view.readAt (Elt F) (Rect.unit (s := S11x2x1x2x512) (k0_off1 i) S1x1x1x2x512.size (k0_off1_inb i hc1)).toLoadRect f17)) (prev (BitVec.ofNat 32 (i 0).val) (arg17.view.readAt (Elt F) (Rect.unit (s := S11x2x1x2x512) (k0_off2 i) S1x1x1x2x512.size (k0_off2_inb i hc1)).toLoadRect f17)) x7 x8 x9 x10⟩] := by
  unfold runA; dsimp only
  (try sl_unfold_words)
  (try simp only [load_S1024x2048, load_S1x2048, load_S2048x512, load_S3x512, load_S1x512, load_S512x2048, loadCov, Memref.IsWhole.read_unread])
  (try simp only [View.readCov_eq_canon'])
  (try rfl)

end RunA

section RunB

variable
    (hc1 : ¬ k0_cond1 i = 1#1) (hc2 : k0_cond2 i = 1#1) (hc3 : ¬ k0_cond3 i = 1#1) (hc4 : ¬ k0_cond4 i = 1#1)
    (x2 : Vec F S1x2048 .f32) (x3 : Vec F S1024x2048 .f32) (x4 : Vec F S1x2048 .f32) (x5 : Vec F S2048x512 .bf16) (x6 : Vec F S2048x512 .bf16) (x7 : Vec F S3x512 .f32) (x8 : Vec F S3x512 .f32) (x9 : Vec F S1x512 .f32) (x10 : Vec F S1x512 .f32) (x11 : Vec F S512x2048 .bf16) (x12 : Vec F S1024x2048 .f32)
    (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ)))

/-- The accumulator after the point. -/
theorem runB_o :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 x3 x4 x5 x6 x7 x8 x9 x10 x11 x12 f15 f16 f17 f18).1 = [⟨Rect.unit (s := S1024x2048) ![0, 0] S1024x2048.size inb_S1024x2048_S1024x2048_0_0, accum x12 (arg18.view.readAt (Elt F) (Rect.unit (s := S2x1024x512) ![1, 0, 0] S1x1024x512.size inb_S2x1024x512_S1x1024x512_1_0_0).toLoadRect f18) x11⟩] := by
  unfold runB; dsimp only
  (try sl_unfold_words)
  (try simp only [load_S1024x2048, load_S1x2048, load_S2048x512, load_S3x512, load_S1x512, load_S512x2048, loadCov, Memref.IsWhole.read_unread])
  (try simp only [View.readCov_eq_canon'])
  (try rfl)

/-- The first half's last rows. -/
theorem runB_t1 :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 x3 x4 x5 x6 x7 x8 x9 x10 x11 x12 f15 f16 f17 f18).2.1 = [⟨Rect.unit (s := S1x2x512) ![0, 0, 0] S1x2x512.size inb_S1x2x512_S1x2x512_0_0_0, tail (up (arg15.view.read (Elt F) f15) x5)⟩] := by
  unfold runB; dsimp only
  (try sl_unfold_words)
  (try simp only [load_S1024x2048, load_S1x2048, load_S2048x512, load_S3x512, load_S1x512, load_S512x2048, loadCov, Memref.IsWhole.read_unread])
  (try simp only [View.readCov_eq_canon'])
  (try rfl)

/-- The second half's last rows. -/
theorem runB_t2 :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 x3 x4 x5 x6 x7 x8 x9 x10 x11 x12 f15 f16 f17 f18).2.2.1 = [⟨Rect.unit (s := S1x2x512) ![0, 0, 0] S1x2x512.size inb_S1x2x512_S1x2x512_0_0_0, tail (up (arg15.view.read (Elt F) f15) x6)⟩] := by
  unfold runB; dsimp only
  (try sl_unfold_words)
  (try simp only [load_S1024x2048, load_S1x2048, load_S2048x512, load_S3x512, load_S1x512, load_S512x2048, loadCov, Memref.IsWhole.read_unread])
  (try simp only [View.readCov_eq_canon'])
  (try rfl)

/-- The carried rows. -/
theorem runB_c :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 x3 x4 x5 x6 x7 x8 x9 x10 x11 x12 f15 f16 f17 f18).2.2.2.2.1 = [⟨Rect.unit (s := S11x2x1x2x512) (k0_off4 i) S1x1x1x2x512.size (k0_off4_inb i hc2), tail5 (up (arg15.view.read (Elt F) f15) x6)⟩,
      ⟨Rect.unit (s := S11x2x1x2x512) (k0_off3 i) S1x1x1x2x512.size (k0_off3_inb i hc2), tail5 (up (arg15.view.read (Elt F) f15) x5)⟩] := by
  unfold runB; dsimp only
  (try sl_unfold_words)
  (try simp only [load_S1024x2048, load_S1x2048, load_S2048x512, load_S3x512, load_S1x512, load_S512x2048, loadCov, Memref.IsWhole.read_unread])
  (try simp only [View.readCov_eq_canon'])
  (try rfl)

/-- The activated tile. -/
theorem runB_a :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 x3 x4 x5 x6 x7 x8 x9 x10 x11 x12 f15 f16 f17 f18).2.2.2.2.2.val = [⟨Rect.unit (s := S2x1024x512) ![0, 0, 0] S1x1024x512.size inb_S2x1024x512_S1x1024x512_0_0_0,
      act (arg15.view.read (Elt F) f15) x5 x6 (prev (BitVec.ofNat 32 (i 0).val) (arg17.view.readAt (Elt F) (Rect.unit (s := S11x2x1x2x512) (k0_off3 i) S1x1x1x2x512.size (k0_off3_inb i hc2)).toLoadRect f17)) (prev (BitVec.ofNat 32 (i 0).val) (arg17.view.readAt (Elt F) (Rect.unit (s := S11x2x1x2x512) (k0_off4 i) S1x1x1x2x512.size (k0_off4_inb i hc2)).toLoadRect f17)) x7 x8 x9 x10⟩] := by
  unfold runB; dsimp only
  (try sl_unfold_words)
  (try simp only [load_S1024x2048, load_S1x2048, load_S2048x512, load_S3x512, load_S1x512, load_S512x2048, loadCov, Memref.IsWhole.read_unread])
  (try simp only [View.readCov_eq_canon'])
  (try rfl)

end RunB

section RunC

variable
    (hc1 : ¬ k0_cond1 i = 1#1) (hc2 : ¬ k0_cond2 i = 1#1) (hc3 : k0_cond3 i = 1#1) (hc4 : ¬ k0_cond4 i = 1#1)
    (x2 : Vec F S1x2048 .f32) (x3 : Vec F S1024x2048 .f32) (x4 : Vec F S1x2048 .f32) (x5 : Vec F S2048x512 .bf16) (x6 : Vec F S2048x512 .bf16) (x7 : Vec F S3x512 .f32) (x8 : Vec F S3x512 .f32) (x9 : Vec F S1x512 .f32) (x10 : Vec F S1x512 .f32) (x11 : Vec F S512x2048 .bf16) (x12 : Vec F S1024x2048 .f32)
    (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ)))

/-- The accumulator after the point. -/
theorem runC_o :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 x3 x4 x5 x6 x7 x8 x9 x10 x11 x12 f15 f16 f17 f18).1 = [⟨Rect.unit (s := S1024x2048) ![0, 0] S1024x2048.size inb_S1024x2048_S1024x2048_0_0, accum x12 (arg18.view.readAt (Elt F) (Rect.unit (s := S2x1024x512) ![0, 0, 0] S1x1024x512.size inb_S2x1024x512_S1x1024x512_0_0_0).toLoadRect f18) x11⟩] := by
  unfold runC; dsimp only
  (try sl_unfold_words)
  (try simp only [load_S1024x2048, load_S1x2048, load_S2048x512, load_S3x512, load_S1x512, load_S512x2048, loadCov, Memref.IsWhole.read_unread])
  (try simp only [View.readCov_eq_canon'])
  (try rfl)

/-- The first half's last rows. -/
theorem runC_t1 :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 x3 x4 x5 x6 x7 x8 x9 x10 x11 x12 f15 f16 f17 f18).2.1 = [⟨Rect.unit (s := S1x2x512) ![0, 0, 0] S1x2x512.size inb_S1x2x512_S1x2x512_0_0_0, tail (up (arg15.view.read (Elt F) f15) x5)⟩] := by
  unfold runC; dsimp only
  (try sl_unfold_words)
  (try simp only [load_S1024x2048, load_S1x2048, load_S2048x512, load_S3x512, load_S1x512, load_S512x2048, loadCov, Memref.IsWhole.read_unread])
  (try simp only [View.readCov_eq_canon'])
  (try rfl)

/-- The second half's last rows. -/
theorem runC_t2 :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 x3 x4 x5 x6 x7 x8 x9 x10 x11 x12 f15 f16 f17 f18).2.2.1 = [⟨Rect.unit (s := S1x2x512) ![0, 0, 0] S1x2x512.size inb_S1x2x512_S1x2x512_0_0_0, tail (up (arg15.view.read (Elt F) f15) x6)⟩] := by
  unfold runC; dsimp only
  (try sl_unfold_words)
  (try simp only [load_S1024x2048, load_S1x2048, load_S2048x512, load_S3x512, load_S1x512, load_S512x2048, loadCov, Memref.IsWhole.read_unread])
  (try simp only [View.readCov_eq_canon'])
  (try rfl)

/-- The carried rows. -/
theorem runC_c :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 x3 x4 x5 x6 x7 x8 x9 x10 x11 x12 f15 f16 f17 f18).2.2.2.2.1 = [⟨Rect.unit (s := S11x2x1x2x512) (k0_off6 i) S1x1x1x2x512.size (k0_off6_inb i hc3), tail5 (up (arg15.view.read (Elt F) f15) x6)⟩,
      ⟨Rect.unit (s := S11x2x1x2x512) (k0_off5 i) S1x1x1x2x512.size (k0_off5_inb i hc3), tail5 (up (arg15.view.read (Elt F) f15) x5)⟩] := by
  unfold runC; dsimp only
  (try sl_unfold_words)
  (try simp only [load_S1024x2048, load_S1x2048, load_S2048x512, load_S3x512, load_S1x512, load_S512x2048, loadCov, Memref.IsWhole.read_unread])
  (try simp only [View.readCov_eq_canon'])
  (try rfl)

/-- The activated tile. -/
theorem runC_a :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 x3 x4 x5 x6 x7 x8 x9 x10 x11 x12 f15 f16 f17 f18).2.2.2.2.2.val = [⟨Rect.unit (s := S2x1024x512) ![1, 0, 0] S1x1024x512.size inb_S2x1024x512_S1x1024x512_1_0_0,
      act (arg15.view.read (Elt F) f15) x5 x6 (prev (BitVec.ofNat 32 (i 0).val) (arg17.view.readAt (Elt F) (Rect.unit (s := S11x2x1x2x512) (k0_off5 i) S1x1x1x2x512.size (k0_off5_inb i hc3)).toLoadRect f17)) (prev (BitVec.ofNat 32 (i 0).val) (arg17.view.readAt (Elt F) (Rect.unit (s := S11x2x1x2x512) (k0_off6 i) S1x1x1x2x512.size (k0_off6_inb i hc3)).toLoadRect f17)) x7 x8 x9 x10⟩] := by
  unfold runC; dsimp only
  (try sl_unfold_words)
  (try simp only [load_S1024x2048, load_S1x2048, load_S2048x512, load_S3x512, load_S1x512, load_S512x2048, loadCov, Memref.IsWhole.read_unread])
  (try simp only [View.readCov_eq_canon'])
  (try rfl)

end RunC

section RunD

variable
    (hc1 : ¬ k0_cond1 i = 1#1) (hc2 : ¬ k0_cond2 i = 1#1) (hc3 : ¬ k0_cond3 i = 1#1) (hc4 : k0_cond4 i = 1#1)
    (x2 : Vec F S1x2048 .f32) (x3 : Vec F S1024x2048 .f32) (x4 : Vec F S1x2048 .f32) (x5 : Vec F S2048x512 .bf16) (x6 : Vec F S2048x512 .bf16) (x7 : Vec F S3x512 .f32) (x8 : Vec F S3x512 .f32) (x9 : Vec F S1x512 .f32) (x10 : Vec F S1x512 .f32) (x11 : Vec F S512x2048 .bf16) (x12 : Vec F S1024x2048 .f32) (x13 : Vec F S1x2x512 .f32) (x14 : Vec F S1x2x512 .f32)
    (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ)))

/-- The residual sum. -/
theorem runD_o :
    (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 x3 x4 x5 x6 x7 x8 x9 x10 x11 x12 x13 x14 f15 f16 f17 f18).val = [⟨Rect.unit (s := S1024x2048) ![0, 0] S1024x2048.size inb_S1024x2048_S1024x2048_0_0, final x12 (arg18.view.readAt (Elt F) (Rect.unit (s := S2x1024x512) ![0, 0, 0] S1x1024x512.size inb_S2x1024x512_S1x1024x512_0_0_0).toLoadRect f18) x11 x3 x4⟩] := by
  unfold runD; dsimp only
  (try sl_unfold_words)
  (try simp only [load_S1024x2048, load_S1x2048, load_S2048x512, load_S3x512, load_S1x512, load_S512x2048, loadCov, Memref.IsWhole.read_unread])
  (try simp only [View.readCov_eq_canon'])
  (try rfl)

end RunD

end Runs

end Cert.Ffn

end
-- ==== Proof.FfnInv.lean ====
module

public import proofs.«01_k».proof.Proof.FfnTile
public import Idealize.ShloMosaic.Lib.Pointwise.Index

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-! ## Single slabs of the carried rows and of the activated tiles -/

section
variable {κ : Kind} {sp : Space}

/-- Tile `j`, half `h` of the carried rows. -/
def slabC (v : View sig κ sp S11x2x1x2x512 .f32) (f : v.ty.Contents (Elt F)) (j : Fin 11) (h : Fin 2) : Vec F S1x1x1x2x512 .f32 :=
  fun y => v.read (Elt F) f (ix5 j h 0 (y 3) (y 4))

/-- One of the two activated tiles. -/
def slabA (v : View sig κ sp S2x1024x512 .bf16) (f : v.ty.Contents (Elt F)) (k : Fin 2) : Vec F S1x1024x512 .bf16 :=
  fun y => v.read (Elt F) f (ix3 k (y 1) (y 2))

theorem load_slabC (v : View sig κ sp S11x2x1x2x512 .f32) (f : v.ty.Contents (Elt F)) {off : Fin 5 → ℕ} (j : Fin 11) (h : Fin 2)
    (ho : off = ![j.val, h.val, 0, 0, 0]) (inb) :
    v.readAt (Elt F) (Rect.unit (s := S11x2x1x2x512) off S1x1x1x2x512.size inb).toLoadRect f = slabC v f j h := by
  subst ho
  funext y
  refine congrArg (v.read (Elt F) f) (funext fun a => Fin.ext ?_)
  have h0 : (y 0).val = 0 := Nat.lt_one_iff.1 (y 0).isLt
  have h1 : (y 1).val = 0 := Nat.lt_one_iff.1 (y 1).isLt
  have h2 : (y 2).val = 0 := Nat.lt_one_iff.1 (y 2).isLt
  match a with
  | ⟨0, _⟩ => show j.val + 1 * (y 0).val = j.val; omega
  | ⟨1, _⟩ => show h.val + 1 * (y 1).val = h.val; omega
  | ⟨2, _⟩ => show 0 + 1 * (y 2).val = 0; omega
  | ⟨3, _⟩ => show 0 + 1 * (y 3).val = (y 3).val; omega
  | ⟨4, _⟩ => show 0 + 1 * (y 4).val = (y 4).val; omega

theorem load_slabA (v : View sig κ sp S2x1024x512 .bf16) (f : v.ty.Contents (Elt F)) (k : Fin 2) {off : Fin 3 → ℕ}
    (ho : off = ![k.val, 0, 0]) (inb) :
    v.readAt (Elt F) (Rect.unit (s := S2x1024x512) off S1x1024x512.size inb).toLoadRect f = slabA v f k := by
  subst ho
  funext y
  refine congrArg (v.read (Elt F) f) (funext fun a => Fin.ext ?_)
  have h0 : (y 0).val = 0 := Nat.lt_one_iff.1 (y 0).isLt
  match a with
  | ⟨0, _⟩ => show k.val + 1 * (y 0).val = k.val; omega
  | ⟨1, _⟩ => show 0 + 1 * (y 1).val = (y 1).val; omega
  | ⟨2, _⟩ => show 0 + 1 * (y 2).val = (y 2).val; omega

theorem load_slabA0 (v : View sig κ sp S2x1024x512 .bf16) (f : v.ty.Contents (Elt F)) (inb) :
    v.readAt (Elt F) (Rect.unit (s := S2x1024x512) ![0, 0, 0] S1x1024x512.size inb).toLoadRect f = slabA v f 0 := load_slabA v f 0 rfl inb
theorem load_slabA1 (v : View sig κ sp S2x1024x512 .bf16) (f : v.ty.Contents (Elt F)) (inb) :
    v.readAt (Elt F) (Rect.unit (s := S2x1024x512) ![1, 0, 0] S1x1024x512.size inb).toLoadRect f = slabA v f 1 := load_slabA v f 1 rfl inb

/-- The slab a store of one slab leaves there. -/
theorem slabA_store (v : View sig κ sp S2x1024x512 .bf16) (f : v.ty.Contents (Elt F)) (k : Fin 2) {off : Fin 3 → ℕ}
    (ho : off = ![k.val, 0, 0]) (inb) (w : Vec F S1x1024x512 .bf16) :
    slabA v (v.writes (Elt F) f [⟨Rect.unit (s := S2x1024x512) off S1x1024x512.size inb, w⟩]) k = w := by
  funext y
  unfold slabA
  refine View.read_writes_cons_unit_of_mem v f inb w [] _ y ho fun a => ?_
  have h0 : (y 0).val = 0 := Nat.lt_one_iff.1 (y 0).isLt
  match a with
  | ⟨0, _⟩ => show k.val = k.val + (y 0).val; omega
  | ⟨1, _⟩ => show (y 1).val = 0 + (y 1).val; omega
  | ⟨2, _⟩ => show (y 2).val = 0 + (y 2).val; omega

theorem slabC_store_ne (v : View sig κ sp S11x2x1x2x512 .f32) (f : v.ty.Contents (Elt F)) {off : Fin 5 → ℕ} (j : Fin 11) (h : Fin 2)
    (ho : off = ![j.val, h.val, 0, 0, 0]) (inb) (w : Vec F S1x1x1x2x512 .f32) (L) (j' : Fin 11) (h' : Fin 2) (hne : j' ≠ j ∨ h' ≠ h) :
    slabC v (v.writes (Elt F) f (⟨Rect.unit (s := S11x2x1x2x512) off S1x1x1x2x512.size inb, w⟩ :: L)) j' h' = slabC v (v.writes (Elt F) f L) j' h' := by
  funext y
  unfold slabC
  rcases hne with hne | hne
  · exact View.read_writes_cons_unit_of_not_mem v f inb w L _ ho ⟨0, by decide⟩ (by
      have : j'.val ≠ j.val := fun e => hne (Fin.ext e)
      show j'.val < j.val ∨ j.val + 1 ≤ j'.val
      omega)
  · exact View.read_writes_cons_unit_of_not_mem v f inb w L _ ho ⟨1, by decide⟩ (by
      have : h'.val ≠ h.val := fun e => hne (Fin.ext e)
      show h'.val < h.val ∨ h.val + 1 ≤ h'.val
      omega)

theorem slabC_store_self (v : View sig κ sp S11x2x1x2x512 .f32) (f : v.ty.Contents (Elt F)) {off : Fin 5 → ℕ} (j : Fin 11) (h : Fin 2)
    (ho : off = ![j.val, h.val, 0, 0, 0]) (inb) (w : Vec F S1x1x1x2x512 .f32) (L) :
    slabC v (v.writes (Elt F) f (⟨Rect.unit (s := S11x2x1x2x512) off S1x1x1x2x512.size inb, w⟩ :: L)) j h = w := by
  funext y
  unfold slabC
  refine View.read_writes_cons_unit_of_mem v f inb w L _ y ho fun a => ?_
  have h0 : (y 0).val = 0 := Nat.lt_one_iff.1 (y 0).isLt
  have h1 : (y 1).val = 0 := Nat.lt_one_iff.1 (y 1).isLt
  have h2 : (y 2).val = 0 := Nat.lt_one_iff.1 (y 2).isLt
  match a with
  | ⟨0, _⟩ => show j.val = j.val + (y 0).val; omega
  | ⟨1, _⟩ => show h.val = h.val + (y 1).val; omega
  | ⟨2, _⟩ => show 0 = 0 + (y 2).val; omega
  | ⟨3, _⟩ => show (y 3).val = 0 + (y 3).val; omega
  | ⟨4, _⟩ => show (y 4).val = 0 + (y 4).val; omega
end

/-- At the first block of rows nothing is read from the carried rows. -/
theorem prev_zero (s s' : Vec F S1x1x1x2x512 .f32) : prev (BitVec.ofNat 32 0) s = prev (BitVec.ofNat 32 0) s' := by
  unfold prev k0_pay47
  rfl

/-! ## The grid's coordinates -/

theorem coord0 : ∀ t : Fin cfg0.N, (grid0.coords t 0).val = t.val / 12 := (by decide +kernel : ∀ t : Fin grid0.N, (grid0.coords t 0).val = t.val / 12)
theorem coord1 : ∀ t : Fin cfg0.N, (grid0.coords t 1).val = t.val % 12 := (by decide +kernel : ∀ t : Fin grid0.N, (grid0.coords t 1).val = t.val % 12)
theorem cond1_iff : ∀ t : Fin cfg0.N, k0_cond1 (grid0.coords t) = 1#1 ↔ t.val % 12 = 0 := (by decide +kernel : ∀ t : Fin grid0.N, k0_cond1 (grid0.coords t) = 1#1 ↔ t.val % 12 = 0)
theorem cond2_iff : ∀ t : Fin cfg0.N, k0_cond2 (grid0.coords t) = 1#1 ↔ t.val % 12 ≠ 0 ∧ t.val % 2 = 0 := (by decide +kernel : ∀ t : Fin grid0.N, k0_cond2 (grid0.coords t) = 1#1 ↔ t.val % 12 ≠ 0 ∧ t.val % 2 = 0)
theorem cond3_iff : ∀ t : Fin cfg0.N, k0_cond3 (grid0.coords t) = 1#1 ↔ t.val % 12 ≠ 11 ∧ t.val % 2 = 1 := (by decide +kernel : ∀ t : Fin grid0.N, k0_cond3 (grid0.coords t) = 1#1 ↔ t.val % 12 ≠ 11 ∧ t.val % 2 = 1)
theorem cond4_iff : ∀ t : Fin cfg0.N, k0_cond4 (grid0.coords t) = 1#1 ↔ t.val % 12 = 11 := (by decide +kernel : ∀ t : Fin grid0.N, k0_cond4 (grid0.coords t) = 1#1 ↔ t.val % 12 = 11)
theorem off1_eq : ∀ t : Fin cfg0.N, k0_off1 (grid0.coords t) = ![t.val % 12, 0, 0, 0, 0] := (by decide +kernel : ∀ t : Fin grid0.N, k0_off1 (grid0.coords t) = ![t.val % 12, 0, 0, 0, 0])
theorem off2_eq : ∀ t : Fin cfg0.N, k0_off2 (grid0.coords t) = ![t.val % 12, 1, 0, 0, 0] := (by decide +kernel : ∀ t : Fin grid0.N, k0_off2 (grid0.coords t) = ![t.val % 12, 1, 0, 0, 0])
theorem off3_eq : ∀ t : Fin cfg0.N, k0_off3 (grid0.coords t) = ![t.val % 12, 0, 0, 0, 0] := (by decide +kernel : ∀ t : Fin grid0.N, k0_off3 (grid0.coords t) = ![t.val % 12, 0, 0, 0, 0])
theorem off4_eq : ∀ t : Fin cfg0.N, k0_off4 (grid0.coords t) = ![t.val % 12, 1, 0, 0, 0] := (by decide +kernel : ∀ t : Fin grid0.N, k0_off4 (grid0.coords t) = ![t.val % 12, 1, 0, 0, 0])
theorem off5_eq : ∀ t : Fin cfg0.N, k0_off5 (grid0.coords t) = ![t.val % 12, 0, 0, 0, 0] := (by decide +kernel : ∀ t : Fin grid0.N, k0_off5 (grid0.coords t) = ![t.val % 12, 0, 0, 0, 0])
theorem off6_eq : ∀ t : Fin cfg0.N, k0_off6 (grid0.coords t) = ![t.val % 12, 1, 0, 0, 0] := (by decide +kernel : ∀ t : Fin grid0.N, k0_off6 (grid0.coords t) = ![t.val % 12, 1, 0, 0, 0])

theorem live10 : ∀ t : Fin cfg0.N, cfg0.idle 10 (grid0.coords t) = false := (by decide +kernel : ∀ t : Fin grid0.N, idle0 10 (grid0.coords t) = false)
theorem live11 : ∀ t : Fin cfg0.N, t.val % 12 ≠ 11 → cfg0.idle 11 (grid0.coords t) = false := (by decide +kernel : ∀ t : Fin grid0.N, t.val % 12 ≠ 11 → idle0 11 (grid0.coords t) = false)
theorem live12 : ∀ t : Fin cfg0.N, t.val % 12 ≠ 11 → cfg0.idle 12 (grid0.coords t) = false := (by decide +kernel : ∀ t : Fin grid0.N, t.val % 12 ≠ 11 → idle0 12 (grid0.coords t) = false)
theorem rest11 : ∀ t : Fin cfg0.N, t.val % 12 = 11 → cfg0.idle 11 (grid0.coords t) = true := (by decide +kernel : ∀ t : Fin grid0.N, t.val % 12 = 11 → idle0 11 (grid0.coords t) = true)
theorem rest12 : ∀ t : Fin cfg0.N, t.val % 12 = 11 → cfg0.idle 12 (grid0.coords t) = true := (by decide +kernel : ∀ t : Fin grid0.N, t.val % 12 = 11 → idle0 12 (grid0.coords t) = true)
theorem flush10_not : ∀ t : Fin cfg0.N, t.val % 12 ≠ 11 → (cfg0.win 10).flush t = false := fun t h => by
  cases e : (cfg0.win 10).flush t
  · rfl
  · exact absurd ((flush0_10 t).1 e) h
theorem flush11 : ∀ t : Fin cfg0.N, (cfg0.win 11).flush t = true ↔ t.val % 12 ≠ 10 := (by decide +kernel : ∀ t : Fin grid0.N, win0_11.flush t = true ↔ t.val % 12 ≠ 10)
theorem flush12 : ∀ t : Fin cfg0.N, (cfg0.win 12).flush t = true ↔ t.val % 12 ≠ 10 := (by decide +kernel : ∀ t : Fin grid0.N, win0_12.flush t = true ↔ t.val % 12 ≠ 10)

/-! ## What the scratch buffers and the outputs hold, point by point -/

section
variable (m : (ℓ : Loc nD τ sig) → Buf (Elt F) ℓ)

/-- The point at block of rows `i` and tile `j`. -/
def pt (i j : ℕ) : Fin cfg0.N := ⟨(12 * i + j) % 96, Nat.mod_lt _ (by decide)⟩

theorem pt_self (t : Fin cfg0.N) : pt (t.val / 12) (t.val % 12) = t := by
  have h : t.val < 96 := t.isLt
  exact Fin.ext (by show (12 * (t.val / 12) + t.val % 12) % 96 = t.val; omega)

def bn (c : Dev nD) (i j : ℕ) : Vec F S1x2048 .f32 := iblk m c 0 (pt i j)
def bx (c : Dev nD) (i j : ℕ) : Vec F S1024x2048 .f32 := iblk m c 1 (pt i j)
def bn2 (c : Dev nD) (i j : ℕ) : Vec F S1x2048 .f32 := iblk m c 2 (pt i j)
def bg (c : Dev nD) (i j : ℕ) : Vec F S2048x512 .bf16 := iblk m c 3 (pt i j)
def bu (c : Dev nD) (i j : ℕ) : Vec F S2048x512 .bf16 := iblk m c 4 (pt i j)
def bcg (c : Dev nD) (i j : ℕ) : Vec F S3x512 .f32 := iblk m c 5 (pt i j)
def bcu (c : Dev nD) (i j : ℕ) : Vec F S3x512 .f32 := iblk m c 6 (pt i j)
def bbg (c : Dev nD) (i j : ℕ) : Vec F S1x512 .f32 := iblk m c 7 (pt i j)
def bbu (c : Dev nD) (i j : ℕ) : Vec F S1x512 .f32 := iblk m c 8 (pt i j)
def bo (c : Dev nD) (i j : ℕ) : Vec F S512x2048 .bf16 := iblk m c 9 (pt i j)

/-- The normed rows of block `i`. -/
def H (c : Dev nD) (i : ℕ) : Vec F S1024x2048 .bf16 := normed (bx m c i 0) (bn m c i 0)
/-- The last two rows of each half's product. -/
def T1 (c : Dev nD) (i j : ℕ) : Vec F S1x2x512 .f32 := tail (up (H m c i) (bg m c i j))
def T2 (c : Dev nD) (i j : ℕ) : Vec F S1x2x512 .f32 := tail (up (H m c i) (bu m c i j))
/-- The same as carried. -/
def C1 (c : Dev nD) (i j : ℕ) : Vec F S1x1x1x2x512 .f32 := tail5 (up (H m c i) (bg m c i j))
def C2 (c : Dev nD) (i j : ℕ) : Vec F S1x1x1x2x512 .f32 := tail5 (up (H m c i) (bu m c i j))
/-- The activated tile. -/
def A (c : Dev nD) (i j : ℕ) : Vec F S1x1024x512 .bf16 :=
  act (H m c i) (bg m c i j) (bu m c i j) (prev (BitVec.ofNat 32 i) (C1 m c (i - 1) j)) (prev (BitVec.ofNat 32 i) (C2 m c (i - 1) j))
    (bcg m c i j) (bcu m c i j) (bbg m c i j) (bbu m c i j)
/-- The accumulator after tile `j`. -/
def O (c : Dev nD) (i : ℕ) : ℕ → Vec F S1024x2048 .f32
  | 0 => k0_pay4
  | j + 1 => accum (O c i j) (A m c i j) (bo m c i (j + 1))
/-- What the output window holds after point `(i, j)`. -/
def out (c : Dev nD) (i j : ℕ) : Vec F S1024x2048 .f32 :=
  if j = 11 then final (O m c i 10) (A m c i 10) (bo m c i 11) (bx m c i 11) (bn2 m c i 11) else O m c i j

theorem out_of_ne (c : Dev nD) (i : ℕ) {j : ℕ} (h : j ≠ 11) : out m c i j = O m c i j := if_neg h
theorem out_last (c : Dev nD) (i : ℕ) : out m c i 11 = final (O m c i 10) (A m c i 10) (bo m c i 11) (bx m c i 11) (bn2 m c i 11) := if_pos rfl

abbrev mH : Memref sig .tc .vmem S1024x2048 .bf16 := Memref.whole cc0_scratch0
abbrev mW : Memref sig .tc .vmem S2x1x1032x512 .f32 := Memref.whole cc0_scratch1
abbrev mC : Memref sig .tc .vmem S11x2x1x2x512 .f32 := Memref.whole cc0_scratch2
abbrev mA : Memref sig .tc .vmem S2x1024x512 .bf16 := Memref.whole cc0_scratch3

/-- What holds of the scratch buffers before point `n`. -/
structure Inv (c : Dev nD) (n : ℕ) (fh : Buf (Elt F) (mH.view.loc (c : Thread nD τ))) (fc : Buf (Elt F) (mC.view.loc (c : Thread nD τ)))
    (fa : Buf (Elt F) (mA.view.loc (c : Thread nD τ))) : Prop where
  h : n % 12 ≠ 0 → mH.view.read (Elt F) fh = H m c (n / 12)
  a : n % 12 ≠ 0 → ∀ k : Fin 2, k.val = (n % 12 - 1) % 2 → slabA mA.view fa k = A m c (n / 12) (n % 12 - 1)
  c : ∀ (j : Fin 11) (r : ℕ), (j.val < n % 12 ∧ r = n / 12) ∨ (n % 12 ≤ j.val ∧ r + 1 = n / 12) →
    slabC mC.view fc j 0 = C1 m c r j.val ∧ slabC mC.view fc j 1 = C2 m c r j.val

/-- The rows before the block, as the point's loads read them. -/
theorem prev_of_inv {c : Dev nD} {n : ℕ} {fh fc fa} (hI : Inv m c n fh fc fa) (j : Fin 11) (hj : j.val = n % 12) :
    prev (BitVec.ofNat 32 (n / 12)) (slabC mC.view fc j 0) = prev (BitVec.ofNat 32 (n / 12)) (C1 m c (n / 12 - 1) (n % 12))
      ∧ prev (BitVec.ofNat 32 (n / 12)) (slabC mC.view fc j 1) = prev (BitVec.ofNat 32 (n / 12)) (C2 m c (n / 12 - 1) (n % 12)) := by
  rcases Nat.eq_zero_or_pos (n / 12) with h0 | h0
  · rw [h0]; exact ⟨prev_zero _ _, prev_zero _ _⟩
  · have := hI.c j (n / 12 - 1) (Or.inr ⟨by omega, by omega⟩)
    rw [this.1, this.2, hj]; exact ⟨rfl, rfl⟩

/-- The carried rows after the point's two stores. -/
theorem carry_step {c : Dev nD} {n : ℕ} {fh fc fa} (hI : Inv m c n fh fc fa) (j : Fin 11) (hj : j.val = n % 12)
    {o1 o2 : Fin 5 → ℕ} (h1 : o1 = ![n % 12, 0, 0, 0, 0]) (h2 : o2 = ![n % 12, 1, 0, 0, 0]) (inb1 inb2) :
    ∀ (j' : Fin 11) (r : ℕ), (j'.val < (n + 1) % 12 ∧ r = (n + 1) / 12) ∨ ((n + 1) % 12 ≤ j'.val ∧ r + 1 = (n + 1) / 12) →
      slabC mC.view (mC.view.writes (Elt F) fc [⟨Rect.unit (s := S11x2x1x2x512) o2 S1x1x1x2x512.size inb2, C2 m c (n / 12) (n % 12)⟩,
        ⟨Rect.unit (s := S11x2x1x2x512) o1 S1x1x1x2x512.size inb1, C1 m c (n / 12) (n % 12)⟩]) j' 0 = C1 m c r j'.val
      ∧ slabC mC.view (mC.view.writes (Elt F) fc [⟨Rect.unit (s := S11x2x1x2x512) o2 S1x1x1x2x512.size inb2, C2 m c (n / 12) (n % 12)⟩,
        ⟨Rect.unit (s := S11x2x1x2x512) o1 S1x1x1x2x512.size inb1, C1 m c (n / 12) (n % 12)⟩]) j' 1 = C2 m c r j'.val := by
  intro j' r hr
  have hlt := j.isLt
  have hlt' := j'.isLt
  rw [← hj] at h1 h2
  by_cases e : j' = j
  · subst e
    have er : r = n / 12 := by omega
    rw [slabC_store_ne mC.view fc j' 1 h2 inb2 _ _ j' 0 (Or.inr (by decide)), slabC_store_self mC.view fc j' 0 h1 inb1,
      slabC_store_self mC.view fc j' 1 h2 inb2, er, hj]
    exact ⟨rfl, rfl⟩
  · have hv : j'.val ≠ j.val := fun h => e (Fin.ext h)
    rw [slabC_store_ne mC.view fc j 1 h2 inb2 _ _ j' 0 (Or.inl e), slabC_store_ne mC.view fc j 0 h1 inb1 _ _ j' 0 (Or.inl e),
      slabC_store_ne mC.view fc j 1 h2 inb2 _ _ j' 1 (Or.inl e), slabC_store_ne mC.view fc j 0 h1 inb1 _ _ j' 1 (Or.inl e)]
    exact hI.c j' r (by omega)
end

end Cert.Ffn

end
-- ==== Proof.FfnBody.lean ====
module

public import proofs.«01_k».proof.Proof.FfnInv
public import Idealize.ShloMosaic.Lib.Pipeline.TableIdle
public import Idealize.ShloMosaic.Lib.Claim

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem bn_self (c : Dev nD) (t : Fin cfg0.N) : bn m c (t.val / 12) (t.val % 12) = iblk m c 0 t :=
  @congrArg (Fin cfg0.N) (Vec F S1x2048 .f32) _ _ (fun s => iblk m c 0 s) (pt_self t)
theorem bx_self (c : Dev nD) (t : Fin cfg0.N) : bx m c (t.val / 12) (t.val % 12) = iblk m c 1 t :=
  @congrArg (Fin cfg0.N) (Vec F S1024x2048 .f32) _ _ (fun s => iblk m c 1 s) (pt_self t)
theorem bn2_self (c : Dev nD) (t : Fin cfg0.N) : bn2 m c (t.val / 12) (t.val % 12) = iblk m c 2 t :=
  @congrArg (Fin cfg0.N) (Vec F S1x2048 .f32) _ _ (fun s => iblk m c 2 s) (pt_self t)
theorem bg_self (c : Dev nD) (t : Fin cfg0.N) : bg m c (t.val / 12) (t.val % 12) = iblk m c 3 t :=
  @congrArg (Fin cfg0.N) (Vec F S2048x512 .bf16) _ _ (fun s => iblk m c 3 s) (pt_self t)
theorem bu_self (c : Dev nD) (t : Fin cfg0.N) : bu m c (t.val / 12) (t.val % 12) = iblk m c 4 t :=
  @congrArg (Fin cfg0.N) (Vec F S2048x512 .bf16) _ _ (fun s => iblk m c 4 s) (pt_self t)
theorem bcg_self (c : Dev nD) (t : Fin cfg0.N) : bcg m c (t.val / 12) (t.val % 12) = iblk m c 5 t :=
  @congrArg (Fin cfg0.N) (Vec F S3x512 .f32) _ _ (fun s => iblk m c 5 s) (pt_self t)
theorem bcu_self (c : Dev nD) (t : Fin cfg0.N) : bcu m c (t.val / 12) (t.val % 12) = iblk m c 6 t :=
  @congrArg (Fin cfg0.N) (Vec F S3x512 .f32) _ _ (fun s => iblk m c 6 s) (pt_self t)
theorem bbg_self (c : Dev nD) (t : Fin cfg0.N) : bbg m c (t.val / 12) (t.val % 12) = iblk m c 7 t :=
  @congrArg (Fin cfg0.N) (Vec F S1x512 .f32) _ _ (fun s => iblk m c 7 s) (pt_self t)
theorem bbu_self (c : Dev nD) (t : Fin cfg0.N) : bbu m c (t.val / 12) (t.val % 12) = iblk m c 8 t :=
  @congrArg (Fin cfg0.N) (Vec F S1x512 .f32) _ _ (fun s => iblk m c 8 s) (pt_self t)
theorem bo_self (c : Dev nD) (t : Fin cfg0.N) : bo m c (t.val / 12) (t.val % 12) = iblk m c 9 t :=
  @congrArg (Fin cfg0.N) (Vec F S512x2048 .bf16) _ _ (fun s => iblk m c 9 s) (pt_self t)

/-! ## The proof data -/

/-- The scratch buffers before point `n`, at contents the invariant speaks of, and the generator register. -/
def Scratch (c : Dev nD) (n : ℕ) : sProp 𝕄 :=
  iprop(∃ (fh : Buf (Elt F) (mH.view.loc (c : Thread nD τ))) (fw : Buf (Elt F) (mW.view.loc (c : Thread nD τ)))
      (fc : Buf (Elt F) (mC.view.loc (c : Thread nD τ))) (fa : Buf (Elt F) (mA.view.loc (c : Thread nD τ))),
    ⌜Inv m c n fh fc fa⌝
    ∗ (mH.view.loc (c : Thread nD τ) ↦[mH.view.set]{fullShare} fh) ∗ (mW.view.loc (c : Thread nD τ) ↦[mW.view.set]{fullShare} fw)
    ∗ (mC.view.loc (c : Thread nD τ) ↦[mC.view.set]{fullShare} fc) ∗ (mA.view.loc (c : Thread nD τ) ↦[mA.view.set]{fullShare} fa)
    ∗ (∃ r, prngReg c r))

/-- The proof data on core `c`: each input's buffer stays at its block, the outputs' hold what the tiles so far give. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out m c (t.val / 12) (t.val % 12)
    | ⟨11, _⟩ => T1 m c (t.val / 12) (min (t.val % 12) 10)
    | ⟨12, _⟩ => T2 m c (t.val / 12) (min (t.val % 12) 10)
  Φ t := Scratch m c t.val
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : (dats m 0 c).leavesExact 3 t = owns (c : Thread nD τ) (st0_3 t) fullShare (iblk m c 3 t) := by
  unfold Dat.leavesExact; rw [show cfg0.idle 3 (cfg0.grid.coords t) = false from rfl, after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : (dats m 0 c).leavesExact 4 t = owns (c : Thread nD τ) (st0_4 t) fullShare (iblk m c 4 t) := by
  unfold Dat.leavesExact; rw [show cfg0.idle 4 (cfg0.grid.coords t) = false from rfl, after0_4]
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) : (dats m 0 c).leavesExact 5 t = owns (c : Thread nD τ) (st0_5 t) fullShare (iblk m c 5 t) := by
  unfold Dat.leavesExact; rw [show cfg0.idle 5 (cfg0.grid.coords t) = false from rfl, after0_5]
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem leaves0_6 (c : Dev nD) (t : Fin cfg0.N) : (dats m 0 c).leavesExact 6 t = owns (c : Thread nD τ) (st0_6 t) fullShare (iblk m c 6 t) := by
  unfold Dat.leavesExact; rw [show cfg0.idle 6 (cfg0.grid.coords t) = false from rfl, after0_6]
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem leaves0_7 (c : Dev nD) (t : Fin cfg0.N) : (dats m 0 c).leavesExact 7 t = owns (c : Thread nD τ) (st0_7 t) fullShare (iblk m c 7 t) := by
  unfold Dat.leavesExact; rw [show cfg0.idle 7 (cfg0.grid.coords t) = false from rfl, after0_7]
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem leaves0_8 (c : Dev nD) (t : Fin cfg0.N) : (dats m 0 c).leavesExact 8 t = owns (c : Thread nD τ) (st0_8 t) fullShare (iblk m c 8 t) := by
  unfold Dat.leavesExact; rw [show cfg0.idle 8 (cfg0.grid.coords t) = false from rfl, after0_8]
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem leaves0_9 (c : Dev nD) (t : Fin cfg0.N) : (dats m 0 c).leavesExact 9 t = owns (c : Thread nD τ) (st0_9 t) fullShare (iblk m c 9 t) := by
  unfold Dat.leavesExact; rw [show cfg0.idle 9 (cfg0.grid.coords t) = false from rfl, after0_9]

theorem after0_10 (c : Dev nD) (t : Fin cfg0.N) : (dats m 0 c).after 10 t = out m c (t.val / 12) (t.val % 12) := by dsimp only [dats]
theorem after0_11 (c : Dev nD) (t : Fin cfg0.N) : (dats m 0 c).after 11 t = T1 m c (t.val / 12) (min (t.val % 12) 10) := by dsimp only [dats]
theorem after0_12 (c : Dev nD) (t : Fin cfg0.N) : (dats m 0 c).after 12 t = T2 m c (t.val / 12) (min (t.val % 12) 10) := by dsimp only [dats]

theorem leaves0_10 (c : Dev nD) (t : Fin cfg0.N) :
    (dats m 0 c).leavesExact 10 t = owns (c : Thread nD τ) (st0_10 t) fullShare (out m c (t.val / 12) (t.val % 12)) := by
  unfold Dat.leavesExact; rw [live10 t, after0_10]
theorem leaves0_11 (c : Dev nD) (t : Fin cfg0.N) :
    (dats m 0 c).leavesExact 11 t = owns (c : Thread nD τ) (st0_11 t) fullShare (T1 m c (t.val / 12) (min (t.val % 12) 10)) := by
  unfold Dat.leavesExact
  by_cases h : t.val % 12 = 11
  · rw [rest11 t h, (flush11 t).2 (by omega), after0_11]
  · rw [live11 t h, after0_11]
theorem leaves0_12 (c : Dev nD) (t : Fin cfg0.N) :
    (dats m 0 c).leavesExact 12 t = owns (c : Thread nD τ) (st0_12 t) fullShare (T2 m c (t.val / 12) (min (t.val % 12) 10)) := by
  unfold Dat.leavesExact
  by_cases h : t.val % 12 = 11
  · rw [rest12 t h, (flush12 t).2 (by omega), after0_12]
  · rw [live12 t h, after0_12]

theorem fresh10 : ∀ t : Fin cfg0.N, t.val % 12 ≠ 0 → cfg0.fresh 10 t.val = false :=
  (by decide +kernel : ∀ t : Fin grid0.N, t.val % 12 ≠ 0 → cfg0.fresh 10 t.val = false)
theorem fresh11 : ∀ t : Fin cfg0.N, t.val % 12 = 11 → cfg0.fresh 11 t.val = false :=
  (by decide +kernel : ∀ t : Fin grid0.N, t.val % 12 = 11 → cfg0.fresh 11 t.val = false)
theorem fresh12 : ∀ t : Fin cfg0.N, t.val % 12 = 11 → cfg0.fresh 12 t.val = false :=
  (by decide +kernel : ∀ t : Fin grid0.N, t.val % 12 = 11 → cfg0.fresh 12 t.val = false)

/-- Past the first tile the accumulator is what the point before left. -/
theorem before0_10 (c : Dev nD) (t : Fin cfg0.N) (ht : t.val % 12 ≠ 0) (d) :
    (dats m 0 c).before 10 t d = O m c (t.val / 12) (t.val % 12 - 1) := by
  rw [(dats m 0 c).before_out_traj 10 rfl (fun _ _ => rfl) (fun s _ h _ => absurd (h.symm.trans (live10 s)) (by decide)) t.val t rfl d,
    fresh10 t ht, if_neg Bool.false_ne_true, after0_10]
  have e1 : (t.val - 1) / 12 = t.val / 12 := by omega
  have e2 : (t.val - 1) % 12 = t.val % 12 - 1 := by omega
  show out m c ((t.val - 1) / 12) ((t.val - 1) % 12) = _
  rw [e1, e2, out_of_ne _ _ _ (by omega)]

/-- At the last point the tails' buffer is still what the point before left. -/
theorem before0_11 (c : Dev nD) (t : Fin cfg0.N) (ht : t.val % 12 = 11) (d) :
    (dats m 0 c).before 11 t d = T1 m c (t.val / 12) (min (t.val % 12) 10) := by
  have key : ∀ s : Fin cfg0.N, s.val % 12 = 11 → T1 m c ((s.val - 1) / 12) (min ((s.val - 1) % 12) 10) = T1 m c (s.val / 12) (min (s.val % 12) 10) := fun s hs => by
    have e1 : (s.val - 1) / 12 = s.val / 12 := by omega
    have e2 : min ((s.val - 1) % 12) 10 = min (s.val % 12) 10 := by omega
    rw [e1, e2]
  rw [(dats m 0 c).before_out_traj 11 rfl (fun _ _ => rfl) (fun s _ h _ => ?_) t.val t rfl d,
    fresh11 t ht, if_neg Bool.false_ne_true, after0_11]
  · exact key t ht
  · rw [after0_11, after0_11]
    exact (key s (by
      by_contra hne
      exact absurd (h.symm.trans (live11 s hne)) (by decide))).symm

/-- At the last point the tails' buffer is still what the point before left. -/
theorem before0_12 (c : Dev nD) (t : Fin cfg0.N) (ht : t.val % 12 = 11) (d) :
    (dats m 0 c).before 12 t d = T2 m c (t.val / 12) (min (t.val % 12) 10) := by
  have key : ∀ s : Fin cfg0.N, s.val % 12 = 11 → T2 m c ((s.val - 1) / 12) (min ((s.val - 1) % 12) 10) = T2 m c (s.val / 12) (min (s.val % 12) 10) := fun s hs => by
    have e1 : (s.val - 1) / 12 = s.val / 12 := by omega
    have e2 : min ((s.val - 1) % 12) 10 = min (s.val % 12) 10 := by omega
    rw [e1, e2]
  rw [(dats m 0 c).before_out_traj 12 rfl (fun _ _ => rfl) (fun s _ h _ => ?_) t.val t rfl d,
    fresh12 t ht, if_neg Bool.false_ne_true, after0_12]
  · exact key t ht
  · rw [after0_12, after0_12]
    exact (key s (by
      by_contra hne
      exact absurd (h.symm.trans (live12 s hne)) (by decide))).symm

/-! ## The body at a point -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 1600000 in
/-- The first tile of a block of rows. -/
theorem sound_A (c : Dev nD) (t : Fin cfg0.N) (h0 : t.val % 12 = 0) :
    bodyPre m c t ⊢ wp frame (wpE (defs₀ (F := F)) Variants.none c none) Set.univ (bodyAt0 t) (fun _ => bodyPost m c t) := by
  have hc1 : k0_cond1 (grid0.coords t) = 1#1 := (cond1_iff t).2 (by omega)
  have hc2 : ¬ k0_cond2 (grid0.coords t) = 1#1 := fun h => by have := (cond2_iff t).1 h; omega
  have hc3 : ¬ k0_cond3 (grid0.coords t) = 1#1 := fun h => by have := (cond3_iff t).1 h; omega
  have hc4 : ¬ k0_cond4 (grid0.coords t) = 1#1 := fun h => by have := (cond4_iff t).1 h; omega
  unfold bodyPre bodyPost bodyAt0
  rw [show (dats m 0 c).owesAt () t.succ = (dats m 0 c).owesAt () t.castSucc from rfl,
    show (dats m 0 c).Φ t.castSucc = Scratch m c t.val from rfl, show (dats m 0 c).Φ t.succ = Scratch m c (t.val + 1) from rfl]
  simp only [before0_0, before0_1, before0_2, before0_3, before0_4, before0_5, before0_6, before0_7, before0_8, before0_9, leaves0_0, leaves0_1, leaves0_2, leaves0_3, leaves0_4, leaves0_5, leaves0_6, leaves0_7, leaves0_8, leaves0_9, leaves0_10, leaves0_11, leaves0_12]
  unfold Scratch
  iintro ⟨⟨%fh, %fw, %fc, %fa, %hI, Hh, Hw, Hc, Ha, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runA c (grid0.coords t) _ _ _ _ _ _ _ _ _ _ _ _ _ _ _ _ _ _ _ _ _ _ _ _ _ _ _ _ _ _ _ _ _ _ hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) fh fw fc fa).2.2.2.2.2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [Hh]; · iexact Hh
  isplitl [Hw]; · iexact Hw
  isplitl [Hc]; · iexact Hc
  isplitl [Ha]; · iexact Ha
  iintro ⟨H0, H1, H2, H3, H4, H5, H6, H7, H8, H9, ⟨%e10, H10⟩, ⟨%e11, H11⟩, ⟨%e12, H12⟩, Hh, Hw, Hc, Ha⟩
  isplitl [Hh Hw Hc Ha Hg]
  · iexists _, _, _, _
    isplitr
    swap
    · isplitl [Hh]; · iexact Hh
      isplitl [Hw]; · iexact Hw
      isplitl [Hc]; · iexact Hc
      isplitl [Ha]; · iexact Ha
      iexact Hg
    ipureintro
    have hj : t.val % 12 < 11 := by omega
    have e1 : (t.val + 1) / 12 = t.val / 12 := by omega
    have e2 : (t.val + 1) % 12 - 1 = t.val % 12 := by omega
    have ho1 := off1_eq t
    have ho2 := off2_eq t
    have hH : normed (iblk m c 1 t) (iblk m c 0 t) = H m c (t.val / 12) := by
      unfold H; rw [← bx_self m c t, ← bn_self m c t, h0]
    have hP := prev_of_inv m hI ⟨t.val % 12, hj⟩ rfl
    refine ⟨fun _ => ?_, fun _ k hk => ?_, ?_⟩
    · rw [runA_h, e1]; exact (View.read_writes_full _ _ _ _ _).trans hH
    · have hk' : k = 0 := Fin.ext (by show k.val = 0; omega)
      subst hk'
      rw [runA_a]; refine (slabA_store mA.view fa 0 rfl _ _).trans ?_
      rw [load_slabC mC.view fc ⟨t.val % 12, hj⟩ 0 ho1, load_slabC mC.view fc ⟨t.val % 12, hj⟩ 1 ho2, coord0 t, hP.1, hP.2, hH, e1, e2]
      unfold A; rw [bg_self, bu_self, bcg_self, bcu_self, bbg_self, bbu_self]
    · have hcar := carry_step m hI ⟨t.val % 12, hj⟩ rfl ho1 ho2 (k0_off1_inb _ hc1) (k0_off2_inb _ hc1)
      rw [runA_c, hH]
      unfold C1 C2 at hcar ⊢
      rw [bg_self, bu_self] at hcar
      exact hcar
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro
    rw [runA_o]
    refine (View.read_writes_full _ _ _ _ _).trans ?_
    rw [h0]; unfold out; rw [if_neg (by decide)]; rfl
  isplitl [H11]
  · unfold owns; iexists _; isplitr
    swap; · iexact H11
    ipureintro
    rw [runA_t1]
    refine (View.read_writes_full _ _ _ _ _).trans ?_
    have e : min (t.val % 12) 10 = t.val % 12 := by omega
    rw [e]; unfold T1 H; rw [bg_self, ← bx_self m c t, ← bn_self m c t, h0]
  · unfold owns; iexists _; isplitr
    swap; · iexact H12
    ipureintro
    rw [runA_t2]
    refine (View.read_writes_full _ _ _ _ _).trans ?_
    have e : min (t.val % 12) 10 = t.val % 12 := by omega
    rw [e]; unfold T2 H; rw [bu_self, ← bx_self m c t, ← bn_self m c t, h0]

set_option maxHeartbeats 1600000 in
/-- An even tile past the first. -/
theorem sound_B (c : Dev nD) (t : Fin cfg0.N) (h0 : t.val % 12 ≠ 0) (hp : t.val % 2 = 0) :
    bodyPre m c t ⊢ wp frame (wpE (defs₀ (F := F)) Variants.none c none) Set.univ (bodyAt0 t) (fun _ => bodyPost m c t) := by
  have hc1 : ¬ k0_cond1 (grid0.coords t) = 1#1 := fun h => by have := (cond1_iff t).1 h; omega
  have hc2 : k0_cond2 (grid0.coords t) = 1#1 := (cond2_iff t).2 (by omega)
  have hc3 : ¬ k0_cond3 (grid0.coords t) = 1#1 := fun h => by have := (cond3_iff t).1 h; omega
  have hc4 : ¬ k0_cond4 (grid0.coords t) = 1#1 := fun h => by have := (cond4_iff t).1 h; omega
  unfold bodyPre bodyPost bodyAt0
  rw [show (dats m 0 c).owesAt () t.succ = (dats m 0 c).owesAt () t.castSucc from rfl,
    show (dats m 0 c).Φ t.castSucc = Scratch m c t.val from rfl, show (dats m 0 c).Φ t.succ = Scratch m c (t.val + 1) from rfl]
  simp only [before0_0, before0_1, before0_2, before0_3, before0_4, before0_5, before0_6, before0_7, before0_8, before0_9, leaves0_0, leaves0_1, leaves0_2, leaves0_3, leaves0_4, leaves0_5, leaves0_6, leaves0_7, leaves0_8, leaves0_9, leaves0_10, leaves0_11, leaves0_12, before0_10 m c t (by omega : t.val % 12 ≠ 0)]
  unfold Scratch
  iintro ⟨⟨%fh, %fw, %fc, %fa, %hI, Hh, Hw, Hc, Ha, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runB c (grid0.coords t) _ _ _ _ _ _ _ _ _ _ _ _ _ _ _ _ _ _ _ _ _ _ _ _ _ _ _ _ _ _ _ _ _ _ hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (O m c (t.val / 12) (t.val % 12 - 1)) fh fw fc fa).2.2.2.2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [Hh]; · iexact Hh
  isplitl [Hw]; · iexact Hw
  isplitl [Hc]; · iexact Hc
  isplitl [Ha]; · iexact Ha
  iintro ⟨H0, H1, H2, H3, H4, H5, H6, H7, H8, H9, ⟨%e10, H10⟩, ⟨%e11, H11⟩, ⟨%e12, H12⟩, Hh, Hw, Hc, Ha⟩
  isplitl [Hh Hw Hc Ha Hg]
  · iexists _, _, _, _
    isplitr
    swap
    · isplitl [Hh]; · iexact Hh
      isplitl [Hw]; · iexact Hw
      isplitl [Hc]; · iexact Hc
      isplitl [Ha]; · iexact Ha
      iexact Hg
    ipureintro
    have hj : t.val % 12 < 11 := by omega
    have e1 : (t.val + 1) / 12 = t.val / 12 := by omega
    have e2 : (t.val + 1) % 12 - 1 = t.val % 12 := by omega
    have ho1 := off3_eq t
    have ho2 := off4_eq t
    have hH := hI.h (by omega)
    have hP := prev_of_inv m hI ⟨t.val % 12, hj⟩ rfl
    refine ⟨fun _ => ?_, fun _ k hk => ?_, ?_⟩
    · rw [e1]; exact hH
    · have hk' : k = 0 := Fin.ext (by show k.val = 0; omega)
      subst hk'
      rw [runB_a]; refine (slabA_store mA.view fa 0 rfl _ _).trans ?_
      rw [load_slabC mC.view fc ⟨t.val % 12, hj⟩ 0 ho1, load_slabC mC.view fc ⟨t.val % 12, hj⟩ 1 ho2, coord0 t, hP.1, hP.2, hH, e1, e2]
      unfold A; rw [bg_self, bu_self, bcg_self, bcu_self, bbg_self, bbu_self]
    · have hcar := carry_step m hI ⟨t.val % 12, hj⟩ rfl ho1 ho2 (k0_off3_inb _ hc2) (k0_off4_inb _ hc2)
      rw [runB_c, hH]
      unfold C1 C2 at hcar ⊢
      rw [bg_self, bu_self] at hcar
      exact hcar
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro
    rw [runB_o]
    refine (View.read_writes_full _ _ _ _ _).trans ?_
    have ha := hI.a (by omega) 1 (by show 1 = _; omega)
    obtain ⟨j, hj⟩ : ∃ j, t.val % 12 = j + 1 := ⟨t.val % 12 - 1, by omega⟩
    rw [load_slabA1, ha, ← bo_self, out_of_ne _ _ _ (by omega), hj, Nat.add_sub_cancel]
    rfl
  isplitl [H11]
  · unfold owns; iexists _; isplitr
    swap; · iexact H11
    ipureintro
    rw [runB_t1]
    refine (View.read_writes_full _ _ _ _ _).trans ?_
    have e : min (t.val % 12) 10 = t.val % 12 := by omega
    rw [e, hI.h (by omega)]; unfold T1; rw [bg_self]
  · unfold owns; iexists _; isplitr
    swap; · iexact H12
    ipureintro
    rw [runB_t2]
    refine (View.read_writes_full _ _ _ _ _).trans ?_
    have e : min (t.val % 12) 10 = t.val % 12 := by omega
    rw [e, hI.h (by omega)]; unfold T2; rw [bu_self]

set_option maxHeartbeats 1600000 in
/-- An odd tile. -/
theorem sound_C (c : Dev nD) (t : Fin cfg0.N) (h11 : t.val % 12 ≠ 11) (hp : t.val % 2 = 1) :
    bodyPre m c t ⊢ wp frame (wpE (defs₀ (F := F)) Variants.none c none) Set.univ (bodyAt0 t) (fun _ => bodyPost m c t) := by
  have hc1 : ¬ k0_cond1 (grid0.coords t) = 1#1 := fun h => by have := (cond1_iff t).1 h; omega
  have hc2 : ¬ k0_cond2 (grid0.coords t) = 1#1 := fun h => by have := (cond2_iff t).1 h; omega
  have hc3 : k0_cond3 (grid0.coords t) = 1#1 := (cond3_iff t).2 (by omega)
  have hc4 : ¬ k0_cond4 (grid0.coords t) = 1#1 := fun h => by have := (cond4_iff t).1 h; omega
  unfold bodyPre bodyPost bodyAt0
  rw [show (dats m 0 c).owesAt () t.succ = (dats m 0 c).owesAt () t.castSucc from rfl,
    show (dats m 0 c).Φ t.castSucc = Scratch m c t.val from rfl, show (dats m 0 c).Φ t.succ = Scratch m c (t.val + 1) from rfl]
  simp only [before0_0, before0_1, before0_2, before0_3, before0_4, before0_5, before0_6, before0_7, before0_8, before0_9, leaves0_0, leaves0_1, leaves0_2, leaves0_3, leaves0_4, leaves0_5, leaves0_6, leaves0_7, leaves0_8, leaves0_9, leaves0_10, leaves0_11, leaves0_12, before0_10 m c t (by omega : t.val % 12 ≠ 0)]
  unfold Scratch
  iintro ⟨⟨%fh, %fw, %fc, %fa, %hI, Hh, Hw, Hc, Ha, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runC c (grid0.coords t) _ _ _ _ _ _ _ _ _ _ _ _ _ _ _ _ _ _ _ _ _ _ _ _ _ _ _ _ _ _ _ _ _ _ hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (O m c (t.val / 12) (t.val % 12 - 1)) fh fw fc fa).2.2.2.2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [Hh]; · iexact Hh
  isplitl [Hw]; · iexact Hw
  isplitl [Hc]; · iexact Hc
  isplitl [Ha]; · iexact Ha
  iintro ⟨H0, H1, H2, H3, H4, H5, H6, H7, H8, H9, ⟨%e10, H10⟩, ⟨%e11, H11⟩, ⟨%e12, H12⟩, Hh, Hw, Hc, Ha⟩
  isplitl [Hh Hw Hc Ha Hg]
  · iexists _, _, _, _
    isplitr
    swap
    · isplitl [Hh]; · iexact Hh
      isplitl [Hw]; · iexact Hw
      isplitl [Hc]; · iexact Hc
      isplitl [Ha]; · iexact Ha
      iexact Hg
    ipureintro
    have hj : t.val % 12 < 11 := by omega
    have e1 : (t.val + 1) / 12 = t.val / 12 := by omega
    have e2 : (t.val + 1) % 12 - 1 = t.val % 12 := by omega
    have ho1 := off5_eq t
    have ho2 := off6_eq t
    have hH := hI.h (by omega)
    have hP := prev_of_inv m hI ⟨t.val % 12, hj⟩ rfl
    refine ⟨fun _ => ?_, fun _ k hk => ?_, ?_⟩
    · rw [e1]; exact hH
    · have hk' : k = 1 := Fin.ext (by show k.val = 1; omega)
      subst hk'
      rw [runC_a]; refine (slabA_store mA.view fa 1 rfl _ _).trans ?_
      rw [load_slabC mC.view fc ⟨t.val % 12, hj⟩ 0 ho1, load_slabC mC.view fc ⟨t.val % 12, hj⟩ 1 ho2, coord0 t, hP.1, hP.2, hH, e1, e2]
      unfold A; rw [bg_self, bu_self, bcg_self, bcu_self, bbg_self, bbu_self]
    · have hcar := carry_step m hI ⟨t.val % 12, hj⟩ rfl ho1 ho2 (k0_off5_inb _ hc3) (k0_off6_inb _ hc3)
      rw [runC_c, hH]
      unfold C1 C2 at hcar ⊢
      rw [bg_self, bu_self] at hcar
      exact hcar
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro
    rw [runC_o]
    refine (View.read_writes_full _ _ _ _ _).trans ?_
    have ha := hI.a (by omega) 0 (by show 0 = _; omega)
    obtain ⟨j, hj⟩ : ∃ j, t.val % 12 = j + 1 := ⟨t.val % 12 - 1, by omega⟩
    rw [load_slabA0, ha, ← bo_self, out_of_ne _ _ _ (by omega), hj, Nat.add_sub_cancel]
    rfl
  isplitl [H11]
  · unfold owns; iexists _; isplitr
    swap; · iexact H11
    ipureintro
    rw [runC_t1]
    refine (View.read_writes_full _ _ _ _ _).trans ?_
    have e : min (t.val % 12) 10 = t.val % 12 := by omega
    rw [e, hI.h (by omega)]; unfold T1; rw [bg_self]
  · unfold owns; iexists _; isplitr
    swap; · iexact H12
    ipureintro
    rw [runC_t2]
    refine (View.read_writes_full _ _ _ _ _).trans ?_
    have e : min (t.val % 12) 10 = t.val % 12 := by omega
    rw [e, hI.h (by omega)]; unfold T2; rw [bu_self]

set_option maxHeartbeats 1600000 in
/-- The last point of a block of rows. -/
theorem sound_D (c : Dev nD) (t : Fin cfg0.N) (h11 : t.val % 12 = 11) :
    bodyPre m c t ⊢ wp frame (wpE (defs₀ (F := F)) Variants.none c none) Set.univ (bodyAt0 t) (fun _ => bodyPost m c t) := by
  have hc1 : ¬ k0_cond1 (grid0.coords t) = 1#1 := fun h => by have := (cond1_iff t).1 h; omega
  have hc2 : ¬ k0_cond2 (grid0.coords t) = 1#1 := fun h => by have := (cond2_iff t).1 h; omega
  have hc3 : ¬ k0_cond3 (grid0.coords t) = 1#1 := fun h => by have := (cond3_iff t).1 h; omega
  have hc4 : k0_cond4 (grid0.coords t) = 1#1 := (cond4_iff t).2 (by omega)
  unfold bodyPre bodyPost bodyAt0
  rw [show (dats m 0 c).owesAt () t.succ = (dats m 0 c).owesAt () t.castSucc from rfl,
    show (dats m 0 c).Φ t.castSucc = Scratch m c t.val from rfl, show (dats m 0 c).Φ t.succ = Scratch m c (t.val + 1) from rfl]
  simp only [before0_0, before0_1, before0_2, before0_3, before0_4, before0_5, before0_6, before0_7, before0_8, before0_9, leaves0_0, leaves0_1, leaves0_2, leaves0_3, leaves0_4, leaves0_5, leaves0_6, leaves0_7, leaves0_8, leaves0_9, leaves0_10, leaves0_11, leaves0_12, before0_10 m c t (by omega : t.val % 12 ≠ 0), before0_11 m c t h11, before0_12 m c t h11]
  unfold Scratch
  iintro ⟨⟨%fh, %fw, %fc, %fa, %hI, Hh, Hw, Hc, Ha, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runD c (grid0.coords t) _ _ _ _ _ _ _ _ _ _ _ _ _ _ _ _ _ _ _ _ _ _ _ _ _ _ _ _ _ _ _ _ _ _ hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (O m c (t.val / 12) (t.val % 12 - 1)) (T1 m c (t.val / 12) (min (t.val % 12) 10)) (T2 m c (t.val / 12) (min (t.val % 12) 10)) fh fw fc fa).property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [Hh]; · iexact Hh
  isplitl [Hw]; · iexact Hw
  isplitl [Hc]; · iexact Hc
  isplitl [Ha]; · iexact Ha
  iintro ⟨H0, H1, H2, H3, H4, H5, H6, H7, H8, H9, ⟨%e10, H10⟩, H11, H12, Hh, Hw, Hc, Ha⟩
  isplitl [Hh Hw Hc Ha Hg]
  · iexists _, _, _, _
    isplitr
    swap
    · isplitl [Hh]; · iexact Hh
      isplitl [Hw]; · iexact Hw
      isplitl [Hc]; · iexact Hc
      isplitl [Ha]; · iexact Ha
      iexact Hg
    ipureintro
    exact ⟨fun h => absurd h (by omega), fun h => absurd h (by omega), fun j r hr => hI.c j r (by have := j.isLt; omega)⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro
    rw [runD_o]
    refine (View.read_writes_full _ _ _ _ _).trans ?_
    have ha := hI.a (by omega) 0 (by show 0 = _; omega)
    rw [load_slabA0, ha, ← bo_self, ← bx_self, ← bn2_self, h11]; exact (out_last m c _).symm
  isplitl [H11]; · iexact H11
  iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · exact sound_A m c t h0
  by_cases h11 : t.val % 12 = 11
  · exact sound_D m c t h11
  rcases Nat.mod_two_eq_zero_or_one t.val with hp | hp
  · exact sound_B m c t h0 hp
  · exact sound_C m c t h11 hp

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch and the frame -/

/-- Before the first point the invariant says nothing of the scratch buffers. -/
theorem scratch_in (c : Dev nD) : (Pipeline.ΦA spec0 c : sProp 𝕄) ⊢ (dats m 0 c).Φ 0 := by
  rw [show (dats m 0 c).Φ 0 = Scratch m c 0 from rfl]
  unfold Pipeline.ΦA Scratch
  rw [scopedRest0_eq]
  simp only [← owns_whole]
  unfold owns
  iintro ⟨⟨⟨%dh, %fh, -, Hh⟩, ⟨%dw, %fw, -, Hw⟩, ⟨%dc, %fc, -, Hc⟩, ⟨%da, %fa, -, Ha⟩⟩, Hg⟩
  iexists fh, fw, fc, fa
  isplitr
  · ipureintro
    exact ⟨fun h => absurd rfl h, fun h => absurd rfl h, fun j r hr => absurd hr (by omega)⟩
  isplitl [Hh]; · iexact Hh
  isplitl [Hw]; · iexact Hw
  isplitl [Hc]; · iexact Hc
  isplitl [Ha]; · iexact Ha
  iexact Hg

theorem scratch_out (c : Dev nD) : (dats m 0 c).Φ (Fin.last cfg0.N) ⊢ (Pipeline.ΦA spec0 c : sProp 𝕄) := by
  rw [show (dats m 0 c).Φ (Fin.last cfg0.N) = Scratch m c cfg0.N from rfl]
  unfold Pipeline.ΦA Scratch
  rw [scopedRest0_eq]
  simp only [← owns_whole]
  unfold owns
  iintro ⟨%fh, %fw, %fc, %fa, -, Hh, Hw, Hc, Ha, Hg⟩
  isplitr [Hg]
  · isplitl [Hh]
    · iexists _, fh; isplitr; swap; · iexact Hh
      ipureintro; rfl
    isplitl [Hw]
    · iexists _, fw; isplitr; swap; · iexact Hw
      ipureintro; rfl
    isplitl [Hc]
    · iexists _, fc; isplitr; swap; · iexact Hc
      ipureintro; rfl
    iexists _, fa; isplitr; swap; · iexact Ha
    ipureintro; rfl
  iexact Hg

-- the launch theorem's implicit arguments are found by unifying its conclusion with this one, which unfolds plain definitions
set_option backward.isDefEq.respectTransparency.types false in
/-- The run: every array of the pipeline ends at what the proof data say, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps) (hmain := hmain m Variants.none)
    (hA := A_eq m) (hin := scratch_in m) (hout := scratch_out m)

/-- Every run ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Ffn

end
-- ==== Proof.FfnBits.lean ====
module

public import proofs.«01_k».proof.Proof.FfnBody
public import proofs.«01_k».proof.Proof.Gen.Kernel2.Frame
public import proofs.«01_k».proof.Defs

@[expose] public section

set_option maxRecDepth 16384

noncomputable section

namespace Cert.Ffn

open Idealize.ShloMosaic Idealize.ShloMosaic.TcCoe

variable {F : FTy → Type} [FloatOps F]

/-- The program has the body of its idealization, -/
theorem body_eq (i : Cert.Kernel2Ideal.grid0.Coords) (arg2 : Memref Cert.Kernel2Ideal.sig .tc .vmem Cert.Kernel2Ideal.S1x2048 .f32) (harg2 : arg2.IsWhole) (arg3 : Memref Cert.Kernel2Ideal.sig .tc .vmem Cert.Kernel2Ideal.S1024x2048 .f32) (harg3 : arg3.IsWhole) (arg4 : Memref Cert.Kernel2Ideal.sig .tc .vmem Cert.Kernel2Ideal.S1x2048 .f32) (harg4 : arg4.IsWhole) (arg5 : Memref Cert.Kernel2Ideal.sig .tc .vmem Cert.Kernel2Ideal.S2048x512 .bf16) (harg5 : arg5.IsWhole) (arg6 : Memref Cert.Kernel2Ideal.sig .tc .vmem Cert.Kernel2Ideal.S2048x512 .bf16) (harg6 : arg6.IsWhole) (arg7 : Memref Cert.Kernel2Ideal.sig .tc .vmem Cert.Kernel2Ideal.S3x512 .f32) (harg7 : arg7.IsWhole) (arg8 : Memref Cert.Kernel2Ideal.sig .tc .vmem Cert.Kernel2Ideal.S3x512 .f32) (harg8 : arg8.IsWhole) (arg9 : Memref Cert.Kernel2Ideal.sig .tc .vmem Cert.Kernel2Ideal.S1x512 .f32) (harg9 : arg9.IsWhole) (arg10 : Memref Cert.Kernel2Ideal.sig .tc .vmem Cert.Kernel2Ideal.S1x512 .f32) (harg10 : arg10.IsWhole) (arg11 : Memref Cert.Kernel2Ideal.sig .tc .vmem Cert.Kernel2Ideal.S512x2048 .bf16) (harg11 : arg11.IsWhole) (arg12 : Memref Cert.Kernel2Ideal.sig .tc .vmem Cert.Kernel2Ideal.S1024x2048 .f32) (harg12 : arg12.IsWhole) (arg13 : Memref Cert.Kernel2Ideal.sig .tc .vmem Cert.Kernel2Ideal.S1x2x512 .f32) (harg13 : arg13.IsWhole) (arg14 : Memref Cert.Kernel2Ideal.sig .tc .vmem Cert.Kernel2Ideal.S1x2x512 .f32) (harg14 : arg14.IsWhole) (arg15 : Memref Cert.Kernel2Ideal.sig .tc .vmem Cert.Kernel2Ideal.S1024x2048 .bf16) (harg15 : arg15.IsWhole) (arg16 : Memref Cert.Kernel2Ideal.sig .tc .vmem Cert.Kernel2Ideal.S2x1x1032x512 .f32) (harg16 : arg16.IsWhole) (arg17 : Memref Cert.Kernel2Ideal.sig .tc .vmem Cert.Kernel2Ideal.S11x2x1x2x512 .f32) (harg17 : arg17.IsWhole) (arg18 : Memref Cert.Kernel2Ideal.sig .tc .vmem Cert.Kernel2Ideal.S2x1024x512 .bf16) (harg18 : arg18.IsWhole) : Cert.Kernel2.cc0_conv_ffn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = Cert.Kernel2Ideal.cc0_conv_ffn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 := rfl
set_option maxHeartbeats 2000000 in
theorem table_eq : Cert.Kernel2.defs₀ (F := F) = Cert.Kernel2Ideal.defs₀ (F := F) := by
  unfold Cert.Kernel2.defs₀ Cert.Kernel2Ideal.defs₀
  refine congrArg (fun f => Defs.onTc f) (funext fun l => funext fun a => ?_)
  match l, a with
  | ⟨0, _⟩, (t, s) => exact body_eq _ _ _ _ _ _ _ _ _ _ _ _ _ _ _ _ _ _ _ _ _ _ _ _ _ _ _ _ _ _ _ _ _ _ _
  | ⟨_ + 1, h⟩, _ => exact absurd h (Nat.not_lt.2 (Nat.le_add_left _ _))
/-- and its table of bodies. -/
theorem defs_eq : Cert.Kernel2.defs (F := F) = Cert.Kernel2Ideal.defs (F := F) := by unfold Cert.Kernel2.defs Cert.Kernel2Ideal.defs; exact congrArg _ table_eq
/-- And so has its main function. -/
theorem main_eq : Cert.Kernel2.main (F := F) = Cert.Kernel2Ideal.main (F := F) := rfl
/-- So its frame is the idealization's, at the machine's own numbers. -/
theorem frame_p : Cert.quiescent_Kernel2 := fun m ρ _ => by
  rw [defs_eq, main_eq]
  exact frame (F := Bits) m ρ
/-- The frame of the idealization. -/
theorem frame_pi : Cert.quiescent_Kernel2Ideal := fun m ρ _ => frame (F := Ideal) m ρ

end Cert.Ffn

end
-- ==== Proof.FfnMath.lean ====
/- One tile of the feed-forward at an index, over the extended reals: the normed rows, the products, the convolution of
   three taps over the rows and the two rows before them, the activated gate times the other half, and the residual sum. -/
module

public import proofs.«01_k».proof.Proof.FfnInv
public import Idealize.ShloMosaic.Lib.MatmulPlain
public import Idealize.ShloMosaic.Lib.ValueIdx
public import Idealize.ShloMosaic.Lib.Pipeline.Value
public import Idealize.ShloMosaic.PureOps.Ideal.Laws

@[expose] public section

set_option maxRecDepth 16384

noncomputable section

namespace Cert.Ffn

open Idealize.ShloMosaic hiding ix1 ix2 ix3 ix4 ix5
open Idealize.ShloMosaic.ValueIdx
open Cert.Kernel2Ideal Cert.Kernel2Ideal.Gen

/-! ## Layout operations at an index -/

section
variable {α : Type}

theorem drop1 {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 0 r c) := by
  refine (shapeCast_dropUnit_apply (![a, b]) x h (ix2 r c)).trans (congrArg x (funext fun d => ?_))
  match d with
  | ⟨0, _⟩ => rfl
  | ⟨1, _⟩ => rfl
  | ⟨2, _⟩ => rfl

theorem add1 {a b : ℕ} (x : (⟨2, ![a, b]⟩ : Shape).Idx → α)
    (h : (⟨2, ![a, b]⟩ : Shape).ShapeCasts ⟨3, ![1, a, b]⟩) (r : Fin a) (c : Fin b) :
    shapeCast ⟨3, ![1, a, b]⟩ x h (ix3 0 r c) = x (ix2 r c) := by
  refine (shapeCast_addUnit_apply (![a, b]) x h (ix3 0 r c)).trans (congrArg x (funext fun d => ?_))
  match d with
  | ⟨0, _⟩ => rfl
  | ⟨1, _⟩ => rfl

theorem drop1' {a b : ℕ} (x : (⟨4, ![1, 1, a, b]⟩ : Shape).Idx → α)
    (h : (⟨4, ![1, 1, a, b]⟩ : Shape).ShapeCasts ⟨3, ![1, a, b]⟩) (r : Fin a) (c : Fin b) :
    shapeCast ⟨3, ![1, a, b]⟩ x h (ix3 0 r c) = x (ix4 0 0 r c) := by
  refine (shapeCast_dropUnit_apply (![1, a, b]) x h (ix3 0 r c)).trans (congrArg x (funext fun d => ?_))
  match d with
  | ⟨0, _⟩ => rfl
  | ⟨1, _⟩ => rfl
  | ⟨2, _⟩ => rfl
  | ⟨3, _⟩ => rfl

theorem add1' {a b : ℕ} (x : (⟨3, ![1, a, b]⟩ : Shape).Idx → α)
    (h : (⟨3, ![1, a, b]⟩ : Shape).ShapeCasts ⟨4, ![1, 1, a, b]⟩) (r : Fin a) (c : Fin b) :
    shapeCast ⟨4, ![1, 1, a, b]⟩ x h (ix4 0 0 r c) = x (ix3 0 r c) := by
  refine (shapeCast_addUnit_apply (![1, a, b]) x h (ix4 0 0 r c)).trans (congrArg x (funext fun d => ?_))
  match d with
  | ⟨0, _⟩ => rfl
  | ⟨1, _⟩ => rfl
  | ⟨2, _⟩ => rfl

/-- A column spread along the rows. -/
theorem bcol {a b : ℕ} (ha : a ≠ 1) (x : (⟨2, ![a, 1]⟩ : Shape).Idx → α)
    (h : (⟨2, ![a, 1]⟩ : Shape).Broadcasts ⟨2, ![a, b]⟩) (r : Fin a) (j : Fin b) :
    broadcastTo ⟨2, ![a, b]⟩ x h (ix2 r j) = x (ix2 r 0) :=
  broadcastTo_apply x h (ix2 r j) (ix2 r 0) fun d => match d with
    | ⟨0, _⟩ => by
        show r.val = if a = 1 then 0 else _
        rw [if_neg ha]; rfl
    | ⟨1, _⟩ => by
        show (0 : ℕ) = if (1 : ℕ) = 1 then 0 else _
        rw [if_pos rfl]

/-- A row spread along the columns. -/
theorem brow {a b : ℕ} (hb : b ≠ 1) (x : (⟨2, ![1, b]⟩ : Shape).Idx → α)
    (h : (⟨2, ![1, b]⟩ : Shape).Broadcasts ⟨2, ![a, b]⟩) (r : Fin a) (j : Fin b) :
    broadcastTo ⟨2, ![a, b]⟩ x h (ix2 r j) = x (ix2 0 j) :=
  broadcastTo_apply x h (ix2 r j) (ix2 0 j) fun d => match d with
    | ⟨0, _⟩ => by
        show (0 : ℕ) = if (1 : ℕ) = 1 then 0 else _
        rw [if_pos rfl]
    | ⟨1, _⟩ => by
        show j.val = if b = 1 then 0 else _
        rw [if_neg hb]; rfl

theorem brow3 {a b : ℕ} (hb : b ≠ 1) (x : (⟨3, ![1, 1, b]⟩ : Shape).Idx → α)
    (h : (⟨3, ![1, 1, b]⟩ : Shape).Broadcasts ⟨3, ![1, a, b]⟩) (r : Fin a) (j : Fin b) :
    broadcastTo ⟨3, ![1, a, b]⟩ x h (ix3 0 r j) = x (ix3 0 0 j) :=
  broadcastTo_apply x h (ix3 0 r j) (ix3 0 0 j) fun d => match d with
    | ⟨0, _⟩ => by
        show (0 : ℕ) = if (1 : ℕ) = 1 then 0 else _
        rw [if_pos rfl]
    | ⟨1, _⟩ => by
        show (0 : ℕ) = if (1 : ℕ) = 1 then 0 else _
        rw [if_pos rfl]
    | ⟨2, _⟩ => by
        show j.val = if b = 1 then 0 else _
        rw [if_neg hb]; rfl

/-- A vector seen as a column. -/
theorem col {a : ℕ} (x : (⟨1, ![a]⟩ : Shape).Idx → α) (h : (⟨1, ![a]⟩ : Shape).ShapeCasts ⟨2, ![a, 1]⟩) (r : Fin a) :
    shapeCast ⟨2, ![a, 1]⟩ x h (ix2 r 0) = x (ix1 r) :=
  shapeCast_apply x h (ix2 r 0) (ix1 r) (by
    rw [Shape.rowMajor_val_one, Shape.rowMajor_val_two]
    show r.val = r.val * 1 + 0
    omega)

end

/-- The sum along a row. -/
theorem rowSum {a n : ℕ} (x : FVec Ideal (⟨2, ![a, n]⟩ : Shape) .f32) (h : (⟨2, ![a, n]⟩ : Shape).Reduces [1] ⟨1, ![a]⟩)
    (hφ : FKind.Formats .f32) (hacc : (0x00000000#32 : BitVec 32) = FKind.add.neutral .f32 hφ) (r : Fin a) :
    multiReduction .add [1] ⟨1, ![a]⟩ x 0x00000000#32 h hφ hacc (ix1 r) = ∑ j : Fin n, x (ix2 r j) := by
  refine (Ideal.multiReduction_add_single x _ h hφ hacc (ix1 r)).trans (Finset.sum_congr rfl fun j _ => congrArg x ?_)
  funext d
  match d with
  | ⟨0, _⟩ => rfl
  | ⟨1, _⟩ => rfl

/-! ## Norms and products -/

/-- The reciprocal root of a row's mean square. -/
def rms (v : Fin 2048 → EReal) : EReal :=
  Ideal.rsqrt (Ideal.div (∑ k, v k * v k) (FloatOps.ofBits .f32 0x45000000#32 : Ideal .f32) + (FloatOps.ofBits .f32 0x358637BD#32 : Ideal .f32))

theorem normed_apply (x : Vec Ideal S1024x2048 .f32) (nw : Vec Ideal S1x2048 .f32) (r : Fin 1024) (k : Fin 2048) :
    normed x nw (ix2 r k) = x (ix2 r k) * rms (fun k => x (ix2 r k)) * nw (ix2 0 k) := by
  unfold normed k0_pay3
  simp only [shapeCast_self]
  show x (ix2 r k) * broadcastTo S1024x2048 _ _ (ix2 r k) * broadcastTo S1024x2048 nw _ (ix2 r k) = _
  rw [bcol (by decide), brow (by decide)]
  refine congrArg (fun z => x (ix2 r k) * z * nw (ix2 0 k)) ?_
  show Ideal.rsqrt (Ideal.div (shapeCast S1024x1 _ _ (ix2 r 0)) _ + _) = _
  rw [col]
  exact congrArg (fun z => Ideal.rsqrt (Ideal.div z (FloatOps.ofBits .f32 0x45000000#32 : Ideal .f32) + (FloatOps.ofBits .f32 0x358637BD#32 : Ideal .f32)))
    (rowSum _ _ _ _ r)

theorem up_apply (h : Vec Ideal S1024x2048 .bf16) (w : Vec Ideal S2048x512 .bf16) (r : Fin 1024) (n : Fin 512) :
    up h w (ix3 0 r n) = ∑ k : Fin 2048, h (ix2 r k) * w (ix2 k n) := by
  unfold up k0_pay37
  simp only [shapeCast_self]
  refine (add1 _ _ r n).trans ((Ideal.matmul_plain_apply none _ _ _ r n).trans ?_)
  rw [constant_apply, Ideal.ofBits_zero_f32, zero_add]

theorem pay38_apply (h : Vec Ideal S1024x2048 .bf16) (w : Vec Ideal S2048x512 .bf16) (r : Fin 1024) (n : Fin 512) :
    k0_pay38 h w (ix4 0 0 r n) = up h w (ix3 0 r n) := by
  unfold k0_pay38
  exact add1' _ _ r n

theorem pay46_apply (h : Vec Ideal S1024x2048 .bf16) (w : Vec Ideal S2048x512 .bf16) (r : Fin 1024) (n : Fin 512) :
    k0_pay46 h w (ix4 0 0 r n) = up h w (ix3 0 r n) := by
  unfold k0_pay46
  exact add1' _ _ r n

theorem accum_apply (o : Vec Ideal S1024x2048 .f32) (a : Vec Ideal S1x1024x512 .bf16) (w : Vec Ideal S512x2048 .bf16)
    (r : Fin 1024) (n : Fin 2048) :
    accum o a w (ix2 r n) = o (ix2 r n) + ∑ k : Fin 512, a (ix3 0 r k) * w (ix2 k n) := by
  unfold accum k0_pay36
  simp only [shapeCast_self]
  refine congrArg (o (ix2 r n) + ·) ((Ideal.matmul_plain_apply none _ _ _ r n).trans ?_)
  rw [constant_apply, Ideal.ofBits_zero_f32, zero_add]
  exact Finset.sum_congr rfl fun k _ => by rw [drop1]

theorem final_apply (o : Vec Ideal S1024x2048 .f32) (a : Vec Ideal S1x1024x512 .bf16) (w : Vec Ideal S512x2048 .bf16)
    (x : Vec Ideal S1024x2048 .f32) (nw2 : Vec Ideal S1x2048 .f32) (r : Fin 1024) (n : Fin 2048) :
    final o a w x nw2 (ix2 r n)
      = x (ix2 r n) + accum o a w (ix2 r n) * rms (fun n => accum o a w (ix2 r n)) * nw2 (ix2 0 n) := by
  have e : final o a w x nw2 (ix2 r n) = x (ix2 r n) + accum o a w (ix2 r n) * broadcastTo S1024x2048
      (rsqrt (addf (divf (shapeCast S1024x1 (multiReduction .add [1] S1024 (mulf (accum o a w) (accum o a w)) 0x00000000#32 reduces_S1024x2048_S1024 (.inl rfl) rfl)
        shapeCasts_S1024_S1024x1) (broadcast S1024x1 (Scalar.ofBits .f32 0x45000000#32))) (broadcast S1024x1 (Scalar.ofBits .f32 0x358637BD#32))))
      broadcasts_S1024x1_S1024x2048 (ix2 r n) * broadcastTo S1024x2048 nw2 broadcasts_S1x2048_S1024x2048 (ix2 r n) := by
    unfold final k0_pay2 accum k0_pay36
    simp only [shapeCast_self]
    rfl
  rw [e, bcol (by decide), brow (by decide)]
  refine congrArg (fun z => x (ix2 r n) + accum o a w (ix2 r n) * z * nw2 (ix2 0 n)) ?_
  show Ideal.rsqrt (Ideal.div (shapeCast S1024x1 _ _ (ix2 r 0)) _ + _) = _
  rw [col]
  exact congrArg (fun z => Ideal.rsqrt (Ideal.div z (FloatOps.ofBits .f32 0x45000000#32 : Ideal .f32) + (FloatOps.ofBits .f32 0x358637BD#32 : Ideal .f32)))
    (rowSum _ _ _ _ r)

/-! ## The rows before a block -/

/-- Whether a block is the first of its sequence, as the kernel's remainder gives it. -/
def firstWord (x : BitVec 32) : BitVec 1 :=
  let y := Scalar.select (Scalar.cmpi .eq 2#32 0#32) 1#32 2#32
  let z := Scalar.remsi x y
  Scalar.cmpi .eq (Scalar.select (Scalar.andi (Scalar.xori (Scalar.cmpi .slt z 0#32) (Scalar.cmpi .slt y 0#32)) (Scalar.cmpi .ne z 0#32))
    (Scalar.addi z y) z) 0#32

theorem firstWord_eq : ∀ i : Fin 8, firstWord (BitVec.ofNat 32 i.val) = if i.val % 2 = 0 then 1#1 else 0#1 := by
  decide +kernel

theorem prev_eq (x : BitVec 32) (s : Vec Ideal S1x1x1x2x512 .f32) :
    prev x s = shapeCast S1x1x2x512 (Scalar.select (firstWord x) (broadcast S1x2x512 (Scalar.ofBits (F := Ideal) .f32 0x00000000#32))
      (shapeCast S1x2x512 s shapeCasts_S1x1x1x2x512_S1x2x512)) shapeCasts_S1x2x512_S1x1x2x512 := rfl

theorem prev_even (i : Fin 8) (hi : i.val % 2 = 0) (s : Vec Ideal S1x1x1x2x512 .f32) (r : Fin 2) (n : Fin 512) :
    prev (BitVec.ofNat 32 i.val) s (ix4 0 0 r n) = 0 := by
  rw [prev_eq, firstWord_eq, if_pos hi]
  refine (add1' _ _ r n).trans ?_
  exact Ideal.ofBits_zero_f32

theorem drop2 (x : Vec Ideal S1x1x1x2x512 .f32) (h : S1x1x1x2x512.ShapeCasts S1x2x512) (r : Fin 2) (n : Fin 512) :
    shapeCast S1x2x512 x h (ix3 0 r n) = x (ix5 0 0 0 r n) :=
  shapeCast_apply x h (ix3 0 r n) (ix5 0 0 0 r n) (by
    rw [Shape.rowMajor_val_five, Shape.rowMajor_val_three]
    show (((0 * 1 + 0) * 1 + 0) * 2 + r.val) * 512 + n.val = (0 * 2 + r.val) * 512 + n.val
    omega)

theorem add2 (x : Vec Ideal S1x2x512 .f32) (h : S1x2x512.ShapeCasts S1x1x1x2x512) (r : Fin 2) (n : Fin 512) :
    shapeCast S1x1x1x2x512 x h (ix5 0 0 0 r n) = x (ix3 0 r n) :=
  shapeCast_apply x h (ix5 0 0 0 r n) (ix3 0 r n) (by
    rw [Shape.rowMajor_val_five, Shape.rowMajor_val_three]
    show (0 * 2 + r.val) * 512 + n.val = (((0 * 1 + 0) * 1 + 0) * 2 + r.val) * 512 + n.val
    omega)

theorem tail_apply (u : FVec Ideal S1x1024x512 .f32) (r : Fin 2) (n : Fin 512) :
    tail u (ix3 0 r n) = u (ix3 0 ⟨1022 + r.val, by omega⟩ n) := by
  unfold tail k0_pay42
  refine extractStridedSlice_apply _ u _ _ _ fun a => ?_
  match a with
  | ⟨0, _⟩ => rfl
  | ⟨1, _⟩ => rfl
  | ⟨2, _⟩ => show n.val = 0 + n.val; omega

theorem prev_odd (i : Fin 8) (hi : i.val % 2 = 1) (u : FVec Ideal S1x1024x512 .f32) (r : Fin 2) (n : Fin 512) :
    prev (BitVec.ofNat 32 i.val) (tail5 u) (ix4 0 0 r n) = u (ix3 0 ⟨1022 + r.val, by omega⟩ n) := by
  rw [prev_eq, firstWord_eq, if_neg (by omega)]
  refine (add1' _ _ r n).trans ?_
  show shapeCast S1x2x512 (tail5 u) shapeCasts_S1x1x1x2x512_S1x2x512 (ix3 0 r n) = _
  refine (drop2 _ _ r n).trans ?_
  unfold tail5 k0_pay49
  refine (add2 _ _ r n).trans ?_
  exact tail_apply u r n

/-! ## The staging buffer -/

/-- Below the two writes of half `k`, row `6 + s` is the row before the block where `s` is below two, else the block's. -/
theorem staged (k : ℕ) (hk : k < 2) (inb1 inb2) (p : FVec Ideal S1x1x2x512 .f32) (q : FVec Ideal S1x1x1024x512 .f32)
    (L : List (View.Piece (Elt Ideal) S2x1x1032x512 .f32)) (s : ℕ) (hs : s < 1026) (n : Fin 512) :
    View.canon (⟨Rect.unit (s := S2x1x1032x512) ![k, 0, 6, 0] S1x1x2x512.size inb1, p⟩ ::
      ⟨Rect.unit (s := S2x1x1032x512) ![k, 0, 8, 0] S1x1x1024x512.size inb2, q⟩ :: L)
      (ix4 (⟨k, hk⟩ : Fin 2) 0 ⟨6 + s, by omega⟩ n)
      = if h : s < 2 then p (ix4 0 0 ⟨s, h⟩ n) else q (ix4 0 0 ⟨s - 2, by omega⟩ n) := by
  by_cases h : s < 2
  · have e : ix4 (⟨k, hk⟩ : Fin 2) (0 : Fin 1) (⟨6 + s, by omega⟩ : Fin 1032) n
        = (Rect.unit (s := S2x1x1032x512) ![k, 0, 6, 0] S1x1x2x512.size inb1).emb (ix4 (0 : Fin 1) (0 : Fin 1) (⟨s, h⟩ : Fin 2) n) := by
      funext a
      apply Fin.ext
      match a with
      | ⟨0, _⟩ => show k = k + 1 * 0; omega
      | ⟨1, _⟩ => rfl
      | ⟨2, _⟩ => show 6 + s = 6 + 1 * s; omega
      | ⟨3, _⟩ => show n.val = 0 + 1 * n.val; omega
    rw [dif_pos h, e]
    exact View.canon_cons_emb (Val := Elt Ideal) (e := .f32) (Rect.unit (s := S2x1x1032x512) ![k, 0, 6, 0] S1x1x2x512.size inb1) p
      (⟨Rect.unit (s := S2x1x1032x512) ![k, 0, 8, 0] S1x1x1024x512.size inb2, q⟩ :: L) (ix4 (0 : Fin 1) (0 : Fin 1) (⟨s, h⟩ : Fin 2) n)
  · rw [dif_neg h, View.canon_cons_of_not_mem]
    · have e : ix4 (⟨k, hk⟩ : Fin 2) (0 : Fin 1) (⟨6 + s, by omega⟩ : Fin 1032) n
          = (Rect.unit (s := S2x1x1032x512) ![k, 0, 8, 0] S1x1x1024x512.size inb2).emb (ix4 (0 : Fin 1) (0 : Fin 1) (⟨s - 2, by omega⟩ : Fin 1024) n) := by
        funext a
        apply Fin.ext
        match a with
        | ⟨0, _⟩ => show k = k + 1 * 0; omega
        | ⟨1, _⟩ => rfl
        | ⟨2, _⟩ => show 6 + s = 8 + 1 * (s - 2); omega
        | ⟨3, _⟩ => show n.val = 0 + 1 * n.val; omega
      rw [e]
      exact View.canon_cons_emb (Val := Elt Ideal) (e := .f32) (Rect.unit (s := S2x1x1032x512) ![k, 0, 8, 0] S1x1x1024x512.size inb2) q
        L (ix4 (0 : Fin 1) (0 : Fin 1) (⟨s - 2, by omega⟩ : Fin 1024) n)
    · intro hm
      obtain ⟨x, hx⟩ := LoadRect.exists_idx_of_mem _ hm
      have h2 : 6 + 1 * (x 2).val = 6 + s := congrArg (fun z : S2x1x1032x512.Idx => (z 2).val) hx
      have : (x 2).val < 2 := (x 2).isLt
      omega

/-- Row `s` of two rows followed by a block. -/
def joined (p : FVec Ideal S1x1x2x512 .f32) (u : FVec Ideal S1x1024x512 .f32) (s : ℕ) (hs : s < 1026) (n : Fin 512) : EReal :=
  if h : s < 2 then p (ix4 0 0 ⟨s, h⟩ n) else u (ix3 0 ⟨s - 2, by omega⟩ n)

section
variable (h : Vec Ideal S1024x2048 .bf16) (w1 w2 : Vec Ideal S2048x512 .bf16) (p1 p2 : FVec Ideal S1x1x2x512 .f32)
  (r : Fin 1024) (n : Fin 512)

theorem idx_at (k o : ℕ) (hk : k < 2) (ho : o < 9) (inb) :
    (Rect.unit (s := S2x1x1032x512) ![k, 0, o, 0] S1x1x1024x512.size inb).toLoadRect.idx (ix4 0 0 r n)
      = ix4 (⟨k, hk⟩ : Fin 2) 0 ⟨o + r.val, by omega⟩ n := by
  funext a
  apply Fin.ext
  match a with
  | ⟨0, _⟩ => show k + 1 * 0 = k; omega
  | ⟨1, _⟩ => rfl
  | ⟨2, _⟩ => show o + 1 * r.val = o + r.val; omega
  | ⟨3, _⟩ => show 0 + 1 * n.val = n.val; omega

theorem sh2_apply : sh2 h w1 p1 (ix4 0 0 r n) = joined p1 (up h w1) r.val (by omega) n := by
  unfold sh2 work1 joined
  rw [idx_at r n 0 6 (by decide) (by decide), staged 0 (by decide) _ _ p1 _ [] r.val (by omega) n]
  simp only [pay38_apply]

theorem sh1_apply : sh1 h w1 p1 (ix4 0 0 r n) = joined p1 (up h w1) (r.val + 1) (by omega) n := by
  unfold sh1 work1 joined
  rw [idx_at r n 0 7 (by decide) (by decide)]
  have e : (⟨7 + r.val, by omega⟩ : Fin 1032) = ⟨6 + (r.val + 1), by omega⟩ := Fin.ext (by show 7 + r.val = 6 + (r.val + 1); omega)
  rw [e, staged 0 (by decide) _ _ p1 _ [] (r.val + 1) (by omega) n]
  simp only [pay38_apply]

theorem sh2'_apply : sh2' h w1 w2 p1 p2 (ix4 0 0 r n) = joined p2 (up h w2) r.val (by omega) n := by
  unfold sh2' work2 joined
  rw [idx_at r n 1 6 (by decide) (by decide), staged 1 (by decide) _ _ p2 _ _ r.val (by omega) n]
  simp only [pay46_apply]

theorem sh1'_apply : sh1' h w1 w2 p1 p2 (ix4 0 0 r n) = joined p2 (up h w2) (r.val + 1) (by omega) n := by
  unfold sh1' work2 joined
  rw [idx_at r n 1 7 (by decide) (by decide)]
  have e : (⟨7 + r.val, by omega⟩ : Fin 1032) = ⟨6 + (r.val + 1), by omega⟩ := Fin.ext (by show 7 + r.val = 6 + (r.val + 1); omega)
  rw [e, staged 1 (by decide) _ _ p2 _ _ (r.val + 1) (by omega) n]
  simp only [pay46_apply]

end

/-! ## The convolution and the activation -/

/-- A slice of one row of the taps, spread over the block. -/
theorem tap {o : ℕ} (ho : o < 3) (cw : Vec Ideal S3x512 .f32) (h1 : S3x512.Slices ![o, 0] S1x512) (r : Fin 1024) (n : Fin 512) :
    broadcastTo S1x1024x512 (shapeCast S1x1x512 (extractStridedSlice S1x512 ![o, 0] cw h1) shapeCasts_S1x512_S1x1x512) broadcasts_S1x1x512_S1x1024x512 (ix3 0 r n)
      = cw (ix2 ⟨o, ho⟩ n) := by
  refine (brow3 (by decide) _ _ r n).trans ((add1 _ _ 0 n).trans ?_)
  refine extractStridedSlice_apply _ cw _ _ _ fun a => ?_
  match a with
  | ⟨0, _⟩ => rfl
  | ⟨1, _⟩ => show n.val = 0 + n.val; omega

theorem bias (cb : Vec Ideal S1x512 .f32) (r : Fin 1024) (n : Fin 512) :
    broadcastTo S1x1024x512 (shapeCast S1x1x512 cb shapeCasts_S1x512_S1x1x512) broadcasts_S1x1x512_S1x1024x512 (ix3 0 r n)
      = cb (ix2 0 n) :=
  (brow3 (by decide) _ _ r n).trans (add1 _ _ 0 n)

/-- The convolution at a row: the bias, then the taps from the oldest row to the row itself. -/
def conv (b w0 w1 w2 u2 u1 u0 : EReal) : EReal := b + w0 * u2 + w1 * u1 + w2 * u0

theorem pay41_apply (u : FVec Ideal S1x1024x512 .f32) (s1 s2 : Vec Ideal S1x1x1024x512 .f32) (cw : Vec Ideal S3x512 .f32)
    (cb : Vec Ideal S1x512 .f32) (r : Fin 1024) (n : Fin 512) :
    k0_pay41 u s1 s2 cw cb (ix3 0 r n) = conv (cb (ix2 0 n)) (cw (ix2 0 n)) (cw (ix2 1 n)) (cw (ix2 2 n)) (s2 (ix4 0 0 r n)) (s1 (ix4 0 0 r n)) (u (ix3 0 r n)) := by
  unfold k0_pay41 conv
  simp only [shapeCast_self]
  refine congrArg₂ (· + ·) (congrArg₂ (· + ·) (congrArg₂ (· + ·) (bias cb r n) ?_) ?_) ?_
  · exact congrArg₂ (· * ·) (tap (by decide) cw _ r n) (drop1' _ _ r n)
  · exact congrArg₂ (· * ·) (tap (by decide) cw _ r n) (drop1' _ _ r n)
  · exact congrArg₂ (· * ·) (tap (by decide) cw _ r n) rfl

theorem pay50_apply (u : FVec Ideal S1x1024x512 .f32) (s1 s2 : Vec Ideal S1x1x1024x512 .f32) (cw : Vec Ideal S3x512 .f32)
    (cb : Vec Ideal S1x512 .f32) (r : Fin 1024) (n : Fin 512) :
    k0_pay50 u s1 s2 cw cb (ix2 r n) = conv (cb (ix2 0 n)) (cw (ix2 0 n)) (cw (ix2 1 n)) (cw (ix2 2 n)) (s2 (ix4 0 0 r n)) (s1 (ix4 0 0 r n)) (u (ix3 0 r n)) :=
  (drop1 _ _ r n).trans (pay41_apply u s1 s2 cw cb r n)

theorem half : (FloatOps.ofBits .f32 0x3F000000#32 : Ideal .f32) = (((1 / 2 : ℝ) : ℝ) : EReal) := by
  show Ideal.ofBits .f32 0x3F000000#32 = _
  simp [Ideal.ofBits, Ideal.ieee]
  norm_num [← EReal.coe_mul]

/-- Half the hyperbolic tangent of half a number, and a half, is the logistic function. -/
theorem half_tanh (g : EReal) :
    (((1 / 2 : ℝ) : ℝ) : EReal) * Ideal.tanh ((((1 / 2 : ℝ) : ℝ) : EReal) * g) + (((1 / 2 : ℝ) : ℝ) : EReal) = Ideal.logistic g := by
  induction g with
  | bot =>
    rw [EReal.coe_mul_bot_of_pos (by norm_num), Ideal.tanh_bot, Ideal.logistic_bot]
    rw [show (-1 : EReal) = ((-1 : ℝ) : EReal) from rfl, ← EReal.coe_mul, ← EReal.coe_add]
    norm_num
  | top =>
    rw [EReal.coe_mul_top_of_pos (by norm_num), Ideal.tanh_top, Ideal.logistic_top, mul_one, ← EReal.coe_add]
    norm_num
  | coe g =>
    rw [← EReal.coe_mul, Ideal.tanh_coe, Ideal.logistic_coe, ← EReal.coe_mul, ← EReal.coe_add]
    refine congrArg _ ?_
    have e1 : Real.exp (-g) = Real.exp (-(1 / 2 * g)) * Real.exp (-(1 / 2 * g)) := by
      rw [← Real.exp_add]; congr 1; ring
    have hp := Real.exp_pos (1 / 2 * g)
    have hn := Real.exp_pos (-(1 / 2 * g))
    have hpn : Real.exp (1 / 2 * g) * Real.exp (-(1 / 2 * g)) = 1 := by rw [← Real.exp_add]; simp
    rw [Real.tanh_eq_sinh_div_cosh, Real.sinh_eq, Real.cosh_eq, e1]
    generalize Real.exp (1 / 2 * g) = a at *
    generalize Real.exp (-(1 / 2 * g)) = b at *
    have : a + b ≠ 0 := by positivity
    have : 1 + b * b ≠ 0 := by positivity
    field_simp
    nlinarith

theorem act_apply (h : Vec Ideal S1024x2048 .bf16) (w1 w2 : Vec Ideal S2048x512 .bf16) (p1 p2 : FVec Ideal S1x1x2x512 .f32)
    (cw1 cw2 : Vec Ideal S3x512 .f32) (cb1 cb2 : Vec Ideal S1x512 .f32) (r : Fin 1024) (n : Fin 512) :
    act h w1 w2 p1 p2 cw1 cw2 cb1 cb2 (ix3 0 r n)
      = (fun g => g * Ideal.logistic g)
          (conv (cb1 (ix2 0 n)) (cw1 (ix2 0 n)) (cw1 (ix2 1 n)) (cw1 (ix2 2 n)) (joined p1 (up h w1) r.val (by omega) n)
            (joined p1 (up h w1) (r.val + 1) (by omega) n) (joined p1 (up h w1) (r.val + 2) (by omega) n))
        * conv (cb2 (ix2 0 n)) (cw2 (ix2 0 n)) (cw2 (ix2 1 n)) (cw2 (ix2 2 n)) (joined p2 (up h w2) r.val (by omega) n)
            (joined p2 (up h w2) (r.val + 1) (by omega) n) (joined p2 (up h w2) (r.val + 2) (by omega) n) := by
  have hj : ∀ (p : FVec Ideal S1x1x2x512 .f32) (u : FVec Ideal S1x1024x512 .f32), joined p u (r.val + 2) (by omega) n = u (ix3 0 r n) :=
    fun p u => dif_neg (by omega)
  have hg : gate h w1 p1 cw1 cb1 (ix2 r n) = conv (cb1 (ix2 0 n)) (cw1 (ix2 0 n)) (cw1 (ix2 1 n)) (cw1 (ix2 2 n))
      (joined p1 (up h w1) r.val (by omega) n) (joined p1 (up h w1) (r.val + 1) (by omega) n) (joined p1 (up h w1) (r.val + 2) (by omega) n) := by
    unfold gate
    refine (drop1 _ _ r n).trans ((pay41_apply _ _ _ _ _ r n).trans ?_)
    rw [sh1_apply, sh2_apply, hj]
  have hc : k0_pay50 (up h w2) (sh1' h w1 w2 p1 p2) (sh2' h w1 w2 p1 p2) cw2 cb2 (ix2 r n)
      = conv (cb2 (ix2 0 n)) (cw2 (ix2 0 n)) (cw2 (ix2 1 n)) (cw2 (ix2 2 n)) (joined p2 (up h w2) r.val (by omega) n)
            (joined p2 (up h w2) (r.val + 1) (by omega) n) (joined p2 (up h w2) (r.val + 2) (by omega) n) := by
    refine (pay50_apply _ _ _ _ _ r n).trans ?_
    rw [sh1'_apply, sh2'_apply, hj]
  unfold act k0_pay1
  refine (add1 _ _ r n).trans ?_
  show (gate h w1 p1 cw1 cb1 (ix2 r n) * ((FloatOps.ofBits .f32 0x3F000000#32 : Ideal .f32)
      * Ideal.tanh ((FloatOps.ofBits .f32 0x3F000000#32 : Ideal .f32) * gate h w1 p1 cw1 cb1 (ix2 r n)) + (FloatOps.ofBits .f32 0x3F000000#32 : Ideal .f32)) : EReal)
    * k0_pay50 (up h w2) (sh1' h w1 w2 p1 p2) (sh2' h w1 w2 p1 p2) cw2 cb2 (ix2 r n) = _
  rw [half, half_tanh, hg, hc]

end Cert.Ffn

end
-- ==== Proof.FfnBlocks.lean ====
/- The feed-forward's result as mathematics, row by row, and the kernel's blocks as parts of its arguments. -/
module

public import proofs.«01_k».proof.Proof.FfnMath
public import Idealize.ShloMosaic.Lib.KernelVsHost
public import Idealize.ShloMosaic.Lib.StableHlo.RunRead

@[expose] public section

set_option maxRecDepth 16384

noncomputable section

namespace Cert.Ffn

open Idealize.ShloMosaic hiding ix1 ix2 ix3 ix4 ix5
open Idealize.ShloMosaic.ValueIdx Idealize.ShloMosaic.TcCoe
open Cert.Kernel2Ideal Cert.Kernel2Ideal.Gen

/-! ## The result -/

section
variable (a0 : FVec Ideal S4x2048x2048 .f32) (a1 : FVec Ideal S2048 .f32) (a2 : FVec Ideal S2048x11264 .f32)
  (a3 : FVec Ideal S3x11264 .f32) (a4 : FVec Ideal S11264 .f32) (a5 : FVec Ideal S5632x2048 .f32) (a6 : FVec Ideal S2048 .f32)

/-- The normed row `l` of batch `b`. -/
def hRow (b : Fin 4) (l k : Fin 2048) : EReal := a0 (ix3 b l k) * rms (fun k => a0 (ix3 b l k)) * a1 (ix1 k)
/-- Its product with the weights. -/
def uRow (b : Fin 4) (l : Fin 2048) (q : Fin 11264) : EReal := ∑ k : Fin 2048, hRow a0 a1 b l k * a2 (ix2 k q)
/-- The products of a batch, two rows of zeros before them. -/
def ext (b : Fin 4) (s : ℕ) (q : Fin 11264) : EReal := if h : 2 ≤ s ∧ s < 2050 then uRow a0 a1 a2 b ⟨s - 2, by omega⟩ q else 0
/-- The convolution of three taps. -/
def cRow (b : Fin 4) (l : Fin 2048) (q : Fin 11264) : EReal :=
  conv (a4 (ix1 q)) (a3 (ix2 0 q)) (a3 (ix2 1 q)) (a3 (ix2 2 q)) (ext a0 a1 a2 b l.val q) (ext a0 a1 a2 b (l.val + 1) q) (ext a0 a1 a2 b (l.val + 2) q)
/-- The activated gate times the other half. -/
def actRow (b : Fin 4) (l : Fin 2048) (n : Fin 5632) : EReal :=
  (fun g => g * Ideal.logistic g) (cRow a0 a1 a2 a3 a4 b l ⟨n.val, by omega⟩) * cRow a0 a1 a2 a3 a4 b l ⟨5632 + n.val, by omega⟩
/-- Projected back. -/
def yRow (b : Fin 4) (l d : Fin 2048) : EReal := ∑ n : Fin 5632, actRow a0 a1 a2 a3 a4 b l n * a5 (ix2 n d)
/-- The residual sum. -/
def outRow (b : Fin 4) (l d : Fin 2048) : EReal :=
  a0 (ix3 b l d) + yRow a0 a1 a2 a3 a4 a5 b l d * rms (yRow a0 a1 a2 a3 a4 a5 b l) * a6 (ix1 d)

end

/-! ## The arrays the kernel is launched on -/

variable (m : (ℓ : Loc nD τ sig) → Buf (Elt Ideal) ℓ) (c : Dev nD)

abbrev g0 : FVec Ideal S4x2048x2048 .f32 := m ((c : Thread nD τ).loc main_arg0)
abbrev g1 : FVec Ideal S2048 .f32 := m ((c : Thread nD τ).loc main_arg1)
abbrev g2 : FVec Ideal S2048x11264 .f32 := m ((c : Thread nD τ).loc main_arg2)
abbrev g3 : FVec Ideal S3x11264 .f32 := m ((c : Thread nD τ).loc main_arg3)
abbrev g4 : FVec Ideal S11264 .f32 := m ((c : Thread nD τ).loc main_arg4)
abbrev g5 : FVec Ideal S5632x2048 .f32 := m ((c : Thread nD τ).loc main_arg5)
abbrev g6 : FVec Ideal S2048 .f32 := m ((c : Thread nD τ).loc main_arg6)

theorem V_x : V m c main_v0 = shapeCast S8192x2048 (g0 m c) shapeCasts_S4x2048x2048_S8192x2048 := by
  unfold V
  after_reads_simp
  rfl

theorem V_n : V m c main_v1 = shapeCast S1x2048 (g1 m c) shapeCasts_S2048_S1x2048 := by
  unfold V
  after_reads_simp
  rfl

theorem V_w : V m c main_v2 = (truncf .bf16 (g2 m c) bitsLt_bf16_f32 : FVec Ideal S2048x11264 .bf16) := by
  unfold V
  after_reads_simp

theorem V_o : V m c main_v3 = (truncf .bf16 (g5 m c) bitsLt_bf16_f32 : FVec Ideal S5632x2048 .bf16) := by
  unfold V
  after_reads_simp

theorem V_n2 : V m c main_v4 = shapeCast S1x2048 (g6 m c) shapeCasts_S2048_S1x2048 := by
  unfold V
  after_reads_simp
  rfl

theorem V_b : V m c main_v5 = shapeCast S1x11264 (g4 m c) shapeCasts_S11264_S1x11264 := by
  unfold V
  after_reads_simp
  rfl

/-! ## The blocks of a point -/

theorem index0 : ∀ t : Fin grid0.N, win0_0.index t 0 = 0 ∧ win0_0.index t 1 = 0 := by decide +kernel
theorem index1 : ∀ t : Fin grid0.N, win0_1.index t 0 = t.val / 12 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = min (t.val % 12) 10 := by decide +kernel
theorem index4 : ∀ t : Fin grid0.N, win0_4.index t 0 = 0 ∧ win0_4.index t 1 = 11 + min (t.val % 12) 10 := by decide +kernel
theorem index5 : ∀ t : Fin grid0.N, win0_5.index t 0 = 0 ∧ win0_5.index t 1 = min (t.val % 12) 10 := by decide +kernel
theorem index6 : ∀ t : Fin grid0.N, win0_6.index t 0 = 0 ∧ win0_6.index t 1 = 11 + min (t.val % 12) 10 := by decide +kernel
theorem index7 : ∀ t : Fin grid0.N, win0_7.index t 0 = 0 ∧ win0_7.index t 1 = min (t.val % 12) 10 := by decide +kernel
theorem index8 : ∀ t : Fin grid0.N, win0_8.index t 0 = 0 ∧ win0_8.index t 1 = 11 + min (t.val % 12) 10 := by decide +kernel
theorem index9 : ∀ t : Fin grid0.N, win0_9.index t 0 = t.val % 12 - 1 ∧ win0_9.index t 1 = 0 := by decide +kernel

theorem pt_val (i j : ℕ) (hi : i < 8) (hj : j < 12) : (pt i j).val / 12 = i ∧ (pt i j).val % 12 = j := by
  show (12 * i + j) % 96 / 12 = i ∧ (12 * i + j) % 96 % 12 = j
  omega

theorem read0 (X : FVec Ideal S1x2048 .f32) (t : Fin cfg0.N) (r : Fin 1) (n : Fin 2048) (R : Fin 1) (C : Fin 2048)
    (hR : R.val = (0) * 1 + r.val) (hC : C.val = (0) * 2048 + n.val) :
    (((cfg0.win 0).blk t).view.read (Elt Ideal) X : FVec Ideal S1x2048 .f32) (ix2 r n) = X (ix2 R C) := by
  show X ((win0_0.rect t).emb (ix2 r n)) = _
  refine congrArg X (funext fun a => Fin.ext ?_)
  refine (win0_0.rect_emb_val t _ a).trans ?_
  match a with
  | ⟨0, _⟩ => show win0_0.index t 0 * 1 + r.val = R.val; rw [(index0 t).1, hR]
  | ⟨1, _⟩ => show win0_0.index t 1 * 2048 + n.val = C.val; rw [(index0 t).2, hC]

theorem read1 (X : FVec Ideal S8192x2048 .f32) (t : Fin cfg0.N) (r : Fin 1024) (n : Fin 2048) (R : Fin 8192) (C : Fin 2048)
    (hR : R.val = (t.val / 12) * 1024 + r.val) (hC : C.val = (0) * 2048 + n.val) :
    (((cfg0.win 1).blk t).view.read (Elt Ideal) X : FVec Ideal S1024x2048 .f32) (ix2 r n) = X (ix2 R C) := by
  show X ((win0_1.rect t).emb (ix2 r n)) = _
  refine congrArg X (funext fun a => Fin.ext ?_)
  refine (win0_1.rect_emb_val t _ a).trans ?_
  match a with
  | ⟨0, _⟩ => show win0_1.index t 0 * 1024 + r.val = R.val; rw [(index1 t).1, hR]
  | ⟨1, _⟩ => show win0_1.index t 1 * 2048 + n.val = C.val; rw [(index1 t).2, hC]

theorem read2 (X : FVec Ideal S1x2048 .f32) (t : Fin cfg0.N) (r : Fin 1) (n : Fin 2048) (R : Fin 1) (C : Fin 2048)
    (hR : R.val = (0) * 1 + r.val) (hC : C.val = (0) * 2048 + n.val) :
    (((cfg0.win 2).blk t).view.read (Elt Ideal) X : FVec Ideal S1x2048 .f32) (ix2 r n) = X (ix2 R C) := by
  show X ((win0_2.rect t).emb (ix2 r n)) = _
  refine congrArg X (funext fun a => Fin.ext ?_)
  refine (win0_2.rect_emb_val t _ a).trans ?_
  match a with
  | ⟨0, _⟩ => show win0_2.index t 0 * 1 + r.val = R.val; rw [(index2 t).1, hR]
  | ⟨1, _⟩ => show win0_2.index t 1 * 2048 + n.val = C.val; rw [(index2 t).2, hC]

theorem read3 (X : FVec Ideal S2048x11264 .bf16) (t : Fin cfg0.N) (r : Fin 2048) (n : Fin 512) (R : Fin 2048) (C : Fin 11264)
    (hR : R.val = (0) * 2048 + r.val) (hC : C.val = (min (t.val % 12) 10) * 512 + n.val) :
    (((cfg0.win 3).blk t).view.read (Elt Ideal) X : FVec Ideal S2048x512 .bf16) (ix2 r n) = X (ix2 R C) := by
  show X ((win0_3.rect t).emb (ix2 r n)) = _
  refine congrArg X (funext fun a => Fin.ext ?_)
  refine (win0_3.rect_emb_val t _ a).trans ?_
  match a with
  | ⟨0, _⟩ => show win0_3.index t 0 * 2048 + r.val = R.val; rw [(index3 t).1, hR]
  | ⟨1, _⟩ => show win0_3.index t 1 * 512 + n.val = C.val; rw [(index3 t).2, hC]

theorem read4 (X : FVec Ideal S2048x11264 .bf16) (t : Fin cfg0.N) (r : Fin 2048) (n : Fin 512) (R : Fin 2048) (C : Fin 11264)
    (hR : R.val = (0) * 2048 + r.val) (hC : C.val = (11 + min (t.val % 12) 10) * 512 + n.val) :
    (((cfg0.win 4).blk t).view.read (Elt Ideal) X : FVec Ideal S2048x512 .bf16) (ix2 r n) = X (ix2 R C) := by
  show X ((win0_4.rect t).emb (ix2 r n)) = _
  refine congrArg X (funext fun a => Fin.ext ?_)
  refine (win0_4.rect_emb_val t _ a).trans ?_
  match a with
  | ⟨0, _⟩ => show win0_4.index t 0 * 2048 + r.val = R.val; rw [(index4 t).1, hR]
  | ⟨1, _⟩ => show win0_4.index t 1 * 512 + n.val = C.val; rw [(index4 t).2, hC]

theorem read5 (X : FVec Ideal S3x11264 .f32) (t : Fin cfg0.N) (r : Fin 3) (n : Fin 512) (R : Fin 3) (C : Fin 11264)
    (hR : R.val = (0) * 3 + r.val) (hC : C.val = (min (t.val % 12) 10) * 512 + n.val) :
    (((cfg0.win 5).blk t).view.read (Elt Ideal) X : FVec Ideal S3x512 .f32) (ix2 r n) = X (ix2 R C) := by
  show X ((win0_5.rect t).emb (ix2 r n)) = _
  refine congrArg X (funext fun a => Fin.ext ?_)
  refine (win0_5.rect_emb_val t _ a).trans ?_
  match a with
  | ⟨0, _⟩ => show win0_5.index t 0 * 3 + r.val = R.val; rw [(index5 t).1, hR]
  | ⟨1, _⟩ => show win0_5.index t 1 * 512 + n.val = C.val; rw [(index5 t).2, hC]

theorem read6 (X : FVec Ideal S3x11264 .f32) (t : Fin cfg0.N) (r : Fin 3) (n : Fin 512) (R : Fin 3) (C : Fin 11264)
    (hR : R.val = (0) * 3 + r.val) (hC : C.val = (11 + min (t.val % 12) 10) * 512 + n.val) :
    (((cfg0.win 6).blk t).view.read (Elt Ideal) X : FVec Ideal S3x512 .f32) (ix2 r n) = X (ix2 R C) := by
  show X ((win0_6.rect t).emb (ix2 r n)) = _
  refine congrArg X (funext fun a => Fin.ext ?_)
  refine (win0_6.rect_emb_val t _ a).trans ?_
  match a with
  | ⟨0, _⟩ => show win0_6.index t 0 * 3 + r.val = R.val; rw [(index6 t).1, hR]
  | ⟨1, _⟩ => show win0_6.index t 1 * 512 + n.val = C.val; rw [(index6 t).2, hC]

theorem read7 (X : FVec Ideal S1x11264 .f32) (t : Fin cfg0.N) (r : Fin 1) (n : Fin 512) (R : Fin 1) (C : Fin 11264)
    (hR : R.val = (0) * 1 + r.val) (hC : C.val = (min (t.val % 12) 10) * 512 + n.val) :
    (((cfg0.win 7).blk t).view.read (Elt Ideal) X : FVec Ideal S1x512 .f32) (ix2 r n) = X (ix2 R C) := by
  show X ((win0_7.rect t).emb (ix2 r n)) = _
  refine congrArg X (funext fun a => Fin.ext ?_)
  refine (win0_7.rect_emb_val t _ a).trans ?_
  match a with
  | ⟨0, _⟩ => show win0_7.index t 0 * 1 + r.val = R.val; rw [(index7 t).1, hR]
  | ⟨1, _⟩ => show win0_7.index t 1 * 512 + n.val = C.val; rw [(index7 t).2, hC]

theorem read8 (X : FVec Ideal S1x11264 .f32) (t : Fin cfg0.N) (r : Fin 1) (n : Fin 512) (R : Fin 1) (C : Fin 11264)
    (hR : R.val = (0) * 1 + r.val) (hC : C.val = (11 + min (t.val % 12) 10) * 512 + n.val) :
    (((cfg0.win 8).blk t).view.read (Elt Ideal) X : FVec Ideal S1x512 .f32) (ix2 r n) = X (ix2 R C) := by
  show X ((win0_8.rect t).emb (ix2 r n)) = _
  refine congrArg X (funext fun a => Fin.ext ?_)
  refine (win0_8.rect_emb_val t _ a).trans ?_
  match a with
  | ⟨0, _⟩ => show win0_8.index t 0 * 1 + r.val = R.val; rw [(index8 t).1, hR]
  | ⟨1, _⟩ => show win0_8.index t 1 * 512 + n.val = C.val; rw [(index8 t).2, hC]

theorem read9 (X : FVec Ideal S5632x2048 .bf16) (t : Fin cfg0.N) (r : Fin 512) (n : Fin 2048) (R : Fin 5632) (C : Fin 2048)
    (hR : R.val = (t.val % 12 - 1) * 512 + r.val) (hC : C.val = (0) * 2048 + n.val) :
    (((cfg0.win 9).blk t).view.read (Elt Ideal) X : FVec Ideal S512x2048 .bf16) (ix2 r n) = X (ix2 R C) := by
  show X ((win0_9.rect t).emb (ix2 r n)) = _
  refine congrArg X (funext fun a => Fin.ext ?_)
  refine (win0_9.rect_emb_val t _ a).trans ?_
  match a with
  | ⟨0, _⟩ => show win0_9.index t 0 * 512 + r.val = R.val; rw [(index9 t).1, hR]
  | ⟨1, _⟩ => show win0_9.index t 1 * 2048 + n.val = C.val; rw [(index9 t).2, hC]

theorem row1 {a : ℕ} {α : Type} (x : (⟨1, ![a]⟩ : Shape).Idx → α) (h : (⟨1, ![a]⟩ : Shape).ShapeCasts ⟨2, ![1, a]⟩) (k : Fin a) :
    shapeCast ⟨2, ![1, a]⟩ x h (ix2 0 k) = x (ix1 k) :=
  shapeCast_apply x h (ix2 0 k) (ix1 k) (by
    rw [Shape.rowMajor_val_one, Shape.rowMajor_val_two]
    show k.val = 0 * a + k.val
    omega)

theorem flat (x : FVec Ideal S4x2048x2048 .f32) (b : Fin 4) (l k : Fin 2048) (R : Fin 8192) (hR : R.val = 2048 * b.val + l.val) :
    shapeCast S8192x2048 x shapeCasts_S4x2048x2048_S8192x2048 (ix2 R k) = x (ix3 b l k) :=
  shapeCast_apply x _ (ix2 R k) (ix3 b l k) (by
    rw [Shape.rowMajor_val_two, Shape.rowMajor_val_three]
    show (b.val * 2048 + l.val) * 2048 + k.val = R.val * 2048 + k.val
    rw [hR]; omega)

section
variable (i j : ℕ)

theorem bn_apply (k : Fin 2048) : bn m c i j (ix2 0 k) = g1 m c (ix1 k) := by
  refine (read0 (V m c main_v1) (pt i j) 0 k 0 k (by simp) (by omega)).trans ((congrFun (V_n m c) _).trans ?_)
  exact row1 _ _ k

theorem bn2_apply (k : Fin 2048) : bn2 m c i j (ix2 0 k) = g6 m c (ix1 k) := by
  refine (read2 (V m c main_v4) (pt i j) 0 k 0 k (by simp) (by omega)).trans ((congrFun (V_n2 m c) _).trans ?_)
  exact row1 _ _ k

variable (hi : i < 8)
include hi

theorem bx_apply (hj : j < 12) (r : Fin 1024) (k : Fin 2048) (b : Fin 4) (l : Fin 2048) (h : 2048 * b.val + l.val = 1024 * i + r.val) :
    bx m c i j (ix2 r k) = g0 m c (ix3 b l k) := by
  have e := pt_val i j hi hj
  refine (read1 (V m c main_v0) (pt i j) r k ⟨2048 * b.val + l.val, by omega⟩ k (by rw [e.1]; show 2048 * b.val + l.val = _; omega) (by omega)).trans
    ((congrFun (V_x m c) _).trans ?_)
  exact flat _ b l k _ rfl

variable (hj : j < 11)
include hj

theorem bg_apply (k : Fin 2048) (n : Fin 512) (q : Fin 11264) (hq : q.val = 512 * j + n.val) : bg m c i j (ix2 k n) = g2 m c (ix2 k q) := by
  have e := pt_val i j hi (by omega)
  exact (read3 (V m c main_v2) (pt i j) k n k q (by omega) (by rw [e.2]; omega)).trans ((congrFun (V_w m c) _).trans rfl)

theorem bu_apply (k : Fin 2048) (n : Fin 512) (q : Fin 11264) (hq : q.val = 5632 + (512 * j + n.val)) : bu m c i j (ix2 k n) = g2 m c (ix2 k q) := by
  have e := pt_val i j hi (by omega)
  exact (read4 (V m c main_v2) (pt i j) k n k q (by omega) (by rw [e.2]; omega)).trans ((congrFun (V_w m c) _).trans rfl)

theorem bcg_apply (o : Fin 3) (n : Fin 512) (q : Fin 11264) (hq : q.val = 512 * j + n.val) : bcg m c i j (ix2 o n) = g3 m c (ix2 o q) := by
  have e := pt_val i j hi (by omega)
  exact (read5 (V m c main_arg3) (pt i j) o n o q (by omega) (by rw [e.2]; omega)).trans (congrFun (V_main_arg3 m c) _)

theorem bcu_apply (o : Fin 3) (n : Fin 512) (q : Fin 11264) (hq : q.val = 5632 + (512 * j + n.val)) : bcu m c i j (ix2 o n) = g3 m c (ix2 o q) := by
  have e := pt_val i j hi (by omega)
  exact (read6 (V m c main_arg3) (pt i j) o n o q (by omega) (by rw [e.2]; omega)).trans (congrFun (V_main_arg3 m c) _)

theorem bbg_apply (n : Fin 512) (q : Fin 11264) (hq : q.val = 512 * j + n.val) : bbg m c i j (ix2 0 n) = g4 m c (ix1 q) := by
  have e := pt_val i j hi (by omega)
  exact (read7 (V m c main_v5) (pt i j) 0 n 0 q (by simp) (by rw [e.2]; omega)).trans ((congrFun (V_b m c) _).trans (row1 _ _ q))

theorem bbu_apply (n : Fin 512) (q : Fin 11264) (hq : q.val = 5632 + (512 * j + n.val)) : bbu m c i j (ix2 0 n) = g4 m c (ix1 q) := by
  have e := pt_val i j hi (by omega)
  exact (read8 (V m c main_v5) (pt i j) 0 n 0 q (by simp) (by rw [e.2]; omega)).trans ((congrFun (V_b m c) _).trans (row1 _ _ q))

theorem bo_apply (k : Fin 512) (d : Fin 2048) (q : Fin 5632) (hq : q.val = 512 * j + k.val) : bo m c i (j + 1) (ix2 k d) = g5 m c (ix2 q d) := by
  have e := pt_val i (j + 1) hi (by omega)
  exact (read9 (V m c main_v3) (pt i (j + 1)) k d q d (by rw [e.2]; omega) (by omega)).trans ((congrFun (V_o m c) _).trans rfl)

end

end Cert.Ffn

end
-- ==== Proof.FfnRows.lean ====
/- What the kernel computes at a point, as parts of the result: rows of the product, of the activated half, of the output. -/
module

public import proofs.«01_k».proof.Proof.FfnBlocks

@[expose] public section

set_option maxRecDepth 16384

noncomputable section

namespace Cert.Ffn

open Idealize.ShloMosaic hiding ix1 ix2 ix3 ix4 ix5
open Idealize.ShloMosaic.ValueIdx Idealize.ShloMosaic.TcCoe
open Cert.Kernel2Ideal Cert.Kernel2Ideal.Gen

variable (m : (ℓ : Loc nD τ sig) → Buf (Elt Ideal) ℓ) (c : Dev nD)

/-- The batch and the row that row `r` of the row tile `i` stands for. -/
def bt (i : ℕ) : Fin 4 := ⟨i / 2 % 4, by omega⟩
def lr (i : ℕ) (r : Fin 1024) : Fin 2048 := ⟨1024 * (i % 2) + r.val, by omega⟩

abbrev U := uRow (g0 m c) (g1 m c) (g2 m c)
abbrev E := ext (g0 m c) (g1 m c) (g2 m c)
abbrev Act := actRow (g0 m c) (g1 m c) (g2 m c) (g3 m c) (g4 m c)
abbrev Y := yRow (g0 m c) (g1 m c) (g2 m c) (g3 m c) (g4 m c) (g5 m c)
abbrev Out := outRow (g0 m c) (g1 m c) (g2 m c) (g3 m c) (g4 m c) (g5 m c) (g6 m c)

theorem x_apply (i j : ℕ) (hi : i < 8) (hj : j < 12) (r : Fin 1024) (k : Fin 2048) : bx m c i j (ix2 r k) = g0 m c (ix3 (bt i) (lr i r) k) :=
  bx_apply m c i j hi hj r k (bt i) (lr i r) (by
    show 2048 * (i / 2 % 4) + (1024 * (i % 2) + r.val) = 1024 * i + r.val
    omega)

theorem H_apply (i : ℕ) (hi : i < 8) (r : Fin 1024) (k : Fin 2048) : H m c i (ix2 r k) = hRow (g0 m c) (g1 m c) (bt i) (lr i r) k := by
  unfold H
  refine (normed_apply _ _ r k).trans ?_
  simp only [x_apply m c i 0 hi (by decide), bn_apply]
  rfl

/-- A product of a row tile with a block of the weights. -/
theorem up_H (i : ℕ) (hi : i < 8) (w : Vec Ideal S2048x512 .bf16) (n : Fin 512) (q : Fin 11264) (hw : ∀ k, w (ix2 k n) = g2 m c (ix2 k q)) (r : Fin 1024) :
    up (H m c i) w (ix3 0 r n) = U m c (bt i) (lr i r) q := by
  refine (up_apply _ _ r n).trans ?_
  simp only [H_apply m c i hi, hw]
  rfl

/-- The product after the two rows carried from the tile before it. -/
theorem joined_ext (w : ℕ → Vec Ideal S2048x512 .bf16) (n : Fin 512) (q : Fin 11264) (hw : ∀ i < 8, ∀ k, w i (ix2 k n) = g2 m c (ix2 k q))
    (i : ℕ) (hi : i < 8) (s : ℕ) (hs : s < 1026) :
    joined (prev (BitVec.ofNat 32 i) (tail5 (up (H m c (i - 1)) (w (i - 1))))) (up (H m c i) (w i)) s hs n
      = E m c (bt i) (1024 * (i % 2) + s) q := by
  unfold joined
  by_cases h : s < 2
  · rw [dif_pos h]
    rcases Nat.mod_two_eq_zero_or_one i with h0 | h1
    · refine (prev_even ⟨i, hi⟩ h0 _ _ n).trans ?_
      unfold E ext
      rw [dif_neg (by omega)]
    · refine (prev_odd ⟨i, hi⟩ h1 _ ⟨s, h⟩ n).trans ((up_H m c (i - 1) (by omega) _ n q (hw (i - 1) (by omega)) _).trans ?_)
      unfold E ext
      rw [dif_pos (by omega)]
      have e1 : bt (i - 1) = bt i := Fin.ext (by show (i - 1) / 2 % 4 = i / 2 % 4; omega)
      have e2 : lr (i - 1) ⟨1022 + s, by omega⟩ = ⟨1024 * (i % 2) + s - 2, by omega⟩ :=
        Fin.ext (by show 1024 * ((i - 1) % 2) + (1022 + s) = 1024 * (i % 2) + s - 2; omega)
      rw [e1]
      exact congrArg (fun l => U m c (bt i) l q) e2
  · rw [dif_neg h]
    refine (up_H m c i hi _ n q (hw i hi) _).trans ?_
    unfold E ext
    rw [dif_pos (by omega)]
    have e2 : lr i ⟨s - 2, by omega⟩ = ⟨1024 * (i % 2) + s - 2, by omega⟩ :=
      Fin.ext (by show 1024 * (i % 2) + (s - 2) = 1024 * (i % 2) + s - 2; omega)
    exact congrArg (fun l => U m c (bt i) l q) e2

theorem A_apply (i : ℕ) (hi : i < 8) (j : ℕ) (hj : j < 11) (r : Fin 1024) (n : Fin 512) :
    A m c i j (ix3 0 r n) = Act m c (bt i) (lr i r) ⟨512 * j + n.val, by omega⟩ := by
  unfold A C1 C2
  refine (act_apply _ _ _ _ _ _ _ _ _ r n).trans ?_
  have E1 := fun s hs => joined_ext m c (fun i => bg m c i j) n ⟨512 * j + n.val, by omega⟩
    (fun i hi k => bg_apply m c i j hi hj k n _ rfl) i hi s hs
  have E2 := fun s hs => joined_ext m c (fun i => bu m c i j) n ⟨5632 + (512 * j + n.val), by omega⟩
    (fun i hi k => bu_apply m c i j hi hj k n _ rfl) i hi s hs
  rw [E1, E1, E1, E2, E2, E2]
  rw [bbg_apply m c i j hi hj n ⟨512 * j + n.val, by omega⟩ rfl, bbu_apply m c i j hi hj n ⟨5632 + (512 * j + n.val), by omega⟩ rfl]
  rw [bcg_apply m c i j hi hj 0 n ⟨512 * j + n.val, by omega⟩ rfl, bcg_apply m c i j hi hj 1 n ⟨512 * j + n.val, by omega⟩ rfl,
    bcg_apply m c i j hi hj 2 n ⟨512 * j + n.val, by omega⟩ rfl]
  rw [bcu_apply m c i j hi hj 0 n ⟨5632 + (512 * j + n.val), by omega⟩ rfl, bcu_apply m c i j hi hj 1 n ⟨5632 + (512 * j + n.val), by omega⟩ rfl,
    bcu_apply m c i j hi hj 2 n ⟨5632 + (512 * j + n.val), by omega⟩ rfl]
  rfl

/-- One term of the second product, zero past its length. -/
def term (b : Fin 4) (l d : Fin 2048) (q : ℕ) : EReal :=
  if h : q < 5632 then Act m c b l ⟨q, h⟩ * g5 m c (ix2 ⟨q, h⟩ d) else 0

theorem accum_term (i : ℕ) (hi : i < 8) (j : ℕ) (hj : j < 11) (r : Fin 1024) (d : Fin 2048) (o : Vec Ideal S1024x2048 .f32)
    (ho : o (ix2 r d) = ∑ q ∈ Finset.range (512 * j), term m c (bt i) (lr i r) d q) :
    accum o (A m c i j) (bo m c i (j + 1)) (ix2 r d) = ∑ q ∈ Finset.range (512 * (j + 1)), term m c (bt i) (lr i r) d q := by
  refine (accum_apply _ _ _ r d).trans ?_
  rw [ho, Nat.mul_add, Nat.mul_one, Finset.sum_range_add]
  refine congrArg (_ + ·) ?_
  rw [Finset.sum_range]
  refine Finset.sum_congr rfl fun k _ => ?_
  rw [A_apply m c i hi j hj r k, bo_apply m c i j hi hj k d ⟨512 * j + k.val, by omega⟩ rfl]
  unfold term
  rw [dif_pos (by omega)]

theorem O_apply (i : ℕ) (hi : i < 8) (r : Fin 1024) (d : Fin 2048) : ∀ j, j < 11 →
    O m c i j (ix2 r d) = ∑ q ∈ Finset.range (512 * j), term m c (bt i) (lr i r) d q
  | 0, _ => by
    show Ideal.ofBits .f32 0x00000000#32 = _
    rw [Nat.mul_zero, Finset.sum_range_zero]
    exact Ideal.ofBits_zero_f32
  | j + 1, h => accum_term m c i hi j (by omega) r d _ (O_apply i hi r d j (by omega))

theorem acc_apply (i : ℕ) (hi : i < 8) (r : Fin 1024) (d : Fin 2048) :
    accum (O m c i 10) (A m c i 10) (bo m c i 11) (ix2 r d) = Y m c (bt i) (lr i r) d := by
  refine (accum_term m c i hi 10 (by decide) r d _ (O_apply m c i hi r d 10 (by decide))).trans ?_
  rw [Finset.sum_range]
  unfold Y yRow
  refine Finset.sum_congr rfl fun k _ => ?_
  unfold term
  rw [dif_pos k.isLt]

theorem out_apply (i : ℕ) (hi : i < 8) (r : Fin 1024) (d : Fin 2048) : out m c i 11 (ix2 r d) = Out m c (bt i) (lr i r) d := by
  rw [out_last]
  refine (final_apply _ _ _ _ _ r d).trans ?_
  simp only [acc_apply m c i hi]
  rw [x_apply m c i 11 hi (by decide), bn2_apply]
  rfl

theorem T1_apply (i : ℕ) (hi : i < 8) (j : ℕ) (hj : j < 11) (r : Fin 2) (n : Fin 512) :
    T1 m c i j (ix3 0 r n) = U m c (bt i) (lr i ⟨1022 + r.val, by omega⟩) ⟨512 * j + n.val, by omega⟩ :=
  (tail_apply _ r n).trans (up_H m c i hi _ n _ (fun k => bg_apply m c i j hi hj k n _ rfl) _)

theorem T2_apply (i : ℕ) (hi : i < 8) (j : ℕ) (hj : j < 11) (r : Fin 2) (n : Fin 512) :
    T2 m c i j (ix3 0 r n) = U m c (bt i) (lr i ⟨1022 + r.val, by omega⟩) ⟨5632 + (512 * j + n.val), by omega⟩ :=
  (tail_apply _ r n).trans (up_H m c i hi _ n _ (fun k => bu_apply m c i j hi hj k n _ rfl) _)

end Cert.Ffn

end
-- ==== Proof.FfnKernelValue.lean ====
/- What the feed-forward kernel leaves in its two results, at an index. -/
module

public import proofs.«01_k».proof.Proof.FfnRows
public import proofs.«01_k».proof.Proof.FfnBody

@[expose] public section

set_option maxRecDepth 16384

noncomputable section

namespace Cert.Ffn

open Idealize.ShloMosaic hiding ix1 ix2 ix3 ix4 ix5
open Idealize.ShloMosaic.ValueIdx Idealize.ShloMosaic.TcCoe Idealize.SL.Sem
open Idealize.ShloMosaic.Pipeline (Dat)
open Cert.Kernel2Ideal Cert.Kernel2Ideal.Gen

section
variable (a0 : FVec Ideal S4x2048x2048 .f32) (a1 : FVec Ideal S2048 .f32) (a2 : FVec Ideal S2048x11264 .f32)
  (a3 : FVec Ideal S3x11264 .f32) (a4 : FVec Ideal S11264 .f32) (a5 : FVec Ideal S5632x2048 .f32) (a6 : FVec Ideal S2048 .f32)

/-- The two results. -/
def outV : FVec Ideal S4x2048x2048 .f32 := fun i => outRow a0 a1 a2 a3 a4 a5 a6 (i 0) (i 1) (i 2)
def tailRow (b : Fin 4) (r : Fin 2) (q : Fin 11264) : EReal := uRow a0 a1 a2 b ⟨2046 + r.val, by omega⟩ q
def tailV : FVec Ideal S4x2x11264 .f32 := fun i => tailRow a0 a1 a2 (i 0) (i 1) (i 2)

end

variable (m : (ℓ : Loc nD τ sig) → Buf (Elt Ideal) ℓ) (ρ : Dev nD → PrngReg) (c : Dev nD)

theorem index10 : ∀ t : Fin grid0.N, win0_10.index t 0 = t.val / 12 ∧ win0_10.index t 1 = 0 := by decide +kernel
theorem index11 : ∀ t : Fin grid0.N, win0_11.index t 0 = t.val / 12 ∧ win0_11.index t 1 = 0 ∧ win0_11.index t 2 = min (t.val % 12) 10 := by decide +kernel
theorem index12 : ∀ t : Fin grid0.N, win0_12.index t 0 = t.val / 12 ∧ win0_12.index t 1 = 0 ∧ win0_12.index t 2 = min (t.val % 12) 10 := by decide +kernel

theorem N96 : cfg0.N = 96 := rfl

theorem t_lt (t : Fin cfg0.N) : t.val / 12 < 8 := by
  have : t.val < 96 := t.isLt.trans_eq N96
  omega

/-- The output array: the row tiles one below the other. -/
def oArr : FVec Ideal S8192x2048 .f32 := fun i =>
  Out m c ⟨(i 0).val / 2048, by have h : (i 0).val < 8192 := (i 0).isLt; omega⟩ ⟨(i 0).val % 2048, by omega⟩ (i 1)
/-- The last two rows of a row tile, columns from `o`. -/
def tArr (o : ℕ) (ho : o + 5632 ≤ 11264) : FVec Ideal S8x2x5632 .f32 := fun i =>
  U m c (bt (i 0).val) (lr (i 0).val ⟨1022 + (i 1).val, by have h : (i 1).val < 2 := (i 1).isLt; omega⟩) ⟨o + (i 2).val, by have h : (i 2).val < 5632 := (i 2).isLt; omega⟩

theorem flushed10 (t : Fin cfg0.N) (ht : (cfg0.win 10).flush t = true) :
    (dats m 0 c).flushed 10 t = ((cfg0.win 10).blk t).view.read (Elt Ideal) (oArr m c) := by
  have h11 := (flush0_10 t).1 ht
  have hi := t_lt t
  show (cfg0.win 10).cut (grid0.coords t) ((dats m 0 c).after 10 t) = _
  rw [after0_10, h11]
  funext y
  obtain ⟨r, e, rfl⟩ : ∃ (r : Fin 1024) (e : Fin 2048), y = ix2 r e := ⟨y 0, y 1, ValueIdx.eq_ix2 (n0 := 1024) (n1 := 2048) y⟩
  refine (out_apply m c (t.val / 12) hi r e).trans ?_
  have hR : 1024 * (t.val / 12) + r.val < 8192 := by omega
  have e0 : (win0_10.rect t).emb (ix2 r e) = (ix2 ⟨_, hR⟩ e : S8192x2048.Idx) := by
    refine funext fun a => Fin.ext ((win0_10.rect_emb_val t _ a).trans ?_)
    match a with
    | ⟨0, _⟩ => show win0_10.index t 0 * 1024 + r.val = 1024 * (t.val / 12) + r.val; rw [(index10 t).1]; omega
    | ⟨1, _⟩ => show win0_10.index t 1 * 2048 + e.val = e.val; rw [(index10 t).2]; omega
  refine Eq.trans ?_ (congrArg (oArr m c) e0).symm
  show _ = Out m c ⟨(1024 * (t.val / 12) + r.val) / 2048, _⟩ ⟨(1024 * (t.val / 12) + r.val) % 2048, _⟩ e
  have e1 : bt (t.val / 12) = ⟨(1024 * (t.val / 12) + r.val) / 2048, by omega⟩ := Fin.ext (by
    show t.val / 12 / 2 % 4 = (1024 * (t.val / 12) + r.val) / 2048; omega)
  have e2 : lr (t.val / 12) r = ⟨(1024 * (t.val / 12) + r.val) % 2048, by omega⟩ := Fin.ext (by
    show 1024 * (t.val / 12 % 2) + r.val = (1024 * (t.val / 12) + r.val) % 2048; omega)
  rw [e1, e2]

theorem cover10 (i : S8192x2048.Idx) : ∃ t : Fin cfg0.N, (cfg0.win 10).flush t = true ∧ i ∈ ((cfg0.win 10).blk t).view.set := by
  have h0 : (i 0 : ℕ) < 8192 := (i 0).isLt
  have h1 : (i 1 : ℕ) < 2048 := (i 1).isLt
  have ht : 12 * ((i 0).val / 1024) + 11 < cfg0.N := by rw [N96]; omega
  refine ⟨⟨_, ht⟩, (flush0_10 _).2 (by show (12 * ((i 0).val / 1024) + 11) % 12 = 11; omega), ?_⟩
  show i ∈ ((View.whole main_v6_0).slice (win0_10.rect ⟨_, ht⟩)).set
  rw [View.set_slice_whole, Rect.mem_set_unit]
  have e := index10 ⟨_, ht⟩
  have x : ∀ t : Fin grid0.N, win0_10.xsize (grid0.coords t) 0 = 1024 ∧ win0_10.xsize (grid0.coords t) 1 = 2048 := by decide +kernel
  intro a
  match a with
  | ⟨0, _⟩ =>
    show win0_10.index ⟨_, ht⟩ 0 * 1024 ≤ (i 0 : Nat) ∧ (i 0 : Nat) < win0_10.index ⟨_, ht⟩ 0 * 1024 + win0_10.xsize (grid0.coords ⟨_, ht⟩) 0
    rw [e.1, (x _).1]
    show (12 * ((i 0).val / 1024) + 11) / 12 * 1024 ≤ _ ∧ _ < (12 * ((i 0).val / 1024) + 11) / 12 * 1024 + 1024
    omega
  | ⟨1, _⟩ =>
    show win0_10.index ⟨_, ht⟩ 1 * 2048 ≤ (i 1 : Nat) ∧ (i 1 : Nat) < win0_10.index ⟨_, ht⟩ 1 * 2048 + win0_10.xsize (grid0.coords ⟨_, ht⟩) 1
    rw [e.2, (x _).2]
    omega

theorem final10 : (dats m 0 c).arrAt 10 cfg0.N = oArr m c :=
  (dats m 0 c).arrAt_eq_of_cover 10 _ (fun t ht => flushed10 m c t ht) cover10

theorem flushed11 (t : Fin cfg0.N) : (dats m 0 c).flushed 11 t = ((cfg0.win 11).blk t).view.read (Elt Ideal) (tArr m c 0 (by decide)) := by
  have hi := t_lt t
  show (cfg0.win 11).cut (grid0.coords t) ((dats m 0 c).after 11 t) = _
  rw [after0_11]
  funext y
  obtain ⟨z, r, n, rfl⟩ : ∃ (z : Fin 1) (r : Fin 2) (n : Fin 512), y = ix3 z r n := ⟨y 0, y 1, y 2, ValueIdx.eq_ix3 (n0 := 1) (n1 := 2) (n2 := 512) y⟩
  obtain rfl : z = 0 := Subsingleton.elim _ _
  refine (T1_apply m c (t.val / 12) hi (min (t.val % 12) 10) (by omega) r n).trans ?_
  have hC : 512 * min (t.val % 12) 10 + n.val < 5632 := by omega
  have e0 : (win0_11.rect t).emb (ix3 0 r n) = (ix3 ⟨_, hi⟩ r ⟨_, hC⟩ : S8x2x5632.Idx) := by
    refine funext fun a => Fin.ext ((win0_11.rect_emb_val t _ a).trans ?_)
    match a with
    | ⟨0, _⟩ => show win0_11.index t 0 * 1 + 0 = t.val / 12; rw [(index11 t).1]; omega
    | ⟨1, _⟩ => show win0_11.index t 1 * 2 + r.val = r.val; rw [(index11 t).2.1]; omega
    | ⟨2, _⟩ => show win0_11.index t 2 * 512 + n.val = 512 * min (t.val % 12) 10 + n.val; rw [(index11 t).2.2]; omega
  refine Eq.trans ?_ (congrArg (tArr m c 0 (by decide)) e0).symm
  refine congrArg (U m c (bt (t.val / 12)) (lr (t.val / 12) ⟨1022 + r.val, by omega⟩)) (Fin.ext ?_)
  show 512 * min (t.val % 12) 10 + n.val = 0 + (512 * min (t.val % 12) 10 + n.val)
  omega

theorem cover11 (i : S8x2x5632.Idx) : ∃ t : Fin cfg0.N, (cfg0.win 11).flush t = true ∧ i ∈ ((cfg0.win 11).blk t).view.set := by
  have h0 : (i 0 : ℕ) < 8 := (i 0).isLt
  have h1 : (i 1 : ℕ) < 2 := (i 1).isLt
  have h2 : (i 2 : ℕ) < 5632 := (i 2).isLt
  obtain ⟨j, hj, hj10, hm⟩ : ∃ j < 12, j ≠ 10 ∧ min j 10 = (i 2).val / 512 := by
    by_cases h : (i 2).val / 512 = 10
    · exact ⟨11, by decide, by decide, by rw [h]; rfl⟩
    · exact ⟨(i 2).val / 512, by omega, h, by omega⟩
  have ht : 12 * (i 0).val + j < cfg0.N := by rw [N96]; omega
  refine ⟨⟨_, ht⟩, (flush11 ⟨_, ht⟩).2 (by show (12 * (i 0).val + j) % 12 ≠ 10; omega), ?_⟩
  show i ∈ ((View.whole main_v6_1).slice (win0_11.rect ⟨_, ht⟩)).set
  rw [View.set_slice_whole, Rect.mem_set_unit]
  have e := index11 ⟨_, ht⟩
  have x : ∀ t : Fin grid0.N, win0_11.xsize (grid0.coords t) 0 = 1 ∧ win0_11.xsize (grid0.coords t) 1 = 2 ∧ win0_11.xsize (grid0.coords t) 2 = 512 := by decide +kernel
  intro a
  match a with
  | ⟨0, _⟩ =>
    show win0_11.index ⟨_, ht⟩ 0 * 1 ≤ (i 0 : Nat) ∧ (i 0 : Nat) < win0_11.index ⟨_, ht⟩ 0 * 1 + win0_11.xsize (grid0.coords ⟨_, ht⟩) 0
    rw [e.1, (x _).1]
    show (12 * (i 0).val + j) / 12 * 1 ≤ _ ∧ _ < (12 * (i 0).val + j) / 12 * 1 + 1
    omega
  | ⟨1, _⟩ =>
    show win0_11.index ⟨_, ht⟩ 1 * 2 ≤ (i 1 : Nat) ∧ (i 1 : Nat) < win0_11.index ⟨_, ht⟩ 1 * 2 + win0_11.xsize (grid0.coords ⟨_, ht⟩) 1
    rw [e.2.1, (x _).2.1]
    omega
  | ⟨2, _⟩ =>
    show win0_11.index ⟨_, ht⟩ 2 * 512 ≤ (i 2 : Nat) ∧ (i 2 : Nat) < win0_11.index ⟨_, ht⟩ 2 * 512 + win0_11.xsize (grid0.coords ⟨_, ht⟩) 2
    rw [e.2.2, (x _).2.2]
    show min ((12 * (i 0).val + j) % 12) 10 * 512 ≤ _ ∧ _ < min ((12 * (i 0).val + j) % 12) 10 * 512 + 512
    have : (12 * (i 0).val + j) % 12 = j := by omega
    rw [this, hm]
    omega

theorem final11 : (dats m 0 c).arrAt 11 cfg0.N = tArr m c 0 (by decide) :=
  (dats m 0 c).arrAt_eq_of_cover 11 _ (fun t _ => flushed11 m c t) cover11

theorem flushed12 (t : Fin cfg0.N) : (dats m 0 c).flushed 12 t = ((cfg0.win 12).blk t).view.read (Elt Ideal) (tArr m c 5632 (by decide)) := by
  have hi := t_lt t
  show (cfg0.win 12).cut (grid0.coords t) ((dats m 0 c).after 12 t) = _
  rw [after0_12]
  funext y
  obtain ⟨z, r, n, rfl⟩ : ∃ (z : Fin 1) (r : Fin 2) (n : Fin 512), y = ix3 z r n := ⟨y 0, y 1, y 2, ValueIdx.eq_ix3 (n0 := 1) (n1 := 2) (n2 := 512) y⟩
  obtain rfl : z = 0 := Subsingleton.elim _ _
  refine (T2_apply m c (t.val / 12) hi (min (t.val % 12) 10) (by omega) r n).trans ?_
  have hC : 512 * min (t.val % 12) 10 + n.val < 5632 := by omega
  have e0 : (win0_12.rect t).emb (ix3 0 r n) = (ix3 ⟨_, hi⟩ r ⟨_, hC⟩ : S8x2x5632.Idx) := by
    refine funext fun a => Fin.ext ((win0_12.rect_emb_val t _ a).trans ?_)
    match a with
    | ⟨0, _⟩ => show win0_12.index t 0 * 1 + 0 = t.val / 12; rw [(index12 t).1]; omega
    | ⟨1, _⟩ => show win0_12.index t 1 * 2 + r.val = r.val; rw [(index12 t).2.1]; omega
    | ⟨2, _⟩ => show win0_12.index t 2 * 512 + n.val = 512 * min (t.val % 12) 10 + n.val; rw [(index12 t).2.2]; omega
  refine Eq.trans ?_ (congrArg (tArr m c 5632 (by decide)) e0).symm
  refine congrArg (U m c (bt (t.val / 12)) (lr (t.val / 12) ⟨1022 + r.val, by omega⟩)) (Fin.ext ?_)
  rfl

theorem cover12 (i : S8x2x5632.Idx) : ∃ t : Fin cfg0.N, (cfg0.win 12).flush t = true ∧ i ∈ ((cfg0.win 12).blk t).view.set := by
  have h0 : (i 0 : ℕ) < 8 := (i 0).isLt
  have h1 : (i 1 : ℕ) < 2 := (i 1).isLt
  have h2 : (i 2 : ℕ) < 5632 := (i 2).isLt
  obtain ⟨j, hj, hj10, hm⟩ : ∃ j < 12, j ≠ 10 ∧ min j 10 = (i 2).val / 512 := by
    by_cases h : (i 2).val / 512 = 10
    · exact ⟨11, by decide, by decide, by rw [h]; rfl⟩
    · exact ⟨(i 2).val / 512, by omega, h, by omega⟩
  have ht : 12 * (i 0).val + j < cfg0.N := by rw [N96]; omega
  refine ⟨⟨_, ht⟩, (flush12 ⟨_, ht⟩).2 (by show (12 * (i 0).val + j) % 12 ≠ 10; omega), ?_⟩
  show i ∈ ((View.whole main_v6_2).slice (win0_12.rect ⟨_, ht⟩)).set
  rw [View.set_slice_whole, Rect.mem_set_unit]
  have e := index12 ⟨_, ht⟩
  have x : ∀ t : Fin grid0.N, win0_12.xsize (grid0.coords t) 0 = 1 ∧ win0_12.xsize (grid0.coords t) 1 = 2 ∧ win0_12.xsize (grid0.coords t) 2 = 512 := by decide +kernel
  intro a
  match a with
  | ⟨0, _⟩ =>
    show win0_12.index ⟨_, ht⟩ 0 * 1 ≤ (i 0 : Nat) ∧ (i 0 : Nat) < win0_12.index ⟨_, ht⟩ 0 * 1 + win0_12.xsize (grid0.coords ⟨_, ht⟩) 0
    rw [e.1, (x _).1]
    show (12 * (i 0).val + j) / 12 * 1 ≤ _ ∧ _ < (12 * (i 0).val + j) / 12 * 1 + 1
    omega
  | ⟨1, _⟩ =>
    show win0_12.index ⟨_, ht⟩ 1 * 2 ≤ (i 1 : Nat) ∧ (i 1 : Nat) < win0_12.index ⟨_, ht⟩ 1 * 2 + win0_12.xsize (grid0.coords ⟨_, ht⟩) 1
    rw [e.2.1, (x _).2.1]
    omega
  | ⟨2, _⟩ =>
    show win0_12.index ⟨_, ht⟩ 2 * 512 ≤ (i 2 : Nat) ∧ (i 2 : Nat) < win0_12.index ⟨_, ht⟩ 2 * 512 + win0_12.xsize (grid0.coords ⟨_, ht⟩) 2
    rw [e.2.2, (x _).2.2]
    show min ((12 * (i 0).val + j) % 12) 10 * 512 ≤ _ ∧ _ < min ((12 * (i 0).val + j) % 12) 10 * 512 + 512
    have : (12 * (i 0).val + j) % 12 = j := by omega
    rw [this, hm]
    omega

theorem final12 : (dats m 0 c).arrAt 12 cfg0.N = tArr m c 5632 (by decide) :=
  (dats m 0 c).arrAt_eq_of_cover 12 _ (fun t _ => flushed12 m c t) cover12

/-! ## The host lines after it -/

theorem after11 (W : Valuation τ sig (Elt Ideal)) : StableHlo.after (List.flatten [hostOps1]) W (Proc.devRef .tc main_v11)
    = shapeCast S4x2048x2048 (W (Proc.devRef .tc main_v6_0) : FVec Ideal S8192x2048 .f32) shapeCasts_S8192x2048_S4x2048x2048 := by
  after_reads_simp
  rfl

/-- The second tiles' last rows, of two arrays side by side. -/
def tailOf (x z : FVec Ideal S8x2x5632 .f32) : FVec Ideal S4x2x11264 .f32 :=
  shapeCast S4x2x11264 (extractStridedSlice S4x1x2x11264 ![0, 1, 0, 0]
    (shapeCast S4x2x2x11264 (concatenate S8x2x11264 2 [⟨S8x2x5632, x⟩, ⟨S8x2x5632, z⟩] concatenates_S8x2x5632_S8x2x5632_S8x2x11264_d2)
      shapeCasts_S8x2x11264_S4x2x2x11264) slices_S4x2x2x11264_S4x1x2x11264_0_1_0_0) shapeCasts_S4x1x2x11264_S4x2x11264

theorem after10 (W : Valuation τ sig (Elt Ideal)) : StableHlo.after (List.flatten [hostOps1]) W (Proc.devRef .tc main_v10)
    = tailOf (W (Proc.devRef .tc main_v6_1)) (W (Proc.devRef .tc main_v6_2)) := by
  after_reads_simp
  rfl

/-- The valuation the later lines start from holds the output arrays. -/
theorem exit_arr (w : Fin cfg0.W) (hw : w = 10 ∨ w = 11 ∨ w = 12) :
    Pipeline.withArrays cfg0.spec c (V0 m c) (fun w => (dats m 0 c).arrAt w cfg0.N) (Proc.devRef .tc (Pipeline.arrRef cfg0.spec w))
      = (dats m 0 c).arrAt w cfg0.N := by
  refine Pipeline.withArrays_arr_shared cfg0.spec c (V0 m c) _ (fun u v hne e => ?_) w
  exact (dats m 0 c).arrAt_sharedIn launch₀0.sharedIn (V0 m c) (fun w => A_eq m c w) cfg0.N u v hne e

theorem result11 : Pipeline.afterTail₀ cfgs (dats m) 0 (V0 m) [hostOps1] c main_v11
    = outV (g0 m c) (g1 m c) (g2 m c) (g3 m c) (g4 m c) (g5 m c) (g6 m c) := by
  unfold Pipeline.afterTail₀
  refine (after11 _).trans ?_
  have e : (Pipeline.withArrays cfg0.spec c (V0 m c) (fun w => (dats m 0 c).arrAt w cfg0.N) (Proc.devRef .tc main_v6_0) : FVec Ideal S8192x2048 .f32) = oArr m c :=
    (exit_arr m c 10 (.inl rfl)).trans (final10 m c)
  refine (congrArg (fun x : FVec Ideal S8192x2048 .f32 => shapeCast S4x2048x2048 x shapeCasts_S8192x2048_S4x2048x2048) e).trans ?_
  funext y
  obtain ⟨b, l, d, rfl⟩ : ∃ (b : Fin 4) (l d : Fin 2048), y = ix3 b l d := ⟨y 0, y 1, y 2, ValueIdx.eq_ix3 (n0 := 4) (n1 := 2048) (n2 := 2048) y⟩
  have hR : 2048 * b.val + l.val < 8192 := by omega
  refine (shapeCast_apply _ _ (ix3 b l d) (ix2 ⟨_, hR⟩ d) (by
    rw [Shape.rowMajor_val_two, Shape.rowMajor_val_three]
    show (2048 * b.val + l.val) * 2048 + d.val = (b.val * 2048 + l.val) * 2048 + d.val
    omega)).trans ?_
  have e1 : (⟨(2048 * b.val + l.val) / 2048, by omega⟩ : Fin 4) = b := Fin.ext (by show (2048 * b.val + l.val) / 2048 = b.val; omega)
  have e2 : (⟨(2048 * b.val + l.val) % 2048, by omega⟩ : Fin 2048) = l := Fin.ext (by show (2048 * b.val + l.val) % 2048 = l.val; omega)
  show Out m c ⟨(2048 * b.val + l.val) / 2048, _⟩ ⟨(2048 * b.val + l.val) % 2048, _⟩ d = Out m c b l d
  rw [e1, e2]

theorem result10 : Pipeline.afterTail₀ cfgs (dats m) 0 (V0 m) [hostOps1] c main_v10 = tailV (g0 m c) (g1 m c) (g2 m c) := by
  unfold Pipeline.afterTail₀
  refine (after10 _).trans ?_
  have e1 : (Pipeline.withArrays cfg0.spec c (V0 m c) (fun w => (dats m 0 c).arrAt w cfg0.N) (Proc.devRef .tc main_v6_1) : FVec Ideal S8x2x5632 .f32) = tArr m c 0 (by decide) :=
    (exit_arr m c 11 (.inr (.inl rfl))).trans (final11 m c)
  have e2 : (Pipeline.withArrays cfg0.spec c (V0 m c) (fun w => (dats m 0 c).arrAt w cfg0.N) (Proc.devRef .tc main_v6_2) : FVec Ideal S8x2x5632 .f32) = tArr m c 5632 (by decide) :=
    (exit_arr m c 12 (.inr (.inr rfl))).trans (final12 m c)
  refine (congrArg₂ tailOf e1 e2).trans ?_
  unfold tailOf
  funext y
  obtain ⟨b, r, q, rfl⟩ : ∃ (b : Fin 4) (r : Fin 2) (q : Fin 11264), y = ix3 b r q := ⟨y 0, y 1, y 2, ValueIdx.eq_ix3 (n0 := 4) (n1 := 2) (n2 := 11264) y⟩
  refine (shapeCast_apply _ _ (ix3 b r q) (ix4 b (0 : Fin 1) r q) (by
    rw [Shape.rowMajor_val_four, Shape.rowMajor_val_three]
    show ((b.val * 1 + 0) * 2 + r.val) * 11264 + q.val = (b.val * 2 + r.val) * 11264 + q.val
    omega)).trans ?_
  refine (extractStridedSlice_apply _ _ _ _ (ix4 b (1 : Fin 2) r q) fun a => match a with
    | ⟨0, _⟩ => by show b.val = 0 + b.val; omega
    | ⟨1, _⟩ => rfl
    | ⟨2, _⟩ => by show r.val = 0 + r.val; omega
    | ⟨3, _⟩ => by show q.val = 0 + q.val; omega).trans ?_
  have hI : 2 * b.val + 1 < 8 := by omega
  refine (shapeCast_apply _ _ (ix4 b (1 : Fin 2) r q) (ix3 ⟨_, hI⟩ r q) (by
    rw [Shape.rowMajor_val_four, Shape.rowMajor_val_three]
    show ((2 * b.val + 1) * 2 + r.val) * 11264 + q.val = ((b.val * 2 + 1) * 2 + r.val) * 11264 + q.val
    omega)).trans ?_
  have e3 : bt (2 * b.val + 1) = b := Fin.ext (by show (2 * b.val + 1) / 2 % 4 = b.val; omega)
  have e4 : lr (2 * b.val + 1) ⟨1022 + r.val, by omega⟩ = ⟨2046 + r.val, by omega⟩ :=
    Fin.ext (by show 1024 * ((2 * b.val + 1) % 2) + (1022 + r.val) = 2046 + r.val; omega)
  show _ = U m c b ⟨2046 + r.val, _⟩ q
  rw [← e4]
  by_cases h : q.val < 5632
  · refine (concatenate_pair_apply_left (s₁ := S8x2x5632) _ (tArr m c 0 (by decide)) _ _ (ix3 ⟨_, hI⟩ r q) rfl (ix3 ⟨_, hI⟩ r (⟨q.val, h⟩ : Fin 5632)) fun a => match a with
      | ⟨0, _⟩ => rfl
      | ⟨1, _⟩ => rfl
      | ⟨2, _⟩ => rfl).trans ?_
    show U m c (bt (2 * b.val + 1)) (lr (2 * b.val + 1) _) ⟨0 + q.val, _⟩ = _
    rw [e3]
    exact congrArg (U m c b _) (Fin.ext (by show 0 + q.val = q.val; omega))
  · refine (concatenate_pair_apply_right (s₁ := S8x2x5632) (s₂ := S8x2x5632) _ (tArr m c 0 (by decide)) _ _ (ix3 ⟨_, hI⟩ r q) rfl rfl (ix3 ⟨_, hI⟩ r (⟨q.val - 5632, by omega⟩ : Fin 5632)) (fun a ha => ?_) ?_).trans ?_
    · match a with
      | ⟨0, _⟩ => rfl
      | ⟨1, _⟩ => rfl
      | ⟨2, _⟩ => exact absurd rfl ha
    · show q.val - 5632 + 5632 = q.val
      omega
    · show U m c (bt (2 * b.val + 1)) (lr (2 * b.val + 1) _) ⟨5632 + (q.val - 5632), _⟩ = _
      rw [e3]
      exact congrArg (U m c b _) (Fin.ext (by show 5632 + (q.val - 5632) = q.val; omega))

theorem kernelRun : θ_run defs (onTc (τ := τ) (main (F := Ideal))) ⟨m, fun _ => 0, ρ⟩ (fun r => ∀ c : Dev nD,
      r.2.mem ((c.tc : Thread nD τ).loc main_v11) = outV (g0 m c) (g1 m c) (g2 m c) (g3 m c) (g4 m c) (g5 m c) (g6 m c)
      ∧ r.2.mem ((c.tc : Thread nD τ).loc main_v10) = tailV (g0 m c) (g1 m c) (g2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1.1 c |>.2 main_v11 (Pipeline.mem_restRefs_of main_v11 (by decide) (by decide))).trans (result11 m c),
    (h.1.1 c |>.2 main_v10 (Pipeline.mem_restRefs_of main_v10 (by decide) (by decide))).trans (result10 m c), h.2.1 c⟩)
    (θ_run_and (run_main m ρ) (frame m ρ))

end Cert.Ffn

end
-- ==== Proof.FfnRefValue.lean ====
/- The feed-forward's reference at an index: the rows of the result as mathematics. -/
module

public import proofs.«01_k».proof.Proof.FfnKernelValue
public import proofs.«01_k».proof.Proof.Gen.Reference2Ideal.Read

@[expose] public section

set_option maxRecDepth 16384

noncomputable section

namespace Cert.Ffn

open Idealize.ShloMosaic hiding ix1 ix2 ix3 ix4 ix5
open Idealize.ShloMosaic.ValueIdx Idealize.ShloMosaic.TcCoe
open Cert.Reference2Ideal Cert.Reference2Ideal.Gen Cert.Reference2Ideal.Read

variable (x0 : FVec Ideal S4x2048x2048 .f32) (x1 : FVec Ideal S2048 .f32) (x2 : FVec Ideal S2048x11264 .f32)
  (x3 : FVec Ideal S3x11264 .f32) (x4 : FVec Ideal S11264 .f32) (x5 : FVec Ideal S5632x2048 .f32) (x6 : FVec Ideal S2048 .f32)

/-! ## The normed rows -/

theorem ref_rms (b : Fin 4) (l : Fin 2048) : val_main_v7 (F := Ideal) x0 (ix3 b l 0) = rms (fun k => x0 (ix3 b l k)) := by
  rw [val_main_v7_apply, val_main_v6_apply, val_main_v4_apply, val_main_v5_apply, val_main_v3_apply, val_main_v2_apply, val_main_v1_apply]
  rw [Ideal.hostUnary_rsqrt_def, Ideal.hostDivf_def]
  have e : (val_main_cst (F := Ideal)) (Shape.Idx.first h_S_) = (0 : EReal) := Ideal.ofBits_zero_f32
  rw [e, zero_add]
  unfold rms
  refine congrArg (fun s : EReal => Ideal.rsqrt (Ideal.div s _ + _)) (Finset.sum_congr rfl fun k _ => ?_)
  have ek : idx_main_v1 (idx_main_v2 (ix3 b l 0)) k = ix3 b l k := by
    funext a
    match a with
    | ⟨0, _⟩ => rfl
    | ⟨1, _⟩ => rfl
    | ⟨2, _⟩ => rfl
  rw [ek]
  rfl

theorem ref_h (b : Fin 4) (l k : Fin 2048) : val_main_v12 (F := Ideal) x0 x1 (ix3 b l k) = hRow x0 x1 b l k := by
  rw [val_main_v12_apply, val_main_v9_apply, val_main_v8_apply, val_main_v11_apply, val_main_v10_apply]
  have e8 : idx_main_v8 (ix3 b l k) = ix3 b l 0 := by
    funext a
    match a with
    | ⟨0, _⟩ => rfl
    | ⟨1, _⟩ => rfl
    | ⟨2, _⟩ => rfl
  have e10 : idx_main_v10 (idx_main_v11 (ix3 b l k)) = ix1 k := by
    funext a
    match a with
    | ⟨0, _⟩ => rfl
  rw [e8, e10, ref_rms]
  rfl

/-! ## The products, two rows of zeros before them -/

theorem ref_u (b : Fin 4) (l : Fin 2048) (q : Fin 11264) : val_main_v14 (F := Ideal) x0 x1 x2 (ix3 b l q) = uRow x0 x1 x2 b l q := by
  rw [val_main_v14_apply]
  unfold uRow
  refine Finset.sum_congr rfl fun k _ => ?_
  have el : lidx_main_v14 (ix3 b l q) k = ix3 b l k := by
    funext a
    match a with
    | ⟨0, _⟩ => rfl
    | ⟨1, _⟩ => rfl
    | ⟨2, _⟩ => rfl
  have er : ridx_main_v14 (ix3 b l q) k = ix2 k q := by
    funext a
    match a with
    | ⟨0, _⟩ => rfl
    | ⟨1, _⟩ => rfl
  rw [el, er, ref_h]

theorem ref_ext (b : Fin 4) (s : Fin 2050) (q : Fin 11264) : val_main_v15 (F := Ideal) x0 x1 x2 (ix3 b s q) = ext x0 x1 x2 b s.val q := by
  unfold val_main_v15 ext
  by_cases h : s.val < 2
  · rw [dif_neg (by omega)]
    refine (concatenate_pair_apply_left (s₁ := S4x2x11264) _ (val_main_v13 (F := Ideal)) _ _ (ix3 b s q) rfl (ix3 b (⟨s.val, h⟩ : Fin 2) q) fun a => match a with
      | ⟨0, _⟩ => rfl
      | ⟨1, _⟩ => rfl
      | ⟨2, _⟩ => rfl).trans ?_
    rw [val_main_v13_apply]
    exact Ideal.ofBits_zero_f32
  · rw [dif_pos (by omega)]
    refine (concatenate_pair_apply_right (s₁ := S4x2x11264) (s₂ := S4x2048x11264) _ (val_main_v13 (F := Ideal)) _ _ (ix3 b s q) rfl rfl (ix3 b (⟨s.val - 2, by omega⟩ : Fin 2048) q) (fun a ha => ?_) ?_).trans ?_
    · match a with
      | ⟨0, _⟩ => rfl
      | ⟨1, _⟩ => exact absurd rfl ha
      | ⟨2, _⟩ => rfl
    · show s.val - 2 + 2 = s.val
      omega
    · exact ref_u x0 x1 x2 b _ q

/-! ## The convolution -/

theorem ref_ext0 (b : Fin 4) (l : Fin 2048) (q : Fin 11264) : val_main_v18 (F := Ideal) x0 x1 x2 (ix3 b l q) = ext x0 x1 x2 b (l.val) q := by
  rw [val_main_v18_apply]
  have e : idx_main_v18 (ix3 b l q) = ix3 b (⟨l.val, by omega⟩ : Fin 2050) q := by
    funext a
    match a with
    | ⟨0, _⟩ => exact Fin.ext (by first | rfl | (show 0 + b.val = b.val; omega))
    | ⟨1, _⟩ => exact Fin.ext (by first | rfl | (show 0 + l.val = l.val; omega))
    | ⟨2, _⟩ => exact Fin.ext (by first | rfl | (show 0 + q.val = q.val; omega))
  rw [e]
  exact ref_ext x0 x1 x2 b _ q

theorem ref_ext1 (b : Fin 4) (l : Fin 2048) (q : Fin 11264) : val_main_v27 (F := Ideal) x0 x1 x2 (ix3 b l q) = ext x0 x1 x2 b (l.val + 1) q := by
  rw [val_main_v27_apply]
  have e : idx_main_v27 (ix3 b l q) = ix3 b (⟨l.val + 1, by omega⟩ : Fin 2050) q := by
    funext a
    match a with
    | ⟨0, _⟩ => exact Fin.ext (by first | rfl | (show 0 + b.val = b.val; omega))
    | ⟨1, _⟩ => exact Fin.ext (by first | rfl | (show 1 + l.val = l.val + 1; omega))
    | ⟨2, _⟩ => exact Fin.ext (by first | rfl | (show 0 + q.val = q.val; omega))
  rw [e]
  exact ref_ext x0 x1 x2 b _ q

theorem ref_ext2 (b : Fin 4) (l : Fin 2048) (q : Fin 11264) : val_main_v34 (F := Ideal) x0 x1 x2 (ix3 b l q) = ext x0 x1 x2 b (l.val + 2) q := by
  rw [val_main_v34_apply]
  have e : idx_main_v34 (ix3 b l q) = ix3 b (⟨l.val + 2, by omega⟩ : Fin 2050) q := by
    funext a
    match a with
    | ⟨0, _⟩ => exact Fin.ext (by first | rfl | (show 0 + b.val = b.val; omega))
    | ⟨1, _⟩ => exact Fin.ext (by first | rfl | (show 2 + l.val = l.val + 2; omega))
    | ⟨2, _⟩ => exact Fin.ext (by first | rfl | (show 0 + q.val = q.val; omega))
  rw [e]
  exact ref_ext x0 x1 x2 b _ q

theorem ref_w0 (b : Fin 4) (l : Fin 2048) (q : Fin 11264) : val_main_v20 (F := Ideal) x3 (ix3 b l q) = x3 (ix2 0 q) := by
  rw [val_main_v20_apply, val_main_v19_apply, val_main_v17_apply, val_main_v16_apply]
  refine congrArg x3 (funext fun a => ?_)
  match a with
  | ⟨0, _⟩ => exact Fin.ext (by first | rfl | simp)
  | ⟨1, _⟩ => exact Fin.ext (by first | rfl | simp | (show q.val % 11264 = q.val; omega))

theorem ref_w1 (b : Fin 4) (l : Fin 2048) (q : Fin 11264) : val_main_v29 (F := Ideal) x3 (ix3 b l q) = x3 (ix2 1 q) := by
  rw [val_main_v29_apply, val_main_v28_apply, val_main_v26_apply, val_main_v25_apply]
  refine congrArg x3 (funext fun a => ?_)
  match a with
  | ⟨0, _⟩ => exact Fin.ext (by first | rfl | simp)
  | ⟨1, _⟩ => exact Fin.ext (by first | rfl | simp | (show q.val % 11264 = q.val; omega))

theorem ref_w2 (b : Fin 4) (l : Fin 2048) (q : Fin 11264) : val_main_v36 (F := Ideal) x3 (ix3 b l q) = x3 (ix2 2 q) := by
  rw [val_main_v36_apply, val_main_v35_apply, val_main_v33_apply, val_main_v32_apply]
  refine congrArg x3 (funext fun a => ?_)
  match a with
  | ⟨0, _⟩ => exact Fin.ext (by first | rfl | simp)
  | ⟨1, _⟩ => exact Fin.ext (by first | rfl | simp | (show q.val % 11264 = q.val; omega))

theorem ref_b (b : Fin 4) (l : Fin 2048) (q : Fin 11264) : val_main_v23 (F := Ideal) x4 (ix3 b l q) = x4 (ix1 q) := by
  rw [val_main_v23_apply, val_main_v22_apply]
  refine congrArg x4 (funext fun a => ?_)
  match a with
  | ⟨0, _⟩ => rfl

theorem ref_c (b : Fin 4) (l : Fin 2048) (q : Fin 11264) : val_main_v38 (F := Ideal) x0 x1 x2 x3 x4 (ix3 b l q) = cRow x0 x1 x2 x3 x4 b l q := by
  rw [val_main_v38_apply, val_main_v31_apply, val_main_v24_apply, val_main_v21_apply, val_main_v30_apply, val_main_v37_apply,
    ref_b, ref_w0, ref_w1, ref_w2, ref_ext0, ref_ext1, ref_ext2]
  rfl

theorem ref_gate (b : Fin 4) (l : Fin 2048) (n : Fin 5632) :
    val_main_v39 (F := Ideal) x0 x1 x2 x3 x4 (ix3 b l n) = cRow x0 x1 x2 x3 x4 b l ⟨n.val, by omega⟩ := by
  rw [val_main_v39_apply]
  have e : idx_main_v39 (ix3 b l n) = ix3 b l (⟨n.val, by omega⟩ : Fin 11264) := by
    funext a
    match a with
    | ⟨0, _⟩ => exact Fin.ext (by first | rfl | (show 0 + b.val = b.val; omega))
    | ⟨1, _⟩ => exact Fin.ext (by first | rfl | (show 0 + l.val = l.val; omega))
    | ⟨2, _⟩ => exact Fin.ext (by first | rfl | (show 0 + n.val = n.val; omega))
  rw [e]
  exact ref_c x0 x1 x2 x3 x4 b l _

theorem ref_half (b : Fin 4) (l : Fin 2048) (n : Fin 5632) :
    val_main_v40 (F := Ideal) x0 x1 x2 x3 x4 (ix3 b l n) = cRow x0 x1 x2 x3 x4 b l ⟨5632 + n.val, by omega⟩ := by
  rw [val_main_v40_apply]
  have e : idx_main_v40 (ix3 b l n) = ix3 b l (⟨5632 + n.val, by omega⟩ : Fin 11264) := by
    funext a
    match a with
    | ⟨0, _⟩ => exact Fin.ext (by first | rfl | (show 0 + b.val = b.val; omega))
    | ⟨1, _⟩ => exact Fin.ext (by first | rfl | (show 0 + l.val = l.val; omega))
    | ⟨2, _⟩ => rfl
  rw [e]
  exact ref_c x0 x1 x2 x3 x4 b l _

theorem one_bits : (FloatOps.ofBits .f32 0x3F800000#32 : Ideal .f32) = (1 : EReal) := by
  show Ideal.ofBits .f32 0x3F800000#32 = _
  simp [Ideal.ofBits, Ideal.ieee]
  norm_num [← EReal.coe_mul]

theorem ref_act (b : Fin 4) (l : Fin 2048) (n : Fin 5632) :
    val_main_v42 (F := Ideal) x0 x1 x2 x3 x4 (ix3 b l n) = actRow x0 x1 x2 x3 x4 b l n := by
  rw [val_main_v42_apply, val_main_v41_apply, val_main_call0_v5_apply, val_main_call0_v4_apply, val_main_call0_v3_apply,
    val_main_call0_v2_apply, val_main_call0_v1_apply, val_main_call0_v0_apply, val_main_call0_cst_apply, val_main_call0_cst_0_apply,
    one_bits, ref_gate, ref_half, Ideal.hostDivf_def]
  unfold actRow Ideal.logistic
  rfl

/-! ## The projection back, its norm, and the sum -/

theorem ref_y (b : Fin 4) (l d : Fin 2048) : val_main_v43 (F := Ideal) x0 x1 x2 x3 x4 x5 (ix3 b l d) = yRow x0 x1 x2 x3 x4 x5 b l d := by
  rw [val_main_v43_apply]
  unfold yRow
  refine Finset.sum_congr rfl fun k _ => ?_
  have el : lidx_main_v43 (ix3 b l d) k = ix3 b l k := by
    funext a
    match a with
    | ⟨0, _⟩ => rfl
    | ⟨1, _⟩ => rfl
    | ⟨2, _⟩ => rfl
  have er : ridx_main_v43 (ix3 b l d) k = ix2 k d := by
    funext a
    match a with
    | ⟨0, _⟩ => rfl
    | ⟨1, _⟩ => rfl
  rw [el, er, ref_act]

theorem ref_rms2 (b : Fin 4) (l : Fin 2048) :
    val_main_v51 (F := Ideal) x0 x1 x2 x3 x4 x5 (ix3 b l 0) = rms (yRow x0 x1 x2 x3 x4 x5 b l) := by
  rw [val_main_v51_apply, val_main_v50_apply, val_main_v48_apply, val_main_v49_apply, val_main_v47_apply, val_main_v46_apply, val_main_v45_apply]
  rw [Ideal.hostUnary_rsqrt_def, Ideal.hostDivf_def]
  have e : (val_main_cst_3 (F := Ideal)) (Shape.Idx.first h_S_) = (0 : EReal) := Ideal.ofBits_zero_f32
  rw [e, zero_add]
  unfold rms
  refine congrArg (fun s : EReal => Ideal.rsqrt (Ideal.div s _ + _)) (Finset.sum_congr rfl fun k _ => ?_)
  have ek : idx_main_v45 (idx_main_v46 (ix3 b l 0)) k = ix3 b l k := by
    funext a
    match a with
    | ⟨0, _⟩ => rfl
    | ⟨1, _⟩ => rfl
    | ⟨2, _⟩ => rfl
  rw [ek, val_main_v44_apply, ref_y]
  rfl

theorem ref_out : val_main_v57 (F := Ideal) x0 x1 x2 x3 x4 x5 x6 = outV x0 x1 x2 x3 x4 x5 x6 := by
  funext y
  obtain ⟨b, l, d, rfl⟩ : ∃ (b : Fin 4) (l d : Fin 2048), y = ix3 b l d := ⟨y 0, y 1, y 2, ValueIdx.eq_ix3 (n0 := 4) (n1 := 2048) (n2 := 2048) y⟩
  rw [val_main_v57_apply, val_main_v56_apply, val_main_v53_apply, val_main_v52_apply, val_main_v55_apply, val_main_v54_apply, ref_y]
  have e52 : idx_main_v52 (ix3 b l d) = ix3 b l 0 := by
    funext a
    match a with
    | ⟨0, _⟩ => rfl
    | ⟨1, _⟩ => rfl
    | ⟨2, _⟩ => rfl
  have e54 : idx_main_v54 (idx_main_v55 (ix3 b l d)) = ix1 d := by
    funext a
    match a with
    | ⟨0, _⟩ => rfl
  rw [e52, e54, ref_rms2]
  rfl

theorem ref_tails : val_main_v58 (F := Ideal) x0 x1 x2 = tailV x0 x1 x2 := by
  funext y
  obtain ⟨b, r, q, rfl⟩ : ∃ (b : Fin 4) (r : Fin 2) (q : Fin 11264), y = ix3 b r q := ⟨y 0, y 1, y 2, ValueIdx.eq_ix3 (n0 := 4) (n1 := 2) (n2 := 11264) y⟩
  rw [val_main_v58_apply]
  have e : idx_main_v58 (ix3 b r q) = ix3 b (⟨2048 + r.val, by omega⟩ : Fin 2050) q := by
    funext a
    match a with
    | ⟨0, _⟩ => exact Fin.ext (by first | rfl | (show 0 + b.val = b.val; omega))
    | ⟨1, _⟩ => exact Fin.ext (by first | rfl | (show r.val + 2048 = 2048 + r.val; omega))
    | ⟨2, _⟩ => exact Fin.ext (by first | rfl | (show 0 + q.val = q.val; omega))
  rw [e]
  refine (ref_ext x0 x1 x2 b _ q).trans ?_
  unfold ext
  rw [dif_pos (by show 2 ≤ 2048 + r.val ∧ 2048 + r.val < 2050; omega)]
  show _ = uRow x0 x1 x2 b ⟨2046 + r.val, _⟩ q
  exact congrArg (fun l => uRow x0 x1 x2 b l q) (Fin.ext (by show 2048 + r.val - 2 = 2046 + r.val; omega))

end Cert.Ffn

end
-- ==== Proof.Ffn.lean ====
/- The claims about the feed-forward call and its reference. -/
module

public import proofs.«01_k».proof.Defs
public import proofs.«01_k».proof.Proof.FfnBits
public import proofs.«01_k».proof.Proof.FfnRefValue
public import proofs.«01_k».proof.Proof.Gen.Reference2Ideal.Run
public import Idealize.ShloMosaic.Adequacy
public import Idealize.ShloMosaic.Init

@[expose] public section

set_option maxRecDepth 16384

noncomputable section

namespace Cert.Ffn

open Idealize.ShloMosaic Idealize.SL.Sem

theorem frame_ri : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Value.run (F := Ideal) m ρ)

/-- No constant is named. -/
theorem preserves : Cert.preserves_Kernel2_Kernel2Ideal := trivial

theorem algebraic : Cert.algebraic_Kernel2Ideal_Reference2Ideal := by
  intro m ρ m' ρ' _ hagree
  refine ⟨_, _, kernelRun m ρ, ?_⟩
  refine (θ_run Cert.Reference2Ideal.defs _ _).mono (fun _ h c => ?_) (Cert.Reference2Ideal.Value.run (F := Ideal) m' ρ')
  obtain ⟨e0, e1, e2, e3, e4, e5, e6⟩ := hagree c
  refine ⟨(h c).1.trans ?_, (h c).2.1.trans ?_, (h c).2.2⟩
  · rw [Cert.Reference2Ideal.Read.val_main_v57_eq, e0, e1, e2, e3, e4, e5, e6]
    exact ref_out _ _ _ _ _ _ _
  · rw [e0, e1, e2, Cert.Reference2Ideal.Read.val_main_v58_eq]
    exact ref_tails _ _ _

end Cert.Ffn

end
-- ==== Proof.Rows.lean ====
/- Rows of blocks over the extended reals, as the projections use them: a norm of a block's rows at an index, a block's
   product with a matrix, and the batch axis folded into the rows. -/
module

public import proofs.«01_k».proof.Proof.FfnBlocks

@[expose] public section

set_option maxRecDepth 16384

noncomputable section

namespace Cert.Rows

open Idealize.ShloMosaic hiding ix1 ix2 ix3 ix4 ix5
open Idealize.ShloMosaic.ValueIdx
open Cert.Ffn (bcol brow col rowSum)

/-- The reciprocal root of a row's mean square; `d` is the word of the row's length. -/
def rmsOf (d : BitVec 32) {n : ℕ} (v : Fin n → EReal) : EReal :=
  Ideal.rsqrt (Ideal.div (∑ k, v k * v k) (FloatOps.ofBits .f32 d : Ideal .f32) + (FloatOps.ofBits .f32 0x358637BD#32 : Ideal .f32))

/-- The kernels' norm of the rows of a block. -/
theorem norm_apply (d : BitVec 32) {a n : ℕ} (ha : a ≠ 1) (hn : n ≠ 1) (x : FVec Ideal (⟨2, ![a, n]⟩ : Shape) .f32)
    (w : FVec Ideal (⟨2, ![1, n]⟩ : Shape) .f32) (h1 : (⟨2, ![a, n]⟩ : Shape).Reduces [1] ⟨1, ![a]⟩) (h2 : FKind.Formats .f32)
    (h3 : (0x00000000#32 : BitVec 32) = FKind.add.neutral .f32 h2) (h4 : (⟨1, ![a]⟩ : Shape).ShapeCasts ⟨2, ![a, 1]⟩)
    (h5 : (⟨2, ![a, 1]⟩ : Shape).Broadcasts ⟨2, ![a, n]⟩) (h6 : (⟨2, ![1, n]⟩ : Shape).Broadcasts ⟨2, ![a, n]⟩) (r : Fin a) (k : Fin n) :
    mulf (mulf x (broadcastTo ⟨2, ![a, n]⟩ (rsqrt (addf (divf (shapeCast ⟨2, ![a, 1]⟩
      (multiReduction .add [1] ⟨1, ![a]⟩ (mulf x x) 0x00000000#32 h1 h2 h3) h4) (broadcast ⟨2, ![a, 1]⟩ (Scalar.ofBits .f32 d)))
      (broadcast ⟨2, ![a, 1]⟩ (Scalar.ofBits .f32 0x358637BD#32)))) h5)) (broadcastTo ⟨2, ![a, n]⟩ w h6) (ix2 r k)
    = x (ix2 r k) * rmsOf d (fun k => x (ix2 r k)) * w (ix2 0 k) := by
  show x (ix2 r k) * broadcastTo ⟨2, ![a, n]⟩ _ _ (ix2 r k) * broadcastTo ⟨2, ![a, n]⟩ w _ (ix2 r k) = _
  rw [bcol ha, brow hn]
  refine congrArg (fun z => x (ix2 r k) * z * w (ix2 0 k)) ?_
  show Ideal.rsqrt (Ideal.div (shapeCast ⟨2, ![a, 1]⟩ _ _ (ix2 r 0)) _ + _) = _
  rw [col]
  exact congrArg (fun z => Ideal.rsqrt (Ideal.div z (FloatOps.ofBits .f32 d : Ideal .f32) + (FloatOps.ofBits .f32 0x358637BD#32 : Ideal .f32)))
    (rowSum _ _ _ _ r)

/-! ## The batch axis folded into the rows -/

/-- The batch and the position of a row. -/
def bOf (R : Fin 8192) : Fin 4 := ⟨R.val / 2048, by omega⟩
def lOf (R : Fin 8192) : Fin 2048 := ⟨R.val % 2048, by omega⟩

theorem fold {α : Type} {n : ℕ} (x : (⟨3, ![4, 2048, n]⟩ : Shape).Idx → α)
    (h : (⟨3, ![4, 2048, n]⟩ : Shape).ShapeCasts ⟨2, ![8192, n]⟩) (R : Fin 8192) (k : Fin n) :
    shapeCast ⟨2, ![8192, n]⟩ x h (ix2 R k) = x (ix3 (bOf R) (lOf R) k) :=
  shapeCast_apply x _ (ix2 R k) (ix3 (bOf R) (lOf R) k) (by
    rw [Shape.rowMajor_val_two, Shape.rowMajor_val_three]
    show (R.val / 2048 * 2048 + R.val % 2048) * n + k.val = R.val * n + k.val
    rw [Nat.div_add_mod'])

end Cert.Rows

end
-- ==== Proof.OutProjValue.lean ====
/- The output projection: its blocks as parts of its arguments, and what its run leaves in the result, at an index. -/
module

public import proofs.«01_k».proof.Proof.Rows
public import proofs.«01_k».proof.Proof.Gen.Kernel3Ideal.Value

@[expose] public section

set_option maxRecDepth 16384

noncomputable section

namespace Cert.OutProj

open Idealize.ShloMosaic hiding ix1 ix2 ix3 ix4 ix5
open Idealize.ShloMosaic.ValueIdx Idealize.ShloMosaic.TcCoe
open Cert.Kernel3Ideal Cert.Kernel3Ideal.Gen Cert.Rows

/-! ## The result -/

section
variable (a0 : FVec Ideal S4x2048x16x128 .f32) (a1 : FVec Ideal S2048x2048 .f32) (a2 : FVec Ideal S4x2048x2048 .f32) (a3 : FVec Ideal S2048 .f32)

/-- Row `R` of the heads' results times the matrix. -/
def yRow (R : Fin 8192) (d : Fin 2048) : EReal :=
  ∑ k : Fin 2048, a0 (ix4 (bOf R) (lOf R) ⟨k.val / 128, by omega⟩ ⟨k.val % 128, by omega⟩) * a1 (ix2 k d)
/-- The residual sum. -/
def outRow (R : Fin 8192) (d : Fin 2048) : EReal :=
  a2 (ix3 (bOf R) (lOf R) d) + yRow a0 a1 R d * rmsOf 0x45000000#32 (yRow a0 a1 R) * a3 (ix1 d)
def outBuf : FVec Ideal S8192x2048 .f32 := fun i => outRow a0 a1 a2 a3 (i 0) (i 1)

end

/-! ## The blocks of a point -/

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 := by decide +kernel

theorem read0 (X : FVec Ideal S8192x2048 .bf16) (t : Fin cfg0.N) (r : Fin 512) (n : Fin 2048) (R : Fin 8192) (N : Fin 2048)
    (hR : R.val = (t.val) * 512 + r.val) (hN : N.val = (0) * 2048 + n.val) :
    (((cfg0.win 0).blk t).view.read (Elt Ideal) X : FVec Ideal S512x2048 .bf16) (ix2 r n) = X (ix2 R N) := by
  show X ((win0_0.rect t).emb (ix2 r n)) = _
  refine congrArg X (funext fun a => Fin.ext ?_)
  refine (win0_0.rect_emb_val t _ a).trans ?_
  match a with
  | ⟨0, _⟩ => show win0_0.index t 0 * 512 + r.val = R.val; rw [(index0 t).1, hR]
  | ⟨1, _⟩ => show win0_0.index t 1 * 2048 + n.val = N.val; rw [(index0 t).2, hN]

theorem read1 (X : FVec Ideal S2048x2048 .bf16) (t : Fin cfg0.N) (r : Fin 2048) (n : Fin 2048) (R : Fin 2048) (N : Fin 2048)
    (hR : R.val = (0) * 2048 + r.val) (hN : N.val = (0) * 2048 + n.val) :
    (((cfg0.win 1).blk t).view.read (Elt Ideal) X : FVec Ideal S2048x2048 .bf16) (ix2 r n) = X (ix2 R N) := by
  show X ((win0_1.rect t).emb (ix2 r n)) = _
  refine congrArg X (funext fun a => Fin.ext ?_)
  refine (win0_1.rect_emb_val t _ a).trans ?_
  match a with
  | ⟨0, _⟩ => show win0_1.index t 0 * 2048 + r.val = R.val; rw [(index1 t).1, hR]
  | ⟨1, _⟩ => show win0_1.index t 1 * 2048 + n.val = N.val; rw [(index1 t).2, hN]

theorem read2 (X : FVec Ideal S8192x2048 .f32) (t : Fin cfg0.N) (r : Fin 512) (n : Fin 2048) (R : Fin 8192) (N : Fin 2048)
    (hR : R.val = (t.val) * 512 + r.val) (hN : N.val = (0) * 2048 + n.val) :
    (((cfg0.win 2).blk t).view.read (Elt Ideal) X : FVec Ideal S512x2048 .f32) (ix2 r n) = X (ix2 R N) := by
  show X ((win0_2.rect t).emb (ix2 r n)) = _
  refine congrArg X (funext fun a => Fin.ext ?_)
  refine (win0_2.rect_emb_val t _ a).trans ?_
  match a with
  | ⟨0, _⟩ => show win0_2.index t 0 * 512 + r.val = R.val; rw [(index2 t).1, hR]
  | ⟨1, _⟩ => show win0_2.index t 1 * 2048 + n.val = N.val; rw [(index2 t).2, hN]

theorem read3 (X : FVec Ideal S1x2048 .f32) (t : Fin cfg0.N) (r : Fin 1) (n : Fin 2048) (R : Fin 1) (N : Fin 2048)
    (hR : R.val = (0) * 1 + r.val) (hN : N.val = (0) * 2048 + n.val) :
    (((cfg0.win 3).blk t).view.read (Elt Ideal) X : FVec Ideal S1x2048 .f32) (ix2 r n) = X (ix2 R N) := by
  show X ((win0_3.rect t).emb (ix2 r n)) = _
  refine congrArg X (funext fun a => Fin.ext ?_)
  refine (win0_3.rect_emb_val t _ a).trans ?_
  match a with
  | ⟨0, _⟩ => show win0_3.index t 0 * 1 + r.val = R.val; rw [(index3 t).1, hR]
  | ⟨1, _⟩ => show win0_3.index t 1 * 2048 + n.val = N.val; rw [(index3 t).2, hN]

theorem read4 (X : FVec Ideal S8192x2048 .f32) (t : Fin cfg0.N) (r : Fin 512) (n : Fin 2048) (R : Fin 8192) (N : Fin 2048)
    (hR : R.val = (t.val) * 512 + r.val) (hN : N.val = (0) * 2048 + n.val) :
    (((cfg0.win 4).blk t).view.read (Elt Ideal) X : FVec Ideal S512x2048 .f32) (ix2 r n) = X (ix2 R N) := by
  show X ((win0_4.rect t).emb (ix2 r n)) = _
  refine congrArg X (funext fun a => Fin.ext ?_)
  refine (win0_4.rect_emb_val t _ a).trans ?_
  match a with
  | ⟨0, _⟩ => show win0_4.index t 0 * 512 + r.val = R.val; rw [(index4 t).1, hR]
  | ⟨1, _⟩ => show win0_4.index t 1 * 2048 + n.val = N.val; rw [(index4 t).2, hN]

/-! ## The body -/

theorem y_apply (x0 : FVec Ideal S512x2048 .bf16) (x1 : FVec Ideal S2048x2048 .bf16) (r : Fin 512) (n : Fin 2048) :
    matmul dot_S512x2048_S2048x2048_S512x2048_1_0_0_1_n_n none x0 x1 (constant S512x2048 .f32 0x00000000#32) (ix2 r n)
      = ∑ k : Fin 2048, x0 (ix2 r k) * x1 (ix2 k n) := by
  refine (Ideal.matmul_plain_apply none _ _ _ r n).trans ?_
  rw [constant_apply, Ideal.ofBits_zero_f32, zero_add]

theorem zero2 : (![0, 0] : Fin 2 → ℕ) = fun _ => 0 := by funext a; match a with | ⟨0, _⟩ => rfl | ⟨1, _⟩ => rfl

theorem body_apply (x0 : FVec Ideal S512x2048 .bf16) (x1 : FVec Ideal S2048x2048 .bf16) (x2 : FVec Ideal S512x2048 .f32)
    (x3 : FVec Ideal S1x2048 .f32) (r : Fin 512) (n : Fin 2048) (y : Fin 2048 → EReal)
    (hy : ∀ n, ∑ k : Fin 2048, x0 (ix2 r k) * x1 (ix2 k n) = y n) :
    out0_4 (F := Ideal) x0 x1 x2 x3 (ix2 r n) = x2 (ix2 r n) + y n * rmsOf 0x45000000#32 y * x3 (ix2 0 n) := by
  have e : out0_4 (F := Ideal) x0 x1 x2 x3 = k0_pay1 (F := Ideal) x0 x1 x2 x3 := by
    unfold out0_4
    rw [View.canon_unit_zero zero2, View.ld_unit_zero zero2, View.ld_unit_zero zero2, View.ld_unit_zero zero2, View.ld_unit_zero zero2]
  rw [e]
  unfold k0_pay1
  simp only [shapeCast_self]
  refine congrArg (x2 (ix2 r n) + ·) ((norm_apply 0x45000000#32 (by decide) (by decide) _ x3 _ _ _ _ _ _ r n).trans ?_)
  have e2 := fun n => (y_apply x0 x1 r n).trans (hy n)
  rw [e2 n]
  exact congrArg (fun v => y n * rmsOf 0x45000000#32 v * x3 (ix2 0 n)) (funext e2)

/-! ## The run -/

variable (m : (ℓ : Loc nD τ sig) → Buf (Elt Ideal) ℓ) (c : Dev nD)

abbrev g0 : FVec Ideal S4x2048x16x128 .f32 := m ((c : Thread nD τ).loc main_arg0)
abbrev g1 : FVec Ideal S2048x2048 .f32 := m ((c : Thread nD τ).loc main_arg1)
abbrev g2 : FVec Ideal S4x2048x2048 .f32 := m ((c : Thread nD τ).loc main_arg2)
abbrev g3 : FVec Ideal S2048 .f32 := m ((c : Thread nD τ).loc main_arg3)

theorem V_o : V m c main_v1 = (truncf .bf16 (shapeCast S8192x2048 (g0 m c) shapeCasts_S4x2048x16x128_S8192x2048 : FVec Ideal S8192x2048 .f32)
    bitsLt_bf16_f32 : FVec Ideal S8192x2048 .bf16) := by
  unfold V
  after_reads_simp
  rfl

theorem V_w : V m c main_v2 = (truncf .bf16 (g1 m c) bitsLt_bf16_f32 : FVec Ideal S2048x2048 .bf16) := by
  unfold V
  after_reads_simp

theorem V_x : V m c main_v3 = shapeCast S8192x2048 (g2 m c) shapeCasts_S4x2048x2048_S8192x2048 := by
  unfold V
  after_reads_simp
  rfl

theorem V_n : V m c main_v4 = shapeCast S1x2048 (g3 m c) shapeCasts_S2048_S1x2048 := by
  unfold V
  after_reads_simp
  rfl

theorem heads (x : FVec Ideal S4x2048x16x128 .f32) (R : Fin 8192) (k : Fin 2048) :
    shapeCast S8192x2048 x shapeCasts_S4x2048x16x128_S8192x2048 (ix2 R k)
      = x (ix4 (bOf R) (lOf R) ⟨k.val / 128, by omega⟩ ⟨k.val % 128, by omega⟩) :=
  shapeCast_apply x _ (ix2 R k) _ (by
    rw [Shape.rowMajor_val_two, Shape.rowMajor_val_four]
    show ((R.val / 2048 * 2048 + R.val % 2048) * 16 + k.val / 128) * 128 + k.val % 128 = R.val * 2048 + k.val
    omega)

section
variable (t : Fin cfg0.N) (r : Fin 512) (R : Fin 8192) (hR : R.val = t.val * 512 + r.val)
include hR

theorem b0 (k : Fin 2048) : (iblk m c 0 t : FVec Ideal S512x2048 .bf16) (ix2 r k)
    = g0 m c (ix4 (bOf R) (lOf R) ⟨k.val / 128, by omega⟩ ⟨k.val % 128, by omega⟩) :=
  (read0 (V m c main_v1) t r k R k hR (by omega)).trans ((congrFun (V_o m c) _).trans (heads _ R k))

theorem b2 (k : Fin 2048) : (iblk m c 2 t : FVec Ideal S512x2048 .f32) (ix2 r k) = g2 m c (ix3 (bOf R) (lOf R) k) :=
  (read2 (V m c main_v3) t r k R k hR (by omega)).trans ((congrFun (V_x m c) _).trans (fold _ _ R k))

end

theorem b1 (t : Fin cfg0.N) (k n : Fin 2048) : (iblk m c 1 t : FVec Ideal S2048x2048 .bf16) (ix2 k n) = g1 m c (ix2 k n) :=
  (read1 (V m c main_v2) t k n k n (by omega) (by omega)).trans (congrFun (V_w m c) _)

theorem b3 (t : Fin cfg0.N) (n : Fin 2048) : (iblk m c 3 t : FVec Ideal S1x2048 .f32) (ix2 0 n) = g3 m c (ix1 n) :=
  (read3 (V m c main_v4) t 0 n 0 n (by simp) (by omega)).trans ((congrFun (V_n m c) _).trans (Cert.Ffn.row1 _ _ n))

theorem flushed (t : Fin cfg0.N) : (dats m 0 c).flushed 4 t
    = ((cfg0.win 4).blk t).view.read (Elt Ideal) (outBuf (g0 m c) (g1 m c) (g2 m c) (g3 m c)) := by
  rw [Value.flushed4]
  funext y
  obtain ⟨r, n, rfl⟩ : ∃ (r : Fin 512) (n : Fin 2048), y = ix2 r n := ⟨y 0, y 1, ValueIdx.eq_ix2 (n0 := 512) (n1 := 2048) y⟩
  have ht : t.val < 16 := t.isLt.trans_eq N_0
  refine Eq.trans ?_ (read4 _ t r n ⟨t.val * 512 + r.val, by omega⟩ n rfl (by omega)).symm
  refine (body_apply _ _ _ _ r n (yRow (g0 m c) (g1 m c) ⟨t.val * 512 + r.val, by omega⟩) fun n => ?_).trans ?_
  · refine Finset.sum_congr rfl fun k _ => ?_
    rw [b0 m c t r ⟨t.val * 512 + r.val, by omega⟩ rfl, b1]
  · rw [b2 m c t r ⟨t.val * 512 + r.val, by omega⟩ rfl, b3]
    rfl

theorem cover4 (i : S8192x2048.Idx) : ∃ t : Fin cfg0.N, (cfg0.win 4).flush t = true ∧ i ∈ ((cfg0.win 4).blk t).view.set := by
  have h0 : (i 0 : ℕ) < 8192 := (i 0).isLt
  have h1 : (i 1 : ℕ) < 2048 := (i 1).isLt
  have ht : (i 0).val / 512 < cfg0.N := by rw [show cfg0.N = 16 from rfl]; omega
  refine ⟨⟨_, ht⟩, flush0_4 _, ?_⟩
  show i ∈ ((View.whole main_v5).slice (win0_4.rect ⟨_, ht⟩)).set
  rw [View.set_slice_whole, Rect.mem_set_unit]
  have e := index4 ⟨_, ht⟩
  have x : ∀ t : Fin grid0.N, win0_4.xsize (grid0.coords t) 0 = 512 ∧ win0_4.xsize (grid0.coords t) 1 = 2048 := by decide +kernel
  intro a
  match a with
  | ⟨0, _⟩ =>
    show win0_4.index ⟨_, ht⟩ 0 * 512 ≤ (i 0 : Nat) ∧ (i 0 : Nat) < win0_4.index ⟨_, ht⟩ 0 * 512 + win0_4.xsize (grid0.coords ⟨_, ht⟩) 0
    rw [e.1, (x _).1]
    show (((i 0).val / 512)) * 512 ≤ (i 0 : Nat) ∧ (i 0 : Nat) < (((i 0).val / 512)) * 512 + 512
    omega
  | ⟨1, _⟩ =>
    show win0_4.index ⟨_, ht⟩ 1 * 2048 ≤ (i 1 : Nat) ∧ (i 1 : Nat) < win0_4.index ⟨_, ht⟩ 1 * 2048 + win0_4.xsize (grid0.coords ⟨_, ht⟩) 1
    rw [e.2, (x _).2]
    show (0) * 2048 ≤ (i 1 : Nat) ∧ (i 1 : Nat) < (0) * 2048 + 2048
    omega

theorem final : (dats m 0 c).arrAt 4 cfg0.N = outBuf (g0 m c) (g1 m c) (g2 m c) (g3 m c) :=
  (dats m 0 c).arrAt_eq_of_cover 4 _ (fun t _ => flushed m c t) cover4

end Cert.OutProj

end
-- ==== Proof.OutProj.lean ====
/- The output projection's reference at an index, and the claims about the call and its reference. -/
module

public import proofs.«01_k».proof.Defs
public import proofs.«01_k».proof.Proof.OutProjValue
public import proofs.«01_k».proof.Proof.Gen.Kernel3.Frame
public import proofs.«01_k».proof.Proof.Gen.Reference3Ideal.Read
public import proofs.«01_k».proof.Proof.Gen.Reference3Ideal.Run
public import Idealize.ShloMosaic.Adequacy
public import Idealize.ShloMosaic.Init

@[expose] public section

set_option maxRecDepth 16384

noncomputable section

namespace Cert.OutProj

open Idealize.ShloMosaic hiding ix1 ix2 ix3 ix4 ix5
open Idealize.ShloMosaic.ValueIdx Idealize.ShloMosaic.TcCoe Idealize.SL.Sem

section
open Cert.Reference3Ideal Cert.Reference3Ideal.Gen Cert.Reference3Ideal.Read Cert.Rows

variable (x0 : FVec Ideal S4x2048x16x128 .f32) (x1 : FVec Ideal S2048x2048 .f32) (x2 : FVec Ideal S4x2048x2048 .f32)
  (x3 : FVec Ideal S2048 .f32)

theorem ref_y (R : Fin 8192) (d : Fin 2048) : val_main_v1 (F := Ideal) x0 x1 (ix3 (bOf R) (lOf R) d) = yRow x0 x1 R d := by
  rw [val_main_v1_apply]
  unfold yRow
  refine Finset.sum_congr rfl fun k _ => ?_
  have er : ridx_main_v1 (ix3 (bOf R) (lOf R) d) k = ix2 k d := by
    funext a
    match a with
    | ⟨0, _⟩ => rfl
    | ⟨1, _⟩ => rfl
  have el : idx_main_v0 (lidx_main_v1 (ix3 (bOf R) (lOf R) d) k) = ix4 (bOf R) (lOf R) ⟨k.val / 128, by omega⟩ ⟨k.val % 128, by omega⟩ := by
    funext a
    apply Fin.ext
    match a with
    | ⟨0, _⟩ => show ((R.val / 2048 * 2048 + R.val % 2048) * 2048 + k.val) / 4194304 = R.val / 2048; omega
    | ⟨1, _⟩ => show ((R.val / 2048 * 2048 + R.val % 2048) * 2048 + k.val) / 2048 % 2048 = R.val % 2048; omega
    | ⟨2, _⟩ => show ((R.val / 2048 * 2048 + R.val % 2048) * 2048 + k.val) / 128 % 16 = k.val / 128; omega
    | ⟨3, _⟩ => show ((R.val / 2048 * 2048 + R.val % 2048) * 2048 + k.val) % 128 = k.val % 128; omega
  rw [er, val_main_v0_apply, el]

theorem ref_rms (R : Fin 8192) :
    val_main_v9 (F := Ideal) x0 x1 (ix3 (bOf R) (lOf R) 0) = rmsOf 0x45000000#32 (yRow x0 x1 R) := by
  rw [val_main_v9_apply, val_main_v8_apply, val_main_v6_apply, val_main_v7_apply, val_main_v5_apply, val_main_v4_apply, val_main_v3_apply]
  rw [Ideal.hostUnary_rsqrt_def, Ideal.hostDivf_def]
  have e : (val_main_cst (F := Ideal)) (Shape.Idx.first h_S_) = (0 : EReal) := Ideal.ofBits_zero_f32
  rw [e, zero_add]
  unfold rmsOf
  refine congrArg (fun s : EReal => Ideal.rsqrt (Ideal.div s _ + _)) (Finset.sum_congr rfl fun k _ => ?_)
  have ek : idx_main_v3 (idx_main_v4 (ix3 (bOf R) (lOf R) 0)) k = ix3 (bOf R) (lOf R) k := by
    funext a
    match a with
    | ⟨0, _⟩ => rfl
    | ⟨1, _⟩ => rfl
    | ⟨2, _⟩ => rfl
  rw [ek, val_main_v2_apply, ref_y]
  rfl

theorem ref_out : outBuf x0 x1 x2 x3 = val_main_v16 (F := Ideal) x0 x1 x2 x3 := by
  funext i
  obtain ⟨R, d, rfl⟩ : ∃ (R : Fin 8192) (d : Fin 2048), i = ix2 R d := ⟨i 0, i 1, ValueIdx.eq_ix2 (n0 := 8192) (n1 := 2048) i⟩
  rw [val_main_v16_apply]
  have e16 : idx_main_v16 (ix2 R d) = ix3 (bOf R) (lOf R) d := by
    funext a
    apply Fin.ext
    match a with
    | ⟨0, _⟩ => show (R.val * 2048 + d.val) / 4194304 = R.val / 2048; omega
    | ⟨1, _⟩ => show (R.val * 2048 + d.val) / 2048 % 2048 = R.val % 2048; omega
    | ⟨2, _⟩ => show (R.val * 2048 + d.val) % 2048 = d.val; omega
  have e10 : idx_main_v10 (ix3 (bOf R) (lOf R) d) = ix3 (bOf R) (lOf R) 0 := by
    funext a
    match a with
    | ⟨0, _⟩ => rfl
    | ⟨1, _⟩ => rfl
    | ⟨2, _⟩ => rfl
  have e12 : idx_main_v12 (idx_main_v13 (ix3 (bOf R) (lOf R) d)) = ix1 d := by
    funext a
    match a with
    | ⟨0, _⟩ => rfl
  rw [e16, val_main_v15_apply, val_main_v14_apply, val_main_v11_apply, val_main_v10_apply, val_main_v13_apply, val_main_v12_apply,
    e10, e12, ref_y, ref_rms]
  rfl

end

/-! ## The claims -/

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- No constant is named. -/
theorem preserves : Cert.preserves_Kernel3_Kernel3Ideal := trivial

theorem algebraic : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨e0, e1, e2, e3⟩ := hagree c
  refine ⟨(h c).1.trans ?_, (h c).2⟩
  rw [Cert.Reference3Ideal.Read.val_main_v16_eq, e0, e1, e2, e3]
  exact (ref_out _ _ _ _).symm.trans (final m c).symm

end Cert.OutProj

end
-- ==== Proof.HgrnInBody.lean ====
/- The recurrent layer's input projection: its results, and what its body leaves in its windows, at an index. -/
module

public import proofs.«01_k».proof.Proof.Rows
public import proofs.«01_k».proof.Proof.Blocks
public import proofs.«01_k».proof.Proof.Gen.Kernel4Ideal.Value

@[expose] public section

set_option maxRecDepth 16384

noncomputable section

namespace Cert.HgrnIn

open Idealize.ShloMosaic hiding ix1 ix2 ix3 ix4 ix5
open Idealize.ShloMosaic.ValueIdx Idealize.ShloMosaic.TcCoe
open Cert.Kernel4Ideal Cert.Kernel4Ideal.Gen Cert.Rows

/-! ## The results -/

/-- The lower bound of a lane: the first of the three logits' softmax weights. -/
def lbOf (lg : FVec Ideal S3x2048 .f32) (n : Fin 2048) : EReal :=
  Ideal.div (Ideal.exp (lg (ix2 0 n) - Finset.univ.sup fun i : Fin 3 => lg (ix2 i n)))
    (∑ j : Fin 3, Ideal.exp (lg (ix2 j n) - Finset.univ.sup fun i : Fin 3 => lg (ix2 i n)))

/-- What becomes of a product in section `s`: the query and the gate of the result through `silu`, the forget gate above its
    lower bound, the value as it is. -/
def act (s : ℕ) (lb r : EReal) : EReal :=
  if s = 2 then r
  else if s = 1 then lb + ((FloatOps.ofBits .f32 0x3F800000#32 : Ideal .f32) - lb) * Ideal.logistic r
  else r * Ideal.logistic r

/-! ## The body's arithmetic -/

theorem rowCast {n : ℕ} (x : (⟨1, ![n]⟩ : Shape).Idx → EReal) (h : (⟨1, ![n]⟩ : Shape).ShapeCasts ⟨2, ![1, n]⟩) (k : Fin n) :
    shapeCast ⟨2, ![1, n]⟩ x h (ix2 0 k) = x (ix1 k) := Cert.Ffn.row1 _ _ k

theorem colMax (x : FVec Ideal S3x2048 .f32) (n : Fin 2048) :
    multiReduction .maximumf [0] S2048 x 0xFF800000#32 reduces_S3x2048_S2048 (.inl rfl) rfl (ix1 n)
      = Finset.univ.sup fun i : Fin 3 => x (ix2 i n) := by
  refine (Ideal.multiReduction_maximumf_single x _ _ _ _ (ix1 n)).trans ?_
  rw [Cert.Tile.ofBits_ninf, Cert.Softmax.fold_max_eq_sup]
  refine Finset.sup_congr rfl fun j _ => congrArg x ?_
  funext d
  match d with
  | ⟨0, _⟩ => rfl
  | ⟨1, _⟩ => rfl

theorem colSum {a : ℕ} (x : FVec Ideal (⟨2, ![a, 2048]⟩ : Shape) .f32) (h : (⟨2, ![a, 2048]⟩ : Shape).Reduces [0] ⟨1, ![2048]⟩)
    (hφ : FKind.Formats .f32) (hacc : (0x00000000#32 : BitVec 32) = FKind.add.neutral .f32 hφ) (n : Fin 2048) :
    multiReduction .add [0] ⟨1, ![2048]⟩ x 0x00000000#32 h hφ hacc (ix1 n) = ∑ j : Fin a, x (ix2 j n) := by
  refine (Ideal.multiReduction_add_single x _ h hφ hacc (ix1 n)).trans (Finset.sum_congr rfl fun j _ => congrArg x ?_)
  funext d
  match d with
  | ⟨0, _⟩ => rfl
  | ⟨1, _⟩ => rfl

theorem lb_apply (lg : FVec Ideal S3x2048 .f32) (n : Fin 2048) : k0_pay7 (F := Ideal) lg (ix2 0 n) = lbOf lg n := by
  unfold k0_pay7
  refine (rowCast _ _ n).trans ((colSum (a := 1) _ _ _ _ n).trans ?_)
  rw [Fin.sum_univ_one]
  refine (extractStridedSlice_apply (s := S3x2048) (t := S1x2048) _ _ _ (ix2 0 n) (ix2 0 n) fun a => match a with
    | ⟨0, _⟩ => rfl
    | ⟨1, _⟩ => (Nat.zero_add _).symm).trans ?_
  have hm : ∀ i : Fin 3, broadcastTo S3x2048 (shapeCast S1x2048 (multiReduction .maximumf [0] S2048 lg 0xFF800000#32 reduces_S3x2048_S2048 (.inl rfl) rfl)
      shapeCasts_S2048_S1x2048) broadcasts_S1x2048_S3x2048 (ix2 i n) = Finset.univ.sup fun i : Fin 3 => lg (ix2 i n) := fun i =>
    (Cert.Ffn.brow (by decide) _ _ i n).trans ((rowCast _ _ n).trans (colMax lg n))
  show Ideal.div (Ideal.exp (lg (ix2 0 n) - broadcastTo S3x2048 _ _ (ix2 0 n))) (broadcastTo S3x2048 _ _ (ix2 0 n)) = _
  rw [hm 0]
  refine congrArg (Ideal.div _) ((Cert.Ffn.brow (by decide) _ _ 0 n).trans ((rowCast _ _ n).trans ((colSum _ _ _ _ n).trans ?_)))
  refine Finset.sum_congr rfl fun j _ => ?_
  show Ideal.exp (lg (ix2 j n) - broadcastTo S3x2048 _ _ (ix2 j n)) = _
  rw [hm j]

/-- Half of a block's lanes, from their products and their lower bounds. -/
def half (w : BitVec 32) (p : FVec Ideal S512x1024 .f32) (lb : FVec Ideal S1x1024 .f32) : FVec Ideal S512x1024 .f32 :=
  have c : FVec Ideal S512x1024 .f32 := broadcast S512x1024 (Scalar.ofBits .f32 0x3F000000#32)
  have s : FVec Ideal S512x1024 .f32 := addf (mulf c (tanh (mulf c p))) c
  have o : FVec Ideal S1x1024 .f32 := broadcast S1x1024 (Scalar.ofBits .f32 0x3F800000#32)
  have f : FVec Ideal S512x1024 .f32 := addf (broadcastTo S512x1024 lb broadcasts_S1x1024_S512x1024)
    (mulf (broadcastTo S512x1024 (subf o lb) broadcasts_S1x1024_S512x1024) s)
  Scalar.select (Scalar.cmpi .eq w 2#32) p (Scalar.select (Scalar.cmpi .eq w 1#32) f (mulf p s))

theorem cmp2 : ∀ s : Fin 4, Scalar.cmpi .eq (BitVec.ofNat 32 s.val) 2#32 = if s.val = 2 then 1#1 else 0#1 := by decide
theorem cmp1 : ∀ s : Fin 4, Scalar.cmpi .eq (BitVec.ofNat 32 s.val) 1#32 = if s.val = 1 then 1#1 else 0#1 := by decide

theorem half_apply (s : Fin 4) (p : FVec Ideal S512x1024 .f32) (lb : FVec Ideal S1x1024 .f32) (r : Fin 512) (n : Fin 1024) :
    half (BitVec.ofNat 32 s.val) p lb (ix2 r n) = act s.val (lb (ix2 0 n)) (p (ix2 r n)) := by
  unfold half act
  rw [cmp2, cmp1]
  have hs : (FloatOps.ofBits .f32 0x3F000000#32 : Ideal .f32) * Ideal.tanh ((FloatOps.ofBits .f32 0x3F000000#32 : Ideal .f32) * p (ix2 r n))
      + (FloatOps.ofBits .f32 0x3F000000#32 : Ideal .f32) = Ideal.logistic (p (ix2 r n)) := by
    rw [Cert.Ffn.half, Cert.Ffn.half_tanh]
  by_cases h2 : s.val = 2
  · rw [if_pos h2, if_pos h2]
    rfl
  rw [if_neg h2, if_neg h2]
  by_cases h1 : s.val = 1
  · rw [if_pos h1, if_pos h1]
    show broadcastTo S512x1024 lb _ (ix2 r n) + broadcastTo S512x1024 _ _ (ix2 r n) * (_ * Ideal.tanh (_ * p (ix2 r n)) + _) = _
    rw [Cert.Ffn.brow (by decide), Cert.Ffn.brow (by decide)]
    exact congrArg (fun z => lb (ix2 0 n) + ((FloatOps.ofBits .f32 0x3F800000#32 : Ideal .f32) - lb (ix2 0 n)) * z) hs
  · rw [if_neg h1, if_neg h1]
    exact congrArg (p (ix2 r n) * ·) hs

theorem prod_apply (h : FVec Ideal S512x2048 .bf16) (w : FVec Ideal S2048x1024 .bf16) (r : Fin 512) (n : Fin 1024) :
    matmul dot_S512x2048_S2048x1024_S512x1024_1_0_0_1_n_n none h w (constant S512x1024 .f32 0x00000000#32) (ix2 r n)
      = ∑ k : Fin 2048, h (ix2 r k) * w (ix2 k n) := by
  refine (Ideal.matmul_plain_apply none _ _ _ r n).trans ?_
  rw [constant_apply, Ideal.ofBits_zero_f32, zero_add]

/-- The section a point reads: its second grid coordinate, floor-divided by one. -/
def sec (x : BitVec 32) : BitVec 32 :=
  let q := Scalar.divsi x 1#32
  let a := Scalar.subi (Scalar.extui (Scalar.cmpi .sgt x 0#32)) (Scalar.extui (Scalar.cmpi .slt x 0#32))
  Scalar.select (Scalar.andi (Scalar.cmpi .ne a 1#32) (Scalar.cmpi .ne (Scalar.remsi x 1#32) 0#32)) (Scalar.subi q 1#32) q

theorem sec_eq : ∀ s : Fin 4, sec (BitVec.ofNat 32 s.val) = BitVec.ofNat 32 s.val := by decide +kernel

/-- A lane of the block: section `s`, from the normed rows `h`. -/
def lane (s : Fin 4) (lg : FVec Ideal S3x2048 .f32) (h : FVec Ideal S512x2048 .bf16) (w : FVec Ideal S2048x2048 .bf16)
    (r : Fin 512) (n : Fin 2048) : EReal :=
  act s.val (lbOf lg n) (∑ k : Fin 2048, h (ix2 r k) * w (ix2 k n))

/-- The lanes as the heads of a block. -/
def heads (f : Fin 512 → Fin 2048 → EReal) : FVec Ideal S16x512x128 .f32 := fun i =>
  f (i 1) ⟨(i 0).val * 128 + (i 2).val, by
    have h0 : (i 0).val < 16 := (i 0).isLt
    have h2 : (i 2).val < 128 := (i 2).isLt
    omega⟩

theorem first_apply (w0 : BitVec 32) (s : Fin 4) (hw : w0 = BitVec.ofNat 32 s.val) (lg : FVec Ideal S3x2048 .f32) (h : FVec Ideal S512x2048 .bf16) (w : FVec Ideal S2048x2048 .bf16)
    (i1) (r : Fin 512) (n : Fin 1024) :
    k0_pay8 (F := Ideal) w0 lg h (View.ld (Val := Elt Ideal) (e' := .bf16) w (Rect.unit (s := S2048x2048) ![0, 0] ![2048, 1024] i1))
        (ix2 r n)
      = lane s lg h w r ⟨n.val, by omega⟩ := by
  subst hw
  refine (half_apply s _ _ r n).trans ?_
  unfold lane
  rw [prod_apply]
  congr 1
  · refine (extractStridedSlice_apply (s := S1x2048) (t := S1x1024) _ _ _ (ix2 0 n) (ix2 0 ⟨n.val, by omega⟩) fun a => match a with
      | ⟨0, _⟩ => rfl
      | ⟨1, _⟩ => (Nat.zero_add _).symm).trans (lb_apply _ _)
  · refine Finset.sum_congr rfl fun k _ => congrArg (h (ix2 r k) * ·) ?_
    rw [shapeCast_self]
    exact View.ld_unit_apply_of _ _ _ _ _ _ fun a => match a with
      | ⟨0, _⟩ => (Nat.zero_add _).symm
      | ⟨1, _⟩ => (Nat.zero_add _).symm

theorem second_apply (w0 : BitVec 32) (s : Fin 4) (hw : w0 = BitVec.ofNat 32 s.val) (lg : FVec Ideal S3x2048 .f32) (h : FVec Ideal S512x2048 .bf16) (w : FVec Ideal S2048x2048 .bf16)
    (i1) (r : Fin 512) (n : Fin 1024) :
    k0_pay19 (F := Ideal) w0 (k0_pay7 (F := Ideal) lg) h
        (k0_pay18 (F := Ideal) (View.ld (Val := Elt Ideal) (e' := .bf16) w (Rect.unit (s := S2048x2048) ![0, 1024] ![2048, 1024] i1))) (ix2 r n)
      = lane s lg h w r ⟨1024 + n.val, by omega⟩ := by
  subst hw
  refine (half_apply s _ _ r n).trans ?_
  unfold lane
  rw [prod_apply]
  congr 1
  · refine (extractStridedSlice_apply (s := S1x2048) (t := S1x1024) _ _ _ (ix2 0 n) (ix2 0 ⟨1024 + n.val, by omega⟩) fun a => match a with
      | ⟨0, _⟩ => rfl
      | ⟨1, _⟩ => rfl).trans (lb_apply _ _)
  · refine Finset.sum_congr rfl fun k _ => congrArg (h (ix2 r k) * ·) ?_
    unfold k0_pay18
    rw [shapeCast_self]
    exact View.ld_unit_apply_of _ _ _ _ _ _ fun a => match a with
      | ⟨0, _⟩ => (Nat.zero_add _).symm
      | ⟨1, _⟩ => rfl

/-- Head `H` of the block, cut from half of the lanes. -/
theorem slab (f : Fin 512 → Fin 2048 → EReal) (A : FVec Ideal S512x1024 .f32) (o e H : ℕ) (hH : H * 128 = o + e) (ho : o ≤ 1024) (he : e ≤ 896)
    (hA : ∀ (r : Fin 512) (n : Fin 1024), A (ix2 r n) = f r ⟨o + n.val, by omega⟩)
    (h1 : S512x1024.Slices ![0, e] S512x128) (h2 : S512x128.ShapeCasts S1x512x128) (inb) (x : S1x512x128.Idx) :
    shapeCast S1x512x128 (extractStridedSlice S512x128 ![0, e] A h1) h2 x
      = heads f ((Rect.unit (s := S16x512x128) ![H, 0, 0] ![1, 512, 128] inb).emb x) := by
  obtain ⟨u, r, d, rfl⟩ : ∃ (u : Fin 1) (r : Fin 512) (d : Fin 128), x = ix3 u r d :=
    ⟨x 0, x 1, x 2, ValueIdx.eq_ix3 (n0 := 1) (n1 := 512) (n2 := 128) x⟩
  obtain rfl : u = 0 := Subsingleton.elim _ _
  refine (Cert.Ffn.add1 _ _ r d).trans ?_
  refine (extractStridedSlice_apply (s := S512x1024) (t := S512x128) _ A _ (ix2 r d) (ix2 r ⟨e + d.val, by omega⟩) fun a => match a with
    | ⟨0, _⟩ => (Nat.zero_add _).symm
    | ⟨1, _⟩ => rfl).trans ?_
  rw [hA]
  have v : ∀ a : Fin 3, (((Rect.unit (s := S16x512x128) ![H, 0, 0] ![1, 512, 128] inb).emb (ix3 0 r d) a : Fin _) : ℕ)
      = (![H, 0, 0] : Fin 3 → ℕ) a + (ix3 (0 : Fin 1) r d a).val := fun a =>
    Rect.idx_unit_val (s := S16x512x128) (off := ![H, 0, 0]) (size := ![1, 512, 128]) (inb := inb) (ix3 0 r d) a
  have v0 : (((Rect.unit (s := S16x512x128) ![H, 0, 0] ![1, 512, 128] inb).emb (ix3 0 r d) 0 : Fin _) : ℕ) = H := v 0
  have v1 : (((Rect.unit (s := S16x512x128) ![H, 0, 0] ![1, 512, 128] inb).emb (ix3 0 r d) 1 : Fin _) : ℕ) = r.val := (v 1).trans (Nat.zero_add _)
  have v2 : (((Rect.unit (s := S16x512x128) ![H, 0, 0] ![1, 512, 128] inb).emb (ix3 0 r d) 2 : Fin _) : ℕ) = d.val := (v 2).trans (Nat.zero_add _)
  unfold heads
  congr 1
  · exact Fin.ext v1.symm
  · apply Fin.ext
    show o + (e + d.val) = _ * 128 + _
    rw [v0, v2]
    omega

end Cert.HgrnIn

end
-- ==== Proof.HgrnInCases.lean ====
/- The recurrent layer's input projection: what each case of its body leaves in the windows, and in the buffer of normed rows. -/
module

public import proofs.«01_k».proof.Proof.HgrnInBody

@[expose] public section

set_option maxRecDepth 65536

noncomputable section

namespace Cert.HgrnIn

open Idealize.ShloMosaic hiding ix1 ix2 ix3 ix4 ix5
open Idealize.ShloMosaic.ValueIdx Idealize.ShloMosaic.TcCoe
open Cert.Kernel4Ideal Cert.Kernel4Ideal.Gen Cert.Rows

/-- The normed rows of a block. -/
def normed (x : FVec Ideal S512x2048 .f32) (w : FVec Ideal S1x2048 .f32) : FVec Ideal S512x2048 .bf16 := fun i =>
  x (ix2 (i 0) (i 1)) * rmsOf 0x45000000#32 (fun k => x (ix2 (i 0) k)) * w (ix2 0 (i 1))

theorem pay6_eq (x : FVec Ideal S512x2048 .f32) (w : FVec Ideal S1x2048 .f32) : k0_pay6 (F := Ideal) x w = normed x w := by
  funext y
  obtain ⟨r, n, rfl⟩ : ∃ (r : Fin 512) (n : Fin 2048), y = ix2 r n := ⟨y 0, y 1, ValueIdx.eq_ix2 (n0 := 512) (n1 := 2048) y⟩
  unfold k0_pay6
  simp only [shapeCast_self]
  exact norm_apply 0x45000000#32 (by decide) (by decide) x w _ _ _ _ _ _ r n

theorem secWord (i : grid0.Coords) : sec (BitVec.ofNat 32 (i 1).val) = BitVec.ofNat 32 (i 1).val := sec_eq (i 1)

section
variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S3x2048 .f32) (harg5 : arg5.IsWhole) (arg6 : Memref sig .tc .vmem S1x32x2048 .f32) (harg6 : arg6.IsWhole) (arg7 : Memref sig .tc .vmem S16x512x128 .f32) (harg7 : arg7.IsWhole) (arg8 : Memref sig .tc .vmem S32x2048 .bf16) (harg8 : arg8.IsWhole) (arg9 : Memref sig .tc .vmem S512x2048 .bf16) (harg9 : arg9.IsWhole)
    (hc0 : cond0_0 i) (hc1 : cond0_1 i) (x0 : Vec Ideal S512x2048 .f32) (x1 : Vec Ideal S1x2048 .f32) (x2 : Vec Ideal S2048x2048 .bf16) (x3 : Vec Ideal S3x2048 .f32) (x4 : Vec Ideal S1x32x2048 .f32)

theorem out5_A : out0_A_5 (F := Ideal) c i arg2 harg2 arg3 harg3 arg4 harg4 arg5 harg5 arg6 harg6 arg7 harg7 arg8 harg8 arg9 harg9 hc0 hc1 x0 x1 x2 x3 x4 = heads (lane (i 1) x3 (normed x0 x1) x2) := by
  have hcov := cover0_A_5 (F := Ideal) c i arg2 harg2 arg3 harg3 arg4 harg4 arg5 harg5 arg6 harg6 arg7 harg7 arg8 harg8 arg9 harg9 hc0 hc1 x0 x1 x2 x3 x4
  funext y
  unfold out0_A_5
  rw [View.read_writes_eq_canon _ _ _ hcov]
  refine View.canon_apply_of_pieces _ _ ?_ y (hcov y)
  unfold kernelRun0_A
  dsimp only
  sl_unfold_words
  have l3 : ∀ inb, View.ld (Val := Elt Ideal) (e' := .f32) x3 (Rect.unit (s := S3x2048) ![0, 0] ![3, 2048] inb) = x3 := fun inb =>
    View.ld_unit_zero Cert.Blocks.zero2 inb x3
  have l0 : ∀ inb, View.ld (Val := Elt Ideal) (e' := .f32) x0 (Rect.unit (s := S512x2048) ![0, 0] ![512, 2048] inb) = x0 := fun inb =>
    View.ld_unit_zero Cert.Blocks.zero2 inb x0
  have l1 : ∀ inb, View.ld (Val := Elt Ideal) (e' := .f32) x1 (Rect.unit (s := S1x2048) ![0, 0] ![1, 2048] inb) = x1 := fun inb =>
    View.ld_unit_zero Cert.Blocks.zero2 inb x1
  have l9 : ∀ inb w, arg9.view.readCov (Val := Elt Ideal) [⟨Rect.unit (s := S512x2048) ![0, 0] ![512, 2048] inb, w⟩]
      (Rect.unit (s := S512x2048) ![0, 0] ![512, 2048] inb).toLoadRect = w := fun inb w => View.readCov_unit_zero _ Cert.Blocks.zero2 inb w
  simp only [View.readAt_eq_ld, harg2.read_unread, harg3.read_unread, harg4.read_unread, harg5.read_unread, l3, l0, l1, l9, pay6_eq]
  intro p hp
  simp only [List.mem_cons, List.not_mem_nil, or_false] at hp
  rcases hp with rfl | rfl | rfl | rfl | rfl | rfl | rfl | rfl | rfl | rfl | rfl | rfl | rfl | rfl | rfl | rfl
  · exact fun x => slab (lane (i 1) x3 (normed x0 x1) x2) (k0_pay19 (F := Ideal) _ (k0_pay7 (F := Ideal) _) _ (k0_pay18 (F := Ideal) _)) 1024 896 15 rfl (by decide) (by decide) (second_apply _ (i 1) (secWord i) x3 _ x2 _) slices_S512x1024_o0_896_S512x128 shapeCasts_S512x128_S1x512x128 inb_S16x512x128_S1x512x128_15_0_0 x
  · exact fun x => slab (lane (i 1) x3 (normed x0 x1) x2) (k0_pay19 (F := Ideal) _ (k0_pay7 (F := Ideal) _) _ (k0_pay18 (F := Ideal) _)) 1024 768 14 rfl (by decide) (by decide) (second_apply _ (i 1) (secWord i) x3 _ x2 _) slices_S512x1024_o0_768_S512x128 shapeCasts_S512x128_S1x512x128 inb_S16x512x128_S1x512x128_14_0_0 x
  · exact fun x => slab (lane (i 1) x3 (normed x0 x1) x2) (k0_pay19 (F := Ideal) _ (k0_pay7 (F := Ideal) _) _ (k0_pay18 (F := Ideal) _)) 1024 640 13 rfl (by decide) (by decide) (second_apply _ (i 1) (secWord i) x3 _ x2 _) slices_S512x1024_o0_640_S512x128 shapeCasts_S512x128_S1x512x128 inb_S16x512x128_S1x512x128_13_0_0 x
  · exact fun x => slab (lane (i 1) x3 (normed x0 x1) x2) (k0_pay19 (F := Ideal) _ (k0_pay7 (F := Ideal) _) _ (k0_pay18 (F := Ideal) _)) 1024 512 12 rfl (by decide) (by decide) (second_apply _ (i 1) (secWord i) x3 _ x2 _) slices_S512x1024_o0_512_S512x128 shapeCasts_S512x128_S1x512x128 inb_S16x512x128_S1x512x128_12_0_0 x
  · exact fun x => slab (lane (i 1) x3 (normed x0 x1) x2) (k0_pay19 (F := Ideal) _ (k0_pay7 (F := Ideal) _) _ (k0_pay18 (F := Ideal) _)) 1024 384 11 rfl (by decide) (by decide) (second_apply _ (i 1) (secWord i) x3 _ x2 _) slices_S512x1024_o0_384_S512x128 shapeCasts_S512x128_S1x512x128 inb_S16x512x128_S1x512x128_11_0_0 x
  · exact fun x => slab (lane (i 1) x3 (normed x0 x1) x2) (k0_pay19 (F := Ideal) _ (k0_pay7 (F := Ideal) _) _ (k0_pay18 (F := Ideal) _)) 1024 256 10 rfl (by decide) (by decide) (second_apply _ (i 1) (secWord i) x3 _ x2 _) slices_S512x1024_o0_256_S512x128 shapeCasts_S512x128_S1x512x128 inb_S16x512x128_S1x512x128_10_0_0 x
  · exact fun x => slab (lane (i 1) x3 (normed x0 x1) x2) (k0_pay19 (F := Ideal) _ (k0_pay7 (F := Ideal) _) _ (k0_pay18 (F := Ideal) _)) 1024 128 9 rfl (by decide) (by decide) (second_apply _ (i 1) (secWord i) x3 _ x2 _) slices_S512x1024_o0_128_S512x128 shapeCasts_S512x128_S1x512x128 inb_S16x512x128_S1x512x128_9_0_0 x
  · exact fun x => slab (lane (i 1) x3 (normed x0 x1) x2) (k0_pay19 (F := Ideal) _ (k0_pay7 (F := Ideal) _) _ (k0_pay18 (F := Ideal) _)) 1024 0 8 rfl (by decide) (by decide) (second_apply _ (i 1) (secWord i) x3 _ x2 _) slices_S512x1024_o0_0_S512x128 shapeCasts_S512x128_S1x512x128 inb_S16x512x128_S1x512x128_8_0_0 x
  · exact fun x => slab (lane (i 1) x3 (normed x0 x1) x2) (k0_pay8 (F := Ideal) _ _ _ _) 0 896 7 rfl (by decide) (by decide) (fun r n => (first_apply _ (i 1) (secWord i) x3 _ x2 _ r n).trans (congrArg (lane (i 1) x3 _ x2 r) (Fin.ext (Nat.zero_add _).symm))) slices_S512x1024_o0_896_S512x128 shapeCasts_S512x128_S1x512x128 inb_S16x512x128_S1x512x128_7_0_0 x
  · exact fun x => slab (lane (i 1) x3 (normed x0 x1) x2) (k0_pay8 (F := Ideal) _ _ _ _) 0 768 6 rfl (by decide) (by decide) (fun r n => (first_apply _ (i 1) (secWord i) x3 _ x2 _ r n).trans (congrArg (lane (i 1) x3 _ x2 r) (Fin.ext (Nat.zero_add _).symm))) slices_S512x1024_o0_768_S512x128 shapeCasts_S512x128_S1x512x128 inb_S16x512x128_S1x512x128_6_0_0 x
  · exact fun x => slab (lane (i 1) x3 (normed x0 x1) x2) (k0_pay8 (F := Ideal) _ _ _ _) 0 640 5 rfl (by decide) (by decide) (fun r n => (first_apply _ (i 1) (secWord i) x3 _ x2 _ r n).trans (congrArg (lane (i 1) x3 _ x2 r) (Fin.ext (Nat.zero_add _).symm))) slices_S512x1024_o0_640_S512x128 shapeCasts_S512x128_S1x512x128 inb_S16x512x128_S1x512x128_5_0_0 x
  · exact fun x => slab (lane (i 1) x3 (normed x0 x1) x2) (k0_pay8 (F := Ideal) _ _ _ _) 0 512 4 rfl (by decide) (by decide) (fun r n => (first_apply _ (i 1) (secWord i) x3 _ x2 _ r n).trans (congrArg (lane (i 1) x3 _ x2 r) (Fin.ext (Nat.zero_add _).symm))) slices_S512x1024_o0_512_S512x128 shapeCasts_S512x128_S1x512x128 inb_S16x512x128_S1x512x128_4_0_0 x
  · exact fun x => slab (lane (i 1) x3 (normed x0 x1) x2) (k0_pay8 (F := Ideal) _ _ _ _) 0 384 3 rfl (by decide) (by decide) (fun r n => (first_apply _ (i 1) (secWord i) x3 _ x2 _ r n).trans (congrArg (lane (i 1) x3 _ x2 r) (Fin.ext (Nat.zero_add _).symm))) slices_S512x1024_o0_384_S512x128 shapeCasts_S512x128_S1x512x128 inb_S16x512x128_S1x512x128_3_0_0 x
  · exact fun x => slab (lane (i 1) x3 (normed x0 x1) x2) (k0_pay8 (F := Ideal) _ _ _ _) 0 256 2 rfl (by decide) (by decide) (fun r n => (first_apply _ (i 1) (secWord i) x3 _ x2 _ r n).trans (congrArg (lane (i 1) x3 _ x2 r) (Fin.ext (Nat.zero_add _).symm))) slices_S512x1024_o0_256_S512x128 shapeCasts_S512x128_S1x512x128 inb_S16x512x128_S1x512x128_2_0_0 x
  · exact fun x => slab (lane (i 1) x3 (normed x0 x1) x2) (k0_pay8 (F := Ideal) _ _ _ _) 0 128 1 rfl (by decide) (by decide) (fun r n => (first_apply _ (i 1) (secWord i) x3 _ x2 _ r n).trans (congrArg (lane (i 1) x3 _ x2 r) (Fin.ext (Nat.zero_add _).symm))) slices_S512x1024_o0_128_S512x128 shapeCasts_S512x128_S1x512x128 inb_S16x512x128_S1x512x128_1_0_0 x
  · exact fun x => slab (lane (i 1) x3 (normed x0 x1) x2) (k0_pay8 (F := Ideal) _ _ _ _) 0 0 0 rfl (by decide) (by decide) (fun r n => (first_apply _ (i 1) (secWord i) x3 _ x2 _ r n).trans (congrArg (lane (i 1) x3 _ x2 r) (Fin.ext (Nat.zero_add _).symm))) slices_S512x1024_o0_0_S512x128 shapeCasts_S512x128_S1x512x128 inb_S16x512x128_S1x512x128_0_0_0 x

theorem out6_A : out0_A_6 (F := Ideal) c i arg2 harg2 arg3 harg3 arg4 harg4 arg5 harg5 arg6 harg6 arg7 harg7 arg8 harg8 arg9 harg9 hc0 hc1 x0 x1 x2 x3 x4 = Cert.Blocks.castd x4 := by
  have hcov := cover0_A_6 (F := Ideal) c i arg2 harg2 arg3 harg3 arg4 harg4 arg5 harg5 arg6 harg6 arg7 harg7 arg8 harg8 arg9 harg9 hc0 hc1 x0 x1 x2 x3 x4
  unfold out0_A_6
  rw [View.read_writes_eq_canon _ _ _ hcov]
  unfold kernelRun0_A
  dsimp only
  sl_unfold_words
  simp only [View.readAt_eq_ld, harg6.read_unread]
  rw [View.canon_unit_zero Cert.Blocks.zero2, View.ld_unit_zero Cert.Blocks.zero3]
  funext y
  obtain ⟨r, e, rfl⟩ : ∃ (r : Fin 32) (e : Fin 2048), y = ix2 r e := ⟨y 0, y 1, ValueIdx.eq_ix2 (n0 := 32) (n1 := 2048) y⟩
  exact Cert.Blocks.drop_lead x4 shapeCasts_S1x32x2048_S32x2048 r e

theorem sout_A : sout0_A_0 (F := Ideal) c i arg2 harg2 arg3 harg3 arg4 harg4 arg5 harg5 arg6 harg6 arg7 harg7 arg8 harg8 arg9 harg9 hc0 hc1 x0 x1 x2 x3 x4 = normed x0 x1 := by
  have hcov := scover0_A_0 (F := Ideal) c i arg2 harg2 arg3 harg3 arg4 harg4 arg5 harg5 arg6 harg6 arg7 harg7 arg8 harg8 arg9 harg9 hc0 hc1 x0 x1 x2 x3 x4
  unfold sout0_A_0
  rw [View.read_writes_eq_canon _ _ _ hcov]
  unfold kernelRun0_A
  dsimp only
  sl_unfold_words
  simp only [View.readAt_eq_ld, harg2.read_unread, harg3.read_unread]
  rw [View.canon_unit_zero Cert.Blocks.zero2, View.ld_unit_zero Cert.Blocks.zero2, View.ld_unit_zero Cert.Blocks.zero2]
  exact pay6_eq x0 x1

end

section
variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S3x2048 .f32) (harg5 : arg5.IsWhole) (arg6 : Memref sig .tc .vmem S1x32x2048 .f32) (harg6 : arg6.IsWhole) (arg7 : Memref sig .tc .vmem S16x512x128 .f32) (harg7 : arg7.IsWhole) (arg8 : Memref sig .tc .vmem S32x2048 .bf16) (harg8 : arg8.IsWhole) (arg9 : Memref sig .tc .vmem S512x2048 .bf16) (harg9 : arg9.IsWhole)
    (hc0 : cond0_0 i) (hc1 : ¬cond0_1 i) (x0 : Vec Ideal S512x2048 .f32) (x1 : Vec Ideal S1x2048 .f32) (x2 : Vec Ideal S2048x2048 .bf16) (x3 : Vec Ideal S3x2048 .f32) (x4 : Vec Ideal S1x32x2048 .f32) (xs0 : Vec Ideal S512x2048 .bf16)

theorem out5_B : out0_B_5 (F := Ideal) c i arg2 harg2 arg3 harg3 arg4 harg4 arg5 harg5 arg6 harg6 arg7 harg7 arg8 harg8 arg9 harg9 hc0 hc1 x0 x1 x2 x3 x4 xs0 = heads (lane (i 1) x3 xs0 x2) := by
  have hcov := cover0_B_5 (F := Ideal) c i arg2 harg2 arg3 harg3 arg4 harg4 arg5 harg5 arg6 harg6 arg7 harg7 arg8 harg8 arg9 harg9 hc0 hc1 x0 x1 x2 x3 x4 xs0
  funext y
  unfold out0_B_5
  rw [View.read_writes_eq_canon _ _ _ hcov]
  refine View.canon_apply_of_pieces _ _ ?_ y (hcov y)
  unfold kernelRun0_B
  dsimp only
  sl_unfold_words
  have l3 : ∀ inb, View.ld (Val := Elt Ideal) (e' := .f32) x3 (Rect.unit (s := S3x2048) ![0, 0] ![3, 2048] inb) = x3 := fun inb =>
    View.ld_unit_zero Cert.Blocks.zero2 inb x3
  have l9 : ∀ inb, View.ld (Val := Elt Ideal) (e' := .bf16) xs0 (Rect.unit (s := S512x2048) ![0, 0] ![512, 2048] inb) = xs0 := fun inb =>
    View.ld_unit_zero Cert.Blocks.zero2 inb xs0
  simp only [View.readAt_eq_ld, harg2.read_unread, harg3.read_unread, harg4.read_unread, harg5.read_unread, harg9.read_unread, l3, l9]
  intro p hp
  simp only [List.mem_cons, List.not_mem_nil, or_false] at hp
  rcases hp with rfl | rfl | rfl | rfl | rfl | rfl | rfl | rfl | rfl | rfl | rfl | rfl | rfl | rfl | rfl | rfl
  · exact fun x => slab (lane (i 1) x3 xs0 x2) (k0_pay19 (F := Ideal) _ (k0_pay7 (F := Ideal) _) _ (k0_pay18 (F := Ideal) _)) 1024 896 15 rfl (by decide) (by decide) (second_apply _ (i 1) (secWord i) x3 _ x2 _) slices_S512x1024_o0_896_S512x128 shapeCasts_S512x128_S1x512x128 inb_S16x512x128_S1x512x128_15_0_0 x
  · exact fun x => slab (lane (i 1) x3 xs0 x2) (k0_pay19 (F := Ideal) _ (k0_pay7 (F := Ideal) _) _ (k0_pay18 (F := Ideal) _)) 1024 768 14 rfl (by decide) (by decide) (second_apply _ (i 1) (secWord i) x3 _ x2 _) slices_S512x1024_o0_768_S512x128 shapeCasts_S512x128_S1x512x128 inb_S16x512x128_S1x512x128_14_0_0 x
  · exact fun x => slab (lane (i 1) x3 xs0 x2) (k0_pay19 (F := Ideal) _ (k0_pay7 (F := Ideal) _) _ (k0_pay18 (F := Ideal) _)) 1024 640 13 rfl (by decide) (by decide) (second_apply _ (i 1) (secWord i) x3 _ x2 _) slices_S512x1024_o0_640_S512x128 shapeCasts_S512x128_S1x512x128 inb_S16x512x128_S1x512x128_13_0_0 x
  · exact fun x => slab (lane (i 1) x3 xs0 x2) (k0_pay19 (F := Ideal) _ (k0_pay7 (F := Ideal) _) _ (k0_pay18 (F := Ideal) _)) 1024 512 12 rfl (by decide) (by decide) (second_apply _ (i 1) (secWord i) x3 _ x2 _) slices_S512x1024_o0_512_S512x128 shapeCasts_S512x128_S1x512x128 inb_S16x512x128_S1x512x128_12_0_0 x
  · exact fun x => slab (lane (i 1) x3 xs0 x2) (k0_pay19 (F := Ideal) _ (k0_pay7 (F := Ideal) _) _ (k0_pay18 (F := Ideal) _)) 1024 384 11 rfl (by decide) (by decide) (second_apply _ (i 1) (secWord i) x3 _ x2 _) slices_S512x1024_o0_384_S512x128 shapeCasts_S512x128_S1x512x128 inb_S16x512x128_S1x512x128_11_0_0 x
  · exact fun x => slab (lane (i 1) x3 xs0 x2) (k0_pay19 (F := Ideal) _ (k0_pay7 (F := Ideal) _) _ (k0_pay18 (F := Ideal) _)) 1024 256 10 rfl (by decide) (by decide) (second_apply _ (i 1) (secWord i) x3 _ x2 _) slices_S512x1024_o0_256_S512x128 shapeCasts_S512x128_S1x512x128 inb_S16x512x128_S1x512x128_10_0_0 x
  · exact fun x => slab (lane (i 1) x3 xs0 x2) (k0_pay19 (F := Ideal) _ (k0_pay7 (F := Ideal) _) _ (k0_pay18 (F := Ideal) _)) 1024 128 9 rfl (by decide) (by decide) (second_apply _ (i 1) (secWord i) x3 _ x2 _) slices_S512x1024_o0_128_S512x128 shapeCasts_S512x128_S1x512x128 inb_S16x512x128_S1x512x128_9_0_0 x
  · exact fun x => slab (lane (i 1) x3 xs0 x2) (k0_pay19 (F := Ideal) _ (k0_pay7 (F := Ideal) _) _ (k0_pay18 (F := Ideal) _)) 1024 0 8 rfl (by decide) (by decide) (second_apply _ (i 1) (secWord i) x3 _ x2 _) slices_S512x1024_o0_0_S512x128 shapeCasts_S512x128_S1x512x128 inb_S16x512x128_S1x512x128_8_0_0 x
  · exact fun x => slab (lane (i 1) x3 xs0 x2) (k0_pay8 (F := Ideal) _ _ _ _) 0 896 7 rfl (by decide) (by decide) (fun r n => (first_apply _ (i 1) (secWord i) x3 _ x2 _ r n).trans (congrArg (lane (i 1) x3 _ x2 r) (Fin.ext (Nat.zero_add _).symm))) slices_S512x1024_o0_896_S512x128 shapeCasts_S512x128_S1x512x128 inb_S16x512x128_S1x512x128_7_0_0 x
  · exact fun x => slab (lane (i 1) x3 xs0 x2) (k0_pay8 (F := Ideal) _ _ _ _) 0 768 6 rfl (by decide) (by decide) (fun r n => (first_apply _ (i 1) (secWord i) x3 _ x2 _ r n).trans (congrArg (lane (i 1) x3 _ x2 r) (Fin.ext (Nat.zero_add _).symm))) slices_S512x1024_o0_768_S512x128 shapeCasts_S512x128_S1x512x128 inb_S16x512x128_S1x512x128_6_0_0 x
  · exact fun x => slab (lane (i 1) x3 xs0 x2) (k0_pay8 (F := Ideal) _ _ _ _) 0 640 5 rfl (by decide) (by decide) (fun r n => (first_apply _ (i 1) (secWord i) x3 _ x2 _ r n).trans (congrArg (lane (i 1) x3 _ x2 r) (Fin.ext (Nat.zero_add _).symm))) slices_S512x1024_o0_640_S512x128 shapeCasts_S512x128_S1x512x128 inb_S16x512x128_S1x512x128_5_0_0 x
  · exact fun x => slab (lane (i 1) x3 xs0 x2) (k0_pay8 (F := Ideal) _ _ _ _) 0 512 4 rfl (by decide) (by decide) (fun r n => (first_apply _ (i 1) (secWord i) x3 _ x2 _ r n).trans (congrArg (lane (i 1) x3 _ x2 r) (Fin.ext (Nat.zero_add _).symm))) slices_S512x1024_o0_512_S512x128 shapeCasts_S512x128_S1x512x128 inb_S16x512x128_S1x512x128_4_0_0 x
  · exact fun x => slab (lane (i 1) x3 xs0 x2) (k0_pay8 (F := Ideal) _ _ _ _) 0 384 3 rfl (by decide) (by decide) (fun r n => (first_apply _ (i 1) (secWord i) x3 _ x2 _ r n).trans (congrArg (lane (i 1) x3 _ x2 r) (Fin.ext (Nat.zero_add _).symm))) slices_S512x1024_o0_384_S512x128 shapeCasts_S512x128_S1x512x128 inb_S16x512x128_S1x512x128_3_0_0 x
  · exact fun x => slab (lane (i 1) x3 xs0 x2) (k0_pay8 (F := Ideal) _ _ _ _) 0 256 2 rfl (by decide) (by decide) (fun r n => (first_apply _ (i 1) (secWord i) x3 _ x2 _ r n).trans (congrArg (lane (i 1) x3 _ x2 r) (Fin.ext (Nat.zero_add _).symm))) slices_S512x1024_o0_256_S512x128 shapeCasts_S512x128_S1x512x128 inb_S16x512x128_S1x512x128_2_0_0 x
  · exact fun x => slab (lane (i 1) x3 xs0 x2) (k0_pay8 (F := Ideal) _ _ _ _) 0 128 1 rfl (by decide) (by decide) (fun r n => (first_apply _ (i 1) (secWord i) x3 _ x2 _ r n).trans (congrArg (lane (i 1) x3 _ x2 r) (Fin.ext (Nat.zero_add _).symm))) slices_S512x1024_o0_128_S512x128 shapeCasts_S512x128_S1x512x128 inb_S16x512x128_S1x512x128_1_0_0 x
  · exact fun x => slab (lane (i 1) x3 xs0 x2) (k0_pay8 (F := Ideal) _ _ _ _) 0 0 0 rfl (by decide) (by decide) (fun r n => (first_apply _ (i 1) (secWord i) x3 _ x2 _ r n).trans (congrArg (lane (i 1) x3 _ x2 r) (Fin.ext (Nat.zero_add _).symm))) slices_S512x1024_o0_0_S512x128 shapeCasts_S512x128_S1x512x128 inb_S16x512x128_S1x512x128_0_0_0 x

theorem out6_B : out0_B_6 (F := Ideal) c i arg2 harg2 arg3 harg3 arg4 harg4 arg5 harg5 arg6 harg6 arg7 harg7 arg8 harg8 arg9 harg9 hc0 hc1 x0 x1 x2 x3 x4 xs0 = Cert.Blocks.castd x4 := by
  have hcov := cover0_B_6 (F := Ideal) c i arg2 harg2 arg3 harg3 arg4 harg4 arg5 harg5 arg6 harg6 arg7 harg7 arg8 harg8 arg9 harg9 hc0 hc1 x0 x1 x2 x3 x4 xs0
  unfold out0_B_6
  rw [View.read_writes_eq_canon _ _ _ hcov]
  unfold kernelRun0_B
  dsimp only
  sl_unfold_words
  simp only [View.readAt_eq_ld, harg6.read_unread]
  rw [View.canon_unit_zero Cert.Blocks.zero2, View.ld_unit_zero Cert.Blocks.zero3]
  funext y
  obtain ⟨r, e, rfl⟩ : ∃ (r : Fin 32) (e : Fin 2048), y = ix2 r e := ⟨y 0, y 1, ValueIdx.eq_ix2 (n0 := 32) (n1 := 2048) y⟩
  exact Cert.Blocks.drop_lead x4 shapeCasts_S1x32x2048_S32x2048 r e

end

end Cert.HgrnIn

end
-- ==== Proof.HgrnInValue.lean ====
/- The recurrent layer's input projection: its blocks as parts of its arguments, and what its run leaves in the results. -/
module

public import proofs.«01_k».proof.Proof.HgrnInCases

@[expose] public section

set_option maxRecDepth 16384

noncomputable section

namespace Cert.HgrnIn

open Idealize.ShloMosaic hiding ix1 ix2 ix3 ix4 ix5
open Idealize.ShloMosaic.ValueIdx Idealize.ShloMosaic.TcCoe
open Cert.Kernel4Ideal Cert.Kernel4Ideal.Gen Cert.Rows

/-! ## The results -/

section
variable (a0 : FVec Ideal S4x2048x2048 .f32) (a1 : FVec Ideal S2048 .f32) (a2 : FVec Ideal S3x2048 .f32) (a3 : FVec Ideal S2048x8192 .f32)
  (a4 : FVec Ideal S1x2048x2048 .f32)

/-- The normed row `R`. -/
def hRow (R : Fin 8192) (k : Fin 2048) : EReal :=
  a0 (ix3 (bOf R) (lOf R) k) * rmsOf 0x45000000#32 (fun k => a0 (ix3 (bOf R) (lOf R) k)) * a1 (ix1 k)
/-- Its product with column `N`. -/
def proj (R : Fin 8192) (N : Fin 8192) : EReal := ∑ k : Fin 2048, hRow a0 a1 R k * a3 (ix2 k N)
/-- Head `H` of the four sections of sixteen heads each. -/
def pOut (H : Fin 64) (R : Fin 8192) (d : Fin 128) : EReal :=
  act (H.val / 16) (lbOf a2 ⟨H.val % 16 * 128 + d.val, by omega⟩) (proj a0 a1 a3 R ⟨H.val * 128 + d.val, by omega⟩)
def pBuf : FVec Ideal S64x8192x128 .f32 := fun i => pOut a0 a1 a2 a3 (i 0) (i 1) (i 2)
/-- The output matrix, for the next call. -/
def wBuf : FVec Ideal S2048x2048 .bf16 := fun i => a4 (ix3 0 (i 0) (i 1))

end

/-! ## The blocks of a point -/

theorem index0 : ∀ t : Fin grid0.N, win0_0.index t 0 = t.val / 4 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = t.val % 4 := by decide +kernel
theorem index3 : ∀ t : Fin grid0.N, win0_3.index t 0 = 0 ∧ win0_3.index t 1 = 0 := by decide +kernel
theorem index4 : ∀ t : Fin grid0.N, win0_4.index t 0 = 0 ∧ win0_4.index t 1 = t.val ∧ win0_4.index t 2 = 0 := by decide +kernel
theorem index5 : ∀ t : Fin grid0.N, win0_5.index t 0 = t.val % 4 ∧ win0_5.index t 1 = t.val / 4 ∧ win0_5.index t 2 = 0 := by decide +kernel
theorem index6 : ∀ t : Fin grid0.N, win0_6.index t 0 = t.val ∧ win0_6.index t 1 = 0 := by decide +kernel
theorem coord1 : ∀ t : Fin grid0.N, (grid0.coords t 1).val = t.val % 4 := by decide +kernel

theorem read0 (X : FVec Ideal S8192x2048 .f32) (t : Fin cfg0.N) (r : Fin 512) (n : Fin 2048) (R : Fin 8192) (N : Fin 2048)
    (hR : R.val = (t.val / 4) * 512 + r.val) (hN : N.val = (0) * 2048 + n.val) :
    (((cfg0.win 0).blk t).view.read (Elt Ideal) X : FVec Ideal S512x2048 .f32) (ix2 r n) = X (ix2 R N) := by
  show X ((win0_0.rect t).emb (ix2 r n)) = _
  refine congrArg X (funext fun a => Fin.ext ?_)
  refine (win0_0.rect_emb_val t _ a).trans ?_
  match a with
  | ⟨0, _⟩ => show win0_0.index t 0 * 512 + r.val = R.val; rw [(index0 t).1, hR]
  | ⟨1, _⟩ => show win0_0.index t 1 * 2048 + n.val = N.val; rw [(index0 t).2, hN]

theorem read1 (X : FVec Ideal S1x2048 .f32) (t : Fin cfg0.N) (r : Fin 1) (n : Fin 2048) (R : Fin 1) (N : Fin 2048)
    (hR : R.val = (0) * 1 + r.val) (hN : N.val = (0) * 2048 + n.val) :
    (((cfg0.win 1).blk t).view.read (Elt Ideal) X : FVec Ideal S1x2048 .f32) (ix2 r n) = X (ix2 R N) := by
  show X ((win0_1.rect t).emb (ix2 r n)) = _
  refine congrArg X (funext fun a => Fin.ext ?_)
  refine (win0_1.rect_emb_val t _ a).trans ?_
  match a with
  | ⟨0, _⟩ => show win0_1.index t 0 * 1 + r.val = R.val; rw [(index1 t).1, hR]
  | ⟨1, _⟩ => show win0_1.index t 1 * 2048 + n.val = N.val; rw [(index1 t).2, hN]

theorem read2 (X : FVec Ideal S2048x8192 .bf16) (t : Fin cfg0.N) (r : Fin 2048) (n : Fin 2048) (R : Fin 2048) (N : Fin 8192)
    (hR : R.val = (0) * 2048 + r.val) (hN : N.val = (t.val % 4) * 2048 + n.val) :
    (((cfg0.win 2).blk t).view.read (Elt Ideal) X : FVec Ideal S2048x2048 .bf16) (ix2 r n) = X (ix2 R N) := by
  show X ((win0_2.rect t).emb (ix2 r n)) = _
  refine congrArg X (funext fun a => Fin.ext ?_)
  refine (win0_2.rect_emb_val t _ a).trans ?_
  match a with
  | ⟨0, _⟩ => show win0_2.index t 0 * 2048 + r.val = R.val; rw [(index2 t).1, hR]
  | ⟨1, _⟩ => show win0_2.index t 1 * 2048 + n.val = N.val; rw [(index2 t).2, hN]

theorem read3 (X : FVec Ideal S3x2048 .f32) (t : Fin cfg0.N) (r : Fin 3) (n : Fin 2048) (R : Fin 3) (N : Fin 2048)
    (hR : R.val = (0) * 3 + r.val) (hN : N.val = (0) * 2048 + n.val) :
    (((cfg0.win 3).blk t).view.read (Elt Ideal) X : FVec Ideal S3x2048 .f32) (ix2 r n) = X (ix2 R N) := by
  show X ((win0_3.rect t).emb (ix2 r n)) = _
  refine congrArg X (funext fun a => Fin.ext ?_)
  refine (win0_3.rect_emb_val t _ a).trans ?_
  match a with
  | ⟨0, _⟩ => show win0_3.index t 0 * 3 + r.val = R.val; rw [(index3 t).1, hR]
  | ⟨1, _⟩ => show win0_3.index t 1 * 2048 + n.val = N.val; rw [(index3 t).2, hN]

theorem read4 (X : FVec Ideal S1x2048x2048 .f32) (t : Fin cfg0.N) (r : Fin 1) (n : Fin 32) (o : Fin 2048) (R : Fin 1) (N : Fin 2048) (O : Fin 2048)
    (hR : R.val = (0) * 1 + r.val) (hN : N.val = (t.val) * 32 + n.val) (hO : O.val = (0) * 2048 + o.val) :
    (((cfg0.win 4).blk t).view.read (Elt Ideal) X : FVec Ideal S1x32x2048 .f32) (ix3 r n o) = X (ix3 R N O) := by
  show X ((win0_4.rect t).emb (ix3 r n o)) = _
  refine congrArg X (funext fun a => Fin.ext ?_)
  refine (win0_4.rect_emb_val t _ a).trans ?_
  match a with
  | ⟨0, _⟩ => show win0_4.index t 0 * 1 + r.val = R.val; rw [(index4 t).1, hR]
  | ⟨1, _⟩ => show win0_4.index t 1 * 32 + n.val = N.val; rw [(index4 t).2.1, hN]
  | ⟨2, _⟩ => show win0_4.index t 2 * 2048 + o.val = O.val; rw [(index4 t).2.2, hO]

theorem read5 (X : FVec Ideal S64x8192x128 .f32) (t : Fin cfg0.N) (r : Fin 16) (n : Fin 512) (o : Fin 128) (R : Fin 64) (N : Fin 8192) (O : Fin 128)
    (hR : R.val = (t.val % 4) * 16 + r.val) (hN : N.val = (t.val / 4) * 512 + n.val) (hO : O.val = (0) * 128 + o.val) :
    (((cfg0.win 5).blk t).view.read (Elt Ideal) X : FVec Ideal S16x512x128 .f32) (ix3 r n o) = X (ix3 R N O) := by
  show X ((win0_5.rect t).emb (ix3 r n o)) = _
  refine congrArg X (funext fun a => Fin.ext ?_)
  refine (win0_5.rect_emb_val t _ a).trans ?_
  match a with
  | ⟨0, _⟩ => show win0_5.index t 0 * 16 + r.val = R.val; rw [(index5 t).1, hR]
  | ⟨1, _⟩ => show win0_5.index t 1 * 512 + n.val = N.val; rw [(index5 t).2.1, hN]
  | ⟨2, _⟩ => show win0_5.index t 2 * 128 + o.val = O.val; rw [(index5 t).2.2, hO]

theorem read6 (X : FVec Ideal S2048x2048 .bf16) (t : Fin cfg0.N) (r : Fin 32) (n : Fin 2048) (R : Fin 2048) (N : Fin 2048)
    (hR : R.val = (t.val) * 32 + r.val) (hN : N.val = (0) * 2048 + n.val) :
    (((cfg0.win 6).blk t).view.read (Elt Ideal) X : FVec Ideal S32x2048 .bf16) (ix2 r n) = X (ix2 R N) := by
  show X ((win0_6.rect t).emb (ix2 r n)) = _
  refine congrArg X (funext fun a => Fin.ext ?_)
  refine (win0_6.rect_emb_val t _ a).trans ?_
  match a with
  | ⟨0, _⟩ => show win0_6.index t 0 * 32 + r.val = R.val; rw [(index6 t).1, hR]
  | ⟨1, _⟩ => show win0_6.index t 1 * 2048 + n.val = N.val; rw [(index6 t).2, hN]

/-! ## The run -/

variable (m : (ℓ : Loc nD τ sig) → Buf (Elt Ideal) ℓ) (c : Dev nD)

abbrev g0 : FVec Ideal S4x2048x2048 .f32 := m ((c : Thread nD τ).loc main_arg0)
abbrev g1 : FVec Ideal S2048 .f32 := m ((c : Thread nD τ).loc main_arg1)
abbrev g2 : FVec Ideal S3x2048 .f32 := m ((c : Thread nD τ).loc main_arg2)
abbrev g3 : FVec Ideal S2048x8192 .f32 := m ((c : Thread nD τ).loc main_arg3)
abbrev g4 : FVec Ideal S1x2048x2048 .f32 := m ((c : Thread nD τ).loc main_arg4)

theorem V_x : V m c main_v0 = shapeCast S8192x2048 (g0 m c) shapeCasts_S4x2048x2048_S8192x2048 := by
  unfold V
  after_reads_simp
  rfl

theorem V_n : V m c main_v1 = shapeCast S1x2048 (g1 m c) shapeCasts_S2048_S1x2048 := by
  unfold V
  after_reads_simp
  rfl

theorem V_w : V m c main_v2 = (truncf .bf16 (g3 m c) bitsLt_bf16_f32 : FVec Ideal S2048x8192 .bf16) := by
  unfold V
  after_reads_simp

theorem b0 (t : Fin cfg0.N) (r : Fin 512) (R : Fin 8192) (hR : R.val = t.val / 4 * 512 + r.val) (k : Fin 2048) :
    (iblk m c 0 t : FVec Ideal S512x2048 .f32) (ix2 r k) = g0 m c (ix3 (bOf R) (lOf R) k) :=
  (read0 (V m c main_v0) t r k R k hR (by omega)).trans ((congrFun (V_x m c) _).trans (fold _ _ R k))

theorem b1 (t : Fin cfg0.N) (n : Fin 2048) : (iblk m c 1 t : FVec Ideal S1x2048 .f32) (ix2 0 n) = g1 m c (ix1 n) :=
  (read1 (V m c main_v1) t 0 n 0 n (by simp) (by omega)).trans ((congrFun (V_n m c) _).trans (Cert.Ffn.row1 _ _ n))

theorem b2 (t : Fin cfg0.N) (k n : Fin 2048) (N : Fin 8192) (hN : N.val = t.val % 4 * 2048 + n.val) :
    (iblk m c 2 t : FVec Ideal S2048x2048 .bf16) (ix2 k n) = g3 m c (ix2 k N) :=
  (read2 (V m c main_v2) t k n k N (by omega) hN).trans (congrFun (V_w m c) _)

theorem b3 (t : Fin cfg0.N) : (iblk m c 3 t : FVec Ideal S3x2048 .f32) = g2 m c := by
  funext y
  obtain ⟨r, n, rfl⟩ : ∃ (r : Fin 3) (n : Fin 2048), y = ix2 r n := ⟨y 0, y 1, ValueIdx.eq_ix2 (n0 := 3) (n1 := 2048) y⟩
  exact (read3 (V m c main_arg2) t r n r n (by omega) (by omega)).trans (congrFun (V_main_arg2 m c) _)

theorem b4 (t : Fin cfg0.N) (r : Fin 32) (n R : Fin 2048) (hR : R.val = t.val * 32 + r.val) :
    (iblk m c 4 t : FVec Ideal S1x32x2048 .f32) (ix3 0 r n) = g4 m c (ix3 0 R n) :=
  (read4 (V m c main_arg4) t 0 r n 0 R n (by simp) hR (by omega)).trans (congrFun (V_main_arg4 m c) _)

theorem normed_of (x : FVec Ideal S512x2048 .f32) (w : FVec Ideal S1x2048 .f32) (r : Fin 512) (X W : Fin 2048 → EReal)
    (hx : ∀ k, x (ix2 r k) = X k) (hw : ∀ k, w (ix2 0 k) = W k) (k : Fin 2048) :
    normed x w (ix2 r k) = X k * rmsOf 0x45000000#32 X * W k := by
  have e : (fun k => x (ix2 r k)) = X := funext hx
  show x (ix2 r k) * rmsOf 0x45000000#32 (fun k => x (ix2 r k)) * w (ix2 0 k) = _
  rw [e, hx, hw]

theorem normed_apply (t : Fin cfg0.N) (r : Fin 512) (R : Fin 8192) (hR : R.val = t.val / 4 * 512 + r.val) (k : Fin 2048) :
    normed (iblk m c 0 t) (iblk m c 1 t) (ix2 r k) = hRow (g0 m c) (g1 m c) R k :=
  normed_of _ _ r (fun k => g0 m c (ix3 (bOf R) (lOf R) k)) (fun k => g1 m c (ix1 k)) (b0 m c t r R hR) (b1 m c t) k

theorem at_A (t : Fin cfg0.N) (h : t.val % 4 = 0) : (outsAt0 m c t.val t.isLt).2.2 = normed (iblk m c 0 t) (iblk m c 1 t) := by
  rw [outsAt0_A m c t h]
  dsimp only
  rw [sout_A]

theorem at_B (t : Fin cfg0.N) (h : ¬t.val % 4 = 0) : (outsAt0 m c t.val t.isLt).2.2
    = (outsAt0 m c (t.val - 1) (Nat.lt_of_le_of_lt (Nat.sub_le _ _) t.isLt)).2.2 := by
  rw [outsAt0_B m c t h]
  dsimp only
  rfl

/-- The carried buffer holds the normed rows of its tile at all four points of the tile. -/
theorem carried (n : ℕ) : ∀ (hn : n < cfg0.N) (r : Fin 512) (R : Fin 8192), R.val = n / 4 * 512 + r.val → ∀ k : Fin 2048,
    ((outsAt0 m c n hn).2.2 : FVec Ideal S512x2048 .bf16) (ix2 r k) = hRow (g0 m c) (g1 m c) R k := by
  induction n using Nat.strong_induction_on with
  | _ n ih =>
    intro hn r R hR k
    by_cases h : n % 4 = 0
    · exact (congrFun (at_A m c ⟨n, hn⟩ h) _).trans (normed_apply m c ⟨n, hn⟩ r R hR k)
    · exact (congrFun (at_B m c ⟨n, hn⟩ h) _).trans (ih (n - 1) (by omega) _ r R (by omega) k)

theorem lane_apply (t : Fin cfg0.N) (h : FVec Ideal S512x2048 .bf16) (r : Fin 512) (R : Fin 8192)
    (hh : ∀ k : Fin 2048, h (ix2 r k) = hRow (g0 m c) (g1 m c) R k) (H : Fin 16) (d : Fin 128) (H' : Fin 64) (hH : H'.val = t.val % 4 * 16 + H.val) :
    lane (grid0.coords t 1) (iblk m c 3 t) h (iblk m c 2 t) r ⟨H.val * 128 + d.val, by omega⟩
      = pOut (g0 m c) (g1 m c) (g2 m c) (g3 m c) H' R d := by
  unfold lane pOut proj
  rw [coord1 t, show H'.val / 16 = t.val % 4 by omega, b3]
  refine congrArg₂ (act (t.val % 4)) (congrArg (lbOf _) (Fin.ext ?_)) (Finset.sum_congr rfl fun k _ => ?_)
  · show H.val * 128 + d.val = H'.val % 16 * 128 + d.val
    omega
  · rw [hh k]
    refine congrArg (hRow (g0 m c) (g1 m c) R k * ·) (b2 m c t k _ _ ?_)
    show H'.val * 128 + d.val = t.val % 4 * 2048 + (H.val * 128 + d.val)
    omega

theorem flushed5 (t : Fin cfg0.N) : (dats m 0 c).flushed 5 t
    = ((cfg0.win 5).blk t).view.read (Elt Ideal) (pBuf (g0 m c) (g1 m c) (g2 m c) (g3 m c)) := by
  have ht : t.val < 64 := t.isLt.trans_eq N_0
  have key : ∀ (h : FVec Ideal S512x2048 .bf16), (∀ (r : Fin 512) (R : Fin 8192), R.val = t.val / 4 * 512 + r.val → ∀ k : Fin 2048,
      h (ix2 r k) = hRow (g0 m c) (g1 m c) R k) → (cfg0.win 5).cut (grid0.coords t) (heads (lane (grid0.coords t 1) (iblk m c 3 t) h (iblk m c 2 t)))
      = ((cfg0.win 5).blk t).view.read (Elt Ideal) (pBuf (g0 m c) (g1 m c) (g2 m c) (g3 m c)) := by
    intro h hh
    funext y
    obtain ⟨H, r, d, rfl⟩ : ∃ (H : Fin 16) (r : Fin 512) (d : Fin 128), y = ix3 H r d :=
      ⟨y 0, y 1, y 2, ValueIdx.eq_ix3 (n0 := 16) (n1 := 512) (n2 := 128) y⟩
    refine Eq.trans ?_ (read5 _ t H r d ⟨t.val % 4 * 16 + H.val, by omega⟩ ⟨t.val / 4 * 512 + r.val, by omega⟩ d rfl rfl (by omega)).symm
    exact lane_apply m c t h r ⟨t.val / 4 * 512 + r.val, by omega⟩ (hh r _ rfl) H d ⟨t.val % 4 * 16 + H.val, by omega⟩ rfl
  by_cases h1 : t.val % 4 = 0
  · rw [Value.flushed5_A m c t h1]
    refine (congrArg ((cfg0.win 5).cut (grid0.coords t)) (out5_A ..)).trans (key _ fun r R hR k => normed_apply m c t r R hR k)
  · rw [Value.flushed5_B m c t h1]
    refine (congrArg ((cfg0.win 5).cut (grid0.coords t)) (out5_B ..)).trans (key _ fun r R hR k => carried m c _ _ r R (by omega) k)

theorem flushed6 (t : Fin cfg0.N) : (dats m 0 c).flushed 6 t = ((cfg0.win 6).blk t).view.read (Elt Ideal) (wBuf (g4 m c)) := by
  have ht : t.val < 64 := t.isLt.trans_eq N_0
  have key : (cfg0.win 6).cut (grid0.coords t) (Cert.Blocks.castd (iblk m c 4 t : FVec Ideal S1x32x2048 .f32))
      = ((cfg0.win 6).blk t).view.read (Elt Ideal) (wBuf (g4 m c)) := by
    funext y
    obtain ⟨r, n, rfl⟩ : ∃ (r : Fin 32) (n : Fin 2048), y = ix2 r n := ⟨y 0, y 1, ValueIdx.eq_ix2 (n0 := 32) (n1 := 2048) y⟩
    refine Eq.trans ?_ (read6 _ t r n ⟨t.val * 32 + r.val, by omega⟩ n rfl (by omega)).symm
    exact b4 m c t r n ⟨t.val * 32 + r.val, by omega⟩ rfl
  by_cases h1 : t.val % 4 = 0
  · rw [Value.flushed6_A m c t h1]
    exact (congrArg ((cfg0.win 6).cut (grid0.coords t)) (out6_A ..)).trans key
  · rw [Value.flushed6_B m c t h1]
    exact (congrArg ((cfg0.win 6).cut (grid0.coords t)) (out6_B ..)).trans key

theorem cover5 (i : S64x8192x128.Idx) : ∃ t : Fin cfg0.N, (cfg0.win 5).flush t = true ∧ i ∈ ((cfg0.win 5).blk t).view.set := by
  have h0 : (i 0 : ℕ) < 64 := (i 0).isLt
  have h1 : (i 1 : ℕ) < 8192 := (i 1).isLt
  have h2 : (i 2 : ℕ) < 128 := (i 2).isLt
  have ht : ((i 1).val / 512 * 4 + (i 0).val / 16) < cfg0.N := by rw [show cfg0.N = 64 from rfl]; omega
  refine ⟨⟨_, ht⟩, flush0_5 _, ?_⟩
  show i ∈ ((View.whole main_v3_0).slice (win0_5.rect ⟨_, ht⟩)).set
  rw [View.set_slice_whole, Rect.mem_set_unit]
  have e := index5 ⟨_, ht⟩
  have x : ∀ t : Fin grid0.N, win0_5.xsize (grid0.coords t) 0 = 16 ∧ win0_5.xsize (grid0.coords t) 1 = 512 ∧ win0_5.xsize (grid0.coords t) 2 = 128 := by decide +kernel
  intro a
  match a with
  | ⟨0, _⟩ =>
    show win0_5.index ⟨_, ht⟩ 0 * 16 ≤ (i 0 : Nat) ∧ (i 0 : Nat) < win0_5.index ⟨_, ht⟩ 0 * 16 + win0_5.xsize (grid0.coords ⟨_, ht⟩) 0
    rw [e.1, (x _).1]
    show ((((i 1).val / 512 * 4 + (i 0).val / 16)) % 4) * 16 ≤ (i 0 : Nat) ∧ (i 0 : Nat) < ((((i 1).val / 512 * 4 + (i 0).val / 16)) % 4) * 16 + 16
    omega
  | ⟨1, _⟩ =>
    show win0_5.index ⟨_, ht⟩ 1 * 512 ≤ (i 1 : Nat) ∧ (i 1 : Nat) < win0_5.index ⟨_, ht⟩ 1 * 512 + win0_5.xsize (grid0.coords ⟨_, ht⟩) 1
    rw [e.2.1, (x _).2.1]
    show ((((i 1).val / 512 * 4 + (i 0).val / 16)) / 4) * 512 ≤ (i 1 : Nat) ∧ (i 1 : Nat) < ((((i 1).val / 512 * 4 + (i 0).val / 16)) / 4) * 512 + 512
    omega
  | ⟨2, _⟩ =>
    show win0_5.index ⟨_, ht⟩ 2 * 128 ≤ (i 2 : Nat) ∧ (i 2 : Nat) < win0_5.index ⟨_, ht⟩ 2 * 128 + win0_5.xsize (grid0.coords ⟨_, ht⟩) 2
    rw [e.2.2, (x _).2.2]
    show (0) * 128 ≤ (i 2 : Nat) ∧ (i 2 : Nat) < (0) * 128 + 128
    omega

theorem cover6 (i : S2048x2048.Idx) : ∃ t : Fin cfg0.N, (cfg0.win 6).flush t = true ∧ i ∈ ((cfg0.win 6).blk t).view.set := by
  have h0 : (i 0 : ℕ) < 2048 := (i 0).isLt
  have h1 : (i 1 : ℕ) < 2048 := (i 1).isLt
  have ht : (i 0).val / 32 < cfg0.N := by rw [show cfg0.N = 64 from rfl]; omega
  refine ⟨⟨_, ht⟩, flush0_6 _, ?_⟩
  show i ∈ ((View.whole main_v3_1).slice (win0_6.rect ⟨_, ht⟩)).set
  rw [View.set_slice_whole, Rect.mem_set_unit]
  have e := index6 ⟨_, ht⟩
  have x : ∀ t : Fin grid0.N, win0_6.xsize (grid0.coords t) 0 = 32 ∧ win0_6.xsize (grid0.coords t) 1 = 2048 := by decide +kernel
  intro a
  match a with
  | ⟨0, _⟩ =>
    show win0_6.index ⟨_, ht⟩ 0 * 32 ≤ (i 0 : Nat) ∧ (i 0 : Nat) < win0_6.index ⟨_, ht⟩ 0 * 32 + win0_6.xsize (grid0.coords ⟨_, ht⟩) 0
    rw [e.1, (x _).1]
    show (((i 0).val / 32)) * 32 ≤ (i 0 : Nat) ∧ (i 0 : Nat) < (((i 0).val / 32)) * 32 + 32
    omega
  | ⟨1, _⟩ =>
    show win0_6.index ⟨_, ht⟩ 1 * 2048 ≤ (i 1 : Nat) ∧ (i 1 : Nat) < win0_6.index ⟨_, ht⟩ 1 * 2048 + win0_6.xsize (grid0.coords ⟨_, ht⟩) 1
    rw [e.2, (x _).2]
    show (0) * 2048 ≤ (i 1 : Nat) ∧ (i 1 : Nat) < (0) * 2048 + 2048
    omega

theorem final5 : (dats m 0 c).arrAt 5 cfg0.N = pBuf (g0 m c) (g1 m c) (g2 m c) (g3 m c) :=
  (dats m 0 c).arrAt_eq_of_cover 5 _ (fun t _ => flushed5 m c t) cover5

theorem final6 : (dats m 0 c).arrAt 6 cfg0.N = wBuf (g4 m c) :=
  (dats m 0 c).arrAt_eq_of_cover 6 _ (fun t _ => flushed6 m c t) cover6

end Cert.HgrnIn

end
-- ==== Proof.HgrnIn.lean ====
/- The recurrent layer's input projection's reference at an index, and the claims about the call and its reference. -/
module

public import proofs.«01_k».proof.Defs
public import proofs.«01_k».proof.Proof.HgrnInValue
public import proofs.«01_k».proof.Proof.FfnRefValue
public import proofs.«01_k».proof.Proof.Gen.Kernel4.Frame
public import proofs.«01_k».proof.Proof.Gen.Reference4Ideal.Read
public import proofs.«01_k».proof.Proof.Gen.Reference4Ideal.Run
public import Idealize.ShloMosaic.Adequacy
public import Idealize.ShloMosaic.Init

@[expose] public section

set_option maxRecDepth 16384

noncomputable section

namespace Cert.HgrnIn

open Idealize.ShloMosaic hiding ix1 ix2 ix3 ix4 ix5
open Idealize.ShloMosaic.ValueIdx Idealize.ShloMosaic.TcCoe Idealize.SL.Sem

section
open Cert.Reference4Ideal Cert.Reference4Ideal.Gen Cert.Reference4Ideal.Read Cert.Rows

variable (x0 : FVec Ideal S4x2048x2048 .f32) (x1 : FVec Ideal S2048 .f32) (x2 : FVec Ideal S3x2048 .f32) (x3 : FVec Ideal S2048x8192 .f32)
  (x4 : FVec Ideal S1x2048x2048 .f32)

/-! ## The lower bounds -/

theorem max_apply (n : Fin 2048) : val_main_v0 (F := Ideal) x2 (ix1 n) = Finset.univ.sup fun i : Fin 3 => x2 (ix2 i n) := by
  unfold val_main_v0
  have hr : S3x2048.Reduces [0] S2048 := by decide
  rw [Host.reduce_eq_fold_single FloatOps.maximumf _ _ _ hr h_S_]
  have e : val_main_cst (F := Ideal) (Shape.Idx.first h_S_) = (⊥ : EReal) := Cert.Tile.ofBits_ninf
  rw [e]
  refine (Cert.Softmax.fold_max_eq_sup _ _).trans (Finset.sup_congr rfl fun k _ => congrArg x2 ?_)
  funext a
  match a with
  | ⟨0, _⟩ => rfl
  | ⟨1, _⟩ => rfl

theorem exp_apply (i : Fin 3) (n : Fin 2048) : val_main_v6 (F := Ideal) x2 (ix2 i n)
    = Ideal.exp (x2 (ix2 i n) - Finset.univ.sup fun j : Fin 3 => x2 (ix2 j n)) := by
  rw [val_main_v6_apply, val_main_v5_apply, val_main_v4_apply, val_main_v3_apply, val_main_v2_apply, Ideal.hostUnary_exp_def, val_main_v1_apply,
    val_main_cst_0_apply]
  have e : (FloatOps.ofBits .f32 0xFF800000#32 : Ideal .f32) = (⊥ : EReal) := Cert.Tile.ofBits_ninf
  have ei : idx_main_v3 (idx_main_v4 (ix2 i n)) = ix1 n := by
    funext a
    match a with
    | ⟨0, _⟩ => rfl
  rw [e, ei, max_apply, Ideal.maximumf_def, max_eq_right bot_le]
  rfl

theorem weight_apply (n : Fin 2048) : val_main_v10 (F := Ideal) x2 (ix2 0 n) = lbOf x2 n := by
  rw [val_main_v10_apply, Ideal.hostDivf_def, exp_apply, val_main_v9_apply, val_main_v8_apply, val_main_v7_apply]
  have e : val_main_cst_1 (F := Ideal) (Shape.Idx.first h_S_) = (0 : EReal) := Ideal.ofBits_zero_f32
  rw [e, zero_add]
  unfold lbOf
  refine congrArg (Ideal.div _) (Finset.sum_congr rfl fun j _ => Eq.trans ?_ (exp_apply x2 j n))
  refine congrArg (val_main_v6 (F := Ideal) x2) ?_
  funext a
  match a with
  | ⟨0, _⟩ => rfl
  | ⟨1, _⟩ => rfl

/-- The first row of a running sum down three rows is the first row. -/
theorem running (y : FVec Ideal S3x2048 .f32) (v : EReal) (hv : v = 0)
    (h : S3x2048.ReduceWindows ![3, 1] ![1, 1] ![2, 0] ![0, 0] S3x2048) (n : Fin 2048) :
    Host.reduceWindow (u := S_) (· + ·) ![3, 1] ![1, 1] ![2, 0] ![0, 0] y (fun _ => v) h h_S_ (ix2 0 n) = y (ix2 0 n) := by
  have key : ∀ k : Fin (Shape.numel ⟨2, ![3, 1]⟩), ((Shape.rowMajor ⟨2, ![3, 1]⟩).symm k 0).val = k.val
      ∧ ((Shape.rowMajor ⟨2, ![3, 1]⟩).symm k 1).val = 0 := by decide +kernel
  have hl : List.finRange (Shape.numel ⟨2, ![3, 1]⟩) = [⟨0, by decide⟩, ⟨1, by decide⟩, ⟨2, by decide⟩] := by decide +kernel
  unfold Host.reduceWindow
  dsimp only
  rw [show List.finRange (Shape.numel ⟨S3x2048.rank, ![3, 1]⟩) = _ from hl]
  simp only [List.foldl]
  rw [dif_neg, dif_neg, dif_pos]
  · rw [hv, zero_add, zero_add, zero_add]
    refine congrArg y ?_
    funext a
    apply Fin.ext
    match a with
    | ⟨0, _⟩ => exact congrArg (fun z => 0 * 1 + z - 2) (key ⟨2, by decide⟩).1
    | ⟨1, _⟩ => exact (congrArg (fun z => n.val * 1 + z - 0) (key ⟨2, by decide⟩).2).trans (by show n.val * 1 + 0 - 0 = n.val; omega)
  · intro a
    match a with
    | ⟨0, _⟩ =>
      show 2 ≤ 0 * 1 + ((Shape.rowMajor ⟨2, ![3, 1]⟩).symm ⟨2, by decide⟩ 0).val ∧ 0 * 1 + ((Shape.rowMajor ⟨2, ![3, 1]⟩).symm ⟨2, by decide⟩ 0).val - 2 < 3
      rw [(key _).1]
      decide
    | ⟨1, _⟩ =>
      show 0 ≤ n.val * 1 + ((Shape.rowMajor ⟨2, ![3, 1]⟩).symm ⟨2, by decide⟩ 1).val ∧ n.val * 1 + ((Shape.rowMajor ⟨2, ![3, 1]⟩).symm ⟨2, by decide⟩ 1).val - 0 < 2048
      rw [(key _).2]
      omega
  · intro hin
    have h0 : 2 ≤ 0 * 1 + ((Shape.rowMajor ⟨2, ![3, 1]⟩).symm ⟨1, by decide⟩ 0).val := (hin 0).1
    rw [(key _).1] at h0
    exact absurd h0 (by decide)
  · intro hin
    have h0 : 2 ≤ 0 * 1 + ((Shape.rowMajor ⟨2, ![3, 1]⟩).symm ⟨0, by decide⟩ 0).val := (hin 0).1
    rw [(key _).1] at h0
    exact absurd h0 (by decide)

theorem lower (H : Fin 16) (d : Fin 128) : val_main_v35 (F := Ideal) x2 (ix3 H 0 d) = lbOf x2 ⟨H.val * 128 + d.val, by omega⟩ := by
  rw [val_main_v35_apply, val_main_v34_apply, val_main_v33_apply]
  have ei : idx_main_v33 (idx_main_v34 (idx_main_v35 (ix3 H 0 d))) = ix2 0 ⟨H.val * 128 + d.val, by omega⟩ := by
    funext a
    apply Fin.ext
    match a with
    | ⟨0, _⟩ => rfl
    | ⟨1, _⟩ => show ((H.val * 1 + 0) * 128 + d.val) % 2048 = H.val * 128 + d.val; omega
  rw [ei]
  refine Eq.trans ?_ (weight_apply x2 _)
  exact running _ _ Ideal.ofBits_zero_f32 reduceWindows_S3x2048_S3x2048_w3s1p2_0_w1s1p0_0 _

/-! ## The products -/

theorem ref_h (R : Fin 8192) (k : Fin 2048) : val_main_v24 (F := Ideal) x0 x1 (ix3 (bOf R) (lOf R) k) = hRow x0 x1 R k := by
  have e20 : idx_main_v20 (ix3 (bOf R) (lOf R) k) = ix3 (bOf R) (lOf R) 0 := by
    funext a
    match a with
    | ⟨0, _⟩ => rfl
    | ⟨1, _⟩ => rfl
    | ⟨2, _⟩ => rfl
  have e22 : idx_main_v22 (idx_main_v23 (ix3 (bOf R) (lOf R) k)) = ix1 k := by
    funext a
    match a with
    | ⟨0, _⟩ => rfl
  have er : val_main_v19 (F := Ideal) x0 (ix3 (bOf R) (lOf R) 0) = rmsOf 0x45000000#32 (fun k => x0 (ix3 (bOf R) (lOf R) k)) := by
    rw [val_main_v19_apply, val_main_v18_apply, val_main_v16_apply, val_main_v17_apply, val_main_v15_apply, val_main_v14_apply, val_main_v13_apply]
    rw [Ideal.hostUnary_rsqrt_def, Ideal.hostDivf_def]
    have e : (val_main_cst_2 (F := Ideal)) (Shape.Idx.first h_S_) = (0 : EReal) := Ideal.ofBits_zero_f32
    rw [e, zero_add]
    unfold rmsOf
    refine congrArg (fun s : EReal => Ideal.rsqrt (Ideal.div s _ + _)) (Finset.sum_congr rfl fun k _ => ?_)
    have ek : idx_main_v13 (idx_main_v14 (ix3 (bOf R) (lOf R) 0)) k = ix3 (bOf R) (lOf R) k := by
      funext a
      match a with
      | ⟨0, _⟩ => rfl
      | ⟨1, _⟩ => rfl
      | ⟨2, _⟩ => rfl
    rw [ek, val_main_v12_apply]
    rfl
  rw [val_main_v24_apply, val_main_v21_apply, val_main_v20_apply, val_main_v23_apply, val_main_v22_apply, e20, e22, er]
  rfl

theorem ref_proj (R N : Fin 8192) : val_main_v25 (F := Ideal) x0 x1 x3 (ix3 (bOf R) (lOf R) N) = proj x0 x1 x3 R N := by
  rw [val_main_v25_apply]
  unfold proj
  refine Finset.sum_congr rfl fun k _ => ?_
  have el : lidx_main_v25 (ix3 (bOf R) (lOf R) N) k = ix3 (bOf R) (lOf R) k := by
    funext a
    match a with
    | ⟨0, _⟩ => rfl
    | ⟨1, _⟩ => rfl
    | ⟨2, _⟩ => rfl
  have er : ridx_main_v25 (ix3 (bOf R) (lOf R) N) k = ix2 k N := by
    funext a
    match a with
    | ⟨0, _⟩ => rfl
    | ⟨1, _⟩ => rfl
  rw [el, er, ref_h]

theorem heads_q (R : Fin 8192) (H : Fin 16) (d : Fin 128) : val_main_v31 (F := Ideal) x0 x1 x3 (ix4 (bOf R) H (lOf R) d)
    = proj x0 x1 x3 R ⟨0 + (H.val * 128 + d.val), by omega⟩ := by
  rw [val_main_v31_apply, val_main_v30_apply, val_main_v26_apply]
  have e : idx_main_v26 (idx_main_v30 (idx_main_v31 (ix4 (bOf R) H (lOf R) d))) = ix3 (bOf R) (lOf R) ⟨0 + (H.val * 128 + d.val), by omega⟩ := by
    funext a
    apply Fin.ext
    match a with
    | ⟨0, _⟩ => show (((R.val / 2048 * 2048 + R.val % 2048) * 16 + H.val) * 128 + d.val) / 4194304 = R.val / 2048; omega
    | ⟨1, _⟩ => show (((R.val / 2048 * 2048 + R.val % 2048) * 16 + H.val) * 128 + d.val) / 2048 % 2048 = R.val % 2048; omega
    | ⟨2, _⟩ => show (((R.val / 2048 * 2048 + R.val % 2048) * 16 + H.val) * 128 + d.val) % 2048 = 0 + (H.val * 128 + d.val); omega
  rw [e, ref_proj]

theorem heads_f (R : Fin 8192) (H : Fin 16) (d : Fin 128) : val_main_v39 (F := Ideal) x0 x1 x3 (ix4 (bOf R) H (lOf R) d)
    = proj x0 x1 x3 R ⟨2048 + (H.val * 128 + d.val), by omega⟩ := by
  rw [val_main_v39_apply, val_main_v38_apply, val_main_v27_apply]
  have e : idx_main_v27 (idx_main_v38 (idx_main_v39 (ix4 (bOf R) H (lOf R) d))) = ix3 (bOf R) (lOf R) ⟨2048 + (H.val * 128 + d.val), by omega⟩ := by
    funext a
    apply Fin.ext
    match a with
    | ⟨0, _⟩ => show (((R.val / 2048 * 2048 + R.val % 2048) * 16 + H.val) * 128 + d.val) / 4194304 = R.val / 2048; omega
    | ⟨1, _⟩ => show (((R.val / 2048 * 2048 + R.val % 2048) * 16 + H.val) * 128 + d.val) / 2048 % 2048 = R.val % 2048; omega
    | ⟨2, _⟩ => show 2048 + (((R.val / 2048 * 2048 + R.val % 2048) * 16 + H.val) * 128 + d.val) % 2048 = 2048 + (H.val * 128 + d.val); omega
  rw [e, ref_proj]

theorem heads_i (R : Fin 8192) (H : Fin 16) (d : Fin 128) : val_main_v53 (F := Ideal) x0 x1 x3 (ix4 (bOf R) H (lOf R) d)
    = proj x0 x1 x3 R ⟨4096 + (H.val * 128 + d.val), by omega⟩ := by
  rw [val_main_v53_apply, val_main_v52_apply, val_main_v28_apply]
  have e : idx_main_v28 (idx_main_v52 (idx_main_v53 (ix4 (bOf R) H (lOf R) d))) = ix3 (bOf R) (lOf R) ⟨4096 + (H.val * 128 + d.val), by omega⟩ := by
    funext a
    apply Fin.ext
    match a with
    | ⟨0, _⟩ => show (((R.val / 2048 * 2048 + R.val % 2048) * 16 + H.val) * 128 + d.val) / 4194304 = R.val / 2048; omega
    | ⟨1, _⟩ => show (((R.val / 2048 * 2048 + R.val % 2048) * 16 + H.val) * 128 + d.val) / 2048 % 2048 = R.val % 2048; omega
    | ⟨2, _⟩ => show 4096 + (((R.val / 2048 * 2048 + R.val % 2048) * 16 + H.val) * 128 + d.val) % 2048 = 4096 + (H.val * 128 + d.val); omega
  rw [e, ref_proj]

theorem heads_g (R : Fin 8192) (H : Fin 16) (d : Fin 128) : val_main_v55 (F := Ideal) x0 x1 x3 (ix4 (bOf R) H (lOf R) d)
    = proj x0 x1 x3 R ⟨6144 + (H.val * 128 + d.val), by omega⟩ := by
  rw [val_main_v55_apply, val_main_v54_apply, val_main_v29_apply]
  have e : idx_main_v29 (idx_main_v54 (idx_main_v55 (ix4 (bOf R) H (lOf R) d))) = ix3 (bOf R) (lOf R) ⟨6144 + (H.val * 128 + d.val), by omega⟩ := by
    funext a
    apply Fin.ext
    match a with
    | ⟨0, _⟩ => show (((R.val / 2048 * 2048 + R.val % 2048) * 16 + H.val) * 128 + d.val) / 4194304 = R.val / 2048; omega
    | ⟨1, _⟩ => show (((R.val / 2048 * 2048 + R.val % 2048) * 16 + H.val) * 128 + d.val) / 2048 % 2048 = R.val % 2048; omega
    | ⟨2, _⟩ => show 6144 + (((R.val / 2048 * 2048 + R.val % 2048) * 16 + H.val) * 128 + d.val) % 2048 = 6144 + (H.val * 128 + d.val); omega
  rw [e, ref_proj]

/-! ## The four sections -/

/-- Heads first: the index of row `R` of head `H`. -/
theorem swap_idx (R : Fin 8192) (H : Fin 16) (d : Fin 128) : idx_main_v57 (idx_main_v58 (ix3 H R d)) = ix4 (bOf R) H (lOf R) d := by
  funext a
  apply Fin.ext
  match a with
  | ⟨0, _⟩ => show ((H.val * 8192 + R.val) * 128 + d.val) / 262144 % 4 = R.val / 2048; omega
  | ⟨1, _⟩ => show ((H.val * 8192 + R.val) * 128 + d.val) / 1048576 = H.val; omega
  | ⟨2, _⟩ => show ((H.val * 8192 + R.val) * 128 + d.val) / 128 % 2048 = R.val % 2048; omega
  | ⟨3, _⟩ => show ((H.val * 8192 + R.val) * 128 + d.val) % 128 = d.val; omega

theorem section0 (R : Fin 8192) (H : Fin 16) (d : Fin 128) : val_main_v58 (F := Ideal) x0 x1 x3 (ix3 H R d)
    = act 0 (lbOf x2 ⟨H.val * 128 + d.val, by omega⟩) (proj x0 x1 x3 R ⟨0 + (H.val * 128 + d.val), by omega⟩) := by
  rw [val_main_v58_apply, val_main_v57_apply, show idx_main_v57 (idx_main_v58 (ix3 H R d)) = ix4 (bOf R) H (lOf R) d from swap_idx R H d]
  rw [val_main_v32_apply, val_main_call1_v5_apply, val_main_call1_v4_apply, val_main_call1_v3_apply, val_main_call1_v2_apply, val_main_call1_v1_apply,
    val_main_call1_v0_apply, val_main_call1_cst_apply, val_main_call1_cst_0_apply, Cert.Ffn.one_bits, heads_q, Ideal.hostDivf_def]
  unfold act Ideal.logistic
  rw [if_neg (by decide), if_neg (by decide)]
  rfl

theorem section1 (R : Fin 8192) (H : Fin 16) (d : Fin 128) : val_main_v60 (F := Ideal) x0 x1 x2 x3 (ix3 H R d)
    = act 1 (lbOf x2 ⟨H.val * 128 + d.val, by omega⟩) (proj x0 x1 x3 R ⟨2048 + (H.val * 128 + d.val), by omega⟩) := by
  rw [val_main_v60_apply, val_main_v59_apply, show idx_main_v59 (idx_main_v60 (ix3 H R d)) = ix4 (bOf R) H (lOf R) d from swap_idx R H d]
  have e49 : idx_main_v49 (idx_main_v50 (ix4 (bOf R) H (lOf R) d)) = ix3 H 0 d := by
    funext a
    match a with
    | ⟨0, _⟩ => rfl
    | ⟨1, _⟩ => rfl
    | ⟨2, _⟩ => rfl
  have e46 : idx_main_v46 (idx_main_v47 (ix4 (bOf R) H (lOf R) d)) = ix3 H 0 d := by
    funext a
    match a with
    | ⟨0, _⟩ => rfl
    | ⟨1, _⟩ => rfl
    | ⟨2, _⟩ => rfl
  rw [val_main_v51_apply, val_main_v50_apply, val_main_v49_apply, e49, lower, val_main_v48_apply, val_main_v47_apply, val_main_v46_apply, e46,
    val_main_v37_apply, val_main_v36_apply, val_main_cst_5_apply, lower, val_main_v45_apply, val_main_v44_apply, val_main_v43_apply,
    val_main_v42_apply, val_main_v41_apply, val_main_v40_apply, val_main_cst_6_apply, val_main_cst_7_apply, heads_f, Ideal.hostDivf_def]
  unfold act Ideal.logistic
  rw [if_neg (by decide), if_pos rfl, Cert.Ffn.one_bits]
  rfl

theorem section2 (R : Fin 8192) (H : Fin 16) (d : Fin 128) : val_main_v62 (F := Ideal) x0 x1 x3 (ix3 H R d)
    = act 2 (lbOf x2 ⟨H.val * 128 + d.val, by omega⟩) (proj x0 x1 x3 R ⟨4096 + (H.val * 128 + d.val), by omega⟩) := by
  rw [val_main_v62_apply, val_main_v61_apply, show idx_main_v61 (idx_main_v62 (ix3 H R d)) = ix4 (bOf R) H (lOf R) d from swap_idx R H d]
  rw [heads_i]
  unfold act
  rw [if_pos rfl]

theorem section3 (R : Fin 8192) (H : Fin 16) (d : Fin 128) : val_main_v64 (F := Ideal) x0 x1 x3 (ix3 H R d)
    = act 3 (lbOf x2 ⟨H.val * 128 + d.val, by omega⟩) (proj x0 x1 x3 R ⟨6144 + (H.val * 128 + d.val), by omega⟩) := by
  rw [val_main_v64_apply, val_main_v63_apply, show idx_main_v63 (idx_main_v64 (ix3 H R d)) = ix4 (bOf R) H (lOf R) d from swap_idx R H d]
  rw [val_main_v56_apply, val_main_call2_v5_apply, val_main_call2_v4_apply, val_main_call2_v3_apply, val_main_call2_v2_apply, val_main_call2_v1_apply,
    val_main_call2_v0_apply, val_main_call2_cst_apply, val_main_call2_cst_0_apply, Cert.Ffn.one_bits, heads_g, Ideal.hostDivf_def]
  unfold act Ideal.logistic
  rw [if_neg (by decide), if_neg (by decide)]
  rfl

/-- The four sections, as they are joined. -/
abbrev pieces : List ((s : Shape) × (s.Idx → EReal)) :=
  [⟨S16x8192x128, val_main_v58 (F := Ideal) x0 x1 x3⟩, ⟨S16x8192x128, val_main_v60 (F := Ideal) x0 x1 x2 x3⟩,
    ⟨S16x8192x128, val_main_v62 (F := Ideal) x0 x1 x3⟩, ⟨S16x8192x128, val_main_v64 (F := Ideal) x0 x1 x3⟩]

theorem ref_p : pBuf x0 x1 x2 x3 = val_main_v65 (F := Ideal) x0 x1 x2 x3 := by
  funext i
  obtain ⟨H, R, d, rfl⟩ : ∃ (H : Fin 64) (R : Fin 8192) (d : Fin 128), i = ix3 H R d :=
    ⟨i 0, i 1, i 2, ValueIdx.eq_ix3 (n0 := 64) (n1 := 8192) (n2 := 128) i⟩
  have fin : ∀ (s : ℕ) (hs : s < 4), H.val / 16 = s → ∀ (y : S16x8192x128.Idx → EReal),
      (y (ix3 ⟨H.val % 16, by omega⟩ R d) = act s (lbOf x2 ⟨H.val % 16 * 128 + d.val, by omega⟩)
        (proj x0 x1 x3 R ⟨s * 2048 + (H.val % 16 * 128 + d.val), by omega⟩)) →
      pBuf x0 x1 x2 x3 (ix3 H R d) = y (ix3 ⟨H.val % 16, by omega⟩ R d) := by
    intro s hs hH y hy
    subst hH
    rw [hy]
    exact congrArg (fun N => act (H.val / 16) _ (proj x0 x1 x3 R N)) (Fin.ext (by show H.val * 128 + d.val = H.val / 16 * 2048 + (H.val % 16 * 128 + d.val); omega))
  unfold val_main_v65
  have h64 := H.isLt
  obtain h | h | h | h : H.val / 16 = 0 ∨ H.val / 16 = 1 ∨ H.val / 16 = 2 ∨ H.val / 16 = 3 := by omega
  · refine (fin 0 (by decide) h (val_main_v58 (F := Ideal) x0 x1 x3) (section0 x0 x1 x2 x3 R ⟨H.val % 16, by omega⟩ d)).trans (Eq.symm ?_)
    exact concatenate_apply_piece (t := S64x8192x128) 0 (pieces x0 x1 x2 x3) _ (ix3 H R d) 0 (by show 0 < 4; decide) S16x8192x128 _ rfl rfl 0 rfl (ix3 ⟨H.val % 16, by omega⟩ R d) (fun b hb => match b with
      | ⟨0, _⟩ => absurd rfl hb
      | ⟨1, _⟩ => rfl
      | ⟨2, _⟩ => rfl) (show 0 + H.val % 16 = H.val by omega)
  · refine (fin 1 (by decide) h (val_main_v60 (F := Ideal) x0 x1 x2 x3) (section1 x0 x1 x2 x3 R ⟨H.val % 16, by omega⟩ d)).trans (Eq.symm ?_)
    exact concatenate_apply_piece (t := S64x8192x128) 0 (pieces x0 x1 x2 x3) _ (ix3 H R d) 1 (by show 1 < 4; decide) S16x8192x128 _ rfl rfl 16 rfl (ix3 ⟨H.val % 16, by omega⟩ R d) (fun b hb => match b with
      | ⟨0, _⟩ => absurd rfl hb
      | ⟨1, _⟩ => rfl
      | ⟨2, _⟩ => rfl) (show 16 + H.val % 16 = H.val by omega)
  · refine (fin 2 (by decide) h (val_main_v62 (F := Ideal) x0 x1 x3) (section2 x0 x1 x2 x3 R ⟨H.val % 16, by omega⟩ d)).trans (Eq.symm ?_)
    exact concatenate_apply_piece (t := S64x8192x128) 0 (pieces x0 x1 x2 x3) _ (ix3 H R d) 2 (by show 2 < 4; decide) S16x8192x128 _ rfl rfl 32 rfl (ix3 ⟨H.val % 16, by omega⟩ R d) (fun b hb => match b with
      | ⟨0, _⟩ => absurd rfl hb
      | ⟨1, _⟩ => rfl
      | ⟨2, _⟩ => rfl) (show 32 + H.val % 16 = H.val by omega)
  · refine (fin 3 (by decide) h (val_main_v64 (F := Ideal) x0 x1 x3) (section3 x0 x1 x2 x3 R ⟨H.val % 16, by omega⟩ d)).trans (Eq.symm ?_)
    exact concatenate_apply_piece (t := S64x8192x128) 0 (pieces x0 x1 x2 x3) _ (ix3 H R d) 3 (by show 3 < 4; decide) S16x8192x128 _ rfl rfl 48 rfl (ix3 ⟨H.val % 16, by omega⟩ R d) (fun b hb => match b with
      | ⟨0, _⟩ => absurd rfl hb
      | ⟨1, _⟩ => rfl
      | ⟨2, _⟩ => rfl) (show 48 + H.val % 16 = H.val by omega)

theorem ref_w : wBuf x4 = val_main_v67 (F := Ideal) x4 := by
  funext i
  obtain ⟨r, n, rfl⟩ : ∃ (r n : Fin 2048), i = ix2 r n := ⟨i 0, i 1, ValueIdx.eq_ix2 (n0 := 2048) (n1 := 2048) i⟩
  rw [val_main_v67_apply, val_main_v66_apply]
  show x4 (ix3 0 r n) = x4 (idx_main_v66 (ix2 r n))
  refine congrArg x4 ?_
  funext a
  apply Fin.ext
  match a with
  | ⟨0, _⟩ => rfl
  | ⟨1, _⟩ => show r.val = (r.val * 2048 + n.val) / 2048 % 2048; omega
  | ⟨2, _⟩ => show n.val = (r.val * 2048 + n.val) % 2048; omega

end

/-! ## The claims -/

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Value.run (F := Ideal) m ρ)

/-- No constant is named. -/
theorem preserves : Cert.preserves_Kernel4_Kernel4Ideal := trivial

theorem algebraic : Cert.algebraic_Kernel4Ideal_Reference4Ideal := by
  intro m ρ m' ρ' _ hagree
  refine ⟨_, _, Cert.Kernel4Ideal.Value.run_blocks (F := Ideal) m ρ, ?_⟩
  refine (θ_run Cert.Reference4Ideal.defs _ _).mono (fun _ h c => ?_) (Cert.Reference4Ideal.Value.run (F := Ideal) m' ρ')
  obtain ⟨e0, e1, e2, e3, e4⟩ := hagree c
  refine ⟨(h c).1.trans ?_, (h c).2.1.trans ?_, (h c).2.2⟩
  · rw [Cert.Reference4Ideal.Read.val_main_v65_eq, e0, e1, e2, e3]
    exact (ref_p _ _ _ _).symm.trans (final5 m c).symm
  · rw [Cert.Reference4Ideal.Read.val_main_v67_eq, e4]
    exact (ref_w _).symm.trans (final6 m c).symm

end Cert.HgrnIn

end
-- ==== Proof.KvUpValue.lean ====
/- The keys and values from the compressed rows: the call's blocks as parts of its arguments, and what its run leaves in the results. -/
module

public import proofs.«01_k».proof.Proof.Rows
public import proofs.«01_k».proof.Proof.Blocks
public import proofs.«01_k».proof.Proof.FfnMath
public import proofs.«01_k».proof.Proof.Gen.Kernel5Ideal.Value

@[expose] public section

set_option maxRecDepth 16384

noncomputable section

namespace Cert.KvUp

open Idealize.ShloMosaic hiding ix1 ix2 ix3 ix4 ix5
open Idealize.ShloMosaic.ValueIdx Idealize.ShloMosaic.TcCoe
open Cert.Kernel5Ideal Cert.Kernel5Ideal.Gen Cert.Rows

/-! ## The results -/

section
variable (a0 : FVec Ideal S4x2048x512 .f32) (a1 : FVec Ideal S4x2048x64 .f32) (a2 : FVec Ideal S512x4096 .f32)

/-- Column `N` of row `R`'s product: each head's lanes, 128 for its key and then 128 for its value. -/
def kv (R : Fin 8192) (N : Fin 4096) : EReal := ∑ k : Fin 512, a0 (ix3 (bOf R) (lOf R) k) * a2 (ix2 k N)
/-- The value the padding is made of: the integer zero converted. -/
def padValue : EReal := (FloatOps.sitofp .f32 (0#32 : BitVec 32) : Ideal .f32)
/-- The rotated lanes, padded. -/
def kpe (R : Fin 8192) (d : Fin 128) : EReal := if h : d.val < 64 then a1 (ix3 (bOf R) (lOf R) ⟨d.val, h⟩) else padValue
/-- A head's key: its own lanes and then the rotated ones. -/
def key (H : Fin 16) (R : Fin 8192) (d : Fin 256) : EReal :=
  if d.val < 128 then kv a0 a2 R ⟨H.val * 256 + d.val, by omega⟩ else kpe a1 R ⟨d.val - 128, by omega⟩
def keyBuf : FVec Ideal S16x8192x256 .bf16 := fun i => key a0 a1 a2 (i 0) (i 1) (i 2)
def valBuf : FVec Ideal S16x8192x128 .bf16 := fun i => kv a0 a2 (i 1) ⟨(i 0).val * 256 + (i 2).val + 128, by
  have h0 : (i 0).val < 16 := (i 0).isLt
  have h2 : (i 2).val < 128 := (i 2).isLt
  omega⟩

end

/-! ## The blocks of a point -/

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = t.val ∧ win0_3.index t 2 = 0 := by decide +kernel
theorem index4 : ∀ t : Fin grid0.N, win0_4.index t 0 = 0 ∧ win0_4.index t 1 = t.val ∧ win0_4.index t 2 = 0 := by decide +kernel

theorem read0 (X : FVec Ideal S8192x512 .f32) (t : Fin cfg0.N) (r : Fin 256) (n : Fin 512) (R : Fin 8192) (N : Fin 512)
    (hR : R.val = (t.val) * 256 + r.val) (hN : N.val = (0) * 512 + n.val) :
    (((cfg0.win 0).blk t).view.read (Elt Ideal) X : FVec Ideal S256x512 .f32) (ix2 r n) = X (ix2 R N) := by
  show X ((win0_0.rect t).emb (ix2 r n)) = _
  refine congrArg X (funext fun a => Fin.ext ?_)
  refine (win0_0.rect_emb_val t _ a).trans ?_
  match a with
  | ⟨0, _⟩ => show win0_0.index t 0 * 256 + r.val = R.val; rw [(index0 t).1, hR]
  | ⟨1, _⟩ => show win0_0.index t 1 * 512 + n.val = N.val; rw [(index0 t).2, hN]

theorem read1 (X : FVec Ideal S8192x128 .f32) (t : Fin cfg0.N) (r : Fin 256) (n : Fin 128) (R : Fin 8192) (N : Fin 128)
    (hR : R.val = (t.val) * 256 + r.val) (hN : N.val = (0) * 128 + n.val) :
    (((cfg0.win 1).blk t).view.read (Elt Ideal) X : FVec Ideal S256x128 .f32) (ix2 r n) = X (ix2 R N) := by
  show X ((win0_1.rect t).emb (ix2 r n)) = _
  refine congrArg X (funext fun a => Fin.ext ?_)
  refine (win0_1.rect_emb_val t _ a).trans ?_
  match a with
  | ⟨0, _⟩ => show win0_1.index t 0 * 256 + r.val = R.val; rw [(index1 t).1, hR]
  | ⟨1, _⟩ => show win0_1.index t 1 * 128 + n.val = N.val; rw [(index1 t).2, hN]

theorem read2 (X : FVec Ideal S512x4096 .bf16) (t : Fin cfg0.N) (r : Fin 512) (n : Fin 4096) (R : Fin 512) (N : Fin 4096)
    (hR : R.val = (0) * 512 + r.val) (hN : N.val = (0) * 4096 + n.val) :
    (((cfg0.win 2).blk t).view.read (Elt Ideal) X : FVec Ideal S512x4096 .bf16) (ix2 r n) = X (ix2 R N) := by
  show X ((win0_2.rect t).emb (ix2 r n)) = _
  refine congrArg X (funext fun a => Fin.ext ?_)
  refine (win0_2.rect_emb_val t _ a).trans ?_
  match a with
  | ⟨0, _⟩ => show win0_2.index t 0 * 512 + r.val = R.val; rw [(index2 t).1, hR]
  | ⟨1, _⟩ => show win0_2.index t 1 * 4096 + n.val = N.val; rw [(index2 t).2, hN]

theorem read3 (X : FVec Ideal S16x8192x256 .bf16) (t : Fin cfg0.N) (r : Fin 16) (n : Fin 256) (o : Fin 256) (R : Fin 16) (N : Fin 8192) (O : Fin 256)
    (hR : R.val = (0) * 16 + r.val) (hN : N.val = (t.val) * 256 + n.val) (hO : O.val = (0) * 256 + o.val) :
    (((cfg0.win 3).blk t).view.read (Elt Ideal) X : FVec Ideal S16x256x256 .bf16) (ix3 r n o) = X (ix3 R N O) := by
  show X ((win0_3.rect t).emb (ix3 r n o)) = _
  refine congrArg X (funext fun a => Fin.ext ?_)
  refine (win0_3.rect_emb_val t _ a).trans ?_
  match a with
  | ⟨0, _⟩ => show win0_3.index t 0 * 16 + r.val = R.val; rw [(index3 t).1, hR]
  | ⟨1, _⟩ => show win0_3.index t 1 * 256 + n.val = N.val; rw [(index3 t).2.1, hN]
  | ⟨2, _⟩ => show win0_3.index t 2 * 256 + o.val = O.val; rw [(index3 t).2.2, hO]

theorem read4 (X : FVec Ideal S16x8192x128 .bf16) (t : Fin cfg0.N) (r : Fin 16) (n : Fin 256) (o : Fin 128) (R : Fin 16) (N : Fin 8192) (O : Fin 128)
    (hR : R.val = (0) * 16 + r.val) (hN : N.val = (t.val) * 256 + n.val) (hO : O.val = (0) * 128 + o.val) :
    (((cfg0.win 4).blk t).view.read (Elt Ideal) X : FVec Ideal S16x256x128 .bf16) (ix3 r n o) = X (ix3 R N O) := by
  show X ((win0_4.rect t).emb (ix3 r n o)) = _
  refine congrArg X (funext fun a => Fin.ext ?_)
  refine (win0_4.rect_emb_val t _ a).trans ?_
  match a with
  | ⟨0, _⟩ => show win0_4.index t 0 * 16 + r.val = R.val; rw [(index4 t).1, hR]
  | ⟨1, _⟩ => show win0_4.index t 1 * 256 + n.val = N.val; rw [(index4 t).2.1, hN]
  | ⟨2, _⟩ => show win0_4.index t 2 * 128 + o.val = O.val; rw [(index4 t).2.2, hO]

/-! ## The body -/

theorem dot_apply (x0 : FVec Ideal S256x512 .f32) (x2 : FVec Ideal S512x4096 .bf16) (r : Fin 256) (n : Fin 4096) :
    k0_pay2 (F := Ideal) x0 x2 (ix2 r n) = ∑ k : Fin 512, x0 (ix2 r k) * x2 (ix2 k n) := by
  unfold k0_pay2
  simp only [shapeCast_self]
  refine (Ideal.matmul_plain_apply none _ _ _ r n).trans ?_
  rw [constant_apply, Ideal.ofBits_zero_f32, zero_add]
  rfl

/-- A block of keys from the product and the rotated lanes. -/
def keyAt (M : FVec Ideal S256x4096 .f32) (P : FVec Ideal S256x128 .bf16) (H : Fin 16) (r d : Fin 256) : EReal :=
  if d.val < 128 then M (ix2 r ⟨H.val * 256 + d.val, by omega⟩) else P (ix2 r ⟨d.val - 128, by omega⟩)
def keyBlock (M : FVec Ideal S256x4096 .f32) (P : FVec Ideal S256x128 .bf16) : FVec Ideal S16x256x256 .bf16 :=
  fun y => keyAt M P (y 0) (y 1) (y 2)

/-- The store of a head's own lanes. -/
theorem own (M : FVec Ideal S256x4096 .f32) (P : FVec Ideal S256x128 .bf16) (H o : ℕ) (hH : H < 16) (ho : o = H * 256)
    (h1 : S256x4096.Slices ![0, o] S256x128) (h2 : S256x128.ShapeCasts S1x256x128) (h3 : FTy.bits .bf16 < FTy.bits .f32) (inb) (x : S1x256x128.Idx) :
    (shapeCast S1x256x128 (truncf .bf16 (extractStridedSlice S256x128 ![0, o] M h1 : FVec Ideal S256x128 .f32) h3) h2 : FVec Ideal S1x256x128 .bf16) x
      = keyBlock M P ((Rect.unit (s := S16x256x256) ![H, 0, 0] ![1, 256, 128] inb).emb x) := by
  obtain ⟨u, r, d, rfl⟩ : ∃ (u : Fin 1) (r : Fin 256) (d : Fin 128), x = ix3 u r d :=
    ⟨x 0, x 1, x 2, ValueIdx.eq_ix3 (n0 := 1) (n1 := 256) (n2 := 128) x⟩
  obtain rfl : u = 0 := Subsingleton.elim _ _
  refine (Cert.Ffn.add1 _ _ r d).trans ?_
  refine (extractStridedSlice_apply (s := S256x4096) (t := S256x128) ![0, o] M h1 (ix2 r d) (ix2 r ⟨o + d.val, by omega⟩) fun a => match a with
    | ⟨0, _⟩ => (Nat.zero_add _).symm
    | ⟨1, _⟩ => rfl).trans ?_
  have v : ∀ a : Fin 3, (((Rect.unit (s := S16x256x256) ![H, 0, 0] ![1, 256, 128] inb).emb (ix3 0 r d) a : Fin _) : ℕ)
      = (![H, 0, 0] : Fin 3 → ℕ) a + (ix3 (0 : Fin 1) r d a).val := fun a =>
    Rect.idx_unit_val (s := S16x256x256) (off := ![H, 0, 0]) (size := ![1, 256, 128]) (inb := inb) (ix3 0 r d) a
  have e : (Rect.unit (s := S16x256x256) ![H, 0, 0] ![1, 256, 128] inb).emb (ix3 0 r d) = ix3 (⟨H, hH⟩ : Fin 16) r ⟨d.val, by omega⟩ := by
    funext a
    apply Fin.ext
    match a with
    | ⟨0, _⟩ => exact v 0
    | ⟨1, _⟩ => exact (v 1).trans (Nat.zero_add _)
    | ⟨2, _⟩ => exact (v 2).trans (Nat.zero_add _)
  rw [e]
  show _ = keyAt M P ⟨H, hH⟩ r ⟨d.val, _⟩
  unfold keyAt
  rw [if_pos (show d.val < 128 from d.isLt)]
  refine congrArg M (congrArg (ix2 r) (Fin.ext ?_))
  show o + d.val = H * 256 + d.val
  omega

/-- The store of the rotated lanes for a head. -/
theorem rotated (M : FVec Ideal S256x4096 .f32) (P : FVec Ideal S256x128 .bf16) (H : ℕ) (hH : H < 16)
    (h2 : S256x128.ShapeCasts S1x256x128) (inb) (x : S1x256x128.Idx) :
    (shapeCast S1x256x128 P h2 : FVec Ideal S1x256x128 .bf16) x
      = keyBlock M P ((Rect.unit (s := S16x256x256) ![H, 0, 128] ![1, 256, 128] inb).emb x) := by
  obtain ⟨u, r, d, rfl⟩ : ∃ (u : Fin 1) (r : Fin 256) (d : Fin 128), x = ix3 u r d :=
    ⟨x 0, x 1, x 2, ValueIdx.eq_ix3 (n0 := 1) (n1 := 256) (n2 := 128) x⟩
  obtain rfl : u = 0 := Subsingleton.elim _ _
  refine (Cert.Ffn.add1 _ _ r d).trans ?_
  have v : ∀ a : Fin 3, (((Rect.unit (s := S16x256x256) ![H, 0, 128] ![1, 256, 128] inb).emb (ix3 0 r d) a : Fin _) : ℕ)
      = (![H, 0, 128] : Fin 3 → ℕ) a + (ix3 (0 : Fin 1) r d a).val := fun a =>
    Rect.idx_unit_val (s := S16x256x256) (off := ![H, 0, 128]) (size := ![1, 256, 128]) (inb := inb) (ix3 0 r d) a
  have e : (Rect.unit (s := S16x256x256) ![H, 0, 128] ![1, 256, 128] inb).emb (ix3 0 r d) = ix3 (⟨H, hH⟩ : Fin 16) r ⟨128 + d.val, by omega⟩ := by
    funext a
    apply Fin.ext
    match a with
    | ⟨0, _⟩ => exact v 0
    | ⟨1, _⟩ => exact (v 1).trans (Nat.zero_add _)
    | ⟨2, _⟩ => exact v 2
  rw [e]
  show _ = keyAt M P ⟨H, hH⟩ r ⟨128 + d.val, _⟩
  unfold keyAt
  rw [if_neg (by show ¬128 + d.val < 128; omega)]
  refine congrArg P (congrArg (ix2 r) (Fin.ext ?_))
  show d.val = 128 + d.val - 128
  omega

theorem out3_eq (x0 : FVec Ideal S256x512 .f32) (x1 : FVec Ideal S256x128 .f32) (x2 : FVec Ideal S512x4096 .bf16) (y : S16x256x256.Idx) :
    out0_3 (F := Ideal) x0 x1 x2 y = keyBlock (k0_pay2 (F := Ideal) x0 x2) (k0_pay3 (F := Ideal) x1) y := by
  have turned := rotated (k0_pay2 (F := Ideal) x0 x2) (k0_pay3 (F := Ideal) x1)
  have kept := own (k0_pay2 (F := Ideal) x0 x2) (k0_pay3 (F := Ideal) x1)
  unfold out0_3 k0_pay57 k0_pay56
  rw [View.ld_unit_zero Cert.Blocks.zero2, View.ld_unit_zero Cert.Blocks.zero2, View.ld_unit_zero Cert.Blocks.zero2]
  refine View.canon_apply_of_pieces _ _ ?_ y (cover0_3 _ _ _ _ _ _ _ _ _ _ _ _ _ _ _ _ _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact turned 15 (by decide) shapeCasts_S256x128_S1x256x128 inb_S16x256x256_S1x256x128_15_0_128
  · exact kept 15 3840 (by decide) rfl slices_S256x4096_o0_3840_S256x128 shapeCasts_S256x128_S1x256x128 bitsLt_bf16_f32 inb_S16x256x256_S1x256x128_15_0_0
  · exact turned 14 (by decide) shapeCasts_S256x128_S1x256x128 inb_S16x256x256_S1x256x128_14_0_128
  · exact kept 14 3584 (by decide) rfl slices_S256x4096_o0_3584_S256x128 shapeCasts_S256x128_S1x256x128 bitsLt_bf16_f32 inb_S16x256x256_S1x256x128_14_0_0
  · exact turned 13 (by decide) shapeCasts_S256x128_S1x256x128 inb_S16x256x256_S1x256x128_13_0_128
  · exact kept 13 3328 (by decide) rfl slices_S256x4096_o0_3328_S256x128 shapeCasts_S256x128_S1x256x128 bitsLt_bf16_f32 inb_S16x256x256_S1x256x128_13_0_0
  · exact turned 12 (by decide) shapeCasts_S256x128_S1x256x128 inb_S16x256x256_S1x256x128_12_0_128
  · exact kept 12 3072 (by decide) rfl slices_S256x4096_o0_3072_S256x128 shapeCasts_S256x128_S1x256x128 bitsLt_bf16_f32 inb_S16x256x256_S1x256x128_12_0_0
  · exact turned 11 (by decide) shapeCasts_S256x128_S1x256x128 inb_S16x256x256_S1x256x128_11_0_128
  · exact kept 11 2816 (by decide) rfl slices_S256x4096_o0_2816_S256x128 shapeCasts_S256x128_S1x256x128 bitsLt_bf16_f32 inb_S16x256x256_S1x256x128_11_0_0
  · exact turned 10 (by decide) shapeCasts_S256x128_S1x256x128 inb_S16x256x256_S1x256x128_10_0_128
  · exact kept 10 2560 (by decide) rfl slices_S256x4096_o0_2560_S256x128 shapeCasts_S256x128_S1x256x128 bitsLt_bf16_f32 inb_S16x256x256_S1x256x128_10_0_0
  · exact turned 9 (by decide) shapeCasts_S256x128_S1x256x128 inb_S16x256x256_S1x256x128_9_0_128
  · exact kept 9 2304 (by decide) rfl slices_S256x4096_o0_2304_S256x128 shapeCasts_S256x128_S1x256x128 bitsLt_bf16_f32 inb_S16x256x256_S1x256x128_9_0_0
  · exact turned 8 (by decide) shapeCasts_S256x128_S1x256x128 inb_S16x256x256_S1x256x128_8_0_128
  · exact kept 8 2048 (by decide) rfl slices_S256x4096_o0_2048_S256x128 shapeCasts_S256x128_S1x256x128 bitsLt_bf16_f32 inb_S16x256x256_S1x256x128_8_0_0
  · exact turned 7 (by decide) shapeCasts_S256x128_S1x256x128 inb_S16x256x256_S1x256x128_7_0_128
  · exact kept 7 1792 (by decide) rfl slices_S256x4096_o0_1792_S256x128 shapeCasts_S256x128_S1x256x128 bitsLt_bf16_f32 inb_S16x256x256_S1x256x128_7_0_0
  · exact turned 6 (by decide) shapeCasts_S256x128_S1x256x128 inb_S16x256x256_S1x256x128_6_0_128
  · exact kept 6 1536 (by decide) rfl slices_S256x4096_o0_1536_S256x128 shapeCasts_S256x128_S1x256x128 bitsLt_bf16_f32 inb_S16x256x256_S1x256x128_6_0_0
  · exact turned 5 (by decide) shapeCasts_S256x128_S1x256x128 inb_S16x256x256_S1x256x128_5_0_128
  · exact kept 5 1280 (by decide) rfl slices_S256x4096_o0_1280_S256x128 shapeCasts_S256x128_S1x256x128 bitsLt_bf16_f32 inb_S16x256x256_S1x256x128_5_0_0
  · exact turned 4 (by decide) shapeCasts_S256x128_S1x256x128 inb_S16x256x256_S1x256x128_4_0_128
  · exact kept 4 1024 (by decide) rfl slices_S256x4096_o0_1024_S256x128 shapeCasts_S256x128_S1x256x128 bitsLt_bf16_f32 inb_S16x256x256_S1x256x128_4_0_0
  · exact turned 3 (by decide) shapeCasts_S256x128_S1x256x128 inb_S16x256x256_S1x256x128_3_0_128
  · exact kept 3 768 (by decide) rfl slices_S256x4096_o0_768_S256x128 shapeCasts_S256x128_S1x256x128 bitsLt_bf16_f32 inb_S16x256x256_S1x256x128_3_0_0
  · exact turned 2 (by decide) shapeCasts_S256x128_S1x256x128 inb_S16x256x256_S1x256x128_2_0_128
  · exact kept 2 512 (by decide) rfl slices_S256x4096_o0_512_S256x128 shapeCasts_S256x128_S1x256x128 bitsLt_bf16_f32 inb_S16x256x256_S1x256x128_2_0_0
  · exact turned 1 (by decide) shapeCasts_S256x128_S1x256x128 inb_S16x256x256_S1x256x128_1_0_128
  · exact kept 1 256 (by decide) rfl slices_S256x4096_o0_256_S256x128 shapeCasts_S256x128_S1x256x128 bitsLt_bf16_f32 inb_S16x256x256_S1x256x128_1_0_0
  · exact turned 0 (by decide) shapeCasts_S256x128_S1x256x128 inb_S16x256x256_S1x256x128_0_0_128
  · exact kept 0 0 (by decide) rfl slices_S256x4096_o0_0_S256x128 shapeCasts_S256x128_S1x256x128 bitsLt_bf16_f32 inb_S16x256x256_S1x256x128_0_0_0

theorem out4_eq (x0 : FVec Ideal S256x512 .f32) (x1 : FVec Ideal S256x128 .f32) (x2 : FVec Ideal S512x4096 .bf16) (y : S16x256x128.Idx) :
    out0_4 (F := Ideal) x0 x1 x2 y = Value.E4 (F := Ideal) x0 x2 y := by
  unfold out0_4 k0_pay56
  rw [View.ld_unit_zero Cert.Blocks.zero2, View.ld_unit_zero Cert.Blocks.zero2]
  exact Value.canon4_eq (F := Ideal) x0 x2 y

/-! ## The run -/

variable (m : (ℓ : Loc nD τ sig) → Buf (Elt Ideal) ℓ) (c : Dev nD)

abbrev g0 : FVec Ideal S4x2048x512 .f32 := m ((c : Thread nD τ).loc main_arg0)
abbrev g1 : FVec Ideal S4x2048x64 .f32 := m ((c : Thread nD τ).loc main_arg1)
abbrev g2 : FVec Ideal S512x4096 .f32 := m ((c : Thread nD τ).loc main_arg2)

theorem V_c : V m c main_v0 = shapeCast S8192x512 (g0 m c) shapeCasts_S4x2048x512_S8192x512 := by
  unfold V
  after_reads_simp
  rfl

theorem V_p : V m c main_v2 = pad S8192x128 ![0, 0] ![0, 64] ![0, 0] (shapeCast S8192x64 (g1 m c) shapeCasts_S4x2048x64_S8192x64 : FVec Ideal S8192x64 .f32)
    (sitofp .f32 (constantI S_ 32 0#32) : FVec Ideal S_ .f32) pads_S8192x64_S8192x128_000_0640 h_S_ := by
  unfold V
  after_reads_simp
  rfl

theorem V_w : V m c main_v3 = (truncf .bf16 (g2 m c) bitsLt_bf16_f32 : FVec Ideal S512x4096 .bf16) := by
  unfold V
  after_reads_simp

theorem pad_lanes (x : FVec Ideal S4x2048x64 .f32) (R : Fin 8192) (d : Fin 128) :
    pad S8192x128 ![0, 0] ![0, 64] ![0, 0] (shapeCast S8192x64 x shapeCasts_S4x2048x64_S8192x64 : FVec Ideal S8192x64 .f32)
      (sitofp .f32 (constantI S_ 32 0#32) : FVec Ideal S_ .f32) pads_S8192x64_S8192x128_000_0640 h_S_ (ix2 R d) = kpe x R d := by
  unfold kpe
  by_cases h : d.val < 64
  · rw [dif_pos h]
    refine (pad_apply_of_inside _ _ _ _ _ _ _ (ix2 R d) (ix2 R ⟨d.val, h⟩) fun a => match a with
      | ⟨0, _⟩ => ?_
      | ⟨1, _⟩ => ?_).trans (fold _ _ R _)
    · show R.val = 0 + R.val * 1; omega
    · show d.val = 0 + d.val * 1; omega
  · rw [dif_neg h]
    refine (pad_apply_of_not_inside _ _ _ _ _ _ _ (ix2 R d) (1 : Fin 2) ?_).trans rfl
    intro hin
    have h2 : (d.val - 0) / 1 < 64 := hin.2.2
    omega

section
variable (t : Fin cfg0.N) (r : Fin 256) (R : Fin 8192) (hR : R.val = t.val * 256 + r.val)
include hR

theorem b0 (k : Fin 512) : (iblk m c 0 t : FVec Ideal S256x512 .f32) (ix2 r k) = g0 m c (ix3 (bOf R) (lOf R) k) :=
  (read0 (V m c main_v0) t r k R k hR (by omega)).trans ((congrFun (V_c m c) _).trans (fold _ _ R k))

theorem b1 (d : Fin 128) : (iblk m c 1 t : FVec Ideal S256x128 .f32) (ix2 r d) = kpe (g1 m c) R d :=
  (read1 (V m c main_v2) t r d R d hR (by omega)).trans ((congrFun (V_p m c) _).trans (pad_lanes _ R d))

end

theorem b2 (t : Fin cfg0.N) (k : Fin 512) (n : Fin 4096) : (iblk m c 2 t : FVec Ideal S512x4096 .bf16) (ix2 k n) = g2 m c (ix2 k n) :=
  (read2 (V m c main_v3) t k n k n (by omega) (by omega)).trans (congrFun (V_w m c) _)

/-- A block's product is the rows' product. -/
theorem prod_apply (t : Fin cfg0.N) (r : Fin 256) (R : Fin 8192) (hR : R.val = t.val * 256 + r.val) (n : Fin 4096) :
    k0_pay2 (F := Ideal) (iblk m c 0 t) (iblk m c 2 t) (ix2 r n) = kv (g0 m c) (g2 m c) R n := by
  refine (dot_apply _ _ r n).trans (Finset.sum_congr rfl fun k _ => ?_)
  rw [b0 m c t r R hR, b2]

theorem lanes_apply (t : Fin cfg0.N) (r : Fin 256) (R : Fin 8192) (hR : R.val = t.val * 256 + r.val) (d : Fin 128) :
    k0_pay3 (F := Ideal) (iblk m c 1 t) (ix2 r d) = kpe (g1 m c) R d := by
  unfold k0_pay3
  simp only [shapeCast_self]
  exact b1 m c t r R hR d

theorem key_of (M : FVec Ideal S256x4096 .f32) (P : FVec Ideal S256x128 .bf16) (x0 : FVec Ideal S4x2048x512 .f32) (x1 : FVec Ideal S4x2048x64 .f32)
    (x2 : FVec Ideal S512x4096 .f32) (r : Fin 256) (R : Fin 8192) (hM : ∀ n, M (ix2 r n) = kv x0 x2 R n) (hP : ∀ d, P (ix2 r d) = kpe x1 R d)
    (H : Fin 16) (d : Fin 256) : keyAt M P H r d = key x0 x1 x2 H R d := by
  unfold keyAt key
  rw [hM, hP]

theorem flushed3 (t : Fin cfg0.N) : (dats m 0 c).flushed 3 t
    = ((cfg0.win 3).blk t).view.read (Elt Ideal) (keyBuf (g0 m c) (g1 m c) (g2 m c)) := by
  rw [Value.flushed3]
  funext y
  obtain ⟨H, r, d, rfl⟩ : ∃ (H : Fin 16) (r : Fin 256) (d : Fin 256), y = ix3 H r d :=
    ⟨y 0, y 1, y 2, ValueIdx.eq_ix3 (n0 := 16) (n1 := 256) (n2 := 256) y⟩
  have ht : t.val < 32 := t.isLt.trans_eq N_0
  refine Eq.trans ?_ (read3 _ t H r d H ⟨t.val * 256 + r.val, by omega⟩ d (by omega) rfl (by omega)).symm
  refine (out3_eq _ _ _ (ix3 H r d)).trans ?_
  exact key_of _ _ _ _ _ r ⟨t.val * 256 + r.val, by omega⟩ (prod_apply m c t r _ rfl) (lanes_apply m c t r _ rfl) H d

theorem flushed4 (t : Fin cfg0.N) : (dats m 0 c).flushed 4 t
    = ((cfg0.win 4).blk t).view.read (Elt Ideal) (valBuf (g0 m c) (g2 m c)) := by
  rw [Value.flushed4]
  funext y
  obtain ⟨H, r, d, rfl⟩ : ∃ (H : Fin 16) (r : Fin 256) (d : Fin 128), y = ix3 H r d :=
    ⟨y 0, y 1, y 2, ValueIdx.eq_ix3 (n0 := 16) (n1 := 256) (n2 := 128) y⟩
  have ht : t.val < 32 := t.isLt.trans_eq N_0
  refine Eq.trans ?_ (read4 _ t H r d H ⟨t.val * 256 + r.val, by omega⟩ d (by omega) rfl (by omega)).symm
  refine (out4_eq _ _ _ (ix3 H r d)).trans ?_
  have e : Value.ix4_0 (ix3 H r d) = ix2 r ⟨H.val * 256 + d.val + 128, by omega⟩ := by
    funext a
    match a with
    | ⟨0, _⟩ => rfl
    | ⟨1, _⟩ => rfl
  show k0_pay2 (F := Ideal) (iblk m c 0 t) (iblk m c 2 t) (Value.ix4_0 (ix3 H r d)) = _
  rw [e]
  exact prod_apply m c t r ⟨t.val * 256 + r.val, by omega⟩ rfl _

theorem cover3 (i : S16x8192x256.Idx) : ∃ t : Fin cfg0.N, (cfg0.win 3).flush t = true ∧ i ∈ ((cfg0.win 3).blk t).view.set := by
  have h0 : (i 0 : ℕ) < 16 := (i 0).isLt
  have h1 : (i 1 : ℕ) < 8192 := (i 1).isLt
  have h2 : (i 2 : ℕ) < 256 := (i 2).isLt
  have ht : (i 1).val / 256 < cfg0.N := by rw [show cfg0.N = 32 from rfl]; omega
  refine ⟨⟨_, ht⟩, flush0_3 _, ?_⟩
  show i ∈ ((View.whole main_v4_0).slice (win0_3.rect ⟨_, ht⟩)).set
  rw [View.set_slice_whole, Rect.mem_set_unit]
  have e := index3 ⟨_, ht⟩
  have x : ∀ t : Fin grid0.N, win0_3.xsize (grid0.coords t) 0 = 16 ∧ win0_3.xsize (grid0.coords t) 1 = 256 ∧ win0_3.xsize (grid0.coords t) 2 = 256 := by decide +kernel
  intro a
  match a with
  | ⟨0, _⟩ =>
    show win0_3.index ⟨_, ht⟩ 0 * 16 ≤ (i 0 : Nat) ∧ (i 0 : Nat) < win0_3.index ⟨_, ht⟩ 0 * 16 + win0_3.xsize (grid0.coords ⟨_, ht⟩) 0
    rw [e.1, (x _).1]
    show (0) * 16 ≤ (i 0 : Nat) ∧ (i 0 : Nat) < (0) * 16 + 16
    omega
  | ⟨1, _⟩ =>
    show win0_3.index ⟨_, ht⟩ 1 * 256 ≤ (i 1 : Nat) ∧ (i 1 : Nat) < win0_3.index ⟨_, ht⟩ 1 * 256 + win0_3.xsize (grid0.coords ⟨_, ht⟩) 1
    rw [e.2.1, (x _).2.1]
    show (((i 1).val / 256)) * 256 ≤ (i 1 : Nat) ∧ (i 1 : Nat) < (((i 1).val / 256)) * 256 + 256
    omega
  | ⟨2, _⟩ =>
    show win0_3.index ⟨_, ht⟩ 2 * 256 ≤ (i 2 : Nat) ∧ (i 2 : Nat) < win0_3.index ⟨_, ht⟩ 2 * 256 + win0_3.xsize (grid0.coords ⟨_, ht⟩) 2
    rw [e.2.2, (x _).2.2]
    show (0) * 256 ≤ (i 2 : Nat) ∧ (i 2 : Nat) < (0) * 256 + 256
    omega

theorem cover4 (i : S16x8192x128.Idx) : ∃ t : Fin cfg0.N, (cfg0.win 4).flush t = true ∧ i ∈ ((cfg0.win 4).blk t).view.set := by
  have h0 : (i 0 : ℕ) < 16 := (i 0).isLt
  have h1 : (i 1 : ℕ) < 8192 := (i 1).isLt
  have h2 : (i 2 : ℕ) < 128 := (i 2).isLt
  have ht : (i 1).val / 256 < cfg0.N := by rw [show cfg0.N = 32 from rfl]; omega
  refine ⟨⟨_, ht⟩, flush0_4 _, ?_⟩
  show i ∈ ((View.whole main_v4_1).slice (win0_4.rect ⟨_, ht⟩)).set
  rw [View.set_slice_whole, Rect.mem_set_unit]
  have e := index4 ⟨_, ht⟩
  have x : ∀ t : Fin grid0.N, win0_4.xsize (grid0.coords t) 0 = 16 ∧ win0_4.xsize (grid0.coords t) 1 = 256 ∧ win0_4.xsize (grid0.coords t) 2 = 128 := by decide +kernel
  intro a
  match a with
  | ⟨0, _⟩ =>
    show win0_4.index ⟨_, ht⟩ 0 * 16 ≤ (i 0 : Nat) ∧ (i 0 : Nat) < win0_4.index ⟨_, ht⟩ 0 * 16 + win0_4.xsize (grid0.coords ⟨_, ht⟩) 0
    rw [e.1, (x _).1]
    show (0) * 16 ≤ (i 0 : Nat) ∧ (i 0 : Nat) < (0) * 16 + 16
    omega
  | ⟨1, _⟩ =>
    show win0_4.index ⟨_, ht⟩ 1 * 256 ≤ (i 1 : Nat) ∧ (i 1 : Nat) < win0_4.index ⟨_, ht⟩ 1 * 256 + win0_4.xsize (grid0.coords ⟨_, ht⟩) 1
    rw [e.2.1, (x _).2.1]
    show (((i 1).val / 256)) * 256 ≤ (i 1 : Nat) ∧ (i 1 : Nat) < (((i 1).val / 256)) * 256 + 256
    omega
  | ⟨2, _⟩ =>
    show win0_4.index ⟨_, ht⟩ 2 * 128 ≤ (i 2 : Nat) ∧ (i 2 : Nat) < win0_4.index ⟨_, ht⟩ 2 * 128 + win0_4.xsize (grid0.coords ⟨_, ht⟩) 2
    rw [e.2.2, (x _).2.2]
    show (0) * 128 ≤ (i 2 : Nat) ∧ (i 2 : Nat) < (0) * 128 + 128
    omega

theorem final3 : (dats m 0 c).arrAt 3 cfg0.N = keyBuf (g0 m c) (g1 m c) (g2 m c) :=
  (dats m 0 c).arrAt_eq_of_cover 3 _ (fun t _ => flushed3 m c t) cover3

theorem final4 : (dats m 0 c).arrAt 4 cfg0.N = valBuf (g0 m c) (g2 m c) :=
  (dats m 0 c).arrAt_eq_of_cover 4 _ (fun t _ => flushed4 m c t) cover4

end Cert.KvUp

end
-- ==== Proof.KvUp.lean ====
/- The keys' and values' reference at an index, and the claims about the call and its reference. -/
module

public import proofs.«01_k».proof.Defs
public import proofs.«01_k».proof.Proof.KvUpValue
public import proofs.«01_k».proof.Proof.Gen.Kernel5.Frame
public import proofs.«01_k».proof.Proof.Gen.Reference5Ideal.Read
public import proofs.«01_k».proof.Proof.Gen.Reference5Ideal.Run
public import Idealize.ShloMosaic.Adequacy
public import Idealize.ShloMosaic.Init

@[expose] public section

set_option maxRecDepth 16384

noncomputable section

namespace Cert.KvUp

open Idealize.ShloMosaic hiding ix1 ix2 ix3 ix4 ix5
open Idealize.ShloMosaic.ValueIdx Idealize.ShloMosaic.TcCoe Idealize.SL.Sem

section
open Cert.Reference5Ideal Cert.Reference5Ideal.Gen Cert.Reference5Ideal.Read Cert.Rows

variable (x0 : FVec Ideal S4x2048x512 .f32) (x1 : FVec Ideal S4x2048x64 .f32) (x2 : FVec Ideal S512x4096 .f32)

theorem ref_kv (R : Fin 8192) (H : Fin 16) (d : Fin 256) :
    val_main_v1 (F := Ideal) x0 x2 (ix4 (bOf R) (lOf R) H d) = kv x0 x2 R ⟨H.val * 256 + d.val, by omega⟩ := by
  rw [val_main_v1_apply, val_main_v0_apply]
  unfold kv
  refine Finset.sum_congr rfl fun k _ => ?_
  have el : lidx_main_v0 (idx_main_v1 (ix4 (bOf R) (lOf R) H d)) k = ix3 (bOf R) (lOf R) k := by
    funext a
    apply Fin.ext
    match a with
    | ⟨0, _⟩ => show (((R.val / 2048 * 2048 + R.val % 2048) * 16 + H.val) * 256 + d.val) / 8388608 = R.val / 2048; omega
    | ⟨1, _⟩ => show (((R.val / 2048 * 2048 + R.val % 2048) * 16 + H.val) * 256 + d.val) / 4096 % 2048 = R.val % 2048; omega
    | ⟨2, _⟩ => rfl
  have er : ridx_main_v0 (idx_main_v1 (ix4 (bOf R) (lOf R) H d)) k = ix2 k ⟨H.val * 256 + d.val, by omega⟩ := by
    funext a
    apply Fin.ext
    match a with
    | ⟨0, _⟩ => rfl
    | ⟨1, _⟩ => show (((R.val / 2048 * 2048 + R.val % 2048) * 16 + H.val) * 256 + d.val) % 4096 = H.val * 256 + d.val; omega
  rw [el, er]

theorem ref_kpe (R : Fin 8192) (d : Fin 128) : val_main_v4 (F := Ideal) x1 (ix3 (bOf R) (lOf R) d) = kpe x1 R d := by
  unfold val_main_v4 kpe
  by_cases h : d.val < 64
  · rw [dif_pos h]
    refine pad_apply_of_inside _ _ _ _ _ _ _ (ix3 (bOf R) (lOf R) d) (ix3 (bOf R) (lOf R) ⟨d.val, h⟩) fun a => match a with
      | ⟨0, _⟩ => ?_
      | ⟨1, _⟩ => ?_
      | ⟨2, _⟩ => ?_
    · show (bOf R).val = 0 + (bOf R).val * 1; omega
    · show (lOf R).val = 0 + (lOf R).val * 1; omega
    · show d.val = 0 + d.val * 1; omega
  · rw [dif_neg h]
    refine (pad_apply_of_not_inside _ _ _ _ _ _ _ (ix3 (bOf R) (lOf R) d) (2 : Fin 3) ?_).trans rfl
    intro hin
    have h2 : (d.val - 0) / 1 < 64 := hin.2.2
    omega

abbrev joined : List ((s : Shape) × (s.Idx → EReal)) :=
  [⟨S4x2048x16x128, val_main_v2 (F := Ideal) x0 x2⟩, ⟨S4x2048x16x128, val_main_v6 (F := Ideal) x1⟩]

theorem ref_join (R : Fin 8192) (H : Fin 16) (d : Fin 256) :
    val_main_v7 (F := Ideal) x0 x1 x2 (ix4 (bOf R) (lOf R) H d) = key x0 x1 x2 H R d := by
  unfold key
  by_cases h : d.val < 128
  · rw [if_pos h]
    refine (concatenate_apply_piece (t := S4x2048x16x256) 3 (joined x0 x1 x2) _ (ix4 (bOf R) (lOf R) H d) 0 (by show 0 < 2; decide) S4x2048x16x128 _ rfl
      rfl 0 rfl (ix4 (bOf R) (lOf R) H ⟨d.val, h⟩) (fun b hb => match b with
        | ⟨0, _⟩ => rfl
        | ⟨1, _⟩ => rfl
        | ⟨2, _⟩ => rfl
        | ⟨3, _⟩ => absurd rfl hb) (show 0 + d.val = d.val by omega)).trans ?_
    rw [val_main_v2_apply]
    have e : idx_main_v2 (ix4 (bOf R) (lOf R) H ⟨d.val, h⟩) = ix4 (bOf R) (lOf R) H d := by
      funext a
      match a with
      | ⟨0, _⟩ => rfl
      | ⟨1, _⟩ => rfl
      | ⟨2, _⟩ => rfl
      | ⟨3, _⟩ => rfl
    rw [e]
    exact ref_kv x0 x2 R H d
  · rw [if_neg h]
    refine (concatenate_apply_piece (t := S4x2048x16x256) 3 (joined x0 x1 x2) _ (ix4 (bOf R) (lOf R) H d) 1 (by show 1 < 2; decide) S4x2048x16x128 _ rfl
      rfl 128 rfl (ix4 (bOf R) (lOf R) H ⟨d.val - 128, by omega⟩) (fun b hb => match b with
        | ⟨0, _⟩ => rfl
        | ⟨1, _⟩ => rfl
        | ⟨2, _⟩ => rfl
        | ⟨3, _⟩ => absurd rfl hb) (show 128 + (d.val - 128) = d.val by omega)).trans ?_
    rw [val_main_v6_apply, val_main_v5_apply]
    have e : idx_main_v5 (idx_main_v6 (ix4 (bOf R) (lOf R) H ⟨d.val - 128, by omega⟩)) = ix3 (bOf R) (lOf R) ⟨d.val - 128, by omega⟩ := by
      funext a
      match a with
      | ⟨0, _⟩ => rfl
      | ⟨1, _⟩ => rfl
      | ⟨2, _⟩ => rfl
    rw [e]
    exact ref_kpe x1 R _

theorem ref_key : keyBuf x0 x1 x2 = val_main_v10 (F := Ideal) x0 x1 x2 := by
  funext i
  obtain ⟨H, R, d, rfl⟩ : ∃ (H : Fin 16) (R : Fin 8192) (d : Fin 256), i = ix3 H R d :=
    ⟨i 0, i 1, i 2, ValueIdx.eq_ix3 (n0 := 16) (n1 := 8192) (n2 := 256) i⟩
  rw [val_main_v10_apply, val_main_v9_apply, val_main_v8_apply]
  have e : idx_main_v8 (idx_main_v9 (ix3 H R d)) = ix4 (bOf R) (lOf R) H d := by
    funext a
    apply Fin.ext
    match a with
    | ⟨0, _⟩ => show ((H.val * 8192 + R.val) * 256 + d.val) / 524288 % 4 = R.val / 2048; omega
    | ⟨1, _⟩ => show ((H.val * 8192 + R.val) * 256 + d.val) / 256 % 2048 = R.val % 2048; omega
    | ⟨2, _⟩ => show ((H.val * 8192 + R.val) * 256 + d.val) / 2097152 = H.val; omega
    | ⟨3, _⟩ => show ((H.val * 8192 + R.val) * 256 + d.val) % 256 = d.val; omega
  rw [e]
  exact (ref_join x0 x1 x2 R H d).symm

theorem ref_val : valBuf x0 x2 = val_main_v13 (F := Ideal) x0 x2 := by
  funext i
  obtain ⟨H, R, d, rfl⟩ : ∃ (H : Fin 16) (R : Fin 8192) (d : Fin 128), i = ix3 H R d :=
    ⟨i 0, i 1, i 2, ValueIdx.eq_ix3 (n0 := 16) (n1 := 8192) (n2 := 128) i⟩
  rw [val_main_v13_apply, val_main_v12_apply, val_main_v11_apply, val_main_v3_apply]
  have e : idx_main_v3 (idx_main_v11 (idx_main_v12 (ix3 H R d))) = ix4 (bOf R) (lOf R) H ⟨128 + d.val, by omega⟩ := by
    funext a
    apply Fin.ext
    match a with
    | ⟨0, _⟩ => show ((H.val * 8192 + R.val) * 128 + d.val) / 262144 % 4 = R.val / 2048; omega
    | ⟨1, _⟩ => show ((H.val * 8192 + R.val) * 128 + d.val) / 128 % 2048 = R.val % 2048; omega
    | ⟨2, _⟩ => show ((H.val * 8192 + R.val) * 128 + d.val) / 1048576 = H.val; omega
    | ⟨3, _⟩ => show 128 + ((H.val * 8192 + R.val) * 128 + d.val) % 128 = 128 + d.val; omega
  rw [e]
  refine Eq.trans ?_ (ref_kv x0 x2 R H ⟨128 + d.val, by omega⟩).symm
  show kv x0 x2 R ⟨H.val * 256 + d.val + 128, _⟩ = _
  refine congrArg (kv x0 x2 R) (Fin.ext ?_)
  show H.val * 256 + d.val + 128 = H.val * 256 + (128 + d.val)
  omega

end

/-! ## The claims -/

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono
    (fun r h => ⟨fun c => (h c).2.2, sem_eq_zero_of_no_sems (by decide) r.2⟩)
    (Cert.Reference5Ideal.Value.run (F := Ideal) m ρ)

/-- No constant is named. -/
theorem preserves : Cert.preserves_Kernel5_Kernel5Ideal := trivial

theorem algebraic : Cert.algebraic_Kernel5Ideal_Reference5Ideal := by
  intro m ρ m' ρ' _ hagree
  refine ⟨_, _, Cert.Kernel5Ideal.Value.run_blocks (F := Ideal) m ρ, ?_⟩
  refine (θ_run Cert.Reference5Ideal.defs _ _).mono (fun _ h c => ?_) (Cert.Reference5Ideal.Value.run (F := Ideal) m' ρ')
  obtain ⟨e0, e1, e2⟩ := hagree c
  refine ⟨(h c).1.trans ?_, (h c).2.1.trans ?_, (h c).2.2⟩
  · rw [Cert.Reference5Ideal.Read.val_main_v10_eq, e0, e1, e2]
    exact (ref_key _ _ _).symm.trans (final3 m c).symm
  · rw [Cert.Reference5Ideal.Read.val_main_v13_eq, e0, e2]
    exact (ref_val _ _).symm.trans (final4 m c).symm

end Cert.KvUp

end
-- ==== Proof.MlaInHost.lean ====
/- The compressed projections of a row and the rotation of its position lanes, and the host's layout of the call's
   weights and tables at an index. -/
module

public import proofs.«01_k».proof.Proof.Rows
public import proofs.«01_k».proof.Proof.Blocks
public import proofs.«01_k».proof.Proof.FfnMath
public import proofs.«01_k».proof.Proof.Gen.Kernel6Ideal.Value
public import Idealize.ShloMosaic.Lib.KernelVsHost

@[expose] public section

set_option maxRecDepth 16384

noncomputable section

namespace Cert.MlaIn

open Idealize.ShloMosaic hiding ix1 ix2 ix3 ix4 ix5
open Idealize.ShloMosaic.ValueIdx Idealize.ShloMosaic.TcCoe
open Cert.Kernel6Ideal Cert.Kernel6Ideal.Gen Cert.Rows

/-! ## The rotation -/

/-- The value the padding is made of: the integer zero converted. -/
def padValue : EReal := (FloatOps.sitofp .f32 (0#32 : BitVec 32) : Ideal .f32)

theorem padValue_eq : padValue = 0 := sitofp_zero (φ := .f32)

/-- Two halves of thirty-two lanes side by side. -/
def halves (a b : Fin 32 → EReal) (e : Fin 64) : EReal := if h : e.val < 32 then a ⟨e.val, h⟩ else b ⟨e.val - 32, by omega⟩
/-- Sixty-four lanes and sixty-four of padding. -/
def lanes (x : Fin 64 → EReal) (e : Fin 128) : EReal := if h : e.val < 64 then x ⟨e.val, h⟩ else padValue
/-- The two halves of sixty-four lanes, exchanged. -/
def swapped (x : Fin 64 → EReal) : Fin 64 → EReal := halves (fun j => x ⟨32 + j.val, by omega⟩) (fun j => x ⟨j.val, by omega⟩)
/-- Sixty-four lanes rotated: each lane of the first half with its partner of the second. -/
def rot (x : Fin 64 → EReal) (c s : Fin 32 → EReal) : Fin 64 → EReal :=
  halves (fun j => x ⟨j.val, by omega⟩ * c j - x ⟨32 + j.val, by omega⟩ * s j)
    (fun j => x ⟨32 + j.val, by omega⟩ * c j + x ⟨j.val, by omega⟩ * s j)

/-- The lanes against the cosines and the exchanged lanes against the signed sines: the rotation, padded. -/
theorem rot_of (x : Fin 64 → EReal) (c s : Fin 32 → EReal) (e : Fin 128) (A B C S : EReal) (hA : ∀ h : e.val < 64, A = x ⟨e.val, h⟩)
    (hB : ∀ h : e.val < 64, B = swapped x ⟨e.val, h⟩) (hC : C = lanes (halves c c) e) (hS : S = lanes (halves (fun j => -s j) s) e) :
    A * C + B * S = lanes (rot x c s) e := by
  by_cases h : e.val < 64
  · rw [hA h, hB h, hC, hS]
    unfold lanes swapped rot
    rw [dif_pos h, dif_pos h, dif_pos h]
    unfold halves
    by_cases h' : e.val < 32
    · rw [dif_pos h', dif_pos h', dif_pos h', dif_pos h', mul_neg, ← sub_eq_add_neg]
    · rw [dif_neg h', dif_neg h', dif_neg h', dif_neg h']
      refine congrArg (fun z => x z * _ + _) (Fin.ext ?_)
      show e.val = 32 + (e.val - 32)
      omega
  · rw [hC, hS]
    unfold lanes
    rw [dif_neg h, dif_neg h, dif_neg h, padValue_eq, mul_zero, mul_zero, add_zero]

/-- A row's products with exchanged columns are its products, exchanged. -/
theorem sum_swapped {n : ℕ} (f : Fin n → EReal) (x : Fin n → Fin 64 → EReal) (e : Fin 64) :
    ∑ k, f k * swapped (x k) e = swapped (fun e => ∑ k, f k * x k e) e := by
  unfold swapped halves
  by_cases h : e.val < 32
  · simp only [dif_pos h]
  · simp only [dif_neg h]

/-! ## The results -/

section
variable (a0 : FVec Ideal S4x2048x2048 .f32) (a1 : FVec Ideal S2048 .f32) (a2 : FVec Ideal S2048x1088 .f32) (a3 a4 : FVec Ideal S512 .f32)
  (a5 : FVec Ideal S512x3072 .f32) (a6 a7 : FVec Ideal S2048x32 .f32)

/-- The normed row `R`. -/
def hRow (R : Fin 8192) (k : Fin 2048) : EReal :=
  a0 (ix3 (bOf R) (lOf R) k) * rmsOf 0x45000000#32 (fun k => a0 (ix3 (bOf R) (lOf R) k)) * a1 (ix1 k)
/-- Its product with column `N` of the down projection. -/
def down (R : Fin 8192) (N : Fin 1088) : EReal := ∑ k : Fin 2048, hRow a0 a1 R k * a2 (ix2 k N)
def dq (R : Fin 8192) (k : Fin 512) : EReal := down a0 a1 a2 R ⟨k.val, by omega⟩
def dkv (R : Fin 8192) (k : Fin 512) : EReal := down a0 a1 a2 R ⟨512 + k.val, by omega⟩
def dpe (R : Fin 8192) (e : Fin 64) : EReal := down a0 a1 a2 R ⟨1024 + e.val, by omega⟩
/-- The compressed queries, normed. -/
def cq (R : Fin 8192) (k : Fin 512) : EReal := dq a0 a1 a2 R k * rmsOf 0x44000000#32 (dq a0 a1 a2 R) * a3 (ix1 k)
/-- The compressed keys and values, normed. -/
def ckv (R : Fin 8192) (k : Fin 512) : EReal := dkv a0 a1 a2 R k * rmsOf 0x44000000#32 (dkv a0 a1 a2 R) * a4 (ix1 k)
/-- The tables' rows at the position of row `R`. -/
def rowOf (a : FVec Ideal S2048x32 .f32) (R : Fin 8192) (j : Fin 32) : EReal := a (ix2 (lOf R) j)
/-- The keys' position lanes, rotated. -/
def kpe (R : Fin 8192) (e : Fin 128) : EReal := lanes (rot (dpe a0 a1 a2 R) (rowOf a6 R) (rowOf a7 R)) e
/-- The queries' up projection. -/
def up (R : Fin 8192) (N : Fin 3072) : EReal := ∑ k : Fin 512, cq a0 a1 a2 a3 R k * a5 (ix2 k N)
def upPe (R : Fin 8192) (H : Fin 16) (e : Fin 64) : EReal := up a0 a1 a2 a3 a5 R ⟨H.val * 192 + 128 + e.val, by omega⟩
/-- A head's query: its own lanes and then its rotated ones. -/
def query (H : Fin 16) (R : Fin 8192) (d : Fin 256) : EReal :=
  if d.val < 128 then up a0 a1 a2 a3 a5 R ⟨H.val * 192 + d.val % 128, by omega⟩
  else lanes (rot (upPe a0 a1 a2 a3 a5 R H) (rowOf a6 R) (rowOf a7 R)) ⟨d.val - 128, by omega⟩

def queryBuf : FVec Ideal S16x8192x256 .bf16 := fun i => query a0 a1 a2 a3 a5 a6 a7 (i 0) (i 1) (i 2)
def ckvBuf : FVec Ideal S8192x512 .f32 := fun i => ckv a0 a1 a2 a4 (i 0) (i 1)
def kpeBuf : FVec Ideal S8192x128 .f32 := fun i => kpe a0 a1 a2 a6 a7 (i 0) (i 1)

end

/-! ## The host's layout -/

def zeroF : FVec Ideal S_ .f32 := sitofp .f32 (constantI S_ 32 0#32)

def padT (x : FVec Ideal S2048x64 .f32) : FVec Ideal S2048x128 .f32 :=
  pad S2048x128 ![0, 0] ![0, 64] ![0, 0] x zeroF pads_S2048x64_S2048x128_000_0640 h_S_
def padW (x : FVec Ideal S512x16x64 .f32) : FVec Ideal S512x16x128 .f32 :=
  pad S512x16x128 ![0, 0, 0] ![0, 0, 64] ![0, 0, 0] x zeroF pads_S512x16x64_S512x16x128_000_000_0640 h_S_
def catT (a b : FVec Ideal S2048x32 .f32) : FVec Ideal S2048x64 .f32 :=
  concatenate S2048x64 1 [⟨S2048x32, a⟩, ⟨S2048x32, b⟩] concatenates_S2048x32_S2048x32_S2048x64_d1
def catW (a b : FVec Ideal S512x16x32 .f32) : FVec Ideal S512x16x64 .f32 :=
  concatenate S512x16x64 2 [⟨S512x16x32, a⟩, ⟨S512x16x32, b⟩] concatenates_S512x16x32_S512x16x32_S512x16x64_d2

theorem padT_apply (x : FVec Ideal S2048x64 .f32) (R : Fin 2048) (d : Fin 128) : padT x (ix2 R d) = lanes (fun e => x (ix2 R e)) d := by
  unfold lanes padT
  by_cases h : d.val < 64
  · rw [dif_pos h]
    refine pad_apply_of_inside _ _ _ _ _ _ _ (ix2 R d) (ix2 R ⟨d.val, h⟩) fun a => match a with
      | ⟨0, _⟩ => ?_
      | ⟨1, _⟩ => ?_
    · show R.val = 0 + R.val * 1; omega
    · show d.val = 0 + d.val * 1; omega
  · rw [dif_neg h]
    refine (pad_apply_of_not_inside _ _ _ _ _ _ _ (ix2 R d) (1 : Fin 2) ?_).trans rfl
    intro hin
    have h2 : (d.val - 0) / 1 < 64 := hin.2.2
    omega

theorem padW_apply (x : FVec Ideal S512x16x64 .f32) (k : Fin 512) (H : Fin 16) (d : Fin 128) (h : d.val < 64) :
    padW x (ix3 k H d) = x (ix3 k H ⟨d.val, h⟩) := by
  unfold padW
  refine pad_apply_of_inside _ _ _ _ _ _ _ (ix3 k H d) (ix3 k H ⟨d.val, h⟩) fun a => match a with
    | ⟨0, _⟩ => ?_
    | ⟨1, _⟩ => ?_
    | ⟨2, _⟩ => ?_
  · show k.val = 0 + k.val * 1; omega
  · show H.val = 0 + H.val * 1; omega
  · show d.val = 0 + d.val * 1; omega

abbrev listT (a b : FVec Ideal S2048x32 .f32) : List ((s : Shape) × (s.Idx → EReal)) := [⟨S2048x32, a⟩, ⟨S2048x32, b⟩]

theorem catT_apply (a b : FVec Ideal S2048x32 .f32) (R : Fin 2048) (e : Fin 64) :
    catT a b (ix2 R e) = halves (fun j => a (ix2 R j)) (fun j => b (ix2 R j)) e := by
  unfold halves catT
  by_cases h : e.val < 32
  · rw [dif_pos h]
    exact concatenate_apply_piece (t := S2048x64) 1 (listT a b) _ (ix2 R e) 0 (by show 0 < 2; decide) S2048x32 _ rfl
      rfl 0 rfl (ix2 R ⟨e.val, h⟩) (fun b hb => match b with
        | ⟨0, _⟩ => rfl
        | ⟨1, _⟩ => absurd rfl hb) (show 0 + e.val = e.val by omega)
  · rw [dif_neg h]
    exact concatenate_apply_piece (t := S2048x64) 1 (listT a b) _ (ix2 R e) 1 (by show 1 < 2; decide) S2048x32 _ rfl
      rfl 32 rfl (ix2 R ⟨e.val - 32, by omega⟩) (fun b hb => match b with
        | ⟨0, _⟩ => rfl
        | ⟨1, _⟩ => absurd rfl hb) (show 32 + (e.val - 32) = e.val by omega)

abbrev listW (a b : FVec Ideal S512x16x32 .f32) : List ((s : Shape) × (s.Idx → EReal)) := [⟨S512x16x32, a⟩, ⟨S512x16x32, b⟩]

theorem catW_apply (a b : FVec Ideal S512x16x32 .f32) (k : Fin 512) (H : Fin 16) (e : Fin 64) :
    catW a b (ix3 k H e) = halves (fun j => a (ix3 k H j)) (fun j => b (ix3 k H j)) e := by
  unfold halves catW
  by_cases h : e.val < 32
  · rw [dif_pos h]
    exact concatenate_apply_piece (t := S512x16x64) 2 (listW a b) _ (ix3 k H e) 0 (by show 0 < 2; decide) S512x16x32 _ rfl
      rfl 0 rfl (ix3 k H ⟨e.val, h⟩) (fun b hb => match b with
        | ⟨0, _⟩ => rfl
        | ⟨1, _⟩ => rfl
        | ⟨2, _⟩ => absurd rfl hb) (show 0 + e.val = e.val by omega)
  · rw [dif_neg h]
    exact concatenate_apply_piece (t := S512x16x64) 2 (listW a b) _ (ix3 k H e) 1 (by show 1 < 2; decide) S512x16x32 _ rfl
      rfl 32 rfl (ix3 k H ⟨e.val - 32, by omega⟩) (fun b hb => match b with
        | ⟨0, _⟩ => rfl
        | ⟨1, _⟩ => rfl
        | ⟨2, _⟩ => absurd rfl hb) (show 32 + (e.val - 32) = e.val by omega)

/-! ### The tables -/

def cosT (a6 : FVec Ideal S2048x32 .f32) : FVec Ideal S2048x128 .f32 := padT (catT a6 a6)
def sinT (a7 : FVec Ideal S2048x32 .f32) : FVec Ideal S2048x128 .f32 := padT (catT (Host.negf a7) a7)

theorem cosT_apply (a6 : FVec Ideal S2048x32 .f32) (R : Fin 8192) (e : Fin 128) :
    cosT a6 (ix2 (lOf R) e) = lanes (halves (rowOf a6 R) (rowOf a6 R)) e :=
  (padT_apply _ (lOf R) e).trans (congrArg (fun f => lanes f e) (funext fun j => catT_apply a6 a6 (lOf R) j))

theorem sinT_apply (a7 : FVec Ideal S2048x32 .f32) (R : Fin 8192) (e : Fin 128) :
    sinT a7 (ix2 (lOf R) e) = lanes (halves (fun j => -rowOf a7 R j) (rowOf a7 R)) e :=
  (padT_apply _ (lOf R) e).trans (congrArg (fun f => lanes f e) (funext fun j => catT_apply (Host.negf a7) a7 (lOf R) j))

/-! ### The down projection -/

section
variable (a2 : FVec Ideal S2048x1088 .f32)

def wdLow : FVec Ideal S2048x1024 .f32 := extractStridedSlice S2048x1024 ![0, 0] a2 slices_S2048x1088_S2048x1024_0_0
def wdPe : FVec Ideal S2048x64 .f32 := extractStridedSlice S2048x64 ![0, 1024] a2 slices_S2048x1088_S2048x64_0_1024
def wdSw : FVec Ideal S2048x64 .f32 := catT (extractStridedSlice S2048x32 ![0, 32] (wdPe a2) slices_S2048x64_S2048x32_0_32)
  (extractStridedSlice S2048x32 ![0, 0] (wdPe a2) slices_S2048x64_S2048x32_0_0)
def wdHost : FVec Ideal S2048x1280 .f32 := concatenate S2048x1280 1 [⟨S2048x1024, wdLow a2⟩, ⟨S2048x128, padT (wdPe a2)⟩, ⟨S2048x128, padT (wdSw a2)⟩]
  concatenates_S2048x1024_S2048x128_S2048x128_S2048x1280_d1

/-- Row `k` of the position lanes' columns. -/
def peCol (k : Fin 2048) (e : Fin 64) : EReal := a2 (ix2 k ⟨1024 + e.val, by omega⟩)

theorem wdPe_apply (k : Fin 2048) (e : Fin 64) : wdPe a2 (ix2 k e) = peCol a2 k e :=
  extractStridedSlice_apply (s := S2048x1088) (t := S2048x64) ![0, 1024] a2 _ (ix2 k e) (ix2 k ⟨1024 + e.val, by omega⟩) fun a => match a with
    | ⟨0, _⟩ => (Nat.zero_add _).symm
    | ⟨1, _⟩ => rfl

theorem wdSw_apply (k : Fin 2048) (e : Fin 64) : wdSw a2 (ix2 k e) = swapped (peCol a2 k) e := by
  refine (catT_apply _ _ k e).trans (congrArg₂ (fun f g => halves f g e) (funext fun j => ?_) (funext fun j => ?_))
  · exact (extractStridedSlice_apply (s := S2048x64) (t := S2048x32) ![0, 32] (wdPe a2) _ (ix2 k j) (ix2 k ⟨32 + j.val, by omega⟩) fun a => match a with
      | ⟨0, _⟩ => (Nat.zero_add _).symm
      | ⟨1, _⟩ => rfl).trans (wdPe_apply a2 k _)
  · exact (extractStridedSlice_apply (s := S2048x64) (t := S2048x32) ![0, 0] (wdPe a2) _ (ix2 k j) (ix2 k ⟨j.val, by omega⟩) fun a => match a with
      | ⟨0, _⟩ => (Nat.zero_add _).symm
      | ⟨1, _⟩ => (Nat.zero_add _).symm).trans (wdPe_apply a2 k _)

abbrev listD : List ((s : Shape) × (s.Idx → EReal)) := [⟨S2048x1024, wdLow a2⟩, ⟨S2048x128, padT (wdPe a2)⟩, ⟨S2048x128, padT (wdSw a2)⟩]

theorem wd_low (k : Fin 2048) (N : Fin 1280) (h : N.val < 1024) : wdHost a2 (ix2 k N) = a2 (ix2 k ⟨N.val, by omega⟩) := by
  unfold wdHost
  refine (concatenate_apply_piece (t := S2048x1280) 1 (listD a2) _ (ix2 k N) 0 (by show 0 < 3; decide) S2048x1024 _ rfl
    rfl 0 rfl (ix2 k ⟨N.val, h⟩) (fun b hb => match b with
      | ⟨0, _⟩ => rfl
      | ⟨1, _⟩ => absurd rfl hb) (show 0 + N.val = N.val by omega)).trans ?_
  exact extractStridedSlice_apply (s := S2048x1088) (t := S2048x1024) ![0, 0] a2 _ (ix2 k ⟨N.val, h⟩) (ix2 k ⟨N.val, by omega⟩) fun a => match a with
    | ⟨0, _⟩ => (Nat.zero_add _).symm
    | ⟨1, _⟩ => (Nat.zero_add _).symm

theorem wd_pe (k : Fin 2048) (e : Fin 128) (h : e.val < 64) : wdHost a2 (ix2 k ⟨1024 + e.val, by omega⟩) = peCol a2 k ⟨e.val, h⟩ := by
  unfold wdHost
  refine (concatenate_apply_piece (t := S2048x1280) 1 (listD a2) _ (ix2 k ⟨1024 + e.val, by omega⟩) 1 (by show 1 < 3; decide) S2048x128 _ rfl
    rfl 1024 rfl (ix2 k e) (fun b hb => match b with
      | ⟨0, _⟩ => rfl
      | ⟨1, _⟩ => absurd rfl hb) rfl).trans ?_
  refine (padT_apply _ k e).trans ?_
  unfold lanes
  rw [dif_pos h]
  exact wdPe_apply a2 k _

theorem wd_sw (k : Fin 2048) (e : Fin 128) (h : e.val < 64) : wdHost a2 (ix2 k ⟨1152 + e.val, by omega⟩) = swapped (peCol a2 k) ⟨e.val, h⟩ := by
  unfold wdHost
  refine (concatenate_apply_piece (t := S2048x1280) 1 (listD a2) _ (ix2 k ⟨1152 + e.val, by omega⟩) 2 (by show 2 < 3; decide) S2048x128 _ rfl
    rfl 1152 rfl (ix2 k e) (fun b hb => match b with
      | ⟨0, _⟩ => rfl
      | ⟨1, _⟩ => absurd rfl hb) rfl).trans ?_
  refine (padT_apply _ k e).trans ?_
  unfold lanes
  rw [dif_pos h]
  exact wdSw_apply a2 k _

end

/-! ### The queries' up projection -/

section
variable (a5 : FVec Ideal S512x3072 .f32)

def wqHeads : FVec Ideal S512x16x192 .f32 := shapeCast S512x16x192 a5 shapeCasts_S512x3072_S512x16x192
def wqOwn : FVec Ideal S512x16x128 .f32 := extractStridedSlice S512x16x128 ![0, 0, 0] (wqHeads a5) slices_S512x16x192_S512x16x128_0_0_0
def wqPe : FVec Ideal S512x16x64 .f32 := extractStridedSlice S512x16x64 ![0, 0, 128] (wqHeads a5) slices_S512x16x192_S512x16x64_0_0_128
def wqSw : FVec Ideal S512x16x64 .f32 := catW (extractStridedSlice S512x16x32 ![0, 0, 32] (wqPe a5) slices_S512x16x64_S512x16x32_0_0_32)
  (extractStridedSlice S512x16x32 ![0, 0, 0] (wqPe a5) slices_S512x16x64_S512x16x32_0_0_0)
def flat (x : FVec Ideal S512x16x128 .f32) : FVec Ideal S512x2048 .f32 := shapeCast S512x2048 x shapeCasts_S512x16x128_S512x2048
def wqHost : FVec Ideal S512x6144 .f32 := concatenate S512x6144 1 [⟨S512x2048, flat (wqOwn a5)⟩, ⟨S512x2048, flat (padW (wqPe a5))⟩, ⟨S512x2048, flat (padW (wqSw a5))⟩]
  concatenates_S512x2048_S512x2048_S512x2048_S512x6144_d1

/-- Row `k` of the columns of head `H`'s position lanes. -/
def peColQ (H : Fin 16) (k : Fin 512) (e : Fin 64) : EReal := a5 (ix2 k ⟨H.val * 192 + 128 + e.val, by omega⟩)

theorem wqHeads_apply (k : Fin 512) (H : Fin 16) (d : Fin 192) : wqHeads a5 (ix3 k H d) = a5 (ix2 k ⟨H.val * 192 + d.val, by omega⟩) :=
  shapeCast_apply a5 _ (ix3 k H d) (ix2 k ⟨H.val * 192 + d.val, by omega⟩) (by
    rw [Shape.rowMajor_val_two, Shape.rowMajor_val_three]
    show k.val * 3072 + (H.val * 192 + d.val) = (k.val * 16 + H.val) * 192 + d.val
    omega)

theorem flat_apply (x : FVec Ideal S512x16x128 .f32) (k : Fin 512) (H : Fin 16) (d : Fin 128) :
    flat x (ix2 k ⟨H.val * 128 + d.val, by omega⟩) = x (ix3 k H d) :=
  shapeCast_apply x _ (ix2 k ⟨H.val * 128 + d.val, by omega⟩) (ix3 k H d) (by
    rw [Shape.rowMajor_val_two, Shape.rowMajor_val_three]
    show (k.val * 16 + H.val) * 128 + d.val = k.val * 2048 + (H.val * 128 + d.val)
    omega)

theorem wqPe_apply (k : Fin 512) (H : Fin 16) (e : Fin 64) : wqPe a5 (ix3 k H e) = peColQ a5 H k e := by
  refine (extractStridedSlice_apply (s := S512x16x192) (t := S512x16x64) ![0, 0, 128] (wqHeads a5) _ (ix3 k H e) (ix3 k H ⟨128 + e.val, by omega⟩)
    fun a => match a with
    | ⟨0, _⟩ => (Nat.zero_add _).symm
    | ⟨1, _⟩ => (Nat.zero_add _).symm
    | ⟨2, _⟩ => rfl).trans ((wqHeads_apply a5 k H _).trans ?_)
  refine congrArg (fun z => a5 (ix2 k z)) (Fin.ext ?_)
  show H.val * 192 + (128 + e.val) = H.val * 192 + 128 + e.val
  omega

theorem wqSw_apply (k : Fin 512) (H : Fin 16) (e : Fin 64) : wqSw a5 (ix3 k H e) = swapped (peColQ a5 H k) e := by
  refine (catW_apply _ _ k H e).trans (congrArg₂ (fun f g => halves f g e) (funext fun j => ?_) (funext fun j => ?_))
  · exact (extractStridedSlice_apply (s := S512x16x64) (t := S512x16x32) ![0, 0, 32] (wqPe a5) _ (ix3 k H j) (ix3 k H ⟨32 + j.val, by omega⟩)
      fun a => match a with
      | ⟨0, _⟩ => (Nat.zero_add _).symm
      | ⟨1, _⟩ => (Nat.zero_add _).symm
      | ⟨2, _⟩ => rfl).trans (wqPe_apply a5 k H _)
  · exact (extractStridedSlice_apply (s := S512x16x64) (t := S512x16x32) ![0, 0, 0] (wqPe a5) _ (ix3 k H j) (ix3 k H ⟨j.val, by omega⟩)
      fun a => match a with
      | ⟨0, _⟩ => (Nat.zero_add _).symm
      | ⟨1, _⟩ => (Nat.zero_add _).symm
      | ⟨2, _⟩ => (Nat.zero_add _).symm).trans (wqPe_apply a5 k H _)

abbrev listQ : List ((s : Shape) × (s.Idx → EReal)) :=
  [⟨S512x2048, flat (wqOwn a5)⟩, ⟨S512x2048, flat (padW (wqPe a5))⟩, ⟨S512x2048, flat (padW (wqSw a5))⟩]

theorem wq_own (k : Fin 512) (H : Fin 16) (d : Fin 128) :
    wqHost a5 (ix2 k ⟨0 + (H.val * 128 + d.val), by omega⟩) = a5 (ix2 k ⟨H.val * 192 + d.val, by omega⟩) := by
  unfold wqHost
  refine (concatenate_apply_piece (t := S512x6144) 1 (listQ a5) _ (ix2 k ⟨0 + (H.val * 128 + d.val), by omega⟩) 0 (by show 0 < 3; decide) S512x2048 _ rfl
    rfl 0 rfl (ix2 k ⟨H.val * 128 + d.val, by omega⟩) (fun b hb => match b with
      | ⟨0, _⟩ => rfl
      | ⟨1, _⟩ => absurd rfl hb) rfl).trans ?_
  refine (flat_apply _ k H d).trans ?_
  exact (extractStridedSlice_apply (s := S512x16x192) (t := S512x16x128) ![0, 0, 0] (wqHeads a5) _ (ix3 k H d) (ix3 k H ⟨d.val, by omega⟩)
    fun a => match a with
    | ⟨0, _⟩ => (Nat.zero_add _).symm
    | ⟨1, _⟩ => (Nat.zero_add _).symm
    | ⟨2, _⟩ => (Nat.zero_add _).symm).trans (wqHeads_apply a5 k H _)

theorem wq_pe (k : Fin 512) (H : Fin 16) (d : Fin 128) (h : d.val < 64) :
    wqHost a5 (ix2 k ⟨2048 + (H.val * 128 + d.val), by omega⟩) = peColQ a5 H k ⟨d.val, h⟩ := by
  unfold wqHost
  refine (concatenate_apply_piece (t := S512x6144) 1 (listQ a5) _ (ix2 k ⟨2048 + (H.val * 128 + d.val), by omega⟩) 1 (by show 1 < 3; decide) S512x2048 _ rfl
    rfl 2048 rfl (ix2 k ⟨H.val * 128 + d.val, by omega⟩) (fun b hb => match b with
      | ⟨0, _⟩ => rfl
      | ⟨1, _⟩ => absurd rfl hb) rfl).trans ?_
  exact (flat_apply _ k H d).trans ((padW_apply _ k H d h).trans (wqPe_apply a5 k H _))

theorem wq_sw (k : Fin 512) (H : Fin 16) (d : Fin 128) (h : d.val < 64) :
    wqHost a5 (ix2 k ⟨4096 + (H.val * 128 + d.val), by omega⟩) = swapped (peColQ a5 H k) ⟨d.val, h⟩ := by
  unfold wqHost
  refine (concatenate_apply_piece (t := S512x6144) 1 (listQ a5) _ (ix2 k ⟨4096 + (H.val * 128 + d.val), by omega⟩) 2 (by show 2 < 3; decide) S512x2048 _ rfl
    rfl 4096 rfl (ix2 k ⟨H.val * 128 + d.val, by omega⟩) (fun b hb => match b with
      | ⟨0, _⟩ => rfl
      | ⟨1, _⟩ => absurd rfl hb) rfl).trans ?_
  exact (flat_apply _ k H d).trans ((padW_apply _ k H d h).trans (wqSw_apply a5 k H _))

end

/-! ## The products with the laid-out weights -/

section
variable (a0 : FVec Ideal S4x2048x2048 .f32) (a1 : FVec Ideal S2048 .f32) (a2 : FVec Ideal S2048x1088 .f32) (a3 : FVec Ideal S512 .f32)
  (a5 : FVec Ideal S512x3072 .f32)

theorem down_low (R : Fin 8192) (N : Fin 1280) (h : N.val < 1024) :
    ∑ k : Fin 2048, hRow a0 a1 R k * wdHost a2 (ix2 k N) = down a0 a1 a2 R ⟨N.val, by omega⟩ :=
  Finset.sum_congr rfl fun k _ => congrArg (hRow a0 a1 R k * ·) (wd_low a2 k N h)

theorem down_pe (R : Fin 8192) (e : Fin 128) (h : e.val < 64) :
    ∑ k : Fin 2048, hRow a0 a1 R k * wdHost a2 (ix2 k ⟨1024 + e.val, by omega⟩) = dpe a0 a1 a2 R ⟨e.val, h⟩ :=
  Finset.sum_congr rfl fun k _ => congrArg (hRow a0 a1 R k * ·) (wd_pe a2 k e h)

theorem down_sw (R : Fin 8192) (e : Fin 128) (h : e.val < 64) :
    ∑ k : Fin 2048, hRow a0 a1 R k * wdHost a2 (ix2 k ⟨1152 + e.val, by omega⟩) = swapped (dpe a0 a1 a2 R) ⟨e.val, h⟩ :=
  (Finset.sum_congr rfl fun k _ => congrArg (hRow a0 a1 R k * ·) (wd_sw a2 k e h)).trans (sum_swapped (hRow a0 a1 R) (peCol a2) _)

theorem up_own (R : Fin 8192) (H : Fin 16) (d : Fin 128) :
    ∑ k : Fin 512, cq a0 a1 a2 a3 R k * wqHost a5 (ix2 k ⟨0 + (H.val * 128 + d.val), by omega⟩)
      = up a0 a1 a2 a3 a5 R ⟨H.val * 192 + d.val, by omega⟩ :=
  Finset.sum_congr rfl fun k _ => congrArg (cq a0 a1 a2 a3 R k * ·) (wq_own a5 k H d)

theorem up_pe (R : Fin 8192) (H : Fin 16) (d : Fin 128) (h : d.val < 64) :
    ∑ k : Fin 512, cq a0 a1 a2 a3 R k * wqHost a5 (ix2 k ⟨2048 + (H.val * 128 + d.val), by omega⟩)
      = upPe a0 a1 a2 a3 a5 R H ⟨d.val, h⟩ :=
  Finset.sum_congr rfl fun k _ => congrArg (cq a0 a1 a2 a3 R k * ·) (wq_pe a5 k H d h)

theorem up_sw (R : Fin 8192) (H : Fin 16) (d : Fin 128) (h : d.val < 64) :
    ∑ k : Fin 512, cq a0 a1 a2 a3 R k * wqHost a5 (ix2 k ⟨4096 + (H.val * 128 + d.val), by omega⟩)
      = swapped (upPe a0 a1 a2 a3 a5 R H) ⟨d.val, h⟩ :=
  (Finset.sum_congr rfl fun k _ => congrArg (cq a0 a1 a2 a3 R k * ·) (wq_sw a5 k H d h)).trans (sum_swapped (cq a0 a1 a2 a3 R) (peColQ a5 H) _)

end

end Cert.MlaIn

end
-- ==== Proof.MlaInValue.lean ====
/- The compressed projections: the call's blocks as parts of its arguments, and what its run leaves in the results. -/
module

public import proofs.«01_k».proof.Proof.MlaInHost

@[expose] public section

set_option maxRecDepth 16384

noncomputable section

namespace Cert.MlaIn

open Idealize.ShloMosaic hiding ix1 ix2 ix3 ix4 ix5
open Idealize.ShloMosaic.ValueIdx Idealize.ShloMosaic.TcCoe
open Cert.Kernel6Ideal Cert.Kernel6Ideal.Gen Cert.Rows

/-! ## The blocks of a point -/

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val % 8 ∧ win0_6.index t 1 = 0 := by decide +kernel
theorem index7 : ∀ t : Fin grid0.N, win0_7.index t 0 = t.val % 8 ∧ win0_7.index t 1 = 0 := by decide +kernel
theorem index8 : ∀ t : Fin grid0.N, win0_8.index t 0 = 0 ∧ win0_8.index t 1 = t.val ∧ win0_8.index t 2 = 0 := by decide +kernel
theorem index9 : ∀ t : Fin grid0.N, win0_9.index t 0 = t.val ∧ win0_9.index t 1 = 0 := by decide +kernel
theorem index10 : ∀ t : Fin grid0.N, win0_10.index t 0 = t.val ∧ win0_10.index t 1 = 0 := by decide +kernel

theorem read0 (X : FVec Ideal S8192x2048 .f32) (t : Fin cfg0.N) (r : Fin 256) (n : Fin 2048) (R : Fin 8192) (N : Fin 2048)
    (hR : R.val = (t.val) * 256 + r.val) (hN : N.val = (0) * 2048 + n.val) :
    (((cfg0.win 0).blk t).view.read (Elt Ideal) X : FVec Ideal S256x2048 .f32) (ix2 r n) = X (ix2 R N) := by
  show X ((win0_0.rect t).emb (ix2 r n)) = _
  refine congrArg X (funext fun a => Fin.ext ?_)
  refine (win0_0.rect_emb_val t _ a).trans ?_
  match a with
  | ⟨0, _⟩ => show win0_0.index t 0 * 256 + r.val = R.val; rw [(index0 t).1, hR]
  | ⟨1, _⟩ => show win0_0.index t 1 * 2048 + n.val = N.val; rw [(index0 t).2, hN]

theorem read1 (X : FVec Ideal S1x2048 .f32) (t : Fin cfg0.N) (r : Fin 1) (n : Fin 2048) (R : Fin 1) (N : Fin 2048)
    (hR : R.val = (0) * 1 + r.val) (hN : N.val = (0) * 2048 + n.val) :
    (((cfg0.win 1).blk t).view.read (Elt Ideal) X : FVec Ideal S1x2048 .f32) (ix2 r n) = X (ix2 R N) := by
  show X ((win0_1.rect t).emb (ix2 r n)) = _
  refine congrArg X (funext fun a => Fin.ext ?_)
  refine (win0_1.rect_emb_val t _ a).trans ?_
  match a with
  | ⟨0, _⟩ => show win0_1.index t 0 * 1 + r.val = R.val; rw [(index1 t).1, hR]
  | ⟨1, _⟩ => show win0_1.index t 1 * 2048 + n.val = N.val; rw [(index1 t).2, hN]

theorem read2 (X : FVec Ideal S2048x1280 .bf16) (t : Fin cfg0.N) (r : Fin 2048) (n : Fin 1280) (R : Fin 2048) (N : Fin 1280)
    (hR : R.val = (0) * 2048 + r.val) (hN : N.val = (0) * 1280 + n.val) :
    (((cfg0.win 2).blk t).view.read (Elt Ideal) X : FVec Ideal S2048x1280 .bf16) (ix2 r n) = X (ix2 R N) := by
  show X ((win0_2.rect t).emb (ix2 r n)) = _
  refine congrArg X (funext fun a => Fin.ext ?_)
  refine (win0_2.rect_emb_val t _ a).trans ?_
  match a with
  | ⟨0, _⟩ => show win0_2.index t 0 * 2048 + r.val = R.val; rw [(index2 t).1, hR]
  | ⟨1, _⟩ => show win0_2.index t 1 * 1280 + n.val = N.val; rw [(index2 t).2, hN]

theorem read3 (X : FVec Ideal S1x512 .f32) (t : Fin cfg0.N) (r : Fin 1) (n : Fin 512) (R : Fin 1) (N : Fin 512)
    (hR : R.val = (0) * 1 + r.val) (hN : N.val = (0) * 512 + n.val) :
    (((cfg0.win 3).blk t).view.read (Elt Ideal) X : FVec Ideal S1x512 .f32) (ix2 r n) = X (ix2 R N) := by
  show X ((win0_3.rect t).emb (ix2 r n)) = _
  refine congrArg X (funext fun a => Fin.ext ?_)
  refine (win0_3.rect_emb_val t _ a).trans ?_
  match a with
  | ⟨0, _⟩ => show win0_3.index t 0 * 1 + r.val = R.val; rw [(index3 t).1, hR]
  | ⟨1, _⟩ => show win0_3.index t 1 * 512 + n.val = N.val; rw [(index3 t).2, hN]

theorem read4 (X : FVec Ideal S1x512 .f32) (t : Fin cfg0.N) (r : Fin 1) (n : Fin 512) (R : Fin 1) (N : Fin 512)
    (hR : R.val = (0) * 1 + r.val) (hN : N.val = (0) * 512 + n.val) :
    (((cfg0.win 4).blk t).view.read (Elt Ideal) X : FVec Ideal S1x512 .f32) (ix2 r n) = X (ix2 R N) := by
  show X ((win0_4.rect t).emb (ix2 r n)) = _
  refine congrArg X (funext fun a => Fin.ext ?_)
  refine (win0_4.rect_emb_val t _ a).trans ?_
  match a with
  | ⟨0, _⟩ => show win0_4.index t 0 * 1 + r.val = R.val; rw [(index4 t).1, hR]
  | ⟨1, _⟩ => show win0_4.index t 1 * 512 + n.val = N.val; rw [(index4 t).2, hN]

theorem read5 (X : FVec Ideal S512x6144 .bf16) (t : Fin cfg0.N) (r : Fin 512) (n : Fin 6144) (R : Fin 512) (N : Fin 6144)
    (hR : R.val = (0) * 512 + r.val) (hN : N.val = (0) * 6144 + n.val) :
    (((cfg0.win 5).blk t).view.read (Elt Ideal) X : FVec Ideal S512x6144 .bf16) (ix2 r n) = X (ix2 R N) := by
  show X ((win0_5.rect t).emb (ix2 r n)) = _
  refine congrArg X (funext fun a => Fin.ext ?_)
  refine (win0_5.rect_emb_val t _ a).trans ?_
  match a with
  | ⟨0, _⟩ => show win0_5.index t 0 * 512 + r.val = R.val; rw [(index5 t).1, hR]
  | ⟨1, _⟩ => show win0_5.index t 1 * 6144 + n.val = N.val; rw [(index5 t).2, hN]

theorem read6 (X : FVec Ideal S2048x128 .f32) (t : Fin cfg0.N) (r : Fin 256) (n : Fin 128) (R : Fin 2048) (N : Fin 128)
    (hR : R.val = (t.val % 8) * 256 + r.val) (hN : N.val = (0) * 128 + n.val) :
    (((cfg0.win 6).blk t).view.read (Elt Ideal) X : FVec Ideal S256x128 .f32) (ix2 r n) = X (ix2 R N) := by
  show X ((win0_6.rect t).emb (ix2 r n)) = _
  refine congrArg X (funext fun a => Fin.ext ?_)
  refine (win0_6.rect_emb_val t _ a).trans ?_
  match a with
  | ⟨0, _⟩ => show win0_6.index t 0 * 256 + r.val = R.val; rw [(index6 t).1, hR]
  | ⟨1, _⟩ => show win0_6.index t 1 * 128 + n.val = N.val; rw [(index6 t).2, hN]

theorem read7 (X : FVec Ideal S2048x128 .f32) (t : Fin cfg0.N) (r : Fin 256) (n : Fin 128) (R : Fin 2048) (N : Fin 128)
    (hR : R.val = (t.val % 8) * 256 + r.val) (hN : N.val = (0) * 128 + n.val) :
    (((cfg0.win 7).blk t).view.read (Elt Ideal) X : FVec Ideal S256x128 .f32) (ix2 r n) = X (ix2 R N) := by
  show X ((win0_7.rect t).emb (ix2 r n)) = _
  refine congrArg X (funext fun a => Fin.ext ?_)
  refine (win0_7.rect_emb_val t _ a).trans ?_
  match a with
  | ⟨0, _⟩ => show win0_7.index t 0 * 256 + r.val = R.val; rw [(index7 t).1, hR]
  | ⟨1, _⟩ => show win0_7.index t 1 * 128 + n.val = N.val; rw [(index7 t).2, hN]

theorem read8 (X : FVec Ideal S16x8192x256 .bf16) (t : Fin cfg0.N) (r : Fin 16) (n : Fin 256) (o : Fin 256) (R : Fin 16) (N : Fin 8192) (O : Fin 256)
    (hR : R.val = (0) * 16 + r.val) (hN : N.val = (t.val) * 256 + n.val) (hO : O.val = (0) * 256 + o.val) :
    (((cfg0.win 8).blk t).view.read (Elt Ideal) X : FVec Ideal S16x256x256 .bf16) (ix3 r n o) = X (ix3 R N O) := by
  show X ((win0_8.rect t).emb (ix3 r n o)) = _
  refine congrArg X (funext fun a => Fin.ext ?_)
  refine (win0_8.rect_emb_val t _ a).trans ?_
  match a with
  | ⟨0, _⟩ => show win0_8.index t 0 * 16 + r.val = R.val; rw [(index8 t).1, hR]
  | ⟨1, _⟩ => show win0_8.index t 1 * 256 + n.val = N.val; rw [(index8 t).2.1, hN]
  | ⟨2, _⟩ => show win0_8.index t 2 * 256 + o.val = O.val; rw [(index8 t).2.2, hO]

theorem read9 (X : FVec Ideal S8192x512 .f32) (t : Fin cfg0.N) (r : Fin 256) (n : Fin 512) (R : Fin 8192) (N : Fin 512)
    (hR : R.val = (t.val) * 256 + r.val) (hN : N.val = (0) * 512 + n.val) :
    (((cfg0.win 9).blk t).view.read (Elt Ideal) X : FVec Ideal S256x512 .f32) (ix2 r n) = X (ix2 R N) := by
  show X ((win0_9.rect t).emb (ix2 r n)) = _
  refine congrArg X (funext fun a => Fin.ext ?_)
  refine (win0_9.rect_emb_val t _ a).trans ?_
  match a with
  | ⟨0, _⟩ => show win0_9.index t 0 * 256 + r.val = R.val; rw [(index9 t).1, hR]
  | ⟨1, _⟩ => show win0_9.index t 1 * 512 + n.val = N.val; rw [(index9 t).2, hN]

theorem read10 (X : FVec Ideal S8192x128 .f32) (t : Fin cfg0.N) (r : Fin 256) (n : Fin 128) (R : Fin 8192) (N : Fin 128)
    (hR : R.val = (t.val) * 256 + r.val) (hN : N.val = (0) * 128 + n.val) :
    (((cfg0.win 10).blk t).view.read (Elt Ideal) X : FVec Ideal S256x128 .f32) (ix2 r n) = X (ix2 R N) := by
  show X ((win0_10.rect t).emb (ix2 r n)) = _
  refine congrArg X (funext fun a => Fin.ext ?_)
  refine (win0_10.rect_emb_val t _ a).trans ?_
  match a with
  | ⟨0, _⟩ => show win0_10.index t 0 * 256 + r.val = R.val; rw [(index10 t).1, hR]
  | ⟨1, _⟩ => show win0_10.index t 1 * 128 + n.val = N.val; rw [(index10 t).2, hN]

/-! ## The body -/

/-- A block's normed rows times the down projection. -/
theorem dot_apply (x0 : FVec Ideal S256x2048 .f32) (x1 : FVec Ideal S1x2048 .f32) (x2 : FVec Ideal S2048x1280 .bf16) (r : Fin 256) (n : Fin 1280) :
    k0_pay5 (F := Ideal) x0 x1 x2 (ix2 r n)
      = ∑ k : Fin 2048, (x0 (ix2 r k) * rmsOf 0x45000000#32 (fun k => x0 (ix2 r k)) * x1 (ix2 0 k)) * x2 (ix2 k n) := by
  unfold k0_pay5
  simp only [shapeCast_self]
  refine (Ideal.matmul_plain_apply none _ _ _ r n).trans ?_
  rw [constant_apply, Ideal.ofBits_zero_f32, zero_add]
  refine Finset.sum_congr rfl fun k _ => congrArg (· * x2 (ix2 k n)) ?_
  exact norm_apply 0x45000000#32 (by decide) (by decide) x0 x1 _ _ _ _ _ _ r k

theorem slice_apply (o : ℕ) (M : FVec Ideal S256x1280 .f32) (h : S256x1280.Slices ![0, o] S256x512) (r : Fin 256) (k : Fin 512) (N : Fin 1280)
    (hN : N.val = o + k.val) : (extractStridedSlice S256x512 ![0, o] M h : FVec Ideal S256x512 .f32) (ix2 r k) = M (ix2 r N) :=
  extractStridedSlice_apply (s := S256x1280) (t := S256x512) ![0, o] M h (ix2 r k) (ix2 r N) fun a => match a with
    | ⟨0, _⟩ => (Nat.zero_add _).symm
    | ⟨1, _⟩ => hN

/-- The compressed queries of a block, from its product's row. -/
theorem cq_apply (x0 : FVec Ideal S256x2048 .f32) (x1 : FVec Ideal S1x2048 .f32) (x2 : FVec Ideal S2048x1280 .bf16) (x3 : FVec Ideal S1x512 .f32)
    (r : Fin 256) (D W : Fin 512 → EReal) (hD : ∀ k : Fin 512, k0_pay5 (F := Ideal) x0 x1 x2 (ix2 r ⟨k.val, by omega⟩) = D k)
    (hW : ∀ k, x3 (ix2 0 k) = W k) (k : Fin 512) :
    k0_pay6 (F := Ideal) x0 x1 x2 x3 (ix2 r k) = D k * rmsOf 0x44000000#32 D * W k := by
  have e : ∀ k : Fin 512, (extractStridedSlice S256x512 ![0, 0] (k0_pay5 (F := Ideal) x0 x1 x2) slices_S256x1280_o0_0_S256x512 : FVec Ideal S256x512 .f32) (ix2 r k)
      = D k := fun k => (slice_apply 0 _ _ r k ⟨k.val, by omega⟩ (Nat.zero_add _).symm).trans (hD k)
  unfold k0_pay6
  simp only [shapeCast_self]
  refine (norm_apply 0x44000000#32 (by decide) (by decide) _ x3 _ _ _ _ _ _ r k).trans ?_
  rw [funext e, e k, hW k]

/-- The compressed keys and values of a block, from its product's row. -/
theorem ckv_apply (x0 : FVec Ideal S256x2048 .f32) (x1 : FVec Ideal S1x2048 .f32) (x2 : FVec Ideal S2048x1280 .bf16) (x4 : FVec Ideal S1x512 .f32)
    (r : Fin 256) (D W : Fin 512 → EReal) (hD : ∀ k : Fin 512, k0_pay5 (F := Ideal) x0 x1 x2 (ix2 r ⟨512 + k.val, by omega⟩) = D k)
    (hW : ∀ k, x4 (ix2 0 k) = W k) (k : Fin 512) :
    k0_pay10 (F := Ideal) (k0_pay7 x0 x1 x2) (k0_pay8 x4) (k0_pay9 x0 x1 x2) (ix2 r k) = D k * rmsOf 0x44000000#32 D * W k := by
  have e : ∀ k : Fin 512, (extractStridedSlice S256x512 ![0, 512] (k0_pay5 (F := Ideal) x0 x1 x2) slices_S256x1280_o0_512_S256x512 : FVec Ideal S256x512 .f32) (ix2 r k)
      = D k := fun k => (slice_apply 512 _ _ r k ⟨512 + k.val, by omega⟩ rfl).trans (hD k)
  unfold k0_pay10 k0_pay9 k0_pay8 k0_pay7
  simp only [shapeCast_self]
  refine (norm_apply 0x44000000#32 (by decide) (by decide) _ x4 _ _ _ _ _ _ r k).trans ?_
  rw [funext e, e k, hW k]

/-- The keys' position lanes of a block, from its product's row and the tables' row. -/
theorem kpe_apply (M : FVec Ideal S256x1280 .f32) (C S : FVec Ideal S256x128 .f32) (r : Fin 256) (e : Fin 128) :
    k0_pay13 (F := Ideal) M C S (ix2 r e)
      = M (ix2 r ⟨1024 + e.val, by omega⟩) * C (ix2 r e) + M (ix2 r ⟨1152 + e.val, by omega⟩) * S (ix2 r e) := by
  unfold k0_pay13 k0_pay11 k0_pay12
  simp only [shapeCast_self]
  refine congrArg₂ (fun y z => y * C (ix2 r e) + z * S (ix2 r e)) ?_ ?_
  · exact extractStridedSlice_apply (s := S256x1280) (t := S256x128) ![0, 1024] M _ (ix2 r e) (ix2 r ⟨1024 + e.val, by omega⟩) fun a => match a with
      | ⟨0, _⟩ => (Nat.zero_add _).symm
      | ⟨1, _⟩ => rfl
  · exact extractStridedSlice_apply (s := S256x1280) (t := S256x128) ![0, 1152] M _ (ix2 r e) (ix2 r ⟨1152 + e.val, by omega⟩) fun a => match a with
      | ⟨0, _⟩ => (Nat.zero_add _).symm
      | ⟨1, _⟩ => rfl

/-- The product of the compressed queries with a third of the up projection. -/
theorem third_apply (o : ℕ) (ho : o + 2048 ≤ 6144) (q : FVec Ideal S256x512 .bf16) (x5 : FVec Ideal S512x6144 .bf16) (inb) (r : Fin 256) (n : Fin 2048) :
    k0_pay14 (F := Ideal) q (View.ld x5 (Rect.unit (s := S512x6144) ![0, o] S512x2048.size inb)) (ix2 r n)
      = ∑ k : Fin 512, q (ix2 r k) * x5 (ix2 k ⟨o + n.val, by omega⟩) := by
  unfold k0_pay14
  simp only [shapeCast_self]
  refine (Ideal.matmul_plain_apply none _ _ _ r n).trans ?_
  rw [constant_apply, Ideal.ofBits_zero_f32, zero_add]
  refine Finset.sum_congr rfl fun k _ => congrArg (q (ix2 r k) * ·) ?_
  exact View.ld_unit_apply_of _ _ _ _ _ _ fun a => match a with
    | ⟨0, _⟩ => (Nat.zero_add _).symm
    | ⟨1, _⟩ => rfl

/-- A block of queries from the three products and the tables. -/
def queryAt (Q A B : FVec Ideal S256x2048 .f32) (C S : FVec Ideal S256x128 .f32) (H : Fin 16) (r d : Fin 256) : EReal :=
  if d.val < 128 then Q (ix2 r ⟨H.val * 128 + d.val % 128, by omega⟩)
  else A (ix2 r ⟨H.val * 128 + (d.val - 128), by omega⟩) * C (ix2 r ⟨d.val - 128, by omega⟩)
    + B (ix2 r ⟨H.val * 128 + (d.val - 128), by omega⟩) * S (ix2 r ⟨d.val - 128, by omega⟩)
def queryBlock (Q A B : FVec Ideal S256x2048 .f32) (C S : FVec Ideal S256x128 .f32) : FVec Ideal S16x256x256 .bf16 :=
  fun y => queryAt Q A B C S (y 0) (y 1) (y 2)

theorem head_apply (o : ℕ) (M : FVec Ideal S256x2048 .f32) (h : S256x2048.Slices ![0, o] S256x128) (r : Fin 256) (d : Fin 128) (N : Fin 2048)
    (hN : N.val = o + d.val) : (extractStridedSlice S256x128 ![0, o] M h : FVec Ideal S256x128 .f32) (ix2 r d) = M (ix2 r N) :=
  extractStridedSlice_apply (s := S256x2048) (t := S256x128) ![0, o] M h (ix2 r d) (ix2 r N) fun a => match a with
    | ⟨0, _⟩ => (Nat.zero_add _).symm
    | ⟨1, _⟩ => hN

/-- The store of a head's own lanes. -/
theorem own (Q A B : FVec Ideal S256x2048 .f32) (C S : FVec Ideal S256x128 .f32) (H o : ℕ) (hH : H < 16) (ho : o = H * 128)
    (h1 : S256x2048.Slices ![0, o] S256x128) (h2 : S256x128.ShapeCasts S1x256x128) (h3 : FTy.bits .bf16 < FTy.bits .f32) (inb) (x : S1x256x128.Idx) :
    (shapeCast S1x256x128 (truncf .bf16 (extractStridedSlice S256x128 ![0, o] Q h1 : FVec Ideal S256x128 .f32) h3) h2 : FVec Ideal S1x256x128 .bf16) x
      = queryBlock Q A B C S ((Rect.unit (s := S16x256x256) ![H, 0, 0] ![1, 256, 128] inb).emb x) := by
  obtain ⟨u, r, d, rfl⟩ : ∃ (u : Fin 1) (r : Fin 256) (d : Fin 128), x = ix3 u r d :=
    ⟨x 0, x 1, x 2, ValueIdx.eq_ix3 (n0 := 1) (n1 := 256) (n2 := 128) x⟩
  obtain rfl : u = 0 := Subsingleton.elim _ _
  refine (Cert.Ffn.add1 _ _ r d).trans ?_
  have v : ∀ a : Fin 3, (((Rect.unit (s := S16x256x256) ![H, 0, 0] ![1, 256, 128] inb).emb (ix3 0 r d) a : Fin _) : ℕ)
      = (![H, 0, 0] : Fin 3 → ℕ) a + (ix3 (0 : Fin 1) r d a).val := fun a =>
    Rect.idx_unit_val (s := S16x256x256) (off := ![H, 0, 0]) (size := ![1, 256, 128]) (inb := inb) (ix3 0 r d) a
  have e : (Rect.unit (s := S16x256x256) ![H, 0, 0] ![1, 256, 128] inb).emb (ix3 0 r d) = ix3 (⟨H, hH⟩ : Fin 16) r ⟨d.val, by omega⟩ := by
    funext a
    apply Fin.ext
    match a with
    | ⟨0, _⟩ => exact v 0
    | ⟨1, _⟩ => exact (v 1).trans (Nat.zero_add _)
    | ⟨2, _⟩ => exact (v 2).trans (Nat.zero_add _)
  rw [e]
  show _ = queryAt Q A B C S ⟨H, hH⟩ r ⟨d.val, _⟩
  unfold queryAt
  rw [if_pos (show d.val < 128 from d.isLt)]
  refine head_apply o Q h1 r d _ ?_
  show H * 128 + d.val % 128 = o + d.val
  omega

/-- The store of a head's rotated lanes. -/
theorem rotated (Q A B : FVec Ideal S256x2048 .f32) (C S : FVec Ideal S256x128 .f32) (H o : ℕ) (hH : H < 16) (ho : o = H * 128)
    (h1 : S256x2048.Slices ![0, o] S256x128) (h2 : S256x128.ShapeCasts S1x256x128) (h3 : FTy.bits .bf16 < FTy.bits .f32) (inb) (x : S1x256x128.Idx) :
    (shapeCast S1x256x128 (truncf .bf16 (addf (mulf (extractStridedSlice S256x128 ![0, o] A h1 : FVec Ideal S256x128 .f32) C)
      (mulf (extractStridedSlice S256x128 ![0, o] B h1 : FVec Ideal S256x128 .f32) S)) h3) h2 : FVec Ideal S1x256x128 .bf16) x
      = queryBlock Q A B C S ((Rect.unit (s := S16x256x256) ![H, 0, 128] ![1, 256, 128] inb).emb x) := by
  obtain ⟨u, r, d, rfl⟩ : ∃ (u : Fin 1) (r : Fin 256) (d : Fin 128), x = ix3 u r d :=
    ⟨x 0, x 1, x 2, ValueIdx.eq_ix3 (n0 := 1) (n1 := 256) (n2 := 128) x⟩
  obtain rfl : u = 0 := Subsingleton.elim _ _
  refine (Cert.Ffn.add1 _ _ r d).trans ?_
  have v : ∀ a : Fin 3, (((Rect.unit (s := S16x256x256) ![H, 0, 128] ![1, 256, 128] inb).emb (ix3 0 r d) a : Fin _) : ℕ)
      = (![H, 0, 128] : Fin 3 → ℕ) a + (ix3 (0 : Fin 1) r d a).val := fun a =>
    Rect.idx_unit_val (s := S16x256x256) (off := ![H, 0, 128]) (size := ![1, 256, 128]) (inb := inb) (ix3 0 r d) a
  have e : (Rect.unit (s := S16x256x256) ![H, 0, 128] ![1, 256, 128] inb).emb (ix3 0 r d) = ix3 (⟨H, hH⟩ : Fin 16) r ⟨128 + d.val, by omega⟩ := by
    funext a
    apply Fin.ext
    match a with
    | ⟨0, _⟩ => exact v 0
    | ⟨1, _⟩ => exact (v 1).trans (Nat.zero_add _)
    | ⟨2, _⟩ => exact v 2
  rw [e]
  show _ = queryAt Q A B C S ⟨H, hH⟩ r ⟨128 + d.val, _⟩
  unfold queryAt
  rw [if_neg (by show ¬128 + d.val < 128; omega)]
  have ed : (⟨128 + d.val - 128, by omega⟩ : Fin 128) = d := Fin.ext (by show 128 + d.val - 128 = d.val; omega)
  have hN : (⟨H * 128 + (128 + d.val - 128), by omega⟩ : Fin 2048).val = o + d.val := by
    show H * 128 + (128 + d.val - 128) = o + d.val
    omega
  refine (congrArg₂ (fun y z => y * C (ix2 r d) + z * S (ix2 r d)) (head_apply o A h1 r d _ hN) (head_apply o B h1 r d _ hN)).trans ?_
  exact congrArg (fun z => A (ix2 r ⟨H * 128 + (128 + d.val - 128), by omega⟩) * C (ix2 r z) + B (ix2 r ⟨H * 128 + (128 + d.val - 128), by omega⟩) * S (ix2 r z)) ed.symm

theorem out8_eq (x0 : FVec Ideal S256x2048 .f32) (x1 : FVec Ideal S1x2048 .f32) (x2 : FVec Ideal S2048x1280 .bf16) (x3 x4 : FVec Ideal S1x512 .f32)
    (x5 : FVec Ideal S512x6144 .bf16) (x6 x7 : FVec Ideal S256x128 .f32) (y : S16x256x256.Idx) :
    out0_8 (F := Ideal) x0 x1 x2 x3 x4 x5 x6 x7 y = queryBlock (k0_pay54 (F := Ideal) x0 x1 x2 x3 x4 x5 x6 x7) (k0_pay55 (F := Ideal) x0 x1 x2 x3 x4 x5 x6 x7)
      (k0_pay56 (F := Ideal) x0 x1 x2 x3 x4 x5 x6 x7) (k0_pay52 (F := Ideal) x0 x1 x2 x3 x4 x5 x6 x7) (k0_pay53 (F := Ideal) x0 x1 x2 x3 x4 x5 x6 x7) y := by
  have turned := rotated (k0_pay54 (F := Ideal) x0 x1 x2 x3 x4 x5 x6 x7) (k0_pay55 (F := Ideal) x0 x1 x2 x3 x4 x5 x6 x7) (k0_pay56 (F := Ideal) x0 x1 x2 x3 x4 x5 x6 x7) (k0_pay52 (F := Ideal) x0 x1 x2 x3 x4 x5 x6 x7) (k0_pay53 (F := Ideal) x0 x1 x2 x3 x4 x5 x6 x7)
  have kept := own (k0_pay54 (F := Ideal) x0 x1 x2 x3 x4 x5 x6 x7) (k0_pay55 (F := Ideal) x0 x1 x2 x3 x4 x5 x6 x7) (k0_pay56 (F := Ideal) x0 x1 x2 x3 x4 x5 x6 x7) (k0_pay52 (F := Ideal) x0 x1 x2 x3 x4 x5 x6 x7) (k0_pay53 (F := Ideal) x0 x1 x2 x3 x4 x5 x6 x7)
  unfold out0_8
  refine View.canon_apply_of_pieces _ _ ?_ y (cover0_8 _ _ _ _ _ _ _ _ _ _ _ _ _ _ _ _ _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact turned 15 1920 (by decide) rfl slices_S256x2048_o0_1920_S256x128 shapeCasts_S256x128_S1x256x128 bitsLt_bf16_f32 inb_S16x256x256_S1x256x128_15_0_128
  · exact kept 15 1920 (by decide) rfl slices_S256x2048_o0_1920_S256x128 shapeCasts_S256x128_S1x256x128 bitsLt_bf16_f32 inb_S16x256x256_S1x256x128_15_0_0
  · exact turned 14 1792 (by decide) rfl slices_S256x2048_o0_1792_S256x128 shapeCasts_S256x128_S1x256x128 bitsLt_bf16_f32 inb_S16x256x256_S1x256x128_14_0_128
  · exact kept 14 1792 (by decide) rfl slices_S256x2048_o0_1792_S256x128 shapeCasts_S256x128_S1x256x128 bitsLt_bf16_f32 inb_S16x256x256_S1x256x128_14_0_0
  · exact turned 13 1664 (by decide) rfl slices_S256x2048_o0_1664_S256x128 shapeCasts_S256x128_S1x256x128 bitsLt_bf16_f32 inb_S16x256x256_S1x256x128_13_0_128
  · exact kept 13 1664 (by decide) rfl slices_S256x2048_o0_1664_S256x128 shapeCasts_S256x128_S1x256x128 bitsLt_bf16_f32 inb_S16x256x256_S1x256x128_13_0_0
  · exact turned 12 1536 (by decide) rfl slices_S256x2048_o0_1536_S256x128 shapeCasts_S256x128_S1x256x128 bitsLt_bf16_f32 inb_S16x256x256_S1x256x128_12_0_128
  · exact kept 12 1536 (by decide) rfl slices_S256x2048_o0_1536_S256x128 shapeCasts_S256x128_S1x256x128 bitsLt_bf16_f32 inb_S16x256x256_S1x256x128_12_0_0
  · exact turned 11 1408 (by decide) rfl slices_S256x2048_o0_1408_S256x128 shapeCasts_S256x128_S1x256x128 bitsLt_bf16_f32 inb_S16x256x256_S1x256x128_11_0_128
  · exact kept 11 1408 (by decide) rfl slices_S256x2048_o0_1408_S256x128 shapeCasts_S256x128_S1x256x128 bitsLt_bf16_f32 inb_S16x256x256_S1x256x128_11_0_0
  · exact turned 10 1280 (by decide) rfl slices_S256x2048_o0_1280_S256x128 shapeCasts_S256x128_S1x256x128 bitsLt_bf16_f32 inb_S16x256x256_S1x256x128_10_0_128
  · exact kept 10 1280 (by decide) rfl slices_S256x2048_o0_1280_S256x128 shapeCasts_S256x128_S1x256x128 bitsLt_bf16_f32 inb_S16x256x256_S1x256x128_10_0_0
  · exact turned 9 1152 (by decide) rfl slices_S256x2048_o0_1152_S256x128 shapeCasts_S256x128_S1x256x128 bitsLt_bf16_f32 inb_S16x256x256_S1x256x128_9_0_128
  · exact kept 9 1152 (by decide) rfl slices_S256x2048_o0_1152_S256x128 shapeCasts_S256x128_S1x256x128 bitsLt_bf16_f32 inb_S16x256x256_S1x256x128_9_0_0
  · exact turned 8 1024 (by decide) rfl slices_S256x2048_o0_1024_S256x128 shapeCasts_S256x128_S1x256x128 bitsLt_bf16_f32 inb_S16x256x256_S1x256x128_8_0_128
  · exact kept 8 1024 (by decide) rfl slices_S256x2048_o0_1024_S256x128 shapeCasts_S256x128_S1x256x128 bitsLt_bf16_f32 inb_S16x256x256_S1x256x128_8_0_0
  · exact turned 7 896 (by decide) rfl slices_S256x2048_o0_896_S256x128 shapeCasts_S256x128_S1x256x128 bitsLt_bf16_f32 inb_S16x256x256_S1x256x128_7_0_128
  · exact kept 7 896 (by decide) rfl slices_S256x2048_o0_896_S256x128 shapeCasts_S256x128_S1x256x128 bitsLt_bf16_f32 inb_S16x256x256_S1x256x128_7_0_0
  · exact turned 6 768 (by decide) rfl slices_S256x2048_o0_768_S256x128 shapeCasts_S256x128_S1x256x128 bitsLt_bf16_f32 inb_S16x256x256_S1x256x128_6_0_128
  · exact kept 6 768 (by decide) rfl slices_S256x2048_o0_768_S256x128 shapeCasts_S256x128_S1x256x128 bitsLt_bf16_f32 inb_S16x256x256_S1x256x128_6_0_0
  · exact turned 5 640 (by decide) rfl slices_S256x2048_o0_640_S256x128 shapeCasts_S256x128_S1x256x128 bitsLt_bf16_f32 inb_S16x256x256_S1x256x128_5_0_128
  · exact kept 5 640 (by decide) rfl slices_S256x2048_o0_640_S256x128 shapeCasts_S256x128_S1x256x128 bitsLt_bf16_f32 inb_S16x256x256_S1x256x128_5_0_0
  · exact turned 4 512 (by decide) rfl slices_S256x2048_o0_512_S256x128 shapeCasts_S256x128_S1x256x128 bitsLt_bf16_f32 inb_S16x256x256_S1x256x128_4_0_128
  · exact kept 4 512 (by decide) rfl slices_S256x2048_o0_512_S256x128 shapeCasts_S256x128_S1x256x128 bitsLt_bf16_f32 inb_S16x256x256_S1x256x128_4_0_0
  · exact turned 3 384 (by decide) rfl slices_S256x2048_o0_384_S256x128 shapeCasts_S256x128_S1x256x128 bitsLt_bf16_f32 inb_S16x256x256_S1x256x128_3_0_128
  · exact kept 3 384 (by decide) rfl slices_S256x2048_o0_384_S256x128 shapeCasts_S256x128_S1x256x128 bitsLt_bf16_f32 inb_S16x256x256_S1x256x128_3_0_0
  · exact turned 2 256 (by decide) rfl slices_S256x2048_o0_256_S256x128 shapeCasts_S256x128_S1x256x128 bitsLt_bf16_f32 inb_S16x256x256_S1x256x128_2_0_128
  · exact kept 2 256 (by decide) rfl slices_S256x2048_o0_256_S256x128 shapeCasts_S256x128_S1x256x128 bitsLt_bf16_f32 inb_S16x256x256_S1x256x128_2_0_0
  · exact turned 1 128 (by decide) rfl slices_S256x2048_o0_128_S256x128 shapeCasts_S256x128_S1x256x128 bitsLt_bf16_f32 inb_S16x256x256_S1x256x128_1_0_128
  · exact kept 1 128 (by decide) rfl slices_S256x2048_o0_128_S256x128 shapeCasts_S256x128_S1x256x128 bitsLt_bf16_f32 inb_S16x256x256_S1x256x128_1_0_0
  · exact turned 0 0 (by decide) rfl slices_S256x2048_o0_0_S256x128 shapeCasts_S256x128_S1x256x128 bitsLt_bf16_f32 inb_S16x256x256_S1x256x128_0_0_128
  · exact kept 0 0 (by decide) rfl slices_S256x2048_o0_0_S256x128 shapeCasts_S256x128_S1x256x128 bitsLt_bf16_f32 inb_S16x256x256_S1x256x128_0_0_0

section
variable (x0 : FVec Ideal S256x2048 .f32) (x1 : FVec Ideal S1x2048 .f32) (x2 : FVec Ideal S2048x1280 .bf16) (x3 x4 : FVec Ideal S1x512 .f32)
  (x5 : FVec Ideal S512x6144 .bf16) (x6 x7 : FVec Ideal S256x128 .f32)

theorem pay51_eq : k0_pay51 (F := Ideal) x0 x1 x2 x3 x4 x5 x6 x7 = k0_pay6 (F := Ideal) x0 x1 x2 x3 := by
  unfold k0_pay51
  rw [View.ld_unit_zero Cert.Blocks.zero2, View.ld_unit_zero Cert.Blocks.zero2, View.ld_unit_zero Cert.Blocks.zero2, View.ld_unit_zero Cert.Blocks.zero2]

theorem pay52_eq : k0_pay52 (F := Ideal) x0 x1 x2 x3 x4 x5 x6 x7 = x6 := by
  unfold k0_pay52 k0_pay11
  rw [View.ld_unit_zero Cert.Blocks.zero2]
  simp only [shapeCast_self]

theorem pay53_eq : k0_pay53 (F := Ideal) x0 x1 x2 x3 x4 x5 x6 x7 = x7 := by
  unfold k0_pay53 k0_pay12
  rw [View.ld_unit_zero Cert.Blocks.zero2]
  simp only [shapeCast_self]

theorem pay54_apply (r : Fin 256) (n : Fin 2048) : k0_pay54 (F := Ideal) x0 x1 x2 x3 x4 x5 x6 x7 (ix2 r n)
    = ∑ k : Fin 512, k0_pay6 (F := Ideal) x0 x1 x2 x3 (ix2 r k) * x5 (ix2 k ⟨0 + n.val, by omega⟩) := by
  unfold k0_pay54
  rw [pay51_eq]
  exact third_apply 0 (by decide) _ x5 _ r n

theorem pay55_apply (r : Fin 256) (n : Fin 2048) : k0_pay55 (F := Ideal) x0 x1 x2 x3 x4 x5 x6 x7 (ix2 r n)
    = ∑ k : Fin 512, k0_pay6 (F := Ideal) x0 x1 x2 x3 (ix2 r k) * x5 (ix2 k ⟨2048 + n.val, by omega⟩) := by
  unfold k0_pay55
  rw [pay51_eq]
  exact third_apply 2048 (by decide) _ x5 _ r n

theorem pay56_apply (r : Fin 256) (n : Fin 2048) : k0_pay56 (F := Ideal) x0 x1 x2 x3 x4 x5 x6 x7 (ix2 r n)
    = ∑ k : Fin 512, k0_pay6 (F := Ideal) x0 x1 x2 x3 (ix2 r k) * x5 (ix2 k ⟨4096 + n.val, by omega⟩) := by
  unfold k0_pay56
  rw [pay51_eq]
  exact third_apply 4096 (by decide) _ x5 _ r n

theorem out9_eq : out0_9 (F := Ideal) x0 x1 x2 x3 x4 x5 x6 x7
    = k0_pay10 (F := Ideal) (k0_pay7 x0 x1 x2) (k0_pay8 x4) (k0_pay9 x0 x1 x2) := by
  unfold out0_9
  rw [View.canon_unit_zero Cert.Blocks.zero2, View.ld_unit_zero Cert.Blocks.zero2, View.ld_unit_zero Cert.Blocks.zero2, View.ld_unit_zero Cert.Blocks.zero2,
    View.ld_unit_zero Cert.Blocks.zero2]

theorem out10_eq : out0_10 (F := Ideal) x0 x1 x2 x3 x4 x5 x6 x7 = k0_pay13 (F := Ideal) (k0_pay5 x0 x1 x2) x6 x7 := by
  unfold out0_10
  rw [View.canon_unit_zero Cert.Blocks.zero2, View.ld_unit_zero Cert.Blocks.zero2, View.ld_unit_zero Cert.Blocks.zero2, View.ld_unit_zero Cert.Blocks.zero2,
    View.ld_unit_zero Cert.Blocks.zero2, View.ld_unit_zero Cert.Blocks.zero2]

/-! ### A block whose rows are the arguments' rows -/

variable (a0 : FVec Ideal S4x2048x2048 .f32) (a1 : FVec Ideal S2048 .f32) (a2 : FVec Ideal S2048x1088 .f32) (a3 a4 : FVec Ideal S512 .f32)
  (a5 : FVec Ideal S512x3072 .f32) (a6 a7 : FVec Ideal S2048x32 .f32) (r : Fin 256) (R : Fin 8192)
  (h0 : ∀ k, x0 (ix2 r k) = a0 (ix3 (bOf R) (lOf R) k)) (h1 : ∀ k, x1 (ix2 0 k) = a1 (ix1 k)) (h2 : ∀ k n, x2 (ix2 k n) = wdHost a2 (ix2 k n))

include h0 h1 h2 in
theorem dot_of (n : Fin 1280) : k0_pay5 (F := Ideal) x0 x1 x2 (ix2 r n) = ∑ k : Fin 2048, hRow a0 a1 R k * wdHost a2 (ix2 k n) := by
  refine (dot_apply x0 x1 x2 r n).trans (Finset.sum_congr rfl fun k _ => ?_)
  rw [funext h0, h0, h1, h2]
  rfl

include h0 h1 h2 in
theorem cq_of (h3 : ∀ k, x3 (ix2 0 k) = a3 (ix1 k)) (k : Fin 512) : k0_pay6 (F := Ideal) x0 x1 x2 x3 (ix2 r k) = cq a0 a1 a2 a3 R k :=
  cq_apply x0 x1 x2 x3 r (dq a0 a1 a2 R) (fun k => a3 (ix1 k))
    (fun k => (dot_of x0 x1 x2 a0 a1 a2 r R h0 h1 h2 _).trans (down_low a0 a1 a2 R ⟨k.val, by omega⟩ (by show k.val < 1024; omega))) h3 k

include h0 h1 h2 in
theorem ckv_of (h4 : ∀ k, x4 (ix2 0 k) = a4 (ix1 k)) (k : Fin 512) :
    k0_pay10 (F := Ideal) (k0_pay7 x0 x1 x2) (k0_pay8 x4) (k0_pay9 x0 x1 x2) (ix2 r k) = ckv a0 a1 a2 a4 R k :=
  ckv_apply x0 x1 x2 x4 r (dkv a0 a1 a2 R) (fun k => a4 (ix1 k))
    (fun k => (dot_of x0 x1 x2 a0 a1 a2 r R h0 h1 h2 _).trans (down_low a0 a1 a2 R ⟨512 + k.val, by omega⟩ (by show 512 + k.val < 1024; omega))) h4 k

variable (h6 : ∀ e, x6 (ix2 r e) = lanes (halves (rowOf a6 R) (rowOf a6 R)) e)
  (h7 : ∀ e, x7 (ix2 r e) = lanes (halves (fun j => -rowOf a7 R j) (rowOf a7 R)) e)

include h0 h1 h2 h6 h7 in
theorem kpe_of (e : Fin 128) : k0_pay13 (F := Ideal) (k0_pay5 x0 x1 x2) x6 x7 (ix2 r e) = kpe a0 a1 a2 a6 a7 R e :=
  (kpe_apply _ x6 x7 r e).trans (rot_of (dpe a0 a1 a2 R) (rowOf a6 R) (rowOf a7 R) e _ _ _ _
    (fun h => (dot_of x0 x1 x2 a0 a1 a2 r R h0 h1 h2 _).trans (down_pe a0 a1 a2 R e h))
    (fun h => (dot_of x0 x1 x2 a0 a1 a2 r R h0 h1 h2 _).trans (down_sw a0 a1 a2 R e h)) (h6 e) (h7 e))

include h0 h1 h2 h6 h7 in
theorem query_of (h3 : ∀ k, x3 (ix2 0 k) = a3 (ix1 k)) (h5 : ∀ k n, x5 (ix2 k n) = wqHost a5 (ix2 k n)) (H : Fin 16) (d : Fin 256) :
    queryAt (k0_pay54 (F := Ideal) x0 x1 x2 x3 x4 x5 x6 x7) (k0_pay55 (F := Ideal) x0 x1 x2 x3 x4 x5 x6 x7)
      (k0_pay56 (F := Ideal) x0 x1 x2 x3 x4 x5 x6 x7) (k0_pay52 (F := Ideal) x0 x1 x2 x3 x4 x5 x6 x7) (k0_pay53 (F := Ideal) x0 x1 x2 x3 x4 x5 x6 x7) H r d
      = query a0 a1 a2 a3 a5 a6 a7 H R d := by
  have hq : ∀ N : Fin 6144, ∑ k : Fin 512, k0_pay6 (F := Ideal) x0 x1 x2 x3 (ix2 r k) * x5 (ix2 k N)
      = ∑ k : Fin 512, cq a0 a1 a2 a3 R k * wqHost a5 (ix2 k N) := fun N => Finset.sum_congr rfl fun k _ => by
    rw [cq_of x0 x1 x2 x3 a0 a1 a2 a3 r R h0 h1 h2 h3, h5]
  unfold queryAt query
  by_cases h : d.val < 128
  · rw [if_pos h, if_pos h]
    exact (pay54_apply x0 x1 x2 x3 x4 x5 x6 x7 r _).trans ((hq _).trans (up_own a0 a1 a2 a3 a5 R H ⟨d.val % 128, by omega⟩))
  · rw [if_neg h, if_neg h, pay52_eq, pay53_eq]
    exact rot_of (upPe a0 a1 a2 a3 a5 R H) (rowOf a6 R) (rowOf a7 R) ⟨d.val - 128, by omega⟩ _ _ _ _
      (fun h' => (pay55_apply x0 x1 x2 x3 x4 x5 x6 x7 r _).trans ((hq _).trans (up_pe a0 a1 a2 a3 a5 R H ⟨d.val - 128, by omega⟩ h')))
      (fun h' => (pay56_apply x0 x1 x2 x3 x4 x5 x6 x7 r _).trans ((hq _).trans (up_sw a0 a1 a2 a3 a5 R H ⟨d.val - 128, by omega⟩ h')))
      (h6 _) (h7 _)

end

/-! ## The run -/

variable (m : (ℓ : Loc nD τ sig) → Buf (Elt Ideal) ℓ) (c : Dev nD)

abbrev g0 : FVec Ideal S4x2048x2048 .f32 := m ((c : Thread nD τ).loc main_arg0)
abbrev g1 : FVec Ideal S2048 .f32 := m ((c : Thread nD τ).loc main_arg1)
abbrev g2 : FVec Ideal S2048x1088 .f32 := m ((c : Thread nD τ).loc main_arg2)
abbrev g3 : FVec Ideal S512 .f32 := m ((c : Thread nD τ).loc main_arg3)
abbrev g4 : FVec Ideal S512 .f32 := m ((c : Thread nD τ).loc main_arg4)
abbrev g5 : FVec Ideal S512x3072 .f32 := m ((c : Thread nD τ).loc main_arg5)
abbrev g6 : FVec Ideal S2048x32 .f32 := m ((c : Thread nD τ).loc main_arg6)
abbrev g7 : FVec Ideal S2048x32 .f32 := m ((c : Thread nD τ).loc main_arg7)

theorem V_x : V m c main_v27 = shapeCast S8192x2048 (g0 m c) shapeCasts_S4x2048x2048_S8192x2048 := by
  unfold V
  after_reads_simp
  rfl

theorem V_n : V m c main_v28 = shapeCast S1x2048 (g1 m c) shapeCasts_S2048_S1x2048 := by
  unfold V
  after_reads_simp
  rfl

theorem V_nq : V m c main_v29 = shapeCast S1x512 (g3 m c) shapeCasts_S512_S1x512 := by
  unfold V
  after_reads_simp
  rfl

theorem V_nkv : V m c main_v30 = shapeCast S1x512 (g4 m c) shapeCasts_S512_S1x512 := by
  unfold V
  after_reads_simp
  rfl

theorem V_wd : V m c main_v25 = (truncf .bf16 (wdHost (g2 m c)) bitsLt_bf16_f32 : FVec Ideal S2048x1280 .bf16) := by
  unfold V
  after_reads_simp
  rfl

theorem V_wq : V m c main_v26 = (truncf .bf16 (wqHost (g5 m c)) bitsLt_bf16_f32 : FVec Ideal S512x6144 .bf16) := by
  unfold V
  after_reads_simp
  rfl

theorem V_cos : V m c main_v1 = cosT (g6 m c) := by
  unfold V
  after_reads_simp
  rfl

theorem V_sin : V m c main_v4 = sinT (g7 m c) := by
  unfold V
  after_reads_simp
  rfl

section
variable (t : Fin cfg0.N)

theorem b1 (k : Fin 2048) : (iblk m c 1 t : FVec Ideal S1x2048 .f32) (ix2 0 k) = g1 m c (ix1 k) :=
  (read1 (V m c main_v28) t 0 k 0 k (by simp) (by omega)).trans ((congrFun (V_n m c) _).trans (Cert.Ffn.row1 _ _ k))

theorem b2 (k : Fin 2048) (n : Fin 1280) : (iblk m c 2 t : FVec Ideal S2048x1280 .bf16) (ix2 k n) = wdHost (g2 m c) (ix2 k n) :=
  (read2 (V m c main_v25) t k n k n (by omega) (by omega)).trans (congrFun (V_wd m c) _)

theorem b3 (k : Fin 512) : (iblk m c 3 t : FVec Ideal S1x512 .f32) (ix2 0 k) = g3 m c (ix1 k) :=
  (read3 (V m c main_v29) t 0 k 0 k (by simp) (by omega)).trans ((congrFun (V_nq m c) _).trans (Cert.Ffn.row1 _ _ k))

theorem b4 (k : Fin 512) : (iblk m c 4 t : FVec Ideal S1x512 .f32) (ix2 0 k) = g4 m c (ix1 k) :=
  (read4 (V m c main_v30) t 0 k 0 k (by simp) (by omega)).trans ((congrFun (V_nkv m c) _).trans (Cert.Ffn.row1 _ _ k))

theorem b5 (k : Fin 512) (n : Fin 6144) : (iblk m c 5 t : FVec Ideal S512x6144 .bf16) (ix2 k n) = wqHost (g5 m c) (ix2 k n) :=
  (read5 (V m c main_v26) t k n k n (by omega) (by omega)).trans (congrFun (V_wq m c) _)

variable (r : Fin 256) (R : Fin 8192) (hR : R.val = t.val * 256 + r.val)
include hR

theorem b0 (k : Fin 2048) : (iblk m c 0 t : FVec Ideal S256x2048 .f32) (ix2 r k) = g0 m c (ix3 (bOf R) (lOf R) k) :=
  (read0 (V m c main_v27) t r k R k hR (by omega)).trans ((congrFun (V_x m c) _).trans (fold _ _ R k))

theorem b6 (e : Fin 128) : (iblk m c 6 t : FVec Ideal S256x128 .f32) (ix2 r e) = lanes (halves (rowOf (g6 m c) R) (rowOf (g6 m c) R)) e :=
  (read6 (V m c main_v1) t r e (lOf R) e (by show R.val % 2048 = t.val % 8 * 256 + r.val; omega) (by omega)).trans
    ((congrFun (V_cos m c) _).trans (cosT_apply _ R e))

theorem b7 (e : Fin 128) : (iblk m c 7 t : FVec Ideal S256x128 .f32) (ix2 r e)
    = lanes (halves (fun j => -rowOf (g7 m c) R j) (rowOf (g7 m c) R)) e :=
  (read7 (V m c main_v4) t r e (lOf R) e (by show R.val % 2048 = t.val % 8 * 256 + r.val; omega) (by omega)).trans
    ((congrFun (V_sin m c) _).trans (sinT_apply _ R e))

end

theorem flushed8 (t : Fin cfg0.N) : (dats m 0 c).flushed 8 t
    = ((cfg0.win 8).blk t).view.read (Elt Ideal) (queryBuf (g0 m c) (g1 m c) (g2 m c) (g3 m c) (g5 m c) (g6 m c) (g7 m c)) := by
  rw [Value.flushed8]
  funext y
  obtain ⟨H, r, d, rfl⟩ : ∃ (H : Fin 16) (r : Fin 256) (d : Fin 256), y = ix3 H r d :=
    ⟨y 0, y 1, y 2, ValueIdx.eq_ix3 (n0 := 16) (n1 := 256) (n2 := 256) y⟩
  have ht : t.val < 32 := t.isLt.trans_eq N_0
  refine Eq.trans ?_ (read8 _ t H r d H ⟨t.val * 256 + r.val, by omega⟩ d (by omega) rfl (by omega)).symm
  refine (out8_eq _ _ _ _ _ _ _ _ (ix3 H r d)).trans ?_
  exact query_of _ _ _ _ _ _ _ _ _ _ _ _ _ _ _ r ⟨t.val * 256 + r.val, by omega⟩ (b0 m c t r _ rfl) (b1 m c t) (b2 m c t) (b6 m c t r _ rfl)
    (b7 m c t r _ rfl) (b3 m c t) (b5 m c t) H d

theorem flushed9 (t : Fin cfg0.N) : (dats m 0 c).flushed 9 t
    = ((cfg0.win 9).blk t).view.read (Elt Ideal) (ckvBuf (g0 m c) (g1 m c) (g2 m c) (g4 m c)) := by
  rw [Value.flushed9]
  funext y
  obtain ⟨r, k, rfl⟩ : ∃ (r : Fin 256) (k : Fin 512), y = ix2 r k := ⟨y 0, y 1, ValueIdx.eq_ix2 (n0 := 256) (n1 := 512) y⟩
  have ht : t.val < 32 := t.isLt.trans_eq N_0
  refine Eq.trans ?_ (read9 _ t r k ⟨t.val * 256 + r.val, by omega⟩ k rfl (by omega)).symm
  refine (congrFun (out9_eq _ _ _ _ _ _ _ _) (ix2 r k)).trans ?_
  exact ckv_of _ _ _ _ _ _ _ _ r ⟨t.val * 256 + r.val, by omega⟩ (b0 m c t r _ rfl) (b1 m c t) (b2 m c t) (b4 m c t) k

theorem flushed10 (t : Fin cfg0.N) : (dats m 0 c).flushed 10 t
    = ((cfg0.win 10).blk t).view.read (Elt Ideal) (kpeBuf (g0 m c) (g1 m c) (g2 m c) (g6 m c) (g7 m c)) := by
  rw [Value.flushed10]
  funext y
  obtain ⟨r, e, rfl⟩ : ∃ (r : Fin 256) (e : Fin 128), y = ix2 r e := ⟨y 0, y 1, ValueIdx.eq_ix2 (n0 := 256) (n1 := 128) y⟩
  have ht : t.val < 32 := t.isLt.trans_eq N_0
  refine Eq.trans ?_ (read10 _ t r e ⟨t.val * 256 + r.val, by omega⟩ e rfl (by omega)).symm
  refine (congrFun (out10_eq _ _ _ _ _ _ _ _) (ix2 r e)).trans ?_
  exact kpe_of _ _ _ _ _ _ _ _ _ _ r ⟨t.val * 256 + r.val, by omega⟩ (b0 m c t r _ rfl) (b1 m c t) (b2 m c t) (b6 m c t r _ rfl) (b7 m c t r _ rfl) e

theorem cover8 (i : S16x8192x256.Idx) : ∃ t : Fin cfg0.N, (cfg0.win 8).flush t = true ∧ i ∈ ((cfg0.win 8).blk t).view.set := by
  have h0 : (i 0 : ℕ) < 16 := (i 0).isLt
  have h1 : (i 1 : ℕ) < 8192 := (i 1).isLt
  have h2 : (i 2 : ℕ) < 256 := (i 2).isLt
  have ht : (i 1).val / 256 < cfg0.N := by rw [show cfg0.N = 32 from rfl]; omega
  refine ⟨⟨_, ht⟩, flush0_8 _, ?_⟩
  show i ∈ ((View.whole main_v31_0).slice (win0_8.rect ⟨_, ht⟩)).set
  rw [View.set_slice_whole, Rect.mem_set_unit]
  have e := index8 ⟨_, ht⟩
  have x : ∀ t : Fin grid0.N, win0_8.xsize (grid0.coords t) 0 = 16 ∧ win0_8.xsize (grid0.coords t) 1 = 256 ∧ win0_8.xsize (grid0.coords t) 2 = 256 := by decide +kernel
  intro a
  match a with
  | ⟨0, _⟩ =>
    show win0_8.index ⟨_, ht⟩ 0 * 16 ≤ (i 0 : Nat) ∧ (i 0 : Nat) < win0_8.index ⟨_, ht⟩ 0 * 16 + win0_8.xsize (grid0.coords ⟨_, ht⟩) 0
    rw [e.1, (x _).1]
    show (0) * 16 ≤ (i 0 : Nat) ∧ (i 0 : Nat) < (0) * 16 + 16
    omega
  | ⟨1, _⟩ =>
    show win0_8.index ⟨_, ht⟩ 1 * 256 ≤ (i 1 : Nat) ∧ (i 1 : Nat) < win0_8.index ⟨_, ht⟩ 1 * 256 + win0_8.xsize (grid0.coords ⟨_, ht⟩) 1
    rw [e.2.1, (x _).2.1]
    show (((i 1).val / 256)) * 256 ≤ (i 1 : Nat) ∧ (i 1 : Nat) < (((i 1).val / 256)) * 256 + 256
    omega
  | ⟨2, _⟩ =>
    show win0_8.index ⟨_, ht⟩ 2 * 256 ≤ (i 2 : Nat) ∧ (i 2 : Nat) < win0_8.index ⟨_, ht⟩ 2 * 256 + win0_8.xsize (grid0.coords ⟨_, ht⟩) 2
    rw [e.2.2, (x _).2.2]
    show (0) * 256 ≤ (i 2 : Nat) ∧ (i 2 : Nat) < (0) * 256 + 256
    omega

theorem cover9 (i : S8192x512.Idx) : ∃ t : Fin cfg0.N, (cfg0.win 9).flush t = true ∧ i ∈ ((cfg0.win 9).blk t).view.set := by
  have h0 : (i 0 : ℕ) < 8192 := (i 0).isLt
  have h1 : (i 1 : ℕ) < 512 := (i 1).isLt
  have ht : (i 0).val / 256 < cfg0.N := by rw [show cfg0.N = 32 from rfl]; omega
  refine ⟨⟨_, ht⟩, flush0_9 _, ?_⟩
  show i ∈ ((View.whole main_v31_1).slice (win0_9.rect ⟨_, ht⟩)).set
  rw [View.set_slice_whole, Rect.mem_set_unit]
  have e := index9 ⟨_, ht⟩
  have x : ∀ t : Fin grid0.N, win0_9.xsize (grid0.coords t) 0 = 256 ∧ win0_9.xsize (grid0.coords t) 1 = 512 := by decide +kernel
  intro a
  match a with
  | ⟨0, _⟩ =>
    show win0_9.index ⟨_, ht⟩ 0 * 256 ≤ (i 0 : Nat) ∧ (i 0 : Nat) < win0_9.index ⟨_, ht⟩ 0 * 256 + win0_9.xsize (grid0.coords ⟨_, ht⟩) 0
    rw [e.1, (x _).1]
    show (((i 0).val / 256)) * 256 ≤ (i 0 : Nat) ∧ (i 0 : Nat) < (((i 0).val / 256)) * 256 + 256
    omega
  | ⟨1, _⟩ =>
    show win0_9.index ⟨_, ht⟩ 1 * 512 ≤ (i 1 : Nat) ∧ (i 1 : Nat) < win0_9.index ⟨_, ht⟩ 1 * 512 + win0_9.xsize (grid0.coords ⟨_, ht⟩) 1
    rw [e.2, (x _).2]
    show (0) * 512 ≤ (i 1 : Nat) ∧ (i 1 : Nat) < (0) * 512 + 512
    omega

theorem cover10 (i : S8192x128.Idx) : ∃ t : Fin cfg0.N, (cfg0.win 10).flush t = true ∧ i ∈ ((cfg0.win 10).blk t).view.set := by
  have h0 : (i 0 : ℕ) < 8192 := (i 0).isLt
  have h1 : (i 1 : ℕ) < 128 := (i 1).isLt
  have ht : (i 0).val / 256 < cfg0.N := by rw [show cfg0.N = 32 from rfl]; omega
  refine ⟨⟨_, ht⟩, flush0_10 _, ?_⟩
  show i ∈ ((View.whole main_v31_2).slice (win0_10.rect ⟨_, ht⟩)).set
  rw [View.set_slice_whole, Rect.mem_set_unit]
  have e := index10 ⟨_, ht⟩
  have x : ∀ t : Fin grid0.N, win0_10.xsize (grid0.coords t) 0 = 256 ∧ win0_10.xsize (grid0.coords t) 1 = 128 := by decide +kernel
  intro a
  match a with
  | ⟨0, _⟩ =>
    show win0_10.index ⟨_, ht⟩ 0 * 256 ≤ (i 0 : Nat) ∧ (i 0 : Nat) < win0_10.index ⟨_, ht⟩ 0 * 256 + win0_10.xsize (grid0.coords ⟨_, ht⟩) 0
    rw [e.1, (x _).1]
    show (((i 0).val / 256)) * 256 ≤ (i 0 : Nat) ∧ (i 0 : Nat) < (((i 0).val / 256)) * 256 + 256
    omega
  | ⟨1, _⟩ =>
    show win0_10.index ⟨_, ht⟩ 1 * 128 ≤ (i 1 : Nat) ∧ (i 1 : Nat) < win0_10.index ⟨_, ht⟩ 1 * 128 + win0_10.xsize (grid0.coords ⟨_, ht⟩) 1
    rw [e.2, (x _).2]
    show (0) * 128 ≤ (i 1 : Nat) ∧ (i 1 : Nat) < (0) * 128 + 128
    omega

theorem final8 : (dats m 0 c).arrAt 8 cfg0.N = queryBuf (g0 m c) (g1 m c) (g2 m c) (g3 m c) (g5 m c) (g6 m c) (g7 m c) :=
  (dats m 0 c).arrAt_eq_of_cover 8 _ (fun t _ => flushed8 m c t) cover8

theorem final9 : (dats m 0 c).arrAt 9 cfg0.N = ckvBuf (g0 m c) (g1 m c) (g2 m c) (g4 m c) :=
  (dats m 0 c).arrAt_eq_of_cover 9 _ (fun t _ => flushed9 m c t) cover9

theorem final10 : (dats m 0 c).arrAt 10 cfg0.N = kpeBuf (g0 m c) (g1 m c) (g2 m c) (g6 m c) (g7 m c) :=
  (dats m 0 c).arrAt_eq_of_cover 10 _ (fun t _ => flushed10 m c t) cover10

end Cert.MlaIn

end
-- ==== Proof.MlaIn.lean ====
/- The compressed projections' reference at an index, and the claims about the call and its reference. -/
module

public import proofs.«01_k».proof.Defs
public import proofs.«01_k».proof.Proof.MlaInValue
public import proofs.«01_k».proof.Proof.Gen.Kernel6.Frame
public import proofs.«01_k».proof.Proof.Gen.Reference6Ideal.Read
public import proofs.«01_k».proof.Proof.Gen.Reference6Ideal.Run
public import Idealize.ShloMosaic.Adequacy
public import Idealize.ShloMosaic.Init

@[expose] public section

set_option maxRecDepth 16384

noncomputable section

namespace Cert.MlaIn

open Idealize.ShloMosaic hiding ix1 ix2 ix3 ix4 ix5
open Idealize.ShloMosaic.ValueIdx Idealize.ShloMosaic.TcCoe Idealize.SL.Sem

section
open Cert.Reference6Ideal Cert.Reference6Ideal.Gen Cert.Reference6Ideal.Read Cert.Rows

variable (x0 : FVec Ideal S4x2048x2048 .f32) (x1 : FVec Ideal S2048 .f32) (x2 : FVec Ideal S2048x1088 .f32) (x3 x4 : FVec Ideal S512 .f32)
  (x5 : FVec Ideal S512x3072 .f32) (x6 x7 : FVec Ideal S2048x32 .f32)

/-! ## The norms and the products -/

theorem ref_h (R : Fin 8192) (k : Fin 2048) : val_main_v12 (F := Ideal) x0 x1 (ix3 (bOf R) (lOf R) k) = hRow x0 x1 R k := by
  have e1 : idx_main_v8 (ix3 (bOf R) (lOf R) k) = ix3 (bOf R) (lOf R) 0 := by
    funext a
    match a with
    | ⟨0, _⟩ => rfl
    | ⟨1, _⟩ => rfl
    | ⟨2, _⟩ => rfl
  have e2 : idx_main_v10 (idx_main_v11 (ix3 (bOf R) (lOf R) k)) = ix1 k := by
    funext a
    match a with
    | ⟨0, _⟩ => rfl
  have er : val_main_v7 (F := Ideal) x0 (ix3 (bOf R) (lOf R) 0) = rmsOf 0x45000000#32 (fun k => x0 (ix3 (bOf R) (lOf R) k)) := by
    rw [val_main_v7_apply, val_main_v6_apply, val_main_v4_apply, val_main_v5_apply, val_main_v3_apply, val_main_v2_apply, val_main_v1_apply]
    rw [Ideal.hostUnary_rsqrt_def, Ideal.hostDivf_def]
    have e : (val_main_cst (F := Ideal)) (Shape.Idx.first h_S_) = (0 : EReal) := Ideal.ofBits_zero_f32
    rw [e, zero_add]
    unfold rmsOf
    refine congrArg (fun s : EReal => Ideal.rsqrt (Ideal.div s _ + _)) (Finset.sum_congr rfl fun k _ => ?_)
    have ek : idx_main_v1 (idx_main_v2 (ix3 (bOf R) (lOf R) 0)) k = ix3 (bOf R) (lOf R) k := by
      funext a
      match a with
      | ⟨0, _⟩ => rfl
      | ⟨1, _⟩ => rfl
      | ⟨2, _⟩ => rfl
    rw [ek, val_main_v0_apply]
    rfl
  rw [val_main_v12_apply, val_main_v9_apply, val_main_v8_apply, val_main_v11_apply, val_main_v10_apply, e1, e2, er]
  rfl

theorem ref_down (R : Fin 8192) (N : Fin 1088) : val_main_v13 (F := Ideal) x0 x1 x2 (ix3 (bOf R) (lOf R) N) = down x0 x1 x2 R N := by
  rw [val_main_v13_apply]
  unfold down
  refine Finset.sum_congr rfl fun k _ => ?_
  have el : lidx_main_v13 (ix3 (bOf R) (lOf R) N) k = ix3 (bOf R) (lOf R) k := by
    funext a
    match a with
    | ⟨0, _⟩ => rfl
    | ⟨1, _⟩ => rfl
    | ⟨2, _⟩ => rfl
  have er : ridx_main_v13 (ix3 (bOf R) (lOf R) N) k = ix2 k N := by
    funext a
    match a with
    | ⟨0, _⟩ => rfl
    | ⟨1, _⟩ => rfl
  rw [el, er, ref_h]

theorem ref_dq (R : Fin 8192) (k : Fin 512) : val_main_v14 (F := Ideal) x0 x1 x2 (ix3 (bOf R) (lOf R) k) = dq x0 x1 x2 R k := by
  rw [val_main_v14_apply]
  have e : idx_main_v14 (ix3 (bOf R) (lOf R) k) = ix3 (bOf R) (lOf R) ⟨k.val, by omega⟩ := by
    funext a
    match a with
    | ⟨0, _⟩ => rfl
    | ⟨1, _⟩ => rfl
    | ⟨2, _⟩ => rfl
  rw [e]
  exact ref_down x0 x1 x2 R _

theorem ref_dkv (R : Fin 8192) (k : Fin 512) : val_main_v28 (F := Ideal) x0 x1 x2 (ix3 (bOf R) (lOf R) k) = dkv x0 x1 x2 R k := by
  rw [val_main_v28_apply]
  have e : idx_main_v28 (ix3 (bOf R) (lOf R) k) = ix3 (bOf R) (lOf R) ⟨512 + k.val, by omega⟩ := by
    funext a
    match a with
    | ⟨0, _⟩ => rfl
    | ⟨1, _⟩ => rfl
    | ⟨2, _⟩ => rfl
  rw [e]
  exact ref_down x0 x1 x2 R _

theorem ref_dpe (R : Fin 8192) (k : Fin 64) : val_main_v42 (F := Ideal) x0 x1 x2 (ix3 (bOf R) (lOf R) k) = dpe x0 x1 x2 R k := by
  rw [val_main_v42_apply]
  have e : idx_main_v42 (ix3 (bOf R) (lOf R) k) = ix3 (bOf R) (lOf R) ⟨1024 + k.val, by omega⟩ := by
    funext a
    match a with
    | ⟨0, _⟩ => rfl
    | ⟨1, _⟩ => rfl
    | ⟨2, _⟩ => rfl
  rw [e]
  exact ref_down x0 x1 x2 R _

theorem ref_cq (R : Fin 8192) (k : Fin 512) : val_main_v27 (F := Ideal) x0 x1 x2 x3 (ix3 (bOf R) (lOf R) k) = cq x0 x1 x2 x3 R k := by
  have e1 : idx_main_v23 (ix3 (bOf R) (lOf R) k) = ix3 (bOf R) (lOf R) 0 := by
    funext a
    match a with
    | ⟨0, _⟩ => rfl
    | ⟨1, _⟩ => rfl
    | ⟨2, _⟩ => rfl
  have e2 : idx_main_v25 (idx_main_v26 (ix3 (bOf R) (lOf R) k)) = ix1 k := by
    funext a
    match a with
    | ⟨0, _⟩ => rfl
  have er : val_main_v22 (F := Ideal) x0 x1 x2 (ix3 (bOf R) (lOf R) 0) = rmsOf 0x44000000#32 (dq x0 x1 x2 R) := by
    rw [val_main_v22_apply, val_main_v21_apply, val_main_v19_apply, val_main_v20_apply, val_main_v18_apply, val_main_v17_apply, val_main_v16_apply]
    rw [Ideal.hostUnary_rsqrt_def, Ideal.hostDivf_def]
    have e : (val_main_cst_2 (F := Ideal)) (Shape.Idx.first h_S_) = (0 : EReal) := Ideal.ofBits_zero_f32
    rw [e, zero_add]
    unfold rmsOf
    refine congrArg (fun s : EReal => Ideal.rsqrt (Ideal.div s _ + _)) (Finset.sum_congr rfl fun k _ => ?_)
    have ek : idx_main_v16 (idx_main_v17 (ix3 (bOf R) (lOf R) 0)) k = ix3 (bOf R) (lOf R) k := by
      funext a
      match a with
      | ⟨0, _⟩ => rfl
      | ⟨1, _⟩ => rfl
      | ⟨2, _⟩ => rfl
    rw [ek, val_main_v15_apply, ref_dq]
    rfl
  rw [val_main_v27_apply, val_main_v24_apply, val_main_v23_apply, val_main_v26_apply, val_main_v25_apply, e1, e2, er, ref_dq]
  rfl

theorem ref_ckv (R : Fin 8192) (k : Fin 512) : val_main_v41 (F := Ideal) x0 x1 x2 x4 (ix3 (bOf R) (lOf R) k) = ckv x0 x1 x2 x4 R k := by
  have e1 : idx_main_v37 (ix3 (bOf R) (lOf R) k) = ix3 (bOf R) (lOf R) 0 := by
    funext a
    match a with
    | ⟨0, _⟩ => rfl
    | ⟨1, _⟩ => rfl
    | ⟨2, _⟩ => rfl
  have e2 : idx_main_v39 (idx_main_v40 (ix3 (bOf R) (lOf R) k)) = ix1 k := by
    funext a
    match a with
    | ⟨0, _⟩ => rfl
  have er : val_main_v36 (F := Ideal) x0 x1 x2 (ix3 (bOf R) (lOf R) 0) = rmsOf 0x44000000#32 (dkv x0 x1 x2 R) := by
    rw [val_main_v36_apply, val_main_v35_apply, val_main_v33_apply, val_main_v34_apply, val_main_v32_apply, val_main_v31_apply, val_main_v30_apply]
    rw [Ideal.hostUnary_rsqrt_def, Ideal.hostDivf_def]
    have e : (val_main_cst_5 (F := Ideal)) (Shape.Idx.first h_S_) = (0 : EReal) := Ideal.ofBits_zero_f32
    rw [e, zero_add]
    unfold rmsOf
    refine congrArg (fun s : EReal => Ideal.rsqrt (Ideal.div s _ + _)) (Finset.sum_congr rfl fun k _ => ?_)
    have ek : idx_main_v30 (idx_main_v31 (ix3 (bOf R) (lOf R) 0)) k = ix3 (bOf R) (lOf R) k := by
      funext a
      match a with
      | ⟨0, _⟩ => rfl
      | ⟨1, _⟩ => rfl
      | ⟨2, _⟩ => rfl
    rw [ek, val_main_v29_apply, ref_dkv]
    rfl
  rw [val_main_v41_apply, val_main_v38_apply, val_main_v37_apply, val_main_v40_apply, val_main_v39_apply, e1, e2, er, ref_dkv]
  rfl

theorem ref_up (R : Fin 8192) (H : Fin 16) (d : Fin 192) (N : Fin 3072) (hN : N.val = H.val * 192 + d.val) :
    val_main_v61 (F := Ideal) x0 x1 x2 x3 x5 (ix4 (bOf R) (lOf R) H d) = up x0 x1 x2 x3 x5 R N := by
  rw [val_main_v61_apply, val_main_v60_apply]
  unfold up
  refine Finset.sum_congr rfl fun k _ => ?_
  have el : lidx_main_v60 (idx_main_v61 (ix4 (bOf R) (lOf R) H d)) k = ix3 (bOf R) (lOf R) k := by
    funext a
    apply Fin.ext
    match a with
    | ⟨0, _⟩ => show (((R.val / 2048 * 2048 + R.val % 2048) * 16 + H.val) * 192 + d.val) / 6291456 = R.val / 2048; omega
    | ⟨1, _⟩ => show (((R.val / 2048 * 2048 + R.val % 2048) * 16 + H.val) * 192 + d.val) / 3072 % 2048 = R.val % 2048; omega
    | ⟨2, _⟩ => rfl
  have er : ridx_main_v60 (idx_main_v61 (ix4 (bOf R) (lOf R) H d)) k = ix2 k N := by
    funext a
    apply Fin.ext
    match a with
    | ⟨0, _⟩ => rfl
    | ⟨1, _⟩ => show (((R.val / 2048 * 2048 + R.val % 2048) * 16 + H.val) * 192 + d.val) % 3072 = N.val; omega
  rw [el, er, ref_cq]

theorem ref_own (R : Fin 8192) (H : Fin 16) (d : Fin 128) (N : Fin 3072) (hN : N.val = H.val * 192 + d.val) :
    val_main_v62 (F := Ideal) x0 x1 x2 x3 x5 (ix4 (bOf R) (lOf R) H d) = up x0 x1 x2 x3 x5 R N := by
  rw [val_main_v62_apply]
  have e : idx_main_v62 (ix4 (bOf R) (lOf R) H d) = ix4 (bOf R) (lOf R) H ⟨d.val, by omega⟩ := by
    funext a
    match a with
    | ⟨0, _⟩ => rfl
    | ⟨1, _⟩ => rfl
    | ⟨2, _⟩ => rfl
    | ⟨3, _⟩ => rfl
  rw [e]
  exact ref_up x0 x1 x2 x3 x5 R H _ N hN

theorem ref_upPe (R : Fin 8192) (H : Fin 16) (k : Fin 64) :
    val_main_v63 (F := Ideal) x0 x1 x2 x3 x5 (ix4 (bOf R) (lOf R) H k) = upPe x0 x1 x2 x3 x5 R H k := by
  rw [val_main_v63_apply]
  have e : idx_main_v63 (ix4 (bOf R) (lOf R) H k) = ix4 (bOf R) (lOf R) H ⟨128 + k.val, by omega⟩ := by
    funext a
    match a with
    | ⟨0, _⟩ => rfl
    | ⟨1, _⟩ => rfl
    | ⟨2, _⟩ => rfl
    | ⟨3, _⟩ => rfl
  rw [e]
  refine ref_up x0 x1 x2 x3 x5 R H _ _ ?_
  show H.val * 192 + 128 + k.val = H.val * 192 + (128 + k.val)
  omega

/-! ## The rotations -/

theorem k_lo (R : Fin 8192) (j : Fin 32) : val_main_v43 (F := Ideal) x0 x1 x2 (ix3 (bOf R) (lOf R) j) = dpe x0 x1 x2 R ⟨j.val, by omega⟩ := by
  rw [val_main_v43_apply]
  have e : idx_main_v43 (ix3 (bOf R) (lOf R) j) = ix3 (bOf R) (lOf R) ⟨j.val, by omega⟩ := by
    funext a
    match a with
    | ⟨0, _⟩ => rfl
    | ⟨1, _⟩ => rfl
    | ⟨2, _⟩ => rfl
  rw [e]
  exact ref_dpe x0 x1 x2 R _

theorem k_hi (R : Fin 8192) (j : Fin 32) : val_main_v44 (F := Ideal) x0 x1 x2 (ix3 (bOf R) (lOf R) j) = dpe x0 x1 x2 R ⟨32 + j.val, by omega⟩ := by
  rw [val_main_v44_apply]
  have e : idx_main_v44 (ix3 (bOf R) (lOf R) j) = ix3 (bOf R) (lOf R) ⟨32 + j.val, by omega⟩ := by
    funext a
    match a with
    | ⟨0, _⟩ => rfl
    | ⟨1, _⟩ => rfl
    | ⟨2, _⟩ => rfl
  rw [e]
  exact ref_dpe x0 x1 x2 R _

theorem k_cos (R : Fin 8192) (j : Fin 32) : val_main_v46 (F := Ideal) x6 (ix3 (bOf R) (lOf R) j) = rowOf x6 R j := by
  rw [val_main_v46_apply, val_main_v45_apply]
  have e : idx_main_v45 (idx_main_v46 (ix3 (bOf R) (lOf R) j)) = ix2 (lOf R) j := by
    funext a
    match a with
    | ⟨0, _⟩ => rfl
    | ⟨1, _⟩ => rfl
  rw [e]
  rfl

theorem k_sin (R : Fin 8192) (j : Fin 32) : val_main_v49 (F := Ideal) x7 (ix3 (bOf R) (lOf R) j) = rowOf x7 R j := by
  rw [val_main_v49_apply, val_main_v48_apply]
  have e : idx_main_v48 (idx_main_v49 (ix3 (bOf R) (lOf R) j)) = ix2 (lOf R) j := by
    funext a
    match a with
    | ⟨0, _⟩ => rfl
    | ⟨1, _⟩ => rfl
  rw [e]
  rfl

theorem k_cos2 (R : Fin 8192) (j : Fin 32) : val_main_v53 (F := Ideal) x6 (ix3 (bOf R) (lOf R) j) = rowOf x6 R j := by
  rw [val_main_v53_apply, val_main_v52_apply]
  have e : idx_main_v52 (idx_main_v53 (ix3 (bOf R) (lOf R) j)) = ix2 (lOf R) j := by
    funext a
    match a with
    | ⟨0, _⟩ => rfl
    | ⟨1, _⟩ => rfl
  rw [e]
  rfl

theorem k_sin2 (R : Fin 8192) (j : Fin 32) : val_main_v56 (F := Ideal) x7 (ix3 (bOf R) (lOf R) j) = rowOf x7 R j := by
  rw [val_main_v56_apply, val_main_v55_apply]
  have e : idx_main_v55 (idx_main_v56 (ix3 (bOf R) (lOf R) j)) = ix2 (lOf R) j := by
    funext a
    match a with
    | ⟨0, _⟩ => rfl
    | ⟨1, _⟩ => rfl
  rw [e]
  rfl

theorem q_lo (R : Fin 8192) (H : Fin 16) (j : Fin 32) : val_main_v66 (F := Ideal) x0 x1 x2 x3 x5 (ix4 (bOf R) (lOf R) H j) = upPe x0 x1 x2 x3 x5 R H ⟨j.val, by omega⟩ := by
  rw [val_main_v66_apply]
  have e : idx_main_v66 (ix4 (bOf R) (lOf R) H j) = ix4 (bOf R) (lOf R) H ⟨j.val, by omega⟩ := by
    funext a
    match a with
    | ⟨0, _⟩ => rfl
    | ⟨1, _⟩ => rfl
    | ⟨2, _⟩ => rfl
    | ⟨3, _⟩ => rfl
  rw [e]
  exact ref_upPe x0 x1 x2 x3 x5 R H _

theorem q_hi (R : Fin 8192) (H : Fin 16) (j : Fin 32) : val_main_v67 (F := Ideal) x0 x1 x2 x3 x5 (ix4 (bOf R) (lOf R) H j) = upPe x0 x1 x2 x3 x5 R H ⟨32 + j.val, by omega⟩ := by
  rw [val_main_v67_apply]
  have e : idx_main_v67 (ix4 (bOf R) (lOf R) H j) = ix4 (bOf R) (lOf R) H ⟨32 + j.val, by omega⟩ := by
    funext a
    match a with
    | ⟨0, _⟩ => rfl
    | ⟨1, _⟩ => rfl
    | ⟨2, _⟩ => rfl
    | ⟨3, _⟩ => rfl
  rw [e]
  exact ref_upPe x0 x1 x2 x3 x5 R H _

theorem q_cos (R : Fin 8192) (H : Fin 16) (j : Fin 32) : val_main_v69 (F := Ideal) x6 (ix4 (bOf R) (lOf R) H j) = rowOf x6 R j := by
  rw [val_main_v69_apply, val_main_v68_apply, val_main_v64_apply]
  have e : idx_main_v64 (idx_main_v68 (idx_main_v69 (ix4 (bOf R) (lOf R) H j))) = ix2 (lOf R) j := by
    funext a
    apply Fin.ext
    match a with
    | ⟨0, _⟩ => show ((R.val % 2048 * 1 + 0) * 32 + j.val) / 32 = R.val % 2048; omega
    | ⟨1, _⟩ => show ((R.val % 2048 * 1 + 0) * 32 + j.val) % 32 = j.val; omega
  rw [e]
  rfl

theorem q_sin (R : Fin 8192) (H : Fin 16) (j : Fin 32) : val_main_v72 (F := Ideal) x7 (ix4 (bOf R) (lOf R) H j) = rowOf x7 R j := by
  rw [val_main_v72_apply, val_main_v71_apply, val_main_v65_apply]
  have e : idx_main_v65 (idx_main_v71 (idx_main_v72 (ix4 (bOf R) (lOf R) H j))) = ix2 (lOf R) j := by
    funext a
    apply Fin.ext
    match a with
    | ⟨0, _⟩ => show ((R.val % 2048 * 1 + 0) * 32 + j.val) / 32 = R.val % 2048; omega
    | ⟨1, _⟩ => show ((R.val % 2048 * 1 + 0) * 32 + j.val) % 32 = j.val; omega
  rw [e]
  rfl

theorem q_cos2 (R : Fin 8192) (H : Fin 16) (j : Fin 32) : val_main_v76 (F := Ideal) x6 (ix4 (bOf R) (lOf R) H j) = rowOf x6 R j := by
  rw [val_main_v76_apply, val_main_v75_apply, val_main_v64_apply]
  have e : idx_main_v64 (idx_main_v75 (idx_main_v76 (ix4 (bOf R) (lOf R) H j))) = ix2 (lOf R) j := by
    funext a
    apply Fin.ext
    match a with
    | ⟨0, _⟩ => show ((R.val % 2048 * 1 + 0) * 32 + j.val) / 32 = R.val % 2048; omega
    | ⟨1, _⟩ => show ((R.val % 2048 * 1 + 0) * 32 + j.val) % 32 = j.val; omega
  rw [e]
  rfl

theorem q_sin2 (R : Fin 8192) (H : Fin 16) (j : Fin 32) : val_main_v79 (F := Ideal) x7 (ix4 (bOf R) (lOf R) H j) = rowOf x7 R j := by
  rw [val_main_v79_apply, val_main_v78_apply, val_main_v65_apply]
  have e : idx_main_v65 (idx_main_v78 (idx_main_v79 (ix4 (bOf R) (lOf R) H j))) = ix2 (lOf R) j := by
    funext a
    apply Fin.ext
    match a with
    | ⟨0, _⟩ => show ((R.val % 2048 * 1 + 0) * 32 + j.val) / 32 = R.val % 2048; omega
    | ⟨1, _⟩ => show ((R.val % 2048 * 1 + 0) * 32 + j.val) % 32 = j.val; omega
  rw [e]
  rfl

abbrev ref_rotKList : List ((s : Shape) × (s.Idx → EReal)) := [⟨S4x2048x32, val_main_v51 (F := Ideal) x0 x1 x2 x6 x7⟩, ⟨S4x2048x32, val_main_v58 (F := Ideal) x0 x1 x2 x6 x7⟩]

theorem ref_rotK (R : Fin 8192) (e : Fin 64) : val_main_v59 (F := Ideal) x0 x1 x2 x6 x7 (ix3 (bOf R) (lOf R) e)
    = rot (dpe x0 x1 x2 R) (rowOf x6 R) (rowOf x7 R) e := by
  unfold rot halves
  by_cases h : e.val < 32
  · rw [dif_pos h]
    refine (concatenate_apply_piece (t := S4x2048x64) 2 (ref_rotKList x0 x1 x2 x6 x7) _ (ix3 (bOf R) (lOf R) e) 0 (by show 0 < 2; decide) S4x2048x32 _ rfl
      rfl 0 rfl (ix3 (bOf R) (lOf R) ⟨e.val, h⟩) (fun b hb => match b with
        | ⟨0, _⟩ => rfl
        | ⟨1, _⟩ => rfl
        | ⟨2, _⟩ => absurd rfl hb) (show 0 + e.val = e.val by omega)).trans ?_
    rw [val_main_v51_apply, val_main_v47_apply, val_main_v50_apply, k_lo, k_cos, k_hi, k_sin]
    rfl
  · rw [dif_neg h]
    refine (concatenate_apply_piece (t := S4x2048x64) 2 (ref_rotKList x0 x1 x2 x6 x7) _ (ix3 (bOf R) (lOf R) e) 1 (by show 1 < 2; decide) S4x2048x32 _ rfl
      rfl 32 rfl (ix3 (bOf R) (lOf R) ⟨e.val - 32, by omega⟩) (fun b hb => match b with
        | ⟨0, _⟩ => rfl
        | ⟨1, _⟩ => rfl
        | ⟨2, _⟩ => absurd rfl hb) (show 32 + (e.val - 32) = e.val by omega)).trans ?_
    rw [val_main_v58_apply, val_main_v54_apply, val_main_v57_apply, k_hi, k_cos2, k_lo, k_sin2]
    rfl

abbrev ref_rotQList : List ((s : Shape) × (s.Idx → EReal)) := [⟨S4x2048x16x32, val_main_v74 (F := Ideal) x0 x1 x2 x3 x5 x6 x7⟩, ⟨S4x2048x16x32, val_main_v81 (F := Ideal) x0 x1 x2 x3 x5 x6 x7⟩]

theorem ref_rotQ (R : Fin 8192) (H : Fin 16) (e : Fin 64) : val_main_v82 (F := Ideal) x0 x1 x2 x3 x5 x6 x7 (ix4 (bOf R) (lOf R) H e)
    = rot (upPe x0 x1 x2 x3 x5 R H) (rowOf x6 R) (rowOf x7 R) e := by
  unfold rot halves
  by_cases h : e.val < 32
  · rw [dif_pos h]
    refine (concatenate_apply_piece (t := S4x2048x16x64) 3 (ref_rotQList x0 x1 x2 x3 x5 x6 x7) _ (ix4 (bOf R) (lOf R) H e) 0 (by show 0 < 2; decide) S4x2048x16x32 _ rfl
      rfl 0 rfl (ix4 (bOf R) (lOf R) H ⟨e.val, h⟩) (fun b hb => match b with
        | ⟨0, _⟩ => rfl
        | ⟨1, _⟩ => rfl
        | ⟨2, _⟩ => rfl
        | ⟨3, _⟩ => absurd rfl hb) (show 0 + e.val = e.val by omega)).trans ?_
    rw [val_main_v74_apply, val_main_v70_apply, val_main_v73_apply, q_lo, q_cos, q_hi, q_sin]
    rfl
  · rw [dif_neg h]
    refine (concatenate_apply_piece (t := S4x2048x16x64) 3 (ref_rotQList x0 x1 x2 x3 x5 x6 x7) _ (ix4 (bOf R) (lOf R) H e) 1 (by show 1 < 2; decide) S4x2048x16x32 _ rfl
      rfl 32 rfl (ix4 (bOf R) (lOf R) H ⟨e.val - 32, by omega⟩) (fun b hb => match b with
        | ⟨0, _⟩ => rfl
        | ⟨1, _⟩ => rfl
        | ⟨2, _⟩ => rfl
        | ⟨3, _⟩ => absurd rfl hb) (show 32 + (e.val - 32) = e.val by omega)).trans ?_
    rw [val_main_v81_apply, val_main_v77_apply, val_main_v80_apply, q_hi, q_cos2, q_lo, q_sin2]
    rfl

theorem ref_kpe (R : Fin 8192) (d : Fin 128) : val_main_v89 (F := Ideal) x0 x1 x2 x6 x7 (ix3 (bOf R) (lOf R) d)
    = lanes (rot (dpe x0 x1 x2 R) (rowOf x6 R) (rowOf x7 R)) d := by
  unfold val_main_v89 lanes
  by_cases h : d.val < 64
  · rw [dif_pos h]
    refine (pad_apply_of_inside _ _ _ _ _ _ _ (ix3 (bOf R) (lOf R) d) (ix3 (bOf R) (lOf R) ⟨d.val, h⟩) fun a => match a with
      | ⟨0, _⟩ => ?_
      | ⟨1, _⟩ => ?_
      | ⟨2, _⟩ => ?_).trans (ref_rotK x0 x1 x2 x6 x7 R _)
    · show (bOf R).val = 0 + (bOf R).val * 1; omega
    · show (lOf R).val = 0 + (lOf R).val * 1; omega
    · show d.val = 0 + d.val * 1; omega
  · rw [dif_neg h]
    refine (pad_apply_of_not_inside _ _ _ _ _ _ _ (ix3 (bOf R) (lOf R) d) (2 : Fin 3) ?_).trans rfl
    intro hin
    have h2 : (d.val - 0) / 1 < 64 := hin.2.2
    omega

theorem ref_qpe (R : Fin 8192) (H : Fin 16) (d : Fin 128) : val_main_v83 (F := Ideal) x0 x1 x2 x3 x5 x6 x7 (ix4 (bOf R) (lOf R) H d)
    = lanes (rot (upPe x0 x1 x2 x3 x5 R H) (rowOf x6 R) (rowOf x7 R)) d := by
  unfold val_main_v83 lanes
  by_cases h : d.val < 64
  · rw [dif_pos h]
    refine (pad_apply_of_inside _ _ _ _ _ _ _ (ix4 (bOf R) (lOf R) H d) (ix4 (bOf R) (lOf R) H ⟨d.val, h⟩) fun a => match a with
      | ⟨0, _⟩ => ?_
      | ⟨1, _⟩ => ?_
      | ⟨2, _⟩ => ?_
      | ⟨3, _⟩ => ?_).trans (ref_rotQ x0 x1 x2 x3 x5 x6 x7 R H _)
    · show (bOf R).val = 0 + (bOf R).val * 1; omega
    · show (lOf R).val = 0 + (lOf R).val * 1; omega
    · show H.val = 0 + H.val * 1; omega
    · show d.val = 0 + d.val * 1; omega
  · rw [dif_neg h]
    refine (pad_apply_of_not_inside _ _ _ _ _ _ _ (ix4 (bOf R) (lOf R) H d) (3 : Fin 4) ?_).trans rfl
    intro hin
    have h2 : (d.val - 0) / 1 < 64 := hin.2.2
    omega

/-! ## The results -/

abbrev joined : List ((s : Shape) × (s.Idx → EReal)) :=
  [⟨S4x2048x16x128, val_main_v62 (F := Ideal) x0 x1 x2 x3 x5⟩, ⟨S4x2048x16x128, val_main_v83 (F := Ideal) x0 x1 x2 x3 x5 x6 x7⟩]

theorem ref_join (R : Fin 8192) (H : Fin 16) (d : Fin 256) :
    val_main_v84 (F := Ideal) x0 x1 x2 x3 x5 x6 x7 (ix4 (bOf R) (lOf R) H d) = query x0 x1 x2 x3 x5 x6 x7 H R d := by
  unfold query
  by_cases h : d.val < 128
  · rw [if_pos h]
    refine (concatenate_apply_piece (t := S4x2048x16x256) 3 (joined x0 x1 x2 x3 x5 x6 x7) _ (ix4 (bOf R) (lOf R) H d) 0 (by show 0 < 2; decide) S4x2048x16x128 _ rfl
      rfl 0 rfl (ix4 (bOf R) (lOf R) H ⟨d.val, h⟩) (fun b hb => match b with
        | ⟨0, _⟩ => rfl
        | ⟨1, _⟩ => rfl
        | ⟨2, _⟩ => rfl
        | ⟨3, _⟩ => absurd rfl hb) (show 0 + d.val = d.val by omega)).trans ?_
    exact ref_own x0 x1 x2 x3 x5 R H _ _ (by show H.val * 192 + d.val % 128 = H.val * 192 + d.val; omega)
  · rw [if_neg h]
    refine (concatenate_apply_piece (t := S4x2048x16x256) 3 (joined x0 x1 x2 x3 x5 x6 x7) _ (ix4 (bOf R) (lOf R) H d) 1 (by show 1 < 2; decide) S4x2048x16x128 _ rfl
      rfl 128 rfl (ix4 (bOf R) (lOf R) H ⟨d.val - 128, by omega⟩) (fun b hb => match b with
        | ⟨0, _⟩ => rfl
        | ⟨1, _⟩ => rfl
        | ⟨2, _⟩ => rfl
        | ⟨3, _⟩ => absurd rfl hb) (show 128 + (d.val - 128) = d.val by omega)).trans ?_
    exact ref_qpe x0 x1 x2 x3 x5 x6 x7 R H _

theorem ref_query : queryBuf x0 x1 x2 x3 x5 x6 x7 = val_main_v87 (F := Ideal) x0 x1 x2 x3 x5 x6 x7 := by
  funext i
  obtain ⟨H, R, d, rfl⟩ : ∃ (H : Fin 16) (R : Fin 8192) (d : Fin 256), i = ix3 H R d :=
    ⟨i 0, i 1, i 2, ValueIdx.eq_ix3 (n0 := 16) (n1 := 8192) (n2 := 256) i⟩
  rw [val_main_v87_apply, val_main_v86_apply, val_main_v85_apply]
  have e : idx_main_v85 (idx_main_v86 (ix3 H R d)) = ix4 (bOf R) (lOf R) H d := by
    funext a
    apply Fin.ext
    match a with
    | ⟨0, _⟩ => show ((H.val * 8192 + R.val) * 256 + d.val) / 524288 % 4 = R.val / 2048; omega
    | ⟨1, _⟩ => show ((H.val * 8192 + R.val) * 256 + d.val) / 256 % 2048 = R.val % 2048; omega
    | ⟨2, _⟩ => show ((H.val * 8192 + R.val) * 256 + d.val) / 2097152 = H.val; omega
    | ⟨3, _⟩ => show ((H.val * 8192 + R.val) * 256 + d.val) % 256 = d.val; omega
  rw [e]
  exact (ref_join x0 x1 x2 x3 x5 x6 x7 R H d).symm

theorem ref_ckvBuf : ckvBuf x0 x1 x2 x4 = val_main_v88 (F := Ideal) x0 x1 x2 x4 := by
  funext i
  obtain ⟨R, k, rfl⟩ : ∃ (R : Fin 8192) (k : Fin 512), i = ix2 R k := ⟨i 0, i 1, ValueIdx.eq_ix2 (n0 := 8192) (n1 := 512) i⟩
  exact ((fold _ _ R k).trans (ref_ckv x0 x1 x2 x4 R k)).symm

theorem ref_kpeBuf : kpeBuf x0 x1 x2 x6 x7 = val_main_v90 (F := Ideal) x0 x1 x2 x6 x7 := by
  funext i
  obtain ⟨R, e, rfl⟩ : ∃ (R : Fin 8192) (e : Fin 128), i = ix2 R e := ⟨i 0, i 1, ValueIdx.eq_ix2 (n0 := 8192) (n1 := 128) i⟩
  exact ((fold _ _ R e).trans (ref_kpe x0 x1 x2 x6 x7 R e)).symm

end

/-! ## The claims -/

theorem frame_p : Cert.quiescent_Kernel6 := fun m ρ _ => Cert.Kernel6.Gen.frame m ρ

theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono
    (fun r h => ⟨fun c => (h c).2.2.2, sem_eq_zero_of_no_sems (by decide) r.2⟩)
    (Cert.Reference6Ideal.Value.run (F := Ideal) m ρ)

/-- No constant is named. -/
theorem preserves : Cert.preserves_Kernel6_Kernel6Ideal := trivial

theorem algebraic : Cert.algebraic_Kernel6Ideal_Reference6Ideal := by
  intro m ρ m' ρ' _ hagree
  refine ⟨_, _, _, Cert.Kernel6Ideal.Value.run_blocks (F := Ideal) m ρ, ?_⟩
  refine (θ_run Cert.Reference6Ideal.defs _ _).mono (fun _ h c => ?_) (Cert.Reference6Ideal.Value.run (F := Ideal) m' ρ')
  obtain ⟨e0, e1, e2, e3, e4, e5, e6, e7⟩ := hagree c
  refine ⟨(h c).1.trans ?_, (h c).2.1.trans ?_, (h c).2.2.1.trans ?_, (h c).2.2.2⟩
  · rw [Cert.Reference6Ideal.Read.val_main_v87_eq, e0, e1, e2, e3, e5, e6, e7]
    exact (ref_query _ _ _ _ _ _ _).symm.trans (final8 m c).symm
  · refine (Cert.Reference6Ideal.Read.val_main_v88_eq _ _ _ _).trans ?_
    rw [e0, e1, e2, e4]
    exact (ref_ckvBuf _ _ _ _).symm.trans (final9 m c).symm
  · rw [Cert.Reference6Ideal.Read.val_main_v90_eq, e0, e1, e2, e6, e7]
    exact (ref_kpeBuf _ _ _ _ _).symm.trans (final10 m c).symm

end Cert.MlaIn

end
-- ==== Proof.RopeBodyIdeal.lean ====
/- The rotation tables' call, with its constant named: what the body leaves in the two tables and the run of the whole program. -/
module

public import proofs.«01_k».proof.Proof.Gen.Kernel7Ideal.Frame
public import proofs.«01_k».proof.Proof.Gen.Kernel7Ideal.Skeleton

@[expose] public section

set_option maxRecDepth 16384

noncomputable section

namespace Cert.RopeTables.Exact

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

/-- Propositions about the machine's state. -/
abbrev State (F : FTy → Type) := sProp (MT nD τ sig Unit (Elt F) ℕ (UR sig nD τ) ℕ)

/-- One table's buffer holding the table `X`, and holding anything. -/
abbrev holds (c : Dev nD) (b : Memref sig .tc .vmem S2048x128 .f32) (X : Vec F S2048x128 .f32) : State F :=
  owns (c : Thread nD τ) b fullShare X
abbrev some_ (c : Dev nD) (b : Memref sig .tc .vmem S2048x128 .f32) : State F :=
  iprop(∃ d : Vec F S2048x128 .f32, holds c b d)

/-- The rectangle that is a whole table. -/
abbrev all : Rect S2048x128 := Rect.unit (s := S2048x128) ![0, 0] S2048x128.size inb_S2048x128_S2048x128_0_0

/-- A table stored through that rectangle. -/
def stored (X : Vec F S2048x128 .f32) : Vec F S2048x128 .f32 := View.canon [⟨all, X⟩]

/-- One store through it reaches every index. -/
theorem covers (X : Vec F S2048x128 .f32) (y : S2048x128.Idx) :
    ∃ p ∈ ([⟨all, X⟩] : List (View.Piece (Elt F) S2048x128 .f32)), y ∈ p.1.set :=
  View.cover_of_tiled [⟨all, X⟩] S2048x128.size (by rfl) y

/-- The body, on any two whole buffers, stores the two tables. -/
theorem body_triple (c : Dev nD) (a b : Memref sig .tc .vmem S2048x128 .f32) (ha : a.IsWhole) (hb : b.IsWhole) (K : PUnit → State F) :
    iprop(some_ c a ∗ some_ c b ∗ (iprop(holds c a (stored (k0_pay3 (F := F))) ∗ holds c b (stored (k0_pay4 (F := F)))) -∗ K ⟨⟩))
      ⊢ wp frame (wpE (defs₀ (F := F)) Variants.none c none) Set.univ (cc0_rope_tables a ha b hb) K := by
  simp only [cc0_rope_tables_eq_skeleton]
  unfold cc0_rope_tables_skel some_ holds owns
  iintro ⟨⟨%x, %f, -, A⟩, ⟨%y, %g, -, B⟩, k⟩
  sl_exec
  sl_step
  iapply k
  isplitl [A]
  · iexists _
    isplitr
    rotate_left
    · iexact A
    · ipureintro
      exact View.read_writes_eq_canon _ _ _ (covers _)
  · iexists _
    isplitr
    rotate_left
    · iexact B
    · ipureintro
      exact View.read_writes_eq_canon _ _ _ (covers _)

variable (m : (ℓ : Loc nD τ sig) → Buf (Elt F) ℓ) (ρ : Dev nD → PrngReg)

/-- What the run keeps track of: the two result arrays, and the table each of their buffers holds after the body. -/
def data (_ : Fin 1) (c : Dev nD) : Dat τ (Elt F) Unit ℕ (UR sig nD τ) ℕ cfg0 c where
  A w := V m c (Pipeline.arrRef spec0 w)
  after w _ := match w with
    | ⟨0, _⟩ => stored k0_pay3
    | ⟨1, _⟩ => stored k0_pay4
  Φ _ := Pipeline.ΦA spec0 c
  q _ := fullShare
  owed _ := 0

theorem data_A (c : Dev nD) (w : Fin cfg0.W) : (data m 0 c).A w = V m c (Pipeline.arrRef spec0 w) := by
  dsimp only [data]
theorem after_cos (c : Dev nD) (t : Fin cfg0.N) : (data m 0 c).after 0 t = stored k0_pay3 := by dsimp only [data]
theorem after_sin (c : Dev nD) (t : Fin cfg0.N) : (data m 0 c).after 1 t = stored k0_pay4 := by dsimp only [data]

/-- The body at a grid point, with the invariant carried through. -/
theorem at_point (c : Dev nD) (t : Fin cfg0.N) :
    iprop((data m 0 c).Φ t.castSucc ∗ (data m 0 c).owesAt () t.castSucc
        ∗ (∃ d, owns (c : Thread nD τ) (st0_0 t) fullShare ((data m 0 c).before 0 t d))
        ∗ (∃ d, owns (c : Thread nD τ) (st0_1 t) fullShare ((data m 0 c).before 1 t d)))
      ⊢ wp frame (wpE (defs₀ (F := F)) Variants.none c none) Set.univ (bodyAt0 t) (fun _ =>
        iprop((data m 0 c).Φ t.succ ∗ (data m 0 c).owesAt () t.succ
          ∗ owns (c : Thread nD τ) (st0_0 t) fullShare ((data m 0 c).after 0 t)
          ∗ owns (c : Thread nD τ) (st0_1 t) fullShare ((data m 0 c).after 1 t))) := by
  have e : (data m 0 c).Φ t.succ = (data m 0 c).Φ t.castSucc ∧ (data m 0 c).owesAt () t.succ = (data m 0 c).owesAt () t.castSucc :=
    ⟨rfl, rfl⟩
  unfold bodyAt0
  rw [e.1, e.2, after_cos, after_sin]
  iintro ⟨I, o, ⟨%x, A⟩, ⟨%y, B⟩⟩
  iapply (body_triple c _ _ _ _ _)
  isplitl [A]
  · iexists _
    iexact A
  isplitl [B]
  · iexists _
    iexact B
  iintro ⟨A, B⟩
  isplitl [I]
  · iexact I
  isplitl [o]
  · iexact o
  isplitl [A]
  · iexact A
  · iexact B

theorem body_row (t : Fin cfg0.N) : defs₀ (F := F) .tc cfg0.body (cfg0.bodyArgs t (cfg0.slots t)) = bodyAt0 t := by
  unfold defs₀
  rw [Defs.onTc_tc]

theorem obligation (c : Dev nD) : BodyObligation (data (F := F) m 0 c) (defs₀ (F := F)) Variants.none () Set.univ := by
  intro t
  rw [bigSep_W0, bigSep_W0, body_row]
  exact triple_restated (at_point m c t) rfl .rfl fun _ => .rfl

set_option backward.isDefEq.respectTransparency.types false in
/-- The run: it ends, the result arrays hold what the data say, and every counter is zero. -/
theorem run : θ_run defs (onTc (τ := τ) (main (F := F))) (s₀ m ρ)
    (fun r => Pipeline.FramePost cfgs (data m) 0 (V m) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hΦ := fun _ _ => rfl)

end Cert.RopeTables.Exact

end
-- ==== Proof.RopeTables.lean ====
/- The tables of the rotation: an entry of the kernel's and of the reference's as one real number, and the claims about the
   call and its reference. -/
module

public import proofs.«01_k».proof.Defs
public import proofs.«01_k».proof.Proof.Blocks
public import proofs.«01_k».proof.Proof.MlaInHost
public import proofs.«01_k».proof.Proof.RopeBody
public import proofs.«01_k».proof.Proof.RopeBodyIdeal
public import Idealize.ShloMosaic.Lib.Pipeline.Value
public import proofs.«01_k».proof.Proof.Gen.Reference7Ideal.Read
public import proofs.«01_k».proof.Proof.Gen.Reference7Ideal.Run
public import Idealize.ShloMosaic.Adequacy
public import Idealize.ShloMosaic.Init

@[expose] public section

set_option maxRecDepth 16384

noncomputable section

namespace Cert.RopeTables

open Idealize.ShloMosaic hiding ix1 ix2 ix3 ix4 ix5
open Idealize.ShloMosaic.ValueIdx Idealize.ShloMosaic.TcCoe Idealize.SL.Sem
open Cert.MlaIn (halves lanes padT catT padT_apply catT_apply)

/-! ## The tables -/

/-- The angle of frequency `j` at position `R`. -/
def angle (R : Fin 2048) (j : Fin 32) : ℝ := (R.val : ℝ) * Real.rpow 10000 (-(j.val : ℝ) * (1 / 32))
/-- The cosines and sines of a position, as extended reals. -/
def cosRow (R : Fin 2048) (j : Fin 32) : EReal := ((Real.cos (angle R j) : ℝ) : EReal)
def sinRow (R : Fin 2048) (j : Fin 32) : EReal := ((Real.sin (angle R j) : ℝ) : EReal)
/-- The tables: both halves of the lanes, the first half's sines negated, and the padding. -/
def cosTable : FVec Ideal (⟨2, ![2048, 128]⟩ : Shape) .f32 := fun i => lanes (halves (cosRow (i 0)) (cosRow (i 0))) (i 1)
def sinTable : FVec Ideal (⟨2, ![2048, 128]⟩ : Shape) .f32 := fun i => lanes (halves (fun j => -sinRow (i 0) j) (sinRow (i 0))) (i 1)

/-! ## Words that hold small naturals -/

theorem toInt_small (n : ℕ) (h : n < 2048) : ((BitVec.ofNat 32 n).toInt : ℝ) = (n : ℝ) := by
  have e : (BitVec.ofNat 32 n).toInt = (n : ℤ) := by
    have t : (BitVec.ofNat 32 n).toNat = n := by rw [BitVec.toNat_ofNat, Nat.mod_eq_of_lt (by omega)]
    rw [BitVec.toInt_eq_toNat_of_lt (by rw [t]; omega), t]
  rw [e, Int.cast_natCast]

theorem and31 : ∀ d : Fin 128, IntOp.andi (BitVec.ofNat 32 d.val) 31#32 = BitVec.ofNat 32 (d.val % 32) := by decide +kernel
theorem below64 : ∀ d : Fin 128, IntOp.cmpi .slt (BitVec.ofNat 32 d.val) 64#32 = if d.val < 64 then 1#1 else 0#1 := by decide +kernel
theorem below32 : ∀ d : Fin 128, IntOp.cmpi .slt (BitVec.ofNat 32 d.val) 32#32 = if d.val < 32 then 1#1 else 0#1 := by decide +kernel

theorem padValue_eq : Cert.MlaIn.padValue = (0 : EReal) := by
  show (((0#32 : BitVec 32).toInt : ℝ) : EReal) = 0
  simp

/-! ## The kernel's tables -/

section
open Cert.Kernel7Ideal Cert.Kernel7Ideal.Gen

/-- The rate of the frequencies: minus a thirty-second of the logarithm of the base. -/
theorem rate_eq : Named.named (F := Ideal) Cert.Kernel7Ideal.κ "rate" (φ := .f32) 0xBE935D8E#32 = ((-((Real.log 10000) * 32⁻¹) : ℝ) : EReal) :=
  IdealRules.named_const.ideal_named_scalar _ _ _ _ rfl

/-- The frequencies as powers of the base. -/
theorem exp_rate (j : ℝ) : Real.exp (j * (-((Real.log 10000) * 32⁻¹))) = Real.rpow 10000 (-j * (1 / 32)) := by
  show _ = (10000 : ℝ) ^ (-j * (1 / 32))
  rw [Real.rpow_def_of_pos (by norm_num)]
  congr 1
  ring

theorem angle_apply (R : Fin 2048) (d : Fin 128) :
    k0_pay1 (F := Ideal) (ix2 R d) = ((angle R ⟨d.val % 32, Nat.mod_lt _ (by decide)⟩ : ℝ) : EReal) := by
  unfold k0_pay1
  show (((iota .tc S2048x128 32 [0] iota_S2048x128_d0_w32 (ix2 R d)).toInt : ℝ) : EReal)
      * Ideal.exp ((((IntOp.andi (iota .tc S2048x128 32 [1] iota_S2048x128_d1_w32 (ix2 R d)) 31#32).toInt : ℝ) : EReal)
        * Named.named (F := Ideal) Cert.Kernel7Ideal.κ "rate" (φ := .f32) 0xBE935D8E#32) = _
  rw [iota_single_apply, iota_single_apply, rate_eq]
  show (((BitVec.ofNat 32 R.val).toInt : ℝ) : EReal)
      * Ideal.exp ((((IntOp.andi (BitVec.ofNat 32 d.val) 31#32).toInt : ℝ) : EReal) * ((-((Real.log 10000) * 32⁻¹) : ℝ) : EReal)) = _
  rw [and31, toInt_small _ R.isLt, toInt_small _ (by omega), ← EReal.coe_mul, Ideal.exp_coe, exp_rate, ← EReal.coe_mul]
  rfl

theorem inside_apply (R : Fin 2048) (d : Fin 128) : k0_pay2 (ix2 R d) = if d.val < 64 then 1#1 else 0#1 := by
  unfold k0_pay2
  show IntOp.cmpi .slt (iota .tc S2048x128 32 [1] iota_S2048x128_d1_w32 (ix2 R d)) 64#32 = _
  rw [iota_single_apply]
  exact below64 d

theorem cos_apply (R : Fin 2048) (d : Fin 128) : k0_pay3 (F := Ideal) (ix2 R d) = cosTable (ix2 R d) := by
  unfold k0_pay3
  show (if k0_pay2 (ix2 R d) = 1 then Ideal.cos (k0_pay1 (F := Ideal) (ix2 R d)) else (FloatOps.ofBits .f32 0x00000000#32 : Ideal .f32))
    = lanes (halves (cosRow R) (cosRow R)) d
  rw [inside_apply, angle_apply, Ideal.cos_coe]
  unfold lanes halves
  by_cases h : d.val < 64
  · rw [if_pos h, if_pos (show (1#1 : BitVec 1) = 1 from rfl), dif_pos h]
    by_cases g : d.val < 32
    · rw [dif_pos g]
      exact congrArg (cosRow R) (Fin.ext (Nat.mod_eq_of_lt g))
    · rw [dif_neg g]
      exact congrArg (cosRow R) (Fin.ext (show d.val % 32 = d.val - 32 by omega))
  · rw [if_neg h, if_neg (by decide), dif_neg h, padValue_eq]
    exact Ideal.ofBits_zero_f32

theorem sin_apply (R : Fin 2048) (d : Fin 128) : k0_pay4 (F := Ideal) (ix2 R d) = sinTable (ix2 R d) := by
  unfold k0_pay4
  show (if k0_pay2 (ix2 R d) = 1 then
      (if IntOp.cmpi .slt (iota .tc S2048x128 32 [1] iota_S2048x128_d1_w32 (ix2 R d)) 32#32 = 1 then
        (FloatOps.ofBits .f32 0x00000000#32 : Ideal .f32) - Ideal.sin (k0_pay1 (F := Ideal) (ix2 R d)) else Ideal.sin (k0_pay1 (F := Ideal) (ix2 R d)))
      else (FloatOps.ofBits .f32 0x00000000#32 : Ideal .f32))
    = lanes (halves (fun j => -sinRow R j) (sinRow R)) d
  rw [inside_apply, iota_single_apply, angle_apply, Ideal.sin_coe]
  have z : (FloatOps.ofBits .f32 0x00000000#32 : Ideal .f32) = (0 : EReal) := Ideal.ofBits_zero_f32
  have b : IntOp.cmpi .slt (BitVec.ofNat 32 ((ix2 R d) 1 : Fin 128).val) 32#32 = if d.val < 32 then 1#1 else 0#1 := below32 d
  rw [z]
  unfold lanes halves
  by_cases h : d.val < 64
  · rw [if_pos h, if_pos (show (1#1 : BitVec 1) = 1 from rfl), dif_pos h]
    refine (congrArg (fun w : BitVec 1 => if w = 1 then _ else _) b).trans ?_
    by_cases g : d.val < 32
    · rw [if_pos g, if_pos (show (1#1 : BitVec 1) = 1 from rfl), dif_pos g, zero_sub]
      exact congrArg (fun j => -sinRow R j) (Fin.ext (Nat.mod_eq_of_lt g))
    · rw [if_neg g, if_neg (by decide), dif_neg g]
      exact congrArg (sinRow R) (Fin.ext (show d.val % 32 = d.val - 32 by omega))
  · rw [if_neg h, if_neg (by decide), dif_neg h, padValue_eq]

theorem out0_eq : Exact.stored (F := Ideal) (k0_pay3 (F := Ideal)) = cosTable := by
  unfold Exact.stored
  rw [View.canon_unit_zero Cert.Blocks.zero2]
  funext i
  obtain ⟨R, d, rfl⟩ : ∃ (R : Fin 2048) (d : Fin 128), i = ix2 R d := ⟨i 0, i 1, ValueIdx.eq_ix2 (n0 := 2048) (n1 := 128) i⟩
  exact cos_apply R d

theorem out1_eq : Exact.stored (F := Ideal) (k0_pay4 (F := Ideal)) = sinTable := by
  unfold Exact.stored
  rw [View.canon_unit_zero Cert.Blocks.zero2]
  funext i
  obtain ⟨R, d, rfl⟩ : ∃ (R : Fin 2048) (d : Fin 128), i = ix2 R d := ⟨i 0, i 1, ValueIdx.eq_ix2 (n0 := 2048) (n1 := 128) i⟩
  exact sin_apply R d

theorem index0 : ∀ t : Fin grid0.N, win0_0.index t 0 = 0 ∧ win0_0.index t 1 = 0 := by decide +kernel
theorem index1 : ∀ t : Fin grid0.N, win0_1.index t 0 = 0 ∧ win0_1.index t 1 = 0 := by decide +kernel

/-- The one block is the whole array. -/
theorem read0 (X : FVec Ideal S2048x128 .f32) (t : Fin cfg0.N) :
    (((cfg0.win 0).blk t).view.read (Elt Ideal) X : FVec Ideal S2048x128 .f32) = X := by
  funext y
  show X ((win0_0.rect t).emb y) = X y
  refine congrArg X (funext fun a => Fin.ext ?_)
  refine (win0_0.rect_emb_val t _ a).trans ?_
  match a with
  | ⟨0, _⟩ => show win0_0.index t 0 * 2048 + (y 0).val = (y 0).val; rw [(index0 t).1]; omega
  | ⟨1, _⟩ => show win0_0.index t 1 * 128 + (y 1).val = (y 1).val; rw [(index0 t).2]; omega

theorem read1 (X : FVec Ideal S2048x128 .f32) (t : Fin cfg0.N) :
    (((cfg0.win 1).blk t).view.read (Elt Ideal) X : FVec Ideal S2048x128 .f32) = X := by
  funext y
  show X ((win0_1.rect t).emb y) = X y
  refine congrArg X (funext fun a => Fin.ext ?_)
  refine (win0_1.rect_emb_val t _ a).trans ?_
  match a with
  | ⟨0, _⟩ => show win0_1.index t 0 * 2048 + (y 0).val = (y 0).val; rw [(index1 t).1]; omega
  | ⟨1, _⟩ => show win0_1.index t 1 * 128 + (y 1).val = (y 1).val; rw [(index1 t).2]; omega

variable (m : (ℓ : Loc nD τ sig) → Buf (Elt Ideal) ℓ) (c : Dev nD)

theorem flushed0 (t : Fin cfg0.N) : (Exact.data m 0 c).flushed 0 t = ((cfg0.win 0).blk t).view.read (Elt Ideal) cosTable := by
  show (cfg0.win 0).cut (grid0.coords t) ((Exact.data m 0 c).after 0 t) = _
  rw [Exact.after_cos]
  refine Eq.trans ?_ (read0 _ t).symm
  exact out0_eq

theorem flushed1 (t : Fin cfg0.N) : (Exact.data m 0 c).flushed 1 t = ((cfg0.win 1).blk t).view.read (Elt Ideal) sinTable := by
  show (cfg0.win 1).cut (grid0.coords t) ((Exact.data m 0 c).after 1 t) = _
  rw [Exact.after_sin]
  refine Eq.trans ?_ (read1 _ t).symm
  exact out1_eq

theorem cover0 (i : S2048x128.Idx) : ∃ t : Fin cfg0.N, (cfg0.win 0).flush t = true ∧ i ∈ ((cfg0.win 0).blk t).view.set := by
  have h0 : (i 0 : ℕ) < 2048 := (i 0).isLt
  have h1 : (i 1 : ℕ) < 128 := (i 1).isLt
  have ht : 0 < cfg0.N := by decide
  refine ⟨⟨0, ht⟩, flush0_0 _, ?_⟩
  show i ∈ ((View.whole main_v0_0).slice (win0_0.rect ⟨0, ht⟩)).set
  rw [View.set_slice_whole, Rect.mem_set_unit]
  have e := index0 ⟨0, ht⟩
  have x : ∀ t : Fin grid0.N, win0_0.xsize (grid0.coords t) 0 = 2048 ∧ win0_0.xsize (grid0.coords t) 1 = 128 := by decide +kernel
  intro a
  match a with
  | ⟨0, _⟩ =>
    show win0_0.index ⟨0, ht⟩ 0 * 2048 ≤ (i 0 : Nat) ∧ (i 0 : Nat) < win0_0.index ⟨0, ht⟩ 0 * 2048 + win0_0.xsize (grid0.coords ⟨0, ht⟩) 0
    rw [e.1, (x _).1]
    omega
  | ⟨1, _⟩ =>
    show win0_0.index ⟨0, ht⟩ 1 * 128 ≤ (i 1 : Nat) ∧ (i 1 : Nat) < win0_0.index ⟨0, ht⟩ 1 * 128 + win0_0.xsize (grid0.coords ⟨0, ht⟩) 1
    rw [e.2, (x _).2]
    omega

theorem cover1 (i : S2048x128.Idx) : ∃ t : Fin cfg0.N, (cfg0.win 1).flush t = true ∧ i ∈ ((cfg0.win 1).blk t).view.set := by
  have h0 : (i 0 : ℕ) < 2048 := (i 0).isLt
  have h1 : (i 1 : ℕ) < 128 := (i 1).isLt
  have ht : 0 < cfg0.N := by decide
  refine ⟨⟨0, ht⟩, flush0_1 _, ?_⟩
  show i ∈ ((View.whole main_v0_1).slice (win0_1.rect ⟨0, ht⟩)).set
  rw [View.set_slice_whole, Rect.mem_set_unit]
  have e := index1 ⟨0, ht⟩
  have x : ∀ t : Fin grid0.N, win0_1.xsize (grid0.coords t) 0 = 2048 ∧ win0_1.xsize (grid0.coords t) 1 = 128 := by decide +kernel
  intro a
  match a with
  | ⟨0, _⟩ =>
    show win0_1.index ⟨0, ht⟩ 0 * 2048 ≤ (i 0 : Nat) ∧ (i 0 : Nat) < win0_1.index ⟨0, ht⟩ 0 * 2048 + win0_1.xsize (grid0.coords ⟨0, ht⟩) 0
    rw [e.1, (x _).1]
    omega
  | ⟨1, _⟩ =>
    show win0_1.index ⟨0, ht⟩ 1 * 128 ≤ (i 1 : Nat) ∧ (i 1 : Nat) < win0_1.index ⟨0, ht⟩ 1 * 128 + win0_1.xsize (grid0.coords ⟨0, ht⟩) 1
    rw [e.2, (x _).2]
    omega

theorem final0 : (Exact.data m 0 c).arrAt 0 cfg0.N = cosTable :=
  (Exact.data m 0 c).arrAt_eq_of_cover 0 _ (fun t _ => flushed0 m c t) cover0

theorem final1 : (Exact.data m 0 c).arrAt 1 cfg0.N = sinTable :=
  (Exact.data m 0 c).arrAt_eq_of_cover 1 _ (fun t _ => flushed1 m c t) cover1

end

/-! ## The reference's tables -/

section
open Cert.Reference7Ideal Cert.Reference7Ideal.Gen Cert.Reference7Ideal.Read

theorem ofBits_base : (FloatOps.ofBits .f32 0x461C4000#32 : Ideal .f32) = ((10000 : ℝ) : EReal) := by
  show Ideal.ofBits .f32 0x461C4000#32 = _
  simp [Ideal.ofBits, Ideal.ieee]
  norm_num [← EReal.coe_mul]

theorem ofBits_half : (FloatOps.ofBits .f32 0x42000000#32 : Ideal .f32) = ((32 : ℝ) : EReal) := by
  show Ideal.ofBits .f32 0x42000000#32 = _
  simp [Ideal.ofBits, Ideal.ieee]
  norm_num [← EReal.coe_mul]

theorem ref_freq (i : S32.Idx) : val_main_v5 (F := Ideal) i = ((Real.rpow 10000 (-((i 0).val : ℝ) * (1 / 32)) : ℝ) : EReal) := by
  have h : (i 0).val < 32 := (i 0).isLt
  rw [val_main_v5_apply, val_main_v4_apply, val_main_cst_0_apply, val_main_v3_apply, val_main_v1_apply, val_main_v2_apply, val_main_cst_apply,
    ofBits_base, ofBits_half]
  show Ideal.pow ((10000 : ℝ) : EReal) (Ideal.div (-(((BitVec.ofNat 32 (i 0).val).toInt : ℝ) : EReal)) ((32 : ℝ) : EReal)) = _
  rw [toInt_small _ (by omega), Ideal.div_coe (by norm_num), ← EReal.coe_neg, ← EReal.coe_mul]
  rfl

theorem ref_angle (R : Fin 2048) (j : Fin 32) : val_main_v12 (F := Ideal) (ix2 R j) = ((angle R j : ℝ) : EReal) := by
  rw [val_main_v12_apply, val_main_v10_apply, val_main_v8_apply, val_main_v7_apply, val_main_v6_apply, val_main_v11_apply, val_main_v9_apply,
    ref_freq]
  show (((BitVec.ofNat 32 R.val).toInt : ℝ) : EReal) * ((Real.rpow 10000 (-(j.val : ℝ) * (1 / 32)) : ℝ) : EReal) = _
  rw [toInt_small _ R.isLt, ← EReal.coe_mul]
  rfl

theorem ref_cosRow (R : Fin 2048) (j : Fin 32) : val_main_v13 (F := Ideal) (ix2 R j) = cosRow R j := by
  rw [val_main_v13_apply, ref_angle]
  rfl

theorem ref_sinRow (R : Fin 2048) (j : Fin 32) : val_main_v14 (F := Ideal) (ix2 R j) = sinRow R j := by
  rw [val_main_v14_apply, ref_angle]
  rfl

theorem ref_cos : cosTable = val_main_v16 (F := Ideal) := by
  funext i
  obtain ⟨R, d, rfl⟩ : ∃ (R : Fin 2048) (d : Fin 128), i = ix2 R d := ⟨i 0, i 1, ValueIdx.eq_ix2 (n0 := 2048) (n1 := 128) i⟩
  show lanes (halves (cosRow R) (cosRow R)) d = padT (catT (val_main_v13 (F := Ideal)) (val_main_v13 (F := Ideal))) (ix2 R d)
  rw [padT_apply]
  refine congrArg (fun f => lanes f d) (funext fun e => ?_)
  rw [catT_apply]
  exact congrArg (fun f => halves f f e) (funext fun j => (ref_cosRow R j).symm)

theorem ref_sin : sinTable = val_main_v19 (F := Ideal) := by
  funext i
  obtain ⟨R, d, rfl⟩ : ∃ (R : Fin 2048) (d : Fin 128), i = ix2 R d := ⟨i 0, i 1, ValueIdx.eq_ix2 (n0 := 2048) (n1 := 128) i⟩
  show lanes (halves (fun j => -sinRow R j) (sinRow R)) d = padT (catT (val_main_v17 (F := Ideal)) (val_main_v14 (F := Ideal))) (ix2 R d)
  rw [padT_apply]
  refine congrArg (fun f => lanes f d) (funext fun e => ?_)
  rw [catT_apply]
  refine congrArg₂ (fun f g => halves f g e) (funext fun j => ?_) (funext fun j => (ref_sinRow R j).symm)
  rw [val_main_v17_apply, ref_sinRow]
  rfl

end

/-! ## The claims -/

theorem frame_p : Cert.quiescent_Kernel7 := fun m ρ _ =>
  (θ_run Cert.Kernel7.defs _ _).mono (fun _ h => ⟨fun _ => trivial, h.2⟩) (Word.run m ρ)

theorem frame_pi : Cert.quiescent_Kernel7Ideal := fun m ρ _ =>
  (θ_run Cert.Kernel7Ideal.defs _ _).mono (fun _ h => ⟨fun _ => trivial, h.2⟩) (Exact.run m ρ)

theorem frame_ri : Cert.quiescent_Reference7Ideal := fun m ρ _ =>
  (θ_run Cert.Reference7Ideal.defs _ _).mono
    (fun r _ => ⟨fun _ => trivial, sem_eq_zero_of_no_sems (by decide) r.2⟩)
    (Cert.Reference7Ideal.Value.run (F := Ideal) m ρ)

/-- The one constant named: minus a thirty-second of the logarithm of the base. -/
theorem preserves : Cert.preserves_Kernel7_Kernel7Ideal :=
  IdealRules.named_const.statement Cert.Kernel7Ideal.κ "rate" .f32 0xBE935D8E#32 ((-((Real.log 10000) * 32⁻¹) : ℝ) : EReal) rfl

theorem algebraic : Cert.algebraic_Kernel7Ideal_Reference7Ideal := by
  intro m ρ m' ρ' _ _
  refine ⟨_, _, (θ_run Cert.Kernel7Ideal.defs _ _).mono (fun r h c => ⟨(h.1 c).1 0, (h.1 c).1 1⟩) (Exact.run (F := Ideal) m ρ), ?_⟩
  refine (θ_run Cert.Reference7Ideal.defs _ _).mono (fun _ h c => ?_) (Cert.Reference7Ideal.Value.run (F := Ideal) m' ρ')
  refine ⟨(h c).1.trans ?_, (h c).2.trans ?_⟩
  · rw [Cert.Reference7Ideal.Read.val_main_v16_eq]
    exact ref_cos.symm.trans (final0 m c).symm
  · rw [Cert.Reference7Ideal.Read.val_main_v19_eq]
    exact ref_sin.symm.trans (final1 m c).symm

end Cert.RopeTables

end
-- ==== Proof.SampleMath.lean ====
/- Attention over a compressed cache, a row at a time: the kernel takes queries into the compressed space, weighs the
   compressed rows and expands the weighted row; the reference expands every key and value first. The two are equal over
   the real numbers. -/
module

public import proofs.«01_k».proof.Proof.Softmax

@[expose] public section

noncomputable section

namespace Cert.SampleAttn

open Idealize.ShloMosaic

/-- A key of the cache, and a key of the new rows, among all 1056. -/
def lo (k : Fin 1024) : Fin 1056 := ⟨k.val, by omega⟩
def hi (k : Fin 32) : Fin 1056 := ⟨1024 + k.val, by omega⟩

theorem sum_keys {M : Type*} [AddCommMonoid M] (G : Fin 1056 → M) :
    ∑ k, G k = (∑ k, G (lo k)) + ∑ k, G (hi k) := Fin.sum_univ_add (a := 1024) (b := 32) G

section
variable {N : Type} [Fintype N] (q : Fin 128 → EReal) (u : Fin 64 → EReal) (K : Fin 1056 → Fin 512 → EReal)
  (P : Fin 1056 → Fin 64 → EReal) (A V : Fin 512 → Fin 128 → EReal) (σ : EReal)

/-- The kernel's score: the query taken into the compressed space. -/
def kScore (k : Fin 1056) : EReal := ((∑ c, (∑ d, q d * A c d) * K k c) + ∑ r, u r * P k r) * σ
/-- The reference's: the key expanded. -/
def rScore (k : Fin 1056) : EReal := ((∑ d, q d * ∑ c, K k c * A c d) + ∑ r, P k r * u r) * σ

/-- The kernel's maximum, over the cache and over the new rows. -/
def kMax (s : Fin 1056 → EReal) : EReal :=
  max (Finset.univ.sup fun k : Fin 1024 => s (lo k)) (Finset.univ.sup fun k : Fin 32 => s (hi k))

/-- The kernel's weighted compressed row over the sum of the weights. -/
def kRow (s : Fin 1056 → EReal) (c : Fin 512) : EReal :=
  Ideal.div ((∑ k, Ideal.exp (s (lo k) - kMax s) * K (lo k) c) + ∑ k, Ideal.exp (s (hi k) - kMax s) * K (hi k) c)
    ((∑ k, Ideal.exp (s (lo k) - kMax s)) + ∑ k, Ideal.exp (s (hi k) - kMax s))

/-- Lane `e` of the kernel's result. -/
def kOut (e : Fin 128) : EReal := ∑ c, kRow K (kScore q u K P A σ) c * V c e

/-- Lane `e` of the reference's. -/
def rOut (e : Fin 128) : EReal :=
  ∑ k, (∑ c, K k c * V c e) * Ideal.div (Ideal.exp (rScore q u K P A σ k - Finset.univ.sup (rScore q u K P A σ)))
    (∑ k, Ideal.exp (rScore q u K P A σ k - Finset.univ.sup (rScore q u K P A σ)))

end

/-- The identity over the reals: weights under another maximum, and the two orders of the products. -/
theorem real_eq (S : Fin 1056 → ℝ) (m m' : ℝ) (K : Fin 1056 → Fin 512 → ℝ) (v : Fin 512 → ℝ) :
    ∑ c, ((∑ k, Real.exp (S k - m') * K k c) * (1 / ∑ k, Real.exp (S k - m'))) * v c
      = ∑ k, (∑ c, K k c * v c) * (Real.exp (S k - m) * (1 / ∑ k, Real.exp (S k - m))) := by
  have h : ∀ k, Real.exp (S k - m') = Real.exp (m - m') * Real.exp (S k - m) := fun k => by
    rw [← Real.exp_add]; congr 1; ring
  have hρ : Real.exp (m - m') ≠ 0 := (Real.exp_pos _).ne'
  have hD : (∑ k, Real.exp (S k - m)) ≠ 0 :=
    (Finset.sum_pos (fun k _ => Real.exp_pos (S k - m)) ⟨0, Finset.mem_univ _⟩).ne'
  have hn : ∀ c, (∑ k, Real.exp (S k - m') * K k c) * (1 / ∑ k, Real.exp (S k - m'))
      = ∑ k, K k c * (Real.exp (S k - m) * (1 / ∑ k, Real.exp (S k - m))) := fun c => by
    simp only [h, mul_assoc]
    rw [← Finset.mul_sum, ← Finset.mul_sum]
    have e : ∑ k, K k c * (Real.exp (S k - m) * (1 / ∑ k, Real.exp (S k - m)))
        = (∑ k, Real.exp (S k - m) * K k c) * (1 / ∑ k, Real.exp (S k - m)) := by
      rw [Finset.sum_mul]
      exact Finset.sum_congr rfl fun k _ => by ring
    rw [e]
    field_simp
  simp only [hn, Finset.sum_mul]
  rw [Finset.sum_comm]
  refine Finset.sum_congr rfl fun k _ => Finset.sum_congr rfl fun c _ => ?_
  ring

/-- The maximum of real scores is real. -/
theorem sup_real {ι : Type} [Fintype ι] (i₀ : ι) (S : ι → ℝ) :
    ∃ m : ℝ, (Finset.univ.sup fun i => ((S i : ℝ) : EReal)) = (m : EReal) :=
  Softmax.exists_sup_coe Finset.univ _ (fun i _ => EReal.coe_ne_top _) i₀ (Finset.mem_univ _) (EReal.coe_ne_bot _)

theorem coe_max (a b : ℝ) : max (a : EReal) (b : EReal) = ((max a b : ℝ) : EReal) :=
  (Monotone.map_max (f := fun x : ℝ => (x : EReal)) (fun _ _ h => EReal.coe_le_coe_iff.mpr h)).symm

theorem exp_sub (a b : ℝ) : Ideal.exp ((a : EReal) - (b : EReal)) = ((Real.exp (a - b) : ℝ) : EReal) := by
  rw [← EReal.coe_sub, Ideal.exp_coe]

theorem sum_exp_ne {ι : Type} [Fintype ι] (i₀ : ι) (S : ι → ℝ) : (∑ i, Real.exp (S i)) ≠ 0 :=
  (Finset.sum_pos (fun i _ => Real.exp_pos (S i)) ⟨i₀, Finset.mem_univ _⟩).ne'

/-- The kernel's row is the reference's. -/
theorem row_eq (q : Fin 128 → EReal) (u : Fin 64 → EReal) (K : Fin 1056 → Fin 512 → EReal)
    (P : Fin 1056 → Fin 64 → EReal) (A V : Fin 512 → Fin 128 → EReal) (σ : ℝ)
    (hq : ∀ d, q d ≠ ⊤ ∧ q d ≠ ⊥) (hu : ∀ d, u d ≠ ⊤ ∧ u d ≠ ⊥) (hK : ∀ k c, K k c ≠ ⊤ ∧ K k c ≠ ⊥)
    (hP : ∀ k c, P k c ≠ ⊤ ∧ P k c ≠ ⊥) (hA : ∀ c d, A c d ≠ ⊤ ∧ A c d ≠ ⊥) (hV : ∀ c d, V c d ≠ ⊤ ∧ V c d ≠ ⊥)
    (e : Fin 128) : kOut q u K P A V (σ : EReal) e = rOut q u K P A V (σ : EReal) e := by
  lift q to Fin 128 → ℝ using hq
  lift u to Fin 64 → ℝ using hu
  lift K to Fin 1056 → Fin 512 → ℝ using hK
  lift P to Fin 1056 → Fin 64 → ℝ using hP
  lift A to Fin 512 → Fin 128 → ℝ using hA
  lift V to Fin 512 → Fin 128 → ℝ using hV
  let S : Fin 1056 → ℝ := fun k => ((∑ c, (∑ d, q d * A c d) * K k c) + ∑ r, u r * P k r) * σ
  have hk : kScore (fun d => (q d : EReal)) (fun r => (u r : EReal)) (fun k c => (K k c : EReal)) (fun k r => (P k r : EReal))
      (fun c d => (A c d : EReal)) (σ : EReal) = fun k => ((S k : ℝ) : EReal) := by
    funext k
    unfold kScore
    simp only [← EReal.coe_mul, ← Softmax.coe_sum, ← EReal.coe_add]
    rfl
  have hr : rScore (fun d => (q d : EReal)) (fun r => (u r : EReal)) (fun k c => (K k c : EReal)) (fun k r => (P k r : EReal))
      (fun c d => (A c d : EReal)) (σ : EReal) = fun k => ((S k : ℝ) : EReal) := by
    funext k
    unfold rScore
    simp only [← EReal.coe_mul, ← Softmax.coe_sum, ← EReal.coe_add]
    refine congrArg _ (congrArg (· * σ) (congrArg₂ (· + ·) ?_ ?_))
    · simp only [Finset.mul_sum, Finset.sum_mul]
      rw [Finset.sum_comm]
      exact Finset.sum_congr rfl fun c _ => Finset.sum_congr rfl fun d _ => by ring
    · exact Finset.sum_congr rfl fun r _ => mul_comm _ _
  show (∑ c, kRow (fun k c => (K k c : EReal)) (kScore (fun d => (q d : EReal)) (fun r => (u r : EReal)) (fun k c => (K k c : EReal))
      (fun k r => (P k r : EReal)) (fun c d => (A c d : EReal)) (σ : EReal)) c * (V c e : EReal))
    = ∑ k, (∑ c, (K k c : EReal) * (V c e : EReal)) * Ideal.div (Ideal.exp (rScore (fun d => (q d : EReal)) (fun r => (u r : EReal))
      (fun k c => (K k c : EReal)) (fun k r => (P k r : EReal)) (fun c d => (A c d : EReal)) (σ : EReal) k
        - Finset.univ.sup (rScore (fun d => (q d : EReal)) (fun r => (u r : EReal)) (fun k c => (K k c : EReal))
          (fun k r => (P k r : EReal)) (fun c d => (A c d : EReal)) (σ : EReal))))
      (∑ k, Ideal.exp (rScore (fun d => (q d : EReal)) (fun r => (u r : EReal)) (fun k c => (K k c : EReal))
        (fun k r => (P k r : EReal)) (fun c d => (A c d : EReal)) (σ : EReal) k
        - Finset.univ.sup (rScore (fun d => (q d : EReal)) (fun r => (u r : EReal)) (fun k c => (K k c : EReal))
          (fun k r => (P k r : EReal)) (fun c d => (A c d : EReal)) (σ : EReal))))
  rw [hk, hr]
  unfold kRow kMax
  obtain ⟨m, hm⟩ := sup_real 0 S
  obtain ⟨m1, hm1⟩ := sup_real 0 fun k => S (lo k)
  obtain ⟨m2, hm2⟩ := sup_real 0 fun k => S (hi k)
  rw [hm, hm1, hm2, coe_max]
  simp only [exp_sub, ← EReal.coe_mul, ← Softmax.coe_sum, ← EReal.coe_add]
  have hw : (∑ k, Real.exp (S (lo k) - max m1 m2)) + ∑ k, Real.exp (S (hi k) - max m1 m2) = ∑ k, Real.exp (S k - max m1 m2) :=
    (sum_keys fun k => Real.exp (S k - max m1 m2)).symm
  simp only [hw, Ideal.div_coe (sum_exp_ne 0 fun k => S k - max m1 m2), Ideal.div_coe (sum_exp_ne 0 fun k => S k - m),
    ← EReal.coe_mul, ← Softmax.coe_sum]
  refine congrArg _ (Eq.trans (Finset.sum_congr rfl fun c _ => ?_) (real_eq S m (max m1 m2) K fun c => V c e))
  rw [sum_keys fun k => Real.exp (S k - max m1 m2) * K k c]

end Cert.SampleAttn

end
-- ==== Proof.SampleRef.lean ====
/- The reference of the attention over the cache at an index: every key and value expanded from its compressed row, and
   the softmax of the scaled scores applied to the values. No key is masked: the new queries are later than the cache. -/
module

public import proofs.«01_k».proof.Proof.SampleMath
public import proofs.«01_k».proof.Proof.RefValue
public import proofs.«01_k».proof.Proof.Gen.Reference8Ideal.Read
public import Idealize.ShloMosaic.Lib.ValueIdx

@[expose] public section

set_option maxRecDepth 16384

noncomputable section

namespace Cert.SampleAttn

open Cert.Reference8Ideal Cert.Reference8Ideal.Gen Cert.Reference8Ideal.Read
open Idealize.ShloMosaic Idealize.ShloMosaic.ValueIdx
open Cert.RefValue (chunkWord chunkWord_eq ofBits_192 div_sqrt scale)

/-! ## The mask -/

theorem qchunk_apply (i : S32.Idx) : val_main_v9 (F := Ideal) i = 16#32 := by
  have h : val_main_v9 (F := Ideal) i = chunkWord (IntOp.addi 1024#32 (BitVec.ofNat 32 (i 0).val)) := by
    rw [val_main_v9_apply, val_main_call0_v11_apply, val_main_call0_v6_apply, val_main_call0_v10_apply,
      val_main_call0_v13_apply, val_main_call0_v2_apply, val_main_call0_v8_apply, val_main_call0_v1_apply,
      val_main_call0_v5_apply, val_main_call0_v7_apply, val_main_call0_v9_apply, val_main_call0_v12_apply]
    have e8 : val_main_v8 (F := Ideal) i = IntOp.addi 1024#32 (BitVec.ofNat 32 (i 0).val) := by
      rw [val_main_v8_apply, val_main_v7_apply, val_main_v6_apply]
      rfl
    have e3 : val_main_call0_v3 (F := Ideal) i
        = signi (s := S_) (fun _ => IntOp.addi 1024#32 (BitVec.ofNat 32 (i 0).val)) (fun a => a.elim0) := by
      unfold val_main_call0_v3 signi
      rw [e8]
    have e4 : ∀ j, val_main_call0_v4 (F := Ideal) j = signi (s := S_) (fun _ => 64#32) (fun a => a.elim0) := fun j => by
      unfold val_main_call0_v4 signi
      rw [show val_main_call0_v0 (F := Ideal) j = 64#32 from rfl]
    have e0 : ∀ j, val_main_call0_v0 (F := Ideal) j = 64#32 := fun _ => rfl
    have ec : ∀ j, val_main_call0_c (F := Ideal) j = 0#32 := fun _ => rfl
    have ec0 : ∀ j, val_main_call0_c_0 (F := Ideal) j = 1#32 := fun _ => rfl
    rw [e3, e4, e0, ec, ec0, e8]
    rfl
  rw [h]
  have d : ∀ n : Fin 32, chunkWord (IntOp.addi 1024#32 (BitVec.ofNat 32 n.val)) = 16#32 := by decide +kernel
  exact d (i 0)

theorem kchunk_apply (i : S1056.Idx) : val_main_v11 (F := Ideal) i = BitVec.ofNat 32 ((i 0).val / 64) := by
  have h : val_main_v11 (F := Ideal) i = chunkWord (BitVec.ofNat 32 (i 0).val) := by
    rw [val_main_v11_apply, val_main_call1_v11_apply, val_main_call1_v6_apply, val_main_call1_v10_apply,
      val_main_call1_v13_apply, val_main_call1_v2_apply, val_main_call1_v8_apply, val_main_call1_v1_apply,
      val_main_call1_v5_apply, val_main_call1_v7_apply, val_main_call1_v9_apply, val_main_call1_v12_apply]
    have e3 : val_main_call1_v3 (F := Ideal) i = signi (s := S_) (fun _ => BitVec.ofNat 32 (i 0).val) (fun a => a.elim0) := by
      unfold val_main_call1_v3 signi
      rw [val_main_v10_apply]
    have e4 : ∀ j, val_main_call1_v4 (F := Ideal) j = signi (s := S_) (fun _ => 64#32) (fun a => a.elim0) := fun j => by
      unfold val_main_call1_v4 signi
      rw [show val_main_call1_v0 (F := Ideal) j = 64#32 from rfl]
    have e0 : ∀ j, val_main_call1_v0 (F := Ideal) j = 64#32 := fun _ => rfl
    have ec : ∀ j, val_main_call1_c (F := Ideal) j = 0#32 := fun _ => rfl
    have ec0 : ∀ j, val_main_call1_c_0 (F := Ideal) j = 1#32 := fun _ => rfl
    rw [e3, e4, e0, ec, ec0, val_main_v10_apply]
    rfl
  rw [h]
  have hi : (i 0).val < 1056 := (i 0).isLt
  exact chunkWord_eq ⟨(i 0).val, by omega⟩

theorem rmask_apply (i : S8x16x32x1056.Idx) : val_main_call2_v1 (F := Ideal) i = 1#1 := by
  rw [val_main_call2_v1_apply, val_main_v23_apply, val_main_v21_apply, val_main_v22_apply, val_main_v19_apply,
    val_main_v20_apply, kchunk_apply, qchunk_apply]
  have h : ∀ a : Fin 17, IntOp.cmpi .sle (BitVec.ofNat 32 a.val) 16#32 = 1#1 := by decide +kernel
  have h3 : (i 3).val < 1056 := (i 3).isLt
  exact h ⟨(i 3).val / 64, by omega⟩

section

variable (x0 : FVec Ideal S8x32x16x128 .f32) (x1 : FVec Ideal S8x32x16x64 .f32) (x2 : FVec Ideal S8x1024x512 .f32)
  (x3 : FVec Ideal S8x1024x64 .f32) (x4 : FVec Ideal S8x32x512 .f32) (x5 : FVec Ideal S8x32x64 .f32)
  (x6 : FVec Ideal S512x4096 .f32)

/-! ## The operands of a row -/

/-- The compressed row of key `k`: from the cache, then from the new rows. -/
def ckv (b : Fin 8) (k : Fin 1056) (c : Fin 512) : EReal :=
  if h : k.val < 1024 then x2 (ix3 b ⟨k.val, h⟩ c) else x4 (ix3 b ⟨k.val - 1024, by omega⟩ c)
/-- Its rotated lanes. -/
def kpes (b : Fin 8) (k : Fin 1056) (c : Fin 64) : EReal :=
  if h : k.val < 1024 then x3 (ix3 b ⟨k.val, h⟩ c) else x5 (ix3 b ⟨k.val - 1024, by omega⟩ c)
/-- The weights that expand head `h`'s key, and its value. -/
def wKey (h : Fin 16) (c : Fin 512) (d : Fin 128) : EReal := x6 (ix2 c ⟨h.val * 256 + d.val, by omega⟩)
def wVal (h : Fin 16) (c : Fin 512) (d : Fin 128) : EReal := x6 (ix2 c ⟨h.val * 256 + (128 + d.val), by omega⟩)
def qRow (b : Fin 8) (l : Fin 32) (h : Fin 16) (d : Fin 128) : EReal := x0 (ix4 b l h d)
def qPos (b : Fin 8) (l : Fin 32) (h : Fin 16) (d : Fin 64) : EReal := x1 (ix4 b l h d)

/-- The reference's scaled score. -/
abbrev rs (b : Fin 8) (h : Fin 16) (l : Fin 32) : Fin 1056 → EReal :=
  rScore (qRow x0 b l h) (qPos x1 b l h) (ckv x2 x4 b) (kpes x3 x5 b) (wKey x6 h) ((scale : ℝ) : EReal)

abbrev rowsJoined : List ((s : Shape) × (s.Idx → EReal)) := [⟨S8x1024x512, x2⟩, ⟨S8x32x512, x4⟩]
abbrev lanesJoined : List ((s : Shape) × (s.Idx → EReal)) := [⟨S8x1024x64, x3⟩, ⟨S8x32x64, x5⟩]

theorem ref_ckv (b : Fin 8) (k : Fin 1056) (c : Fin 512) : val_main_v0 (F := Ideal) x2 x4 (ix3 b k c) = ckv x2 x4 b k c := by
  unfold ckv
  by_cases h : k.val < 1024
  · rw [dif_pos h]
    exact concatenate_apply_piece (t := S8x1056x512) 1 (rowsJoined x2 x4) _ (ix3 b k c) 0 (by show 0 < 2; decide) S8x1024x512 _ rfl
      rfl 0 rfl (ix3 b ⟨k.val, h⟩ c) (fun a ha => match a with
        | ⟨0, _⟩ => rfl
        | ⟨1, _⟩ => absurd rfl ha
        | ⟨2, _⟩ => rfl) (show 0 + k.val = k.val by omega)
  · rw [dif_neg h]
    exact concatenate_apply_piece (t := S8x1056x512) 1 (rowsJoined x2 x4) _ (ix3 b k c) 1 (by show 1 < 2; decide) S8x32x512 _ rfl
      rfl 1024 rfl (ix3 b ⟨k.val - 1024, by omega⟩ c) (fun a ha => match a with
        | ⟨0, _⟩ => rfl
        | ⟨1, _⟩ => absurd rfl ha
        | ⟨2, _⟩ => rfl) (show 1024 + (k.val - 1024) = k.val by omega)

theorem ref_kpes (b : Fin 8) (k : Fin 1056) (c : Fin 64) : val_main_v1 (F := Ideal) x3 x5 (ix3 b k c) = kpes x3 x5 b k c := by
  unfold kpes
  by_cases h : k.val < 1024
  · rw [dif_pos h]
    exact concatenate_apply_piece (t := S8x1056x64) 1 (lanesJoined x3 x5) _ (ix3 b k c) 0 (by show 0 < 2; decide) S8x1024x64 _ rfl
      rfl 0 rfl (ix3 b ⟨k.val, h⟩ c) (fun a ha => match a with
        | ⟨0, _⟩ => rfl
        | ⟨1, _⟩ => absurd rfl ha
        | ⟨2, _⟩ => rfl) (show 0 + k.val = k.val by omega)
  · rw [dif_neg h]
    exact concatenate_apply_piece (t := S8x1056x64) 1 (lanesJoined x3 x5) _ (ix3 b k c) 1 (by show 1 < 2; decide) S8x32x64 _ rfl
      rfl 1024 rfl (ix3 b ⟨k.val - 1024, by omega⟩ c) (fun a ha => match a with
        | ⟨0, _⟩ => rfl
        | ⟨1, _⟩ => absurd rfl ha
        | ⟨2, _⟩ => rfl) (show 1024 + (k.val - 1024) = k.val by omega)

/-- The expanded rows, all heads' lanes. -/
theorem ref_expand (b : Fin 8) (k : Fin 1056) (h : Fin 16) (d : Fin 256) :
    val_main_v3 (F := Ideal) x2 x4 x6 (ix4 b k h d) = ∑ c : Fin 512, ckv x2 x4 b k c * x6 (ix2 c ⟨h.val * 256 + d.val, by omega⟩) := by
  rw [val_main_v3_apply, val_main_v2_apply]
  refine Finset.sum_congr rfl fun c _ => ?_
  have el : lidx_main_v2 (idx_main_v3 (ix4 b k h d)) c = ix3 b k c := by
    funext a
    apply Fin.ext
    match a with
    | ⟨0, _⟩ => show (((b.val * 1056 + k.val) * 16 + h.val) * 256 + d.val) / 4325376 = b.val; omega
    | ⟨1, _⟩ => show (((b.val * 1056 + k.val) * 16 + h.val) * 256 + d.val) / 4096 % 1056 = k.val; omega
    | ⟨2, _⟩ => rfl
  have er : ridx_main_v2 (idx_main_v3 (ix4 b k h d)) c = ix2 c ⟨h.val * 256 + d.val, by omega⟩ := by
    funext a
    apply Fin.ext
    match a with
    | ⟨0, _⟩ => rfl
    | ⟨1, _⟩ => show (((b.val * 1056 + k.val) * 16 + h.val) * 256 + d.val) % 4096 = h.val * 256 + d.val; omega
  rw [el, er, ref_ckv]

theorem ref_key (b : Fin 8) (k : Fin 1056) (h : Fin 16) (d : Fin 128) :
    val_main_v4 (F := Ideal) x2 x4 x6 (ix4 b k h d) = ∑ c : Fin 512, ckv x2 x4 b k c * wKey x6 h c d := by
  rw [val_main_v4_apply]
  have e : idx_main_v4 (ix4 b k h d) = ix4 b k h ⟨d.val, by omega⟩ := by
    funext a
    match a with
    | ⟨0, _⟩ => rfl
    | ⟨1, _⟩ => rfl
    | ⟨2, _⟩ => rfl
    | ⟨3, _⟩ => rfl
  rw [e]
  exact ref_expand x2 x4 x6 b k h ⟨d.val, by omega⟩

theorem ref_val (b : Fin 8) (k : Fin 1056) (h : Fin 16) (d : Fin 128) :
    val_main_v5 (F := Ideal) x2 x4 x6 (ix4 b k h d) = ∑ c : Fin 512, ckv x2 x4 b k c * wVal x6 h c d := by
  rw [val_main_v5_apply]
  have e : idx_main_v5 (ix4 b k h d) = ix4 b k h ⟨128 + d.val, by omega⟩ := by
    funext a
    match a with
    | ⟨0, _⟩ => rfl
    | ⟨1, _⟩ => rfl
    | ⟨2, _⟩ => rfl
    | ⟨3, _⟩ => rfl
  rw [e]
  exact ref_expand x2 x4 x6 b k h ⟨128 + d.val, by omega⟩

/-! ## The scores and the softmax -/

theorem ref_score (b : Fin 8) (h : Fin 16) (l : Fin 32) (k : Fin 1056) :
    val_main_v24 (F := Ideal) x0 x1 x2 x3 x4 x5 x6 (ix4 b h l k) = rs x0 x1 x2 x3 x4 x5 x6 b h l k := by
  rw [val_main_v24_apply, rmask_apply]
  show val_main_v18 (F := Ideal) x0 x1 x2 x3 x4 x5 x6 (ix4 b h l k) = _
  have hd : ∀ i, val_main_v17 (F := Ideal) i = ((Real.sqrt 192 : ℝ) : EReal) := fun i => by
    rw [val_main_v17_apply, val_main_v16_apply, val_main_cst_apply, ofBits_192, Ideal.hostUnary_sqrt_def, Ideal.sqrt_coe,
      if_neg (by norm_num)]
  rw [val_main_v18_apply, hd, Ideal.hostDivf_def, div_sqrt, val_main_v15_apply, val_main_v12_apply, val_main_v14_apply,
    val_main_v13_apply]
  have l2 : ∀ c, lidx_main_v12 (ix4 b h l k) c = ix4 b l h c := fun c => funext fun a => by
    match a with
    | ⟨0, _⟩ => rfl
    | ⟨1, _⟩ => rfl
    | ⟨2, _⟩ => rfl
    | ⟨3, _⟩ => rfl
  have r2 : ∀ c, ridx_main_v12 (ix4 b h l k) c = ix4 b k h c := fun c => funext fun a => by
    match a with
    | ⟨0, _⟩ => rfl
    | ⟨1, _⟩ => rfl
    | ⟨2, _⟩ => rfl
    | ⟨3, _⟩ => rfl
  have l3 : ∀ c, lidx_main_v13 (idx_main_v14 (ix4 b h l k)) c = ix3 b k c := fun c => funext fun a => by
    match a with
    | ⟨0, _⟩ => rfl
    | ⟨1, _⟩ => rfl
    | ⟨2, _⟩ => rfl
  have r3 : ∀ c, ridx_main_v13 (idx_main_v14 (ix4 b h l k)) c = ix4 b l h c := fun c => funext fun a => by
    match a with
    | ⟨0, _⟩ => rfl
    | ⟨1, _⟩ => rfl
    | ⟨2, _⟩ => rfl
    | ⟨3, _⟩ => rfl
  simp only [l2, r2, l3, r3, ref_key, ref_kpes]
  rfl

theorem ref_max (b : Fin 8) (h : Fin 16) (l : Fin 32) :
    val_main_v25 (F := Ideal) x0 x1 x2 x3 x4 x5 x6 (ix3 b h l) = Finset.univ.sup (rs x0 x1 x2 x3 x4 x5 x6 b h l) := by
  unfold val_main_v25
  have hr : S8x16x32x1056.Reduces [3] S8x16x32 := by decide
  rw [Host.reduce_eq_fold_single FloatOps.maximumf _ _ _ hr h_S_]
  have e : val_main_cst_3 (F := Ideal) (Shape.Idx.first h_S_) = (⊥ : EReal) := Tile.ofBits_ninf
  rw [e]
  refine Eq.trans ?_ (congrArg (Finset.fold max (⊥ : EReal) · (Finset.univ : Finset (Fin 1056)))
    (funext fun k => ref_score x0 x1 x2 x3 x4 x5 x6 b h l k))
  refine congrArg (Finset.fold max (⊥ : EReal) · (Finset.univ : Finset (Fin 1056))) (funext fun k => ?_)
  refine congrArg (val_main_v24 (F := Ideal) x0 x1 x2 x3 x4 x5 x6) ?_
  funext a
  match a with
  | ⟨0, _⟩ => rfl
  | ⟨1, _⟩ => rfl
  | ⟨2, _⟩ => rfl
  | ⟨3, _⟩ => rfl

theorem ref_exp (b : Fin 8) (h : Fin 16) (l : Fin 32) (k : Fin 1056) :
    val_main_v31 (F := Ideal) x0 x1 x2 x3 x4 x5 x6 (ix4 b h l k)
      = Ideal.exp (rs x0 x1 x2 x3 x4 x5 x6 b h l k - Finset.univ.sup (rs x0 x1 x2 x3 x4 x5 x6 b h l)) := by
  rw [val_main_v31_apply, Ideal.hostUnary_exp_def, val_main_v30_apply, ref_score, val_main_v29_apply, val_main_v28_apply,
    val_main_v27_apply]
  have i3 : (idx_main_v28 (idx_main_v29 (ix4 b h l k))) = ix3 b h l := by
    funext a
    match a with
    | ⟨0, _⟩ => rfl
    | ⟨1, _⟩ => rfl
    | ⟨2, _⟩ => rfl
  have e : val_main_v26 (F := Ideal) (ix3 b h l) = (⊥ : EReal) := (val_main_v26_apply (F := Ideal) _).trans Tile.ofBits_ninf
  rw [i3, ref_max, e, Ideal.maximumf_def, max_eq_right bot_le]
  rfl

theorem ref_weight (b : Fin 8) (h : Fin 16) (l : Fin 32) (k : Fin 1056) :
    val_main_v35 (F := Ideal) x0 x1 x2 x3 x4 x5 x6 (ix4 b h l k)
      = Ideal.div (Ideal.exp (rs x0 x1 x2 x3 x4 x5 x6 b h l k - Finset.univ.sup (rs x0 x1 x2 x3 x4 x5 x6 b h l)))
        (∑ k, Ideal.exp (rs x0 x1 x2 x3 x4 x5 x6 b h l k - Finset.univ.sup (rs x0 x1 x2 x3 x4 x5 x6 b h l))) := by
  rw [val_main_v35_apply, Ideal.hostDivf_def, ref_exp, val_main_v34_apply, val_main_v33_apply, val_main_v32_apply]
  have e : val_main_cst_5 (F := Ideal) (Shape.Idx.first h_S_) = (0 : EReal) := Ideal.ofBits_zero_f32
  rw [e, zero_add]
  congr 1
  refine Finset.sum_congr rfl fun j _ => Eq.trans ?_ (ref_exp x0 x1 x2 x3 x4 x5 x6 b h l j)
  refine congrArg (val_main_v31 (F := Ideal) x0 x1 x2 x3 x4 x5 x6) ?_
  funext a
  match a with
  | ⟨0, _⟩ => rfl
  | ⟨1, _⟩ => rfl
  | ⟨2, _⟩ => rfl
  | ⟨3, _⟩ => rfl

/-- The batch and query of a row, the head and lane of a column. -/
def rb (R : Fin 256) : Fin 8 := ⟨R.val / 32, by omega⟩
def rl (R : Fin 256) : Fin 32 := ⟨R.val % 32, by omega⟩
def ch (N : Fin 2048) : Fin 16 := ⟨N.val / 128, by omega⟩
def ce (N : Fin 2048) : Fin 128 := ⟨N.val % 128, by omega⟩

theorem ref_out (R : Fin 256) (N : Fin 2048) :
    val_main_v39 (F := Ideal) x0 x1 x2 x3 x4 x5 x6 (ix2 R N)
      = rOut (qRow x0 (rb R) (rl R) (ch N)) (qPos x1 (rb R) (rl R) (ch N)) (ckv x2 x4 (rb R)) (kpes x3 x5 (rb R)) (wKey x6 (ch N))
          (wVal x6 (ch N)) ((scale : ℝ) : EReal) (ce N) := by
  rw [val_main_v39_apply]
  show val_main_v38 (F := Ideal) x0 x1 x2 x3 x4 x5 x6 (ix2 R N) = _
  rw [val_main_v38_apply, val_main_v37_apply, val_main_v36_apply]
  unfold rOut
  refine Finset.sum_congr rfl fun k _ => ?_
  have el : lidx_main_v36 (idx_main_v37 (idx_main_v38 (ix2 R N))) k = ix4 (rb R) k (ch N) (ce N) := by
    funext a
    apply Fin.ext
    match a with
    | ⟨0, _⟩ => show (R.val * 2048 + N.val) / 65536 = R.val / 32; omega
    | ⟨1, _⟩ => rfl
    | ⟨2, _⟩ => show (R.val * 2048 + N.val) / 128 % 16 = N.val / 128; omega
    | ⟨3, _⟩ => show (R.val * 2048 + N.val) % 128 = N.val % 128; omega
  have er : ridx_main_v36 (idx_main_v37 (idx_main_v38 (ix2 R N))) k = ix4 (rb R) (ch N) (rl R) k := by
    funext a
    apply Fin.ext
    match a with
    | ⟨0, _⟩ => show (R.val * 2048 + N.val) / 65536 = R.val / 32; omega
    | ⟨1, _⟩ => show (R.val * 2048 + N.val) / 128 % 16 = N.val / 128; omega
    | ⟨2, _⟩ => show (R.val * 2048 + N.val) / 2048 % 32 = R.val % 32; omega
    | ⟨3, _⟩ => rfl
  rw [el, er, ref_val, ref_weight]

end

end Cert.SampleAttn

end
-- ==== Proof.SampleOps.lean ====
/- Operations of the attention over the cache read at an index: products, columns, sixteen stacked blocks, the mask, which
   admits every key, and the values between the scores and the weighted row. -/
module

public import proofs.«01_k».proof.Proof.SampleRef
public import proofs.«01_k».proof.Proof.Blocks
public import proofs.«01_k».proof.Proof.Gen.Kernel8Ideal.Value

@[expose] public section

set_option maxRecDepth 16384
set_option maxHeartbeats 400000

noncomputable section

namespace Cert.SampleAttn

open Cert.Kernel8Ideal Cert.Kernel8Ideal.Gen
open Idealize.ShloMosaic Idealize.ShloMosaic.ValueIdx
open Cert.RefValue (scale)

/-! ## Operations at an index -/

theorem dotNT {a b n : ℕ} (A : FVec Ideal (⟨2, ![a, n]⟩ : Shape) .bf16) (B : FVec Ideal (⟨2, ![b, n]⟩ : Shape) .bf16)
    (r : Fin a) (k : Fin b) :
    matmul (DotDims.transposedRhs a n b) none A B (constant ⟨2, ![a, b]⟩ .f32 0x00000000#32) (ix2 r k)
      = ∑ c : Fin n, A (ix2 r c) * B (ix2 k c) := by
  refine (Ideal.matmul_transposedRhs_apply none _ _ _ r k).trans ?_
  rw [constant_apply, Ideal.ofBits_zero_f32, zero_add]

theorem dotNN {a b n : ℕ} (A : FVec Ideal (⟨2, ![a, n]⟩ : Shape) .bf16) (B : FVec Ideal (⟨2, ![n, b]⟩ : Shape) .bf16)
    (r : Fin a) (k : Fin b) :
    matmul (DotDims.plain a n b) none A B (constant ⟨2, ![a, b]⟩ .f32 0x00000000#32) (ix2 r k)
      = ∑ c : Fin n, A (ix2 r c) * B (ix2 c k) := by
  refine (Ideal.matmul_plain_apply none _ _ _ r k).trans ?_
  rw [constant_apply, Ideal.ofBits_zero_f32, zero_add]

/-- A column spread along the rows. -/
theorem spread {n : ℕ} (x : FVec Ideal S512x1 .f32) (h : S512x1.Broadcasts ⟨2, ![512, n]⟩) (r : Fin 512) (j : Fin n) :
    broadcastTo ⟨2, ![512, n]⟩ x h (ix2 r j) = x (ix2 r 0) :=
  broadcastTo_apply x h (ix2 r j) (ix2 r 0) fun a => match a with
    | ⟨0, _⟩ => by
        show r.val = if (512 : ℕ) = 1 then 0 else _
        rw [if_neg (by decide)]; rfl
    | ⟨1, _⟩ => by
        show (0 : ℕ) = if (1 : ℕ) = 1 then 0 else _
        rw [if_pos rfl]

/-- A vector seen as a column. -/
theorem asCol (x : FVec Ideal S512 .f32) (h : S512.ShapeCasts S512x1) (r : Fin 512) :
    shapeCast S512x1 x h (ix2 r 0) = x (ix1 r) :=
  shapeCast_apply x h (ix2 r 0) (ix1 r) (by
    rw [Shape.rowMajor_val_one, Shape.rowMajor_val_two]
    show r.val = r.val * 1 + 0
    omega)

/-- A block with its leading unit axis dropped. -/
theorem dropLead {φ : FTy} {a b : ℕ} (x : FVec Ideal (⟨3, ![1, a, b]⟩ : Shape) φ)
    (h : (⟨3, ![1, a, b]⟩ : Shape).ShapeCasts ⟨2, ![a, b]⟩) (r : Fin a) (c : Fin b) :
    shapeCast ⟨2, ![a, b]⟩ x h (ix2 r c) = x (ix3 0 r c) := by
  refine (shapeCast_dropUnit_apply (![a, b]) x h (ix2 r c)).trans (congrArg x (funext fun d => ?_))
  match d with
  | ⟨0, _⟩ => rfl
  | ⟨1, _⟩ => rfl
  | ⟨2, _⟩ => rfl

theorem total {n : ℕ} (x : FVec Ideal (⟨2, ![512, n]⟩ : Shape) .f32) (h : (⟨2, ![512, n]⟩ : Shape).Reduces [1] S512)
    (hφ : FKind.Formats .f32) (hacc : (0x00000000#32 : BitVec 32) = FKind.add.neutral .f32 hφ) (r : Fin 512) :
    multiReduction .add [1] S512 x 0x00000000#32 h hφ hacc (ix1 r) = ∑ j : Fin n, x (ix2 r j) := by
  refine (Ideal.multiReduction_add_single x _ h hφ hacc (ix1 r)).trans (Finset.sum_congr rfl fun j _ => congrArg x ?_)
  funext d
  match d with
  | ⟨0, _⟩ => rfl
  | ⟨1, _⟩ => rfl

theorem largest {n : ℕ} (x : FVec Ideal (⟨2, ![512, n]⟩ : Shape) .f32) (h : (⟨2, ![512, n]⟩ : Shape).Reduces [1] S512)
    (hφ : FKind.Formats .f32) (hacc : (0xFF800000#32 : BitVec 32) = FKind.maximumf.neutral .f32 hφ) (r : Fin 512) :
    multiReduction .maximumf [1] S512 x 0xFF800000#32 h hφ hacc (ix1 r) = Finset.univ.sup fun j : Fin n => x (ix2 r j) := by
  refine (Ideal.multiReduction_maximumf_single x _ h hφ hacc (ix1 r)).trans ?_
  rw [Tile.ofBits_ninf, Softmax.fold_max_eq_sup]
  refine Finset.sup_congr rfl fun j _ => congrArg x ?_
  funext d
  match d with
  | ⟨0, _⟩ => rfl
  | ⟨1, _⟩ => rfl

/-- The kernel's named constant is the scale. -/
theorem named_scale : Named.named (F := Ideal) Cert.Kernel8Ideal.κ "scale" (φ := .f32) 0x3D93CD3A#32 = ((scale : ℝ) : EReal) :=
  IdealRules.named_const.ideal_named_scalar _ _ _ _ rfl

/-- Query `l` of head `H` among the stacked queries. -/
def row (H : Fin 16) (l : Fin 32) : Fin 512 := ⟨H.val * 32 + l.val, by omega⟩

/-! ## Sixteen blocks, stacked -/

abbrev stacked (n : ℕ) (p : Fin 16 → FVec Ideal (⟨2, ![32, n]⟩ : Shape) .bf16) : List ((s : Shape) × (s.Idx → EReal)) :=
  [⟨⟨2, ![32, n]⟩, p 0⟩, ⟨⟨2, ![32, n]⟩, p 1⟩, ⟨⟨2, ![32, n]⟩, p 2⟩, ⟨⟨2, ![32, n]⟩, p 3⟩, ⟨⟨2, ![32, n]⟩, p 4⟩, ⟨⟨2, ![32, n]⟩, p 5⟩, ⟨⟨2, ![32, n]⟩, p 6⟩, ⟨⟨2, ![32, n]⟩, p 7⟩, ⟨⟨2, ![32, n]⟩, p 8⟩, ⟨⟨2, ![32, n]⟩, p 9⟩, ⟨⟨2, ![32, n]⟩, p 10⟩, ⟨⟨2, ![32, n]⟩, p 11⟩, ⟨⟨2, ![32, n]⟩, p 12⟩, ⟨⟨2, ![32, n]⟩, p 13⟩, ⟨⟨2, ![32, n]⟩, p 14⟩, ⟨⟨2, ![32, n]⟩, p 15⟩]

theorem stacked_get (n : ℕ) (p : Fin 16 → FVec Ideal (⟨2, ![32, n]⟩ : Shape) .bf16) (H : Fin 16) :
    (stacked n p)[H.val]'(by show H.val < 16; omega) = ⟨⟨2, ![32, n]⟩, p H⟩ := by
  fin_cases H <;> rfl

theorem stacked_before (n : ℕ) (p : Fin 16 → FVec Ideal (⟨2, ![32, n]⟩ : Shape) .bf16) (H : Fin 16) :
    ((((stacked n p).take H.val).map (·.1)).map fun s : Shape =>
      if h : s.rank = (⟨2, ![512, n]⟩ : Shape).rank then s.size ((0 : Fin (⟨2, ![512, n]⟩ : Shape).rank).cast h.symm) else 0).sum = H.val * 32 := by
  have e : (stacked n p).map (·.1) = List.replicate 16 (⟨2, ![32, n]⟩ : Shape) := rfl
  have f : (if h : (⟨2, ![32, n]⟩ : Shape).rank = (⟨2, ![512, n]⟩ : Shape).rank
      then (⟨2, ![32, n]⟩ : Shape).size ((0 : Fin (⟨2, ![512, n]⟩ : Shape).rank).cast h.symm) else 0) = 32 := dif_pos rfl
  rw [List.map_take, e, List.take_replicate, List.map_replicate, List.sum_replicate, f, min_eq_left (by omega), smul_eq_mul]

/-- Row `32 H + l` of sixteen blocks of 32 rows is row `l` of block `H`. -/
theorem stack (n : ℕ) (p : Fin 16 → FVec Ideal (⟨2, ![32, n]⟩ : Shape) .bf16) (h) (H : Fin 16) (l : Fin 32) (c : Fin n) :
    (concatenate (⟨2, ![512, n]⟩ : Shape) 0 (stacked n p) h : FVec Ideal (⟨2, ![512, n]⟩ : Shape) .bf16)
      (ix2 (row H l) c) = p H (ix2 l c) :=
  concatenate_apply_piece (t := (⟨2, ![512, n]⟩ : Shape)) 0 (stacked n p) h (ix2 (row H l) c) H.val (by show H.val < 16; omega)
    (⟨2, ![32, n]⟩ : Shape) (p H) (stacked_get n p H) rfl (H.val * 32) (stacked_before n p H) (ix2 l c)
    (fun a ha => match a with
      | ⟨0, _⟩ => absurd rfl ha
      | ⟨1, _⟩ => rfl) rfl

/-! ## The masked and scaled scores -/

theorem pos_apply {n : ℕ} (h2 : (⟨3, ![16, 32, n]⟩ : Shape).ShapeCasts ⟨2, ![512, n]⟩) (h1) (H : Fin 16) (l : Fin 32) (k : Fin n) :
    shapeCast (⟨2, ![512, n]⟩ : Shape) (iota .tc (⟨3, ![16, 32, n]⟩ : Shape) 32 [1] h1) h2 (ix2 (row H l) k)
      = BitVec.ofNat 32 l.val := by
  refine (shapeCast_apply _ h2 _ (ix3 H l k) ?_).trans (iota_single_apply _ _ _ _ _ _)
  rw [Shape.rowMajor_val_three, Shape.rowMajor_val_two]
  rfl

theorem qword : ∀ l : Fin 32, IntOp.shrsi .vector (IntOp.addi (BitVec.ofNat 32 l.val) 1024#32) 6#32 = 16#32 := by decide +kernel
theorem word1 : ∀ k : Fin 1024, IntOp.cmpi .sle (IntOp.shrsi .vector (BitVec.ofNat 32 k.val) 6#32) 16#32 = 1#1 := by decide +kernel
theorem word2 : ∀ k : Fin 32, IntOp.cmpi .sle (IntOp.shrsi .vector (IntOp.addi (BitVec.ofNat 32 k.val) 1024#32) 6#32) 16#32 = 1#1 := by decide +kernel

theorem masked {s : Shape} (m : IVec s 1) (A B : FVec Ideal s .f32) (i : s.Idx) (h : m i = 1#1) : select m A B i = A i := by
  show Scalar.select (m i) (A i) (B i) = A i
  rw [h]
  rfl

theorem mask1 (H : Fin 16) (l : Fin 32) (k : Fin 1024) :
    cmpi .sle (shrsi (iota .tc S512x1024 32 [1] iota_S512x1024_d1_w32) (broadcast S512x1024 6#32))
      (shrsi (addi (shapeCast S512x1024 (iota .tc S16x32x1024 32 [1] iota_S16x32x1024_d1_w32) shapeCasts_S16x32x1024_S512x1024)
        (broadcast S512x1024 1024#32)) (broadcast S512x1024 6#32)) (ix2 (row H l) k) = 1#1 := by
  have e : shapeCast S512x1024 (iota .tc S16x32x1024 32 [1] iota_S16x32x1024_d1_w32) shapeCasts_S16x32x1024_S512x1024
      (ix2 (row H l) k) = BitVec.ofNat 32 l.val := pos_apply _ _ H l k
  have i : iota .tc S512x1024 32 [1] iota_S512x1024_d1_w32 (ix2 (row H l) k) = BitVec.ofNat 32 k.val := iota_single_apply _ _ _ _ _ _
  show IntOp.cmpi .sle (IntOp.shrsi .vector (iota .tc S512x1024 32 [1] iota_S512x1024_d1_w32 (ix2 (row H l) k)) 6#32)
      (IntOp.shrsi .vector (IntOp.addi (shapeCast S512x1024 (iota .tc S16x32x1024 32 [1] iota_S16x32x1024_d1_w32) shapeCasts_S16x32x1024_S512x1024
        (ix2 (row H l) k)) 1024#32) 6#32) = 1#1
  rw [e, i, qword]
  exact word1 k

theorem mask2 (H : Fin 16) (l : Fin 32) (k : Fin 32) :
    cmpi .sle (shrsi (addi (iota .tc S512x32 32 [1] iota_S512x32_d1_w32) (broadcast S512x32 1024#32)) (broadcast S512x32 6#32))
      (shrsi (addi (shapeCast S512x32 (iota .tc S16x32x32 32 [1] iota_S16x32x32_d1_w32) shapeCasts_S16x32x32_S512x32)
        (broadcast S512x32 1024#32)) (broadcast S512x32 6#32)) (ix2 (row H l) k) = 1#1 := by
  have e : shapeCast S512x32 (iota .tc S16x32x32 32 [1] iota_S16x32x32_d1_w32) shapeCasts_S16x32x32_S512x32
      (ix2 (row H l) k) = BitVec.ofNat 32 l.val := pos_apply _ _ H l k
  have i : iota .tc S512x32 32 [1] iota_S512x32_d1_w32 (ix2 (row H l) k) = BitVec.ofNat 32 k.val := iota_single_apply _ _ _ _ _ _
  show IntOp.cmpi .sle (IntOp.shrsi .vector (IntOp.addi (iota .tc S512x32 32 [1] iota_S512x32_d1_w32 (ix2 (row H l) k)) 1024#32) 6#32)
      (IntOp.shrsi .vector (IntOp.addi (shapeCast S512x32 (iota .tc S16x32x32 32 [1] iota_S16x32x32_d1_w32) shapeCasts_S16x32x32_S512x32
        (ix2 (row H l) k)) 1024#32) 6#32) = 1#1
  rw [e, i, qword l]
  exact word2 k

theorem scaled1 (X : FVec Ideal S512x1024 .f32) (H : Fin 16) (l : Fin 32) (k : Fin 1024) :
    k0_pay41 (F := Ideal) X (ix2 (row H l) k) = X (ix2 (row H l) k) * ((scale : ℝ) : EReal) := by
  unfold k0_pay41
  refine (masked _ _ _ _ (mask1 H l k)).trans ?_
  exact congrArg (X (ix2 (row H l) k) * ·) named_scale

theorem scaled2 (P : FVec Ideal S512x64 .bf16) (X : FVec Ideal S512x32 .f32) (Y : FVec Ideal S32x64 .f32) (H : Fin 16) (l : Fin 32) (k : Fin 32) :
    k0_pay42 (F := Ideal) P X Y (ix2 (row H l) k)
      = (X (ix2 (row H l) k) + ∑ r : Fin 64, P (ix2 (row H l) r) * Y (ix2 k r)) * ((scale : ℝ) : EReal) := by
  unfold k0_pay42
  refine (masked _ _ _ _ (mask2 H l k)).trans ?_
  refine congrArg₂ (· * ·) (congrArg (X (ix2 (row H l) k) + ·) ((dotNT (a := 512) (b := 32) (n := 64) _ _ (row H l) k).trans ?_)) named_scale
  rw [shapeCast_self]
  rfl

/-! ## From the scores to the weighted row -/

theorem pay43_apply (P : FVec Ideal S512x64 .bf16) (X : FVec Ideal S512x1024 .f32) (Y : FVec Ideal S512x32 .f32) (Z : FVec Ideal S32x64 .f32) (R : Fin 512) :
    k0_pay43 (F := Ideal) P X Y Z (ix2 R 0)
      = max (Finset.univ.sup fun k => k0_pay41 (F := Ideal) X (ix2 R k)) (Finset.univ.sup fun k => k0_pay42 (F := Ideal) P Y Z (ix2 R k)) := by
  unfold k0_pay43
  exact congrArg₂ max ((asCol _ _ R).trans (largest (n := 1024) _ _ _ _ R)) ((asCol _ _ R).trans (largest (n := 32) _ _ _ _ R))

theorem pay44_apply (P : FVec Ideal S512x64 .bf16) (X : FVec Ideal S512x1024 .f32) (Y : FVec Ideal S512x32 .f32) (Z : FVec Ideal S32x64 .f32) (R : Fin 512)
    (k : Fin 1024) : k0_pay44 (F := Ideal) P X Y Z (ix2 R k) = Ideal.exp (k0_pay41 (F := Ideal) X (ix2 R k) - k0_pay43 (F := Ideal) P X Y Z (ix2 R 0)) := by
  unfold k0_pay44
  generalize k0_pay41 (F := Ideal) X = A
  generalize k0_pay43 (F := Ideal) P X Y Z = M
  rw [← spread (n := 1024) M broadcasts_S512x1_S512x1024 R k]
  rfl

theorem pay45_apply (P : FVec Ideal S512x64 .bf16) (X : FVec Ideal S512x1024 .f32) (Y : FVec Ideal S512x32 .f32) (Z : FVec Ideal S32x64 .f32) (R : Fin 512)
    (k : Fin 32) : k0_pay45 (F := Ideal) P X Y Z (ix2 R k) = k0_pay42 (F := Ideal) P Y Z (ix2 R k) - k0_pay43 (F := Ideal) P X Y Z (ix2 R 0) := by
  unfold k0_pay45
  exact congrArg (fun t : EReal => k0_pay42 (F := Ideal) P Y Z (ix2 R k) - t) (spread (n := 32) _ _ R k)

theorem pay46_apply (C : FVec Ideal S1024x512 .bf16) (N : FVec Ideal S32x512 .bf16) (p : FVec Ideal S512x1024 .f32) (d : FVec Ideal S512x32 .f32) (R c : Fin 512) :
    k0_pay46 (F := Ideal) C N p d (ix2 R c)
      = Ideal.div ((∑ k : Fin 1024, p (ix2 R k) * C (ix2 k c)) + ∑ k : Fin 32, Ideal.exp (d (ix2 R k)) * N (ix2 k c))
          ((∑ k : Fin 1024, p (ix2 R k)) + ∑ k : Fin 32, Ideal.exp (d (ix2 R k))) := by
  unfold k0_pay46
  exact congrArg₂ Ideal.div (congrArg₂ (· + ·) (dotNN (a := 512) (b := 512) (n := 1024) _ _ R c) (dotNN (a := 512) (b := 512) (n := 32) _ _ R c))
    ((spread (n := 512) _ _ R c).trans (congrArg₂ (· + ·) ((asCol _ _ R).trans (total (n := 1024) _ _ _ _ R)) ((asCol _ _ R).trans (total (n := 32) _ _ _ _ R))))

end Cert.SampleAttn

end
-- ==== Proof.SampleBody.lean ====
/- The body of the attention over the cache, on blocks over the extended reals: the heads' queries in the compressed
   space, stacked, their scores against the cache and the new rows, and the weighted compressed row expanded by each head. -/
module

public import proofs.«01_k».proof.Proof.SampleOps

@[expose] public section

set_option maxRecDepth 16384
set_option maxHeartbeats 400000

noncomputable section

namespace Cert.SampleAttn

open Cert.Kernel8Ideal Cert.Kernel8Ideal.Gen
open Idealize.ShloMosaic Idealize.ShloMosaic.ValueIdx
open Cert.RefValue (scale)

/-! ## The operands of a row, from the blocks -/

section
variable (x0 : FVec Ideal S16x32x256 .bf16) (x1 : FVec Ideal S1x1024x512 .f32) (x2 : FVec Ideal S1x1024x64 .f32)
  (x3 : FVec Ideal S32x512 .f32) (x4 : FVec Ideal S32x128 .f32) (x5 : FVec Ideal S512x4096 .bf16)

def bq (H : Fin 16) (l : Fin 32) (d : Fin 128) : EReal := x0 (ix3 H l ⟨d.val, by omega⟩)
def bu (H : Fin 16) (l : Fin 32) (r : Fin 64) : EReal := x0 (ix3 H l ⟨128 + r.val, by omega⟩)
def bK (k : Fin 1056) (c : Fin 512) : EReal :=
  if h : k.val < 1024 then x1 (ix3 0 ⟨k.val, h⟩ c) else x3 (ix2 ⟨k.val - 1024, by omega⟩ c)
def bP (k : Fin 1056) (c : Fin 64) : EReal :=
  if h : k.val < 1024 then x2 (ix3 0 ⟨k.val, h⟩ c) else x4 (ix2 ⟨k.val - 1024, by omega⟩ ⟨c.val, by omega⟩)
def bA (H : Fin 16) (c : Fin 512) (d : Fin 128) : EReal := x5 (ix2 c ⟨H.val * 256 + d.val, by omega⟩)
def bV (H : Fin 16) (c : Fin 512) (d : Fin 128) : EReal := x5 (ix2 c ⟨H.val * 256 + (128 + d.val), by omega⟩)

theorem bK_lo (k : Fin 1024) (c : Fin 512) : bK x1 x3 (lo k) c = x1 (ix3 0 k c) := dif_pos k.isLt
theorem bK_hi (k : Fin 32) (c : Fin 512) : bK x1 x3 (hi k) c = x3 (ix2 k c) := by
  unfold bK hi
  rw [dif_neg (by show ¬ 1024 + k.val < 1024; omega)]
  refine congrArg x3 (congrArg (ix2 · c) (Fin.ext ?_))
  show 1024 + k.val - 1024 = k.val
  omega
theorem bP_lo (k : Fin 1024) (c : Fin 64) : bP x2 x4 (lo k) c = x2 (ix3 0 k c) := dif_pos k.isLt
theorem bP_hi (k : Fin 32) (c : Fin 64) : bP x2 x4 (hi k) c = x4 (ix2 k ⟨c.val, by omega⟩) := by
  unfold bP hi
  rw [dif_neg (by show ¬ 1024 + k.val < 1024; omega)]
  refine congrArg x4 (congrArg (ix2 · ⟨c.val, by omega⟩) (Fin.ext ?_))
  show 1024 + k.val - 1024 = k.val
  omega

/-! ## The stacked queries -/

/-- Head `H`'s query rows in the compressed space. -/
theorem qpiece (H o : ℕ) (hH : H < 16) (ho : o = H * 256) (inb0) (inb5) (l : Fin 32) (c : Fin 512) :
    (truncf .bf16 (matmul (φ₁ := .bf16) (φ₂ := .bf16) dot_S32x128_S512x128_S32x512_1_1_0_0_n_n none (shapeCast S32x128 (View.ld (Val := Elt Ideal) (e' := .bf16) x0 (Rect.unit (s := S16x32x256) ![H, 0, 0] S1x32x128.size inb0)) shapeCasts_S1x32x128_S32x128) (shapeCast S512x128 (View.ld (Val := Elt Ideal) (e' := .bf16) x5 (Rect.unit (s := S512x4096) ![0, o] S512x128.size inb5)) shapeCasts_S512x128_S512x128) (constant S32x512 .f32 0x00000000#32)) bitsLt_bf16_f32 : FVec Ideal S32x512 .bf16) (ix2 l c)
      = ∑ d : Fin 128, bq x0 ⟨H, hH⟩ l d * bA x5 ⟨H, hH⟩ c d := by
  refine (dotNT (a := 32) (b := 512) (n := 128) _ _ l c).trans (Finset.sum_congr rfl fun d _ => congrArg₂ (· * ·) ?_ ?_)
  · refine (dropLead _ _ l d).trans (congrArg x0 (funext fun a => Fin.ext ?_))
    refine (Rect.idx_unit_val (s := S16x32x256) (off := ![H, 0, 0]) (size := S1x32x128.size) (inb := inb0) (ix3 0 l d) a).trans ?_
    match a with
    | ⟨0, _⟩ => rfl
    | ⟨1, _⟩ => exact Nat.zero_add _
    | ⟨2, _⟩ => exact Nat.zero_add _
  · refine (congrFun (shapeCast_self (s := S512x128) _ _) (ix2 c d)).trans (congrArg x5 (funext fun a => Fin.ext ?_))
    refine (Rect.idx_unit_val (s := S512x4096) (off := ![0, o]) (size := S512x128.size) (inb := inb5) (ix2 c d) a).trans ?_
    match a with
    | ⟨0, _⟩ => exact Nat.zero_add _
    | ⟨1, _⟩ => show o + d.val = H * 256 + d.val; rw [ho]

/-- Its rotated lanes. -/
theorem upiece (H : ℕ) (hH : H < 16) (inb0) (l : Fin 32) (r : Fin 64) :
    (shapeCast S32x64 (View.ld (Val := Elt Ideal) (e' := .bf16) x0 (Rect.unit (s := S16x32x256) ![H, 0, 128] S1x32x64.size inb0)) shapeCasts_S1x32x64_S32x64 : FVec Ideal S32x64 .bf16) (ix2 l r) = bu x0 ⟨H, hH⟩ l r := by
  refine (dropLead _ _ l r).trans (congrArg x0 (funext fun a => Fin.ext ?_))
  refine (Rect.idx_unit_val (s := S16x32x256) (off := ![H, 0, 128]) (size := S1x32x64.size) (inb := inb0) (ix3 0 l r) a).trans ?_
  match a with
  | ⟨0, _⟩ => rfl
  | ⟨1, _⟩ => exact Nat.zero_add _
  | ⟨2, _⟩ => rfl

/-- All heads' queries in the compressed space. -/
def qAll : FVec Ideal S512x512 .bf16 :=
  k0_pay35 (F := Ideal) (k0_pay66 (F := Ideal) x0 x1 x2 x3 x4 x5) (k0_pay68 (F := Ideal) x0 x1 x2 x3 x4 x5) (k0_pay70 (F := Ideal) x0 x1 x2 x3 x4 x5) (k0_pay72 (F := Ideal) x0 x1 x2 x3 x4 x5) (k0_pay74 (F := Ideal) x0 x1 x2 x3 x4 x5) (k0_pay76 (F := Ideal) x0 x1 x2 x3 x4 x5) (k0_pay78 (F := Ideal) x0 x1 x2 x3 x4 x5) (k0_pay80 (F := Ideal) x0 x1 x2 x3 x4 x5) (k0_pay82 (F := Ideal) x0 x1 x2 x3 x4 x5) (k0_pay84 (F := Ideal) x0 x1 x2 x3 x4 x5) (k0_pay86 (F := Ideal) x0 x1 x2 x3 x4 x5) (k0_pay88 (F := Ideal) x0 x1 x2 x3 x4 x5) (k0_pay90 (F := Ideal) x0 x1 x2 x3 x4 x5) (k0_pay92 (F := Ideal) x0 x1 x2 x3 x4 x5) (View.ld x5 r0_42) (View.ld x0 r0_43) (View.ld x5 r0_45) (View.ld x0 r0_46)

theorem qAll_apply (H : Fin 16) (l : Fin 32) (c : Fin 512) :
    qAll x0 x1 x2 x3 x4 x5 (ix2 (row H l) c) = ∑ d : Fin 128, bq x0 H l d * bA x5 H c d := by
  refine (stack 512 ![(k0_pay66 (F := Ideal) x0 x1 x2 x3 x4 x5), (k0_pay68 (F := Ideal) x0 x1 x2 x3 x4 x5), (k0_pay70 (F := Ideal) x0 x1 x2 x3 x4 x5), (k0_pay72 (F := Ideal) x0 x1 x2 x3 x4 x5), (k0_pay74 (F := Ideal) x0 x1 x2 x3 x4 x5), (k0_pay76 (F := Ideal) x0 x1 x2 x3 x4 x5), (k0_pay78 (F := Ideal) x0 x1 x2 x3 x4 x5), (k0_pay80 (F := Ideal) x0 x1 x2 x3 x4 x5), (k0_pay82 (F := Ideal) x0 x1 x2 x3 x4 x5), (k0_pay84 (F := Ideal) x0 x1 x2 x3 x4 x5), (k0_pay86 (F := Ideal) x0 x1 x2 x3 x4 x5), (k0_pay88 (F := Ideal) x0 x1 x2 x3 x4 x5), (k0_pay90 (F := Ideal) x0 x1 x2 x3 x4 x5), (k0_pay92 (F := Ideal) x0 x1 x2 x3 x4 x5), (truncf .bf16 (matmul (φ₁ := .bf16) (φ₂ := .bf16) dot_S32x128_S512x128_S32x512_1_1_0_0_n_n none (shapeCast S32x128 (View.ld (Val := Elt Ideal) (e' := .bf16) x0 r0_43) shapeCasts_S1x32x128_S32x128) (shapeCast S512x128 (View.ld (Val := Elt Ideal) (e' := .bf16) x5 r0_42) shapeCasts_S512x128_S512x128) (constant S32x512 .f32 0x00000000#32)) bitsLt_bf16_f32 : FVec Ideal S32x512 .bf16), (truncf .bf16 (matmul (φ₁ := .bf16) (φ₂ := .bf16) dot_S32x128_S512x128_S32x512_1_1_0_0_n_n none (shapeCast S32x128 (View.ld (Val := Elt Ideal) (e' := .bf16) x0 r0_46) shapeCasts_S1x32x128_S32x128) (shapeCast S512x128 (View.ld (Val := Elt Ideal) (e' := .bf16) x5 r0_45) shapeCasts_S512x128_S512x128) (constant S32x512 .f32 0x00000000#32)) bitsLt_bf16_f32 : FVec Ideal S32x512 .bf16)] concatenates_S32x512_S32x512_S32x512_S32x512_S32x512_S32x512_S32x512_S32x512_S32x512_S32x512_S32x512_S32x512_S32x512_S32x512_S32x512_S32x512_S512x512_d0 H l c).trans ?_
  match H with
  | ⟨0, _⟩ => exact qpiece x0 x5 0 0 (by decide) rfl inb_S16x32x256_S1x32x128_0_0_0 inb_S512x4096_S512x128_0_0 l c
  | ⟨1, _⟩ => exact qpiece x0 x5 1 256 (by decide) rfl inb_S16x32x256_S1x32x128_1_0_0 inb_S512x4096_S512x128_0_256 l c
  | ⟨2, _⟩ => exact qpiece x0 x5 2 512 (by decide) rfl inb_S16x32x256_S1x32x128_2_0_0 inb_S512x4096_S512x128_0_512 l c
  | ⟨3, _⟩ => exact qpiece x0 x5 3 768 (by decide) rfl inb_S16x32x256_S1x32x128_3_0_0 inb_S512x4096_S512x128_0_768 l c
  | ⟨4, _⟩ => exact qpiece x0 x5 4 1024 (by decide) rfl inb_S16x32x256_S1x32x128_4_0_0 inb_S512x4096_S512x128_0_1024 l c
  | ⟨5, _⟩ => exact qpiece x0 x5 5 1280 (by decide) rfl inb_S16x32x256_S1x32x128_5_0_0 inb_S512x4096_S512x128_0_1280 l c
  | ⟨6, _⟩ => exact qpiece x0 x5 6 1536 (by decide) rfl inb_S16x32x256_S1x32x128_6_0_0 inb_S512x4096_S512x128_0_1536 l c
  | ⟨7, _⟩ => exact qpiece x0 x5 7 1792 (by decide) rfl inb_S16x32x256_S1x32x128_7_0_0 inb_S512x4096_S512x128_0_1792 l c
  | ⟨8, _⟩ => exact qpiece x0 x5 8 2048 (by decide) rfl inb_S16x32x256_S1x32x128_8_0_0 inb_S512x4096_S512x128_0_2048 l c
  | ⟨9, _⟩ => exact qpiece x0 x5 9 2304 (by decide) rfl inb_S16x32x256_S1x32x128_9_0_0 inb_S512x4096_S512x128_0_2304 l c
  | ⟨10, _⟩ => exact qpiece x0 x5 10 2560 (by decide) rfl inb_S16x32x256_S1x32x128_10_0_0 inb_S512x4096_S512x128_0_2560 l c
  | ⟨11, _⟩ => exact qpiece x0 x5 11 2816 (by decide) rfl inb_S16x32x256_S1x32x128_11_0_0 inb_S512x4096_S512x128_0_2816 l c
  | ⟨12, _⟩ => exact qpiece x0 x5 12 3072 (by decide) rfl inb_S16x32x256_S1x32x128_12_0_0 inb_S512x4096_S512x128_0_3072 l c
  | ⟨13, _⟩ => exact qpiece x0 x5 13 3328 (by decide) rfl inb_S16x32x256_S1x32x128_13_0_0 inb_S512x4096_S512x128_0_3328 l c
  | ⟨14, _⟩ => exact qpiece x0 x5 14 3584 (by decide) rfl inb_S16x32x256_S1x32x128_14_0_0 inb_S512x4096_S512x128_0_3584 l c
  | ⟨15, _⟩ => exact qpiece x0 x5 15 3840 (by decide) rfl inb_S16x32x256_S1x32x128_15_0_0 inb_S512x4096_S512x128_0_3840 l c
  | ⟨n + 16, h⟩ => exact absurd h (by omega)

theorem uAll_apply (H : Fin 16) (l : Fin 32) (r : Fin 64) :
    k0_pay94 (F := Ideal) x0 x1 x2 x3 x4 x5 (ix2 (row H l) r) = bu x0 H l r := by
  refine (stack 64 ![(k0_pay67 (F := Ideal) x0 x1 x2 x3 x4 x5), (k0_pay69 (F := Ideal) x0 x1 x2 x3 x4 x5), (k0_pay71 (F := Ideal) x0 x1 x2 x3 x4 x5), (k0_pay73 (F := Ideal) x0 x1 x2 x3 x4 x5), (k0_pay75 (F := Ideal) x0 x1 x2 x3 x4 x5), (k0_pay77 (F := Ideal) x0 x1 x2 x3 x4 x5), (k0_pay79 (F := Ideal) x0 x1 x2 x3 x4 x5), (k0_pay81 (F := Ideal) x0 x1 x2 x3 x4 x5), (k0_pay83 (F := Ideal) x0 x1 x2 x3 x4 x5), (k0_pay85 (F := Ideal) x0 x1 x2 x3 x4 x5), (k0_pay87 (F := Ideal) x0 x1 x2 x3 x4 x5), (k0_pay89 (F := Ideal) x0 x1 x2 x3 x4 x5), (k0_pay91 (F := Ideal) x0 x1 x2 x3 x4 x5), (k0_pay93 (F := Ideal) x0 x1 x2 x3 x4 x5), (shapeCast S32x64 (View.ld (Val := Elt Ideal) (e' := .bf16) x0 r0_44) shapeCasts_S1x32x64_S32x64 : FVec Ideal S32x64 .bf16), (shapeCast S32x64 (View.ld (Val := Elt Ideal) (e' := .bf16) x0 r0_47) shapeCasts_S1x32x64_S32x64 : FVec Ideal S32x64 .bf16)] concatenates_S32x64_S32x64_S32x64_S32x64_S32x64_S32x64_S32x64_S32x64_S32x64_S32x64_S32x64_S32x64_S32x64_S32x64_S32x64_S32x64_S512x64_d0 H l r).trans ?_
  match H with
  | ⟨0, _⟩ => exact upiece x0 0 (by decide) inb_S16x32x256_S1x32x64_0_0_128 l r
  | ⟨1, _⟩ => exact upiece x0 1 (by decide) inb_S16x32x256_S1x32x64_1_0_128 l r
  | ⟨2, _⟩ => exact upiece x0 2 (by decide) inb_S16x32x256_S1x32x64_2_0_128 l r
  | ⟨3, _⟩ => exact upiece x0 3 (by decide) inb_S16x32x256_S1x32x64_3_0_128 l r
  | ⟨4, _⟩ => exact upiece x0 4 (by decide) inb_S16x32x256_S1x32x64_4_0_128 l r
  | ⟨5, _⟩ => exact upiece x0 5 (by decide) inb_S16x32x256_S1x32x64_5_0_128 l r
  | ⟨6, _⟩ => exact upiece x0 6 (by decide) inb_S16x32x256_S1x32x64_6_0_128 l r
  | ⟨7, _⟩ => exact upiece x0 7 (by decide) inb_S16x32x256_S1x32x64_7_0_128 l r
  | ⟨8, _⟩ => exact upiece x0 8 (by decide) inb_S16x32x256_S1x32x64_8_0_128 l r
  | ⟨9, _⟩ => exact upiece x0 9 (by decide) inb_S16x32x256_S1x32x64_9_0_128 l r
  | ⟨10, _⟩ => exact upiece x0 10 (by decide) inb_S16x32x256_S1x32x64_10_0_128 l r
  | ⟨11, _⟩ => exact upiece x0 11 (by decide) inb_S16x32x256_S1x32x64_11_0_128 l r
  | ⟨12, _⟩ => exact upiece x0 12 (by decide) inb_S16x32x256_S1x32x64_12_0_128 l r
  | ⟨13, _⟩ => exact upiece x0 13 (by decide) inb_S16x32x256_S1x32x64_13_0_128 l r
  | ⟨14, _⟩ => exact upiece x0 14 (by decide) inb_S16x32x256_S1x32x64_14_0_128 l r
  | ⟨15, _⟩ => exact upiece x0 15 (by decide) inb_S16x32x256_S1x32x64_15_0_128 l r
  | ⟨n + 16, h⟩ => exact absurd h (by omega)

/-! ## The scores -/

theorem cache_apply (k : Fin 1024) (c : Fin 512) : k0_pay95 (F := Ideal) x0 x1 x2 x3 x4 x5 (ix2 k c) = bK x1 x3 (lo k) c := by
  rw [bK_lo]
  unfold k0_pay95
  rw [View.ld_unit_zero Cert.Blocks.zero3]
  exact dropLead _ _ k c

theorem new_apply (k : Fin 32) (c : Fin 512) : k0_pay96 (F := Ideal) x0 x1 x2 x3 x4 x5 (ix2 k c) = bK x1 x3 (hi k) c := by
  rw [bK_hi]
  unfold k0_pay96 k0_pay38
  rw [View.ld_unit_zero Cert.Blocks.zero2, shapeCast_self]
  rfl

theorem raw1_eq : k0_pay97 (F := Ideal) x0 x1 x2 x3 x4 x5
    = addf (matmul (φ₁ := .bf16) (φ₂ := .bf16) (DotDims.transposedRhs 512 512 1024) none (qAll x0 x1 x2 x3 x4 x5) (k0_pay95 (F := Ideal) x0 x1 x2 x3 x4 x5) (constant S512x1024 .f32 0x00000000#32))
      (matmul (φ₁ := .bf16) (φ₂ := .bf16) (DotDims.transposedRhs 512 64 1024) none (k0_pay94 (F := Ideal) x0 x1 x2 x3 x4 x5)
        (truncf .bf16 (shapeCast S1024x64 (View.ld (Val := Elt Ideal) (e' := .f32) x2 r0_50) shapeCasts_S1x1024x64_S1024x64) bitsLt_bf16_f32 : FVec Ideal S1024x64 .bf16)
        (constant S512x1024 .f32 0x00000000#32)) := rfl

theorem raw1_apply (H : Fin 16) (l : Fin 32) (k : Fin 1024) :
    k0_pay97 (F := Ideal) x0 x1 x2 x3 x4 x5 (ix2 (row H l) k)
      = (∑ c, (∑ d, bq x0 H l d * bA x5 H c d) * bK x1 x3 (lo k) c) + ∑ r, bu x0 H l r * bP x2 x4 (lo k) r := by
  rw [raw1_eq]
  refine congrArg₂ (· + ·) ((dotNT _ _ _ k).trans (Finset.sum_congr rfl fun c _ => ?_)) ((dotNT _ _ _ k).trans (Finset.sum_congr rfl fun r _ => ?_))
  · rw [qAll_apply, cache_apply]
  · rw [uAll_apply, bP_lo, View.ld_unit_zero Cert.Blocks.zero3]
    exact congrArg (bu x0 H l r * ·) (dropLead x2 _ k r)

theorem raw2_eq : k0_pay98 (F := Ideal) x0 x1 x2 x3 x4 x5
    = matmul (φ₁ := .bf16) (φ₂ := .bf16) (DotDims.transposedRhs 512 512 32) none (qAll x0 x1 x2 x3 x4 x5) (k0_pay96 (F := Ideal) x0 x1 x2 x3 x4 x5) (constant S512x32 .f32 0x00000000#32) := rfl

theorem raw2_apply (H : Fin 16) (l : Fin 32) (k : Fin 32) :
    k0_pay98 (F := Ideal) x0 x1 x2 x3 x4 x5 (ix2 (row H l) k) = ∑ c, (∑ d, bq x0 H l d * bA x5 H c d) * bK x1 x3 (hi k) c := by
  rw [raw2_eq]
  refine (dotNT _ _ _ k).trans (Finset.sum_congr rfl fun c _ => ?_)
  rw [qAll_apply, new_apply]

/-- The scores of query `l` of head `H`. -/
abbrev bs (H : Fin 16) (l : Fin 32) : Fin 1056 → EReal :=
  kScore (bq x0 H l) (bu x0 H l) (bK x1 x3) (bP x2 x4) (bA x5 H) ((scale : ℝ) : EReal)

theorem score1 (H : Fin 16) (l : Fin 32) (k : Fin 1024) :
    k0_pay41 (F := Ideal) (k0_pay97 (F := Ideal) x0 x1 x2 x3 x4 x5) (ix2 (row H l) k) = bs x0 x1 x2 x3 x4 x5 H l (lo k) := by
  rw [scaled1, raw1_apply]
  rfl

theorem score2 (H : Fin 16) (l : Fin 32) (k : Fin 32) :
    k0_pay42 (F := Ideal) (k0_pay94 (F := Ideal) x0 x1 x2 x3 x4 x5) (k0_pay98 (F := Ideal) x0 x1 x2 x3 x4 x5) (View.ld (Val := Elt Ideal) (e' := .f32) x4 r0_51) (ix2 (row H l) k)
      = bs x0 x1 x2 x3 x4 x5 H l (hi k) := by
  rw [scaled2, raw2_apply]
  refine congrArg (fun t : EReal => (_ + t) * ((scale : ℝ) : EReal)) (Finset.sum_congr rfl fun r _ => ?_)
  rw [uAll_apply, bP_hi]
  refine congrArg (bu x0 H l r * ·) (congrArg x4 (funext fun a => Fin.ext ?_))
  refine (Rect.idx_unit_val (s := S32x128) (off := ![0, 0]) (size := S32x64.size) (inb := inb_S32x128_S32x64_0_0) (ix2 k r) a).trans ?_
  match a with
  | ⟨0, _⟩ => exact Nat.zero_add _
  | ⟨1, _⟩ => exact Nat.zero_add _

/-! ## The weights and the weighted row -/

theorem max_apply (H : Fin 16) (l : Fin 32) :
    k0_pay43 (F := Ideal) (k0_pay94 (F := Ideal) x0 x1 x2 x3 x4 x5) (k0_pay97 (F := Ideal) x0 x1 x2 x3 x4 x5) (k0_pay98 (F := Ideal) x0 x1 x2 x3 x4 x5) (View.ld (Val := Elt Ideal) (e' := .f32) x4 r0_51)
      (ix2 (row H l) 0) = kMax (bs x0 x1 x2 x3 x4 x5 H l) := by
  rw [pay43_apply]
  exact congrArg₂ max (Finset.sup_congr rfl fun k _ => score1 x0 x1 x2 x3 x4 x5 H l k) (Finset.sup_congr rfl fun k _ => score2 x0 x1 x2 x3 x4 x5 H l k)

theorem weight1 (H : Fin 16) (l : Fin 32) (k : Fin 1024) :
    k0_pay99 (F := Ideal) x0 x1 x2 x3 x4 x5 (ix2 (row H l) k) = Ideal.exp (bs x0 x1 x2 x3 x4 x5 H l (lo k) - kMax (bs x0 x1 x2 x3 x4 x5 H l)) := by
  unfold k0_pay99
  rw [pay44_apply, score1, max_apply]

theorem weight2 (H : Fin 16) (l : Fin 32) (k : Fin 32) :
    Ideal.exp (k0_pay100 (F := Ideal) x0 x1 x2 x3 x4 x5 (ix2 (row H l) k)) = Ideal.exp (bs x0 x1 x2 x3 x4 x5 H l (hi k) - kMax (bs x0 x1 x2 x3 x4 x5 H l)) := by
  unfold k0_pay100
  rw [pay45_apply, score2, max_apply]

theorem row_apply (H : Fin 16) (l : Fin 32) (c : Fin 512) :
    k0_pay101 (F := Ideal) x0 x1 x2 x3 x4 x5 (ix2 (row H l) c) = kRow (bK x1 x3) (bs x0 x1 x2 x3 x4 x5 H l) c := by
  unfold k0_pay101
  rw [pay46_apply]
  simp only [weight1, weight2, cache_apply, new_apply]
  rfl

/-! ## The block of results -/

/-- The block: head `n / 128`'s rows, expanded. -/
def outBlock (M : FVec Ideal S512x512 .bf16) : FVec Ideal S32x2048 .bf16 :=
  fun y => ∑ c : Fin 512, M (ix2 (row (ch (y 1)) (y 0)) c) * bV x5 (ch (y 1)) c (ce (y 1))

theorem head (M : FVec Ideal S512x512 .bf16) (H s n o : ℕ) (hH : H < 16) (hs : s = H * 32) (hn : n = H * 128) (ho : o = H * 256 + 128)
    (h1 : S512x512.Slices ![s, 0] S32x512) (inb5) (inb) (x : S32x128.Idx) :
    (truncf .bf16 (matmul (φ₁ := .bf16) (φ₂ := .bf16) dot_S32x512_S512x128_S32x128_1_0_0_1_n_n none (extractStridedSlice S32x512 ![s, 0] M h1 : FVec Ideal S32x512 .bf16)
      (shapeCast S512x128 (View.ld (Val := Elt Ideal) (e' := .bf16) x5 (Rect.unit (s := S512x4096) ![0, o] S512x128.size inb5)) shapeCasts_S512x128_S512x128)
      (constant S32x128 .f32 0x00000000#32)) bitsLt_bf16_f32 : FVec Ideal S32x128 .bf16) x
      = outBlock x5 M ((Rect.unit (s := S32x2048) ![0, n] S32x128.size inb).emb x) := by
  obtain ⟨l, e, rfl⟩ : ∃ (l : Fin 32) (e : Fin 128), x = ix2 l e := ⟨x 0, x 1, ValueIdx.eq_ix2 (n0 := 32) (n1 := 128) x⟩
  have v : ∀ a : Fin 2, (((Rect.unit (s := S32x2048) ![0, n] S32x128.size inb).emb (ix2 l e) a : Fin _) : ℕ)
      = (![0, n] : Fin 2 → ℕ) a + (ix2 l e a).val := fun a =>
    Rect.idx_unit_val (s := S32x2048) (off := ![0, n]) (size := S32x128.size) (inb := inb) (ix2 l e) a
  have ee : (Rect.unit (s := S32x2048) ![0, n] S32x128.size inb).emb (ix2 l e) = ix2 l (⟨H * 128 + e.val, by omega⟩ : Fin 2048) := by
    funext a
    apply Fin.ext
    match a with
    | ⟨0, _⟩ => exact (v 0).trans (Nat.zero_add _)
    | ⟨1, _⟩ => refine (v 1).trans ?_; show n + e.val = H * 128 + e.val; rw [hn]
  rw [ee]
  have hc : ch (⟨H * 128 + e.val, by omega⟩ : Fin 2048) = ⟨H, hH⟩ := Fin.ext (by show (H * 128 + e.val) / 128 = H; omega)
  have he : ce (⟨H * 128 + e.val, by omega⟩ : Fin 2048) = e := Fin.ext (by show (H * 128 + e.val) % 128 = e.val; omega)
  refine (dotNN (a := 32) (b := 128) (n := 512) _ _ l e).trans ?_
  show _ = ∑ c : Fin 512, M (ix2 (row (ch (⟨H * 128 + e.val, _⟩ : Fin 2048)) l) c)
    * bV x5 (ch (⟨H * 128 + e.val, _⟩ : Fin 2048)) c (ce (⟨H * 128 + e.val, _⟩ : Fin 2048))
  rw [he]
  refine Finset.sum_congr rfl fun c _ => congrArg₂ (· * ·) ?_ ?_
  · refine extractStridedSlice_apply (s := S512x512) (t := S32x512) ![s, 0] M h1 (ix2 l c) _ fun a => ?_
    match a with
    | ⟨0, _⟩ => show (ch (⟨H * 128 + e.val, _⟩ : Fin 2048)).val * 32 + l.val = s + l.val; rw [hc, hs]
    | ⟨1, _⟩ => exact (Nat.zero_add _).symm
  · rw [hc]
    refine (congrFun (shapeCast_self (s := S512x128) _ _) (ix2 c e)).trans (congrArg x5 (funext fun a => Fin.ext ?_))
    refine (Rect.idx_unit_val (s := S512x4096) (off := ![0, o]) (size := S512x128.size) (inb := inb5) (ix2 c e) a).trans ?_
    match a with
    | ⟨0, _⟩ => exact Nat.zero_add _
    | ⟨1, _⟩ => show o + e.val = H * 256 + (128 + e.val); omega

theorem out_eq (y : S32x2048.Idx) : out0_6 (F := Ideal) x0 x1 x2 x3 x4 x5 y = outBlock x5 (k0_pay101 (F := Ideal) x0 x1 x2 x3 x4 x5) y := by
  unfold out0_6
  refine View.canon_apply_of_pieces _ _ ?_ y (cover0_6 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · exact fun x => head x5 (k0_pay101 (F := Ideal) x0 x1 x2 x3 x4 x5) 15 480 1920 3968 (by decide) rfl rfl rfl slices_S512x512_o480_0_S32x512 inb_S512x4096_S512x128_0_3968 inb_S32x2048_S32x128_0_1920 x
  · exact fun x => head x5 (k0_pay101 (F := Ideal) x0 x1 x2 x3 x4 x5) 14 448 1792 3712 (by decide) rfl rfl rfl slices_S512x512_o448_0_S32x512 inb_S512x4096_S512x128_0_3712 inb_S32x2048_S32x128_0_1792 x
  · exact fun x => head x5 (k0_pay101 (F := Ideal) x0 x1 x2 x3 x4 x5) 13 416 1664 3456 (by decide) rfl rfl rfl slices_S512x512_o416_0_S32x512 inb_S512x4096_S512x128_0_3456 inb_S32x2048_S32x128_0_1664 x
  · exact fun x => head x5 (k0_pay101 (F := Ideal) x0 x1 x2 x3 x4 x5) 12 384 1536 3200 (by decide) rfl rfl rfl slices_S512x512_o384_0_S32x512 inb_S512x4096_S512x128_0_3200 inb_S32x2048_S32x128_0_1536 x
  · exact fun x => head x5 (k0_pay101 (F := Ideal) x0 x1 x2 x3 x4 x5) 11 352 1408 2944 (by decide) rfl rfl rfl slices_S512x512_o352_0_S32x512 inb_S512x4096_S512x128_0_2944 inb_S32x2048_S32x128_0_1408 x
  · exact fun x => head x5 (k0_pay101 (F := Ideal) x0 x1 x2 x3 x4 x5) 10 320 1280 2688 (by decide) rfl rfl rfl slices_S512x512_o320_0_S32x512 inb_S512x4096_S512x128_0_2688 inb_S32x2048_S32x128_0_1280 x
  · exact fun x => head x5 (k0_pay101 (F := Ideal) x0 x1 x2 x3 x4 x5) 9 288 1152 2432 (by decide) rfl rfl rfl slices_S512x512_o288_0_S32x512 inb_S512x4096_S512x128_0_2432 inb_S32x2048_S32x128_0_1152 x
  · exact fun x => head x5 (k0_pay101 (F := Ideal) x0 x1 x2 x3 x4 x5) 8 256 1024 2176 (by decide) rfl rfl rfl slices_S512x512_o256_0_S32x512 inb_S512x4096_S512x128_0_2176 inb_S32x2048_S32x128_0_1024 x
  · exact fun x => head x5 (k0_pay101 (F := Ideal) x0 x1 x2 x3 x4 x5) 7 224 896 1920 (by decide) rfl rfl rfl slices_S512x512_o224_0_S32x512 inb_S512x4096_S512x128_0_1920 inb_S32x2048_S32x128_0_896 x
  · exact fun x => head x5 (k0_pay101 (F := Ideal) x0 x1 x2 x3 x4 x5) 6 192 768 1664 (by decide) rfl rfl rfl slices_S512x512_o192_0_S32x512 inb_S512x4096_S512x128_0_1664 inb_S32x2048_S32x128_0_768 x
  · exact fun x => head x5 (k0_pay101 (F := Ideal) x0 x1 x2 x3 x4 x5) 5 160 640 1408 (by decide) rfl rfl rfl slices_S512x512_o160_0_S32x512 inb_S512x4096_S512x128_0_1408 inb_S32x2048_S32x128_0_640 x
  · exact fun x => head x5 (k0_pay101 (F := Ideal) x0 x1 x2 x3 x4 x5) 4 128 512 1152 (by decide) rfl rfl rfl slices_S512x512_o128_0_S32x512 inb_S512x4096_S512x128_0_1152 inb_S32x2048_S32x128_0_512 x
  · exact fun x => head x5 (k0_pay101 (F := Ideal) x0 x1 x2 x3 x4 x5) 3 96 384 896 (by decide) rfl rfl rfl slices_S512x512_o96_0_S32x512 inb_S512x4096_S512x128_0_896 inb_S32x2048_S32x128_0_384 x
  · exact fun x => head x5 (k0_pay101 (F := Ideal) x0 x1 x2 x3 x4 x5) 2 64 256 640 (by decide) rfl rfl rfl slices_S512x512_o64_0_S32x512 inb_S512x4096_S512x128_0_640 inb_S32x2048_S32x128_0_256 x
  · exact fun x => head x5 (k0_pay101 (F := Ideal) x0 x1 x2 x3 x4 x5) 1 32 128 384 (by decide) rfl rfl rfl slices_S512x512_o32_0_S32x512 inb_S512x4096_S512x128_0_384 inb_S32x2048_S32x128_0_128 x
  · exact fun x => head x5 (k0_pay101 (F := Ideal) x0 x1 x2 x3 x4 x5) 0 0 0 128 (by decide) rfl rfl rfl slices_S512x512_o0_0_S32x512 inb_S512x4096_S512x128_0_128 inb_S32x2048_S32x128_0_0 x

/-- A point's results are the kernel's rows of its blocks. -/
theorem out_apply (l : Fin 32) (N : Fin 2048) : out0_6 (F := Ideal) x0 x1 x2 x3 x4 x5 (ix2 l N)
    = kOut (bq x0 (ch N) l) (bu x0 (ch N) l) (bK x1 x3) (bP x2 x4) (bA x5 (ch N)) (bV x5 (ch N)) ((scale : ℝ) : EReal) (ce N) := by
  rw [out_eq]
  exact Finset.sum_congr rfl fun c _ => congrArg (· * bV x5 (ch N) c (ce N)) (row_apply x0 x1 x2 x3 x4 x5 (ch N) l c)

end

end Cert.SampleAttn

end
-- ==== Proof.SampleValue.lean ====
/- The attention over the cache: the call's blocks as parts of its arguments, and what its run leaves in the result. -/
module

public import proofs.«01_k».proof.Proof.SampleBody

@[expose] public section

set_option maxRecDepth 16384
set_option maxHeartbeats 400000

noncomputable section

namespace Cert.SampleAttn

open Cert.Kernel8Ideal Cert.Kernel8Ideal.Gen
open Idealize.ShloMosaic
open Idealize.ShloMosaic.ValueIdx Idealize.ShloMosaic.TcCoe
open Cert.RefValue (scale)

/-! ## The result -/

section
variable (a0 : FVec Ideal S8x32x16x128 .f32) (a1 : FVec Ideal S8x32x16x64 .f32) (a2 : FVec Ideal S8x1024x512 .f32)
  (a3 : FVec Ideal S8x1024x64 .f32) (a4 : FVec Ideal S8x32x512 .f32) (a5 : FVec Ideal S8x32x64 .f32) (a6 : FVec Ideal S512x4096 .f32)

/-- Row `R` is query `R % 32` of sequence `R / 32`, column `N` lane `N % 128` of head `N / 128`. -/
def outAt (R : Fin 256) (N : Fin 2048) : EReal :=
  kOut (qRow a0 (rb R) (rl R) (ch N)) (qPos a1 (rb R) (rl R) (ch N)) (ckv a2 a4 (rb R)) (kpes a3 a5 (rb R)) (wKey a6 (ch N)) (wVal a6 (ch N))
    ((scale : ℝ) : EReal) (ce N)
def outBuf : FVec Ideal S256x2048 .bf16 := fun i => outAt a0 a1 a2 a3 a4 a5 a6 (i 0) (i 1)

/-! ## The arguments as the call reads them -/

/-- A query's own lanes and its rotated lanes, padded, side by side. -/
def beside : FVec Ideal S8x32x16x256 .f32 :=
  concatenate S8x32x16x256 3
    [⟨S8x32x16x128, a0⟩,
      ⟨S8x32x16x128, pad S8x32x16x128 ![0, 0, 0, 0] ![0, 0, 0, 64] ![0, 0, 0, 0] a1 (sitofp .f32 (constantI S_ 32 0#32) : FVec Ideal S_ .f32)
        pads_S8x32x16x64_S8x32x16x128_000_000_000_0640 h_S_⟩]
    concatenates_S8x32x16x128_S8x32x16x128_S8x32x16x256_d3

theorem beside_own (b : Fin 8) (l : Fin 32) (h : Fin 16) (d : Fin 128) : beside a0 a1 (ix4 b l h ⟨d.val, by omega⟩) = a0 (ix4 b l h d) :=
  concatenate_pair_apply_left (t := S8x32x16x256) _ a0 _ _ (ix4 b l h (⟨d.val, by omega⟩ : Fin 256)) rfl (ix4 b l h d) fun a => match a with
    | ⟨0, _⟩ => rfl
    | ⟨1, _⟩ => rfl
    | ⟨2, _⟩ => rfl
    | ⟨3, _⟩ => rfl

theorem beside_rotated (b : Fin 8) (l : Fin 32) (h : Fin 16) (d : Fin 64) :
    beside a0 a1 (ix4 b l h ⟨128 + d.val, by omega⟩) = a1 (ix4 b l h d) := by
  refine (concatenate_pair_apply_right (t := S8x32x16x256) (s₂ := S8x32x16x128) _ a0 _ _ (ix4 b l h (⟨128 + d.val, by omega⟩ : Fin 256)) rfl rfl
    (ix4 b l h (⟨d.val, by omega⟩ : Fin 128)) (fun a ha => ?_) ?_).trans ?_
  · match a with
    | ⟨0, _⟩ => rfl
    | ⟨1, _⟩ => rfl
    | ⟨2, _⟩ => rfl
    | ⟨3, _⟩ => exact absurd rfl ha
  · show d.val + 128 = 128 + d.val
    omega
  · exact pad_apply_of_inside _ _ _ a1 _ _ _ _ (ix4 b l h d) fun a => match a with
      | ⟨0, _⟩ => by show b.val = 0 + b.val * 1; omega
      | ⟨1, _⟩ => by show l.val = 0 + l.val * 1; omega
      | ⟨2, _⟩ => by show h.val = 0 + h.val * 1; omega
      | ⟨3, _⟩ => by show d.val = 0 + d.val * 1; omega

/-- Heads first, the sequences' queries one after the other. -/
theorem heads_apply (x : FVec Ideal S8x32x16x256 .f32) (b : Fin 8) (l : Fin 32) (h : Fin 16) (n : Fin 256) (R : Fin 256) (hR : R.val = b.val * 32 + l.val) :
    shapeCast S16x256x256 (transpose S16x8x32x256 [2, 0, 1, 3] x transposes_S8x32x16x256_S16x8x32x256_2_0_1_3) shapeCasts_S16x8x32x256_S16x256x256 (ix3 h R n)
      = x (ix4 b l h n) := by
  refine (shapeCast_apply _ _ (ix3 h R n) (ix4 h b l n) ?_).trans
    (transpose_apply _ x _ (ix4 h b l n) (ix4 b l h n) fun a => match a with
      | ⟨0, _⟩ => rfl
      | ⟨1, _⟩ => rfl
      | ⟨2, _⟩ => rfl
      | ⟨3, _⟩ => rfl)
  rw [Shape.rowMajor_val_four, Shape.rowMajor_val_three]
  show ((h.val * 8 + b.val) * 32 + l.val) * 256 + n.val = (h.val * 256 + R.val) * 256 + n.val
  omega

/-- The sequences' rows one after the other. -/
theorem rows_apply {n : ℕ} (x : FVec Ideal (⟨3, ![8, 32, n]⟩ : Shape) .f32) (h) (b : Fin 8) (l : Fin 32) (c : Fin n) (R : Fin 256) (hR : R.val = b.val * 32 + l.val) :
    shapeCast (⟨2, ![256, n]⟩ : Shape) x h (ix2 R c) = x (ix3 b l c) := by
  refine shapeCast_apply _ h (ix2 R c) (ix3 b l c) ?_
  rw [Shape.rowMajor_val_three, Shape.rowMajor_val_two]
  show (b.val * 32 + l.val) * n + c.val = R.val * n + c.val
  rw [hR]

theorem padded_apply (b : Fin 8) (l : Fin 32) (d : Fin 64) (R : Fin 256) (hR : R.val = b.val * 32 + l.val) :
    pad S256x128 ![0, 0] ![0, 64] ![0, 0] (shapeCast S256x64 a5 shapeCasts_S8x32x64_S256x64 : FVec Ideal S256x64 .f32)
      (sitofp .f32 (constantI S_ 32 0#32) : FVec Ideal S_ .f32) pads_S256x64_S256x128_000_0640 h_S_ (ix2 R ⟨d.val, by omega⟩) = a5 (ix3 b l d) := by
  refine (pad_apply_of_inside _ _ _ _ _ _ _ (ix2 R ⟨d.val, by omega⟩) (ix2 R d) fun a => match a with
    | ⟨0, _⟩ => ?_
    | ⟨1, _⟩ => ?_).trans (rows_apply a5 _ b l d R hR)
  · show R.val = 0 + R.val * 1; omega
  · show d.val = 0 + d.val * 1; omega

end

/-! ## The blocks of a point -/

theorem index0 : ∀ t : Fin grid0.N, win0_0.index t 0 = 0 ∧ win0_0.index t 1 = t.val ∧ win0_0.index t 2 = 0 := by decide +kernel
theorem index1 : ∀ t : Fin grid0.N, win0_1.index t 0 = t.val ∧ win0_1.index t 1 = 0 ∧ win0_1.index t 2 = 0 := by decide +kernel
theorem index2 : ∀ t : Fin grid0.N, win0_2.index t 0 = t.val ∧ win0_2.index t 1 = 0 ∧ win0_2.index t 2 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel

theorem read0 (X : FVec Ideal S16x256x256 .bf16) (t : Fin cfg0.N) (r : Fin 16) (n : Fin 32) (o : Fin 256) (R : Fin 16) (N : Fin 256) (O : Fin 256)
    (hR : R.val = (0) * 16 + r.val) (hN : N.val = (t.val) * 32 + n.val) (hO : O.val = (0) * 256 + o.val) :
    (((cfg0.win 0).blk t).view.read (Elt Ideal) X : FVec Ideal S16x32x256 .bf16) (ix3 r n o) = X (ix3 R N O) := by
  show X ((win0_0.rect t).emb (ix3 r n o)) = _
  refine congrArg X (funext fun a => Fin.ext ?_)
  refine (win0_0.rect_emb_val t _ a).trans ?_
  match a with
  | ⟨0, _⟩ => show win0_0.index t 0 * 16 + r.val = R.val; rw [(index0 t).1, hR]
  | ⟨1, _⟩ => show win0_0.index t 1 * 32 + n.val = N.val; rw [(index0 t).2.1, hN]
  | ⟨2, _⟩ => show win0_0.index t 2 * 256 + o.val = O.val; rw [(index0 t).2.2, hO]

theorem read1 (X : FVec Ideal S8x1024x512 .f32) (t : Fin cfg0.N) (r : Fin 1) (n : Fin 1024) (o : Fin 512) (R : Fin 8) (N : Fin 1024) (O : Fin 512)
    (hR : R.val = (t.val) * 1 + r.val) (hN : N.val = (0) * 1024 + n.val) (hO : O.val = (0) * 512 + o.val) :
    (((cfg0.win 1).blk t).view.read (Elt Ideal) X : FVec Ideal S1x1024x512 .f32) (ix3 r n o) = X (ix3 R N O) := by
  show X ((win0_1.rect t).emb (ix3 r n o)) = _
  refine congrArg X (funext fun a => Fin.ext ?_)
  refine (win0_1.rect_emb_val t _ a).trans ?_
  match a with
  | ⟨0, _⟩ => show win0_1.index t 0 * 1 + r.val = R.val; rw [(index1 t).1, hR]
  | ⟨1, _⟩ => show win0_1.index t 1 * 1024 + n.val = N.val; rw [(index1 t).2.1, hN]
  | ⟨2, _⟩ => show win0_1.index t 2 * 512 + o.val = O.val; rw [(index1 t).2.2, hO]

theorem read2 (X : FVec Ideal S8x1024x64 .f32) (t : Fin cfg0.N) (r : Fin 1) (n : Fin 1024) (o : Fin 64) (R : Fin 8) (N : Fin 1024) (O : Fin 64)
    (hR : R.val = (t.val) * 1 + r.val) (hN : N.val = (0) * 1024 + n.val) (hO : O.val = (0) * 64 + o.val) :
    (((cfg0.win 2).blk t).view.read (Elt Ideal) X : FVec Ideal S1x1024x64 .f32) (ix3 r n o) = X (ix3 R N O) := by
  show X ((win0_2.rect t).emb (ix3 r n o)) = _
  refine congrArg X (funext fun a => Fin.ext ?_)
  refine (win0_2.rect_emb_val t _ a).trans ?_
  match a with
  | ⟨0, _⟩ => show win0_2.index t 0 * 1 + r.val = R.val; rw [(index2 t).1, hR]
  | ⟨1, _⟩ => show win0_2.index t 1 * 1024 + n.val = N.val; rw [(index2 t).2.1, hN]
  | ⟨2, _⟩ => show win0_2.index t 2 * 64 + o.val = O.val; rw [(index2 t).2.2, hO]

theorem read3 (X : FVec Ideal S256x512 .f32) (t : Fin cfg0.N) (r : Fin 32) (n : Fin 512) (R : Fin 256) (N : Fin 512)
    (hR : R.val = (t.val) * 32 + r.val) (hN : N.val = (0) * 512 + n.val) :
    (((cfg0.win 3).blk t).view.read (Elt Ideal) X : FVec Ideal S32x512 .f32) (ix2 r n) = X (ix2 R N) := by
  show X ((win0_3.rect t).emb (ix2 r n)) = _
  refine congrArg X (funext fun a => Fin.ext ?_)
  refine (win0_3.rect_emb_val t _ a).trans ?_
  match a with
  | ⟨0, _⟩ => show win0_3.index t 0 * 32 + r.val = R.val; rw [(index3 t).1, hR]
  | ⟨1, _⟩ => show win0_3.index t 1 * 512 + n.val = N.val; rw [(index3 t).2, hN]

theorem read4 (X : FVec Ideal S256x128 .f32) (t : Fin cfg0.N) (r : Fin 32) (n : Fin 128) (R : Fin 256) (N : Fin 128)
    (hR : R.val = (t.val) * 32 + r.val) (hN : N.val = (0) * 128 + n.val) :
    (((cfg0.win 4).blk t).view.read (Elt Ideal) X : FVec Ideal S32x128 .f32) (ix2 r n) = X (ix2 R N) := by
  show X ((win0_4.rect t).emb (ix2 r n)) = _
  refine congrArg X (funext fun a => Fin.ext ?_)
  refine (win0_4.rect_emb_val t _ a).trans ?_
  match a with
  | ⟨0, _⟩ => show win0_4.index t 0 * 32 + r.val = R.val; rw [(index4 t).1, hR]
  | ⟨1, _⟩ => show win0_4.index t 1 * 128 + n.val = N.val; rw [(index4 t).2, hN]

theorem read5 (X : FVec Ideal S512x4096 .bf16) (t : Fin cfg0.N) (r : Fin 512) (n : Fin 4096) (R : Fin 512) (N : Fin 4096)
    (hR : R.val = (0) * 512 + r.val) (hN : N.val = (0) * 4096 + n.val) :
    (((cfg0.win 5).blk t).view.read (Elt Ideal) X : FVec Ideal S512x4096 .bf16) (ix2 r n) = X (ix2 R N) := by
  show X ((win0_5.rect t).emb (ix2 r n)) = _
  refine congrArg X (funext fun a => Fin.ext ?_)
  refine (win0_5.rect_emb_val t _ a).trans ?_
  match a with
  | ⟨0, _⟩ => show win0_5.index t 0 * 512 + r.val = R.val; rw [(index5 t).1, hR]
  | ⟨1, _⟩ => show win0_5.index t 1 * 4096 + n.val = N.val; rw [(index5 t).2, hN]

theorem read6 (X : FVec Ideal S256x2048 .bf16) (t : Fin cfg0.N) (r : Fin 32) (n : Fin 2048) (R : Fin 256) (N : Fin 2048)
    (hR : R.val = (t.val) * 32 + r.val) (hN : N.val = (0) * 2048 + n.val) :
    (((cfg0.win 6).blk t).view.read (Elt Ideal) X : FVec Ideal S32x2048 .bf16) (ix2 r n) = X (ix2 R N) := by
  show X ((win0_6.rect t).emb (ix2 r n)) = _
  refine congrArg X (funext fun a => Fin.ext ?_)
  refine (win0_6.rect_emb_val t _ a).trans ?_
  match a with
  | ⟨0, _⟩ => show win0_6.index t 0 * 32 + r.val = R.val; rw [(index6 t).1, hR]
  | ⟨1, _⟩ => show win0_6.index t 1 * 2048 + n.val = N.val; rw [(index6 t).2, hN]

/-! ## The run -/

variable (m : (ℓ : Loc nD τ sig) → Buf (Elt Ideal) ℓ) (c : Dev nD)

abbrev g0 : FVec Ideal S8x32x16x128 .f32 := m ((c : Thread nD τ).loc main_arg0)
abbrev g1 : FVec Ideal S8x32x16x64 .f32 := m ((c : Thread nD τ).loc main_arg1)
abbrev g2 : FVec Ideal S8x1024x512 .f32 := m ((c : Thread nD τ).loc main_arg2)
abbrev g3 : FVec Ideal S8x1024x64 .f32 := m ((c : Thread nD τ).loc main_arg3)
abbrev g4 : FVec Ideal S8x32x512 .f32 := m ((c : Thread nD τ).loc main_arg4)
abbrev g5 : FVec Ideal S8x32x64 .f32 := m ((c : Thread nD τ).loc main_arg5)
abbrev g6 : FVec Ideal S512x4096 .f32 := m ((c : Thread nD τ).loc main_arg6)

theorem V_q : V m c main_v4 = (truncf .bf16 (shapeCast S16x256x256 (transpose S16x8x32x256 [2, 0, 1, 3] (beside (g0 m c) (g1 m c))
    transposes_S8x32x16x256_S16x8x32x256_2_0_1_3) shapeCasts_S16x8x32x256_S16x256x256 : FVec Ideal S16x256x256 .f32) bitsLt_bf16_f32 : FVec Ideal S16x256x256 .bf16) := by
  unfold V
  after_reads_simp
  rfl

theorem V_n : V m c main_v5 = shapeCast S256x512 (g4 m c) shapeCasts_S8x32x512_S256x512 := by
  unfold V
  after_reads_simp
  rfl

theorem V_p : V m c main_v7 = pad S256x128 ![0, 0] ![0, 64] ![0, 0] (shapeCast S256x64 (g5 m c) shapeCasts_S8x32x64_S256x64 : FVec Ideal S256x64 .f32)
    (sitofp .f32 (constantI S_ 32 0#32) : FVec Ideal S_ .f32) pads_S256x64_S256x128_000_0640 h_S_ := by
  unfold V
  after_reads_simp
  rfl

theorem V_w : V m c main_v8 = (truncf .bf16 (g6 m c) bitsLt_bf16_f32 : FVec Ideal S512x4096 .bf16) := by
  unfold V
  after_reads_simp

section
variable (t : Fin cfg0.N) (b : Fin 8) (hb : b.val = t.val)
include hb

theorem b_q (H : Fin 16) (l : Fin 32) : bq (iblk m c 0 t) H l = qRow (g0 m c) b l H := by
  funext d
  refine (read0 (V m c main_v4) t H l ⟨d.val, by omega⟩ H ⟨b.val * 32 + l.val, by omega⟩ ⟨d.val, by omega⟩ (by omega)
    (by show b.val * 32 + l.val = t.val * 32 + l.val; rw [hb]) (by show d.val = 0 * 256 + d.val; omega)).trans ?_
  exact (congrFun (V_q m c) _).trans ((heads_apply _ b l H _ _ rfl).trans (beside_own _ _ b l H d))

theorem b_u (H : Fin 16) (l : Fin 32) : bu (iblk m c 0 t) H l = qPos (g1 m c) b l H := by
  funext d
  refine (read0 (V m c main_v4) t H l ⟨128 + d.val, by omega⟩ H ⟨b.val * 32 + l.val, by omega⟩ ⟨128 + d.val, by omega⟩ (by omega)
    (by show b.val * 32 + l.val = t.val * 32 + l.val; rw [hb]) (by show 128 + d.val = 0 * 256 + (128 + d.val); omega)).trans ?_
  exact (congrFun (V_q m c) _).trans ((heads_apply _ b l H _ _ rfl).trans (beside_rotated _ _ b l H d))

theorem b_K : bK (iblk m c 1 t) (iblk m c 3 t) = ckv (g2 m c) (g4 m c) b := by
  funext k d
  unfold bK ckv
  by_cases h : k.val < 1024
  · rw [dif_pos h, dif_pos h]
    refine (read1 (V m c main_arg2) t 0 ⟨k.val, h⟩ d b ⟨k.val, h⟩ d (by show b.val = t.val * 1 + 0; omega) (by show k.val = 0 * 1024 + k.val; omega) (by omega)).trans ?_
    exact congrFun (V_main_arg2 m c) _
  · rw [dif_neg h, dif_neg h]
    refine (read3 (V m c main_v5) t ⟨k.val - 1024, by omega⟩ d ⟨b.val * 32 + (k.val - 1024), by omega⟩ d
      (by show b.val * 32 + (k.val - 1024) = t.val * 32 + (k.val - 1024); rw [hb]) (by omega)).trans ?_
    exact (congrFun (V_n m c) _).trans (rows_apply _ _ b ⟨k.val - 1024, by omega⟩ d _ rfl)

theorem b_P : bP (iblk m c 2 t) (iblk m c 4 t) = kpes (g3 m c) (g5 m c) b := by
  funext k d
  unfold bP kpes
  by_cases h : k.val < 1024
  · rw [dif_pos h, dif_pos h]
    refine (read2 (V m c main_arg3) t 0 ⟨k.val, h⟩ d b ⟨k.val, h⟩ d (by show b.val = t.val * 1 + 0; omega) (by show k.val = 0 * 1024 + k.val; omega) (by omega)).trans ?_
    exact congrFun (V_main_arg3 m c) _
  · rw [dif_neg h, dif_neg h]
    refine (read4 (V m c main_v7) t ⟨k.val - 1024, by omega⟩ ⟨d.val, by omega⟩ ⟨b.val * 32 + (k.val - 1024), by omega⟩ ⟨d.val, by omega⟩
      (by show b.val * 32 + (k.val - 1024) = t.val * 32 + (k.val - 1024); rw [hb]) (by show d.val = 0 * 128 + d.val; omega)).trans ?_
    exact (congrFun (V_p m c) _).trans (padded_apply _ b ⟨k.val - 1024, by omega⟩ d _ rfl)

end

theorem b_w (t : Fin cfg0.N) (k : Fin 512) (n : Fin 4096) : (iblk m c 5 t : FVec Ideal S512x4096 .bf16) (ix2 k n) = g6 m c (ix2 k n) :=
  (read5 (V m c main_v8) t k n k n (by omega) (by omega)).trans (congrFun (V_w m c) _)

theorem b_A (t : Fin cfg0.N) (H : Fin 16) : bA (iblk m c 5 t) H = wKey (g6 m c) H := funext fun k => funext fun _ => b_w m c t k _
theorem b_V (t : Fin cfg0.N) (H : Fin 16) : bV (iblk m c 5 t) H = wVal (g6 m c) H := funext fun k => funext fun _ => b_w m c t k _

theorem flushed6 (t : Fin cfg0.N) : (dats m 0 c).flushed 6 t
    = ((cfg0.win 6).blk t).view.read (Elt Ideal) (outBuf (g0 m c) (g1 m c) (g2 m c) (g3 m c) (g4 m c) (g5 m c) (g6 m c)) := by
  rw [Value.flushed6]
  funext y
  obtain ⟨l, N, rfl⟩ : ∃ (l : Fin 32) (N : Fin 2048), y = ix2 l N := ⟨y 0, y 1, ValueIdx.eq_ix2 (n0 := 32) (n1 := 2048) y⟩
  have ht : t.val < 8 := t.isLt.trans_eq N_0
  refine Eq.trans ?_ (read6 _ t l N ⟨t.val * 32 + l.val, by omega⟩ N rfl (by omega)).symm
  refine (out_apply _ _ _ _ _ _ l N).trans ?_
  have e1 : rb ⟨t.val * 32 + l.val, by omega⟩ = ⟨t.val, ht⟩ := Fin.ext (by show (t.val * 32 + l.val) / 32 = t.val; omega)
  have e2 : rl ⟨t.val * 32 + l.val, by omega⟩ = l := Fin.ext (by show (t.val * 32 + l.val) % 32 = l.val; omega)
  show _ = outAt (g0 m c) (g1 m c) (g2 m c) (g3 m c) (g4 m c) (g5 m c) (g6 m c) ⟨t.val * 32 + l.val, by omega⟩ N
  unfold outAt
  rw [e1, e2, b_q m c t ⟨t.val, ht⟩ rfl, b_u m c t ⟨t.val, ht⟩ rfl, b_K m c t ⟨t.val, ht⟩ rfl, b_P m c t ⟨t.val, ht⟩ rfl, b_A, b_V]

theorem cover6 (i : S256x2048.Idx) : ∃ t : Fin cfg0.N, (cfg0.win 6).flush t = true ∧ i ∈ ((cfg0.win 6).blk t).view.set := by
  have h0 : (i 0 : ℕ) < 256 := (i 0).isLt
  have h1 : (i 1 : ℕ) < 2048 := (i 1).isLt
  have ht : (i 0).val / 32 < cfg0.N := by rw [show cfg0.N = 8 from rfl]; omega
  refine ⟨⟨_, ht⟩, flush0_6 _, ?_⟩
  show i ∈ ((View.whole main_v9).slice (win0_6.rect ⟨_, ht⟩)).set
  rw [View.set_slice_whole, Rect.mem_set_unit]
  have e := index6 ⟨_, ht⟩
  have x : ∀ t : Fin grid0.N, win0_6.xsize (grid0.coords t) 0 = 32 ∧ win0_6.xsize (grid0.coords t) 1 = 2048 := by decide +kernel
  intro a
  match a with
  | ⟨0, _⟩ =>
    show win0_6.index ⟨_, ht⟩ 0 * 32 ≤ (i 0 : Nat) ∧ (i 0 : Nat) < win0_6.index ⟨_, ht⟩ 0 * 32 + win0_6.xsize (grid0.coords ⟨_, ht⟩) 0
    rw [e.1, (x _).1]
    show (((i 0).val / 32)) * 32 ≤ (i 0 : Nat) ∧ (i 0 : Nat) < (((i 0).val / 32)) * 32 + 32
    omega
  | ⟨1, _⟩ =>
    show win0_6.index ⟨_, ht⟩ 1 * 2048 ≤ (i 1 : Nat) ∧ (i 1 : Nat) < win0_6.index ⟨_, ht⟩ 1 * 2048 + win0_6.xsize (grid0.coords ⟨_, ht⟩) 1
    rw [e.2, (x _).2]
    show (0) * 2048 ≤ (i 1 : Nat) ∧ (i 1 : Nat) < (0) * 2048 + 2048
    omega

theorem final6 : (dats m 0 c).arrAt 6 cfg0.N = outBuf (g0 m c) (g1 m c) (g2 m c) (g3 m c) (g4 m c) (g5 m c) (g6 m c) :=
  (dats m 0 c).arrAt_eq_of_cover 6 _ (fun t _ => flushed6 m c t) cover6

end Cert.SampleAttn

end
-- ==== Proof.SampleAttn.lean ====
/- The claims about the attention over the cache and its reference. -/
module

public import proofs.«01_k».proof.Defs
public import proofs.«01_k».proof.Proof.SampleValue
public import proofs.«01_k».proof.Proof.Attention
public import proofs.«01_k».proof.Proof.Gen.Kernel8.Frame
public import proofs.«01_k».proof.Proof.Gen.Reference8Ideal.Read
public import proofs.«01_k».proof.Proof.Gen.Reference8Ideal.Run
public import proofs.«01_k».proof.Proof.Gen.Pre_finite_all
public import Idealize.ShloMosaic.Adequacy
public import Idealize.ShloMosaic.Init
public import Idealize.ShloMosaic.Lib.ReduceAll

@[expose] public section

set_option maxRecDepth 16384

noncomputable section

namespace Cert.SampleAttn

open Idealize.ShloMosaic
open Idealize.ShloMosaic.ValueIdx Idealize.ShloMosaic.TcCoe Idealize.SL.Sem
open Cert.Attention (finite_of_lt and_one)

/-! ## What the precondition says -/

/-- Every entry is a real number. -/
abbrev Finite {s : Shape} (a : FVec Ideal s .f32) : Prop := ∀ i, (a i : EReal) ≠ ⊤ ∧ (a i : EReal) ≠ ⊥

open Cert.Pre_finite_all in
theorem finite_of_pre (a0 : FVec Ideal S8x32x16x128 .f32) (a1 : FVec Ideal S8x32x16x64 .f32) (a2 : FVec Ideal S8x1024x512 .f32)
    (a3 : FVec Ideal S8x1024x64 .f32) (a4 : FVec Ideal S8x32x512 .f32) (a5 : FVec Ideal S8x32x64 .f32) (a6 : FVec Ideal S512x4096 .f32)
    (h : Cert.Pre_finite_all.fn (F := Ideal) a0 a1 a2 a3 a4 a5 a6 (fun a => a.elim0) = 1#1) :
    Finite a0 ∧ Finite a1 ∧ Finite a2 ∧ Finite a3 ∧ Finite a4 ∧ Finite a5 ∧ Finite a6 := by
  haveI : Subsingleton S_.Idx := ⟨fun x y => funext fun a => a.elim0⟩
  obtain ⟨h, e6⟩ := and_one _ _ h
  obtain ⟨h, e5⟩ := and_one _ _ h
  obtain ⟨h, e4⟩ := and_one _ _ h
  obtain ⟨h, e3⟩ := and_one _ _ h
  obtain ⟨h, e2⟩ := and_one _ _ h
  obtain ⟨e0, e1⟩ := and_one _ _ h
  exact ⟨fun i => finite_of_lt _ (Host.reduce_andi_all _ _ _ _ _ e0 i), fun i => finite_of_lt _ (Host.reduce_andi_all _ _ _ _ _ e1 i),
    fun i => finite_of_lt _ (Host.reduce_andi_all _ _ _ _ _ e2 i), fun i => finite_of_lt _ (Host.reduce_andi_all _ _ _ _ _ e3 i),
    fun i => finite_of_lt _ (Host.reduce_andi_all _ _ _ _ _ e4 i), fun i => finite_of_lt _ (Host.reduce_andi_all _ _ _ _ _ e5 i),
    fun i => finite_of_lt _ (Host.reduce_andi_all _ _ _ _ _ e6 i)⟩

/-! ## The value -/

open Cert.Kernel8Ideal in
/-- On real arguments the call's array is the reference's. -/
theorem out_eq_ref (a0 : FVec Ideal S8x32x16x128 .f32) (a1 : FVec Ideal S8x32x16x64 .f32) (a2 : FVec Ideal S8x1024x512 .f32)
    (a3 : FVec Ideal S8x1024x64 .f32) (a4 : FVec Ideal S8x32x512 .f32) (a5 : FVec Ideal S8x32x64 .f32) (a6 : FVec Ideal S512x4096 .f32)
    (f0 : Finite a0) (f1 : Finite a1) (f2 : Finite a2) (f3 : Finite a3) (f4 : Finite a4) (f5 : Finite a5) (f6 : Finite a6) :
    outBuf a0 a1 a2 a3 a4 a5 a6 = Cert.Reference8Ideal.Read.val_main_v39 (F := Ideal) a0 a1 a2 a3 a4 a5 a6 := by
  funext i
  obtain ⟨R, N, rfl⟩ : ∃ (R : Fin 256) (N : Fin 2048), i = ix2 R N := ⟨i 0, i 1, ValueIdx.eq_ix2 (n0 := 256) (n1 := 2048) i⟩
  refine Eq.trans ?_ (ref_out a0 a1 a2 a3 a4 a5 a6 R N).symm
  refine row_eq (qRow a0 (rb R) (rl R) (ch N)) (qPos a1 (rb R) (rl R) (ch N)) (ckv a2 a4 (rb R)) (kpes a3 a5 (rb R)) (wKey a6 (ch N)) (wVal a6 (ch N))
    Cert.RefValue.scale (fun d => f0 _) (fun d => f1 _) (fun k d => ?_) (fun k d => ?_) (fun k d => f6 _) (fun k d => f6 _) (ce N)
  · unfold ckv
    by_cases h : k.val < 1024
    · rw [dif_pos h]; exact f2 _
    · rw [dif_neg h]; exact f4 _
  · unfold kpes
    by_cases h : k.val < 1024
    · rw [dif_pos h]; exact f3 _
    · rw [dif_neg h]; exact f5 _

/-! ## The claims -/

theorem frame_p : Cert.quiescent_Kernel8 := fun m ρ _ => Cert.Kernel8.Gen.frame m ρ

theorem frame_pi : Cert.quiescent_Kernel8Ideal := fun m ρ _ => Cert.Kernel8Ideal.Gen.frame m ρ

theorem frame_pi_finite : Cert.quiescent_Kernel8Ideal_pre_finite_all := fun m ρ _ => Cert.Kernel8Ideal.Gen.frame m ρ

theorem frame_ri : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run (F := Ideal) m ρ)

theorem frame_ri_finite : Cert.quiescent_Reference8Ideal_pre_finite_all := fun m ρ _ => frame_ri m ρ trivial

/-- The one constant named: `1 / √192`. -/
theorem preserves : Cert.preserves_Kernel8_Kernel8Ideal :=
  IdealRules.named_const.statement Cert.Kernel8Ideal.κ "scale" .f32 0x3D93CD3A#32 (((Real.sqrt 192)⁻¹ : ℝ) : EReal) rfl

theorem algebraic : Cert.algebraic_Kernel8Ideal_Reference8Ideal_pre_finite_all := by
  intro m ρ m' ρ' hpre hagree
  refine ⟨_, Cert.Kernel8Ideal.Value.run_blocks (F := Ideal) m ρ, ?_⟩
  refine (θ_run Cert.Reference8Ideal.defs _ _).mono (fun _ h c => ?_) (Cert.Reference8Ideal.Value.run (F := Ideal) m' ρ')
  obtain ⟨e0, e1, e2, e3, e4, e5, e6⟩ := hagree c
  obtain ⟨f0, f1, f2, f3, f4, f5, f6⟩ := finite_of_pre _ _ _ _ _ _ _ (congrFun (hpre c) (fun a => a.elim0))
  refine ⟨(h c).1.trans ?_, (h c).2⟩
  rw [Cert.Reference8Ideal.Read.val_main_v39_eq, e0, e1, e2, e3, e4, e5, e6]
  exact (out_eq_ref _ _ _ _ _ _ _ f0 f1 f2 f3 f4 f5 f6).symm.trans (final6 m c).symm

end Cert.SampleAttn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Pre_finite_all
public import proofs.«01_k».proof.Proof.Attention
public import proofs.«01_k».proof.Proof.Ffn
public import proofs.«01_k».proof.Proof.OutProj
public import proofs.«01_k».proof.Proof.HgrnIn
public import proofs.«01_k».proof.Proof.KvUp
public import proofs.«01_k».proof.Proof.MlaIn
public import proofs.«01_k».proof.Proof.RopeTables
public import proofs.«01_k».proof.Proof.SampleAttn

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite.Gen.facts, Cert.Pre_finite_all.Gen.facts,
    Attention.frame_p, Attention.frame_pi, Attention.frame_pi_finite, Attention.frame_ri, Attention.frame_ri_finite,
    Ffn.frame_p, Ffn.frame_pi, Ffn.frame_ri,
    OutProj.frame_p, OutProj.frame_pi, OutProj.frame_ri,
    HgrnIn.frame_p, HgrnIn.frame_pi, HgrnIn.frame_ri,
    KvUp.frame_p, KvUp.frame_pi, KvUp.frame_ri,
    MlaIn.frame_p, MlaIn.frame_pi, MlaIn.frame_ri,
    RopeTables.frame_p, RopeTables.frame_pi, RopeTables.frame_ri,
    SampleAttn.frame_p, SampleAttn.frame_pi, SampleAttn.frame_pi_finite, SampleAttn.frame_ri, SampleAttn.frame_ri_finite,
    Attention.preserves, Attention.algebraic, Ffn.preserves, Ffn.algebraic,
    OutProj.preserves, OutProj.algebraic,
    HgrnIn.preserves, HgrnIn.algebraic,
    KvUp.preserves, KvUp.algebraic,
    MlaIn.preserves, MlaIn.algebraic,
    RopeTables.preserves, RopeTables.algebraic,
    SampleAttn.preserves, SampleAttn.algebraic⟩

end Cert.Proof

end
